-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_UpData (m : (ℓ : Loc Cert.UpData.nD Cert.UpData.τ Cert.UpData.sig) → Buf (Elt Bits) ℓ) : Prop :=
  True

def Pre_UpDataIdeal (m : (ℓ : Loc Cert.UpDataIdeal.nD Cert.UpDataIdeal.τ Cert.UpDataIdeal.sig) → Buf (Elt Ideal) ℓ) : Prop :=
  True

def Pre_UpDataReferenceIdeal (m : (ℓ : Loc Cert.UpDataReferenceIdeal.nD Cert.UpDataReferenceIdeal.τ Cert.UpDataReferenceIdeal.sig) → Buf (Elt Ideal) ℓ) : Prop :=
  True

def Pre_DownData (m : (ℓ : Loc Cert.DownData.nD Cert.DownData.τ Cert.DownData.sig) → Buf (Elt Bits) ℓ) : Prop :=
  True

def Pre_DownDataIdeal (m : (ℓ : Loc Cert.DownDataIdeal.nD Cert.DownDataIdeal.τ Cert.DownDataIdeal.sig) → Buf (Elt Ideal) ℓ) : Prop :=
  True

def Pre_DownDataReferenceIdeal (m : (ℓ : Loc Cert.DownDataReferenceIdeal.nD Cert.DownDataReferenceIdeal.τ Cert.DownDataReferenceIdeal.sig) → Buf (Elt Ideal) ℓ) : Prop :=
  True

def Pre_InData (m : (ℓ : Loc Cert.InData.nD Cert.InData.τ Cert.InData.sig) → Buf (Elt Bits) ℓ) : Prop :=
  True

def Pre_InDataIdeal (m : (ℓ : Loc Cert.InDataIdeal.nD Cert.InDataIdeal.τ Cert.InDataIdeal.sig) → Buf (Elt Ideal) ℓ) : Prop :=
  True

def Pre_InDataReferenceIdeal (m : (ℓ : Loc Cert.InDataReferenceIdeal.nD Cert.InDataReferenceIdeal.τ Cert.InDataReferenceIdeal.sig) → Buf (Elt Ideal) ℓ) : Prop :=
  True

def Pre_OutData (m : (ℓ : Loc Cert.OutData.nD Cert.OutData.τ Cert.OutData.sig) → Buf (Elt Bits) ℓ) : Prop :=
  True

def Pre_OutDataIdeal (m : (ℓ : Loc Cert.OutDataIdeal.nD Cert.OutDataIdeal.τ Cert.OutDataIdeal.sig) → Buf (Elt Ideal) ℓ) : Prop :=
  True

def Pre_OutDataReferenceIdeal (m : (ℓ : Loc Cert.OutDataReferenceIdeal.nD Cert.OutDataReferenceIdeal.τ Cert.OutDataReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_UpDataFirst (m : (ℓ : Loc Cert.UpDataFirst.nD Cert.UpDataFirst.τ Cert.UpDataFirst.sig) → Buf (Elt Bits) ℓ) : Prop :=
  True

def Pre_UpDataFirstIdeal (m : (ℓ : Loc Cert.UpDataFirstIdeal.nD Cert.UpDataFirstIdeal.τ Cert.UpDataFirstIdeal.sig) → Buf (Elt Ideal) ℓ) : Prop :=
  True

def Pre_UpDataFirstReferenceIdeal (m : (ℓ : Loc Cert.UpDataFirstReferenceIdeal.nD Cert.UpDataFirstReferenceIdeal.τ Cert.UpDataFirstReferenceIdeal.sig) → Buf (Elt Ideal) ℓ) : Prop :=
  True

def Pre_DownDataFirst (m : (ℓ : Loc Cert.DownDataFirst.nD Cert.DownDataFirst.τ Cert.DownDataFirst.sig) → Buf (Elt Bits) ℓ) : Prop :=
  True

def Pre_DownDataFirstIdeal (m : (ℓ : Loc Cert.DownDataFirstIdeal.nD Cert.DownDataFirstIdeal.τ Cert.DownDataFirstIdeal.sig) → Buf (Elt Ideal) ℓ) : Prop :=
  True

def Pre_DownDataFirstReferenceIdeal (m : (ℓ : Loc Cert.DownDataFirstReferenceIdeal.nD Cert.DownDataFirstReferenceIdeal.τ Cert.DownDataFirstReferenceIdeal.sig) → Buf (Elt Ideal) ℓ) : Prop :=
  True

def Pre_InDataFirst (m : (ℓ : Loc Cert.InDataFirst.nD Cert.InDataFirst.τ Cert.InDataFirst.sig) → Buf (Elt Bits) ℓ) : Prop :=
  True

def Pre_InDataFirstIdeal (m : (ℓ : Loc Cert.InDataFirstIdeal.nD Cert.InDataFirstIdeal.τ Cert.InDataFirstIdeal.sig) → Buf (Elt Ideal) ℓ) : Prop :=
  True

def Pre_InDataFirstReferenceIdeal (m : (ℓ : Loc Cert.InDataFirstReferenceIdeal.nD Cert.InDataFirstReferenceIdeal.τ Cert.InDataFirstReferenceIdeal.sig) → Buf (Elt Ideal) ℓ) : Prop :=
  True

def Pre_OutDataFirst (m : (ℓ : Loc Cert.OutDataFirst.nD Cert.OutDataFirst.τ Cert.OutDataFirst.sig) → Buf (Elt Bits) ℓ) : Prop :=
  True

def Pre_OutDataFirstIdeal (m : (ℓ : Loc Cert.OutDataFirstIdeal.nD Cert.OutDataFirstIdeal.τ Cert.OutDataFirstIdeal.sig) → Buf (Elt Ideal) ℓ) : Prop :=
  True

def Pre_OutDataFirstReferenceIdeal (m : (ℓ : Loc Cert.OutDataFirstReferenceIdeal.nD Cert.OutDataFirstReferenceIdeal.τ Cert.OutDataFirstReferenceIdeal.sig) → Buf (Elt Ideal) ℓ) : Prop :=
  True

def Pre_UpFirst (m : (ℓ : Loc Cert.UpFirst.nD Cert.UpFirst.τ Cert.UpFirst.sig) → Buf (Elt Bits) ℓ) : Prop :=
  True

def Pre_UpFirstIdeal (m : (ℓ : Loc Cert.UpFirstIdeal.nD Cert.UpFirstIdeal.τ Cert.UpFirstIdeal.sig) → Buf (Elt Ideal) ℓ) : Prop :=
  True

def Pre_UpFirstReferenceIdeal (m : (ℓ : Loc Cert.UpFirstReferenceIdeal.nD Cert.UpFirstReferenceIdeal.τ Cert.UpFirstReferenceIdeal.sig) → Buf (Elt Ideal) ℓ) : Prop :=
  True

def Pre_DownFirst (m : (ℓ : Loc Cert.DownFirst.nD Cert.DownFirst.τ Cert.DownFirst.sig) → Buf (Elt Bits) ℓ) : Prop :=
  True

def Pre_DownFirstIdeal (m : (ℓ : Loc Cert.DownFirstIdeal.nD Cert.DownFirstIdeal.τ Cert.DownFirstIdeal.sig) → Buf (Elt Ideal) ℓ) : Prop :=
  True

def Pre_DownFirstReferenceIdeal (m : (ℓ : Loc Cert.DownFirstReferenceIdeal.nD Cert.DownFirstReferenceIdeal.τ Cert.DownFirstReferenceIdeal.sig) → Buf (Elt Ideal) ℓ) : Prop :=
  True

def Pre_InFirst (m : (ℓ : Loc Cert.InFirst.nD Cert.InFirst.τ Cert.InFirst.sig) → Buf (Elt Bits) ℓ) : Prop :=
  True

def Pre_InFirstIdeal (m : (ℓ : Loc Cert.InFirstIdeal.nD Cert.InFirstIdeal.τ Cert.InFirstIdeal.sig) → Buf (Elt Ideal) ℓ) : Prop :=
  True

def Pre_InFirstReferenceIdeal (m : (ℓ : Loc Cert.InFirstReferenceIdeal.nD Cert.InFirstReferenceIdeal.τ Cert.InFirstReferenceIdeal.sig) → Buf (Elt Ideal) ℓ) : Prop :=
  True

def Pre_OutFirst (m : (ℓ : Loc Cert.OutFirst.nD Cert.OutFirst.τ Cert.OutFirst.sig) → Buf (Elt Bits) ℓ) : Prop :=
  True

def Pre_OutFirstIdeal (m : (ℓ : Loc Cert.OutFirstIdeal.nD Cert.OutFirstIdeal.τ Cert.OutFirstIdeal.sig) → Buf (Elt Ideal) ℓ) : Prop :=
  True

def Pre_OutFirstReferenceIdeal (m : (ℓ : Loc Cert.OutFirstReferenceIdeal.nD Cert.OutFirstReferenceIdeal.τ Cert.OutFirstReferenceIdeal.sig) → Buf (Elt Ideal) ℓ) : Prop :=
  True

def Pre_UpWeight (m : (ℓ : Loc Cert.UpWeight.nD Cert.UpWeight.τ Cert.UpWeight.sig) → Buf (Elt Bits) ℓ) : Prop :=
  True

def Pre_UpWeightIdeal (m : (ℓ : Loc Cert.UpWeightIdeal.nD Cert.UpWeightIdeal.τ Cert.UpWeightIdeal.sig) → Buf (Elt Ideal) ℓ) : Prop :=
  True

def Pre_UpWeightReferenceIdeal (m : (ℓ : Loc Cert.UpWeightReferenceIdeal.nD Cert.UpWeightReferenceIdeal.τ Cert.UpWeightReferenceIdeal.sig) → Buf (Elt Ideal) ℓ) : Prop :=
  True

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightReferenceIdeal (m : (ℓ : Loc Cert.DownWeightReferenceIdeal.nD Cert.DownWeightReferenceIdeal.τ Cert.DownWeightReferenceIdeal.sig) → Buf (Elt Ideal) ℓ) : Prop :=
  True

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightReferenceIdeal (m : (ℓ : Loc Cert.InWeightReferenceIdeal.nD Cert.InWeightReferenceIdeal.τ Cert.InWeightReferenceIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightReferenceIdeal (m : (ℓ : Loc Cert.OutWeightReferenceIdeal.nD Cert.OutWeightReferenceIdeal.τ Cert.OutWeightReferenceIdeal.sig) → Buf (Elt Ideal) ℓ) : Prop :=
  True

def Pre_AdaStep (m : (ℓ : Loc Cert.AdaStep.nD Cert.AdaStep.τ Cert.AdaStep.sig) → Buf (Elt Bits) ℓ) : Prop :=
  True

def Pre_AdaStepIdeal (m : (ℓ : Loc Cert.AdaStepIdeal.nD Cert.AdaStepIdeal.τ Cert.AdaStepIdeal.sig) → Buf (Elt Ideal) ℓ) : Prop :=
  True

def Pre_AdaStepReferenceIdeal (m : (ℓ : Loc Cert.AdaStepReferenceIdeal.nD Cert.AdaStepReferenceIdeal.τ Cert.AdaStepReferenceIdeal.sig) → Buf (Elt Ideal) ℓ) : Prop :=
  True

def Pre_InStep (m : (ℓ : Loc Cert.InStep.nD Cert.InStep.τ Cert.InStep.sig) → Buf (Elt Bits) ℓ) : Prop :=
  True

def Pre_InStepIdeal (m : (ℓ : Loc Cert.InStepIdeal.nD Cert.InStepIdeal.τ Cert.InStepIdeal.sig) → Buf (Elt Ideal) ℓ) : Prop :=
  True

def Pre_InStepReferenceIdeal (m : (ℓ : Loc Cert.InStepReferenceIdeal.nD Cert.InStepReferenceIdeal.τ Cert.InStepReferenceIdeal.sig) → Buf (Elt Ideal) ℓ) : Prop :=
  True

def Pre_ConvStep (m : (ℓ : Loc Cert.ConvStep.nD Cert.ConvStep.τ Cert.ConvStep.sig) → Buf (Elt Bits) ℓ) : Prop :=
  True

def Pre_ConvStepIdeal (m : (ℓ : Loc Cert.ConvStepIdeal.nD Cert.ConvStepIdeal.τ Cert.ConvStepIdeal.sig) → Buf (Elt Ideal) ℓ) : Prop :=
  True

def Pre_ConvStepReferenceIdeal (m : (ℓ : Loc Cert.ConvStepReferenceIdeal.nD Cert.ConvStepReferenceIdeal.τ Cert.ConvStepReferenceIdeal.sig) → Buf (Elt Ideal) ℓ) : Prop :=
  True

def Pre_QueryStep (m : (ℓ : Loc Cert.QueryStep.nD Cert.QueryStep.τ Cert.QueryStep.sig) → Buf (Elt Bits) ℓ) : Prop :=
  True

def Pre_QueryStepIdeal (m : (ℓ : Loc Cert.QueryStepIdeal.nD Cert.QueryStepIdeal.τ Cert.QueryStepIdeal.sig) → Buf (Elt Ideal) ℓ) : Prop :=
  True

def Pre_QueryStepReferenceIdeal (m : (ℓ : Loc Cert.QueryStepReferenceIdeal.nD Cert.QueryStepReferenceIdeal.τ Cert.QueryStepReferenceIdeal.sig) → Buf (Elt Ideal) ℓ) : Prop :=
  True

def Pre_KeyStep (m : (ℓ : Loc Cert.KeyStep.nD Cert.KeyStep.τ Cert.KeyStep.sig) → Buf (Elt Bits) ℓ) : Prop :=
  True

def Pre_KeyStepIdeal (m : (ℓ : Loc Cert.KeyStepIdeal.nD Cert.KeyStepIdeal.τ Cert.KeyStepIdeal.sig) → Buf (Elt Ideal) ℓ) : Prop :=
  True

def Pre_KeyStepReferenceIdeal (m : (ℓ : Loc Cert.KeyStepReferenceIdeal.nD Cert.KeyStepReferenceIdeal.τ Cert.KeyStepReferenceIdeal.sig) → Buf (Elt Ideal) ℓ) : Prop :=
  True

def Pre_OutStep (m : (ℓ : Loc Cert.OutStep.nD Cert.OutStep.τ Cert.OutStep.sig) → Buf (Elt Bits) ℓ) : Prop :=
  True

def Pre_OutStepIdeal (m : (ℓ : Loc Cert.OutStepIdeal.nD Cert.OutStepIdeal.τ Cert.OutStepIdeal.sig) → Buf (Elt Ideal) ℓ) : Prop :=
  True

def Pre_OutStepReferenceIdeal (m : (ℓ : Loc Cert.OutStepReferenceIdeal.nD Cert.OutStepReferenceIdeal.τ Cert.OutStepReferenceIdeal.sig) → Buf (Elt Ideal) ℓ) : Prop :=
  True

def Pre_UpStep (m : (ℓ : Loc Cert.UpStep.nD Cert.UpStep.τ Cert.UpStep.sig) → Buf (Elt Bits) ℓ) : Prop :=
  True

def Pre_UpStepIdeal (m : (ℓ : Loc Cert.UpStepIdeal.nD Cert.UpStepIdeal.τ Cert.UpStepIdeal.sig) → Buf (Elt Ideal) ℓ) : Prop :=
  True

def Pre_UpStepReferenceIdeal (m : (ℓ : Loc Cert.UpStepReferenceIdeal.nD Cert.UpStepReferenceIdeal.τ Cert.UpStepReferenceIdeal.sig) → Buf (Elt Ideal) ℓ) : Prop :=
  True

def Pre_GateStep (m : (ℓ : Loc Cert.GateStep.nD Cert.GateStep.τ Cert.GateStep.sig) → Buf (Elt Bits) ℓ) : Prop :=
  True

def Pre_GateStepIdeal (m : (ℓ : Loc Cert.GateStepIdeal.nD Cert.GateStepIdeal.τ Cert.GateStepIdeal.sig) → Buf (Elt Ideal) ℓ) : Prop :=
  True

def Pre_GateStepReferenceIdeal (m : (ℓ : Loc Cert.GateStepReferenceIdeal.nD Cert.GateStepReferenceIdeal.τ Cert.GateStepReferenceIdeal.sig) → Buf (Elt Ideal) ℓ) : Prop :=
  True

def Pre_DownStep (m : (ℓ : Loc Cert.DownStep.nD Cert.DownStep.τ Cert.DownStep.sig) → Buf (Elt Bits) ℓ) : Prop :=
  True

def Pre_DownStepIdeal (m : (ℓ : Loc Cert.DownStepIdeal.nD Cert.DownStepIdeal.τ Cert.DownStepIdeal.sig) → Buf (Elt Ideal) ℓ) : Prop :=
  True

def Pre_DownStepReferenceIdeal (m : (ℓ : Loc Cert.DownStepReferenceIdeal.nD Cert.DownStepReferenceIdeal.τ Cert.DownStepReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_UpData [hUpData : Cert.UpData.Facts] : Prop :=
  ∀ (m : (ℓ : Loc Cert.UpData.nD Cert.UpData.τ Cert.UpData.sig) → Buf (Elt Bits) ℓ) (g : Dev Cert.UpData.nD → PrngReg), Pre_UpData m →
    θ_run (Cert.UpData.defs (F := Bits)) (onTc (τ := Cert.UpData.τ) (Cert.UpData.main (F := Bits))) ⟨m, fun _ => 0, g⟩ (fun r => (∀ c : Dev Cert.UpData.nD,
      r.2.mem ((c.tc : Thread Cert.UpData.nD Cert.UpData.τ).loc Cert.UpData.main_arg0) = m ((c.tc : Thread Cert.UpData.nD Cert.UpData.τ).loc Cert.UpData.main_arg0)
      ∧ r.2.mem ((c.tc : Thread Cert.UpData.nD Cert.UpData.τ).loc Cert.UpData.main_arg1) = m ((c.tc : Thread Cert.UpData.nD Cert.UpData.τ).loc Cert.UpData.main_arg1)
      ∧ r.2.mem ((c.tc : Thread Cert.UpData.nD Cert.UpData.τ).loc Cert.UpData.main_arg2) = m ((c.tc : Thread Cert.UpData.nD Cert.UpData.τ).loc Cert.UpData.main_arg2))
      ∧ r.2.sem = fun _ => 0)

def quiescent_UpDataIdeal [hUpDataIdeal : Cert.UpDataIdeal.Facts] : Prop :=
  ∀ (m : (ℓ : Loc Cert.UpDataIdeal.nD Cert.UpDataIdeal.τ Cert.UpDataIdeal.sig) → Buf (Elt Ideal) ℓ) (g : Dev Cert.UpDataIdeal.nD → PrngReg), Pre_UpDataIdeal m →
    θ_run (Cert.UpDataIdeal.defs (F := Ideal)) (onTc (τ := Cert.UpDataIdeal.τ) (Cert.UpDataIdeal.main (F := Ideal))) ⟨m, fun _ => 0, g⟩ (fun r => (∀ c : Dev Cert.UpDataIdeal.nD,
      r.2.mem ((c.tc : Thread Cert.UpDataIdeal.nD Cert.UpDataIdeal.τ).loc Cert.UpDataIdeal.main_arg0) = m ((c.tc : Thread Cert.UpDataIdeal.nD Cert.UpDataIdeal.τ).loc Cert.UpDataIdeal.main_arg0)
      ∧ r.2.mem ((c.tc : Thread Cert.UpDataIdeal.nD Cert.UpDataIdeal.τ).loc Cert.UpDataIdeal.main_arg1) = m ((c.tc : Thread Cert.UpDataIdeal.nD Cert.UpDataIdeal.τ).loc Cert.UpDataIdeal.main_arg1)
      ∧ r.2.mem ((c.tc : Thread Cert.UpDataIdeal.nD Cert.UpDataIdeal.τ).loc Cert.UpDataIdeal.main_arg2) = m ((c.tc : Thread Cert.UpDataIdeal.nD Cert.UpDataIdeal.τ).loc Cert.UpDataIdeal.main_arg2))
      ∧ r.2.sem = fun _ => 0)

def quiescent_UpDataReferenceIdeal [hUpDataReferenceIdeal : Cert.UpDataReferenceIdeal.Facts] : Prop :=
  ∀ (m : (ℓ : Loc Cert.UpDataReferenceIdeal.nD Cert.UpDataReferenceIdeal.τ Cert.UpDataReferenceIdeal.sig) → Buf (Elt Ideal) ℓ) (g : Dev Cert.UpDataReferenceIdeal.nD → PrngReg), Pre_UpDataReferenceIdeal m →
    θ_run (Cert.UpDataReferenceIdeal.defs (F := Ideal)) (onTc (τ := Cert.UpDataReferenceIdeal.τ) (Cert.UpDataReferenceIdeal.main (F := Ideal))) ⟨m, fun _ => 0, g⟩ (fun r => (∀ c : Dev Cert.UpDataReferenceIdeal.nD,
      r.2.mem ((c.tc : Thread Cert.UpDataReferenceIdeal.nD Cert.UpDataReferenceIdeal.τ).loc Cert.UpDataReferenceIdeal.main_arg0) = m ((c.tc : Thread Cert.UpDataReferenceIdeal.nD Cert.UpDataReferenceIdeal.τ).loc Cert.UpDataReferenceIdeal.main_arg0)
      ∧ r.2.mem ((c.tc : Thread Cert.UpDataReferenceIdeal.nD Cert.UpDataReferenceIdeal.τ).loc Cert.UpDataReferenceIdeal.main_arg1) = m ((c.tc : Thread Cert.UpDataReferenceIdeal.nD Cert.UpDataReferenceIdeal.τ).loc Cert.UpDataReferenceIdeal.main_arg1)
      ∧ r.2.mem ((c.tc : Thread Cert.UpDataReferenceIdeal.nD Cert.UpDataReferenceIdeal.τ).loc Cert.UpDataReferenceIdeal.main_arg2) = m ((c.tc : Thread Cert.UpDataReferenceIdeal.nD Cert.UpDataReferenceIdeal.τ).loc Cert.UpDataReferenceIdeal.main_arg2))
      ∧ r.2.sem = fun _ => 0)

def quiescent_DownData [hDownData : Cert.DownData.Facts] : Prop :=
  ∀ (m : (ℓ : Loc Cert.DownData.nD Cert.DownData.τ Cert.DownData.sig) → Buf (Elt Bits) ℓ) (g : Dev Cert.DownData.nD → PrngReg), Pre_DownData m →
    θ_run (Cert.DownData.defs (F := Bits)) (onTc (τ := Cert.DownData.τ) (Cert.DownData.main (F := Bits))) ⟨m, fun _ => 0, g⟩ (fun r => (∀ c : Dev Cert.DownData.nD,
      r.2.mem ((c.tc : Thread Cert.DownData.nD Cert.DownData.τ).loc Cert.DownData.main_arg0) = m ((c.tc : Thread Cert.DownData.nD Cert.DownData.τ).loc Cert.DownData.main_arg0)
      ∧ r.2.mem ((c.tc : Thread Cert.DownData.nD Cert.DownData.τ).loc Cert.DownData.main_arg1) = m ((c.tc : Thread Cert.DownData.nD Cert.DownData.τ).loc Cert.DownData.main_arg1))
      ∧ r.2.sem = fun _ => 0)

def quiescent_DownDataIdeal [hDownDataIdeal : Cert.DownDataIdeal.Facts] : Prop :=
  ∀ (m : (ℓ : Loc Cert.DownDataIdeal.nD Cert.DownDataIdeal.τ Cert.DownDataIdeal.sig) → Buf (Elt Ideal) ℓ) (g : Dev Cert.DownDataIdeal.nD → PrngReg), Pre_DownDataIdeal m →
    θ_run (Cert.DownDataIdeal.defs (F := Ideal)) (onTc (τ := Cert.DownDataIdeal.τ) (Cert.DownDataIdeal.main (F := Ideal))) ⟨m, fun _ => 0, g⟩ (fun r => (∀ c : Dev Cert.DownDataIdeal.nD,
      r.2.mem ((c.tc : Thread Cert.DownDataIdeal.nD Cert.DownDataIdeal.τ).loc Cert.DownDataIdeal.main_arg0) = m ((c.tc : Thread Cert.DownDataIdeal.nD Cert.DownDataIdeal.τ).loc Cert.DownDataIdeal.main_arg0)
      ∧ r.2.mem ((c.tc : Thread Cert.DownDataIdeal.nD Cert.DownDataIdeal.τ).loc Cert.DownDataIdeal.main_arg1) = m ((c.tc : Thread Cert.DownDataIdeal.nD Cert.DownDataIdeal.τ).loc Cert.DownDataIdeal.main_arg1))
      ∧ r.2.sem = fun _ => 0)

def quiescent_DownDataReferenceIdeal [hDownDataReferenceIdeal : Cert.DownDataReferenceIdeal.Facts] : Prop :=
  ∀ (m : (ℓ : Loc Cert.DownDataReferenceIdeal.nD Cert.DownDataReferenceIdeal.τ Cert.DownDataReferenceIdeal.sig) → Buf (Elt Ideal) ℓ) (g : Dev Cert.DownDataReferenceIdeal.nD → PrngReg), Pre_DownDataReferenceIdeal m →
    θ_run (Cert.DownDataReferenceIdeal.defs (F := Ideal)) (onTc (τ := Cert.DownDataReferenceIdeal.τ) (Cert.DownDataReferenceIdeal.main (F := Ideal))) ⟨m, fun _ => 0, g⟩ (fun r => (∀ c : Dev Cert.DownDataReferenceIdeal.nD,
      r.2.mem ((c.tc : Thread Cert.DownDataReferenceIdeal.nD Cert.DownDataReferenceIdeal.τ).loc Cert.DownDataReferenceIdeal.main_arg0) = m ((c.tc : Thread Cert.DownDataReferenceIdeal.nD Cert.DownDataReferenceIdeal.τ).loc Cert.DownDataReferenceIdeal.main_arg0)
      ∧ r.2.mem ((c.tc : Thread Cert.DownDataReferenceIdeal.nD Cert.DownDataReferenceIdeal.τ).loc Cert.DownDataReferenceIdeal.main_arg1) = m ((c.tc : Thread Cert.DownDataReferenceIdeal.nD Cert.DownDataReferenceIdeal.τ).loc Cert.DownDataReferenceIdeal.main_arg1))
      ∧ r.2.sem = fun _ => 0)

def quiescent_InData [hInData : Cert.InData.Facts] : Prop :=
  ∀ (m : (ℓ : Loc Cert.InData.nD Cert.InData.τ Cert.InData.sig) → Buf (Elt Bits) ℓ) (g : Dev Cert.InData.nD → PrngReg), Pre_InData m →
    θ_run (Cert.InData.defs (F := Bits)) (onTc (τ := Cert.InData.τ) (Cert.InData.main (F := Bits))) ⟨m, fun _ => 0, g⟩ (fun r => (∀ c : Dev Cert.InData.nD,
      r.2.mem ((c.tc : Thread Cert.InData.nD Cert.InData.τ).loc Cert.InData.main_arg0) = m ((c.tc : Thread Cert.InData.nD Cert.InData.τ).loc Cert.InData.main_arg0)
      ∧ r.2.mem ((c.tc : Thread Cert.InData.nD Cert.InData.τ).loc Cert.InData.main_arg1) = m ((c.tc : Thread Cert.InData.nD Cert.InData.τ).loc Cert.InData.main_arg1))
      ∧ r.2.sem = fun _ => 0)

def quiescent_InDataIdeal [hInDataIdeal : Cert.InDataIdeal.Facts] : Prop :=
  ∀ (m : (ℓ : Loc Cert.InDataIdeal.nD Cert.InDataIdeal.τ Cert.InDataIdeal.sig) → Buf (Elt Ideal) ℓ) (g : Dev Cert.InDataIdeal.nD → PrngReg), Pre_InDataIdeal m →
    θ_run (Cert.InDataIdeal.defs (F := Ideal)) (onTc (τ := Cert.InDataIdeal.τ) (Cert.InDataIdeal.main (F := Ideal))) ⟨m, fun _ => 0, g⟩ (fun r => (∀ c : Dev Cert.InDataIdeal.nD,
      r.2.mem ((c.tc : Thread Cert.InDataIdeal.nD Cert.InDataIdeal.τ).loc Cert.InDataIdeal.main_arg0) = m ((c.tc : Thread Cert.InDataIdeal.nD Cert.InDataIdeal.τ).loc Cert.InDataIdeal.main_arg0)
      ∧ r.2.mem ((c.tc : Thread Cert.InDataIdeal.nD Cert.InDataIdeal.τ).loc Cert.InDataIdeal.main_arg1) = m ((c.tc : Thread Cert.InDataIdeal.nD Cert.InDataIdeal.τ).loc Cert.InDataIdeal.main_arg1))
      ∧ r.2.sem = fun _ => 0)

def quiescent_InDataReferenceIdeal [hInDataReferenceIdeal : Cert.InDataReferenceIdeal.Facts] : Prop :=
  ∀ (m : (ℓ : Loc Cert.InDataReferenceIdeal.nD Cert.InDataReferenceIdeal.τ Cert.InDataReferenceIdeal.sig) → Buf (Elt Ideal) ℓ) (g : Dev Cert.InDataReferenceIdeal.nD → PrngReg), Pre_InDataReferenceIdeal m →
    θ_run (Cert.InDataReferenceIdeal.defs (F := Ideal)) (onTc (τ := Cert.InDataReferenceIdeal.τ) (Cert.InDataReferenceIdeal.main (F := Ideal))) ⟨m, fun _ => 0, g⟩ (fun r => (∀ c : Dev Cert.InDataReferenceIdeal.nD,
      r.2.mem ((c.tc : Thread Cert.InDataReferenceIdeal.nD Cert.InDataReferenceIdeal.τ).loc Cert.InDataReferenceIdeal.main_arg0) = m ((c.tc : Thread Cert.InDataReferenceIdeal.nD Cert.InDataReferenceIdeal.τ).loc Cert.InDataReferenceIdeal.main_arg0)
      ∧ r.2.mem ((c.tc : Thread Cert.InDataReferenceIdeal.nD Cert.InDataReferenceIdeal.τ).loc Cert.InDataReferenceIdeal.main_arg1) = m ((c.tc : Thread Cert.InDataReferenceIdeal.nD Cert.InDataReferenceIdeal.τ).loc Cert.InDataReferenceIdeal.main_arg1))
      ∧ r.2.sem = fun _ => 0)

def quiescent_OutData [hOutData : Cert.OutData.Facts] : Prop :=
  ∀ (m : (ℓ : Loc Cert.OutData.nD Cert.OutData.τ Cert.OutData.sig) → Buf (Elt Bits) ℓ) (g : Dev Cert.OutData.nD → PrngReg), Pre_OutData m →
    θ_run (Cert.OutData.defs (F := Bits)) (onTc (τ := Cert.OutData.τ) (Cert.OutData.main (F := Bits))) ⟨m, fun _ => 0, g⟩ (fun r => (∀ c : Dev Cert.OutData.nD,
      r.2.mem ((c.tc : Thread Cert.OutData.nD Cert.OutData.τ).loc Cert.OutData.main_arg0) = m ((c.tc : Thread Cert.OutData.nD Cert.OutData.τ).loc Cert.OutData.main_arg0)
      ∧ r.2.mem ((c.tc : Thread Cert.OutData.nD Cert.OutData.τ).loc Cert.OutData.main_arg1) = m ((c.tc : Thread Cert.OutData.nD Cert.OutData.τ).loc Cert.OutData.main_arg1))
      ∧ r.2.sem = fun _ => 0)

def quiescent_OutDataIdeal [hOutDataIdeal : Cert.OutDataIdeal.Facts] : Prop :=
  ∀ (m : (ℓ : Loc Cert.OutDataIdeal.nD Cert.OutDataIdeal.τ Cert.OutDataIdeal.sig) → Buf (Elt Ideal) ℓ) (g : Dev Cert.OutDataIdeal.nD → PrngReg), Pre_OutDataIdeal m →
    θ_run (Cert.OutDataIdeal.defs (F := Ideal)) (onTc (τ := Cert.OutDataIdeal.τ) (Cert.OutDataIdeal.main (F := Ideal))) ⟨m, fun _ => 0, g⟩ (fun r => (∀ c : Dev Cert.OutDataIdeal.nD,
      r.2.mem ((c.tc : Thread Cert.OutDataIdeal.nD Cert.OutDataIdeal.τ).loc Cert.OutDataIdeal.main_arg0) = m ((c.tc : Thread Cert.OutDataIdeal.nD Cert.OutDataIdeal.τ).loc Cert.OutDataIdeal.main_arg0)
      ∧ r.2.mem ((c.tc : Thread Cert.OutDataIdeal.nD Cert.OutDataIdeal.τ).loc Cert.OutDataIdeal.main_arg1) = m ((c.tc : Thread Cert.OutDataIdeal.nD Cert.OutDataIdeal.τ).loc Cert.OutDataIdeal.main_arg1))
      ∧ r.2.sem = fun _ => 0)

def quiescent_OutDataReferenceIdeal [hOutDataReferenceIdeal : Cert.OutDataReferenceIdeal.Facts] : Prop :=
  ∀ (m : (ℓ : Loc Cert.OutDataReferenceIdeal.nD Cert.OutDataReferenceIdeal.τ Cert.OutDataReferenceIdeal.sig) → Buf (Elt Ideal) ℓ) (g : Dev Cert.OutDataReferenceIdeal.nD → PrngReg), Pre_OutDataReferenceIdeal m →
    θ_run (Cert.OutDataReferenceIdeal.defs (F := Ideal)) (onTc (τ := Cert.OutDataReferenceIdeal.τ) (Cert.OutDataReferenceIdeal.main (F := Ideal))) ⟨m, fun _ => 0, g⟩ (fun r => (∀ c : Dev Cert.OutDataReferenceIdeal.nD,
      r.2.mem ((c.tc : Thread Cert.OutDataReferenceIdeal.nD Cert.OutDataReferenceIdeal.τ).loc Cert.OutDataReferenceIdeal.main_arg0) = m ((c.tc : Thread Cert.OutDataReferenceIdeal.nD Cert.OutDataReferenceIdeal.τ).loc Cert.OutDataReferenceIdeal.main_arg0)
      ∧ r.2.mem ((c.tc : Thread Cert.OutDataReferenceIdeal.nD Cert.OutDataReferenceIdeal.τ).loc Cert.OutDataReferenceIdeal.main_arg1) = m ((c.tc : Thread Cert.OutDataReferenceIdeal.nD Cert.OutDataReferenceIdeal.τ).loc Cert.OutDataReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_UpDataFirst [hUpDataFirst : Cert.UpDataFirst.Facts] : Prop :=
  ∀ (m : (ℓ : Loc Cert.UpDataFirst.nD Cert.UpDataFirst.τ Cert.UpDataFirst.sig) → Buf (Elt Bits) ℓ) (g : Dev Cert.UpDataFirst.nD → PrngReg), Pre_UpDataFirst m →
    θ_run (Cert.UpDataFirst.defs (F := Bits)) (onTc (τ := Cert.UpDataFirst.τ) (Cert.UpDataFirst.main (F := Bits))) ⟨m, fun _ => 0, g⟩ (fun r => (∀ c : Dev Cert.UpDataFirst.nD,
      r.2.mem ((c.tc : Thread Cert.UpDataFirst.nD Cert.UpDataFirst.τ).loc Cert.UpDataFirst.main_arg0) = m ((c.tc : Thread Cert.UpDataFirst.nD Cert.UpDataFirst.τ).loc Cert.UpDataFirst.main_arg0)
      ∧ r.2.mem ((c.tc : Thread Cert.UpDataFirst.nD Cert.UpDataFirst.τ).loc Cert.UpDataFirst.main_arg1) = m ((c.tc : Thread Cert.UpDataFirst.nD Cert.UpDataFirst.τ).loc Cert.UpDataFirst.main_arg1)
      ∧ r.2.mem ((c.tc : Thread Cert.UpDataFirst.nD Cert.UpDataFirst.τ).loc Cert.UpDataFirst.main_arg2) = m ((c.tc : Thread Cert.UpDataFirst.nD Cert.UpDataFirst.τ).loc Cert.UpDataFirst.main_arg2))
      ∧ r.2.sem = fun _ => 0)

def quiescent_UpDataFirstIdeal [hUpDataFirstIdeal : Cert.UpDataFirstIdeal.Facts] : Prop :=
  ∀ (m : (ℓ : Loc Cert.UpDataFirstIdeal.nD Cert.UpDataFirstIdeal.τ Cert.UpDataFirstIdeal.sig) → Buf (Elt Ideal) ℓ) (g : Dev Cert.UpDataFirstIdeal.nD → PrngReg), Pre_UpDataFirstIdeal m →
    θ_run (Cert.UpDataFirstIdeal.defs (F := Ideal)) (onTc (τ := Cert.UpDataFirstIdeal.τ) (Cert.UpDataFirstIdeal.main (F := Ideal))) ⟨m, fun _ => 0, g⟩ (fun r => (∀ c : Dev Cert.UpDataFirstIdeal.nD,
      r.2.mem ((c.tc : Thread Cert.UpDataFirstIdeal.nD Cert.UpDataFirstIdeal.τ).loc Cert.UpDataFirstIdeal.main_arg0) = m ((c.tc : Thread Cert.UpDataFirstIdeal.nD Cert.UpDataFirstIdeal.τ).loc Cert.UpDataFirstIdeal.main_arg0)
      ∧ r.2.mem ((c.tc : Thread Cert.UpDataFirstIdeal.nD Cert.UpDataFirstIdeal.τ).loc Cert.UpDataFirstIdeal.main_arg1) = m ((c.tc : Thread Cert.UpDataFirstIdeal.nD Cert.UpDataFirstIdeal.τ).loc Cert.UpDataFirstIdeal.main_arg1)
      ∧ r.2.mem ((c.tc : Thread Cert.UpDataFirstIdeal.nD Cert.UpDataFirstIdeal.τ).loc Cert.UpDataFirstIdeal.main_arg2) = m ((c.tc : Thread Cert.UpDataFirstIdeal.nD Cert.UpDataFirstIdeal.τ).loc Cert.UpDataFirstIdeal.main_arg2))
      ∧ r.2.sem = fun _ => 0)

def quiescent_UpDataFirstReferenceIdeal [hUpDataFirstReferenceIdeal : Cert.UpDataFirstReferenceIdeal.Facts] : Prop :=
  ∀ (m : (ℓ : Loc Cert.UpDataFirstReferenceIdeal.nD Cert.UpDataFirstReferenceIdeal.τ Cert.UpDataFirstReferenceIdeal.sig) → Buf (Elt Ideal) ℓ) (g : Dev Cert.UpDataFirstReferenceIdeal.nD → PrngReg), Pre_UpDataFirstReferenceIdeal m →
    θ_run (Cert.UpDataFirstReferenceIdeal.defs (F := Ideal)) (onTc (τ := Cert.UpDataFirstReferenceIdeal.τ) (Cert.UpDataFirstReferenceIdeal.main (F := Ideal))) ⟨m, fun _ => 0, g⟩ (fun r => (∀ c : Dev Cert.UpDataFirstReferenceIdeal.nD,
      r.2.mem ((c.tc : Thread Cert.UpDataFirstReferenceIdeal.nD Cert.UpDataFirstReferenceIdeal.τ).loc Cert.UpDataFirstReferenceIdeal.main_arg0) = m ((c.tc : Thread Cert.UpDataFirstReferenceIdeal.nD Cert.UpDataFirstReferenceIdeal.τ).loc Cert.UpDataFirstReferenceIdeal.main_arg0)
      ∧ r.2.mem ((c.tc : Thread Cert.UpDataFirstReferenceIdeal.nD Cert.UpDataFirstReferenceIdeal.τ).loc Cert.UpDataFirstReferenceIdeal.main_arg1) = m ((c.tc : Thread Cert.UpDataFirstReferenceIdeal.nD Cert.UpDataFirstReferenceIdeal.τ).loc Cert.UpDataFirstReferenceIdeal.main_arg1)
      ∧ r.2.mem ((c.tc : Thread Cert.UpDataFirstReferenceIdeal.nD Cert.UpDataFirstReferenceIdeal.τ).loc Cert.UpDataFirstReferenceIdeal.main_arg2) = m ((c.tc : Thread Cert.UpDataFirstReferenceIdeal.nD Cert.UpDataFirstReferenceIdeal.τ).loc Cert.UpDataFirstReferenceIdeal.main_arg2))
      ∧ r.2.sem = fun _ => 0)

def quiescent_DownDataFirst [hDownDataFirst : Cert.DownDataFirst.Facts] : Prop :=
  ∀ (m : (ℓ : Loc Cert.DownDataFirst.nD Cert.DownDataFirst.τ Cert.DownDataFirst.sig) → Buf (Elt Bits) ℓ) (g : Dev Cert.DownDataFirst.nD → PrngReg), Pre_DownDataFirst m →
    θ_run (Cert.DownDataFirst.defs (F := Bits)) (onTc (τ := Cert.DownDataFirst.τ) (Cert.DownDataFirst.main (F := Bits))) ⟨m, fun _ => 0, g⟩ (fun r => (∀ c : Dev Cert.DownDataFirst.nD,
      r.2.mem ((c.tc : Thread Cert.DownDataFirst.nD Cert.DownDataFirst.τ).loc Cert.DownDataFirst.main_arg0) = m ((c.tc : Thread Cert.DownDataFirst.nD Cert.DownDataFirst.τ).loc Cert.DownDataFirst.main_arg0)
      ∧ r.2.mem ((c.tc : Thread Cert.DownDataFirst.nD Cert.DownDataFirst.τ).loc Cert.DownDataFirst.main_arg1) = m ((c.tc : Thread Cert.DownDataFirst.nD Cert.DownDataFirst.τ).loc Cert.DownDataFirst.main_arg1))
      ∧ r.2.sem = fun _ => 0)

def quiescent_DownDataFirstIdeal [hDownDataFirstIdeal : Cert.DownDataFirstIdeal.Facts] : Prop :=
  ∀ (m : (ℓ : Loc Cert.DownDataFirstIdeal.nD Cert.DownDataFirstIdeal.τ Cert.DownDataFirstIdeal.sig) → Buf (Elt Ideal) ℓ) (g : Dev Cert.DownDataFirstIdeal.nD → PrngReg), Pre_DownDataFirstIdeal m →
    θ_run (Cert.DownDataFirstIdeal.defs (F := Ideal)) (onTc (τ := Cert.DownDataFirstIdeal.τ) (Cert.DownDataFirstIdeal.main (F := Ideal))) ⟨m, fun _ => 0, g⟩ (fun r => (∀ c : Dev Cert.DownDataFirstIdeal.nD,
      r.2.mem ((c.tc : Thread Cert.DownDataFirstIdeal.nD Cert.DownDataFirstIdeal.τ).loc Cert.DownDataFirstIdeal.main_arg0) = m ((c.tc : Thread Cert.DownDataFirstIdeal.nD Cert.DownDataFirstIdeal.τ).loc Cert.DownDataFirstIdeal.main_arg0)
      ∧ r.2.mem ((c.tc : Thread Cert.DownDataFirstIdeal.nD Cert.DownDataFirstIdeal.τ).loc Cert.DownDataFirstIdeal.main_arg1) = m ((c.tc : Thread Cert.DownDataFirstIdeal.nD Cert.DownDataFirstIdeal.τ).loc Cert.DownDataFirstIdeal.main_arg1))
      ∧ r.2.sem = fun _ => 0)

def quiescent_DownDataFirstReferenceIdeal [hDownDataFirstReferenceIdeal : Cert.DownDataFirstReferenceIdeal.Facts] : Prop :=
  ∀ (m : (ℓ : Loc Cert.DownDataFirstReferenceIdeal.nD Cert.DownDataFirstReferenceIdeal.τ Cert.DownDataFirstReferenceIdeal.sig) → Buf (Elt Ideal) ℓ) (g : Dev Cert.DownDataFirstReferenceIdeal.nD → PrngReg), Pre_DownDataFirstReferenceIdeal m →
    θ_run (Cert.DownDataFirstReferenceIdeal.defs (F := Ideal)) (onTc (τ := Cert.DownDataFirstReferenceIdeal.τ) (Cert.DownDataFirstReferenceIdeal.main (F := Ideal))) ⟨m, fun _ => 0, g⟩ (fun r => (∀ c : Dev Cert.DownDataFirstReferenceIdeal.nD,
      r.2.mem ((c.tc : Thread Cert.DownDataFirstReferenceIdeal.nD Cert.DownDataFirstReferenceIdeal.τ).loc Cert.DownDataFirstReferenceIdeal.main_arg0) = m ((c.tc : Thread Cert.DownDataFirstReferenceIdeal.nD Cert.DownDataFirstReferenceIdeal.τ).loc Cert.DownDataFirstReferenceIdeal.main_arg0)
      ∧ r.2.mem ((c.tc : Thread Cert.DownDataFirstReferenceIdeal.nD Cert.DownDataFirstReferenceIdeal.τ).loc Cert.DownDataFirstReferenceIdeal.main_arg1) = m ((c.tc : Thread Cert.DownDataFirstReferenceIdeal.nD Cert.DownDataFirstReferenceIdeal.τ).loc Cert.DownDataFirstReferenceIdeal.main_arg1))
      ∧ r.2.sem = fun _ => 0)

def quiescent_InDataFirst [hInDataFirst : Cert.InDataFirst.Facts] : Prop :=
  ∀ (m : (ℓ : Loc Cert.InDataFirst.nD Cert.InDataFirst.τ Cert.InDataFirst.sig) → Buf (Elt Bits) ℓ) (g : Dev Cert.InDataFirst.nD → PrngReg), Pre_InDataFirst m →
    θ_run (Cert.InDataFirst.defs (F := Bits)) (onTc (τ := Cert.InDataFirst.τ) (Cert.InDataFirst.main (F := Bits))) ⟨m, fun _ => 0, g⟩ (fun r => (∀ c : Dev Cert.InDataFirst.nD,
      r.2.mem ((c.tc : Thread Cert.InDataFirst.nD Cert.InDataFirst.τ).loc Cert.InDataFirst.main_arg0) = m ((c.tc : Thread Cert.InDataFirst.nD Cert.InDataFirst.τ).loc Cert.InDataFirst.main_arg0)
      ∧ r.2.mem ((c.tc : Thread Cert.InDataFirst.nD Cert.InDataFirst.τ).loc Cert.InDataFirst.main_arg1) = m ((c.tc : Thread Cert.InDataFirst.nD Cert.InDataFirst.τ).loc Cert.InDataFirst.main_arg1))
      ∧ r.2.sem = fun _ => 0)

def quiescent_InDataFirstIdeal [hInDataFirstIdeal : Cert.InDataFirstIdeal.Facts] : Prop :=
  ∀ (m : (ℓ : Loc Cert.InDataFirstIdeal.nD Cert.InDataFirstIdeal.τ Cert.InDataFirstIdeal.sig) → Buf (Elt Ideal) ℓ) (g : Dev Cert.InDataFirstIdeal.nD → PrngReg), Pre_InDataFirstIdeal m →
    θ_run (Cert.InDataFirstIdeal.defs (F := Ideal)) (onTc (τ := Cert.InDataFirstIdeal.τ) (Cert.InDataFirstIdeal.main (F := Ideal))) ⟨m, fun _ => 0, g⟩ (fun r => (∀ c : Dev Cert.InDataFirstIdeal.nD,
      r.2.mem ((c.tc : Thread Cert.InDataFirstIdeal.nD Cert.InDataFirstIdeal.τ).loc Cert.InDataFirstIdeal.main_arg0) = m ((c.tc : Thread Cert.InDataFirstIdeal.nD Cert.InDataFirstIdeal.τ).loc Cert.InDataFirstIdeal.main_arg0)
      ∧ r.2.mem ((c.tc : Thread Cert.InDataFirstIdeal.nD Cert.InDataFirstIdeal.τ).loc Cert.InDataFirstIdeal.main_arg1) = m ((c.tc : Thread Cert.InDataFirstIdeal.nD Cert.InDataFirstIdeal.τ).loc Cert.InDataFirstIdeal.main_arg1))
      ∧ r.2.sem = fun _ => 0)

def quiescent_InDataFirstReferenceIdeal [hInDataFirstReferenceIdeal : Cert.InDataFirstReferenceIdeal.Facts] : Prop :=
  ∀ (m : (ℓ : Loc Cert.InDataFirstReferenceIdeal.nD Cert.InDataFirstReferenceIdeal.τ Cert.InDataFirstReferenceIdeal.sig) → Buf (Elt Ideal) ℓ) (g : Dev Cert.InDataFirstReferenceIdeal.nD → PrngReg), Pre_InDataFirstReferenceIdeal m →
    θ_run (Cert.InDataFirstReferenceIdeal.defs (F := Ideal)) (onTc (τ := Cert.InDataFirstReferenceIdeal.τ) (Cert.InDataFirstReferenceIdeal.main (F := Ideal))) ⟨m, fun _ => 0, g⟩ (fun r => (∀ c : Dev Cert.InDataFirstReferenceIdeal.nD,
      r.2.mem ((c.tc : Thread Cert.InDataFirstReferenceIdeal.nD Cert.InDataFirstReferenceIdeal.τ).loc Cert.InDataFirstReferenceIdeal.main_arg0) = m ((c.tc : Thread Cert.InDataFirstReferenceIdeal.nD Cert.InDataFirstReferenceIdeal.τ).loc Cert.InDataFirstReferenceIdeal.main_arg0)
      ∧ r.2.mem ((c.tc : Thread Cert.InDataFirstReferenceIdeal.nD Cert.InDataFirstReferenceIdeal.τ).loc Cert.InDataFirstReferenceIdeal.main_arg1) = m ((c.tc : Thread Cert.InDataFirstReferenceIdeal.nD Cert.InDataFirstReferenceIdeal.τ).loc Cert.InDataFirstReferenceIdeal.main_arg1))
      ∧ r.2.sem = fun _ => 0)

def quiescent_OutDataFirst [hOutDataFirst : Cert.OutDataFirst.Facts] : Prop :=
  ∀ (m : (ℓ : Loc Cert.OutDataFirst.nD Cert.OutDataFirst.τ Cert.OutDataFirst.sig) → Buf (Elt Bits) ℓ) (g : Dev Cert.OutDataFirst.nD → PrngReg), Pre_OutDataFirst m →
    θ_run (Cert.OutDataFirst.defs (F := Bits)) (onTc (τ := Cert.OutDataFirst.τ) (Cert.OutDataFirst.main (F := Bits))) ⟨m, fun _ => 0, g⟩ (fun r => (∀ c : Dev Cert.OutDataFirst.nD,
      r.2.mem ((c.tc : Thread Cert.OutDataFirst.nD Cert.OutDataFirst.τ).loc Cert.OutDataFirst.main_arg0) = m ((c.tc : Thread Cert.OutDataFirst.nD Cert.OutDataFirst.τ).loc Cert.OutDataFirst.main_arg0)
      ∧ r.2.mem ((c.tc : Thread Cert.OutDataFirst.nD Cert.OutDataFirst.τ).loc Cert.OutDataFirst.main_arg1) = m ((c.tc : Thread Cert.OutDataFirst.nD Cert.OutDataFirst.τ).loc Cert.OutDataFirst.main_arg1))
      ∧ r.2.sem = fun _ => 0)

def quiescent_OutDataFirstIdeal [hOutDataFirstIdeal : Cert.OutDataFirstIdeal.Facts] : Prop :=
  ∀ (m : (ℓ : Loc Cert.OutDataFirstIdeal.nD Cert.OutDataFirstIdeal.τ Cert.OutDataFirstIdeal.sig) → Buf (Elt Ideal) ℓ) (g : Dev Cert.OutDataFirstIdeal.nD → PrngReg), Pre_OutDataFirstIdeal m →
    θ_run (Cert.OutDataFirstIdeal.defs (F := Ideal)) (onTc (τ := Cert.OutDataFirstIdeal.τ) (Cert.OutDataFirstIdeal.main (F := Ideal))) ⟨m, fun _ => 0, g⟩ (fun r => (∀ c : Dev Cert.OutDataFirstIdeal.nD,
      r.2.mem ((c.tc : Thread Cert.OutDataFirstIdeal.nD Cert.OutDataFirstIdeal.τ).loc Cert.OutDataFirstIdeal.main_arg0) = m ((c.tc : Thread Cert.OutDataFirstIdeal.nD Cert.OutDataFirstIdeal.τ).loc Cert.OutDataFirstIdeal.main_arg0)
      ∧ r.2.mem ((c.tc : Thread Cert.OutDataFirstIdeal.nD Cert.OutDataFirstIdeal.τ).loc Cert.OutDataFirstIdeal.main_arg1) = m ((c.tc : Thread Cert.OutDataFirstIdeal.nD Cert.OutDataFirstIdeal.τ).loc Cert.OutDataFirstIdeal.main_arg1))
      ∧ r.2.sem = fun _ => 0)

def quiescent_OutDataFirstReferenceIdeal [hOutDataFirstReferenceIdeal : Cert.OutDataFirstReferenceIdeal.Facts] : Prop :=
  ∀ (m : (ℓ : Loc Cert.OutDataFirstReferenceIdeal.nD Cert.OutDataFirstReferenceIdeal.τ Cert.OutDataFirstReferenceIdeal.sig) → Buf (Elt Ideal) ℓ) (g : Dev Cert.OutDataFirstReferenceIdeal.nD → PrngReg), Pre_OutDataFirstReferenceIdeal m →
    θ_run (Cert.OutDataFirstReferenceIdeal.defs (F := Ideal)) (onTc (τ := Cert.OutDataFirstReferenceIdeal.τ) (Cert.OutDataFirstReferenceIdeal.main (F := Ideal))) ⟨m, fun _ => 0, g⟩ (fun r => (∀ c : Dev Cert.OutDataFirstReferenceIdeal.nD,
      r.2.mem ((c.tc : Thread Cert.OutDataFirstReferenceIdeal.nD Cert.OutDataFirstReferenceIdeal.τ).loc Cert.OutDataFirstReferenceIdeal.main_arg0) = m ((c.tc : Thread Cert.OutDataFirstReferenceIdeal.nD Cert.OutDataFirstReferenceIdeal.τ).loc Cert.OutDataFirstReferenceIdeal.main_arg0)
      ∧ r.2.mem ((c.tc : Thread Cert.OutDataFirstReferenceIdeal.nD Cert.OutDataFirstReferenceIdeal.τ).loc Cert.OutDataFirstReferenceIdeal.main_arg1) = m ((c.tc : Thread Cert.OutDataFirstReferenceIdeal.nD Cert.OutDataFirstReferenceIdeal.τ).loc Cert.OutDataFirstReferenceIdeal.main_arg1))
      ∧ r.2.sem = fun _ => 0)

def quiescent_UpFirst [hUpFirst : Cert.UpFirst.Facts] : Prop :=
  ∀ (m : (ℓ : Loc Cert.UpFirst.nD Cert.UpFirst.τ Cert.UpFirst.sig) → Buf (Elt Bits) ℓ) (g : Dev Cert.UpFirst.nD → PrngReg), Pre_UpFirst m →
    θ_run (Cert.UpFirst.defs (F := Bits)) (onTc (τ := Cert.UpFirst.τ) (Cert.UpFirst.main (F := Bits))) ⟨m, fun _ => 0, g⟩ (fun r => (∀ c : Dev Cert.UpFirst.nD,
      r.2.mem ((c.tc : Thread Cert.UpFirst.nD Cert.UpFirst.τ).loc Cert.UpFirst.main_arg0) = m ((c.tc : Thread Cert.UpFirst.nD Cert.UpFirst.τ).loc Cert.UpFirst.main_arg0)
      ∧ r.2.mem ((c.tc : Thread Cert.UpFirst.nD Cert.UpFirst.τ).loc Cert.UpFirst.main_arg1) = m ((c.tc : Thread Cert.UpFirst.nD Cert.UpFirst.τ).loc Cert.UpFirst.main_arg1))
      ∧ r.2.sem = fun _ => 0)

def quiescent_UpFirstIdeal [hUpFirstIdeal : Cert.UpFirstIdeal.Facts] : Prop :=
  ∀ (m : (ℓ : Loc Cert.UpFirstIdeal.nD Cert.UpFirstIdeal.τ Cert.UpFirstIdeal.sig) → Buf (Elt Ideal) ℓ) (g : Dev Cert.UpFirstIdeal.nD → PrngReg), Pre_UpFirstIdeal m →
    θ_run (Cert.UpFirstIdeal.defs (F := Ideal)) (onTc (τ := Cert.UpFirstIdeal.τ) (Cert.UpFirstIdeal.main (F := Ideal))) ⟨m, fun _ => 0, g⟩ (fun r => (∀ c : Dev Cert.UpFirstIdeal.nD,
      r.2.mem ((c.tc : Thread Cert.UpFirstIdeal.nD Cert.UpFirstIdeal.τ).loc Cert.UpFirstIdeal.main_arg0) = m ((c.tc : Thread Cert.UpFirstIdeal.nD Cert.UpFirstIdeal.τ).loc Cert.UpFirstIdeal.main_arg0)
      ∧ r.2.mem ((c.tc : Thread Cert.UpFirstIdeal.nD Cert.UpFirstIdeal.τ).loc Cert.UpFirstIdeal.main_arg1) = m ((c.tc : Thread Cert.UpFirstIdeal.nD Cert.UpFirstIdeal.τ).loc Cert.UpFirstIdeal.main_arg1))
      ∧ r.2.sem = fun _ => 0)

def quiescent_UpFirstReferenceIdeal [hUpFirstReferenceIdeal : Cert.UpFirstReferenceIdeal.Facts] : Prop :=
  ∀ (m : (ℓ : Loc Cert.UpFirstReferenceIdeal.nD Cert.UpFirstReferenceIdeal.τ Cert.UpFirstReferenceIdeal.sig) → Buf (Elt Ideal) ℓ) (g : Dev Cert.UpFirstReferenceIdeal.nD → PrngReg), Pre_UpFirstReferenceIdeal m →
    θ_run (Cert.UpFirstReferenceIdeal.defs (F := Ideal)) (onTc (τ := Cert.UpFirstReferenceIdeal.τ) (Cert.UpFirstReferenceIdeal.main (F := Ideal))) ⟨m, fun _ => 0, g⟩ (fun r => (∀ c : Dev Cert.UpFirstReferenceIdeal.nD,
      r.2.mem ((c.tc : Thread Cert.UpFirstReferenceIdeal.nD Cert.UpFirstReferenceIdeal.τ).loc Cert.UpFirstReferenceIdeal.main_arg0) = m ((c.tc : Thread Cert.UpFirstReferenceIdeal.nD Cert.UpFirstReferenceIdeal.τ).loc Cert.UpFirstReferenceIdeal.main_arg0)
      ∧ r.2.mem ((c.tc : Thread Cert.UpFirstReferenceIdeal.nD Cert.UpFirstReferenceIdeal.τ).loc Cert.UpFirstReferenceIdeal.main_arg1) = m ((c.tc : Thread Cert.UpFirstReferenceIdeal.nD Cert.UpFirstReferenceIdeal.τ).loc Cert.UpFirstReferenceIdeal.main_arg1))
      ∧ r.2.sem = fun _ => 0)

def quiescent_DownFirst [hDownFirst : Cert.DownFirst.Facts] : Prop :=
  ∀ (m : (ℓ : Loc Cert.DownFirst.nD Cert.DownFirst.τ Cert.DownFirst.sig) → Buf (Elt Bits) ℓ) (g : Dev Cert.DownFirst.nD → PrngReg), Pre_DownFirst m →
    θ_run (Cert.DownFirst.defs (F := Bits)) (onTc (τ := Cert.DownFirst.τ) (Cert.DownFirst.main (F := Bits))) ⟨m, fun _ => 0, g⟩ (fun r => (∀ c : Dev Cert.DownFirst.nD,
      r.2.mem ((c.tc : Thread Cert.DownFirst.nD Cert.DownFirst.τ).loc Cert.DownFirst.main_arg0) = m ((c.tc : Thread Cert.DownFirst.nD Cert.DownFirst.τ).loc Cert.DownFirst.main_arg0)
      ∧ r.2.mem ((c.tc : Thread Cert.DownFirst.nD Cert.DownFirst.τ).loc Cert.DownFirst.main_arg1) = m ((c.tc : Thread Cert.DownFirst.nD Cert.DownFirst.τ).loc Cert.DownFirst.main_arg1))
      ∧ r.2.sem = fun _ => 0)

def quiescent_DownFirstIdeal [hDownFirstIdeal : Cert.DownFirstIdeal.Facts] : Prop :=
  ∀ (m : (ℓ : Loc Cert.DownFirstIdeal.nD Cert.DownFirstIdeal.τ Cert.DownFirstIdeal.sig) → Buf (Elt Ideal) ℓ) (g : Dev Cert.DownFirstIdeal.nD → PrngReg), Pre_DownFirstIdeal m →
    θ_run (Cert.DownFirstIdeal.defs (F := Ideal)) (onTc (τ := Cert.DownFirstIdeal.τ) (Cert.DownFirstIdeal.main (F := Ideal))) ⟨m, fun _ => 0, g⟩ (fun r => (∀ c : Dev Cert.DownFirstIdeal.nD,
      r.2.mem ((c.tc : Thread Cert.DownFirstIdeal.nD Cert.DownFirstIdeal.τ).loc Cert.DownFirstIdeal.main_arg0) = m ((c.tc : Thread Cert.DownFirstIdeal.nD Cert.DownFirstIdeal.τ).loc Cert.DownFirstIdeal.main_arg0)
      ∧ r.2.mem ((c.tc : Thread Cert.DownFirstIdeal.nD Cert.DownFirstIdeal.τ).loc Cert.DownFirstIdeal.main_arg1) = m ((c.tc : Thread Cert.DownFirstIdeal.nD Cert.DownFirstIdeal.τ).loc Cert.DownFirstIdeal.main_arg1))
      ∧ r.2.sem = fun _ => 0)

def quiescent_DownFirstReferenceIdeal [hDownFirstReferenceIdeal : Cert.DownFirstReferenceIdeal.Facts] : Prop :=
  ∀ (m : (ℓ : Loc Cert.DownFirstReferenceIdeal.nD Cert.DownFirstReferenceIdeal.τ Cert.DownFirstReferenceIdeal.sig) → Buf (Elt Ideal) ℓ) (g : Dev Cert.DownFirstReferenceIdeal.nD → PrngReg), Pre_DownFirstReferenceIdeal m →
    θ_run (Cert.DownFirstReferenceIdeal.defs (F := Ideal)) (onTc (τ := Cert.DownFirstReferenceIdeal.τ) (Cert.DownFirstReferenceIdeal.main (F := Ideal))) ⟨m, fun _ => 0, g⟩ (fun r => (∀ c : Dev Cert.DownFirstReferenceIdeal.nD,
      r.2.mem ((c.tc : Thread Cert.DownFirstReferenceIdeal.nD Cert.DownFirstReferenceIdeal.τ).loc Cert.DownFirstReferenceIdeal.main_arg0) = m ((c.tc : Thread Cert.DownFirstReferenceIdeal.nD Cert.DownFirstReferenceIdeal.τ).loc Cert.DownFirstReferenceIdeal.main_arg0)
      ∧ r.2.mem ((c.tc : Thread Cert.DownFirstReferenceIdeal.nD Cert.DownFirstReferenceIdeal.τ).loc Cert.DownFirstReferenceIdeal.main_arg1) = m ((c.tc : Thread Cert.DownFirstReferenceIdeal.nD Cert.DownFirstReferenceIdeal.τ).loc Cert.DownFirstReferenceIdeal.main_arg1))
      ∧ r.2.sem = fun _ => 0)

def quiescent_InFirst [hInFirst : Cert.InFirst.Facts] : Prop :=
  ∀ (m : (ℓ : Loc Cert.InFirst.nD Cert.InFirst.τ Cert.InFirst.sig) → Buf (Elt Bits) ℓ) (g : Dev Cert.InFirst.nD → PrngReg), Pre_InFirst m →
    θ_run (Cert.InFirst.defs (F := Bits)) (onTc (τ := Cert.InFirst.τ) (Cert.InFirst.main (F := Bits))) ⟨m, fun _ => 0, g⟩ (fun r => (∀ c : Dev Cert.InFirst.nD,
      r.2.mem ((c.tc : Thread Cert.InFirst.nD Cert.InFirst.τ).loc Cert.InFirst.main_arg0) = m ((c.tc : Thread Cert.InFirst.nD Cert.InFirst.τ).loc Cert.InFirst.main_arg0)
      ∧ r.2.mem ((c.tc : Thread Cert.InFirst.nD Cert.InFirst.τ).loc Cert.InFirst.main_arg1) = m ((c.tc : Thread Cert.InFirst.nD Cert.InFirst.τ).loc Cert.InFirst.main_arg1))
      ∧ r.2.sem = fun _ => 0)

def quiescent_InFirstIdeal [hInFirstIdeal : Cert.InFirstIdeal.Facts] : Prop :=
  ∀ (m : (ℓ : Loc Cert.InFirstIdeal.nD Cert.InFirstIdeal.τ Cert.InFirstIdeal.sig) → Buf (Elt Ideal) ℓ) (g : Dev Cert.InFirstIdeal.nD → PrngReg), Pre_InFirstIdeal m →
    θ_run (Cert.InFirstIdeal.defs (F := Ideal)) (onTc (τ := Cert.InFirstIdeal.τ) (Cert.InFirstIdeal.main (F := Ideal))) ⟨m, fun _ => 0, g⟩ (fun r => (∀ c : Dev Cert.InFirstIdeal.nD,
      r.2.mem ((c.tc : Thread Cert.InFirstIdeal.nD Cert.InFirstIdeal.τ).loc Cert.InFirstIdeal.main_arg0) = m ((c.tc : Thread Cert.InFirstIdeal.nD Cert.InFirstIdeal.τ).loc Cert.InFirstIdeal.main_arg0)
      ∧ r.2.mem ((c.tc : Thread Cert.InFirstIdeal.nD Cert.InFirstIdeal.τ).loc Cert.InFirstIdeal.main_arg1) = m ((c.tc : Thread Cert.InFirstIdeal.nD Cert.InFirstIdeal.τ).loc Cert.InFirstIdeal.main_arg1))
      ∧ r.2.sem = fun _ => 0)

def quiescent_InFirstReferenceIdeal [hInFirstReferenceIdeal : Cert.InFirstReferenceIdeal.Facts] : Prop :=
  ∀ (m : (ℓ : Loc Cert.InFirstReferenceIdeal.nD Cert.InFirstReferenceIdeal.τ Cert.InFirstReferenceIdeal.sig) → Buf (Elt Ideal) ℓ) (g : Dev Cert.InFirstReferenceIdeal.nD → PrngReg), Pre_InFirstReferenceIdeal m →
    θ_run (Cert.InFirstReferenceIdeal.defs (F := Ideal)) (onTc (τ := Cert.InFirstReferenceIdeal.τ) (Cert.InFirstReferenceIdeal.main (F := Ideal))) ⟨m, fun _ => 0, g⟩ (fun r => (∀ c : Dev Cert.InFirstReferenceIdeal.nD,
      r.2.mem ((c.tc : Thread Cert.InFirstReferenceIdeal.nD Cert.InFirstReferenceIdeal.τ).loc Cert.InFirstReferenceIdeal.main_arg0) = m ((c.tc : Thread Cert.InFirstReferenceIdeal.nD Cert.InFirstReferenceIdeal.τ).loc Cert.InFirstReferenceIdeal.main_arg0)
      ∧ r.2.mem ((c.tc : Thread Cert.InFirstReferenceIdeal.nD Cert.InFirstReferenceIdeal.τ).loc Cert.InFirstReferenceIdeal.main_arg1) = m ((c.tc : Thread Cert.InFirstReferenceIdeal.nD Cert.InFirstReferenceIdeal.τ).loc Cert.InFirstReferenceIdeal.main_arg1))
      ∧ r.2.sem = fun _ => 0)

def quiescent_OutFirst [hOutFirst : Cert.OutFirst.Facts] : Prop :=
  ∀ (m : (ℓ : Loc Cert.OutFirst.nD Cert.OutFirst.τ Cert.OutFirst.sig) → Buf (Elt Bits) ℓ) (g : Dev Cert.OutFirst.nD → PrngReg), Pre_OutFirst m →
    θ_run (Cert.OutFirst.defs (F := Bits)) (onTc (τ := Cert.OutFirst.τ) (Cert.OutFirst.main (F := Bits))) ⟨m, fun _ => 0, g⟩ (fun r => (∀ c : Dev Cert.OutFirst.nD,
      r.2.mem ((c.tc : Thread Cert.OutFirst.nD Cert.OutFirst.τ).loc Cert.OutFirst.main_arg0) = m ((c.tc : Thread Cert.OutFirst.nD Cert.OutFirst.τ).loc Cert.OutFirst.main_arg0)
      ∧ r.2.mem ((c.tc : Thread Cert.OutFirst.nD Cert.OutFirst.τ).loc Cert.OutFirst.main_arg1) = m ((c.tc : Thread Cert.OutFirst.nD Cert.OutFirst.τ).loc Cert.OutFirst.main_arg1))
      ∧ r.2.sem = fun _ => 0)

def quiescent_OutFirstIdeal [hOutFirstIdeal : Cert.OutFirstIdeal.Facts] : Prop :=
  ∀ (m : (ℓ : Loc Cert.OutFirstIdeal.nD Cert.OutFirstIdeal.τ Cert.OutFirstIdeal.sig) → Buf (Elt Ideal) ℓ) (g : Dev Cert.OutFirstIdeal.nD → PrngReg), Pre_OutFirstIdeal m →
    θ_run (Cert.OutFirstIdeal.defs (F := Ideal)) (onTc (τ := Cert.OutFirstIdeal.τ) (Cert.OutFirstIdeal.main (F := Ideal))) ⟨m, fun _ => 0, g⟩ (fun r => (∀ c : Dev Cert.OutFirstIdeal.nD,
      r.2.mem ((c.tc : Thread Cert.OutFirstIdeal.nD Cert.OutFirstIdeal.τ).loc Cert.OutFirstIdeal.main_arg0) = m ((c.tc : Thread Cert.OutFirstIdeal.nD Cert.OutFirstIdeal.τ).loc Cert.OutFirstIdeal.main_arg0)
      ∧ r.2.mem ((c.tc : Thread Cert.OutFirstIdeal.nD Cert.OutFirstIdeal.τ).loc Cert.OutFirstIdeal.main_arg1) = m ((c.tc : Thread Cert.OutFirstIdeal.nD Cert.OutFirstIdeal.τ).loc Cert.OutFirstIdeal.main_arg1))
      ∧ r.2.sem = fun _ => 0)

def quiescent_OutFirstReferenceIdeal [hOutFirstReferenceIdeal : Cert.OutFirstReferenceIdeal.Facts] : Prop :=
  ∀ (m : (ℓ : Loc Cert.OutFirstReferenceIdeal.nD Cert.OutFirstReferenceIdeal.τ Cert.OutFirstReferenceIdeal.sig) → Buf (Elt Ideal) ℓ) (g : Dev Cert.OutFirstReferenceIdeal.nD → PrngReg), Pre_OutFirstReferenceIdeal m →
    θ_run (Cert.OutFirstReferenceIdeal.defs (F := Ideal)) (onTc (τ := Cert.OutFirstReferenceIdeal.τ) (Cert.OutFirstReferenceIdeal.main (F := Ideal))) ⟨m, fun _ => 0, g⟩ (fun r => (∀ c : Dev Cert.OutFirstReferenceIdeal.nD,
      r.2.mem ((c.tc : Thread Cert.OutFirstReferenceIdeal.nD Cert.OutFirstReferenceIdeal.τ).loc Cert.OutFirstReferenceIdeal.main_arg0) = m ((c.tc : Thread Cert.OutFirstReferenceIdeal.nD Cert.OutFirstReferenceIdeal.τ).loc Cert.OutFirstReferenceIdeal.main_arg0)
      ∧ r.2.mem ((c.tc : Thread Cert.OutFirstReferenceIdeal.nD Cert.OutFirstReferenceIdeal.τ).loc Cert.OutFirstReferenceIdeal.main_arg1) = m ((c.tc : Thread Cert.OutFirstReferenceIdeal.nD Cert.OutFirstReferenceIdeal.τ).loc Cert.OutFirstReferenceIdeal.main_arg1))
      ∧ r.2.sem = fun _ => 0)

def quiescent_UpWeight [hUpWeight : Cert.UpWeight.Facts] : Prop :=
  ∀ (m : (ℓ : Loc Cert.UpWeight.nD Cert.UpWeight.τ Cert.UpWeight.sig) → Buf (Elt Bits) ℓ) (g : Dev Cert.UpWeight.nD → PrngReg), Pre_UpWeight m →
    θ_run (Cert.UpWeight.defs (F := Bits)) (onTc (τ := Cert.UpWeight.τ) (Cert.UpWeight.main (F := Bits))) ⟨m, fun _ => 0, g⟩ (fun r => (∀ c : Dev Cert.UpWeight.nD,
      r.2.mem ((c.tc : Thread Cert.UpWeight.nD Cert.UpWeight.τ).loc Cert.UpWeight.main_arg0) = m ((c.tc : Thread Cert.UpWeight.nD Cert.UpWeight.τ).loc Cert.UpWeight.main_arg0)
      ∧ r.2.mem ((c.tc : Thread Cert.UpWeight.nD Cert.UpWeight.τ).loc Cert.UpWeight.main_arg1) = m ((c.tc : Thread Cert.UpWeight.nD Cert.UpWeight.τ).loc Cert.UpWeight.main_arg1))
      ∧ r.2.sem = fun _ => 0)

def quiescent_UpWeightIdeal [hUpWeightIdeal : Cert.UpWeightIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg), Pre_UpWeightIdeal m →
    θ_run (Cert.UpWeightIdeal.defs (F := Ideal)) (onTc (τ := Cert.UpWeightIdeal.τ) (Cert.UpWeightIdeal.main (F := Ideal))) ⟨m, fun _ => 0, g⟩ (fun r => (∀ c : Dev Cert.UpWeightIdeal.nD,
      r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
      ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1))
      ∧ r.2.sem = fun _ => 0)

def quiescent_UpWeightReferenceIdeal [hUpWeightReferenceIdeal : Cert.UpWeightReferenceIdeal.Facts] : Prop :=
  ∀ (m : (ℓ : Loc Cert.UpWeightReferenceIdeal.nD Cert.UpWeightReferenceIdeal.τ Cert.UpWeightReferenceIdeal.sig) → Buf (Elt Ideal) ℓ) (g : Dev Cert.UpWeightReferenceIdeal.nD → PrngReg), Pre_UpWeightReferenceIdeal m →
    θ_run (Cert.UpWeightReferenceIdeal.defs (F := Ideal)) (onTc (τ := Cert.UpWeightReferenceIdeal.τ) (Cert.UpWeightReferenceIdeal.main (F := Ideal))) ⟨m, fun _ => 0, g⟩ (fun r => (∀ c : Dev Cert.UpWeightReferenceIdeal.nD,
      r.2.mem ((c.tc : Thread Cert.UpWeightReferenceIdeal.nD Cert.UpWeightReferenceIdeal.τ).loc Cert.UpWeightReferenceIdeal.main_arg0) = m ((c.tc : Thread Cert.UpWeightReferenceIdeal.nD Cert.UpWeightReferenceIdeal.τ).loc Cert.UpWeightReferenceIdeal.main_arg0)
      ∧ r.2.mem ((c.tc : Thread Cert.UpWeightReferenceIdeal.nD Cert.UpWeightReferenceIdeal.τ).loc Cert.UpWeightReferenceIdeal.main_arg1) = m ((c.tc : Thread Cert.UpWeightReferenceIdeal.nD Cert.UpWeightReferenceIdeal.τ).loc Cert.UpWeightReferenceIdeal.main_arg1))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ r.2.sem = fun _ => 0)

def quiescent_DownWeightReferenceIdeal [hDownWeightReferenceIdeal : Cert.DownWeightReferenceIdeal.Facts] : Prop :=
  ∀ (m : (ℓ : Loc Cert.DownWeightReferenceIdeal.nD Cert.DownWeightReferenceIdeal.τ Cert.DownWeightReferenceIdeal.sig) → Buf (Elt Ideal) ℓ) (g : Dev Cert.DownWeightReferenceIdeal.nD → PrngReg), Pre_DownWeightReferenceIdeal m →
    θ_run (Cert.DownWeightReferenceIdeal.defs (F := Ideal)) (onTc (τ := Cert.DownWeightReferenceIdeal.τ) (Cert.DownWeightReferenceIdeal.main (F := Ideal))) ⟨m, fun _ => 0, g⟩ (fun r => (∀ c : Dev Cert.DownWeightReferenceIdeal.nD,
      r.2.mem ((c.tc : Thread Cert.DownWeightReferenceIdeal.nD Cert.DownWeightReferenceIdeal.τ).loc Cert.DownWeightReferenceIdeal.main_arg0) = m ((c.tc : Thread Cert.DownWeightReferenceIdeal.nD Cert.DownWeightReferenceIdeal.τ).loc Cert.DownWeightReferenceIdeal.main_arg0)
      ∧ r.2.mem ((c.tc : Thread Cert.DownWeightReferenceIdeal.nD Cert.DownWeightReferenceIdeal.τ).loc Cert.DownWeightReferenceIdeal.main_arg1) = m ((c.tc : Thread Cert.DownWeightReferenceIdeal.nD Cert.DownWeightReferenceIdeal.τ).loc Cert.DownWeightReferenceIdeal.main_arg1))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ r.2.sem = fun _ => 0)

def quiescent_InWeightReferenceIdeal [hInWeightReferenceIdeal : Cert.InWeightReferenceIdeal.Facts] : Prop :=
  ∀ (m : (ℓ : Loc Cert.InWeightReferenceIdeal.nD Cert.InWeightReferenceIdeal.τ Cert.InWeightReferenceIdeal.sig) → Buf (Elt Ideal) ℓ) (g : Dev Cert.InWeightReferenceIdeal.nD → PrngReg), Pre_InWeightReferenceIdeal m →
    θ_run (Cert.InWeightReferenceIdeal.defs (F := Ideal)) (onTc (τ := Cert.InWeightReferenceIdeal.τ) (Cert.InWeightReferenceIdeal.main (F := Ideal))) ⟨m, fun _ => 0, g⟩ (fun r => (∀ c : Dev Cert.InWeightReferenceIdeal.nD,
      r.2.mem ((c.tc : Thread Cert.InWeightReferenceIdeal.nD Cert.InWeightReferenceIdeal.τ).loc Cert.InWeightReferenceIdeal.main_arg0) = m ((c.tc : Thread Cert.InWeightReferenceIdeal.nD Cert.InWeightReferenceIdeal.τ).loc Cert.InWeightReferenceIdeal.main_arg0)
      ∧ r.2.mem ((c.tc : Thread Cert.InWeightReferenceIdeal.nD Cert.InWeightReferenceIdeal.τ).loc Cert.InWeightReferenceIdeal.main_arg1) = m ((c.tc : Thread Cert.InWeightReferenceIdeal.nD Cert.InWeightReferenceIdeal.τ).loc Cert.InWeightReferenceIdeal.main_arg1))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightReferenceIdeal [hOutWeightReferenceIdeal : Cert.OutWeightReferenceIdeal.Facts] : Prop :=
  ∀ (m : (ℓ : Loc Cert.OutWeightReferenceIdeal.nD Cert.OutWeightReferenceIdeal.τ Cert.OutWeightReferenceIdeal.sig) → Buf (Elt Ideal) ℓ) (g : Dev Cert.OutWeightReferenceIdeal.nD → PrngReg), Pre_OutWeightReferenceIdeal m →
    θ_run (Cert.OutWeightReferenceIdeal.defs (F := Ideal)) (onTc (τ := Cert.OutWeightReferenceIdeal.τ) (Cert.OutWeightReferenceIdeal.main (F := Ideal))) ⟨m, fun _ => 0, g⟩ (fun r => (∀ c : Dev Cert.OutWeightReferenceIdeal.nD,
      r.2.mem ((c.tc : Thread Cert.OutWeightReferenceIdeal.nD Cert.OutWeightReferenceIdeal.τ).loc Cert.OutWeightReferenceIdeal.main_arg0) = m ((c.tc : Thread Cert.OutWeightReferenceIdeal.nD Cert.OutWeightReferenceIdeal.τ).loc Cert.OutWeightReferenceIdeal.main_arg0)
      ∧ r.2.mem ((c.tc : Thread Cert.OutWeightReferenceIdeal.nD Cert.OutWeightReferenceIdeal.τ).loc Cert.OutWeightReferenceIdeal.main_arg1) = m ((c.tc : Thread Cert.OutWeightReferenceIdeal.nD Cert.OutWeightReferenceIdeal.τ).loc Cert.OutWeightReferenceIdeal.main_arg1))
      ∧ r.2.sem = fun _ => 0)

def quiescent_AdaStep [hAdaStep : Cert.AdaStep.Facts] : Prop :=
  ∀ (m : (ℓ : Loc Cert.AdaStep.nD Cert.AdaStep.τ Cert.AdaStep.sig) → Buf (Elt Bits) ℓ) (g : Dev Cert.AdaStep.nD → PrngReg), Pre_AdaStep m →
    θ_run (Cert.AdaStep.defs (F := Bits)) (onTc (τ := Cert.AdaStep.τ) (Cert.AdaStep.main (F := Bits))) ⟨m, fun _ => 0, g⟩ (fun r => (∀ c : Dev Cert.AdaStep.nD,
      r.2.mem ((c.tc : Thread Cert.AdaStep.nD Cert.AdaStep.τ).loc Cert.AdaStep.main_arg0) = m ((c.tc : Thread Cert.AdaStep.nD Cert.AdaStep.τ).loc Cert.AdaStep.main_arg0)
      ∧ r.2.mem ((c.tc : Thread Cert.AdaStep.nD Cert.AdaStep.τ).loc Cert.AdaStep.main_arg1) = m ((c.tc : Thread Cert.AdaStep.nD Cert.AdaStep.τ).loc Cert.AdaStep.main_arg1)
      ∧ r.2.mem ((c.tc : Thread Cert.AdaStep.nD Cert.AdaStep.τ).loc Cert.AdaStep.main_arg2) = m ((c.tc : Thread Cert.AdaStep.nD Cert.AdaStep.τ).loc Cert.AdaStep.main_arg2)
      ∧ r.2.mem ((c.tc : Thread Cert.AdaStep.nD Cert.AdaStep.τ).loc Cert.AdaStep.main_arg3) = m ((c.tc : Thread Cert.AdaStep.nD Cert.AdaStep.τ).loc Cert.AdaStep.main_arg3))
      ∧ r.2.sem = fun _ => 0)

def quiescent_AdaStepIdeal [hAdaStepIdeal : Cert.AdaStepIdeal.Facts] : Prop :=
  ∀ (m : (ℓ : Loc Cert.AdaStepIdeal.nD Cert.AdaStepIdeal.τ Cert.AdaStepIdeal.sig) → Buf (Elt Ideal) ℓ) (g : Dev Cert.AdaStepIdeal.nD → PrngReg), Pre_AdaStepIdeal m →
    θ_run (Cert.AdaStepIdeal.defs (F := Ideal)) (onTc (τ := Cert.AdaStepIdeal.τ) (Cert.AdaStepIdeal.main (F := Ideal))) ⟨m, fun _ => 0, g⟩ (fun r => (∀ c : Dev Cert.AdaStepIdeal.nD,
      r.2.mem ((c.tc : Thread Cert.AdaStepIdeal.nD Cert.AdaStepIdeal.τ).loc Cert.AdaStepIdeal.main_arg0) = m ((c.tc : Thread Cert.AdaStepIdeal.nD Cert.AdaStepIdeal.τ).loc Cert.AdaStepIdeal.main_arg0)
      ∧ r.2.mem ((c.tc : Thread Cert.AdaStepIdeal.nD Cert.AdaStepIdeal.τ).loc Cert.AdaStepIdeal.main_arg1) = m ((c.tc : Thread Cert.AdaStepIdeal.nD Cert.AdaStepIdeal.τ).loc Cert.AdaStepIdeal.main_arg1)
      ∧ r.2.mem ((c.tc : Thread Cert.AdaStepIdeal.nD Cert.AdaStepIdeal.τ).loc Cert.AdaStepIdeal.main_arg2) = m ((c.tc : Thread Cert.AdaStepIdeal.nD Cert.AdaStepIdeal.τ).loc Cert.AdaStepIdeal.main_arg2)
      ∧ r.2.mem ((c.tc : Thread Cert.AdaStepIdeal.nD Cert.AdaStepIdeal.τ).loc Cert.AdaStepIdeal.main_arg3) = m ((c.tc : Thread Cert.AdaStepIdeal.nD Cert.AdaStepIdeal.τ).loc Cert.AdaStepIdeal.main_arg3))
      ∧ r.2.sem = fun _ => 0)

def quiescent_AdaStepReferenceIdeal [hAdaStepReferenceIdeal : Cert.AdaStepReferenceIdeal.Facts] : Prop :=
  ∀ (m : (ℓ : Loc Cert.AdaStepReferenceIdeal.nD Cert.AdaStepReferenceIdeal.τ Cert.AdaStepReferenceIdeal.sig) → Buf (Elt Ideal) ℓ) (g : Dev Cert.AdaStepReferenceIdeal.nD → PrngReg), Pre_AdaStepReferenceIdeal m →
    θ_run (Cert.AdaStepReferenceIdeal.defs (F := Ideal)) (onTc (τ := Cert.AdaStepReferenceIdeal.τ) (Cert.AdaStepReferenceIdeal.main (F := Ideal))) ⟨m, fun _ => 0, g⟩ (fun r => (∀ c : Dev Cert.AdaStepReferenceIdeal.nD,
      r.2.mem ((c.tc : Thread Cert.AdaStepReferenceIdeal.nD Cert.AdaStepReferenceIdeal.τ).loc Cert.AdaStepReferenceIdeal.main_arg0) = m ((c.tc : Thread Cert.AdaStepReferenceIdeal.nD Cert.AdaStepReferenceIdeal.τ).loc Cert.AdaStepReferenceIdeal.main_arg0)
      ∧ r.2.mem ((c.tc : Thread Cert.AdaStepReferenceIdeal.nD Cert.AdaStepReferenceIdeal.τ).loc Cert.AdaStepReferenceIdeal.main_arg1) = m ((c.tc : Thread Cert.AdaStepReferenceIdeal.nD Cert.AdaStepReferenceIdeal.τ).loc Cert.AdaStepReferenceIdeal.main_arg1)
      ∧ r.2.mem ((c.tc : Thread Cert.AdaStepReferenceIdeal.nD Cert.AdaStepReferenceIdeal.τ).loc Cert.AdaStepReferenceIdeal.main_arg2) = m ((c.tc : Thread Cert.AdaStepReferenceIdeal.nD Cert.AdaStepReferenceIdeal.τ).loc Cert.AdaStepReferenceIdeal.main_arg2)
      ∧ r.2.mem ((c.tc : Thread Cert.AdaStepReferenceIdeal.nD Cert.AdaStepReferenceIdeal.τ).loc Cert.AdaStepReferenceIdeal.main_arg3) = m ((c.tc : Thread Cert.AdaStepReferenceIdeal.nD Cert.AdaStepReferenceIdeal.τ).loc Cert.AdaStepReferenceIdeal.main_arg3))
      ∧ r.2.sem = fun _ => 0)

def quiescent_InStep [hInStep : Cert.InStep.Facts] : Prop :=
  ∀ (m : (ℓ : Loc Cert.InStep.nD Cert.InStep.τ Cert.InStep.sig) → Buf (Elt Bits) ℓ) (g : Dev Cert.InStep.nD → PrngReg), Pre_InStep m →
    θ_run (Cert.InStep.defs (F := Bits)) (onTc (τ := Cert.InStep.τ) (Cert.InStep.main (F := Bits))) ⟨m, fun _ => 0, g⟩ (fun r => (∀ c : Dev Cert.InStep.nD,
      r.2.mem ((c.tc : Thread Cert.InStep.nD Cert.InStep.τ).loc Cert.InStep.main_arg0) = m ((c.tc : Thread Cert.InStep.nD Cert.InStep.τ).loc Cert.InStep.main_arg0)
      ∧ r.2.mem ((c.tc : Thread Cert.InStep.nD Cert.InStep.τ).loc Cert.InStep.main_arg1) = m ((c.tc : Thread Cert.InStep.nD Cert.InStep.τ).loc Cert.InStep.main_arg1)
      ∧ r.2.mem ((c.tc : Thread Cert.InStep.nD Cert.InStep.τ).loc Cert.InStep.main_arg2) = m ((c.tc : Thread Cert.InStep.nD Cert.InStep.τ).loc Cert.InStep.main_arg2)
      ∧ r.2.mem ((c.tc : Thread Cert.InStep.nD Cert.InStep.τ).loc Cert.InStep.main_arg3) = m ((c.tc : Thread Cert.InStep.nD Cert.InStep.τ).loc Cert.InStep.main_arg3))
      ∧ r.2.sem = fun _ => 0)

def quiescent_InStepIdeal [hInStepIdeal : Cert.InStepIdeal.Facts] : Prop :=
  ∀ (m : (ℓ : Loc Cert.InStepIdeal.nD Cert.InStepIdeal.τ Cert.InStepIdeal.sig) → Buf (Elt Ideal) ℓ) (g : Dev Cert.InStepIdeal.nD → PrngReg), Pre_InStepIdeal m →
    θ_run (Cert.InStepIdeal.defs (F := Ideal)) (onTc (τ := Cert.InStepIdeal.τ) (Cert.InStepIdeal.main (F := Ideal))) ⟨m, fun _ => 0, g⟩ (fun r => (∀ c : Dev Cert.InStepIdeal.nD,
      r.2.mem ((c.tc : Thread Cert.InStepIdeal.nD Cert.InStepIdeal.τ).loc Cert.InStepIdeal.main_arg0) = m ((c.tc : Thread Cert.InStepIdeal.nD Cert.InStepIdeal.τ).loc Cert.InStepIdeal.main_arg0)
      ∧ r.2.mem ((c.tc : Thread Cert.InStepIdeal.nD Cert.InStepIdeal.τ).loc Cert.InStepIdeal.main_arg1) = m ((c.tc : Thread Cert.InStepIdeal.nD Cert.InStepIdeal.τ).loc Cert.InStepIdeal.main_arg1)
      ∧ r.2.mem ((c.tc : Thread Cert.InStepIdeal.nD Cert.InStepIdeal.τ).loc Cert.InStepIdeal.main_arg2) = m ((c.tc : Thread Cert.InStepIdeal.nD Cert.InStepIdeal.τ).loc Cert.InStepIdeal.main_arg2)
      ∧ r.2.mem ((c.tc : Thread Cert.InStepIdeal.nD Cert.InStepIdeal.τ).loc Cert.InStepIdeal.main_arg3) = m ((c.tc : Thread Cert.InStepIdeal.nD Cert.InStepIdeal.τ).loc Cert.InStepIdeal.main_arg3))
      ∧ r.2.sem = fun _ => 0)

def quiescent_InStepReferenceIdeal [hInStepReferenceIdeal : Cert.InStepReferenceIdeal.Facts] : Prop :=
  ∀ (m : (ℓ : Loc Cert.InStepReferenceIdeal.nD Cert.InStepReferenceIdeal.τ Cert.InStepReferenceIdeal.sig) → Buf (Elt Ideal) ℓ) (g : Dev Cert.InStepReferenceIdeal.nD → PrngReg), Pre_InStepReferenceIdeal m →
    θ_run (Cert.InStepReferenceIdeal.defs (F := Ideal)) (onTc (τ := Cert.InStepReferenceIdeal.τ) (Cert.InStepReferenceIdeal.main (F := Ideal))) ⟨m, fun _ => 0, g⟩ (fun r => (∀ c : Dev Cert.InStepReferenceIdeal.nD,
      r.2.mem ((c.tc : Thread Cert.InStepReferenceIdeal.nD Cert.InStepReferenceIdeal.τ).loc Cert.InStepReferenceIdeal.main_arg0) = m ((c.tc : Thread Cert.InStepReferenceIdeal.nD Cert.InStepReferenceIdeal.τ).loc Cert.InStepReferenceIdeal.main_arg0)
      ∧ r.2.mem ((c.tc : Thread Cert.InStepReferenceIdeal.nD Cert.InStepReferenceIdeal.τ).loc Cert.InStepReferenceIdeal.main_arg1) = m ((c.tc : Thread Cert.InStepReferenceIdeal.nD Cert.InStepReferenceIdeal.τ).loc Cert.InStepReferenceIdeal.main_arg1)
      ∧ r.2.mem ((c.tc : Thread Cert.InStepReferenceIdeal.nD Cert.InStepReferenceIdeal.τ).loc Cert.InStepReferenceIdeal.main_arg2) = m ((c.tc : Thread Cert.InStepReferenceIdeal.nD Cert.InStepReferenceIdeal.τ).loc Cert.InStepReferenceIdeal.main_arg2)
      ∧ r.2.mem ((c.tc : Thread Cert.InStepReferenceIdeal.nD Cert.InStepReferenceIdeal.τ).loc Cert.InStepReferenceIdeal.main_arg3) = m ((c.tc : Thread Cert.InStepReferenceIdeal.nD Cert.InStepReferenceIdeal.τ).loc Cert.InStepReferenceIdeal.main_arg3))
      ∧ r.2.sem = fun _ => 0)

def quiescent_ConvStep [hConvStep : Cert.ConvStep.Facts] : Prop :=
  ∀ (m : (ℓ : Loc Cert.ConvStep.nD Cert.ConvStep.τ Cert.ConvStep.sig) → Buf (Elt Bits) ℓ) (g : Dev Cert.ConvStep.nD → PrngReg), Pre_ConvStep m →
    θ_run (Cert.ConvStep.defs (F := Bits)) (onTc (τ := Cert.ConvStep.τ) (Cert.ConvStep.main (F := Bits))) ⟨m, fun _ => 0, g⟩ (fun r => (∀ c : Dev Cert.ConvStep.nD,
      r.2.mem ((c.tc : Thread Cert.ConvStep.nD Cert.ConvStep.τ).loc Cert.ConvStep.main_arg0) = m ((c.tc : Thread Cert.ConvStep.nD Cert.ConvStep.τ).loc Cert.ConvStep.main_arg0)
      ∧ r.2.mem ((c.tc : Thread Cert.ConvStep.nD Cert.ConvStep.τ).loc Cert.ConvStep.main_arg1) = m ((c.tc : Thread Cert.ConvStep.nD Cert.ConvStep.τ).loc Cert.ConvStep.main_arg1)
      ∧ r.2.mem ((c.tc : Thread Cert.ConvStep.nD Cert.ConvStep.τ).loc Cert.ConvStep.main_arg2) = m ((c.tc : Thread Cert.ConvStep.nD Cert.ConvStep.τ).loc Cert.ConvStep.main_arg2)
      ∧ r.2.mem ((c.tc : Thread Cert.ConvStep.nD Cert.ConvStep.τ).loc Cert.ConvStep.main_arg3) = m ((c.tc : Thread Cert.ConvStep.nD Cert.ConvStep.τ).loc Cert.ConvStep.main_arg3))
      ∧ r.2.sem = fun _ => 0)

def quiescent_ConvStepIdeal [hConvStepIdeal : Cert.ConvStepIdeal.Facts] : Prop :=
  ∀ (m : (ℓ : Loc Cert.ConvStepIdeal.nD Cert.ConvStepIdeal.τ Cert.ConvStepIdeal.sig) → Buf (Elt Ideal) ℓ) (g : Dev Cert.ConvStepIdeal.nD → PrngReg), Pre_ConvStepIdeal m →
    θ_run (Cert.ConvStepIdeal.defs (F := Ideal)) (onTc (τ := Cert.ConvStepIdeal.τ) (Cert.ConvStepIdeal.main (F := Ideal))) ⟨m, fun _ => 0, g⟩ (fun r => (∀ c : Dev Cert.ConvStepIdeal.nD,
      r.2.mem ((c.tc : Thread Cert.ConvStepIdeal.nD Cert.ConvStepIdeal.τ).loc Cert.ConvStepIdeal.main_arg0) = m ((c.tc : Thread Cert.ConvStepIdeal.nD Cert.ConvStepIdeal.τ).loc Cert.ConvStepIdeal.main_arg0)
      ∧ r.2.mem ((c.tc : Thread Cert.ConvStepIdeal.nD Cert.ConvStepIdeal.τ).loc Cert.ConvStepIdeal.main_arg1) = m ((c.tc : Thread Cert.ConvStepIdeal.nD Cert.ConvStepIdeal.τ).loc Cert.ConvStepIdeal.main_arg1)
      ∧ r.2.mem ((c.tc : Thread Cert.ConvStepIdeal.nD Cert.ConvStepIdeal.τ).loc Cert.ConvStepIdeal.main_arg2) = m ((c.tc : Thread Cert.ConvStepIdeal.nD Cert.ConvStepIdeal.τ).loc Cert.ConvStepIdeal.main_arg2)
      ∧ r.2.mem ((c.tc : Thread Cert.ConvStepIdeal.nD Cert.ConvStepIdeal.τ).loc Cert.ConvStepIdeal.main_arg3) = m ((c.tc : Thread Cert.ConvStepIdeal.nD Cert.ConvStepIdeal.τ).loc Cert.ConvStepIdeal.main_arg3))
      ∧ r.2.sem = fun _ => 0)

def quiescent_ConvStepReferenceIdeal [hConvStepReferenceIdeal : Cert.ConvStepReferenceIdeal.Facts] : Prop :=
  ∀ (m : (ℓ : Loc Cert.ConvStepReferenceIdeal.nD Cert.ConvStepReferenceIdeal.τ Cert.ConvStepReferenceIdeal.sig) → Buf (Elt Ideal) ℓ) (g : Dev Cert.ConvStepReferenceIdeal.nD → PrngReg), Pre_ConvStepReferenceIdeal m →
    θ_run (Cert.ConvStepReferenceIdeal.defs (F := Ideal)) (onTc (τ := Cert.ConvStepReferenceIdeal.τ) (Cert.ConvStepReferenceIdeal.main (F := Ideal))) ⟨m, fun _ => 0, g⟩ (fun r => (∀ c : Dev Cert.ConvStepReferenceIdeal.nD,
      r.2.mem ((c.tc : Thread Cert.ConvStepReferenceIdeal.nD Cert.ConvStepReferenceIdeal.τ).loc Cert.ConvStepReferenceIdeal.main_arg0) = m ((c.tc : Thread Cert.ConvStepReferenceIdeal.nD Cert.ConvStepReferenceIdeal.τ).loc Cert.ConvStepReferenceIdeal.main_arg0)
      ∧ r.2.mem ((c.tc : Thread Cert.ConvStepReferenceIdeal.nD Cert.ConvStepReferenceIdeal.τ).loc Cert.ConvStepReferenceIdeal.main_arg1) = m ((c.tc : Thread Cert.ConvStepReferenceIdeal.nD Cert.ConvStepReferenceIdeal.τ).loc Cert.ConvStepReferenceIdeal.main_arg1)
      ∧ r.2.mem ((c.tc : Thread Cert.ConvStepReferenceIdeal.nD Cert.ConvStepReferenceIdeal.τ).loc Cert.ConvStepReferenceIdeal.main_arg2) = m ((c.tc : Thread Cert.ConvStepReferenceIdeal.nD Cert.ConvStepReferenceIdeal.τ).loc Cert.ConvStepReferenceIdeal.main_arg2)
      ∧ r.2.mem ((c.tc : Thread Cert.ConvStepReferenceIdeal.nD Cert.ConvStepReferenceIdeal.τ).loc Cert.ConvStepReferenceIdeal.main_arg3) = m ((c.tc : Thread Cert.ConvStepReferenceIdeal.nD Cert.ConvStepReferenceIdeal.τ).loc Cert.ConvStepReferenceIdeal.main_arg3))
      ∧ r.2.sem = fun _ => 0)

def quiescent_QueryStep [hQueryStep : Cert.QueryStep.Facts] : Prop :=
  ∀ (m : (ℓ : Loc Cert.QueryStep.nD Cert.QueryStep.τ Cert.QueryStep.sig) → Buf (Elt Bits) ℓ) (g : Dev Cert.QueryStep.nD → PrngReg), Pre_QueryStep m →
    θ_run (Cert.QueryStep.defs (F := Bits)) (onTc (τ := Cert.QueryStep.τ) (Cert.QueryStep.main (F := Bits))) ⟨m, fun _ => 0, g⟩ (fun r => (∀ c : Dev Cert.QueryStep.nD,
      r.2.mem ((c.tc : Thread Cert.QueryStep.nD Cert.QueryStep.τ).loc Cert.QueryStep.main_arg0) = m ((c.tc : Thread Cert.QueryStep.nD Cert.QueryStep.τ).loc Cert.QueryStep.main_arg0)
      ∧ r.2.mem ((c.tc : Thread Cert.QueryStep.nD Cert.QueryStep.τ).loc Cert.QueryStep.main_arg1) = m ((c.tc : Thread Cert.QueryStep.nD Cert.QueryStep.τ).loc Cert.QueryStep.main_arg1)
      ∧ r.2.mem ((c.tc : Thread Cert.QueryStep.nD Cert.QueryStep.τ).loc Cert.QueryStep.main_arg2) = m ((c.tc : Thread Cert.QueryStep.nD Cert.QueryStep.τ).loc Cert.QueryStep.main_arg2)
      ∧ r.2.mem ((c.tc : Thread Cert.QueryStep.nD Cert.QueryStep.τ).loc Cert.QueryStep.main_arg3) = m ((c.tc : Thread Cert.QueryStep.nD Cert.QueryStep.τ).loc Cert.QueryStep.main_arg3))
      ∧ r.2.sem = fun _ => 0)

def quiescent_QueryStepIdeal [hQueryStepIdeal : Cert.QueryStepIdeal.Facts] : Prop :=
  ∀ (m : (ℓ : Loc Cert.QueryStepIdeal.nD Cert.QueryStepIdeal.τ Cert.QueryStepIdeal.sig) → Buf (Elt Ideal) ℓ) (g : Dev Cert.QueryStepIdeal.nD → PrngReg), Pre_QueryStepIdeal m →
    θ_run (Cert.QueryStepIdeal.defs (F := Ideal)) (onTc (τ := Cert.QueryStepIdeal.τ) (Cert.QueryStepIdeal.main (F := Ideal))) ⟨m, fun _ => 0, g⟩ (fun r => (∀ c : Dev Cert.QueryStepIdeal.nD,
      r.2.mem ((c.tc : Thread Cert.QueryStepIdeal.nD Cert.QueryStepIdeal.τ).loc Cert.QueryStepIdeal.main_arg0) = m ((c.tc : Thread Cert.QueryStepIdeal.nD Cert.QueryStepIdeal.τ).loc Cert.QueryStepIdeal.main_arg0)
      ∧ r.2.mem ((c.tc : Thread Cert.QueryStepIdeal.nD Cert.QueryStepIdeal.τ).loc Cert.QueryStepIdeal.main_arg1) = m ((c.tc : Thread Cert.QueryStepIdeal.nD Cert.QueryStepIdeal.τ).loc Cert.QueryStepIdeal.main_arg1)
      ∧ r.2.mem ((c.tc : Thread Cert.QueryStepIdeal.nD Cert.QueryStepIdeal.τ).loc Cert.QueryStepIdeal.main_arg2) = m ((c.tc : Thread Cert.QueryStepIdeal.nD Cert.QueryStepIdeal.τ).loc Cert.QueryStepIdeal.main_arg2)
      ∧ r.2.mem ((c.tc : Thread Cert.QueryStepIdeal.nD Cert.QueryStepIdeal.τ).loc Cert.QueryStepIdeal.main_arg3) = m ((c.tc : Thread Cert.QueryStepIdeal.nD Cert.QueryStepIdeal.τ).loc Cert.QueryStepIdeal.main_arg3))
      ∧ r.2.sem = fun _ => 0)

def quiescent_QueryStepReferenceIdeal [hQueryStepReferenceIdeal : Cert.QueryStepReferenceIdeal.Facts] : Prop :=
  ∀ (m : (ℓ : Loc Cert.QueryStepReferenceIdeal.nD Cert.QueryStepReferenceIdeal.τ Cert.QueryStepReferenceIdeal.sig) → Buf (Elt Ideal) ℓ) (g : Dev Cert.QueryStepReferenceIdeal.nD → PrngReg), Pre_QueryStepReferenceIdeal m →
    θ_run (Cert.QueryStepReferenceIdeal.defs (F := Ideal)) (onTc (τ := Cert.QueryStepReferenceIdeal.τ) (Cert.QueryStepReferenceIdeal.main (F := Ideal))) ⟨m, fun _ => 0, g⟩ (fun r => (∀ c : Dev Cert.QueryStepReferenceIdeal.nD,
      r.2.mem ((c.tc : Thread Cert.QueryStepReferenceIdeal.nD Cert.QueryStepReferenceIdeal.τ).loc Cert.QueryStepReferenceIdeal.main_arg0) = m ((c.tc : Thread Cert.QueryStepReferenceIdeal.nD Cert.QueryStepReferenceIdeal.τ).loc Cert.QueryStepReferenceIdeal.main_arg0)
      ∧ r.2.mem ((c.tc : Thread Cert.QueryStepReferenceIdeal.nD Cert.QueryStepReferenceIdeal.τ).loc Cert.QueryStepReferenceIdeal.main_arg1) = m ((c.tc : Thread Cert.QueryStepReferenceIdeal.nD Cert.QueryStepReferenceIdeal.τ).loc Cert.QueryStepReferenceIdeal.main_arg1)
      ∧ r.2.mem ((c.tc : Thread Cert.QueryStepReferenceIdeal.nD Cert.QueryStepReferenceIdeal.τ).loc Cert.QueryStepReferenceIdeal.main_arg2) = m ((c.tc : Thread Cert.QueryStepReferenceIdeal.nD Cert.QueryStepReferenceIdeal.τ).loc Cert.QueryStepReferenceIdeal.main_arg2)
      ∧ r.2.mem ((c.tc : Thread Cert.QueryStepReferenceIdeal.nD Cert.QueryStepReferenceIdeal.τ).loc Cert.QueryStepReferenceIdeal.main_arg3) = m ((c.tc : Thread Cert.QueryStepReferenceIdeal.nD Cert.QueryStepReferenceIdeal.τ).loc Cert.QueryStepReferenceIdeal.main_arg3))
      ∧ r.2.sem = fun _ => 0)

def quiescent_KeyStep [hKeyStep : Cert.KeyStep.Facts] : Prop :=
  ∀ (m : (ℓ : Loc Cert.KeyStep.nD Cert.KeyStep.τ Cert.KeyStep.sig) → Buf (Elt Bits) ℓ) (g : Dev Cert.KeyStep.nD → PrngReg), Pre_KeyStep m →
    θ_run (Cert.KeyStep.defs (F := Bits)) (onTc (τ := Cert.KeyStep.τ) (Cert.KeyStep.main (F := Bits))) ⟨m, fun _ => 0, g⟩ (fun r => (∀ c : Dev Cert.KeyStep.nD,
      r.2.mem ((c.tc : Thread Cert.KeyStep.nD Cert.KeyStep.τ).loc Cert.KeyStep.main_arg0) = m ((c.tc : Thread Cert.KeyStep.nD Cert.KeyStep.τ).loc Cert.KeyStep.main_arg0)
      ∧ r.2.mem ((c.tc : Thread Cert.KeyStep.nD Cert.KeyStep.τ).loc Cert.KeyStep.main_arg1) = m ((c.tc : Thread Cert.KeyStep.nD Cert.KeyStep.τ).loc Cert.KeyStep.main_arg1)
      ∧ r.2.mem ((c.tc : Thread Cert.KeyStep.nD Cert.KeyStep.τ).loc Cert.KeyStep.main_arg2) = m ((c.tc : Thread Cert.KeyStep.nD Cert.KeyStep.τ).loc Cert.KeyStep.main_arg2)
      ∧ r.2.mem ((c.tc : Thread Cert.KeyStep.nD Cert.KeyStep.τ).loc Cert.KeyStep.main_arg3) = m ((c.tc : Thread Cert.KeyStep.nD Cert.KeyStep.τ).loc Cert.KeyStep.main_arg3))
      ∧ r.2.sem = fun _ => 0)

def quiescent_KeyStepIdeal [hKeyStepIdeal : Cert.KeyStepIdeal.Facts] : Prop :=
  ∀ (m : (ℓ : Loc Cert.KeyStepIdeal.nD Cert.KeyStepIdeal.τ Cert.KeyStepIdeal.sig) → Buf (Elt Ideal) ℓ) (g : Dev Cert.KeyStepIdeal.nD → PrngReg), Pre_KeyStepIdeal m →
    θ_run (Cert.KeyStepIdeal.defs (F := Ideal)) (onTc (τ := Cert.KeyStepIdeal.τ) (Cert.KeyStepIdeal.main (F := Ideal))) ⟨m, fun _ => 0, g⟩ (fun r => (∀ c : Dev Cert.KeyStepIdeal.nD,
      r.2.mem ((c.tc : Thread Cert.KeyStepIdeal.nD Cert.KeyStepIdeal.τ).loc Cert.KeyStepIdeal.main_arg0) = m ((c.tc : Thread Cert.KeyStepIdeal.nD Cert.KeyStepIdeal.τ).loc Cert.KeyStepIdeal.main_arg0)
      ∧ r.2.mem ((c.tc : Thread Cert.KeyStepIdeal.nD Cert.KeyStepIdeal.τ).loc Cert.KeyStepIdeal.main_arg1) = m ((c.tc : Thread Cert.KeyStepIdeal.nD Cert.KeyStepIdeal.τ).loc Cert.KeyStepIdeal.main_arg1)
      ∧ r.2.mem ((c.tc : Thread Cert.KeyStepIdeal.nD Cert.KeyStepIdeal.τ).loc Cert.KeyStepIdeal.main_arg2) = m ((c.tc : Thread Cert.KeyStepIdeal.nD Cert.KeyStepIdeal.τ).loc Cert.KeyStepIdeal.main_arg2)
      ∧ r.2.mem ((c.tc : Thread Cert.KeyStepIdeal.nD Cert.KeyStepIdeal.τ).loc Cert.KeyStepIdeal.main_arg3) = m ((c.tc : Thread Cert.KeyStepIdeal.nD Cert.KeyStepIdeal.τ).loc Cert.KeyStepIdeal.main_arg3))
      ∧ r.2.sem = fun _ => 0)

def quiescent_KeyStepReferenceIdeal [hKeyStepReferenceIdeal : Cert.KeyStepReferenceIdeal.Facts] : Prop :=
  ∀ (m : (ℓ : Loc Cert.KeyStepReferenceIdeal.nD Cert.KeyStepReferenceIdeal.τ Cert.KeyStepReferenceIdeal.sig) → Buf (Elt Ideal) ℓ) (g : Dev Cert.KeyStepReferenceIdeal.nD → PrngReg), Pre_KeyStepReferenceIdeal m →
    θ_run (Cert.KeyStepReferenceIdeal.defs (F := Ideal)) (onTc (τ := Cert.KeyStepReferenceIdeal.τ) (Cert.KeyStepReferenceIdeal.main (F := Ideal))) ⟨m, fun _ => 0, g⟩ (fun r => (∀ c : Dev Cert.KeyStepReferenceIdeal.nD,
      r.2.mem ((c.tc : Thread Cert.KeyStepReferenceIdeal.nD Cert.KeyStepReferenceIdeal.τ).loc Cert.KeyStepReferenceIdeal.main_arg0) = m ((c.tc : Thread Cert.KeyStepReferenceIdeal.nD Cert.KeyStepReferenceIdeal.τ).loc Cert.KeyStepReferenceIdeal.main_arg0)
      ∧ r.2.mem ((c.tc : Thread Cert.KeyStepReferenceIdeal.nD Cert.KeyStepReferenceIdeal.τ).loc Cert.KeyStepReferenceIdeal.main_arg1) = m ((c.tc : Thread Cert.KeyStepReferenceIdeal.nD Cert.KeyStepReferenceIdeal.τ).loc Cert.KeyStepReferenceIdeal.main_arg1)
      ∧ r.2.mem ((c.tc : Thread Cert.KeyStepReferenceIdeal.nD Cert.KeyStepReferenceIdeal.τ).loc Cert.KeyStepReferenceIdeal.main_arg2) = m ((c.tc : Thread Cert.KeyStepReferenceIdeal.nD Cert.KeyStepReferenceIdeal.τ).loc Cert.KeyStepReferenceIdeal.main_arg2)
      ∧ r.2.mem ((c.tc : Thread Cert.KeyStepReferenceIdeal.nD Cert.KeyStepReferenceIdeal.τ).loc Cert.KeyStepReferenceIdeal.main_arg3) = m ((c.tc : Thread Cert.KeyStepReferenceIdeal.nD Cert.KeyStepReferenceIdeal.τ).loc Cert.KeyStepReferenceIdeal.main_arg3))
      ∧ r.2.sem = fun _ => 0)

def quiescent_OutStep [hOutStep : Cert.OutStep.Facts] : Prop :=
  ∀ (m : (ℓ : Loc Cert.OutStep.nD Cert.OutStep.τ Cert.OutStep.sig) → Buf (Elt Bits) ℓ) (g : Dev Cert.OutStep.nD → PrngReg), Pre_OutStep m →
    θ_run (Cert.OutStep.defs (F := Bits)) (onTc (τ := Cert.OutStep.τ) (Cert.OutStep.main (F := Bits))) ⟨m, fun _ => 0, g⟩ (fun r => (∀ c : Dev Cert.OutStep.nD,
      r.2.mem ((c.tc : Thread Cert.OutStep.nD Cert.OutStep.τ).loc Cert.OutStep.main_arg0) = m ((c.tc : Thread Cert.OutStep.nD Cert.OutStep.τ).loc Cert.OutStep.main_arg0)
      ∧ r.2.mem ((c.tc : Thread Cert.OutStep.nD Cert.OutStep.τ).loc Cert.OutStep.main_arg1) = m ((c.tc : Thread Cert.OutStep.nD Cert.OutStep.τ).loc Cert.OutStep.main_arg1)
      ∧ r.2.mem ((c.tc : Thread Cert.OutStep.nD Cert.OutStep.τ).loc Cert.OutStep.main_arg2) = m ((c.tc : Thread Cert.OutStep.nD Cert.OutStep.τ).loc Cert.OutStep.main_arg2)
      ∧ r.2.mem ((c.tc : Thread Cert.OutStep.nD Cert.OutStep.τ).loc Cert.OutStep.main_arg3) = m ((c.tc : Thread Cert.OutStep.nD Cert.OutStep.τ).loc Cert.OutStep.main_arg3))
      ∧ r.2.sem = fun _ => 0)

def quiescent_OutStepIdeal [hOutStepIdeal : Cert.OutStepIdeal.Facts] : Prop :=
  ∀ (m : (ℓ : Loc Cert.OutStepIdeal.nD Cert.OutStepIdeal.τ Cert.OutStepIdeal.sig) → Buf (Elt Ideal) ℓ) (g : Dev Cert.OutStepIdeal.nD → PrngReg), Pre_OutStepIdeal m →
    θ_run (Cert.OutStepIdeal.defs (F := Ideal)) (onTc (τ := Cert.OutStepIdeal.τ) (Cert.OutStepIdeal.main (F := Ideal))) ⟨m, fun _ => 0, g⟩ (fun r => (∀ c : Dev Cert.OutStepIdeal.nD,
      r.2.mem ((c.tc : Thread Cert.OutStepIdeal.nD Cert.OutStepIdeal.τ).loc Cert.OutStepIdeal.main_arg0) = m ((c.tc : Thread Cert.OutStepIdeal.nD Cert.OutStepIdeal.τ).loc Cert.OutStepIdeal.main_arg0)
      ∧ r.2.mem ((c.tc : Thread Cert.OutStepIdeal.nD Cert.OutStepIdeal.τ).loc Cert.OutStepIdeal.main_arg1) = m ((c.tc : Thread Cert.OutStepIdeal.nD Cert.OutStepIdeal.τ).loc Cert.OutStepIdeal.main_arg1)
      ∧ r.2.mem ((c.tc : Thread Cert.OutStepIdeal.nD Cert.OutStepIdeal.τ).loc Cert.OutStepIdeal.main_arg2) = m ((c.tc : Thread Cert.OutStepIdeal.nD Cert.OutStepIdeal.τ).loc Cert.OutStepIdeal.main_arg2)
      ∧ r.2.mem ((c.tc : Thread Cert.OutStepIdeal.nD Cert.OutStepIdeal.τ).loc Cert.OutStepIdeal.main_arg3) = m ((c.tc : Thread Cert.OutStepIdeal.nD Cert.OutStepIdeal.τ).loc Cert.OutStepIdeal.main_arg3))
      ∧ r.2.sem = fun _ => 0)

def quiescent_OutStepReferenceIdeal [hOutStepReferenceIdeal : Cert.OutStepReferenceIdeal.Facts] : Prop :=
  ∀ (m : (ℓ : Loc Cert.OutStepReferenceIdeal.nD Cert.OutStepReferenceIdeal.τ Cert.OutStepReferenceIdeal.sig) → Buf (Elt Ideal) ℓ) (g : Dev Cert.OutStepReferenceIdeal.nD → PrngReg), Pre_OutStepReferenceIdeal m →
    θ_run (Cert.OutStepReferenceIdeal.defs (F := Ideal)) (onTc (τ := Cert.OutStepReferenceIdeal.τ) (Cert.OutStepReferenceIdeal.main (F := Ideal))) ⟨m, fun _ => 0, g⟩ (fun r => (∀ c : Dev Cert.OutStepReferenceIdeal.nD,
      r.2.mem ((c.tc : Thread Cert.OutStepReferenceIdeal.nD Cert.OutStepReferenceIdeal.τ).loc Cert.OutStepReferenceIdeal.main_arg0) = m ((c.tc : Thread Cert.OutStepReferenceIdeal.nD Cert.OutStepReferenceIdeal.τ).loc Cert.OutStepReferenceIdeal.main_arg0)
      ∧ r.2.mem ((c.tc : Thread Cert.OutStepReferenceIdeal.nD Cert.OutStepReferenceIdeal.τ).loc Cert.OutStepReferenceIdeal.main_arg1) = m ((c.tc : Thread Cert.OutStepReferenceIdeal.nD Cert.OutStepReferenceIdeal.τ).loc Cert.OutStepReferenceIdeal.main_arg1)
      ∧ r.2.mem ((c.tc : Thread Cert.OutStepReferenceIdeal.nD Cert.OutStepReferenceIdeal.τ).loc Cert.OutStepReferenceIdeal.main_arg2) = m ((c.tc : Thread Cert.OutStepReferenceIdeal.nD Cert.OutStepReferenceIdeal.τ).loc Cert.OutStepReferenceIdeal.main_arg2)
      ∧ r.2.mem ((c.tc : Thread Cert.OutStepReferenceIdeal.nD Cert.OutStepReferenceIdeal.τ).loc Cert.OutStepReferenceIdeal.main_arg3) = m ((c.tc : Thread Cert.OutStepReferenceIdeal.nD Cert.OutStepReferenceIdeal.τ).loc Cert.OutStepReferenceIdeal.main_arg3))
      ∧ r.2.sem = fun _ => 0)

def quiescent_UpStep [hUpStep : Cert.UpStep.Facts] : Prop :=
  ∀ (m : (ℓ : Loc Cert.UpStep.nD Cert.UpStep.τ Cert.UpStep.sig) → Buf (Elt Bits) ℓ) (g : Dev Cert.UpStep.nD → PrngReg), Pre_UpStep m →
    θ_run (Cert.UpStep.defs (F := Bits)) (onTc (τ := Cert.UpStep.τ) (Cert.UpStep.main (F := Bits))) ⟨m, fun _ => 0, g⟩ (fun r => (∀ c : Dev Cert.UpStep.nD,
      r.2.mem ((c.tc : Thread Cert.UpStep.nD Cert.UpStep.τ).loc Cert.UpStep.main_arg0) = m ((c.tc : Thread Cert.UpStep.nD Cert.UpStep.τ).loc Cert.UpStep.main_arg0)
      ∧ r.2.mem ((c.tc : Thread Cert.UpStep.nD Cert.UpStep.τ).loc Cert.UpStep.main_arg1) = m ((c.tc : Thread Cert.UpStep.nD Cert.UpStep.τ).loc Cert.UpStep.main_arg1)
      ∧ r.2.mem ((c.tc : Thread Cert.UpStep.nD Cert.UpStep.τ).loc Cert.UpStep.main_arg2) = m ((c.tc : Thread Cert.UpStep.nD Cert.UpStep.τ).loc Cert.UpStep.main_arg2)
      ∧ r.2.mem ((c.tc : Thread Cert.UpStep.nD Cert.UpStep.τ).loc Cert.UpStep.main_arg3) = m ((c.tc : Thread Cert.UpStep.nD Cert.UpStep.τ).loc Cert.UpStep.main_arg3))
      ∧ r.2.sem = fun _ => 0)

def quiescent_UpStepIdeal [hUpStepIdeal : Cert.UpStepIdeal.Facts] : Prop :=
  ∀ (m : (ℓ : Loc Cert.UpStepIdeal.nD Cert.UpStepIdeal.τ Cert.UpStepIdeal.sig) → Buf (Elt Ideal) ℓ) (g : Dev Cert.UpStepIdeal.nD → PrngReg), Pre_UpStepIdeal m →
    θ_run (Cert.UpStepIdeal.defs (F := Ideal)) (onTc (τ := Cert.UpStepIdeal.τ) (Cert.UpStepIdeal.main (F := Ideal))) ⟨m, fun _ => 0, g⟩ (fun r => (∀ c : Dev Cert.UpStepIdeal.nD,
      r.2.mem ((c.tc : Thread Cert.UpStepIdeal.nD Cert.UpStepIdeal.τ).loc Cert.UpStepIdeal.main_arg0) = m ((c.tc : Thread Cert.UpStepIdeal.nD Cert.UpStepIdeal.τ).loc Cert.UpStepIdeal.main_arg0)
      ∧ r.2.mem ((c.tc : Thread Cert.UpStepIdeal.nD Cert.UpStepIdeal.τ).loc Cert.UpStepIdeal.main_arg1) = m ((c.tc : Thread Cert.UpStepIdeal.nD Cert.UpStepIdeal.τ).loc Cert.UpStepIdeal.main_arg1)
      ∧ r.2.mem ((c.tc : Thread Cert.UpStepIdeal.nD Cert.UpStepIdeal.τ).loc Cert.UpStepIdeal.main_arg2) = m ((c.tc : Thread Cert.UpStepIdeal.nD Cert.UpStepIdeal.τ).loc Cert.UpStepIdeal.main_arg2)
      ∧ r.2.mem ((c.tc : Thread Cert.UpStepIdeal.nD Cert.UpStepIdeal.τ).loc Cert.UpStepIdeal.main_arg3) = m ((c.tc : Thread Cert.UpStepIdeal.nD Cert.UpStepIdeal.τ).loc Cert.UpStepIdeal.main_arg3))
      ∧ r.2.sem = fun _ => 0)

def quiescent_UpStepReferenceIdeal [hUpStepReferenceIdeal : Cert.UpStepReferenceIdeal.Facts] : Prop :=
  ∀ (m : (ℓ : Loc Cert.UpStepReferenceIdeal.nD Cert.UpStepReferenceIdeal.τ Cert.UpStepReferenceIdeal.sig) → Buf (Elt Ideal) ℓ) (g : Dev Cert.UpStepReferenceIdeal.nD → PrngReg), Pre_UpStepReferenceIdeal m →
    θ_run (Cert.UpStepReferenceIdeal.defs (F := Ideal)) (onTc (τ := Cert.UpStepReferenceIdeal.τ) (Cert.UpStepReferenceIdeal.main (F := Ideal))) ⟨m, fun _ => 0, g⟩ (fun r => (∀ c : Dev Cert.UpStepReferenceIdeal.nD,
      r.2.mem ((c.tc : Thread Cert.UpStepReferenceIdeal.nD Cert.UpStepReferenceIdeal.τ).loc Cert.UpStepReferenceIdeal.main_arg0) = m ((c.tc : Thread Cert.UpStepReferenceIdeal.nD Cert.UpStepReferenceIdeal.τ).loc Cert.UpStepReferenceIdeal.main_arg0)
      ∧ r.2.mem ((c.tc : Thread Cert.UpStepReferenceIdeal.nD Cert.UpStepReferenceIdeal.τ).loc Cert.UpStepReferenceIdeal.main_arg1) = m ((c.tc : Thread Cert.UpStepReferenceIdeal.nD Cert.UpStepReferenceIdeal.τ).loc Cert.UpStepReferenceIdeal.main_arg1)
      ∧ r.2.mem ((c.tc : Thread Cert.UpStepReferenceIdeal.nD Cert.UpStepReferenceIdeal.τ).loc Cert.UpStepReferenceIdeal.main_arg2) = m ((c.tc : Thread Cert.UpStepReferenceIdeal.nD Cert.UpStepReferenceIdeal.τ).loc Cert.UpStepReferenceIdeal.main_arg2)
      ∧ r.2.mem ((c.tc : Thread Cert.UpStepReferenceIdeal.nD Cert.UpStepReferenceIdeal.τ).loc Cert.UpStepReferenceIdeal.main_arg3) = m ((c.tc : Thread Cert.UpStepReferenceIdeal.nD Cert.UpStepReferenceIdeal.τ).loc Cert.UpStepReferenceIdeal.main_arg3))
      ∧ r.2.sem = fun _ => 0)

def quiescent_GateStep [hGateStep : Cert.GateStep.Facts] : Prop :=
  ∀ (m : (ℓ : Loc Cert.GateStep.nD Cert.GateStep.τ Cert.GateStep.sig) → Buf (Elt Bits) ℓ) (g : Dev Cert.GateStep.nD → PrngReg), Pre_GateStep m →
    θ_run (Cert.GateStep.defs (F := Bits)) (onTc (τ := Cert.GateStep.τ) (Cert.GateStep.main (F := Bits))) ⟨m, fun _ => 0, g⟩ (fun r => (∀ c : Dev Cert.GateStep.nD,
      r.2.mem ((c.tc : Thread Cert.GateStep.nD Cert.GateStep.τ).loc Cert.GateStep.main_arg0) = m ((c.tc : Thread Cert.GateStep.nD Cert.GateStep.τ).loc Cert.GateStep.main_arg0)
      ∧ r.2.mem ((c.tc : Thread Cert.GateStep.nD Cert.GateStep.τ).loc Cert.GateStep.main_arg1) = m ((c.tc : Thread Cert.GateStep.nD Cert.GateStep.τ).loc Cert.GateStep.main_arg1)
      ∧ r.2.mem ((c.tc : Thread Cert.GateStep.nD Cert.GateStep.τ).loc Cert.GateStep.main_arg2) = m ((c.tc : Thread Cert.GateStep.nD Cert.GateStep.τ).loc Cert.GateStep.main_arg2)
      ∧ r.2.mem ((c.tc : Thread Cert.GateStep.nD Cert.GateStep.τ).loc Cert.GateStep.main_arg3) = m ((c.tc : Thread Cert.GateStep.nD Cert.GateStep.τ).loc Cert.GateStep.main_arg3))
      ∧ r.2.sem = fun _ => 0)

def quiescent_GateStepIdeal [hGateStepIdeal : Cert.GateStepIdeal.Facts] : Prop :=
  ∀ (m : (ℓ : Loc Cert.GateStepIdeal.nD Cert.GateStepIdeal.τ Cert.GateStepIdeal.sig) → Buf (Elt Ideal) ℓ) (g : Dev Cert.GateStepIdeal.nD → PrngReg), Pre_GateStepIdeal m →
    θ_run (Cert.GateStepIdeal.defs (F := Ideal)) (onTc (τ := Cert.GateStepIdeal.τ) (Cert.GateStepIdeal.main (F := Ideal))) ⟨m, fun _ => 0, g⟩ (fun r => (∀ c : Dev Cert.GateStepIdeal.nD,
      r.2.mem ((c.tc : Thread Cert.GateStepIdeal.nD Cert.GateStepIdeal.τ).loc Cert.GateStepIdeal.main_arg0) = m ((c.tc : Thread Cert.GateStepIdeal.nD Cert.GateStepIdeal.τ).loc Cert.GateStepIdeal.main_arg0)
      ∧ r.2.mem ((c.tc : Thread Cert.GateStepIdeal.nD Cert.GateStepIdeal.τ).loc Cert.GateStepIdeal.main_arg1) = m ((c.tc : Thread Cert.GateStepIdeal.nD Cert.GateStepIdeal.τ).loc Cert.GateStepIdeal.main_arg1)
      ∧ r.2.mem ((c.tc : Thread Cert.GateStepIdeal.nD Cert.GateStepIdeal.τ).loc Cert.GateStepIdeal.main_arg2) = m ((c.tc : Thread Cert.GateStepIdeal.nD Cert.GateStepIdeal.τ).loc Cert.GateStepIdeal.main_arg2)
      ∧ r.2.mem ((c.tc : Thread Cert.GateStepIdeal.nD Cert.GateStepIdeal.τ).loc Cert.GateStepIdeal.main_arg3) = m ((c.tc : Thread Cert.GateStepIdeal.nD Cert.GateStepIdeal.τ).loc Cert.GateStepIdeal.main_arg3))
      ∧ r.2.sem = fun _ => 0)

def quiescent_GateStepReferenceIdeal [hGateStepReferenceIdeal : Cert.GateStepReferenceIdeal.Facts] : Prop :=
  ∀ (m : (ℓ : Loc Cert.GateStepReferenceIdeal.nD Cert.GateStepReferenceIdeal.τ Cert.GateStepReferenceIdeal.sig) → Buf (Elt Ideal) ℓ) (g : Dev Cert.GateStepReferenceIdeal.nD → PrngReg), Pre_GateStepReferenceIdeal m →
    θ_run (Cert.GateStepReferenceIdeal.defs (F := Ideal)) (onTc (τ := Cert.GateStepReferenceIdeal.τ) (Cert.GateStepReferenceIdeal.main (F := Ideal))) ⟨m, fun _ => 0, g⟩ (fun r => (∀ c : Dev Cert.GateStepReferenceIdeal.nD,
      r.2.mem ((c.tc : Thread Cert.GateStepReferenceIdeal.nD Cert.GateStepReferenceIdeal.τ).loc Cert.GateStepReferenceIdeal.main_arg0) = m ((c.tc : Thread Cert.GateStepReferenceIdeal.nD Cert.GateStepReferenceIdeal.τ).loc Cert.GateStepReferenceIdeal.main_arg0)
      ∧ r.2.mem ((c.tc : Thread Cert.GateStepReferenceIdeal.nD Cert.GateStepReferenceIdeal.τ).loc Cert.GateStepReferenceIdeal.main_arg1) = m ((c.tc : Thread Cert.GateStepReferenceIdeal.nD Cert.GateStepReferenceIdeal.τ).loc Cert.GateStepReferenceIdeal.main_arg1)
      ∧ r.2.mem ((c.tc : Thread Cert.GateStepReferenceIdeal.nD Cert.GateStepReferenceIdeal.τ).loc Cert.GateStepReferenceIdeal.main_arg2) = m ((c.tc : Thread Cert.GateStepReferenceIdeal.nD Cert.GateStepReferenceIdeal.τ).loc Cert.GateStepReferenceIdeal.main_arg2)
      ∧ r.2.mem ((c.tc : Thread Cert.GateStepReferenceIdeal.nD Cert.GateStepReferenceIdeal.τ).loc Cert.GateStepReferenceIdeal.main_arg3) = m ((c.tc : Thread Cert.GateStepReferenceIdeal.nD Cert.GateStepReferenceIdeal.τ).loc Cert.GateStepReferenceIdeal.main_arg3))
      ∧ r.2.sem = fun _ => 0)

def quiescent_DownStep [hDownStep : Cert.DownStep.Facts] : Prop :=
  ∀ (m : (ℓ : Loc Cert.DownStep.nD Cert.DownStep.τ Cert.DownStep.sig) → Buf (Elt Bits) ℓ) (g : Dev Cert.DownStep.nD → PrngReg), Pre_DownStep m →
    θ_run (Cert.DownStep.defs (F := Bits)) (onTc (τ := Cert.DownStep.τ) (Cert.DownStep.main (F := Bits))) ⟨m, fun _ => 0, g⟩ (fun r => (∀ c : Dev Cert.DownStep.nD,
      r.2.mem ((c.tc : Thread Cert.DownStep.nD Cert.DownStep.τ).loc Cert.DownStep.main_arg0) = m ((c.tc : Thread Cert.DownStep.nD Cert.DownStep.τ).loc Cert.DownStep.main_arg0)
      ∧ r.2.mem ((c.tc : Thread Cert.DownStep.nD Cert.DownStep.τ).loc Cert.DownStep.main_arg1) = m ((c.tc : Thread Cert.DownStep.nD Cert.DownStep.τ).loc Cert.DownStep.main_arg1)
      ∧ r.2.mem ((c.tc : Thread Cert.DownStep.nD Cert.DownStep.τ).loc Cert.DownStep.main_arg2) = m ((c.tc : Thread Cert.DownStep.nD Cert.DownStep.τ).loc Cert.DownStep.main_arg2)
      ∧ r.2.mem ((c.tc : Thread Cert.DownStep.nD Cert.DownStep.τ).loc Cert.DownStep.main_arg3) = m ((c.tc : Thread Cert.DownStep.nD Cert.DownStep.τ).loc Cert.DownStep.main_arg3))
      ∧ r.2.sem = fun _ => 0)

def quiescent_DownStepIdeal [hDownStepIdeal : Cert.DownStepIdeal.Facts] : Prop :=
  ∀ (m : (ℓ : Loc Cert.DownStepIdeal.nD Cert.DownStepIdeal.τ Cert.DownStepIdeal.sig) → Buf (Elt Ideal) ℓ) (g : Dev Cert.DownStepIdeal.nD → PrngReg), Pre_DownStepIdeal m →
    θ_run (Cert.DownStepIdeal.defs (F := Ideal)) (onTc (τ := Cert.DownStepIdeal.τ) (Cert.DownStepIdeal.main (F := Ideal))) ⟨m, fun _ => 0, g⟩ (fun r => (∀ c : Dev Cert.DownStepIdeal.nD,
      r.2.mem ((c.tc : Thread Cert.DownStepIdeal.nD Cert.DownStepIdeal.τ).loc Cert.DownStepIdeal.main_arg0) = m ((c.tc : Thread Cert.DownStepIdeal.nD Cert.DownStepIdeal.τ).loc Cert.DownStepIdeal.main_arg0)
      ∧ r.2.mem ((c.tc : Thread Cert.DownStepIdeal.nD Cert.DownStepIdeal.τ).loc Cert.DownStepIdeal.main_arg1) = m ((c.tc : Thread Cert.DownStepIdeal.nD Cert.DownStepIdeal.τ).loc Cert.DownStepIdeal.main_arg1)
      ∧ r.2.mem ((c.tc : Thread Cert.DownStepIdeal.nD Cert.DownStepIdeal.τ).loc Cert.DownStepIdeal.main_arg2) = m ((c.tc : Thread Cert.DownStepIdeal.nD Cert.DownStepIdeal.τ).loc Cert.DownStepIdeal.main_arg2)
      ∧ r.2.mem ((c.tc : Thread Cert.DownStepIdeal.nD Cert.DownStepIdeal.τ).loc Cert.DownStepIdeal.main_arg3) = m ((c.tc : Thread Cert.DownStepIdeal.nD Cert.DownStepIdeal.τ).loc Cert.DownStepIdeal.main_arg3))
      ∧ r.2.sem = fun _ => 0)

def quiescent_DownStepReferenceIdeal [hDownStepReferenceIdeal : Cert.DownStepReferenceIdeal.Facts] : Prop :=
  ∀ (m : (ℓ : Loc Cert.DownStepReferenceIdeal.nD Cert.DownStepReferenceIdeal.τ Cert.DownStepReferenceIdeal.sig) → Buf (Elt Ideal) ℓ) (g : Dev Cert.DownStepReferenceIdeal.nD → PrngReg), Pre_DownStepReferenceIdeal m →
    θ_run (Cert.DownStepReferenceIdeal.defs (F := Ideal)) (onTc (τ := Cert.DownStepReferenceIdeal.τ) (Cert.DownStepReferenceIdeal.main (F := Ideal))) ⟨m, fun _ => 0, g⟩ (fun r => (∀ c : Dev Cert.DownStepReferenceIdeal.nD,
      r.2.mem ((c.tc : Thread Cert.DownStepReferenceIdeal.nD Cert.DownStepReferenceIdeal.τ).loc Cert.DownStepReferenceIdeal.main_arg0) = m ((c.tc : Thread Cert.DownStepReferenceIdeal.nD Cert.DownStepReferenceIdeal.τ).loc Cert.DownStepReferenceIdeal.main_arg0)
      ∧ r.2.mem ((c.tc : Thread Cert.DownStepReferenceIdeal.nD Cert.DownStepReferenceIdeal.τ).loc Cert.DownStepReferenceIdeal.main_arg1) = m ((c.tc : Thread Cert.DownStepReferenceIdeal.nD Cert.DownStepReferenceIdeal.τ).loc Cert.DownStepReferenceIdeal.main_arg1)
      ∧ r.2.mem ((c.tc : Thread Cert.DownStepReferenceIdeal.nD Cert.DownStepReferenceIdeal.τ).loc Cert.DownStepReferenceIdeal.main_arg2) = m ((c.tc : Thread Cert.DownStepReferenceIdeal.nD Cert.DownStepReferenceIdeal.τ).loc Cert.DownStepReferenceIdeal.main_arg2)
      ∧ r.2.mem ((c.tc : Thread Cert.DownStepReferenceIdeal.nD Cert.DownStepReferenceIdeal.τ).loc Cert.DownStepReferenceIdeal.main_arg3) = m ((c.tc : Thread Cert.DownStepReferenceIdeal.nD Cert.DownStepReferenceIdeal.τ).loc Cert.DownStepReferenceIdeal.main_arg3))
      ∧ r.2.sem = fun _ => 0)

def preserves_Kernel_KernelIdeal : Prop :=
  IdealRules.named_const.Statement Cert.KernelIdeal.κ "scale" .f32 0x3D93CD3A#32 (((Real.sqrt 192)⁻¹ : ℝ) : EReal)
  ∧ IdealRules.named_const.Statement Cert.KernelIdeal.κ "unprescale" .f32 0x4119AC27#32 (((Real.sqrt 192) * (Real.log 2) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v86_0)) (v1 : (c : Dev Cert.KernelIdeal.nD) → Buf (Elt Ideal) ((c.tc : Thread Cert.KernelIdeal.nD Cert.KernelIdeal.τ).loc Cert.KernelIdeal.main_v86_1)) (v2 : (c : Dev Cert.KernelIdeal.nD) → Buf (Elt Ideal) ((c.tc : Thread Cert.KernelIdeal.nD Cert.KernelIdeal.τ).loc Cert.KernelIdeal.main_v86_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86_0) = v0 c
          ∧ r.2.mem ((c.tc : Thread Cert.KernelIdeal.nD Cert.KernelIdeal.τ).loc Cert.KernelIdeal.main_v86_1) = v1 c
          ∧ r.2.mem ((c.tc : Thread Cert.KernelIdeal.nD Cert.KernelIdeal.τ).loc Cert.KernelIdeal.main_v86_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_UpData_UpDataIdeal : Prop :=
  True

def algebraic_UpDataIdeal_UpDataReferenceIdeal [hUpDataIdeal : Cert.UpDataIdeal.Facts] [hUpDataReferenceIdeal : Cert.UpDataReferenceIdeal.Facts] : Prop :=
  ∀ (m : (ℓ : Loc Cert.UpDataIdeal.nD Cert.UpDataIdeal.τ Cert.UpDataIdeal.sig) → Buf (Elt Ideal) ℓ) (g : Dev Cert.UpDataIdeal.nD → PrngReg)
    (m' : (ℓ : Loc Cert.UpDataReferenceIdeal.nD Cert.UpDataReferenceIdeal.τ Cert.UpDataReferenceIdeal.sig) → Buf (Elt Ideal) ℓ) (g' : Dev Cert.UpDataReferenceIdeal.nD → PrngReg), Pre_UpDataIdeal m →
    (∀ c : Dev Cert.UpDataIdeal.nD,
      m' ((c.tc : Thread Cert.UpDataReferenceIdeal.nD Cert.UpDataReferenceIdeal.τ).loc Cert.UpDataReferenceIdeal.main_arg0) = m ((c.tc : Thread Cert.UpDataIdeal.nD Cert.UpDataIdeal.τ).loc Cert.UpDataIdeal.main_arg0)
      ∧ m' ((c.tc : Thread Cert.UpDataReferenceIdeal.nD Cert.UpDataReferenceIdeal.τ).loc Cert.UpDataReferenceIdeal.main_arg1) = m ((c.tc : Thread Cert.UpDataIdeal.nD Cert.UpDataIdeal.τ).loc Cert.UpDataIdeal.main_arg1)
      ∧ m' ((c.tc : Thread Cert.UpDataReferenceIdeal.nD Cert.UpDataReferenceIdeal.τ).loc Cert.UpDataReferenceIdeal.main_arg2) = m ((c.tc : Thread Cert.UpDataIdeal.nD Cert.UpDataIdeal.τ).loc Cert.UpDataIdeal.main_arg2)) →
    ∃ (v0 : (c : Dev Cert.UpDataIdeal.nD) → Buf (Elt Ideal) ((c.tc : Thread Cert.UpDataIdeal.nD Cert.UpDataIdeal.τ).loc Cert.UpDataIdeal.main_v0)),
      θ_run (Cert.UpDataIdeal.defs (F := Ideal)) (onTc (τ := Cert.UpDataIdeal.τ) (Cert.UpDataIdeal.main (F := Ideal))) ⟨m, fun _ => 0, g⟩ (fun r => ∀ c : Dev Cert.UpDataIdeal.nD,
          r.2.mem ((c.tc : Thread Cert.UpDataIdeal.nD Cert.UpDataIdeal.τ).loc Cert.UpDataIdeal.main_v0) = v0 c
          ∧ r.2.mem ((c.tc : Thread Cert.UpDataIdeal.nD Cert.UpDataIdeal.τ).loc Cert.UpDataIdeal.main_arg0) = m ((c.tc : Thread Cert.UpDataIdeal.nD Cert.UpDataIdeal.τ).loc Cert.UpDataIdeal.main_arg0)
          ∧ r.2.mem ((c.tc : Thread Cert.UpDataIdeal.nD Cert.UpDataIdeal.τ).loc Cert.UpDataIdeal.main_arg1) = m ((c.tc : Thread Cert.UpDataIdeal.nD Cert.UpDataIdeal.τ).loc Cert.UpDataIdeal.main_arg1)
          ∧ r.2.mem ((c.tc : Thread Cert.UpDataIdeal.nD Cert.UpDataIdeal.τ).loc Cert.UpDataIdeal.main_arg2) = m ((c.tc : Thread Cert.UpDataIdeal.nD Cert.UpDataIdeal.τ).loc Cert.UpDataIdeal.main_arg2))
      ∧ θ_run (Cert.UpDataReferenceIdeal.defs (F := Ideal)) (onTc (τ := Cert.UpDataReferenceIdeal.τ) (Cert.UpDataReferenceIdeal.main (F := Ideal))) ⟨m', fun _ => 0, g'⟩ (fun r => ∀ c : Dev Cert.UpDataReferenceIdeal.nD,
          r.2.mem ((c.tc : Thread Cert.UpDataReferenceIdeal.nD Cert.UpDataReferenceIdeal.τ).loc Cert.UpDataReferenceIdeal.main_v7) = v0 c
          ∧ r.2.mem ((c.tc : Thread Cert.UpDataReferenceIdeal.nD Cert.UpDataReferenceIdeal.τ).loc Cert.UpDataReferenceIdeal.main_arg0) = m' ((c.tc : Thread Cert.UpDataReferenceIdeal.nD Cert.UpDataReferenceIdeal.τ).loc Cert.UpDataReferenceIdeal.main_arg0)
          ∧ r.2.mem ((c.tc : Thread Cert.UpDataReferenceIdeal.nD Cert.UpDataReferenceIdeal.τ).loc Cert.UpDataReferenceIdeal.main_arg1) = m' ((c.tc : Thread Cert.UpDataReferenceIdeal.nD Cert.UpDataReferenceIdeal.τ).loc Cert.UpDataReferenceIdeal.main_arg1)
          ∧ r.2.mem ((c.tc : Thread Cert.UpDataReferenceIdeal.nD Cert.UpDataReferenceIdeal.τ).loc Cert.UpDataReferenceIdeal.main_arg2) = m' ((c.tc : Thread Cert.UpDataReferenceIdeal.nD Cert.UpDataReferenceIdeal.τ).loc Cert.UpDataReferenceIdeal.main_arg2))

def preserves_DownData_DownDataIdeal : Prop :=
  True

def algebraic_DownDataIdeal_DownDataReferenceIdeal [hDownDataIdeal : Cert.DownDataIdeal.Facts] [hDownDataReferenceIdeal : Cert.DownDataReferenceIdeal.Facts] : Prop :=
  ∀ (m : (ℓ : Loc Cert.DownDataIdeal.nD Cert.DownDataIdeal.τ Cert.DownDataIdeal.sig) → Buf (Elt Ideal) ℓ) (g : Dev Cert.DownDataIdeal.nD → PrngReg)
    (m' : (ℓ : Loc Cert.DownDataReferenceIdeal.nD Cert.DownDataReferenceIdeal.τ Cert.DownDataReferenceIdeal.sig) → Buf (Elt Ideal) ℓ) (g' : Dev Cert.DownDataReferenceIdeal.nD → PrngReg), Pre_DownDataIdeal m →
    (∀ c : Dev Cert.DownDataIdeal.nD,
      m' ((c.tc : Thread Cert.DownDataReferenceIdeal.nD Cert.DownDataReferenceIdeal.τ).loc Cert.DownDataReferenceIdeal.main_arg0) = m ((c.tc : Thread Cert.DownDataIdeal.nD Cert.DownDataIdeal.τ).loc Cert.DownDataIdeal.main_arg0)
      ∧ m' ((c.tc : Thread Cert.DownDataReferenceIdeal.nD Cert.DownDataReferenceIdeal.τ).loc Cert.DownDataReferenceIdeal.main_arg1) = m ((c.tc : Thread Cert.DownDataIdeal.nD Cert.DownDataIdeal.τ).loc Cert.DownDataIdeal.main_arg1)) →
    ∃ (v0 : (c : Dev Cert.DownDataIdeal.nD) → Buf (Elt Ideal) ((c.tc : Thread Cert.DownDataIdeal.nD Cert.DownDataIdeal.τ).loc Cert.DownDataIdeal.main_v0)),
      θ_run (Cert.DownDataIdeal.defs (F := Ideal)) (onTc (τ := Cert.DownDataIdeal.τ) (Cert.DownDataIdeal.main (F := Ideal))) ⟨m, fun _ => 0, g⟩ (fun r => ∀ c : Dev Cert.DownDataIdeal.nD,
          r.2.mem ((c.tc : Thread Cert.DownDataIdeal.nD Cert.DownDataIdeal.τ).loc Cert.DownDataIdeal.main_v0) = v0 c
          ∧ r.2.mem ((c.tc : Thread Cert.DownDataIdeal.nD Cert.DownDataIdeal.τ).loc Cert.DownDataIdeal.main_arg0) = m ((c.tc : Thread Cert.DownDataIdeal.nD Cert.DownDataIdeal.τ).loc Cert.DownDataIdeal.main_arg0)
          ∧ r.2.mem ((c.tc : Thread Cert.DownDataIdeal.nD Cert.DownDataIdeal.τ).loc Cert.DownDataIdeal.main_arg1) = m ((c.tc : Thread Cert.DownDataIdeal.nD Cert.DownDataIdeal.τ).loc Cert.DownDataIdeal.main_arg1))
      ∧ θ_run (Cert.DownDataReferenceIdeal.defs (F := Ideal)) (onTc (τ := Cert.DownDataReferenceIdeal.τ) (Cert.DownDataReferenceIdeal.main (F := Ideal))) ⟨m', fun _ => 0, g'⟩ (fun r => ∀ c : Dev Cert.DownDataReferenceIdeal.nD,
          r.2.mem ((c.tc : Thread Cert.DownDataReferenceIdeal.nD Cert.DownDataReferenceIdeal.τ).loc Cert.DownDataReferenceIdeal.main_v6) = v0 c
          ∧ r.2.mem ((c.tc : Thread Cert.DownDataReferenceIdeal.nD Cert.DownDataReferenceIdeal.τ).loc Cert.DownDataReferenceIdeal.main_arg0) = m' ((c.tc : Thread Cert.DownDataReferenceIdeal.nD Cert.DownDataReferenceIdeal.τ).loc Cert.DownDataReferenceIdeal.main_arg0)
          ∧ r.2.mem ((c.tc : Thread Cert.DownDataReferenceIdeal.nD Cert.DownDataReferenceIdeal.τ).loc Cert.DownDataReferenceIdeal.main_arg1) = m' ((c.tc : Thread Cert.DownDataReferenceIdeal.nD Cert.DownDataReferenceIdeal.τ).loc Cert.DownDataReferenceIdeal.main_arg1))

def preserves_InData_InDataIdeal : Prop :=
  True

def algebraic_InDataIdeal_InDataReferenceIdeal [hInDataIdeal : Cert.InDataIdeal.Facts] [hInDataReferenceIdeal : Cert.InDataReferenceIdeal.Facts] : Prop :=
  ∀ (m : (ℓ : Loc Cert.InDataIdeal.nD Cert.InDataIdeal.τ Cert.InDataIdeal.sig) → Buf (Elt Ideal) ℓ) (g : Dev Cert.InDataIdeal.nD → PrngReg)
    (m' : (ℓ : Loc Cert.InDataReferenceIdeal.nD Cert.InDataReferenceIdeal.τ Cert.InDataReferenceIdeal.sig) → Buf (Elt Ideal) ℓ) (g' : Dev Cert.InDataReferenceIdeal.nD → PrngReg), Pre_InDataIdeal m →
    (∀ c : Dev Cert.InDataIdeal.nD,
      m' ((c.tc : Thread Cert.InDataReferenceIdeal.nD Cert.InDataReferenceIdeal.τ).loc Cert.InDataReferenceIdeal.main_arg0) = m ((c.tc : Thread Cert.InDataIdeal.nD Cert.InDataIdeal.τ).loc Cert.InDataIdeal.main_arg0)
      ∧ m' ((c.tc : Thread Cert.InDataReferenceIdeal.nD Cert.InDataReferenceIdeal.τ).loc Cert.InDataReferenceIdeal.main_arg1) = m ((c.tc : Thread Cert.InDataIdeal.nD Cert.InDataIdeal.τ).loc Cert.InDataIdeal.main_arg1)) →
    ∃ (v0 : (c : Dev Cert.InDataIdeal.nD) → Buf (Elt Ideal) ((c.tc : Thread Cert.InDataIdeal.nD Cert.InDataIdeal.τ).loc Cert.InDataIdeal.main_v0)),
      θ_run (Cert.InDataIdeal.defs (F := Ideal)) (onTc (τ := Cert.InDataIdeal.τ) (Cert.InDataIdeal.main (F := Ideal))) ⟨m, fun _ => 0, g⟩ (fun r => ∀ c : Dev Cert.InDataIdeal.nD,
          r.2.mem ((c.tc : Thread Cert.InDataIdeal.nD Cert.InDataIdeal.τ).loc Cert.InDataIdeal.main_v0) = v0 c
          ∧ r.2.mem ((c.tc : Thread Cert.InDataIdeal.nD Cert.InDataIdeal.τ).loc Cert.InDataIdeal.main_arg0) = m ((c.tc : Thread Cert.InDataIdeal.nD Cert.InDataIdeal.τ).loc Cert.InDataIdeal.main_arg0)
          ∧ r.2.mem ((c.tc : Thread Cert.InDataIdeal.nD Cert.InDataIdeal.τ).loc Cert.InDataIdeal.main_arg1) = m ((c.tc : Thread Cert.InDataIdeal.nD Cert.InDataIdeal.τ).loc Cert.InDataIdeal.main_arg1))
      ∧ θ_run (Cert.InDataReferenceIdeal.defs (F := Ideal)) (onTc (τ := Cert.InDataReferenceIdeal.τ) (Cert.InDataReferenceIdeal.main (F := Ideal))) ⟨m', fun _ => 0, g'⟩ (fun r => ∀ c : Dev Cert.InDataReferenceIdeal.nD,
          r.2.mem ((c.tc : Thread Cert.InDataReferenceIdeal.nD Cert.InDataReferenceIdeal.τ).loc Cert.InDataReferenceIdeal.main_v6) = v0 c
          ∧ r.2.mem ((c.tc : Thread Cert.InDataReferenceIdeal.nD Cert.InDataReferenceIdeal.τ).loc Cert.InDataReferenceIdeal.main_arg0) = m' ((c.tc : Thread Cert.InDataReferenceIdeal.nD Cert.InDataReferenceIdeal.τ).loc Cert.InDataReferenceIdeal.main_arg0)
          ∧ r.2.mem ((c.tc : Thread Cert.InDataReferenceIdeal.nD Cert.InDataReferenceIdeal.τ).loc Cert.InDataReferenceIdeal.main_arg1) = m' ((c.tc : Thread Cert.InDataReferenceIdeal.nD Cert.InDataReferenceIdeal.τ).loc Cert.InDataReferenceIdeal.main_arg1))

def preserves_OutData_OutDataIdeal : Prop :=
  True

def algebraic_OutDataIdeal_OutDataReferenceIdeal [hOutDataIdeal : Cert.OutDataIdeal.Facts] [hOutDataReferenceIdeal : Cert.OutDataReferenceIdeal.Facts] : Prop :=
  ∀ (m : (ℓ : Loc Cert.OutDataIdeal.nD Cert.OutDataIdeal.τ Cert.OutDataIdeal.sig) → Buf (Elt Ideal) ℓ) (g : Dev Cert.OutDataIdeal.nD → PrngReg)
    (m' : (ℓ : Loc Cert.OutDataReferenceIdeal.nD Cert.OutDataReferenceIdeal.τ Cert.OutDataReferenceIdeal.sig) → Buf (Elt Ideal) ℓ) (g' : Dev Cert.OutDataReferenceIdeal.nD → PrngReg), Pre_OutDataIdeal m →
    (∀ c : Dev Cert.OutDataIdeal.nD,
      m' ((c.tc : Thread Cert.OutDataReferenceIdeal.nD Cert.OutDataReferenceIdeal.τ).loc Cert.OutDataReferenceIdeal.main_arg0) = m ((c.tc : Thread Cert.OutDataIdeal.nD Cert.OutDataIdeal.τ).loc Cert.OutDataIdeal.main_arg0)
      ∧ m' ((c.tc : Thread Cert.OutDataReferenceIdeal.nD Cert.OutDataReferenceIdeal.τ).loc Cert.OutDataReferenceIdeal.main_arg1) = m ((c.tc : Thread Cert.OutDataIdeal.nD Cert.OutDataIdeal.τ).loc Cert.OutDataIdeal.main_arg1)) →
    ∃ (v0 : (c : Dev Cert.OutDataIdeal.nD) → Buf (Elt Ideal) ((c.tc : Thread Cert.OutDataIdeal.nD Cert.OutDataIdeal.τ).loc Cert.OutDataIdeal.main_v0)),
      θ_run (Cert.OutDataIdeal.defs (F := Ideal)) (onTc (τ := Cert.OutDataIdeal.τ) (Cert.OutDataIdeal.main (F := Ideal))) ⟨m, fun _ => 0, g⟩ (fun r => ∀ c : Dev Cert.OutDataIdeal.nD,
          r.2.mem ((c.tc : Thread Cert.OutDataIdeal.nD Cert.OutDataIdeal.τ).loc Cert.OutDataIdeal.main_v0) = v0 c
          ∧ r.2.mem ((c.tc : Thread Cert.OutDataIdeal.nD Cert.OutDataIdeal.τ).loc Cert.OutDataIdeal.main_arg0) = m ((c.tc : Thread Cert.OutDataIdeal.nD Cert.OutDataIdeal.τ).loc Cert.OutDataIdeal.main_arg0)
          ∧ r.2.mem ((c.tc : Thread Cert.OutDataIdeal.nD Cert.OutDataIdeal.τ).loc Cert.OutDataIdeal.main_arg1) = m ((c.tc : Thread Cert.OutDataIdeal.nD Cert.OutDataIdeal.τ).loc Cert.OutDataIdeal.main_arg1))
      ∧ θ_run (Cert.OutDataReferenceIdeal.defs (F := Ideal)) (onTc (τ := Cert.OutDataReferenceIdeal.τ) (Cert.OutDataReferenceIdeal.main (F := Ideal))) ⟨m', fun _ => 0, g'⟩ (fun r => ∀ c : Dev Cert.OutDataReferenceIdeal.nD,
          r.2.mem ((c.tc : Thread Cert.OutDataReferenceIdeal.nD Cert.OutDataReferenceIdeal.τ).loc Cert.OutDataReferenceIdeal.main_v6) = v0 c
          ∧ r.2.mem ((c.tc : Thread Cert.OutDataReferenceIdeal.nD Cert.OutDataReferenceIdeal.τ).loc Cert.OutDataReferenceIdeal.main_arg0) = m' ((c.tc : Thread Cert.OutDataReferenceIdeal.nD Cert.OutDataReferenceIdeal.τ).loc Cert.OutDataReferenceIdeal.main_arg0)
          ∧ r.2.mem ((c.tc : Thread Cert.OutDataReferenceIdeal.nD Cert.OutDataReferenceIdeal.τ).loc Cert.OutDataReferenceIdeal.main_arg1) = m' ((c.tc : Thread Cert.OutDataReferenceIdeal.nD Cert.OutDataReferenceIdeal.τ).loc Cert.OutDataReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v5) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v4) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v4) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_UpDataFirst_UpDataFirstIdeal : Prop :=
  True

def algebraic_UpDataFirstIdeal_UpDataFirstReferenceIdeal [hUpDataFirstIdeal : Cert.UpDataFirstIdeal.Facts] [hUpDataFirstReferenceIdeal : Cert.UpDataFirstReferenceIdeal.Facts] : Prop :=
  ∀ (m : (ℓ : Loc Cert.UpDataFirstIdeal.nD Cert.UpDataFirstIdeal.τ Cert.UpDataFirstIdeal.sig) → Buf (Elt Ideal) ℓ) (g : Dev Cert.UpDataFirstIdeal.nD → PrngReg)
    (m' : (ℓ : Loc Cert.UpDataFirstReferenceIdeal.nD Cert.UpDataFirstReferenceIdeal.τ Cert.UpDataFirstReferenceIdeal.sig) → Buf (Elt Ideal) ℓ) (g' : Dev Cert.UpDataFirstReferenceIdeal.nD → PrngReg), Pre_UpDataFirstIdeal m →
    (∀ c : Dev Cert.UpDataFirstIdeal.nD,
      m' ((c.tc : Thread Cert.UpDataFirstReferenceIdeal.nD Cert.UpDataFirstReferenceIdeal.τ).loc Cert.UpDataFirstReferenceIdeal.main_arg0) = m ((c.tc : Thread Cert.UpDataFirstIdeal.nD Cert.UpDataFirstIdeal.τ).loc Cert.UpDataFirstIdeal.main_arg0)
      ∧ m' ((c.tc : Thread Cert.UpDataFirstReferenceIdeal.nD Cert.UpDataFirstReferenceIdeal.τ).loc Cert.UpDataFirstReferenceIdeal.main_arg1) = m ((c.tc : Thread Cert.UpDataFirstIdeal.nD Cert.UpDataFirstIdeal.τ).loc Cert.UpDataFirstIdeal.main_arg1)
      ∧ m' ((c.tc : Thread Cert.UpDataFirstReferenceIdeal.nD Cert.UpDataFirstReferenceIdeal.τ).loc Cert.UpDataFirstReferenceIdeal.main_arg2) = m ((c.tc : Thread Cert.UpDataFirstIdeal.nD Cert.UpDataFirstIdeal.τ).loc Cert.UpDataFirstIdeal.main_arg2)) →
    ∃ (v0 : (c : Dev Cert.UpDataFirstIdeal.nD) → Buf (Elt Ideal) ((c.tc : Thread Cert.UpDataFirstIdeal.nD Cert.UpDataFirstIdeal.τ).loc Cert.UpDataFirstIdeal.main_v0)),
      θ_run (Cert.UpDataFirstIdeal.defs (F := Ideal)) (onTc (τ := Cert.UpDataFirstIdeal.τ) (Cert.UpDataFirstIdeal.main (F := Ideal))) ⟨m, fun _ => 0, g⟩ (fun r => ∀ c : Dev Cert.UpDataFirstIdeal.nD,
          r.2.mem ((c.tc : Thread Cert.UpDataFirstIdeal.nD Cert.UpDataFirstIdeal.τ).loc Cert.UpDataFirstIdeal.main_v0) = v0 c
          ∧ r.2.mem ((c.tc : Thread Cert.UpDataFirstIdeal.nD Cert.UpDataFirstIdeal.τ).loc Cert.UpDataFirstIdeal.main_arg0) = m ((c.tc : Thread Cert.UpDataFirstIdeal.nD Cert.UpDataFirstIdeal.τ).loc Cert.UpDataFirstIdeal.main_arg0)
          ∧ r.2.mem ((c.tc : Thread Cert.UpDataFirstIdeal.nD Cert.UpDataFirstIdeal.τ).loc Cert.UpDataFirstIdeal.main_arg1) = m ((c.tc : Thread Cert.UpDataFirstIdeal.nD Cert.UpDataFirstIdeal.τ).loc Cert.UpDataFirstIdeal.main_arg1)
          ∧ r.2.mem ((c.tc : Thread Cert.UpDataFirstIdeal.nD Cert.UpDataFirstIdeal.τ).loc Cert.UpDataFirstIdeal.main_arg2) = m ((c.tc : Thread Cert.UpDataFirstIdeal.nD Cert.UpDataFirstIdeal.τ).loc Cert.UpDataFirstIdeal.main_arg2))
      ∧ θ_run (Cert.UpDataFirstReferenceIdeal.defs (F := Ideal)) (onTc (τ := Cert.UpDataFirstReferenceIdeal.τ) (Cert.UpDataFirstReferenceIdeal.main (F := Ideal))) ⟨m', fun _ => 0, g'⟩ (fun r => ∀ c : Dev Cert.UpDataFirstReferenceIdeal.nD,
          r.2.mem ((c.tc : Thread Cert.UpDataFirstReferenceIdeal.nD Cert.UpDataFirstReferenceIdeal.τ).loc Cert.UpDataFirstReferenceIdeal.main_v7) = v0 c
          ∧ r.2.mem ((c.tc : Thread Cert.UpDataFirstReferenceIdeal.nD Cert.UpDataFirstReferenceIdeal.τ).loc Cert.UpDataFirstReferenceIdeal.main_arg0) = m' ((c.tc : Thread Cert.UpDataFirstReferenceIdeal.nD Cert.UpDataFirstReferenceIdeal.τ).loc Cert.UpDataFirstReferenceIdeal.main_arg0)
          ∧ r.2.mem ((c.tc : Thread Cert.UpDataFirstReferenceIdeal.nD Cert.UpDataFirstReferenceIdeal.τ).loc Cert.UpDataFirstReferenceIdeal.main_arg1) = m' ((c.tc : Thread Cert.UpDataFirstReferenceIdeal.nD Cert.UpDataFirstReferenceIdeal.τ).loc Cert.UpDataFirstReferenceIdeal.main_arg1)
          ∧ r.2.mem ((c.tc : Thread Cert.UpDataFirstReferenceIdeal.nD Cert.UpDataFirstReferenceIdeal.τ).loc Cert.UpDataFirstReferenceIdeal.main_arg2) = m' ((c.tc : Thread Cert.UpDataFirstReferenceIdeal.nD Cert.UpDataFirstReferenceIdeal.τ).loc Cert.UpDataFirstReferenceIdeal.main_arg2))

def preserves_DownDataFirst_DownDataFirstIdeal : Prop :=
  True

def algebraic_DownDataFirstIdeal_DownDataFirstReferenceIdeal [hDownDataFirstIdeal : Cert.DownDataFirstIdeal.Facts] [hDownDataFirstReferenceIdeal : Cert.DownDataFirstReferenceIdeal.Facts] : Prop :=
  ∀ (m : (ℓ : Loc Cert.DownDataFirstIdeal.nD Cert.DownDataFirstIdeal.τ Cert.DownDataFirstIdeal.sig) → Buf (Elt Ideal) ℓ) (g : Dev Cert.DownDataFirstIdeal.nD → PrngReg)
    (m' : (ℓ : Loc Cert.DownDataFirstReferenceIdeal.nD Cert.DownDataFirstReferenceIdeal.τ Cert.DownDataFirstReferenceIdeal.sig) → Buf (Elt Ideal) ℓ) (g' : Dev Cert.DownDataFirstReferenceIdeal.nD → PrngReg), Pre_DownDataFirstIdeal m →
    (∀ c : Dev Cert.DownDataFirstIdeal.nD,
      m' ((c.tc : Thread Cert.DownDataFirstReferenceIdeal.nD Cert.DownDataFirstReferenceIdeal.τ).loc Cert.DownDataFirstReferenceIdeal.main_arg0) = m ((c.tc : Thread Cert.DownDataFirstIdeal.nD Cert.DownDataFirstIdeal.τ).loc Cert.DownDataFirstIdeal.main_arg0)
      ∧ m' ((c.tc : Thread Cert.DownDataFirstReferenceIdeal.nD Cert.DownDataFirstReferenceIdeal.τ).loc Cert.DownDataFirstReferenceIdeal.main_arg1) = m ((c.tc : Thread Cert.DownDataFirstIdeal.nD Cert.DownDataFirstIdeal.τ).loc Cert.DownDataFirstIdeal.main_arg1)) →
    ∃ (v0 : (c : Dev Cert.DownDataFirstIdeal.nD) → Buf (Elt Ideal) ((c.tc : Thread Cert.DownDataFirstIdeal.nD Cert.DownDataFirstIdeal.τ).loc Cert.DownDataFirstIdeal.main_v0)),
      θ_run (Cert.DownDataFirstIdeal.defs (F := Ideal)) (onTc (τ := Cert.DownDataFirstIdeal.τ) (Cert.DownDataFirstIdeal.main (F := Ideal))) ⟨m, fun _ => 0, g⟩ (fun r => ∀ c : Dev Cert.DownDataFirstIdeal.nD,
          r.2.mem ((c.tc : Thread Cert.DownDataFirstIdeal.nD Cert.DownDataFirstIdeal.τ).loc Cert.DownDataFirstIdeal.main_v0) = v0 c
          ∧ r.2.mem ((c.tc : Thread Cert.DownDataFirstIdeal.nD Cert.DownDataFirstIdeal.τ).loc Cert.DownDataFirstIdeal.main_arg0) = m ((c.tc : Thread Cert.DownDataFirstIdeal.nD Cert.DownDataFirstIdeal.τ).loc Cert.DownDataFirstIdeal.main_arg0)
          ∧ r.2.mem ((c.tc : Thread Cert.DownDataFirstIdeal.nD Cert.DownDataFirstIdeal.τ).loc Cert.DownDataFirstIdeal.main_arg1) = m ((c.tc : Thread Cert.DownDataFirstIdeal.nD Cert.DownDataFirstIdeal.τ).loc Cert.DownDataFirstIdeal.main_arg1))
      ∧ θ_run (Cert.DownDataFirstReferenceIdeal.defs (F := Ideal)) (onTc (τ := Cert.DownDataFirstReferenceIdeal.τ) (Cert.DownDataFirstReferenceIdeal.main (F := Ideal))) ⟨m', fun _ => 0, g'⟩ (fun r => ∀ c : Dev Cert.DownDataFirstReferenceIdeal.nD,
          r.2.mem ((c.tc : Thread Cert.DownDataFirstReferenceIdeal.nD Cert.DownDataFirstReferenceIdeal.τ).loc Cert.DownDataFirstReferenceIdeal.main_v6) = v0 c
          ∧ r.2.mem ((c.tc : Thread Cert.DownDataFirstReferenceIdeal.nD Cert.DownDataFirstReferenceIdeal.τ).loc Cert.DownDataFirstReferenceIdeal.main_arg0) = m' ((c.tc : Thread Cert.DownDataFirstReferenceIdeal.nD Cert.DownDataFirstReferenceIdeal.τ).loc Cert.DownDataFirstReferenceIdeal.main_arg0)
          ∧ r.2.mem ((c.tc : Thread Cert.DownDataFirstReferenceIdeal.nD Cert.DownDataFirstReferenceIdeal.τ).loc Cert.DownDataFirstReferenceIdeal.main_arg1) = m' ((c.tc : Thread Cert.DownDataFirstReferenceIdeal.nD Cert.DownDataFirstReferenceIdeal.τ).loc Cert.DownDataFirstReferenceIdeal.main_arg1))

def preserves_InDataFirst_InDataFirstIdeal : Prop :=
  True

def algebraic_InDataFirstIdeal_InDataFirstReferenceIdeal [hInDataFirstIdeal : Cert.InDataFirstIdeal.Facts] [hInDataFirstReferenceIdeal : Cert.InDataFirstReferenceIdeal.Facts] : Prop :=
  ∀ (m : (ℓ : Loc Cert.InDataFirstIdeal.nD Cert.InDataFirstIdeal.τ Cert.InDataFirstIdeal.sig) → Buf (Elt Ideal) ℓ) (g : Dev Cert.InDataFirstIdeal.nD → PrngReg)
    (m' : (ℓ : Loc Cert.InDataFirstReferenceIdeal.nD Cert.InDataFirstReferenceIdeal.τ Cert.InDataFirstReferenceIdeal.sig) → Buf (Elt Ideal) ℓ) (g' : Dev Cert.InDataFirstReferenceIdeal.nD → PrngReg), Pre_InDataFirstIdeal m →
    (∀ c : Dev Cert.InDataFirstIdeal.nD,
      m' ((c.tc : Thread Cert.InDataFirstReferenceIdeal.nD Cert.InDataFirstReferenceIdeal.τ).loc Cert.InDataFirstReferenceIdeal.main_arg0) = m ((c.tc : Thread Cert.InDataFirstIdeal.nD Cert.InDataFirstIdeal.τ).loc Cert.InDataFirstIdeal.main_arg0)
      ∧ m' ((c.tc : Thread Cert.InDataFirstReferenceIdeal.nD Cert.InDataFirstReferenceIdeal.τ).loc Cert.InDataFirstReferenceIdeal.main_arg1) = m ((c.tc : Thread Cert.InDataFirstIdeal.nD Cert.InDataFirstIdeal.τ).loc Cert.InDataFirstIdeal.main_arg1)) →
    ∃ (v0 : (c : Dev Cert.InDataFirstIdeal.nD) → Buf (Elt Ideal) ((c.tc : Thread Cert.InDataFirstIdeal.nD Cert.InDataFirstIdeal.τ).loc Cert.InDataFirstIdeal.main_v0)),
      θ_run (Cert.InDataFirstIdeal.defs (F := Ideal)) (onTc (τ := Cert.InDataFirstIdeal.τ) (Cert.InDataFirstIdeal.main (F := Ideal))) ⟨m, fun _ => 0, g⟩ (fun r => ∀ c : Dev Cert.InDataFirstIdeal.nD,
          r.2.mem ((c.tc : Thread Cert.InDataFirstIdeal.nD Cert.InDataFirstIdeal.τ).loc Cert.InDataFirstIdeal.main_v0) = v0 c
          ∧ r.2.mem ((c.tc : Thread Cert.InDataFirstIdeal.nD Cert.InDataFirstIdeal.τ).loc Cert.InDataFirstIdeal.main_arg0) = m ((c.tc : Thread Cert.InDataFirstIdeal.nD Cert.InDataFirstIdeal.τ).loc Cert.InDataFirstIdeal.main_arg0)
          ∧ r.2.mem ((c.tc : Thread Cert.InDataFirstIdeal.nD Cert.InDataFirstIdeal.τ).loc Cert.InDataFirstIdeal.main_arg1) = m ((c.tc : Thread Cert.InDataFirstIdeal.nD Cert.InDataFirstIdeal.τ).loc Cert.InDataFirstIdeal.main_arg1))
      ∧ θ_run (Cert.InDataFirstReferenceIdeal.defs (F := Ideal)) (onTc (τ := Cert.InDataFirstReferenceIdeal.τ) (Cert.InDataFirstReferenceIdeal.main (F := Ideal))) ⟨m', fun _ => 0, g'⟩ (fun r => ∀ c : Dev Cert.InDataFirstReferenceIdeal.nD,
          r.2.mem ((c.tc : Thread Cert.InDataFirstReferenceIdeal.nD Cert.InDataFirstReferenceIdeal.τ).loc Cert.InDataFirstReferenceIdeal.main_v6) = v0 c
          ∧ r.2.mem ((c.tc : Thread Cert.InDataFirstReferenceIdeal.nD Cert.InDataFirstReferenceIdeal.τ).loc Cert.InDataFirstReferenceIdeal.main_arg0) = m' ((c.tc : Thread Cert.InDataFirstReferenceIdeal.nD Cert.InDataFirstReferenceIdeal.τ).loc Cert.InDataFirstReferenceIdeal.main_arg0)
          ∧ r.2.mem ((c.tc : Thread Cert.InDataFirstReferenceIdeal.nD Cert.InDataFirstReferenceIdeal.τ).loc Cert.InDataFirstReferenceIdeal.main_arg1) = m' ((c.tc : Thread Cert.InDataFirstReferenceIdeal.nD Cert.InDataFirstReferenceIdeal.τ).loc Cert.InDataFirstReferenceIdeal.main_arg1))

def preserves_OutDataFirst_OutDataFirstIdeal : Prop :=
  True

def algebraic_OutDataFirstIdeal_OutDataFirstReferenceIdeal [hOutDataFirstIdeal : Cert.OutDataFirstIdeal.Facts] [hOutDataFirstReferenceIdeal : Cert.OutDataFirstReferenceIdeal.Facts] : Prop :=
  ∀ (m : (ℓ : Loc Cert.OutDataFirstIdeal.nD Cert.OutDataFirstIdeal.τ Cert.OutDataFirstIdeal.sig) → Buf (Elt Ideal) ℓ) (g : Dev Cert.OutDataFirstIdeal.nD → PrngReg)
    (m' : (ℓ : Loc Cert.OutDataFirstReferenceIdeal.nD Cert.OutDataFirstReferenceIdeal.τ Cert.OutDataFirstReferenceIdeal.sig) → Buf (Elt Ideal) ℓ) (g' : Dev Cert.OutDataFirstReferenceIdeal.nD → PrngReg), Pre_OutDataFirstIdeal m →
    (∀ c : Dev Cert.OutDataFirstIdeal.nD,
      m' ((c.tc : Thread Cert.OutDataFirstReferenceIdeal.nD Cert.OutDataFirstReferenceIdeal.τ).loc Cert.OutDataFirstReferenceIdeal.main_arg0) = m ((c.tc : Thread Cert.OutDataFirstIdeal.nD Cert.OutDataFirstIdeal.τ).loc Cert.OutDataFirstIdeal.main_arg0)
      ∧ m' ((c.tc : Thread Cert.OutDataFirstReferenceIdeal.nD Cert.OutDataFirstReferenceIdeal.τ).loc Cert.OutDataFirstReferenceIdeal.main_arg1) = m ((c.tc : Thread Cert.OutDataFirstIdeal.nD Cert.OutDataFirstIdeal.τ).loc Cert.OutDataFirstIdeal.main_arg1)) →
    ∃ (v0 : (c : Dev Cert.OutDataFirstIdeal.nD) → Buf (Elt Ideal) ((c.tc : Thread Cert.OutDataFirstIdeal.nD Cert.OutDataFirstIdeal.τ).loc Cert.OutDataFirstIdeal.main_v0)),
      θ_run (Cert.OutDataFirstIdeal.defs (F := Ideal)) (onTc (τ := Cert.OutDataFirstIdeal.τ) (Cert.OutDataFirstIdeal.main (F := Ideal))) ⟨m, fun _ => 0, g⟩ (fun r => ∀ c : Dev Cert.OutDataFirstIdeal.nD,
          r.2.mem ((c.tc : Thread Cert.OutDataFirstIdeal.nD Cert.OutDataFirstIdeal.τ).loc Cert.OutDataFirstIdeal.main_v0) = v0 c
          ∧ r.2.mem ((c.tc : Thread Cert.OutDataFirstIdeal.nD Cert.OutDataFirstIdeal.τ).loc Cert.OutDataFirstIdeal.main_arg0) = m ((c.tc : Thread Cert.OutDataFirstIdeal.nD Cert.OutDataFirstIdeal.τ).loc Cert.OutDataFirstIdeal.main_arg0)
          ∧ r.2.mem ((c.tc : Thread Cert.OutDataFirstIdeal.nD Cert.OutDataFirstIdeal.τ).loc Cert.OutDataFirstIdeal.main_arg1) = m ((c.tc : Thread Cert.OutDataFirstIdeal.nD Cert.OutDataFirstIdeal.τ).loc Cert.OutDataFirstIdeal.main_arg1))
      ∧ θ_run (Cert.OutDataFirstReferenceIdeal.defs (F := Ideal)) (onTc (τ := Cert.OutDataFirstReferenceIdeal.τ) (Cert.OutDataFirstReferenceIdeal.main (F := Ideal))) ⟨m', fun _ => 0, g'⟩ (fun r => ∀ c : Dev Cert.OutDataFirstReferenceIdeal.nD,
          r.2.mem ((c.tc : Thread Cert.OutDataFirstReferenceIdeal.nD Cert.OutDataFirstReferenceIdeal.τ).loc Cert.OutDataFirstReferenceIdeal.main_v6) = v0 c
          ∧ r.2.mem ((c.tc : Thread Cert.OutDataFirstReferenceIdeal.nD Cert.OutDataFirstReferenceIdeal.τ).loc Cert.OutDataFirstReferenceIdeal.main_arg0) = m' ((c.tc : Thread Cert.OutDataFirstReferenceIdeal.nD Cert.OutDataFirstReferenceIdeal.τ).loc Cert.OutDataFirstReferenceIdeal.main_arg0)
          ∧ r.2.mem ((c.tc : Thread Cert.OutDataFirstReferenceIdeal.nD Cert.OutDataFirstReferenceIdeal.τ).loc Cert.OutDataFirstReferenceIdeal.main_arg1) = m' ((c.tc : Thread Cert.OutDataFirstReferenceIdeal.nD Cert.OutDataFirstReferenceIdeal.τ).loc Cert.OutDataFirstReferenceIdeal.main_arg1))

def preserves_UpFirst_UpFirstIdeal : Prop :=
  True

def algebraic_UpFirstIdeal_UpFirstReferenceIdeal [hUpFirstIdeal : Cert.UpFirstIdeal.Facts] [hUpFirstReferenceIdeal : Cert.UpFirstReferenceIdeal.Facts] : Prop :=
  ∀ (m : (ℓ : Loc Cert.UpFirstIdeal.nD Cert.UpFirstIdeal.τ Cert.UpFirstIdeal.sig) → Buf (Elt Ideal) ℓ) (g : Dev Cert.UpFirstIdeal.nD → PrngReg)
    (m' : (ℓ : Loc Cert.UpFirstReferenceIdeal.nD Cert.UpFirstReferenceIdeal.τ Cert.UpFirstReferenceIdeal.sig) → Buf (Elt Ideal) ℓ) (g' : Dev Cert.UpFirstReferenceIdeal.nD → PrngReg), Pre_UpFirstIdeal m →
    (∀ c : Dev Cert.UpFirstIdeal.nD,
      m' ((c.tc : Thread Cert.UpFirstReferenceIdeal.nD Cert.UpFirstReferenceIdeal.τ).loc Cert.UpFirstReferenceIdeal.main_arg0) = m ((c.tc : Thread Cert.UpFirstIdeal.nD Cert.UpFirstIdeal.τ).loc Cert.UpFirstIdeal.main_arg0)
      ∧ m' ((c.tc : Thread Cert.UpFirstReferenceIdeal.nD Cert.UpFirstReferenceIdeal.τ).loc Cert.UpFirstReferenceIdeal.main_arg1) = m ((c.tc : Thread Cert.UpFirstIdeal.nD Cert.UpFirstIdeal.τ).loc Cert.UpFirstIdeal.main_arg1)) →
    ∃ (v0 : (c : Dev Cert.UpFirstIdeal.nD) → Buf (Elt Ideal) ((c.tc : Thread Cert.UpFirstIdeal.nD Cert.UpFirstIdeal.τ).loc Cert.UpFirstIdeal.main_v0)),
      θ_run (Cert.UpFirstIdeal.defs (F := Ideal)) (onTc (τ := Cert.UpFirstIdeal.τ) (Cert.UpFirstIdeal.main (F := Ideal))) ⟨m, fun _ => 0, g⟩ (fun r => ∀ c : Dev Cert.UpFirstIdeal.nD,
          r.2.mem ((c.tc : Thread Cert.UpFirstIdeal.nD Cert.UpFirstIdeal.τ).loc Cert.UpFirstIdeal.main_v0) = v0 c
          ∧ r.2.mem ((c.tc : Thread Cert.UpFirstIdeal.nD Cert.UpFirstIdeal.τ).loc Cert.UpFirstIdeal.main_arg0) = m ((c.tc : Thread Cert.UpFirstIdeal.nD Cert.UpFirstIdeal.τ).loc Cert.UpFirstIdeal.main_arg0)
          ∧ r.2.mem ((c.tc : Thread Cert.UpFirstIdeal.nD Cert.UpFirstIdeal.τ).loc Cert.UpFirstIdeal.main_arg1) = m ((c.tc : Thread Cert.UpFirstIdeal.nD Cert.UpFirstIdeal.τ).loc Cert.UpFirstIdeal.main_arg1))
      ∧ θ_run (Cert.UpFirstReferenceIdeal.defs (F := Ideal)) (onTc (τ := Cert.UpFirstReferenceIdeal.τ) (Cert.UpFirstReferenceIdeal.main (F := Ideal))) ⟨m', fun _ => 0, g'⟩ (fun r => ∀ c : Dev Cert.UpFirstReferenceIdeal.nD,
          r.2.mem ((c.tc : Thread Cert.UpFirstReferenceIdeal.nD Cert.UpFirstReferenceIdeal.τ).loc Cert.UpFirstReferenceIdeal.main_v5) = v0 c
          ∧ r.2.mem ((c.tc : Thread Cert.UpFirstReferenceIdeal.nD Cert.UpFirstReferenceIdeal.τ).loc Cert.UpFirstReferenceIdeal.main_arg0) = m' ((c.tc : Thread Cert.UpFirstReferenceIdeal.nD Cert.UpFirstReferenceIdeal.τ).loc Cert.UpFirstReferenceIdeal.main_arg0)
          ∧ r.2.mem ((c.tc : Thread Cert.UpFirstReferenceIdeal.nD Cert.UpFirstReferenceIdeal.τ).loc Cert.UpFirstReferenceIdeal.main_arg1) = m' ((c.tc : Thread Cert.UpFirstReferenceIdeal.nD Cert.UpFirstReferenceIdeal.τ).loc Cert.UpFirstReferenceIdeal.main_arg1))

def preserves_DownFirst_DownFirstIdeal : Prop :=
  True

def algebraic_DownFirstIdeal_DownFirstReferenceIdeal [hDownFirstIdeal : Cert.DownFirstIdeal.Facts] [hDownFirstReferenceIdeal : Cert.DownFirstReferenceIdeal.Facts] : Prop :=
  ∀ (m : (ℓ : Loc Cert.DownFirstIdeal.nD Cert.DownFirstIdeal.τ Cert.DownFirstIdeal.sig) → Buf (Elt Ideal) ℓ) (g : Dev Cert.DownFirstIdeal.nD → PrngReg)
    (m' : (ℓ : Loc Cert.DownFirstReferenceIdeal.nD Cert.DownFirstReferenceIdeal.τ Cert.DownFirstReferenceIdeal.sig) → Buf (Elt Ideal) ℓ) (g' : Dev Cert.DownFirstReferenceIdeal.nD → PrngReg), Pre_DownFirstIdeal m →
    (∀ c : Dev Cert.DownFirstIdeal.nD,
      m' ((c.tc : Thread Cert.DownFirstReferenceIdeal.nD Cert.DownFirstReferenceIdeal.τ).loc Cert.DownFirstReferenceIdeal.main_arg0) = m ((c.tc : Thread Cert.DownFirstIdeal.nD Cert.DownFirstIdeal.τ).loc Cert.DownFirstIdeal.main_arg0)
      ∧ m' ((c.tc : Thread Cert.DownFirstReferenceIdeal.nD Cert.DownFirstReferenceIdeal.τ).loc Cert.DownFirstReferenceIdeal.main_arg1) = m ((c.tc : Thread Cert.DownFirstIdeal.nD Cert.DownFirstIdeal.τ).loc Cert.DownFirstIdeal.main_arg1)) →
    ∃ (v0 : (c : Dev Cert.DownFirstIdeal.nD) → Buf (Elt Ideal) ((c.tc : Thread Cert.DownFirstIdeal.nD Cert.DownFirstIdeal.τ).loc Cert.DownFirstIdeal.main_v0)),
      θ_run (Cert.DownFirstIdeal.defs (F := Ideal)) (onTc (τ := Cert.DownFirstIdeal.τ) (Cert.DownFirstIdeal.main (F := Ideal))) ⟨m, fun _ => 0, g⟩ (fun r => ∀ c : Dev Cert.DownFirstIdeal.nD,
          r.2.mem ((c.tc : Thread Cert.DownFirstIdeal.nD Cert.DownFirstIdeal.τ).loc Cert.DownFirstIdeal.main_v0) = v0 c
          ∧ r.2.mem ((c.tc : Thread Cert.DownFirstIdeal.nD Cert.DownFirstIdeal.τ).loc Cert.DownFirstIdeal.main_arg0) = m ((c.tc : Thread Cert.DownFirstIdeal.nD Cert.DownFirstIdeal.τ).loc Cert.DownFirstIdeal.main_arg0)
          ∧ r.2.mem ((c.tc : Thread Cert.DownFirstIdeal.nD Cert.DownFirstIdeal.τ).loc Cert.DownFirstIdeal.main_arg1) = m ((c.tc : Thread Cert.DownFirstIdeal.nD Cert.DownFirstIdeal.τ).loc Cert.DownFirstIdeal.main_arg1))
      ∧ θ_run (Cert.DownFirstReferenceIdeal.defs (F := Ideal)) (onTc (τ := Cert.DownFirstReferenceIdeal.τ) (Cert.DownFirstReferenceIdeal.main (F := Ideal))) ⟨m', fun _ => 0, g'⟩ (fun r => ∀ c : Dev Cert.DownFirstReferenceIdeal.nD,
          r.2.mem ((c.tc : Thread Cert.DownFirstReferenceIdeal.nD Cert.DownFirstReferenceIdeal.τ).loc Cert.DownFirstReferenceIdeal.main_v4) = v0 c
          ∧ r.2.mem ((c.tc : Thread Cert.DownFirstReferenceIdeal.nD Cert.DownFirstReferenceIdeal.τ).loc Cert.DownFirstReferenceIdeal.main_arg0) = m' ((c.tc : Thread Cert.DownFirstReferenceIdeal.nD Cert.DownFirstReferenceIdeal.τ).loc Cert.DownFirstReferenceIdeal.main_arg0)
          ∧ r.2.mem ((c.tc : Thread Cert.DownFirstReferenceIdeal.nD Cert.DownFirstReferenceIdeal.τ).loc Cert.DownFirstReferenceIdeal.main_arg1) = m' ((c.tc : Thread Cert.DownFirstReferenceIdeal.nD Cert.DownFirstReferenceIdeal.τ).loc Cert.DownFirstReferenceIdeal.main_arg1))

def preserves_InFirst_InFirstIdeal : Prop :=
  True

def algebraic_InFirstIdeal_InFirstReferenceIdeal [hInFirstIdeal : Cert.InFirstIdeal.Facts] [hInFirstReferenceIdeal : Cert.InFirstReferenceIdeal.Facts] : Prop :=
  ∀ (m : (ℓ : Loc Cert.InFirstIdeal.nD Cert.InFirstIdeal.τ Cert.InFirstIdeal.sig) → Buf (Elt Ideal) ℓ) (g : Dev Cert.InFirstIdeal.nD → PrngReg)
    (m' : (ℓ : Loc Cert.InFirstReferenceIdeal.nD Cert.InFirstReferenceIdeal.τ Cert.InFirstReferenceIdeal.sig) → Buf (Elt Ideal) ℓ) (g' : Dev Cert.InFirstReferenceIdeal.nD → PrngReg), Pre_InFirstIdeal m →
    (∀ c : Dev Cert.InFirstIdeal.nD,
      m' ((c.tc : Thread Cert.InFirstReferenceIdeal.nD Cert.InFirstReferenceIdeal.τ).loc Cert.InFirstReferenceIdeal.main_arg0) = m ((c.tc : Thread Cert.InFirstIdeal.nD Cert.InFirstIdeal.τ).loc Cert.InFirstIdeal.main_arg0)
      ∧ m' ((c.tc : Thread Cert.InFirstReferenceIdeal.nD Cert.InFirstReferenceIdeal.τ).loc Cert.InFirstReferenceIdeal.main_arg1) = m ((c.tc : Thread Cert.InFirstIdeal.nD Cert.InFirstIdeal.τ).loc Cert.InFirstIdeal.main_arg1)) →
    ∃ (v0 : (c : Dev Cert.InFirstIdeal.nD) → Buf (Elt Ideal) ((c.tc : Thread Cert.InFirstIdeal.nD Cert.InFirstIdeal.τ).loc Cert.InFirstIdeal.main_v0)),
      θ_run (Cert.InFirstIdeal.defs (F := Ideal)) (onTc (τ := Cert.InFirstIdeal.τ) (Cert.InFirstIdeal.main (F := Ideal))) ⟨m, fun _ => 0, g⟩ (fun r => ∀ c : Dev Cert.InFirstIdeal.nD,
          r.2.mem ((c.tc : Thread Cert.InFirstIdeal.nD Cert.InFirstIdeal.τ).loc Cert.InFirstIdeal.main_v0) = v0 c
          ∧ r.2.mem ((c.tc : Thread Cert.InFirstIdeal.nD Cert.InFirstIdeal.τ).loc Cert.InFirstIdeal.main_arg0) = m ((c.tc : Thread Cert.InFirstIdeal.nD Cert.InFirstIdeal.τ).loc Cert.InFirstIdeal.main_arg0)
          ∧ r.2.mem ((c.tc : Thread Cert.InFirstIdeal.nD Cert.InFirstIdeal.τ).loc Cert.InFirstIdeal.main_arg1) = m ((c.tc : Thread Cert.InFirstIdeal.nD Cert.InFirstIdeal.τ).loc Cert.InFirstIdeal.main_arg1))
      ∧ θ_run (Cert.InFirstReferenceIdeal.defs (F := Ideal)) (onTc (τ := Cert.InFirstReferenceIdeal.τ) (Cert.InFirstReferenceIdeal.main (F := Ideal))) ⟨m', fun _ => 0, g'⟩ (fun r => ∀ c : Dev Cert.InFirstReferenceIdeal.nD,
          r.2.mem ((c.tc : Thread Cert.InFirstReferenceIdeal.nD Cert.InFirstReferenceIdeal.τ).loc Cert.InFirstReferenceIdeal.main_v4) = v0 c
          ∧ r.2.mem ((c.tc : Thread Cert.InFirstReferenceIdeal.nD Cert.InFirstReferenceIdeal.τ).loc Cert.InFirstReferenceIdeal.main_arg0) = m' ((c.tc : Thread Cert.InFirstReferenceIdeal.nD Cert.InFirstReferenceIdeal.τ).loc Cert.InFirstReferenceIdeal.main_arg0)
          ∧ r.2.mem ((c.tc : Thread Cert.InFirstReferenceIdeal.nD Cert.InFirstReferenceIdeal.τ).loc Cert.InFirstReferenceIdeal.main_arg1) = m' ((c.tc : Thread Cert.InFirstReferenceIdeal.nD Cert.InFirstReferenceIdeal.τ).loc Cert.InFirstReferenceIdeal.main_arg1))

def preserves_OutFirst_OutFirstIdeal : Prop :=
  True

def algebraic_OutFirstIdeal_OutFirstReferenceIdeal [hOutFirstIdeal : Cert.OutFirstIdeal.Facts] [hOutFirstReferenceIdeal : Cert.OutFirstReferenceIdeal.Facts] : Prop :=
  ∀ (m : (ℓ : Loc Cert.OutFirstIdeal.nD Cert.OutFirstIdeal.τ Cert.OutFirstIdeal.sig) → Buf (Elt Ideal) ℓ) (g : Dev Cert.OutFirstIdeal.nD → PrngReg)
    (m' : (ℓ : Loc Cert.OutFirstReferenceIdeal.nD Cert.OutFirstReferenceIdeal.τ Cert.OutFirstReferenceIdeal.sig) → Buf (Elt Ideal) ℓ) (g' : Dev Cert.OutFirstReferenceIdeal.nD → PrngReg), Pre_OutFirstIdeal m →
    (∀ c : Dev Cert.OutFirstIdeal.nD,
      m' ((c.tc : Thread Cert.OutFirstReferenceIdeal.nD Cert.OutFirstReferenceIdeal.τ).loc Cert.OutFirstReferenceIdeal.main_arg0) = m ((c.tc : Thread Cert.OutFirstIdeal.nD Cert.OutFirstIdeal.τ).loc Cert.OutFirstIdeal.main_arg0)
      ∧ m' ((c.tc : Thread Cert.OutFirstReferenceIdeal.nD Cert.OutFirstReferenceIdeal.τ).loc Cert.OutFirstReferenceIdeal.main_arg1) = m ((c.tc : Thread Cert.OutFirstIdeal.nD Cert.OutFirstIdeal.τ).loc Cert.OutFirstIdeal.main_arg1)) →
    ∃ (v0 : (c : Dev Cert.OutFirstIdeal.nD) → Buf (Elt Ideal) ((c.tc : Thread Cert.OutFirstIdeal.nD Cert.OutFirstIdeal.τ).loc Cert.OutFirstIdeal.main_v0)),
      θ_run (Cert.OutFirstIdeal.defs (F := Ideal)) (onTc (τ := Cert.OutFirstIdeal.τ) (Cert.OutFirstIdeal.main (F := Ideal))) ⟨m, fun _ => 0, g⟩ (fun r => ∀ c : Dev Cert.OutFirstIdeal.nD,
          r.2.mem ((c.tc : Thread Cert.OutFirstIdeal.nD Cert.OutFirstIdeal.τ).loc Cert.OutFirstIdeal.main_v0) = v0 c
          ∧ r.2.mem ((c.tc : Thread Cert.OutFirstIdeal.nD Cert.OutFirstIdeal.τ).loc Cert.OutFirstIdeal.main_arg0) = m ((c.tc : Thread Cert.OutFirstIdeal.nD Cert.OutFirstIdeal.τ).loc Cert.OutFirstIdeal.main_arg0)
          ∧ r.2.mem ((c.tc : Thread Cert.OutFirstIdeal.nD Cert.OutFirstIdeal.τ).loc Cert.OutFirstIdeal.main_arg1) = m ((c.tc : Thread Cert.OutFirstIdeal.nD Cert.OutFirstIdeal.τ).loc Cert.OutFirstIdeal.main_arg1))
      ∧ θ_run (Cert.OutFirstReferenceIdeal.defs (F := Ideal)) (onTc (τ := Cert.OutFirstReferenceIdeal.τ) (Cert.OutFirstReferenceIdeal.main (F := Ideal))) ⟨m', fun _ => 0, g'⟩ (fun r => ∀ c : Dev Cert.OutFirstReferenceIdeal.nD,
          r.2.mem ((c.tc : Thread Cert.OutFirstReferenceIdeal.nD Cert.OutFirstReferenceIdeal.τ).loc Cert.OutFirstReferenceIdeal.main_v4) = v0 c
          ∧ r.2.mem ((c.tc : Thread Cert.OutFirstReferenceIdeal.nD Cert.OutFirstReferenceIdeal.τ).loc Cert.OutFirstReferenceIdeal.main_arg0) = m' ((c.tc : Thread Cert.OutFirstReferenceIdeal.nD Cert.OutFirstReferenceIdeal.τ).loc Cert.OutFirstReferenceIdeal.main_arg0)
          ∧ r.2.mem ((c.tc : Thread Cert.OutFirstReferenceIdeal.nD Cert.OutFirstReferenceIdeal.τ).loc Cert.OutFirstReferenceIdeal.main_arg1) = m' ((c.tc : Thread Cert.OutFirstReferenceIdeal.nD Cert.OutFirstReferenceIdeal.τ).loc Cert.OutFirstReferenceIdeal.main_arg1))

def preserves_UpWeight_UpWeightIdeal : Prop :=
  True

def algebraic_UpWeightIdeal_UpWeightReferenceIdeal [hUpWeightIdeal : Cert.UpWeightIdeal.Facts] [hUpWeightReferenceIdeal : Cert.UpWeightReferenceIdeal.Facts] : Prop :=
  ∀ (m : (ℓ : Loc Cert.UpWeightIdeal.nD Cert.UpWeightIdeal.τ Cert.UpWeightIdeal.sig) → Buf (Elt Ideal) ℓ) (g : Dev Cert.UpWeightIdeal.nD → PrngReg)
    (m' : (ℓ : Loc Cert.UpWeightReferenceIdeal.nD Cert.UpWeightReferenceIdeal.τ Cert.UpWeightReferenceIdeal.sig) → Buf (Elt Ideal) ℓ) (g' : Dev Cert.UpWeightReferenceIdeal.nD → PrngReg), Pre_UpWeightIdeal m →
    (∀ c : Dev Cert.UpWeightIdeal.nD,
      m' ((c.tc : Thread Cert.UpWeightReferenceIdeal.nD Cert.UpWeightReferenceIdeal.τ).loc Cert.UpWeightReferenceIdeal.main_arg0) = m ((c.tc : Thread Cert.UpWeightIdeal.nD Cert.UpWeightIdeal.τ).loc Cert.UpWeightIdeal.main_arg0)
      ∧ m' ((c.tc : Thread Cert.UpWeightReferenceIdeal.nD Cert.UpWeightReferenceIdeal.τ).loc Cert.UpWeightReferenceIdeal.main_arg1) = m ((c.tc : Thread Cert.UpWeightIdeal.nD Cert.UpWeightIdeal.τ).loc Cert.UpWeightIdeal.main_arg1)) →
    ∃ (v0 : (c : Dev Cert.UpWeightIdeal.nD) → Buf (Elt Ideal) ((c.tc : Thread Cert.UpWeightIdeal.nD Cert.UpWeightIdeal.τ).loc Cert.UpWeightIdeal.main_v0)),
      θ_run (Cert.UpWeightIdeal.defs (F := Ideal)) (onTc (τ := Cert.UpWeightIdeal.τ) (Cert.UpWeightIdeal.main (F := Ideal))) ⟨m, fun _ => 0, g⟩ (fun r => ∀ c : Dev Cert.UpWeightIdeal.nD,
          r.2.mem ((c.tc : Thread Cert.UpWeightIdeal.nD Cert.UpWeightIdeal.τ).loc Cert.UpWeightIdeal.main_v0) = v0 c
          ∧ r.2.mem ((c.tc : Thread Cert.UpWeightIdeal.nD Cert.UpWeightIdeal.τ).loc Cert.UpWeightIdeal.main_arg0) = m ((c.tc : Thread Cert.UpWeightIdeal.nD Cert.UpWeightIdeal.τ).loc Cert.UpWeightIdeal.main_arg0)
          ∧ r.2.mem ((c.tc : Thread Cert.UpWeightIdeal.nD Cert.UpWeightIdeal.τ).loc Cert.UpWeightIdeal.main_arg1) = m ((c.tc : Thread Cert.UpWeightIdeal.nD Cert.UpWeightIdeal.τ).loc Cert.UpWeightIdeal.main_arg1))
      ∧ θ_run (Cert.UpWeightReferenceIdeal.defs (F := Ideal)) (onTc (τ := Cert.UpWeightReferenceIdeal.τ) (Cert.UpWeightReferenceIdeal.main (F := Ideal))) ⟨m', fun _ => 0, g'⟩ (fun r => ∀ c : Dev Cert.UpWeightReferenceIdeal.nD,
          r.2.mem ((c.tc : Thread Cert.UpWeightReferenceIdeal.nD Cert.UpWeightReferenceIdeal.τ).loc Cert.UpWeightReferenceIdeal.main_v6) = v0 c
          ∧ r.2.mem ((c.tc : Thread Cert.UpWeightReferenceIdeal.nD Cert.UpWeightReferenceIdeal.τ).loc Cert.UpWeightReferenceIdeal.main_arg0) = m' ((c.tc : Thread Cert.UpWeightReferenceIdeal.nD Cert.UpWeightReferenceIdeal.τ).loc Cert.UpWeightReferenceIdeal.main_arg0)
          ∧ r.2.mem ((c.tc : Thread Cert.UpWeightReferenceIdeal.nD Cert.UpWeightReferenceIdeal.τ).loc Cert.UpWeightReferenceIdeal.main_arg1) = m' ((c.tc : Thread Cert.UpWeightReferenceIdeal.nD Cert.UpWeightReferenceIdeal.τ).loc Cert.UpWeightReferenceIdeal.main_arg1))

def preserves_DownWeight_DownWeightIdeal : Prop :=
  True

def algebraic_DownWeightIdeal_DownWeightReferenceIdeal [hDownWeightIdeal : Cert.DownWeightIdeal.Facts] [hDownWeightReferenceIdeal : Cert.DownWeightReferenceIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightReferenceIdeal.nD Cert.DownWeightReferenceIdeal.τ Cert.DownWeightReferenceIdeal.sig) → Buf (Elt Ideal) ℓ) (g' : Dev Cert.DownWeightReferenceIdeal.nD → PrngReg), Pre_DownWeightIdeal m →
    (∀ c : Dev Cert.DownWeightIdeal.nD,
      m' ((c.tc : Thread Cert.DownWeightReferenceIdeal.nD Cert.DownWeightReferenceIdeal.τ).loc Cert.DownWeightReferenceIdeal.main_arg0) = m ((c.tc : Thread Cert.DownWeightIdeal.nD Cert.DownWeightIdeal.τ).loc Cert.DownWeightIdeal.main_arg0)
      ∧ m' ((c.tc : Thread Cert.DownWeightReferenceIdeal.nD Cert.DownWeightReferenceIdeal.τ).loc Cert.DownWeightReferenceIdeal.main_arg1) = m ((c.tc : Thread Cert.DownWeightIdeal.nD Cert.DownWeightIdeal.τ).loc Cert.DownWeightIdeal.main_arg1)) →
    ∃ (v0 : (c : Dev Cert.DownWeightIdeal.nD) → Buf (Elt Ideal) ((c.tc : Thread Cert.DownWeightIdeal.nD Cert.DownWeightIdeal.τ).loc Cert.DownWeightIdeal.main_v0)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v0) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ θ_run (Cert.DownWeightReferenceIdeal.defs (F := Ideal)) (onTc (τ := Cert.DownWeightReferenceIdeal.τ) (Cert.DownWeightReferenceIdeal.main (F := Ideal))) ⟨m', fun _ => 0, g'⟩ (fun r => ∀ c : Dev Cert.DownWeightReferenceIdeal.nD,
          r.2.mem ((c.tc : Thread Cert.DownWeightReferenceIdeal.nD Cert.DownWeightReferenceIdeal.τ).loc Cert.DownWeightReferenceIdeal.main_v6) = v0 c
          ∧ r.2.mem ((c.tc : Thread Cert.DownWeightReferenceIdeal.nD Cert.DownWeightReferenceIdeal.τ).loc Cert.DownWeightReferenceIdeal.main_arg0) = m' ((c.tc : Thread Cert.DownWeightReferenceIdeal.nD Cert.DownWeightReferenceIdeal.τ).loc Cert.DownWeightReferenceIdeal.main_arg0)
          ∧ r.2.mem ((c.tc : Thread Cert.DownWeightReferenceIdeal.nD Cert.DownWeightReferenceIdeal.τ).loc Cert.DownWeightReferenceIdeal.main_arg1) = m' ((c.tc : Thread Cert.DownWeightReferenceIdeal.nD Cert.DownWeightReferenceIdeal.τ).loc Cert.DownWeightReferenceIdeal.main_arg1))

def preserves_InWeight_InWeightIdeal : Prop :=
  True

def algebraic_InWeightIdeal_InWeightReferenceIdeal [hInWeightIdeal : Cert.InWeightIdeal.Facts] [hInWeightReferenceIdeal : Cert.InWeightReferenceIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightReferenceIdeal.nD Cert.InWeightReferenceIdeal.τ Cert.InWeightReferenceIdeal.sig) → Buf (Elt Ideal) ℓ) (g' : Dev Cert.InWeightReferenceIdeal.nD → PrngReg), Pre_InWeightIdeal m →
    (∀ c : Dev Cert.InWeightIdeal.nD,
      m' ((c.tc : Thread Cert.InWeightReferenceIdeal.nD Cert.InWeightReferenceIdeal.τ).loc Cert.InWeightReferenceIdeal.main_arg0) = m ((c.tc : Thread Cert.InWeightIdeal.nD Cert.InWeightIdeal.τ).loc Cert.InWeightIdeal.main_arg0)
      ∧ m' ((c.tc : Thread Cert.InWeightReferenceIdeal.nD Cert.InWeightReferenceIdeal.τ).loc Cert.InWeightReferenceIdeal.main_arg1) = m ((c.tc : Thread Cert.InWeightIdeal.nD Cert.InWeightIdeal.τ).loc Cert.InWeightIdeal.main_arg1)) →
    ∃ (v0 : (c : Dev Cert.InWeightIdeal.nD) → Buf (Elt Ideal) ((c.tc : Thread Cert.InWeightIdeal.nD Cert.InWeightIdeal.τ).loc Cert.InWeightIdeal.main_v0)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v0) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ θ_run (Cert.InWeightReferenceIdeal.defs (F := Ideal)) (onTc (τ := Cert.InWeightReferenceIdeal.τ) (Cert.InWeightReferenceIdeal.main (F := Ideal))) ⟨m', fun _ => 0, g'⟩ (fun r => ∀ c : Dev Cert.InWeightReferenceIdeal.nD,
          r.2.mem ((c.tc : Thread Cert.InWeightReferenceIdeal.nD Cert.InWeightReferenceIdeal.τ).loc Cert.InWeightReferenceIdeal.main_v6) = v0 c
          ∧ r.2.mem ((c.tc : Thread Cert.InWeightReferenceIdeal.nD Cert.InWeightReferenceIdeal.τ).loc Cert.InWeightReferenceIdeal.main_arg0) = m' ((c.tc : Thread Cert.InWeightReferenceIdeal.nD Cert.InWeightReferenceIdeal.τ).loc Cert.InWeightReferenceIdeal.main_arg0)
          ∧ r.2.mem ((c.tc : Thread Cert.InWeightReferenceIdeal.nD Cert.InWeightReferenceIdeal.τ).loc Cert.InWeightReferenceIdeal.main_arg1) = m' ((c.tc : Thread Cert.InWeightReferenceIdeal.nD Cert.InWeightReferenceIdeal.τ).loc Cert.InWeightReferenceIdeal.main_arg1))

def preserves_OutWeight_OutWeightIdeal : Prop :=
  True

def algebraic_OutWeightIdeal_OutWeightReferenceIdeal [hOutWeightIdeal : Cert.OutWeightIdeal.Facts] [hOutWeightReferenceIdeal : Cert.OutWeightReferenceIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightReferenceIdeal.nD Cert.OutWeightReferenceIdeal.τ Cert.OutWeightReferenceIdeal.sig) → Buf (Elt Ideal) ℓ) (g' : Dev Cert.OutWeightReferenceIdeal.nD → PrngReg), Pre_OutWeightIdeal m →
    (∀ c : Dev Cert.OutWeightIdeal.nD,
      m' ((c.tc : Thread Cert.OutWeightReferenceIdeal.nD Cert.OutWeightReferenceIdeal.τ).loc Cert.OutWeightReferenceIdeal.main_arg0) = m ((c.tc : Thread Cert.OutWeightIdeal.nD Cert.OutWeightIdeal.τ).loc Cert.OutWeightIdeal.main_arg0)
      ∧ m' ((c.tc : Thread Cert.OutWeightReferenceIdeal.nD Cert.OutWeightReferenceIdeal.τ).loc Cert.OutWeightReferenceIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v0)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v0) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightReferenceIdeal.defs (F := Ideal)) (onTc (τ := Cert.OutWeightReferenceIdeal.τ) (Cert.OutWeightReferenceIdeal.main (F := Ideal))) ⟨m', fun _ => 0, g'⟩ (fun r => ∀ c : Dev Cert.OutWeightReferenceIdeal.nD,
          r.2.mem ((c.tc : Thread Cert.OutWeightReferenceIdeal.nD Cert.OutWeightReferenceIdeal.τ).loc Cert.OutWeightReferenceIdeal.main_v6) = v0 c
          ∧ r.2.mem ((c.tc : Thread Cert.OutWeightReferenceIdeal.nD Cert.OutWeightReferenceIdeal.τ).loc Cert.OutWeightReferenceIdeal.main_arg0) = m' ((c.tc : Thread Cert.OutWeightReferenceIdeal.nD Cert.OutWeightReferenceIdeal.τ).loc Cert.OutWeightReferenceIdeal.main_arg0)
          ∧ r.2.mem ((c.tc : Thread Cert.OutWeightReferenceIdeal.nD Cert.OutWeightReferenceIdeal.τ).loc Cert.OutWeightReferenceIdeal.main_arg1) = m' ((c.tc : Thread Cert.OutWeightReferenceIdeal.nD Cert.OutWeightReferenceIdeal.τ).loc Cert.OutWeightReferenceIdeal.main_arg1))

def preserves_AdaStep_AdaStepIdeal : Prop :=
  IdealRules.named_const.Statement Cert.AdaStepIdeal.κ "mean" .f32 0x3FC48605#32 (((5463681 / 8388608)⁻¹ : ℝ) : EReal)
  ∧ IdealRules.named_const.Statement Cert.AdaStepIdeal.κ "square" .f32 0x42C8E6D3#32 (((2672307 / 268435456)⁻¹ : ℝ) : EReal)

def algebraic_AdaStepIdeal_AdaStepReferenceIdeal [hAdaStepIdeal : Cert.AdaStepIdeal.Facts] [hAdaStepReferenceIdeal : Cert.AdaStepReferenceIdeal.Facts] : Prop :=
  ∀ (m : (ℓ : Loc Cert.AdaStepIdeal.nD Cert.AdaStepIdeal.τ Cert.AdaStepIdeal.sig) → Buf (Elt Ideal) ℓ) (g : Dev Cert.AdaStepIdeal.nD → PrngReg)
    (m' : (ℓ : Loc Cert.AdaStepReferenceIdeal.nD Cert.AdaStepReferenceIdeal.τ Cert.AdaStepReferenceIdeal.sig) → Buf (Elt Ideal) ℓ) (g' : Dev Cert.AdaStepReferenceIdeal.nD → PrngReg), Pre_AdaStepIdeal m →
    (∀ c : Dev Cert.AdaStepIdeal.nD,
      m' ((c.tc : Thread Cert.AdaStepReferenceIdeal.nD Cert.AdaStepReferenceIdeal.τ).loc Cert.AdaStepReferenceIdeal.main_arg0) = m ((c.tc : Thread Cert.AdaStepIdeal.nD Cert.AdaStepIdeal.τ).loc Cert.AdaStepIdeal.main_arg0)
      ∧ m' ((c.tc : Thread Cert.AdaStepReferenceIdeal.nD Cert.AdaStepReferenceIdeal.τ).loc Cert.AdaStepReferenceIdeal.main_arg1) = m ((c.tc : Thread Cert.AdaStepIdeal.nD Cert.AdaStepIdeal.τ).loc Cert.AdaStepIdeal.main_arg1)
      ∧ m' ((c.tc : Thread Cert.AdaStepReferenceIdeal.nD Cert.AdaStepReferenceIdeal.τ).loc Cert.AdaStepReferenceIdeal.main_arg2) = m ((c.tc : Thread Cert.AdaStepIdeal.nD Cert.AdaStepIdeal.τ).loc Cert.AdaStepIdeal.main_arg2)
      ∧ m' ((c.tc : Thread Cert.AdaStepReferenceIdeal.nD Cert.AdaStepReferenceIdeal.τ).loc Cert.AdaStepReferenceIdeal.main_arg3) = m ((c.tc : Thread Cert.AdaStepIdeal.nD Cert.AdaStepIdeal.τ).loc Cert.AdaStepIdeal.main_arg3)) →
    ∃ (v0 : (c : Dev Cert.AdaStepIdeal.nD) → Buf (Elt Ideal) ((c.tc : Thread Cert.AdaStepIdeal.nD Cert.AdaStepIdeal.τ).loc Cert.AdaStepIdeal.main_v4_0)) (v1 : (c : Dev Cert.AdaStepIdeal.nD) → Buf (Elt Ideal) ((c.tc : Thread Cert.AdaStepIdeal.nD Cert.AdaStepIdeal.τ).loc Cert.AdaStepIdeal.main_v4_1)) (v2 : (c : Dev Cert.AdaStepIdeal.nD) → Buf (Elt Ideal) ((c.tc : Thread Cert.AdaStepIdeal.nD Cert.AdaStepIdeal.τ).loc Cert.AdaStepIdeal.main_v4_2)),
      θ_run (Cert.AdaStepIdeal.defs (F := Ideal)) (onTc (τ := Cert.AdaStepIdeal.τ) (Cert.AdaStepIdeal.main (F := Ideal))) ⟨m, fun _ => 0, g⟩ (fun r => ∀ c : Dev Cert.AdaStepIdeal.nD,
          r.2.mem ((c.tc : Thread Cert.AdaStepIdeal.nD Cert.AdaStepIdeal.τ).loc Cert.AdaStepIdeal.main_v4_0) = v0 c
          ∧ r.2.mem ((c.tc : Thread Cert.AdaStepIdeal.nD Cert.AdaStepIdeal.τ).loc Cert.AdaStepIdeal.main_v4_1) = v1 c
          ∧ r.2.mem ((c.tc : Thread Cert.AdaStepIdeal.nD Cert.AdaStepIdeal.τ).loc Cert.AdaStepIdeal.main_v4_2) = v2 c
          ∧ r.2.mem ((c.tc : Thread Cert.AdaStepIdeal.nD Cert.AdaStepIdeal.τ).loc Cert.AdaStepIdeal.main_arg0) = m ((c.tc : Thread Cert.AdaStepIdeal.nD Cert.AdaStepIdeal.τ).loc Cert.AdaStepIdeal.main_arg0)
          ∧ r.2.mem ((c.tc : Thread Cert.AdaStepIdeal.nD Cert.AdaStepIdeal.τ).loc Cert.AdaStepIdeal.main_arg1) = m ((c.tc : Thread Cert.AdaStepIdeal.nD Cert.AdaStepIdeal.τ).loc Cert.AdaStepIdeal.main_arg1)
          ∧ r.2.mem ((c.tc : Thread Cert.AdaStepIdeal.nD Cert.AdaStepIdeal.τ).loc Cert.AdaStepIdeal.main_arg2) = m ((c.tc : Thread Cert.AdaStepIdeal.nD Cert.AdaStepIdeal.τ).loc Cert.AdaStepIdeal.main_arg2)
          ∧ r.2.mem ((c.tc : Thread Cert.AdaStepIdeal.nD Cert.AdaStepIdeal.τ).loc Cert.AdaStepIdeal.main_arg3) = m ((c.tc : Thread Cert.AdaStepIdeal.nD Cert.AdaStepIdeal.τ).loc Cert.AdaStepIdeal.main_arg3))
      ∧ θ_run (Cert.AdaStepReferenceIdeal.defs (F := Ideal)) (onTc (τ := Cert.AdaStepReferenceIdeal.τ) (Cert.AdaStepReferenceIdeal.main (F := Ideal))) ⟨m', fun _ => 0, g'⟩ (fun r => ∀ c : Dev Cert.AdaStepReferenceIdeal.nD,
          r.2.mem ((c.tc : Thread Cert.AdaStepReferenceIdeal.nD Cert.AdaStepReferenceIdeal.τ).loc Cert.AdaStepReferenceIdeal.main_v24) = v0 c
          ∧ r.2.mem ((c.tc : Thread Cert.AdaStepReferenceIdeal.nD Cert.AdaStepReferenceIdeal.τ).loc Cert.AdaStepReferenceIdeal.main_v25) = v1 c
          ∧ r.2.mem ((c.tc : Thread Cert.AdaStepReferenceIdeal.nD Cert.AdaStepReferenceIdeal.τ).loc Cert.AdaStepReferenceIdeal.main_v26) = v2 c
          ∧ r.2.mem ((c.tc : Thread Cert.AdaStepReferenceIdeal.nD Cert.AdaStepReferenceIdeal.τ).loc Cert.AdaStepReferenceIdeal.main_arg0) = m' ((c.tc : Thread Cert.AdaStepReferenceIdeal.nD Cert.AdaStepReferenceIdeal.τ).loc Cert.AdaStepReferenceIdeal.main_arg0)
          ∧ r.2.mem ((c.tc : Thread Cert.AdaStepReferenceIdeal.nD Cert.AdaStepReferenceIdeal.τ).loc Cert.AdaStepReferenceIdeal.main_arg1) = m' ((c.tc : Thread Cert.AdaStepReferenceIdeal.nD Cert.AdaStepReferenceIdeal.τ).loc Cert.AdaStepReferenceIdeal.main_arg1)
          ∧ r.2.mem ((c.tc : Thread Cert.AdaStepReferenceIdeal.nD Cert.AdaStepReferenceIdeal.τ).loc Cert.AdaStepReferenceIdeal.main_arg2) = m' ((c.tc : Thread Cert.AdaStepReferenceIdeal.nD Cert.AdaStepReferenceIdeal.τ).loc Cert.AdaStepReferenceIdeal.main_arg2)
          ∧ r.2.mem ((c.tc : Thread Cert.AdaStepReferenceIdeal.nD Cert.AdaStepReferenceIdeal.τ).loc Cert.AdaStepReferenceIdeal.main_arg3) = m' ((c.tc : Thread Cert.AdaStepReferenceIdeal.nD Cert.AdaStepReferenceIdeal.τ).loc Cert.AdaStepReferenceIdeal.main_arg3))

def preserves_InStep_InStepIdeal : Prop :=
  IdealRules.named_const.Statement Cert.InStepIdeal.κ "mean" .f32 0x3FC48605#32 (((5463681 / 8388608)⁻¹ : ℝ) : EReal)
  ∧ IdealRules.named_const.Statement Cert.InStepIdeal.κ "square" .f32 0x42C8E6D3#32 (((2672307 / 268435456)⁻¹ : ℝ) : EReal)

def algebraic_InStepIdeal_InStepReferenceIdeal [hInStepIdeal : Cert.InStepIdeal.Facts] [hInStepReferenceIdeal : Cert.InStepReferenceIdeal.Facts] : Prop :=
  ∀ (m : (ℓ : Loc Cert.InStepIdeal.nD Cert.InStepIdeal.τ Cert.InStepIdeal.sig) → Buf (Elt Ideal) ℓ) (g : Dev Cert.InStepIdeal.nD → PrngReg)
    (m' : (ℓ : Loc Cert.InStepReferenceIdeal.nD Cert.InStepReferenceIdeal.τ Cert.InStepReferenceIdeal.sig) → Buf (Elt Ideal) ℓ) (g' : Dev Cert.InStepReferenceIdeal.nD → PrngReg), Pre_InStepIdeal m →
    (∀ c : Dev Cert.InStepIdeal.nD,
      m' ((c.tc : Thread Cert.InStepReferenceIdeal.nD Cert.InStepReferenceIdeal.τ).loc Cert.InStepReferenceIdeal.main_arg0) = m ((c.tc : Thread Cert.InStepIdeal.nD Cert.InStepIdeal.τ).loc Cert.InStepIdeal.main_arg0)
      ∧ m' ((c.tc : Thread Cert.InStepReferenceIdeal.nD Cert.InStepReferenceIdeal.τ).loc Cert.InStepReferenceIdeal.main_arg1) = m ((c.tc : Thread Cert.InStepIdeal.nD Cert.InStepIdeal.τ).loc Cert.InStepIdeal.main_arg1)
      ∧ m' ((c.tc : Thread Cert.InStepReferenceIdeal.nD Cert.InStepReferenceIdeal.τ).loc Cert.InStepReferenceIdeal.main_arg2) = m ((c.tc : Thread Cert.InStepIdeal.nD Cert.InStepIdeal.τ).loc Cert.InStepIdeal.main_arg2)
      ∧ m' ((c.tc : Thread Cert.InStepReferenceIdeal.nD Cert.InStepReferenceIdeal.τ).loc Cert.InStepReferenceIdeal.main_arg3) = m ((c.tc : Thread Cert.InStepIdeal.nD Cert.InStepIdeal.τ).loc Cert.InStepIdeal.main_arg3)) →
    ∃ (v0 : (c : Dev Cert.InStepIdeal.nD) → Buf (Elt Ideal) ((c.tc : Thread Cert.InStepIdeal.nD Cert.InStepIdeal.τ).loc Cert.InStepIdeal.main_v4_0)) (v1 : (c : Dev Cert.InStepIdeal.nD) → Buf (Elt Ideal) ((c.tc : Thread Cert.InStepIdeal.nD Cert.InStepIdeal.τ).loc Cert.InStepIdeal.main_v4_1)) (v2 : (c : Dev Cert.InStepIdeal.nD) → Buf (Elt Ideal) ((c.tc : Thread Cert.InStepIdeal.nD Cert.InStepIdeal.τ).loc Cert.InStepIdeal.main_v4_2)),
      θ_run (Cert.InStepIdeal.defs (F := Ideal)) (onTc (τ := Cert.InStepIdeal.τ) (Cert.InStepIdeal.main (F := Ideal))) ⟨m, fun _ => 0, g⟩ (fun r => ∀ c : Dev Cert.InStepIdeal.nD,
          r.2.mem ((c.tc : Thread Cert.InStepIdeal.nD Cert.InStepIdeal.τ).loc Cert.InStepIdeal.main_v4_0) = v0 c
          ∧ r.2.mem ((c.tc : Thread Cert.InStepIdeal.nD Cert.InStepIdeal.τ).loc Cert.InStepIdeal.main_v4_1) = v1 c
          ∧ r.2.mem ((c.tc : Thread Cert.InStepIdeal.nD Cert.InStepIdeal.τ).loc Cert.InStepIdeal.main_v4_2) = v2 c
          ∧ r.2.mem ((c.tc : Thread Cert.InStepIdeal.nD Cert.InStepIdeal.τ).loc Cert.InStepIdeal.main_arg0) = m ((c.tc : Thread Cert.InStepIdeal.nD Cert.InStepIdeal.τ).loc Cert.InStepIdeal.main_arg0)
          ∧ r.2.mem ((c.tc : Thread Cert.InStepIdeal.nD Cert.InStepIdeal.τ).loc Cert.InStepIdeal.main_arg1) = m ((c.tc : Thread Cert.InStepIdeal.nD Cert.InStepIdeal.τ).loc Cert.InStepIdeal.main_arg1)
          ∧ r.2.mem ((c.tc : Thread Cert.InStepIdeal.nD Cert.InStepIdeal.τ).loc Cert.InStepIdeal.main_arg2) = m ((c.tc : Thread Cert.InStepIdeal.nD Cert.InStepIdeal.τ).loc Cert.InStepIdeal.main_arg2)
          ∧ r.2.mem ((c.tc : Thread Cert.InStepIdeal.nD Cert.InStepIdeal.τ).loc Cert.InStepIdeal.main_arg3) = m ((c.tc : Thread Cert.InStepIdeal.nD Cert.InStepIdeal.τ).loc Cert.InStepIdeal.main_arg3))
      ∧ θ_run (Cert.InStepReferenceIdeal.defs (F := Ideal)) (onTc (τ := Cert.InStepReferenceIdeal.τ) (Cert.InStepReferenceIdeal.main (F := Ideal))) ⟨m', fun _ => 0, g'⟩ (fun r => ∀ c : Dev Cert.InStepReferenceIdeal.nD,
          r.2.mem ((c.tc : Thread Cert.InStepReferenceIdeal.nD Cert.InStepReferenceIdeal.τ).loc Cert.InStepReferenceIdeal.main_v24) = v0 c
          ∧ r.2.mem ((c.tc : Thread Cert.InStepReferenceIdeal.nD Cert.InStepReferenceIdeal.τ).loc Cert.InStepReferenceIdeal.main_v25) = v1 c
          ∧ r.2.mem ((c.tc : Thread Cert.InStepReferenceIdeal.nD Cert.InStepReferenceIdeal.τ).loc Cert.InStepReferenceIdeal.main_v26) = v2 c
          ∧ r.2.mem ((c.tc : Thread Cert.InStepReferenceIdeal.nD Cert.InStepReferenceIdeal.τ).loc Cert.InStepReferenceIdeal.main_arg0) = m' ((c.tc : Thread Cert.InStepReferenceIdeal.nD Cert.InStepReferenceIdeal.τ).loc Cert.InStepReferenceIdeal.main_arg0)
          ∧ r.2.mem ((c.tc : Thread Cert.InStepReferenceIdeal.nD Cert.InStepReferenceIdeal.τ).loc Cert.InStepReferenceIdeal.main_arg1) = m' ((c.tc : Thread Cert.InStepReferenceIdeal.nD Cert.InStepReferenceIdeal.τ).loc Cert.InStepReferenceIdeal.main_arg1)
          ∧ r.2.mem ((c.tc : Thread Cert.InStepReferenceIdeal.nD Cert.InStepReferenceIdeal.τ).loc Cert.InStepReferenceIdeal.main_arg2) = m' ((c.tc : Thread Cert.InStepReferenceIdeal.nD Cert.InStepReferenceIdeal.τ).loc Cert.InStepReferenceIdeal.main_arg2)
          ∧ r.2.mem ((c.tc : Thread Cert.InStepReferenceIdeal.nD Cert.InStepReferenceIdeal.τ).loc Cert.InStepReferenceIdeal.main_arg3) = m' ((c.tc : Thread Cert.InStepReferenceIdeal.nD Cert.InStepReferenceIdeal.τ).loc Cert.InStepReferenceIdeal.main_arg3))

def preserves_ConvStep_ConvStepIdeal : Prop :=
  IdealRules.named_const.Statement Cert.ConvStepIdeal.κ "mean" .f32 0x3FC48605#32 (((5463681 / 8388608)⁻¹ : ℝ) : EReal)
  ∧ IdealRules.named_const.Statement Cert.ConvStepIdeal.κ "square" .f32 0x42C8E6D3#32 (((2672307 / 268435456)⁻¹ : ℝ) : EReal)

def algebraic_ConvStepIdeal_ConvStepReferenceIdeal [hConvStepIdeal : Cert.ConvStepIdeal.Facts] [hConvStepReferenceIdeal : Cert.ConvStepReferenceIdeal.Facts] : Prop :=
  ∀ (m : (ℓ : Loc Cert.ConvStepIdeal.nD Cert.ConvStepIdeal.τ Cert.ConvStepIdeal.sig) → Buf (Elt Ideal) ℓ) (g : Dev Cert.ConvStepIdeal.nD → PrngReg)
    (m' : (ℓ : Loc Cert.ConvStepReferenceIdeal.nD Cert.ConvStepReferenceIdeal.τ Cert.ConvStepReferenceIdeal.sig) → Buf (Elt Ideal) ℓ) (g' : Dev Cert.ConvStepReferenceIdeal.nD → PrngReg), Pre_ConvStepIdeal m →
    (∀ c : Dev Cert.ConvStepIdeal.nD,
      m' ((c.tc : Thread Cert.ConvStepReferenceIdeal.nD Cert.ConvStepReferenceIdeal.τ).loc Cert.ConvStepReferenceIdeal.main_arg0) = m ((c.tc : Thread Cert.ConvStepIdeal.nD Cert.ConvStepIdeal.τ).loc Cert.ConvStepIdeal.main_arg0)
      ∧ m' ((c.tc : Thread Cert.ConvStepReferenceIdeal.nD Cert.ConvStepReferenceIdeal.τ).loc Cert.ConvStepReferenceIdeal.main_arg1) = m ((c.tc : Thread Cert.ConvStepIdeal.nD Cert.ConvStepIdeal.τ).loc Cert.ConvStepIdeal.main_arg1)
      ∧ m' ((c.tc : Thread Cert.ConvStepReferenceIdeal.nD Cert.ConvStepReferenceIdeal.τ).loc Cert.ConvStepReferenceIdeal.main_arg2) = m ((c.tc : Thread Cert.ConvStepIdeal.nD Cert.ConvStepIdeal.τ).loc Cert.ConvStepIdeal.main_arg2)
      ∧ m' ((c.tc : Thread Cert.ConvStepReferenceIdeal.nD Cert.ConvStepReferenceIdeal.τ).loc Cert.ConvStepReferenceIdeal.main_arg3) = m ((c.tc : Thread Cert.ConvStepIdeal.nD Cert.ConvStepIdeal.τ).loc Cert.ConvStepIdeal.main_arg3)) →
    ∃ (v0 : (c : Dev Cert.ConvStepIdeal.nD) → Buf (Elt Ideal) ((c.tc : Thread Cert.ConvStepIdeal.nD Cert.ConvStepIdeal.τ).loc Cert.ConvStepIdeal.main_v4_0)) (v1 : (c : Dev Cert.ConvStepIdeal.nD) → Buf (Elt Ideal) ((c.tc : Thread Cert.ConvStepIdeal.nD Cert.ConvStepIdeal.τ).loc Cert.ConvStepIdeal.main_v4_1)) (v2 : (c : Dev Cert.ConvStepIdeal.nD) → Buf (Elt Ideal) ((c.tc : Thread Cert.ConvStepIdeal.nD Cert.ConvStepIdeal.τ).loc Cert.ConvStepIdeal.main_v4_2)),
      θ_run (Cert.ConvStepIdeal.defs (F := Ideal)) (onTc (τ := Cert.ConvStepIdeal.τ) (Cert.ConvStepIdeal.main (F := Ideal))) ⟨m, fun _ => 0, g⟩ (fun r => ∀ c : Dev Cert.ConvStepIdeal.nD,
          r.2.mem ((c.tc : Thread Cert.ConvStepIdeal.nD Cert.ConvStepIdeal.τ).loc Cert.ConvStepIdeal.main_v4_0) = v0 c
          ∧ r.2.mem ((c.tc : Thread Cert.ConvStepIdeal.nD Cert.ConvStepIdeal.τ).loc Cert.ConvStepIdeal.main_v4_1) = v1 c
          ∧ r.2.mem ((c.tc : Thread Cert.ConvStepIdeal.nD Cert.ConvStepIdeal.τ).loc Cert.ConvStepIdeal.main_v4_2) = v2 c
          ∧ r.2.mem ((c.tc : Thread Cert.ConvStepIdeal.nD Cert.ConvStepIdeal.τ).loc Cert.ConvStepIdeal.main_arg0) = m ((c.tc : Thread Cert.ConvStepIdeal.nD Cert.ConvStepIdeal.τ).loc Cert.ConvStepIdeal.main_arg0)
          ∧ r.2.mem ((c.tc : Thread Cert.ConvStepIdeal.nD Cert.ConvStepIdeal.τ).loc Cert.ConvStepIdeal.main_arg1) = m ((c.tc : Thread Cert.ConvStepIdeal.nD Cert.ConvStepIdeal.τ).loc Cert.ConvStepIdeal.main_arg1)
          ∧ r.2.mem ((c.tc : Thread Cert.ConvStepIdeal.nD Cert.ConvStepIdeal.τ).loc Cert.ConvStepIdeal.main_arg2) = m ((c.tc : Thread Cert.ConvStepIdeal.nD Cert.ConvStepIdeal.τ).loc Cert.ConvStepIdeal.main_arg2)
          ∧ r.2.mem ((c.tc : Thread Cert.ConvStepIdeal.nD Cert.ConvStepIdeal.τ).loc Cert.ConvStepIdeal.main_arg3) = m ((c.tc : Thread Cert.ConvStepIdeal.nD Cert.ConvStepIdeal.τ).loc Cert.ConvStepIdeal.main_arg3))
      ∧ θ_run (Cert.ConvStepReferenceIdeal.defs (F := Ideal)) (onTc (τ := Cert.ConvStepReferenceIdeal.τ) (Cert.ConvStepReferenceIdeal.main (F := Ideal))) ⟨m', fun _ => 0, g'⟩ (fun r => ∀ c : Dev Cert.ConvStepReferenceIdeal.nD,
          r.2.mem ((c.tc : Thread Cert.ConvStepReferenceIdeal.nD Cert.ConvStepReferenceIdeal.τ).loc Cert.ConvStepReferenceIdeal.main_v24) = v0 c
          ∧ r.2.mem ((c.tc : Thread Cert.ConvStepReferenceIdeal.nD Cert.ConvStepReferenceIdeal.τ).loc Cert.ConvStepReferenceIdeal.main_v25) = v1 c
          ∧ r.2.mem ((c.tc : Thread Cert.ConvStepReferenceIdeal.nD Cert.ConvStepReferenceIdeal.τ).loc Cert.ConvStepReferenceIdeal.main_v26) = v2 c
          ∧ r.2.mem ((c.tc : Thread Cert.ConvStepReferenceIdeal.nD Cert.ConvStepReferenceIdeal.τ).loc Cert.ConvStepReferenceIdeal.main_arg0) = m' ((c.tc : Thread Cert.ConvStepReferenceIdeal.nD Cert.ConvStepReferenceIdeal.τ).loc Cert.ConvStepReferenceIdeal.main_arg0)
          ∧ r.2.mem ((c.tc : Thread Cert.ConvStepReferenceIdeal.nD Cert.ConvStepReferenceIdeal.τ).loc Cert.ConvStepReferenceIdeal.main_arg1) = m' ((c.tc : Thread Cert.ConvStepReferenceIdeal.nD Cert.ConvStepReferenceIdeal.τ).loc Cert.ConvStepReferenceIdeal.main_arg1)
          ∧ r.2.mem ((c.tc : Thread Cert.ConvStepReferenceIdeal.nD Cert.ConvStepReferenceIdeal.τ).loc Cert.ConvStepReferenceIdeal.main_arg2) = m' ((c.tc : Thread Cert.ConvStepReferenceIdeal.nD Cert.ConvStepReferenceIdeal.τ).loc Cert.ConvStepReferenceIdeal.main_arg2)
          ∧ r.2.mem ((c.tc : Thread Cert.ConvStepReferenceIdeal.nD Cert.ConvStepReferenceIdeal.τ).loc Cert.ConvStepReferenceIdeal.main_arg3) = m' ((c.tc : Thread Cert.ConvStepReferenceIdeal.nD Cert.ConvStepReferenceIdeal.τ).loc Cert.ConvStepReferenceIdeal.main_arg3))

def preserves_QueryStep_QueryStepIdeal : Prop :=
  IdealRules.named_const.Statement Cert.QueryStepIdeal.κ "mean" .f32 0x3FC48605#32 (((5463681 / 8388608)⁻¹ : ℝ) : EReal)
  ∧ IdealRules.named_const.Statement Cert.QueryStepIdeal.κ "square" .f32 0x42C8E6D3#32 (((2672307 / 268435456)⁻¹ : ℝ) : EReal)

def algebraic_QueryStepIdeal_QueryStepReferenceIdeal [hQueryStepIdeal : Cert.QueryStepIdeal.Facts] [hQueryStepReferenceIdeal : Cert.QueryStepReferenceIdeal.Facts] : Prop :=
  ∀ (m : (ℓ : Loc Cert.QueryStepIdeal.nD Cert.QueryStepIdeal.τ Cert.QueryStepIdeal.sig) → Buf (Elt Ideal) ℓ) (g : Dev Cert.QueryStepIdeal.nD → PrngReg)
    (m' : (ℓ : Loc Cert.QueryStepReferenceIdeal.nD Cert.QueryStepReferenceIdeal.τ Cert.QueryStepReferenceIdeal.sig) → Buf (Elt Ideal) ℓ) (g' : Dev Cert.QueryStepReferenceIdeal.nD → PrngReg), Pre_QueryStepIdeal m →
    (∀ c : Dev Cert.QueryStepIdeal.nD,
      m' ((c.tc : Thread Cert.QueryStepReferenceIdeal.nD Cert.QueryStepReferenceIdeal.τ).loc Cert.QueryStepReferenceIdeal.main_arg0) = m ((c.tc : Thread Cert.QueryStepIdeal.nD Cert.QueryStepIdeal.τ).loc Cert.QueryStepIdeal.main_arg0)
      ∧ m' ((c.tc : Thread Cert.QueryStepReferenceIdeal.nD Cert.QueryStepReferenceIdeal.τ).loc Cert.QueryStepReferenceIdeal.main_arg1) = m ((c.tc : Thread Cert.QueryStepIdeal.nD Cert.QueryStepIdeal.τ).loc Cert.QueryStepIdeal.main_arg1)
      ∧ m' ((c.tc : Thread Cert.QueryStepReferenceIdeal.nD Cert.QueryStepReferenceIdeal.τ).loc Cert.QueryStepReferenceIdeal.main_arg2) = m ((c.tc : Thread Cert.QueryStepIdeal.nD Cert.QueryStepIdeal.τ).loc Cert.QueryStepIdeal.main_arg2)
      ∧ m' ((c.tc : Thread Cert.QueryStepReferenceIdeal.nD Cert.QueryStepReferenceIdeal.τ).loc Cert.QueryStepReferenceIdeal.main_arg3) = m ((c.tc : Thread Cert.QueryStepIdeal.nD Cert.QueryStepIdeal.τ).loc Cert.QueryStepIdeal.main_arg3)) →
    ∃ (v0 : (c : Dev Cert.QueryStepIdeal.nD) → Buf (Elt Ideal) ((c.tc : Thread Cert.QueryStepIdeal.nD Cert.QueryStepIdeal.τ).loc Cert.QueryStepIdeal.main_v4_0)) (v1 : (c : Dev Cert.QueryStepIdeal.nD) → Buf (Elt Ideal) ((c.tc : Thread Cert.QueryStepIdeal.nD Cert.QueryStepIdeal.τ).loc Cert.QueryStepIdeal.main_v4_1)) (v2 : (c : Dev Cert.QueryStepIdeal.nD) → Buf (Elt Ideal) ((c.tc : Thread Cert.QueryStepIdeal.nD Cert.QueryStepIdeal.τ).loc Cert.QueryStepIdeal.main_v4_2)),
      θ_run (Cert.QueryStepIdeal.defs (F := Ideal)) (onTc (τ := Cert.QueryStepIdeal.τ) (Cert.QueryStepIdeal.main (F := Ideal))) ⟨m, fun _ => 0, g⟩ (fun r => ∀ c : Dev Cert.QueryStepIdeal.nD,
          r.2.mem ((c.tc : Thread Cert.QueryStepIdeal.nD Cert.QueryStepIdeal.τ).loc Cert.QueryStepIdeal.main_v4_0) = v0 c
          ∧ r.2.mem ((c.tc : Thread Cert.QueryStepIdeal.nD Cert.QueryStepIdeal.τ).loc Cert.QueryStepIdeal.main_v4_1) = v1 c
          ∧ r.2.mem ((c.tc : Thread Cert.QueryStepIdeal.nD Cert.QueryStepIdeal.τ).loc Cert.QueryStepIdeal.main_v4_2) = v2 c
          ∧ r.2.mem ((c.tc : Thread Cert.QueryStepIdeal.nD Cert.QueryStepIdeal.τ).loc Cert.QueryStepIdeal.main_arg0) = m ((c.tc : Thread Cert.QueryStepIdeal.nD Cert.QueryStepIdeal.τ).loc Cert.QueryStepIdeal.main_arg0)
          ∧ r.2.mem ((c.tc : Thread Cert.QueryStepIdeal.nD Cert.QueryStepIdeal.τ).loc Cert.QueryStepIdeal.main_arg1) = m ((c.tc : Thread Cert.QueryStepIdeal.nD Cert.QueryStepIdeal.τ).loc Cert.QueryStepIdeal.main_arg1)
          ∧ r.2.mem ((c.tc : Thread Cert.QueryStepIdeal.nD Cert.QueryStepIdeal.τ).loc Cert.QueryStepIdeal.main_arg2) = m ((c.tc : Thread Cert.QueryStepIdeal.nD Cert.QueryStepIdeal.τ).loc Cert.QueryStepIdeal.main_arg2)
          ∧ r.2.mem ((c.tc : Thread Cert.QueryStepIdeal.nD Cert.QueryStepIdeal.τ).loc Cert.QueryStepIdeal.main_arg3) = m ((c.tc : Thread Cert.QueryStepIdeal.nD Cert.QueryStepIdeal.τ).loc Cert.QueryStepIdeal.main_arg3))
      ∧ θ_run (Cert.QueryStepReferenceIdeal.defs (F := Ideal)) (onTc (τ := Cert.QueryStepReferenceIdeal.τ) (Cert.QueryStepReferenceIdeal.main (F := Ideal))) ⟨m', fun _ => 0, g'⟩ (fun r => ∀ c : Dev Cert.QueryStepReferenceIdeal.nD,
          r.2.mem ((c.tc : Thread Cert.QueryStepReferenceIdeal.nD Cert.QueryStepReferenceIdeal.τ).loc Cert.QueryStepReferenceIdeal.main_v24) = v0 c
          ∧ r.2.mem ((c.tc : Thread Cert.QueryStepReferenceIdeal.nD Cert.QueryStepReferenceIdeal.τ).loc Cert.QueryStepReferenceIdeal.main_v25) = v1 c
          ∧ r.2.mem ((c.tc : Thread Cert.QueryStepReferenceIdeal.nD Cert.QueryStepReferenceIdeal.τ).loc Cert.QueryStepReferenceIdeal.main_v26) = v2 c
          ∧ r.2.mem ((c.tc : Thread Cert.QueryStepReferenceIdeal.nD Cert.QueryStepReferenceIdeal.τ).loc Cert.QueryStepReferenceIdeal.main_arg0) = m' ((c.tc : Thread Cert.QueryStepReferenceIdeal.nD Cert.QueryStepReferenceIdeal.τ).loc Cert.QueryStepReferenceIdeal.main_arg0)
          ∧ r.2.mem ((c.tc : Thread Cert.QueryStepReferenceIdeal.nD Cert.QueryStepReferenceIdeal.τ).loc Cert.QueryStepReferenceIdeal.main_arg1) = m' ((c.tc : Thread Cert.QueryStepReferenceIdeal.nD Cert.QueryStepReferenceIdeal.τ).loc Cert.QueryStepReferenceIdeal.main_arg1)
          ∧ r.2.mem ((c.tc : Thread Cert.QueryStepReferenceIdeal.nD Cert.QueryStepReferenceIdeal.τ).loc Cert.QueryStepReferenceIdeal.main_arg2) = m' ((c.tc : Thread Cert.QueryStepReferenceIdeal.nD Cert.QueryStepReferenceIdeal.τ).loc Cert.QueryStepReferenceIdeal.main_arg2)
          ∧ r.2.mem ((c.tc : Thread Cert.QueryStepReferenceIdeal.nD Cert.QueryStepReferenceIdeal.τ).loc Cert.QueryStepReferenceIdeal.main_arg3) = m' ((c.tc : Thread Cert.QueryStepReferenceIdeal.nD Cert.QueryStepReferenceIdeal.τ).loc Cert.QueryStepReferenceIdeal.main_arg3))

def preserves_KeyStep_KeyStepIdeal : Prop :=
  IdealRules.named_const.Statement Cert.KeyStepIdeal.κ "mean" .f32 0x3FC48605#32 (((5463681 / 8388608)⁻¹ : ℝ) : EReal)
  ∧ IdealRules.named_const.Statement Cert.KeyStepIdeal.κ "square" .f32 0x42C8E6D3#32 (((2672307 / 268435456)⁻¹ : ℝ) : EReal)

def algebraic_KeyStepIdeal_KeyStepReferenceIdeal [hKeyStepIdeal : Cert.KeyStepIdeal.Facts] [hKeyStepReferenceIdeal : Cert.KeyStepReferenceIdeal.Facts] : Prop :=
  ∀ (m : (ℓ : Loc Cert.KeyStepIdeal.nD Cert.KeyStepIdeal.τ Cert.KeyStepIdeal.sig) → Buf (Elt Ideal) ℓ) (g : Dev Cert.KeyStepIdeal.nD → PrngReg)
    (m' : (ℓ : Loc Cert.KeyStepReferenceIdeal.nD Cert.KeyStepReferenceIdeal.τ Cert.KeyStepReferenceIdeal.sig) → Buf (Elt Ideal) ℓ) (g' : Dev Cert.KeyStepReferenceIdeal.nD → PrngReg), Pre_KeyStepIdeal m →
    (∀ c : Dev Cert.KeyStepIdeal.nD,
      m' ((c.tc : Thread Cert.KeyStepReferenceIdeal.nD Cert.KeyStepReferenceIdeal.τ).loc Cert.KeyStepReferenceIdeal.main_arg0) = m ((c.tc : Thread Cert.KeyStepIdeal.nD Cert.KeyStepIdeal.τ).loc Cert.KeyStepIdeal.main_arg0)
      ∧ m' ((c.tc : Thread Cert.KeyStepReferenceIdeal.nD Cert.KeyStepReferenceIdeal.τ).loc Cert.KeyStepReferenceIdeal.main_arg1) = m ((c.tc : Thread Cert.KeyStepIdeal.nD Cert.KeyStepIdeal.τ).loc Cert.KeyStepIdeal.main_arg1)
      ∧ m' ((c.tc : Thread Cert.KeyStepReferenceIdeal.nD Cert.KeyStepReferenceIdeal.τ).loc Cert.KeyStepReferenceIdeal.main_arg2) = m ((c.tc : Thread Cert.KeyStepIdeal.nD Cert.KeyStepIdeal.τ).loc Cert.KeyStepIdeal.main_arg2)
      ∧ m' ((c.tc : Thread Cert.KeyStepReferenceIdeal.nD Cert.KeyStepReferenceIdeal.τ).loc Cert.KeyStepReferenceIdeal.main_arg3) = m ((c.tc : Thread Cert.KeyStepIdeal.nD Cert.KeyStepIdeal.τ).loc Cert.KeyStepIdeal.main_arg3)) →
    ∃ (v0 : (c : Dev Cert.KeyStepIdeal.nD) → Buf (Elt Ideal) ((c.tc : Thread Cert.KeyStepIdeal.nD Cert.KeyStepIdeal.τ).loc Cert.KeyStepIdeal.main_v4_0)) (v1 : (c : Dev Cert.KeyStepIdeal.nD) → Buf (Elt Ideal) ((c.tc : Thread Cert.KeyStepIdeal.nD Cert.KeyStepIdeal.τ).loc Cert.KeyStepIdeal.main_v4_1)) (v2 : (c : Dev Cert.KeyStepIdeal.nD) → Buf (Elt Ideal) ((c.tc : Thread Cert.KeyStepIdeal.nD Cert.KeyStepIdeal.τ).loc Cert.KeyStepIdeal.main_v4_2)),
      θ_run (Cert.KeyStepIdeal.defs (F := Ideal)) (onTc (τ := Cert.KeyStepIdeal.τ) (Cert.KeyStepIdeal.main (F := Ideal))) ⟨m, fun _ => 0, g⟩ (fun r => ∀ c : Dev Cert.KeyStepIdeal.nD,
          r.2.mem ((c.tc : Thread Cert.KeyStepIdeal.nD Cert.KeyStepIdeal.τ).loc Cert.KeyStepIdeal.main_v4_0) = v0 c
          ∧ r.2.mem ((c.tc : Thread Cert.KeyStepIdeal.nD Cert.KeyStepIdeal.τ).loc Cert.KeyStepIdeal.main_v4_1) = v1 c
          ∧ r.2.mem ((c.tc : Thread Cert.KeyStepIdeal.nD Cert.KeyStepIdeal.τ).loc Cert.KeyStepIdeal.main_v4_2) = v2 c
          ∧ r.2.mem ((c.tc : Thread Cert.KeyStepIdeal.nD Cert.KeyStepIdeal.τ).loc Cert.KeyStepIdeal.main_arg0) = m ((c.tc : Thread Cert.KeyStepIdeal.nD Cert.KeyStepIdeal.τ).loc Cert.KeyStepIdeal.main_arg0)
          ∧ r.2.mem ((c.tc : Thread Cert.KeyStepIdeal.nD Cert.KeyStepIdeal.τ).loc Cert.KeyStepIdeal.main_arg1) = m ((c.tc : Thread Cert.KeyStepIdeal.nD Cert.KeyStepIdeal.τ).loc Cert.KeyStepIdeal.main_arg1)
          ∧ r.2.mem ((c.tc : Thread Cert.KeyStepIdeal.nD Cert.KeyStepIdeal.τ).loc Cert.KeyStepIdeal.main_arg2) = m ((c.tc : Thread Cert.KeyStepIdeal.nD Cert.KeyStepIdeal.τ).loc Cert.KeyStepIdeal.main_arg2)
          ∧ r.2.mem ((c.tc : Thread Cert.KeyStepIdeal.nD Cert.KeyStepIdeal.τ).loc Cert.KeyStepIdeal.main_arg3) = m ((c.tc : Thread Cert.KeyStepIdeal.nD Cert.KeyStepIdeal.τ).loc Cert.KeyStepIdeal.main_arg3))
      ∧ θ_run (Cert.KeyStepReferenceIdeal.defs (F := Ideal)) (onTc (τ := Cert.KeyStepReferenceIdeal.τ) (Cert.KeyStepReferenceIdeal.main (F := Ideal))) ⟨m', fun _ => 0, g'⟩ (fun r => ∀ c : Dev Cert.KeyStepReferenceIdeal.nD,
          r.2.mem ((c.tc : Thread Cert.KeyStepReferenceIdeal.nD Cert.KeyStepReferenceIdeal.τ).loc Cert.KeyStepReferenceIdeal.main_v24) = v0 c
          ∧ r.2.mem ((c.tc : Thread Cert.KeyStepReferenceIdeal.nD Cert.KeyStepReferenceIdeal.τ).loc Cert.KeyStepReferenceIdeal.main_v25) = v1 c
          ∧ r.2.mem ((c.tc : Thread Cert.KeyStepReferenceIdeal.nD Cert.KeyStepReferenceIdeal.τ).loc Cert.KeyStepReferenceIdeal.main_v26) = v2 c
          ∧ r.2.mem ((c.tc : Thread Cert.KeyStepReferenceIdeal.nD Cert.KeyStepReferenceIdeal.τ).loc Cert.KeyStepReferenceIdeal.main_arg0) = m' ((c.tc : Thread Cert.KeyStepReferenceIdeal.nD Cert.KeyStepReferenceIdeal.τ).loc Cert.KeyStepReferenceIdeal.main_arg0)
          ∧ r.2.mem ((c.tc : Thread Cert.KeyStepReferenceIdeal.nD Cert.KeyStepReferenceIdeal.τ).loc Cert.KeyStepReferenceIdeal.main_arg1) = m' ((c.tc : Thread Cert.KeyStepReferenceIdeal.nD Cert.KeyStepReferenceIdeal.τ).loc Cert.KeyStepReferenceIdeal.main_arg1)
          ∧ r.2.mem ((c.tc : Thread Cert.KeyStepReferenceIdeal.nD Cert.KeyStepReferenceIdeal.τ).loc Cert.KeyStepReferenceIdeal.main_arg2) = m' ((c.tc : Thread Cert.KeyStepReferenceIdeal.nD Cert.KeyStepReferenceIdeal.τ).loc Cert.KeyStepReferenceIdeal.main_arg2)
          ∧ r.2.mem ((c.tc : Thread Cert.KeyStepReferenceIdeal.nD Cert.KeyStepReferenceIdeal.τ).loc Cert.KeyStepReferenceIdeal.main_arg3) = m' ((c.tc : Thread Cert.KeyStepReferenceIdeal.nD Cert.KeyStepReferenceIdeal.τ).loc Cert.KeyStepReferenceIdeal.main_arg3))

def preserves_OutStep_OutStepIdeal : Prop :=
  IdealRules.named_const.Statement Cert.OutStepIdeal.κ "mean" .f32 0x3FC48605#32 (((5463681 / 8388608)⁻¹ : ℝ) : EReal)
  ∧ IdealRules.named_const.Statement Cert.OutStepIdeal.κ "square" .f32 0x42C8E6D3#32 (((2672307 / 268435456)⁻¹ : ℝ) : EReal)

def algebraic_OutStepIdeal_OutStepReferenceIdeal [hOutStepIdeal : Cert.OutStepIdeal.Facts] [hOutStepReferenceIdeal : Cert.OutStepReferenceIdeal.Facts] : Prop :=
  ∀ (m : (ℓ : Loc Cert.OutStepIdeal.nD Cert.OutStepIdeal.τ Cert.OutStepIdeal.sig) → Buf (Elt Ideal) ℓ) (g : Dev Cert.OutStepIdeal.nD → PrngReg)
    (m' : (ℓ : Loc Cert.OutStepReferenceIdeal.nD Cert.OutStepReferenceIdeal.τ Cert.OutStepReferenceIdeal.sig) → Buf (Elt Ideal) ℓ) (g' : Dev Cert.OutStepReferenceIdeal.nD → PrngReg), Pre_OutStepIdeal m →
    (∀ c : Dev Cert.OutStepIdeal.nD,
      m' ((c.tc : Thread Cert.OutStepReferenceIdeal.nD Cert.OutStepReferenceIdeal.τ).loc Cert.OutStepReferenceIdeal.main_arg0) = m ((c.tc : Thread Cert.OutStepIdeal.nD Cert.OutStepIdeal.τ).loc Cert.OutStepIdeal.main_arg0)
      ∧ m' ((c.tc : Thread Cert.OutStepReferenceIdeal.nD Cert.OutStepReferenceIdeal.τ).loc Cert.OutStepReferenceIdeal.main_arg1) = m ((c.tc : Thread Cert.OutStepIdeal.nD Cert.OutStepIdeal.τ).loc Cert.OutStepIdeal.main_arg1)
      ∧ m' ((c.tc : Thread Cert.OutStepReferenceIdeal.nD Cert.OutStepReferenceIdeal.τ).loc Cert.OutStepReferenceIdeal.main_arg2) = m ((c.tc : Thread Cert.OutStepIdeal.nD Cert.OutStepIdeal.τ).loc Cert.OutStepIdeal.main_arg2)
      ∧ m' ((c.tc : Thread Cert.OutStepReferenceIdeal.nD Cert.OutStepReferenceIdeal.τ).loc Cert.OutStepReferenceIdeal.main_arg3) = m ((c.tc : Thread Cert.OutStepIdeal.nD Cert.OutStepIdeal.τ).loc Cert.OutStepIdeal.main_arg3)) →
    ∃ (v0 : (c : Dev Cert.OutStepIdeal.nD) → Buf (Elt Ideal) ((c.tc : Thread Cert.OutStepIdeal.nD Cert.OutStepIdeal.τ).loc Cert.OutStepIdeal.main_v4_0)) (v1 : (c : Dev Cert.OutStepIdeal.nD) → Buf (Elt Ideal) ((c.tc : Thread Cert.OutStepIdeal.nD Cert.OutStepIdeal.τ).loc Cert.OutStepIdeal.main_v4_1)) (v2 : (c : Dev Cert.OutStepIdeal.nD) → Buf (Elt Ideal) ((c.tc : Thread Cert.OutStepIdeal.nD Cert.OutStepIdeal.τ).loc Cert.OutStepIdeal.main_v4_2)),
      θ_run (Cert.OutStepIdeal.defs (F := Ideal)) (onTc (τ := Cert.OutStepIdeal.τ) (Cert.OutStepIdeal.main (F := Ideal))) ⟨m, fun _ => 0, g⟩ (fun r => ∀ c : Dev Cert.OutStepIdeal.nD,
          r.2.mem ((c.tc : Thread Cert.OutStepIdeal.nD Cert.OutStepIdeal.τ).loc Cert.OutStepIdeal.main_v4_0) = v0 c
          ∧ r.2.mem ((c.tc : Thread Cert.OutStepIdeal.nD Cert.OutStepIdeal.τ).loc Cert.OutStepIdeal.main_v4_1) = v1 c
          ∧ r.2.mem ((c.tc : Thread Cert.OutStepIdeal.nD Cert.OutStepIdeal.τ).loc Cert.OutStepIdeal.main_v4_2) = v2 c
          ∧ r.2.mem ((c.tc : Thread Cert.OutStepIdeal.nD Cert.OutStepIdeal.τ).loc Cert.OutStepIdeal.main_arg0) = m ((c.tc : Thread Cert.OutStepIdeal.nD Cert.OutStepIdeal.τ).loc Cert.OutStepIdeal.main_arg0)
          ∧ r.2.mem ((c.tc : Thread Cert.OutStepIdeal.nD Cert.OutStepIdeal.τ).loc Cert.OutStepIdeal.main_arg1) = m ((c.tc : Thread Cert.OutStepIdeal.nD Cert.OutStepIdeal.τ).loc Cert.OutStepIdeal.main_arg1)
          ∧ r.2.mem ((c.tc : Thread Cert.OutStepIdeal.nD Cert.OutStepIdeal.τ).loc Cert.OutStepIdeal.main_arg2) = m ((c.tc : Thread Cert.OutStepIdeal.nD Cert.OutStepIdeal.τ).loc Cert.OutStepIdeal.main_arg2)
          ∧ r.2.mem ((c.tc : Thread Cert.OutStepIdeal.nD Cert.OutStepIdeal.τ).loc Cert.OutStepIdeal.main_arg3) = m ((c.tc : Thread Cert.OutStepIdeal.nD Cert.OutStepIdeal.τ).loc Cert.OutStepIdeal.main_arg3))
      ∧ θ_run (Cert.OutStepReferenceIdeal.defs (F := Ideal)) (onTc (τ := Cert.OutStepReferenceIdeal.τ) (Cert.OutStepReferenceIdeal.main (F := Ideal))) ⟨m', fun _ => 0, g'⟩ (fun r => ∀ c : Dev Cert.OutStepReferenceIdeal.nD,
          r.2.mem ((c.tc : Thread Cert.OutStepReferenceIdeal.nD Cert.OutStepReferenceIdeal.τ).loc Cert.OutStepReferenceIdeal.main_v24) = v0 c
          ∧ r.2.mem ((c.tc : Thread Cert.OutStepReferenceIdeal.nD Cert.OutStepReferenceIdeal.τ).loc Cert.OutStepReferenceIdeal.main_v25) = v1 c
          ∧ r.2.mem ((c.tc : Thread Cert.OutStepReferenceIdeal.nD Cert.OutStepReferenceIdeal.τ).loc Cert.OutStepReferenceIdeal.main_v26) = v2 c
          ∧ r.2.mem ((c.tc : Thread Cert.OutStepReferenceIdeal.nD Cert.OutStepReferenceIdeal.τ).loc Cert.OutStepReferenceIdeal.main_arg0) = m' ((c.tc : Thread Cert.OutStepReferenceIdeal.nD Cert.OutStepReferenceIdeal.τ).loc Cert.OutStepReferenceIdeal.main_arg0)
          ∧ r.2.mem ((c.tc : Thread Cert.OutStepReferenceIdeal.nD Cert.OutStepReferenceIdeal.τ).loc Cert.OutStepReferenceIdeal.main_arg1) = m' ((c.tc : Thread Cert.OutStepReferenceIdeal.nD Cert.OutStepReferenceIdeal.τ).loc Cert.OutStepReferenceIdeal.main_arg1)
          ∧ r.2.mem ((c.tc : Thread Cert.OutStepReferenceIdeal.nD Cert.OutStepReferenceIdeal.τ).loc Cert.OutStepReferenceIdeal.main_arg2) = m' ((c.tc : Thread Cert.OutStepReferenceIdeal.nD Cert.OutStepReferenceIdeal.τ).loc Cert.OutStepReferenceIdeal.main_arg2)
          ∧ r.2.mem ((c.tc : Thread Cert.OutStepReferenceIdeal.nD Cert.OutStepReferenceIdeal.τ).loc Cert.OutStepReferenceIdeal.main_arg3) = m' ((c.tc : Thread Cert.OutStepReferenceIdeal.nD Cert.OutStepReferenceIdeal.τ).loc Cert.OutStepReferenceIdeal.main_arg3))

def preserves_UpStep_UpStepIdeal : Prop :=
  IdealRules.named_const.Statement Cert.UpStepIdeal.κ "mean" .f32 0x3FC48605#32 (((5463681 / 8388608)⁻¹ : ℝ) : EReal)
  ∧ IdealRules.named_const.Statement Cert.UpStepIdeal.κ "square" .f32 0x42C8E6D3#32 (((2672307 / 268435456)⁻¹ : ℝ) : EReal)

def algebraic_UpStepIdeal_UpStepReferenceIdeal [hUpStepIdeal : Cert.UpStepIdeal.Facts] [hUpStepReferenceIdeal : Cert.UpStepReferenceIdeal.Facts] : Prop :=
  ∀ (m : (ℓ : Loc Cert.UpStepIdeal.nD Cert.UpStepIdeal.τ Cert.UpStepIdeal.sig) → Buf (Elt Ideal) ℓ) (g : Dev Cert.UpStepIdeal.nD → PrngReg)
    (m' : (ℓ : Loc Cert.UpStepReferenceIdeal.nD Cert.UpStepReferenceIdeal.τ Cert.UpStepReferenceIdeal.sig) → Buf (Elt Ideal) ℓ) (g' : Dev Cert.UpStepReferenceIdeal.nD → PrngReg), Pre_UpStepIdeal m →
    (∀ c : Dev Cert.UpStepIdeal.nD,
      m' ((c.tc : Thread Cert.UpStepReferenceIdeal.nD Cert.UpStepReferenceIdeal.τ).loc Cert.UpStepReferenceIdeal.main_arg0) = m ((c.tc : Thread Cert.UpStepIdeal.nD Cert.UpStepIdeal.τ).loc Cert.UpStepIdeal.main_arg0)
      ∧ m' ((c.tc : Thread Cert.UpStepReferenceIdeal.nD Cert.UpStepReferenceIdeal.τ).loc Cert.UpStepReferenceIdeal.main_arg1) = m ((c.tc : Thread Cert.UpStepIdeal.nD Cert.UpStepIdeal.τ).loc Cert.UpStepIdeal.main_arg1)
      ∧ m' ((c.tc : Thread Cert.UpStepReferenceIdeal.nD Cert.UpStepReferenceIdeal.τ).loc Cert.UpStepReferenceIdeal.main_arg2) = m ((c.tc : Thread Cert.UpStepIdeal.nD Cert.UpStepIdeal.τ).loc Cert.UpStepIdeal.main_arg2)
      ∧ m' ((c.tc : Thread Cert.UpStepReferenceIdeal.nD Cert.UpStepReferenceIdeal.τ).loc Cert.UpStepReferenceIdeal.main_arg3) = m ((c.tc : Thread Cert.UpStepIdeal.nD Cert.UpStepIdeal.τ).loc Cert.UpStepIdeal.main_arg3)) →
    ∃ (v0 : (c : Dev Cert.UpStepIdeal.nD) → Buf (Elt Ideal) ((c.tc : Thread Cert.UpStepIdeal.nD Cert.UpStepIdeal.τ).loc Cert.UpStepIdeal.main_v4_0)) (v1 : (c : Dev Cert.UpStepIdeal.nD) → Buf (Elt Ideal) ((c.tc : Thread Cert.UpStepIdeal.nD Cert.UpStepIdeal.τ).loc Cert.UpStepIdeal.main_v4_1)) (v2 : (c : Dev Cert.UpStepIdeal.nD) → Buf (Elt Ideal) ((c.tc : Thread Cert.UpStepIdeal.nD Cert.UpStepIdeal.τ).loc Cert.UpStepIdeal.main_v4_2)),
      θ_run (Cert.UpStepIdeal.defs (F := Ideal)) (onTc (τ := Cert.UpStepIdeal.τ) (Cert.UpStepIdeal.main (F := Ideal))) ⟨m, fun _ => 0, g⟩ (fun r => ∀ c : Dev Cert.UpStepIdeal.nD,
          r.2.mem ((c.tc : Thread Cert.UpStepIdeal.nD Cert.UpStepIdeal.τ).loc Cert.UpStepIdeal.main_v4_0) = v0 c
          ∧ r.2.mem ((c.tc : Thread Cert.UpStepIdeal.nD Cert.UpStepIdeal.τ).loc Cert.UpStepIdeal.main_v4_1) = v1 c
          ∧ r.2.mem ((c.tc : Thread Cert.UpStepIdeal.nD Cert.UpStepIdeal.τ).loc Cert.UpStepIdeal.main_v4_2) = v2 c
          ∧ r.2.mem ((c.tc : Thread Cert.UpStepIdeal.nD Cert.UpStepIdeal.τ).loc Cert.UpStepIdeal.main_arg0) = m ((c.tc : Thread Cert.UpStepIdeal.nD Cert.UpStepIdeal.τ).loc Cert.UpStepIdeal.main_arg0)
          ∧ r.2.mem ((c.tc : Thread Cert.UpStepIdeal.nD Cert.UpStepIdeal.τ).loc Cert.UpStepIdeal.main_arg1) = m ((c.tc : Thread Cert.UpStepIdeal.nD Cert.UpStepIdeal.τ).loc Cert.UpStepIdeal.main_arg1)
          ∧ r.2.mem ((c.tc : Thread Cert.UpStepIdeal.nD Cert.UpStepIdeal.τ).loc Cert.UpStepIdeal.main_arg2) = m ((c.tc : Thread Cert.UpStepIdeal.nD Cert.UpStepIdeal.τ).loc Cert.UpStepIdeal.main_arg2)
          ∧ r.2.mem ((c.tc : Thread Cert.UpStepIdeal.nD Cert.UpStepIdeal.τ).loc Cert.UpStepIdeal.main_arg3) = m ((c.tc : Thread Cert.UpStepIdeal.nD Cert.UpStepIdeal.τ).loc Cert.UpStepIdeal.main_arg3))
      ∧ θ_run (Cert.UpStepReferenceIdeal.defs (F := Ideal)) (onTc (τ := Cert.UpStepReferenceIdeal.τ) (Cert.UpStepReferenceIdeal.main (F := Ideal))) ⟨m', fun _ => 0, g'⟩ (fun r => ∀ c : Dev Cert.UpStepReferenceIdeal.nD,
          r.2.mem ((c.tc : Thread Cert.UpStepReferenceIdeal.nD Cert.UpStepReferenceIdeal.τ).loc Cert.UpStepReferenceIdeal.main_v24) = v0 c
          ∧ r.2.mem ((c.tc : Thread Cert.UpStepReferenceIdeal.nD Cert.UpStepReferenceIdeal.τ).loc Cert.UpStepReferenceIdeal.main_v25) = v1 c
          ∧ r.2.mem ((c.tc : Thread Cert.UpStepReferenceIdeal.nD Cert.UpStepReferenceIdeal.τ).loc Cert.UpStepReferenceIdeal.main_v26) = v2 c
          ∧ r.2.mem ((c.tc : Thread Cert.UpStepReferenceIdeal.nD Cert.UpStepReferenceIdeal.τ).loc Cert.UpStepReferenceIdeal.main_arg0) = m' ((c.tc : Thread Cert.UpStepReferenceIdeal.nD Cert.UpStepReferenceIdeal.τ).loc Cert.UpStepReferenceIdeal.main_arg0)
          ∧ r.2.mem ((c.tc : Thread Cert.UpStepReferenceIdeal.nD Cert.UpStepReferenceIdeal.τ).loc Cert.UpStepReferenceIdeal.main_arg1) = m' ((c.tc : Thread Cert.UpStepReferenceIdeal.nD Cert.UpStepReferenceIdeal.τ).loc Cert.UpStepReferenceIdeal.main_arg1)
          ∧ r.2.mem ((c.tc : Thread Cert.UpStepReferenceIdeal.nD Cert.UpStepReferenceIdeal.τ).loc Cert.UpStepReferenceIdeal.main_arg2) = m' ((c.tc : Thread Cert.UpStepReferenceIdeal.nD Cert.UpStepReferenceIdeal.τ).loc Cert.UpStepReferenceIdeal.main_arg2)
          ∧ r.2.mem ((c.tc : Thread Cert.UpStepReferenceIdeal.nD Cert.UpStepReferenceIdeal.τ).loc Cert.UpStepReferenceIdeal.main_arg3) = m' ((c.tc : Thread Cert.UpStepReferenceIdeal.nD Cert.UpStepReferenceIdeal.τ).loc Cert.UpStepReferenceIdeal.main_arg3))

def preserves_GateStep_GateStepIdeal : Prop :=
  IdealRules.named_const.Statement Cert.GateStepIdeal.κ "mean" .f32 0x3FC48605#32 (((5463681 / 8388608)⁻¹ : ℝ) : EReal)
  ∧ IdealRules.named_const.Statement Cert.GateStepIdeal.κ "square" .f32 0x42C8E6D3#32 (((2672307 / 268435456)⁻¹ : ℝ) : EReal)

def algebraic_GateStepIdeal_GateStepReferenceIdeal [hGateStepIdeal : Cert.GateStepIdeal.Facts] [hGateStepReferenceIdeal : Cert.GateStepReferenceIdeal.Facts] : Prop :=
  ∀ (m : (ℓ : Loc Cert.GateStepIdeal.nD Cert.GateStepIdeal.τ Cert.GateStepIdeal.sig) → Buf (Elt Ideal) ℓ) (g : Dev Cert.GateStepIdeal.nD → PrngReg)
    (m' : (ℓ : Loc Cert.GateStepReferenceIdeal.nD Cert.GateStepReferenceIdeal.τ Cert.GateStepReferenceIdeal.sig) → Buf (Elt Ideal) ℓ) (g' : Dev Cert.GateStepReferenceIdeal.nD → PrngReg), Pre_GateStepIdeal m →
    (∀ c : Dev Cert.GateStepIdeal.nD,
      m' ((c.tc : Thread Cert.GateStepReferenceIdeal.nD Cert.GateStepReferenceIdeal.τ).loc Cert.GateStepReferenceIdeal.main_arg0) = m ((c.tc : Thread Cert.GateStepIdeal.nD Cert.GateStepIdeal.τ).loc Cert.GateStepIdeal.main_arg0)
      ∧ m' ((c.tc : Thread Cert.GateStepReferenceIdeal.nD Cert.GateStepReferenceIdeal.τ).loc Cert.GateStepReferenceIdeal.main_arg1) = m ((c.tc : Thread Cert.GateStepIdeal.nD Cert.GateStepIdeal.τ).loc Cert.GateStepIdeal.main_arg1)
      ∧ m' ((c.tc : Thread Cert.GateStepReferenceIdeal.nD Cert.GateStepReferenceIdeal.τ).loc Cert.GateStepReferenceIdeal.main_arg2) = m ((c.tc : Thread Cert.GateStepIdeal.nD Cert.GateStepIdeal.τ).loc Cert.GateStepIdeal.main_arg2)
      ∧ m' ((c.tc : Thread Cert.GateStepReferenceIdeal.nD Cert.GateStepReferenceIdeal.τ).loc Cert.GateStepReferenceIdeal.main_arg3) = m ((c.tc : Thread Cert.GateStepIdeal.nD Cert.GateStepIdeal.τ).loc Cert.GateStepIdeal.main_arg3)) →
    ∃ (v0 : (c : Dev Cert.GateStepIdeal.nD) → Buf (Elt Ideal) ((c.tc : Thread Cert.GateStepIdeal.nD Cert.GateStepIdeal.τ).loc Cert.GateStepIdeal.main_v4_0)) (v1 : (c : Dev Cert.GateStepIdeal.nD) → Buf (Elt Ideal) ((c.tc : Thread Cert.GateStepIdeal.nD Cert.GateStepIdeal.τ).loc Cert.GateStepIdeal.main_v4_1)) (v2 : (c : Dev Cert.GateStepIdeal.nD) → Buf (Elt Ideal) ((c.tc : Thread Cert.GateStepIdeal.nD Cert.GateStepIdeal.τ).loc Cert.GateStepIdeal.main_v4_2)),
      θ_run (Cert.GateStepIdeal.defs (F := Ideal)) (onTc (τ := Cert.GateStepIdeal.τ) (Cert.GateStepIdeal.main (F := Ideal))) ⟨m, fun _ => 0, g⟩ (fun r => ∀ c : Dev Cert.GateStepIdeal.nD,
          r.2.mem ((c.tc : Thread Cert.GateStepIdeal.nD Cert.GateStepIdeal.τ).loc Cert.GateStepIdeal.main_v4_0) = v0 c
          ∧ r.2.mem ((c.tc : Thread Cert.GateStepIdeal.nD Cert.GateStepIdeal.τ).loc Cert.GateStepIdeal.main_v4_1) = v1 c
          ∧ r.2.mem ((c.tc : Thread Cert.GateStepIdeal.nD Cert.GateStepIdeal.τ).loc Cert.GateStepIdeal.main_v4_2) = v2 c
          ∧ r.2.mem ((c.tc : Thread Cert.GateStepIdeal.nD Cert.GateStepIdeal.τ).loc Cert.GateStepIdeal.main_arg0) = m ((c.tc : Thread Cert.GateStepIdeal.nD Cert.GateStepIdeal.τ).loc Cert.GateStepIdeal.main_arg0)
          ∧ r.2.mem ((c.tc : Thread Cert.GateStepIdeal.nD Cert.GateStepIdeal.τ).loc Cert.GateStepIdeal.main_arg1) = m ((c.tc : Thread Cert.GateStepIdeal.nD Cert.GateStepIdeal.τ).loc Cert.GateStepIdeal.main_arg1)
          ∧ r.2.mem ((c.tc : Thread Cert.GateStepIdeal.nD Cert.GateStepIdeal.τ).loc Cert.GateStepIdeal.main_arg2) = m ((c.tc : Thread Cert.GateStepIdeal.nD Cert.GateStepIdeal.τ).loc Cert.GateStepIdeal.main_arg2)
          ∧ r.2.mem ((c.tc : Thread Cert.GateStepIdeal.nD Cert.GateStepIdeal.τ).loc Cert.GateStepIdeal.main_arg3) = m ((c.tc : Thread Cert.GateStepIdeal.nD Cert.GateStepIdeal.τ).loc Cert.GateStepIdeal.main_arg3))
      ∧ θ_run (Cert.GateStepReferenceIdeal.defs (F := Ideal)) (onTc (τ := Cert.GateStepReferenceIdeal.τ) (Cert.GateStepReferenceIdeal.main (F := Ideal))) ⟨m', fun _ => 0, g'⟩ (fun r => ∀ c : Dev Cert.GateStepReferenceIdeal.nD,
          r.2.mem ((c.tc : Thread Cert.GateStepReferenceIdeal.nD Cert.GateStepReferenceIdeal.τ).loc Cert.GateStepReferenceIdeal.main_v24) = v0 c
          ∧ r.2.mem ((c.tc : Thread Cert.GateStepReferenceIdeal.nD Cert.GateStepReferenceIdeal.τ).loc Cert.GateStepReferenceIdeal.main_v25) = v1 c
          ∧ r.2.mem ((c.tc : Thread Cert.GateStepReferenceIdeal.nD Cert.GateStepReferenceIdeal.τ).loc Cert.GateStepReferenceIdeal.main_v26) = v2 c
          ∧ r.2.mem ((c.tc : Thread Cert.GateStepReferenceIdeal.nD Cert.GateStepReferenceIdeal.τ).loc Cert.GateStepReferenceIdeal.main_arg0) = m' ((c.tc : Thread Cert.GateStepReferenceIdeal.nD Cert.GateStepReferenceIdeal.τ).loc Cert.GateStepReferenceIdeal.main_arg0)
          ∧ r.2.mem ((c.tc : Thread Cert.GateStepReferenceIdeal.nD Cert.GateStepReferenceIdeal.τ).loc Cert.GateStepReferenceIdeal.main_arg1) = m' ((c.tc : Thread Cert.GateStepReferenceIdeal.nD Cert.GateStepReferenceIdeal.τ).loc Cert.GateStepReferenceIdeal.main_arg1)
          ∧ r.2.mem ((c.tc : Thread Cert.GateStepReferenceIdeal.nD Cert.GateStepReferenceIdeal.τ).loc Cert.GateStepReferenceIdeal.main_arg2) = m' ((c.tc : Thread Cert.GateStepReferenceIdeal.nD Cert.GateStepReferenceIdeal.τ).loc Cert.GateStepReferenceIdeal.main_arg2)
          ∧ r.2.mem ((c.tc : Thread Cert.GateStepReferenceIdeal.nD Cert.GateStepReferenceIdeal.τ).loc Cert.GateStepReferenceIdeal.main_arg3) = m' ((c.tc : Thread Cert.GateStepReferenceIdeal.nD Cert.GateStepReferenceIdeal.τ).loc Cert.GateStepReferenceIdeal.main_arg3))

def preserves_DownStep_DownStepIdeal : Prop :=
  IdealRules.named_const.Statement Cert.DownStepIdeal.κ "mean" .f32 0x3FC48605#32 (((5463681 / 8388608)⁻¹ : ℝ) : EReal)
  ∧ IdealRules.named_const.Statement Cert.DownStepIdeal.κ "square" .f32 0x42C8E6D3#32 (((2672307 / 268435456)⁻¹ : ℝ) : EReal)

def algebraic_DownStepIdeal_DownStepReferenceIdeal [hDownStepIdeal : Cert.DownStepIdeal.Facts] [hDownStepReferenceIdeal : Cert.DownStepReferenceIdeal.Facts] : Prop :=
  ∀ (m : (ℓ : Loc Cert.DownStepIdeal.nD Cert.DownStepIdeal.τ Cert.DownStepIdeal.sig) → Buf (Elt Ideal) ℓ) (g : Dev Cert.DownStepIdeal.nD → PrngReg)
    (m' : (ℓ : Loc Cert.DownStepReferenceIdeal.nD Cert.DownStepReferenceIdeal.τ Cert.DownStepReferenceIdeal.sig) → Buf (Elt Ideal) ℓ) (g' : Dev Cert.DownStepReferenceIdeal.nD → PrngReg), Pre_DownStepIdeal m →
    (∀ c : Dev Cert.DownStepIdeal.nD,
      m' ((c.tc : Thread Cert.DownStepReferenceIdeal.nD Cert.DownStepReferenceIdeal.τ).loc Cert.DownStepReferenceIdeal.main_arg0) = m ((c.tc : Thread Cert.DownStepIdeal.nD Cert.DownStepIdeal.τ).loc Cert.DownStepIdeal.main_arg0)
      ∧ m' ((c.tc : Thread Cert.DownStepReferenceIdeal.nD Cert.DownStepReferenceIdeal.τ).loc Cert.DownStepReferenceIdeal.main_arg1) = m ((c.tc : Thread Cert.DownStepIdeal.nD Cert.DownStepIdeal.τ).loc Cert.DownStepIdeal.main_arg1)
      ∧ m' ((c.tc : Thread Cert.DownStepReferenceIdeal.nD Cert.DownStepReferenceIdeal.τ).loc Cert.DownStepReferenceIdeal.main_arg2) = m ((c.tc : Thread Cert.DownStepIdeal.nD Cert.DownStepIdeal.τ).loc Cert.DownStepIdeal.main_arg2)
      ∧ m' ((c.tc : Thread Cert.DownStepReferenceIdeal.nD Cert.DownStepReferenceIdeal.τ).loc Cert.DownStepReferenceIdeal.main_arg3) = m ((c.tc : Thread Cert.DownStepIdeal.nD Cert.DownStepIdeal.τ).loc Cert.DownStepIdeal.main_arg3)) →
    ∃ (v0 : (c : Dev Cert.DownStepIdeal.nD) → Buf (Elt Ideal) ((c.tc : Thread Cert.DownStepIdeal.nD Cert.DownStepIdeal.τ).loc Cert.DownStepIdeal.main_v4_0)) (v1 : (c : Dev Cert.DownStepIdeal.nD) → Buf (Elt Ideal) ((c.tc : Thread Cert.DownStepIdeal.nD Cert.DownStepIdeal.τ).loc Cert.DownStepIdeal.main_v4_1)) (v2 : (c : Dev Cert.DownStepIdeal.nD) → Buf (Elt Ideal) ((c.tc : Thread Cert.DownStepIdeal.nD Cert.DownStepIdeal.τ).loc Cert.DownStepIdeal.main_v4_2)),
      θ_run (Cert.DownStepIdeal.defs (F := Ideal)) (onTc (τ := Cert.DownStepIdeal.τ) (Cert.DownStepIdeal.main (F := Ideal))) ⟨m, fun _ => 0, g⟩ (fun r => ∀ c : Dev Cert.DownStepIdeal.nD,
          r.2.mem ((c.tc : Thread Cert.DownStepIdeal.nD Cert.DownStepIdeal.τ).loc Cert.DownStepIdeal.main_v4_0) = v0 c
          ∧ r.2.mem ((c.tc : Thread Cert.DownStepIdeal.nD Cert.DownStepIdeal.τ).loc Cert.DownStepIdeal.main_v4_1) = v1 c
          ∧ r.2.mem ((c.tc : Thread Cert.DownStepIdeal.nD Cert.DownStepIdeal.τ).loc Cert.DownStepIdeal.main_v4_2) = v2 c
          ∧ r.2.mem ((c.tc : Thread Cert.DownStepIdeal.nD Cert.DownStepIdeal.τ).loc Cert.DownStepIdeal.main_arg0) = m ((c.tc : Thread Cert.DownStepIdeal.nD Cert.DownStepIdeal.τ).loc Cert.DownStepIdeal.main_arg0)
          ∧ r.2.mem ((c.tc : Thread Cert.DownStepIdeal.nD Cert.DownStepIdeal.τ).loc Cert.DownStepIdeal.main_arg1) = m ((c.tc : Thread Cert.DownStepIdeal.nD Cert.DownStepIdeal.τ).loc Cert.DownStepIdeal.main_arg1)
          ∧ r.2.mem ((c.tc : Thread Cert.DownStepIdeal.nD Cert.DownStepIdeal.τ).loc Cert.DownStepIdeal.main_arg2) = m ((c.tc : Thread Cert.DownStepIdeal.nD Cert.DownStepIdeal.τ).loc Cert.DownStepIdeal.main_arg2)
          ∧ r.2.mem ((c.tc : Thread Cert.DownStepIdeal.nD Cert.DownStepIdeal.τ).loc Cert.DownStepIdeal.main_arg3) = m ((c.tc : Thread Cert.DownStepIdeal.nD Cert.DownStepIdeal.τ).loc Cert.DownStepIdeal.main_arg3))
      ∧ θ_run (Cert.DownStepReferenceIdeal.defs (F := Ideal)) (onTc (τ := Cert.DownStepReferenceIdeal.τ) (Cert.DownStepReferenceIdeal.main (F := Ideal))) ⟨m', fun _ => 0, g'⟩ (fun r => ∀ c : Dev Cert.DownStepReferenceIdeal.nD,
          r.2.mem ((c.tc : Thread Cert.DownStepReferenceIdeal.nD Cert.DownStepReferenceIdeal.τ).loc Cert.DownStepReferenceIdeal.main_v24) = v0 c
          ∧ r.2.mem ((c.tc : Thread Cert.DownStepReferenceIdeal.nD Cert.DownStepReferenceIdeal.τ).loc Cert.DownStepReferenceIdeal.main_v25) = v1 c
          ∧ r.2.mem ((c.tc : Thread Cert.DownStepReferenceIdeal.nD Cert.DownStepReferenceIdeal.τ).loc Cert.DownStepReferenceIdeal.main_v26) = v2 c
          ∧ r.2.mem ((c.tc : Thread Cert.DownStepReferenceIdeal.nD Cert.DownStepReferenceIdeal.τ).loc Cert.DownStepReferenceIdeal.main_arg0) = m' ((c.tc : Thread Cert.DownStepReferenceIdeal.nD Cert.DownStepReferenceIdeal.τ).loc Cert.DownStepReferenceIdeal.main_arg0)
          ∧ r.2.mem ((c.tc : Thread Cert.DownStepReferenceIdeal.nD Cert.DownStepReferenceIdeal.τ).loc Cert.DownStepReferenceIdeal.main_arg1) = m' ((c.tc : Thread Cert.DownStepReferenceIdeal.nD Cert.DownStepReferenceIdeal.τ).loc Cert.DownStepReferenceIdeal.main_arg1)
          ∧ r.2.mem ((c.tc : Thread Cert.DownStepReferenceIdeal.nD Cert.DownStepReferenceIdeal.τ).loc Cert.DownStepReferenceIdeal.main_arg2) = m' ((c.tc : Thread Cert.DownStepReferenceIdeal.nD Cert.DownStepReferenceIdeal.τ).loc Cert.DownStepReferenceIdeal.main_arg2)
          ∧ r.2.mem ((c.tc : Thread Cert.DownStepReferenceIdeal.nD Cert.DownStepReferenceIdeal.τ).loc Cert.DownStepReferenceIdeal.main_arg3) = m' ((c.tc : Thread Cert.DownStepReferenceIdeal.nD Cert.DownStepReferenceIdeal.τ).loc Cert.DownStepReferenceIdeal.main_arg3))

def Claim : Prop :=
  ∃ (hKernel : Cert.Kernel.Facts) (hKernelIdeal : Cert.KernelIdeal.Facts) (hReferenceIdeal : Cert.ReferenceIdeal.Facts) (hUpData : Cert.UpData.Facts) (hUpDataIdeal : Cert.UpDataIdeal.Facts) (hUpDataReferenceIdeal : Cert.UpDataReferenceIdeal.Facts) (hDownData : Cert.DownData.Facts) (hDownDataIdeal : Cert.DownDataIdeal.Facts) (hDownDataReferenceIdeal : Cert.DownDataReferenceIdeal.Facts) (hInData : Cert.InData.Facts) (hInDataIdeal : Cert.InDataIdeal.Facts) (hInDataReferenceIdeal : Cert.InDataReferenceIdeal.Facts) (hOutData : Cert.OutData.Facts) (hOutDataIdeal : Cert.OutDataIdeal.Facts) (hOutDataReferenceIdeal : Cert.OutDataReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hIn : Cert.In.Facts) (hInIdeal : Cert.InIdeal.Facts) (hInReferenceIdeal : Cert.InReferenceIdeal.Facts) (hOut : Cert.Out.Facts) (hOutIdeal : Cert.OutIdeal.Facts) (hOutReferenceIdeal : Cert.OutReferenceIdeal.Facts) (hUpDataFirst : Cert.UpDataFirst.Facts) (hUpDataFirstIdeal : Cert.UpDataFirstIdeal.Facts) (hUpDataFirstReferenceIdeal : Cert.UpDataFirstReferenceIdeal.Facts) (hDownDataFirst : Cert.DownDataFirst.Facts) (hDownDataFirstIdeal : Cert.DownDataFirstIdeal.Facts) (hDownDataFirstReferenceIdeal : Cert.DownDataFirstReferenceIdeal.Facts) (hInDataFirst : Cert.InDataFirst.Facts) (hInDataFirstIdeal : Cert.InDataFirstIdeal.Facts) (hInDataFirstReferenceIdeal : Cert.InDataFirstReferenceIdeal.Facts) (hOutDataFirst : Cert.OutDataFirst.Facts) (hOutDataFirstIdeal : Cert.OutDataFirstIdeal.Facts) (hOutDataFirstReferenceIdeal : Cert.OutDataFirstReferenceIdeal.Facts) (hUpFirst : Cert.UpFirst.Facts) (hUpFirstIdeal : Cert.UpFirstIdeal.Facts) (hUpFirstReferenceIdeal : Cert.UpFirstReferenceIdeal.Facts) (hDownFirst : Cert.DownFirst.Facts) (hDownFirstIdeal : Cert.DownFirstIdeal.Facts) (hDownFirstReferenceIdeal : Cert.DownFirstReferenceIdeal.Facts) (hInFirst : Cert.InFirst.Facts) (hInFirstIdeal : Cert.InFirstIdeal.Facts) (hInFirstReferenceIdeal : Cert.InFirstReferenceIdeal.Facts) (hOutFirst : Cert.OutFirst.Facts) (hOutFirstIdeal : Cert.OutFirstIdeal.Facts) (hOutFirstReferenceIdeal : Cert.OutFirstReferenceIdeal.Facts) (hUpWeight : Cert.UpWeight.Facts) (hUpWeightIdeal : Cert.UpWeightIdeal.Facts) (hUpWeightReferenceIdeal : Cert.UpWeightReferenceIdeal.Facts) (hDownWeight : Cert.DownWeight.Facts) (hDownWeightIdeal : Cert.DownWeightIdeal.Facts) (hDownWeightReferenceIdeal : Cert.DownWeightReferenceIdeal.Facts) (hInWeight : Cert.InWeight.Facts) (hInWeightIdeal : Cert.InWeightIdeal.Facts) (hInWeightReferenceIdeal : Cert.InWeightReferenceIdeal.Facts) (hOutWeight : Cert.OutWeight.Facts) (hOutWeightIdeal : Cert.OutWeightIdeal.Facts) (hOutWeightReferenceIdeal : Cert.OutWeightReferenceIdeal.Facts) (hAdaStep : Cert.AdaStep.Facts) (hAdaStepIdeal : Cert.AdaStepIdeal.Facts) (hAdaStepReferenceIdeal : Cert.AdaStepReferenceIdeal.Facts) (hInStep : Cert.InStep.Facts) (hInStepIdeal : Cert.InStepIdeal.Facts) (hInStepReferenceIdeal : Cert.InStepReferenceIdeal.Facts) (hConvStep : Cert.ConvStep.Facts) (hConvStepIdeal : Cert.ConvStepIdeal.Facts) (hConvStepReferenceIdeal : Cert.ConvStepReferenceIdeal.Facts) (hQueryStep : Cert.QueryStep.Facts) (hQueryStepIdeal : Cert.QueryStepIdeal.Facts) (hQueryStepReferenceIdeal : Cert.QueryStepReferenceIdeal.Facts) (hKeyStep : Cert.KeyStep.Facts) (hKeyStepIdeal : Cert.KeyStepIdeal.Facts) (hKeyStepReferenceIdeal : Cert.KeyStepReferenceIdeal.Facts) (hOutStep : Cert.OutStep.Facts) (hOutStepIdeal : Cert.OutStepIdeal.Facts) (hOutStepReferenceIdeal : Cert.OutStepReferenceIdeal.Facts) (hUpStep : Cert.UpStep.Facts) (hUpStepIdeal : Cert.UpStepIdeal.Facts) (hUpStepReferenceIdeal : Cert.UpStepReferenceIdeal.Facts) (hGateStep : Cert.GateStep.Facts) (hGateStepIdeal : Cert.GateStepIdeal.Facts) (hGateStepReferenceIdeal : Cert.GateStepReferenceIdeal.Facts) (hDownStep : Cert.DownStep.Facts) (hDownStepIdeal : Cert.DownStepIdeal.Facts) (hDownStepReferenceIdeal : Cert.DownStepReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpData (hUpData := hUpData)
    ∧ quiescent_UpDataIdeal (hUpDataIdeal := hUpDataIdeal)
    ∧ quiescent_UpDataReferenceIdeal (hUpDataReferenceIdeal := hUpDataReferenceIdeal)
    ∧ quiescent_DownData (hDownData := hDownData)
    ∧ quiescent_DownDataIdeal (hDownDataIdeal := hDownDataIdeal)
    ∧ quiescent_DownDataReferenceIdeal (hDownDataReferenceIdeal := hDownDataReferenceIdeal)
    ∧ quiescent_InData (hInData := hInData)
    ∧ quiescent_InDataIdeal (hInDataIdeal := hInDataIdeal)
    ∧ quiescent_InDataReferenceIdeal (hInDataReferenceIdeal := hInDataReferenceIdeal)
    ∧ quiescent_OutData (hOutData := hOutData)
    ∧ quiescent_OutDataIdeal (hOutDataIdeal := hOutDataIdeal)
    ∧ quiescent_OutDataReferenceIdeal (hOutDataReferenceIdeal := hOutDataReferenceIdeal)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_In (hIn := hIn)
    ∧ quiescent_InIdeal (hInIdeal := hInIdeal)
    ∧ quiescent_InReferenceIdeal (hInReferenceIdeal := hInReferenceIdeal)
    ∧ quiescent_Out (hOut := hOut)
    ∧ quiescent_OutIdeal (hOutIdeal := hOutIdeal)
    ∧ quiescent_OutReferenceIdeal (hOutReferenceIdeal := hOutReferenceIdeal)
    ∧ quiescent_UpDataFirst (hUpDataFirst := hUpDataFirst)
    ∧ quiescent_UpDataFirstIdeal (hUpDataFirstIdeal := hUpDataFirstIdeal)
    ∧ quiescent_UpDataFirstReferenceIdeal (hUpDataFirstReferenceIdeal := hUpDataFirstReferenceIdeal)
    ∧ quiescent_DownDataFirst (hDownDataFirst := hDownDataFirst)
    ∧ quiescent_DownDataFirstIdeal (hDownDataFirstIdeal := hDownDataFirstIdeal)
    ∧ quiescent_DownDataFirstReferenceIdeal (hDownDataFirstReferenceIdeal := hDownDataFirstReferenceIdeal)
    ∧ quiescent_InDataFirst (hInDataFirst := hInDataFirst)
    ∧ quiescent_InDataFirstIdeal (hInDataFirstIdeal := hInDataFirstIdeal)
    ∧ quiescent_InDataFirstReferenceIdeal (hInDataFirstReferenceIdeal := hInDataFirstReferenceIdeal)
    ∧ quiescent_OutDataFirst (hOutDataFirst := hOutDataFirst)
    ∧ quiescent_OutDataFirstIdeal (hOutDataFirstIdeal := hOutDataFirstIdeal)
    ∧ quiescent_OutDataFirstReferenceIdeal (hOutDataFirstReferenceIdeal := hOutDataFirstReferenceIdeal)
    ∧ quiescent_UpFirst (hUpFirst := hUpFirst)
    ∧ quiescent_UpFirstIdeal (hUpFirstIdeal := hUpFirstIdeal)
    ∧ quiescent_UpFirstReferenceIdeal (hUpFirstReferenceIdeal := hUpFirstReferenceIdeal)
    ∧ quiescent_DownFirst (hDownFirst := hDownFirst)
    ∧ quiescent_DownFirstIdeal (hDownFirstIdeal := hDownFirstIdeal)
    ∧ quiescent_DownFirstReferenceIdeal (hDownFirstReferenceIdeal := hDownFirstReferenceIdeal)
    ∧ quiescent_InFirst (hInFirst := hInFirst)
    ∧ quiescent_InFirstIdeal (hInFirstIdeal := hInFirstIdeal)
    ∧ quiescent_InFirstReferenceIdeal (hInFirstReferenceIdeal := hInFirstReferenceIdeal)
    ∧ quiescent_OutFirst (hOutFirst := hOutFirst)
    ∧ quiescent_OutFirstIdeal (hOutFirstIdeal := hOutFirstIdeal)
    ∧ quiescent_OutFirstReferenceIdeal (hOutFirstReferenceIdeal := hOutFirstReferenceIdeal)
    ∧ quiescent_UpWeight (hUpWeight := hUpWeight)
    ∧ quiescent_UpWeightIdeal (hUpWeightIdeal := hUpWeightIdeal)
    ∧ quiescent_UpWeightReferenceIdeal (hUpWeightReferenceIdeal := hUpWeightReferenceIdeal)
    ∧ quiescent_DownWeight (hDownWeight := hDownWeight)
    ∧ quiescent_DownWeightIdeal (hDownWeightIdeal := hDownWeightIdeal)
    ∧ quiescent_DownWeightReferenceIdeal (hDownWeightReferenceIdeal := hDownWeightReferenceIdeal)
    ∧ quiescent_InWeight (hInWeight := hInWeight)
    ∧ quiescent_InWeightIdeal (hInWeightIdeal := hInWeightIdeal)
    ∧ quiescent_InWeightReferenceIdeal (hInWeightReferenceIdeal := hInWeightReferenceIdeal)
    ∧ quiescent_OutWeight (hOutWeight := hOutWeight)
    ∧ quiescent_OutWeightIdeal (hOutWeightIdeal := hOutWeightIdeal)
    ∧ quiescent_OutWeightReferenceIdeal (hOutWeightReferenceIdeal := hOutWeightReferenceIdeal)
    ∧ quiescent_AdaStep (hAdaStep := hAdaStep)
    ∧ quiescent_AdaStepIdeal (hAdaStepIdeal := hAdaStepIdeal)
    ∧ quiescent_AdaStepReferenceIdeal (hAdaStepReferenceIdeal := hAdaStepReferenceIdeal)
    ∧ quiescent_InStep (hInStep := hInStep)
    ∧ quiescent_InStepIdeal (hInStepIdeal := hInStepIdeal)
    ∧ quiescent_InStepReferenceIdeal (hInStepReferenceIdeal := hInStepReferenceIdeal)
    ∧ quiescent_ConvStep (hConvStep := hConvStep)
    ∧ quiescent_ConvStepIdeal (hConvStepIdeal := hConvStepIdeal)
    ∧ quiescent_ConvStepReferenceIdeal (hConvStepReferenceIdeal := hConvStepReferenceIdeal)
    ∧ quiescent_QueryStep (hQueryStep := hQueryStep)
    ∧ quiescent_QueryStepIdeal (hQueryStepIdeal := hQueryStepIdeal)
    ∧ quiescent_QueryStepReferenceIdeal (hQueryStepReferenceIdeal := hQueryStepReferenceIdeal)
    ∧ quiescent_KeyStep (hKeyStep := hKeyStep)
    ∧ quiescent_KeyStepIdeal (hKeyStepIdeal := hKeyStepIdeal)
    ∧ quiescent_KeyStepReferenceIdeal (hKeyStepReferenceIdeal := hKeyStepReferenceIdeal)
    ∧ quiescent_OutStep (hOutStep := hOutStep)
    ∧ quiescent_OutStepIdeal (hOutStepIdeal := hOutStepIdeal)
    ∧ quiescent_OutStepReferenceIdeal (hOutStepReferenceIdeal := hOutStepReferenceIdeal)
    ∧ quiescent_UpStep (hUpStep := hUpStep)
    ∧ quiescent_UpStepIdeal (hUpStepIdeal := hUpStepIdeal)
    ∧ quiescent_UpStepReferenceIdeal (hUpStepReferenceIdeal := hUpStepReferenceIdeal)
    ∧ quiescent_GateStep (hGateStep := hGateStep)
    ∧ quiescent_GateStepIdeal (hGateStepIdeal := hGateStepIdeal)
    ∧ quiescent_GateStepReferenceIdeal (hGateStepReferenceIdeal := hGateStepReferenceIdeal)
    ∧ quiescent_DownStep (hDownStep := hDownStep)
    ∧ quiescent_DownStepIdeal (hDownStepIdeal := hDownStepIdeal)
    ∧ quiescent_DownStepReferenceIdeal (hDownStepReferenceIdeal := hDownStepReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpData_UpDataIdeal
    ∧ algebraic_UpDataIdeal_UpDataReferenceIdeal (hUpDataIdeal := hUpDataIdeal) (hUpDataReferenceIdeal := hUpDataReferenceIdeal)
    ∧ preserves_DownData_DownDataIdeal
    ∧ algebraic_DownDataIdeal_DownDataReferenceIdeal (hDownDataIdeal := hDownDataIdeal) (hDownDataReferenceIdeal := hDownDataReferenceIdeal)
    ∧ preserves_InData_InDataIdeal
    ∧ algebraic_InDataIdeal_InDataReferenceIdeal (hInDataIdeal := hInDataIdeal) (hInDataReferenceIdeal := hInDataReferenceIdeal)
    ∧ preserves_OutData_OutDataIdeal
    ∧ algebraic_OutDataIdeal_OutDataReferenceIdeal (hOutDataIdeal := hOutDataIdeal) (hOutDataReferenceIdeal := hOutDataReferenceIdeal)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_In_InIdeal
    ∧ algebraic_InIdeal_InReferenceIdeal (hInIdeal := hInIdeal) (hInReferenceIdeal := hInReferenceIdeal)
    ∧ preserves_Out_OutIdeal
    ∧ algebraic_OutIdeal_OutReferenceIdeal (hOutIdeal := hOutIdeal) (hOutReferenceIdeal := hOutReferenceIdeal)
    ∧ preserves_UpDataFirst_UpDataFirstIdeal
    ∧ algebraic_UpDataFirstIdeal_UpDataFirstReferenceIdeal (hUpDataFirstIdeal := hUpDataFirstIdeal) (hUpDataFirstReferenceIdeal := hUpDataFirstReferenceIdeal)
    ∧ preserves_DownDataFirst_DownDataFirstIdeal
    ∧ algebraic_DownDataFirstIdeal_DownDataFirstReferenceIdeal (hDownDataFirstIdeal := hDownDataFirstIdeal) (hDownDataFirstReferenceIdeal := hDownDataFirstReferenceIdeal)
    ∧ preserves_InDataFirst_InDataFirstIdeal
    ∧ algebraic_InDataFirstIdeal_InDataFirstReferenceIdeal (hInDataFirstIdeal := hInDataFirstIdeal) (hInDataFirstReferenceIdeal := hInDataFirstReferenceIdeal)
    ∧ preserves_OutDataFirst_OutDataFirstIdeal
    ∧ algebraic_OutDataFirstIdeal_OutDataFirstReferenceIdeal (hOutDataFirstIdeal := hOutDataFirstIdeal) (hOutDataFirstReferenceIdeal := hOutDataFirstReferenceIdeal)
    ∧ preserves_UpFirst_UpFirstIdeal
    ∧ algebraic_UpFirstIdeal_UpFirstReferenceIdeal (hUpFirstIdeal := hUpFirstIdeal) (hUpFirstReferenceIdeal := hUpFirstReferenceIdeal)
    ∧ preserves_DownFirst_DownFirstIdeal
    ∧ algebraic_DownFirstIdeal_DownFirstReferenceIdeal (hDownFirstIdeal := hDownFirstIdeal) (hDownFirstReferenceIdeal := hDownFirstReferenceIdeal)
    ∧ preserves_InFirst_InFirstIdeal
    ∧ algebraic_InFirstIdeal_InFirstReferenceIdeal (hInFirstIdeal := hInFirstIdeal) (hInFirstReferenceIdeal := hInFirstReferenceIdeal)
    ∧ preserves_OutFirst_OutFirstIdeal
    ∧ algebraic_OutFirstIdeal_OutFirstReferenceIdeal (hOutFirstIdeal := hOutFirstIdeal) (hOutFirstReferenceIdeal := hOutFirstReferenceIdeal)
    ∧ preserves_UpWeight_UpWeightIdeal
    ∧ algebraic_UpWeightIdeal_UpWeightReferenceIdeal (hUpWeightIdeal := hUpWeightIdeal) (hUpWeightReferenceIdeal := hUpWeightReferenceIdeal)
    ∧ preserves_DownWeight_DownWeightIdeal
    ∧ algebraic_DownWeightIdeal_DownWeightReferenceIdeal (hDownWeightIdeal := hDownWeightIdeal) (hDownWeightReferenceIdeal := hDownWeightReferenceIdeal)
    ∧ preserves_InWeight_InWeightIdeal
    ∧ algebraic_InWeightIdeal_InWeightReferenceIdeal (hInWeightIdeal := hInWeightIdeal) (hInWeightReferenceIdeal := hInWeightReferenceIdeal)
    ∧ preserves_OutWeight_OutWeightIdeal
    ∧ algebraic_OutWeightIdeal_OutWeightReferenceIdeal (hOutWeightIdeal := hOutWeightIdeal) (hOutWeightReferenceIdeal := hOutWeightReferenceIdeal)
    ∧ preserves_AdaStep_AdaStepIdeal
    ∧ algebraic_AdaStepIdeal_AdaStepReferenceIdeal (hAdaStepIdeal := hAdaStepIdeal) (hAdaStepReferenceIdeal := hAdaStepReferenceIdeal)
    ∧ preserves_InStep_InStepIdeal
    ∧ algebraic_InStepIdeal_InStepReferenceIdeal (hInStepIdeal := hInStepIdeal) (hInStepReferenceIdeal := hInStepReferenceIdeal)
    ∧ preserves_ConvStep_ConvStepIdeal
    ∧ algebraic_ConvStepIdeal_ConvStepReferenceIdeal (hConvStepIdeal := hConvStepIdeal) (hConvStepReferenceIdeal := hConvStepReferenceIdeal)
    ∧ preserves_QueryStep_QueryStepIdeal
    ∧ algebraic_QueryStepIdeal_QueryStepReferenceIdeal (hQueryStepIdeal := hQueryStepIdeal) (hQueryStepReferenceIdeal := hQueryStepReferenceIdeal)
    ∧ preserves_KeyStep_KeyStepIdeal
    ∧ algebraic_KeyStepIdeal_KeyStepReferenceIdeal (hKeyStepIdeal := hKeyStepIdeal) (hKeyStepReferenceIdeal := hKeyStepReferenceIdeal)
    ∧ preserves_OutStep_OutStepIdeal
    ∧ algebraic_OutStepIdeal_OutStepReferenceIdeal (hOutStepIdeal := hOutStepIdeal) (hOutStepReferenceIdeal := hOutStepReferenceIdeal)
    ∧ preserves_UpStep_UpStepIdeal
    ∧ algebraic_UpStepIdeal_UpStepReferenceIdeal (hUpStepIdeal := hUpStepIdeal) (hUpStepReferenceIdeal := hUpStepReferenceIdeal)
    ∧ preserves_GateStep_GateStepIdeal
    ∧ algebraic_GateStepIdeal_GateStepReferenceIdeal (hGateStepIdeal := hGateStepIdeal) (hGateStepReferenceIdeal := hGateStepReferenceIdeal)
    ∧ preserves_DownStep_DownStepIdeal
    ∧ algebraic_DownStepIdeal_DownStepReferenceIdeal (hDownStepIdeal := hDownStepIdeal) (hDownStepReferenceIdeal := hDownStepReferenceIdeal)
-- ==== Pre_finite.lean ====
abbrev S4x2048x1536 : Shape := ⟨3, ![4, 2048, 1536]⟩
abbrev S4x2048x2048 : Shape := ⟨3, ![4, 2048, 2048]⟩
abbrev S4x2048x64 : Shape := ⟨3, ![4, 2048, 64]⟩
abbrev S4x2048x32 : Shape := ⟨3, ![4, 2048, 32]⟩
abbrev S4x2048x1024 : Shape := ⟨3, ![4, 2048, 1024]⟩
abbrev S_ : Shape := ⟨0, ![]⟩

class Facts : Prop where
  bcast_S_S4x2048x1536 : S_.BroadcastsInDim S4x2048x1536 (![] : Fin 0 → Fin S4x2048x1536.rank)
  bcast_S_S4x2048x2048 : S_.BroadcastsInDim S4x2048x2048 (![] : Fin 0 → Fin S4x2048x2048.rank)
  bcast_S_S4x2048x64 : S_.BroadcastsInDim S4x2048x64 (![] : Fin 0 → Fin S4x2048x64.rank)
  bcast_S_S4x2048x32 : S_.BroadcastsInDim S4x2048x32 (![] : Fin 0 → Fin S4x2048x32.rank)
  bcast_S_S4x2048x1024 : S_.BroadcastsInDim S4x2048x1024 (![] : Fin 0 → Fin S4x2048x1024.rank)

variable [Facts]

def fn {F : FTy → Type} [FloatOps F] (main_arg0 : FVec F S4x2048x1536 .f32) (main_arg1 : FVec F S4x2048x2048 .f32) (main_arg2 : FVec F S4x2048x64 .f32) (main_arg3 : FVec F S4x2048x32 .f32) (main_arg4 : FVec F S4x2048x32 .f32) (main_arg5 : FVec F S4x2048x1024 .f32) : IVec S4x2048x1536 1 × IVec S4x2048x2048 1 × IVec S4x2048x64 1 × IVec S4x2048x32 1 × IVec S4x2048x32 1 × IVec S4x2048x1024 1 :=
  let main_v0 : FVec F S4x2048x1536 .f32 := Host.absf main_arg0
  let main_cst : FVec F S_ .f32 := constant S_ .f32 0x7F800000#32
  let main_v1 : FVec F S4x2048x1536 .f32 := broadcastInDim S4x2048x1536 ![] bcast_S_S4x2048x1536 main_cst
  let main_v2 : IVec S4x2048x1536 1 := cmpf .olt main_v0 main_v1
  let main_v3 : FVec F S4x2048x2048 .f32 := Host.absf main_arg1
  let main_cst_0 : FVec F S_ .f32 := constant S_ .f32 0x7F800000#32
  let main_v4 : FVec F S4x2048x2048 .f32 := broadcastInDim S4x2048x2048 ![] bcast_S_S4x2048x2048 main_cst_0
  let main_v5 : IVec S4x2048x2048 1 := cmpf .olt main_v3 main_v4
  let main_v6 : FVec F S4x2048x64 .f32 := Host.absf main_arg2
  let main_cst_1 : FVec F S_ .f32 := constant S_ .f32 0x7F800000#32
  let main_v7 : FVec F S4x2048x64 .f32 := broadcastInDim S4x2048x64 ![] bcast_S_S4x2048x64 main_cst_1
  let main_v8 : IVec S4x2048x64 1 := cmpf .olt main_v6 main_v7
  let main_v9 : FVec F S4x2048x32 .f32 := Host.absf main_arg3
  let main_cst_2 : FVec F S_ .f32 := constant S_ .f32 0x7F800000#32
  let main_v10 : FVec F S4x2048x32 .f32 := broadcastInDim S4x2048x32 ![] bcast_S_S4x2048x32 main_cst_2
  let main_v11 : IVec S4x2048x32 1 := cmpf .olt main_v9 main_v10
  let main_v12 : FVec F S4x2048x32 .f32 := Host.absf main_arg4
  let main_cst_3 : FVec F S_ .f32 := constant S_ .f32 0x7F800000#32
  let main_v13 : FVec F S4x2048x32 .f32 := broadcastInDim S4x2048x32 ![] bcast_S_S4x2048x32 main_cst_3
  let main_v14 : IVec S4x2048x32 1 := cmpf .olt main_v12 main_v13
  let main_v15 : FVec F S4x2048x1024 .f32 := Host.absf main_arg5
  let main_cst_4 : FVec F S_ .f32 := constant S_ .f32 0x7F800000#32
  let main_v16 : FVec F S4x2048x1024 .f32 := broadcastInDim S4x2048x1024 ![] bcast_S_S4x2048x1024 main_cst_4
  let main_v17 : IVec S4x2048x1024 1 := cmpf .olt main_v15 main_v16
  (main_v2, main_v5, main_v8, main_v11, main_v14, main_v17)
-- ==== Kernel.lean ====
abbrev S4x2048x1536 : Shape := ⟨3, ![4, 2048, 1536]⟩
abbrev S4x2048x2048 : Shape := ⟨3, ![4, 2048, 2048]⟩
abbrev S4x2048x64 : Shape := ⟨3, ![4, 2048, 64]⟩
abbrev S4x2048x32 : Shape := ⟨3, ![4, 2048, 32]⟩
abbrev S4x2048x1024 : Shape := ⟨3, ![4, 2048, 1024]⟩
abbrev S4x1x2048x64 : Shape := ⟨4, ![4, 1, 2048, 64]⟩
abbrev S4x4x2048x64 : Shape := ⟨4, ![4, 4, 2048, 64]⟩
abbrev S4x2048x8x192 : Shape := ⟨4, ![4, 2048, 8, 192]⟩
abbrev S4x2048x8x128 : Shape := ⟨4, ![4, 2048, 8, 128]⟩
abbrev S4x2048x8x64 : Shape := ⟨4, ![4, 2048, 8, 64]⟩
abbrev S4x2048x1x32 : Shape := ⟨4, ![4, 2048, 1, 32]⟩
abbrev S4x2048x8x32 : Shape := ⟨4, ![4, 2048, 8, 32]⟩
abbrev S4x2048x8x256 : Shape := ⟨4, ![4, 2048, 8, 256]⟩
abbrev S4x4x2x2048x64 : Shape := ⟨5, ![4, 4, 2, 2048, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S128x128 : Shape := ⟨2, ![128, 128]⟩
abbrev S4x2048x128 : Shape := ⟨3, ![4, 2048, 128]⟩
abbrev S4x4x2048x128 : Shape := ⟨4, ![4, 4, 2048, 128]⟩
abbrev S1x512x512 : Shape := ⟨3, ![1, 512, 512]⟩
abbrev S1x512x128 : Shape := ⟨3, ![1, 512, 128]⟩
abbrev S1x2048x512 : Shape := ⟨3, ![1, 2048, 512]⟩
abbrev S1x2048x128 : Shape := ⟨3, ![1, 2048, 128]⟩
abbrev S1x512x256 : Shape := ⟨3, ![1, 512, 256]⟩
abbrev S1x2x512x1 : Shape := ⟨4, ![1, 2, 512, 1]⟩
abbrev S1x1x2048x128 : Shape := ⟨4, ![1, 1, 2048, 128]⟩
abbrev S2x2048x256 : Shape := ⟨3, ![2, 2048, 256]⟩
abbrev S2x2048x128 : Shape := ⟨3, ![2, 2048, 128]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x1x512x1 : Shape := ⟨4, ![1, 1, 512, 1]⟩
abbrev S1x1024x128 : Shape := ⟨3, ![1, 1024, 128]⟩
abbrev S1024x128 : Shape := ⟨2, ![1024, 128]⟩
abbrev S1024x256 : Shape := ⟨2, ![1024, 256]⟩
abbrev S512x1024 : Shape := ⟨2, ![512, 1024]⟩
abbrev S1x1024x256 : Shape := ⟨3, ![1, 1024, 256]⟩
abbrev S1x1536x128 : Shape := ⟨3, ![1, 1536, 128]⟩
abbrev S1536x128 : Shape := ⟨2, ![1536, 128]⟩
abbrev S1536x256 : Shape := ⟨2, ![1536, 256]⟩
abbrev S512x1536 : Shape := ⟨2, ![512, 1536]⟩
abbrev S1x1536x256 : Shape := ⟨3, ![1, 1536, 256]⟩
abbrev S1x2048x256 : Shape := ⟨3, ![1, 2048, 256]⟩
abbrev S2048x256 : Shape := ⟨2, ![2048, 256]⟩
abbrev S2048x128 : Shape := ⟨2, ![2048, 128]⟩

abbrev nBuf : Space → Nat
  | .hbm => 120
  | .vmem => 25
  | .smem => 0
  | _ => 0

abbrev bufTy : (tb : Table) → Fin (tcTables nBuf tb) → BufTy
  | .hbm, ⟨0, _⟩ => ⟨S4x2048x1536, .f32⟩
  | .hbm, ⟨1, _⟩ => ⟨S4x2048x2048, .f32⟩
  | .hbm, ⟨2, _⟩ => ⟨S4x2048x64, .f32⟩
  | .hbm, ⟨3, _⟩ => ⟨S4x2048x32, .f32⟩
  | .hbm, ⟨4, _⟩ => ⟨S4x2048x32, .f32⟩
  | .hbm, ⟨5, _⟩ => ⟨S4x2048x1024, .f32⟩
  | .hbm, ⟨6, _⟩ => ⟨S4x1x2048x64, .f32⟩
  | .hbm, ⟨7, _⟩ => ⟨S4x4x2048x64, .f32⟩
  | .hbm, ⟨8, _⟩ => ⟨S4x2048x8x192, .f32⟩
  | .hbm, ⟨9, _⟩ => ⟨S4x2048x8x128, .f32⟩
  | .hbm, ⟨10, _⟩ => ⟨S4x2048x8x64, .f32⟩
  | .hbm, ⟨11, _⟩ => ⟨S4x2048x1x32, .f32⟩
  | .hbm, ⟨12, _⟩ => ⟨S4x2048x1x32, .f32⟩
  | .hbm, ⟨13, _⟩ => ⟨S4x2048x8x32, .f32⟩
  | .hbm, ⟨14, _⟩ => ⟨S4x2048x8x32, .f32⟩
  | .hbm, ⟨15, _⟩ => ⟨S4x2048x8x32, .f32⟩
  | .hbm, ⟨16, _⟩ => ⟨S4x2048x8x32, .f32⟩
  | .hbm, ⟨17, _⟩ => ⟨S4x2048x8x32, .f32⟩
  | .hbm, ⟨18, _⟩ => ⟨S4x2048x8x32, .f32⟩
  | .hbm, ⟨19, _⟩ => ⟨S4x2048x8x32, .f32⟩
  | .hbm, ⟨20, _⟩ => ⟨S4x2048x8x32, .f32⟩
  | .hbm, ⟨21, _⟩ => ⟨S4x2048x8x32, .f32⟩
  | .hbm, ⟨22, _⟩ => ⟨S4x2048x8x32, .f32⟩
  | .hbm, ⟨23, _⟩ => ⟨S4x2048x8x32, .f32⟩
  | .hbm, ⟨24, _⟩ => ⟨S4x2048x8x32, .f32⟩
  | .hbm, ⟨25, _⟩ => ⟨S4x2048x8x64, .f32⟩
  | .hbm, ⟨26, _⟩ => ⟨S4x2048x8x256, .f32⟩
  | .hbm, ⟨27, _⟩ => ⟨S4x2048x8x128, .f32⟩
  | .hbm, ⟨28, _⟩ => ⟨S4x2048x8x128, .f32⟩
  | .hbm, ⟨29, _⟩ => ⟨S4x4x2x2048x64, .f32⟩
  | .hbm, ⟨30, _⟩ => ⟨S4x8x2048x64, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S_, .f32⟩
  | .hbm, ⟨35, _⟩ => ⟨S_, .f32⟩
  | .hbm, ⟨36, _⟩ => ⟨S4x8x2048x2048, .f32⟩
  | .hbm, ⟨37, _⟩ => ⟨S4x8x2048x2048, .f32⟩
  | .hbm, ⟨38, _⟩ => ⟨S2048x2048, .i32⟩
  | .hbm, ⟨39, _⟩ => ⟨S2048x2048, .i32⟩
  | .hbm, ⟨40, _⟩ => ⟨S2048x2048, .i1⟩
  | .hbm, ⟨41, _⟩ => ⟨S_, .f32⟩
  | .hbm, ⟨42, _⟩ => ⟨S_, .f32⟩
  | .hbm, ⟨43, _⟩ => ⟨S4x8x2048x2048, .i1⟩
  | .hbm, ⟨44, _⟩ => ⟨S4x8x2048x2048, .f32⟩
  | .hbm, ⟨45, _⟩ => ⟨S4x8x2048x2048, .f32⟩
  | .hbm, ⟨46, _⟩ => ⟨S_, .f32⟩
  | .hbm, ⟨47, _⟩ => ⟨S4x8x2048, .f32⟩
  | .hbm, ⟨48, _⟩ => ⟨S4x8x2048x1, .f32⟩
  | .hbm, ⟨49, _⟩ => ⟨S4x8x2048x2048, .f32⟩
  | .hbm, ⟨50, _⟩ => ⟨S4x8x2048x2048, .f32⟩
  | .hbm, ⟨51, _⟩ => ⟨S4x8x2048x2048, .f32⟩
  | .hbm, ⟨52, _⟩ => ⟨S_, .f32⟩
  | .hbm, ⟨53, _⟩ => ⟨S4x8x2048, .f32⟩
  | .hbm, ⟨54, _⟩ => ⟨S4x8x2048x1, .f32⟩
  | .hbm, ⟨55, _⟩ => ⟨S4x8x2048x2048, .f32⟩
  | .hbm, ⟨56, _⟩ => ⟨S4x8x2048x2048, .f32⟩
  | .hbm, ⟨57, _⟩ => ⟨S4x8x2048x2048, .f32⟩
  | .hbm, ⟨58, _⟩ => ⟨S4x8x2048x2048, .f32⟩
  | .hbm, ⟨59, _⟩ => ⟨S4x8x2048x2048, .f32⟩
  | .hbm, ⟨60, _⟩ => ⟨S4x8x128x2048, .f32⟩
  | .hbm, ⟨61, _⟩ => ⟨S4x2048x8x128, .f32⟩
  | .hbm, ⟨62, _⟩ => ⟨S4x2048x1024, .f32⟩
  | .hbm, ⟨63, _⟩ => ⟨S4x8x2048x1, .f32⟩
  | .hbm, ⟨64, _⟩ => ⟨S4x8x2048x1, .f32⟩
  | .hbm, ⟨65, _⟩ => ⟨S_, .f32⟩
  | .hbm, ⟨66, _⟩ => ⟨S_, .f32⟩
  | .hbm, ⟨67, _⟩ => ⟨S4x8x2048x1, .f32⟩
  | .hbm, ⟨68, _⟩ => ⟨S4x8x2048x1, .f32⟩
  | .hbm, ⟨69, _⟩ => ⟨S_, .f32⟩
  | .hbm, ⟨70, _⟩ => ⟨S4x2048x64, .f32⟩
  | .hbm, ⟨71, _⟩ => ⟨S128x128, .i32⟩
  | .hbm, ⟨72, _⟩ => ⟨S128x128, .i32⟩
  | .hbm, ⟨73, _⟩ => ⟨S_, .i32⟩
  | .hbm, ⟨74, _⟩ => ⟨S128x128, .i32⟩
  | .hbm, ⟨75, _⟩ => ⟨S128x128, .i1⟩
  | .hbm, ⟨76, _⟩ => ⟨S_, .i32⟩
  | .hbm, ⟨77, _⟩ => ⟨S128x128, .i32⟩
  | .hbm, ⟨78, _⟩ => ⟨S128x128, .i32⟩
  | .hbm, ⟨79, _⟩ => ⟨S128x128, .i1⟩
  | .hbm, ⟨80, _⟩ => ⟨S128x128, .i1⟩
  | .hbm, ⟨81, _⟩ => ⟨S_, .i32⟩
  | .hbm, ⟨82, _⟩ => ⟨S128x128, .i32⟩
  | .hbm, ⟨83, _⟩ => ⟨S128x128, .i1⟩
  | .hbm, ⟨84, _⟩ => ⟨S_, .i32⟩
  | .hbm, ⟨85, _⟩ => ⟨S128x128, .i32⟩
  | .hbm, ⟨86, _⟩ => ⟨S128x128, .i32⟩
  | .hbm, ⟨87, _⟩ => ⟨S128x128, .i1⟩
  | .hbm, ⟨88, _⟩ => ⟨S128x128, .i1⟩
  | .hbm, ⟨89, _⟩ => ⟨S_, .f32⟩
  | .hbm, ⟨90, _⟩ => ⟨S_, .f32⟩
  | .hbm, ⟨91, _⟩ => ⟨S128x128, .f32⟩
  | .hbm, ⟨92, _⟩ => ⟨S128x128, .f32⟩
  | .hbm, ⟨93, _⟩ => ⟨S128x128, .f32⟩
  | .hbm, ⟨94, _⟩ => ⟨S_, .f32⟩
  | .hbm, ⟨95, _⟩ => ⟨S128x128, .f32⟩
  | .hbm, ⟨96, _⟩ => ⟨S128x128, .f32⟩
  | .hbm, ⟨97, _⟩ => ⟨S4x2048x128, .f32⟩
  | .hbm, ⟨98, _⟩ => ⟨S4x2048x128, .f32⟩
  | .hbm, ⟨99, _⟩ => ⟨S4x2048x8x192, .f32⟩
  | .hbm, ⟨100, _⟩ => ⟨S_, .i32⟩
  | .hbm, ⟨101, _⟩ => ⟨S_, .f32⟩
  | .hbm, ⟨102, _⟩ => ⟨S4x2048x8x256, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S4x2048x8x256, .f32⟩
  | .hbm, ⟨109, _⟩ => ⟨S4x2048x8x256, .f32⟩
  | .hbm, ⟨110, _⟩ => ⟨S4x2048x2048, .f32⟩
  | .hbm, ⟨111, _⟩ => ⟨S4x2048x2048, .bf16⟩
  | .hbm, ⟨112, _⟩ => ⟨S4x2048x2048, .bf16⟩
  | .hbm, ⟨113, _⟩ => ⟨S_, .i32⟩
  | .hbm, ⟨114, _⟩ => ⟨S_, .f32⟩
  | .hbm, ⟨115, _⟩ => ⟨S4x2048x128, .f32⟩
  | .hbm, ⟨116, _⟩ => ⟨S4x2048x128, .bf16⟩
  | .hbm, ⟨117, _⟩ => ⟨S4x2048x2048, .bf16⟩
  | .hbm, ⟨118, _⟩ => ⟨S4x2048x2048, .bf16⟩
  | .hbm, ⟨119, _⟩ => ⟨S4x4x2048x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S128x128, .f32⟩
  | .local _ .vmem, ⟨7, _⟩ => ⟨S1x2048x512, .bf16⟩
  | .local _ .vmem, ⟨8, _⟩ => ⟨S1x2048x512, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x512x256, .f32⟩
  | .local _ .vmem, ⟨12, _⟩ => ⟨S1x512x256, .f32⟩
  | .local _ .vmem, ⟨13, _⟩ => ⟨S1x2x512x1, .f32⟩
  | .local _ .vmem, ⟨14, _⟩ => ⟨S1x2x512x1, .f32⟩
  | .local _ .vmem, ⟨15, _⟩ => ⟨S1x512x256, .f32⟩
  | .local _ .vmem, ⟨16, _⟩ => ⟨S1x512x256, .f32⟩
  | .local _ .vmem, ⟨17, _⟩ => ⟨S1x512x512, .bf16⟩
  | .local _ .vmem, ⟨18, _⟩ => ⟨S1x512x512, .bf16⟩
  | .local _ .vmem, ⟨19, _⟩ => ⟨S1x2048x512, .bf16⟩
  | .local _ .vmem, ⟨20, _⟩ => ⟨S1x2048x512, .bf16⟩
  | .local _ .vmem, ⟨21, _⟩ => ⟨S1x1x2048x128, .f32⟩
  | .local _ .vmem, ⟨22, _⟩ => ⟨S1x1x2048x128, .f32⟩
  | .local _ .vmem, ⟨23, _⟩ => ⟨S2x2048x256, .f32⟩
  | .local _ .vmem, ⟨24, _⟩ => ⟨S2x2048x128, .f32⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_0 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_3 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c : Ref sig .tc := ⟨.hbm, 73, rfl⟩
abbrev main_v58 : Ref sig .tc := ⟨.hbm, 74, rfl⟩
abbrev main_v59 : Ref sig .tc := ⟨.hbm, 75, rfl⟩
abbrev main_c_5 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_6 : Ref sig .tc := ⟨.hbm, 81, rfl⟩
abbrev main_v64 : Ref sig .tc := ⟨.hbm, 82, rfl⟩
abbrev main_v65 : Ref sig .tc := ⟨.hbm, 83, rfl⟩
abbrev main_c_7 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_8 : Ref sig .tc := ⟨.hbm, 89, rfl⟩
abbrev main_cst_9 : Ref sig .tc := ⟨.hbm, 90, rfl⟩
abbrev main_call1_v0 : Ref sig .tc := ⟨.hbm, 91, rfl⟩
abbrev main_call1_v1 : Ref sig .tc := ⟨.hbm, 92, rfl⟩
abbrev main_v70 : Ref sig .tc := ⟨.hbm, 93, rfl⟩
abbrev main_cst_10 : Ref sig .tc := ⟨.hbm, 94, rfl⟩
abbrev main_call2_v0 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_11 : Ref sig .tc := ⟨.hbm, 100, rfl⟩
abbrev main_call3_v0 : Ref sig .tc := ⟨.hbm, 101, rfl⟩
abbrev main_v75 : Ref sig .tc := ⟨.hbm, 102, rfl⟩
abbrev main_cst_12 : Ref sig .tc := ⟨.hbm, 103, rfl⟩
abbrev main_v76 : Ref sig .tc := ⟨.hbm, 104, rfl⟩
abbrev main_cst_13 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_14 : Ref sig .tc := ⟨.hbm, 113, rfl⟩
abbrev main_call4_v0 : Ref sig .tc := ⟨.hbm, 114, rfl⟩
abbrev main_v84 : Ref sig .tc := ⟨.hbm, 115, rfl⟩
abbrev main_v85 : Ref sig .tc := ⟨.hbm, 116, rfl⟩
abbrev main_v86_0 : Ref sig .tc := ⟨.hbm, 117, rfl⟩
abbrev main_v86_1 : Ref sig .tc := ⟨.hbm, 118, rfl⟩
abbrev main_v86_2 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg2 : BitVec 32 := BitVec.ofNat 32 (i 2).val
  let c3_i32_6 : BitVec 32 := 3#32
  let v15 : BitVec 1 := Scalar.cmpi .eq arg2 c3_i32_6
  let v16 : BitVec 32 := Scalar.extui v15
  let c0_i32_7 : BitVec 32 := 0#32
  let v17 : BitVec 1 := Scalar.cmpi .ne v16 c0_i32_7
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== KernelIdeal.lean ====
abbrev S4x2048x1536 : Shape := ⟨3, ![4, 2048, 1536]⟩
abbrev S4x2048x2048 : Shape := ⟨3, ![4, 2048, 2048]⟩
abbrev S4x2048x64 : Shape := ⟨3, ![4, 2048, 64]⟩
abbrev S4x2048x32 : Shape := ⟨3, ![4, 2048, 32]⟩
abbrev S4x2048x1024 : Shape := ⟨3, ![4, 2048, 1024]⟩
abbrev S4x1x2048x64 : Shape := ⟨4, ![4, 1, 2048, 64]⟩
abbrev S4x4x2048x64 : Shape := ⟨4, ![4, 4, 2048, 64]⟩
abbrev S4x2048x8x192 : Shape := ⟨4, ![4, 2048, 8, 192]⟩
abbrev S4x2048x8x128 : Shape := ⟨4, ![4, 2048, 8, 128]⟩
abbrev S4x2048x8x64 : Shape := ⟨4, ![4, 2048, 8, 64]⟩
abbrev S4x2048x1x32 : Shape := ⟨4, ![4, 2048, 1, 32]⟩
abbrev S4x2048x8x32 : Shape := ⟨4, ![4, 2048, 8, 32]⟩
abbrev S4x2048x8x256 : Shape := ⟨4, ![4, 2048, 8, 256]⟩
abbrev S4x4x2x2048x64 : Shape := ⟨5, ![4, 4, 2, 2048, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S128x128 : Shape := ⟨2, ![128, 128]⟩
abbrev S4x2048x128 : Shape := ⟨3, ![4, 2048, 128]⟩
abbrev S4x4x2048x128 : Shape := ⟨4, ![4, 4, 2048, 128]⟩
abbrev S1x512x512 : Shape := ⟨3, ![1, 512, 512]⟩
abbrev S1x512x128 : Shape := ⟨3, ![1, 512, 128]⟩
abbrev S1x2048x512 : Shape := ⟨3, ![1, 2048, 512]⟩
abbrev S1x2048x128 : Shape := ⟨3, ![1, 2048, 128]⟩
abbrev S1x512x256 : Shape := ⟨3, ![1, 512, 256]⟩
abbrev S1x2x512x1 : Shape := ⟨4, ![1, 2, 512, 1]⟩
abbrev S1x1x2048x128 : Shape := ⟨4, ![1, 1, 2048, 128]⟩
abbrev S2x2048x256 : Shape := ⟨3, ![2, 2048, 256]⟩
abbrev S2x2048x128 : Shape := ⟨3, ![2, 2048, 128]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x1x512x1 : Shape := ⟨4, ![1, 1, 512, 1]⟩
abbrev S1x1024x128 : Shape := ⟨3, ![1, 1024, 128]⟩
abbrev S1024x128 : Shape := ⟨2, ![1024, 128]⟩
abbrev S1024x256 : Shape := ⟨2, ![1024, 256]⟩
abbrev S512x1024 : Shape := ⟨2, ![512, 1024]⟩
abbrev S1x1024x256 : Shape := ⟨3, ![1, 1024, 256]⟩
abbrev S1x1536x128 : Shape := ⟨3, ![1, 1536, 128]⟩
abbrev S1536x128 : Shape := ⟨2, ![1536, 128]⟩
abbrev S1536x256 : Shape := ⟨2, ![1536, 256]⟩
abbrev S512x1536 : Shape := ⟨2, ![512, 1536]⟩
abbrev S1x1536x256 : Shape := ⟨3, ![1, 1536, 256]⟩
abbrev S1x2048x256 : Shape := ⟨3, ![1, 2048, 256]⟩
abbrev S2048x256 : Shape := ⟨2, ![2048, 256]⟩
abbrev S2048x128 : Shape := ⟨2, ![2048, 128]⟩

abbrev nBuf : Space → Nat
  | .hbm => 120
  | .vmem => 25
  | .smem => 0
  | _ => 0

abbrev bufTy : (tb : Table) → Fin (tcTables nBuf tb) → BufTy
  | .hbm, ⟨0, _⟩ => ⟨S4x2048x1536, .f32⟩
  | .hbm, ⟨1, _⟩ => ⟨S4x2048x2048, .f32⟩
  | .hbm, ⟨2, _⟩ => ⟨S4x2048x64, .f32⟩
  | .hbm, ⟨3, _⟩ => ⟨S4x2048x32, .f32⟩
  | .hbm, ⟨4, _⟩ => ⟨S4x2048x32, .f32⟩
  | .hbm, ⟨5, _⟩ => ⟨S4x2048x1024, .f32⟩
  | .hbm, ⟨6, _⟩ => ⟨S4x1x2048x64, .f32⟩
  | .hbm, ⟨7, _⟩ => ⟨S4x4x2048x64, .f32⟩
  | .hbm, ⟨8, _⟩ => ⟨S4x2048x8x192, .f32⟩
  | .hbm, ⟨9, _⟩ => ⟨S4x2048x8x128, .f32⟩
  | .hbm, ⟨10, _⟩ => ⟨S4x2048x8x64, .f32⟩
  | .hbm, ⟨11, _⟩ => ⟨S4x2048x1x32, .f32⟩
  | .hbm, ⟨12, _⟩ => ⟨S4x2048x1x32, .f32⟩
  | .hbm, ⟨13, _⟩ => ⟨S4x2048x8x32, .f32⟩
  | .hbm, ⟨14, _⟩ => ⟨S4x2048x8x32, .f32⟩
  | .hbm, ⟨15, _⟩ => ⟨S4x2048x8x32, .f32⟩
  | .hbm, ⟨16, _⟩ => ⟨S4x2048x8x32, .f32⟩
  | .hbm, ⟨17, _⟩ => ⟨S4x2048x8x32, .f32⟩
  | .hbm, ⟨18, _⟩ => ⟨S4x2048x8x32, .f32⟩
  | .hbm, ⟨19, _⟩ => ⟨S4x2048x8x32, .f32⟩
  | .hbm, ⟨20, _⟩ => ⟨S4x2048x8x32, .f32⟩
  | .hbm, ⟨21, _⟩ => ⟨S4x2048x8x32, .f32⟩
  | .hbm, ⟨22, _⟩ => ⟨S4x2048x8x32, .f32⟩
  | .hbm, ⟨23, _⟩ => ⟨S4x2048x8x32, .f32⟩
  | .hbm, ⟨24, _⟩ => ⟨S4x2048x8x32, .f32⟩
  | .hbm, ⟨25, _⟩ => ⟨S4x2048x8x64, .f32⟩
  | .hbm, ⟨26, _⟩ => ⟨S4x2048x8x256, .f32⟩
  | .hbm, ⟨27, _⟩ => ⟨S4x2048x8x128, .f32⟩
  | .hbm, ⟨28, _⟩ => ⟨S4x2048x8x128, .f32⟩
  | .hbm, ⟨29, _⟩ => ⟨S4x4x2x2048x64, .f32⟩
  | .hbm, ⟨30, _⟩ => ⟨S4x8x2048x64, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S_, .f32⟩
  | .hbm, ⟨35, _⟩ => ⟨S_, .f32⟩
  | .hbm, ⟨36, _⟩ => ⟨S4x8x2048x2048, .f32⟩
  | .hbm, ⟨37, _⟩ => ⟨S4x8x2048x2048, .f32⟩
  | .hbm, ⟨38, _⟩ => ⟨S2048x2048, .i32⟩
  | .hbm, ⟨39, _⟩ => ⟨S2048x2048, .i32⟩
  | .hbm, ⟨40, _⟩ => ⟨S2048x2048, .i1⟩
  | .hbm, ⟨41, _⟩ => ⟨S_, .f32⟩
  | .hbm, ⟨42, _⟩ => ⟨S_, .f32⟩
  | .hbm, ⟨43, _⟩ => ⟨S4x8x2048x2048, .i1⟩
  | .hbm, ⟨44, _⟩ => ⟨S4x8x2048x2048, .f32⟩
  | .hbm, ⟨45, _⟩ => ⟨S4x8x2048x2048, .f32⟩
  | .hbm, ⟨46, _⟩ => ⟨S_, .f32⟩
  | .hbm, ⟨47, _⟩ => ⟨S4x8x2048, .f32⟩
  | .hbm, ⟨48, _⟩ => ⟨S4x8x2048x1, .f32⟩
  | .hbm, ⟨49, _⟩ => ⟨S4x8x2048x2048, .f32⟩
  | .hbm, ⟨50, _⟩ => ⟨S4x8x2048x2048, .f32⟩
  | .hbm, ⟨51, _⟩ => ⟨S4x8x2048x2048, .f32⟩
  | .hbm, ⟨52, _⟩ => ⟨S_, .f32⟩
  | .hbm, ⟨53, _⟩ => ⟨S4x8x2048, .f32⟩
  | .hbm, ⟨54, _⟩ => ⟨S4x8x2048x1, .f32⟩
  | .hbm, ⟨55, _⟩ => ⟨S4x8x2048x2048, .f32⟩
  | .hbm, ⟨56, _⟩ => ⟨S4x8x2048x2048, .f32⟩
  | .hbm, ⟨57, _⟩ => ⟨S4x8x2048x2048, .f32⟩
  | .hbm, ⟨58, _⟩ => ⟨S4x8x2048x2048, .f32⟩
  | .hbm, ⟨59, _⟩ => ⟨S4x8x2048x2048, .f32⟩
  | .hbm, ⟨60, _⟩ => ⟨S4x8x128x2048, .f32⟩
  | .hbm, ⟨61, _⟩ => ⟨S4x2048x8x128, .f32⟩
  | .hbm, ⟨62, _⟩ => ⟨S4x2048x1024, .f32⟩
  | .hbm, ⟨63, _⟩ => ⟨S4x8x2048x1, .f32⟩
  | .hbm, ⟨64, _⟩ => ⟨S4x8x2048x1, .f32⟩
  | .hbm, ⟨65, _⟩ => ⟨S_, .f32⟩
  | .hbm, ⟨66, _⟩ => ⟨S_, .f32⟩
  | .hbm, ⟨67, _⟩ => ⟨S4x8x2048x1, .f32⟩
  | .hbm, ⟨68, _⟩ => ⟨S4x8x2048x1, .f32⟩
  | .hbm, ⟨69, _⟩ => ⟨S_, .f32⟩
  | .hbm, ⟨70, _⟩ => ⟨S4x2048x64, .f32⟩
  | .hbm, ⟨71, _⟩ => ⟨S128x128, .i32⟩
  | .hbm, ⟨72, _⟩ => ⟨S128x128, .i32⟩
  | .hbm, ⟨73, _⟩ => ⟨S_, .i32⟩
  | .hbm, ⟨74, _⟩ => ⟨S128x128, .i32⟩
  | .hbm, ⟨75, _⟩ => ⟨S128x128, .i1⟩
  | .hbm, ⟨76, _⟩ => ⟨S_, .i32⟩
  | .hbm, ⟨77, _⟩ => ⟨S128x128, .i32⟩
  | .hbm, ⟨78, _⟩ => ⟨S128x128, .i32⟩
  | .hbm, ⟨79, _⟩ => ⟨S128x128, .i1⟩
  | .hbm, ⟨80, _⟩ => ⟨S128x128, .i1⟩
  | .hbm, ⟨81, _⟩ => ⟨S_, .i32⟩
  | .hbm, ⟨82, _⟩ => ⟨S128x128, .i32⟩
  | .hbm, ⟨83, _⟩ => ⟨S128x128, .i1⟩
  | .hbm, ⟨84, _⟩ => ⟨S_, .i32⟩
  | .hbm, ⟨85, _⟩ => ⟨S128x128, .i32⟩
  | .hbm, ⟨86, _⟩ => ⟨S128x128, .i32⟩
  | .hbm, ⟨87, _⟩ => ⟨S128x128, .i1⟩
  | .hbm, ⟨88, _⟩ => ⟨S128x128, .i1⟩
  | .hbm, ⟨89, _⟩ => ⟨S_, .f32⟩
  | .hbm, ⟨90, _⟩ => ⟨S_, .f32⟩
  | .hbm, ⟨91, _⟩ => ⟨S128x128, .f32⟩
  | .hbm, ⟨92, _⟩ => ⟨S128x128, .f32⟩
  | .hbm, ⟨93, _⟩ => ⟨S128x128, .f32⟩
  | .hbm, ⟨94, _⟩ => ⟨S_, .f32⟩
  | .hbm, ⟨95, _⟩ => ⟨S128x128, .f32⟩
  | .hbm, ⟨96, _⟩ => ⟨S128x128, .f32⟩
  | .hbm, ⟨97, _⟩ => ⟨S4x2048x128, .f32⟩
  | .hbm, ⟨98, _⟩ => ⟨S4x2048x128, .f32⟩
  | .hbm, ⟨99, _⟩ => ⟨S4x2048x8x192, .f32⟩
  | .hbm, ⟨100, _⟩ => ⟨S_, .i32⟩
  | .hbm, ⟨101, _⟩ => ⟨S_, .f32⟩
  | .hbm, ⟨102, _⟩ => ⟨S4x2048x8x256, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S4x2048x8x256, .f32⟩
  | .hbm, ⟨109, _⟩ => ⟨S4x2048x8x256, .f32⟩
  | .hbm, ⟨110, _⟩ => ⟨S4x2048x2048, .f32⟩
  | .hbm, ⟨111, _⟩ => ⟨S4x2048x2048, .bf16⟩
  | .hbm, ⟨112, _⟩ => ⟨S4x2048x2048, .bf16⟩
  | .hbm, ⟨113, _⟩ => ⟨S_, .i32⟩
  | .hbm, ⟨114, _⟩ => ⟨S_, .f32⟩
  | .hbm, ⟨115, _⟩ => ⟨S4x2048x128, .f32⟩
  | .hbm, ⟨116, _⟩ => ⟨S4x2048x128, .bf16⟩
  | .hbm, ⟨117, _⟩ => ⟨S4x2048x2048, .bf16⟩
  | .hbm, ⟨118, _⟩ => ⟨S4x2048x2048, .bf16⟩
  | .hbm, ⟨119, _⟩ => ⟨S4x4x2048x128, .f32⟩
  | .local _ .vmem, ⟨0, _⟩ => ⟨S1x512x512, .bf16⟩
  | .local _ .vmem, ⟨1, _⟩ => ⟨S1x512x512, .bf16⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S128x128, .f32⟩
  | .local _ .vmem, ⟨7, _⟩ => ⟨S1x2048x512, .bf16⟩
  | .local _ .vmem, ⟨8, _⟩ => ⟨S1x2048x512, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x512x256, .f32⟩
  | .local _ .vmem, ⟨12, _⟩ => ⟨S1x512x256, .f32⟩
  | .local _ .vmem, ⟨13, _⟩ => ⟨S1x2x512x1, .f32⟩
  | .local _ .vmem, ⟨14, _⟩ => ⟨S1x2x512x1, .f32⟩
  | .local _ .vmem, ⟨15, _⟩ => ⟨S1x512x256, .f32⟩
  | .local _ .vmem, ⟨16, _⟩ => ⟨S1x512x256, .f32⟩
  | .local _ .vmem, ⟨17, _⟩ => ⟨S1x512x512, .bf16⟩
  | .local _ .vmem, ⟨18, _⟩ => ⟨S1x512x512, .bf16⟩
  | .local _ .vmem, ⟨19, _⟩ => ⟨S1x2048x512, .bf16⟩
  | .local _ .vmem, ⟨20, _⟩ => ⟨S1x2048x512, .bf16⟩
  | .local _ .vmem, ⟨21, _⟩ => ⟨S1x1x2048x128, .f32⟩
  | .local _ .vmem, ⟨22, _⟩ => ⟨S1x1x2048x128, .f32⟩
  | .local _ .vmem, ⟨23, _⟩ => ⟨S2x2048x256, .f32⟩
  | .local _ .vmem, ⟨24, _⟩ => ⟨S2x2048x128, .f32⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_0 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_2 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_3 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_c : Ref sig .tc := ⟨.hbm, 73, rfl⟩
abbrev main_v58 : Ref sig .tc := ⟨.hbm, 74, rfl⟩
abbrev main_v59 : Ref sig .tc := ⟨.hbm, 75, rfl⟩
abbrev main_c_5 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_c_6 : Ref sig .tc := ⟨.hbm, 81, rfl⟩
abbrev main_v64 : Ref sig .tc := ⟨.hbm, 82, rfl⟩
abbrev main_v65 : Ref sig .tc := ⟨.hbm, 83, rfl⟩
abbrev main_c_7 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_8 : Ref sig .tc := ⟨.hbm, 89, rfl⟩
abbrev main_cst_9 : Ref sig .tc := ⟨.hbm, 90, rfl⟩
abbrev main_call1_v0 : Ref sig .tc := ⟨.hbm, 91, rfl⟩
abbrev main_call1_v1 : Ref sig .tc := ⟨.hbm, 92, rfl⟩
abbrev main_v70 : Ref sig .tc := ⟨.hbm, 93, rfl⟩
abbrev main_cst_10 : Ref sig .tc := ⟨.hbm, 94, rfl⟩
abbrev main_call2_v0 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_11 : Ref sig .tc := ⟨.hbm, 100, rfl⟩
abbrev main_call3_v0 : Ref sig .tc := ⟨.hbm, 101, rfl⟩
abbrev main_v75 : Ref sig .tc := ⟨.hbm, 102, rfl⟩
abbrev main_cst_12 : Ref sig .tc := ⟨.hbm, 103, rfl⟩
abbrev main_v76 : Ref sig .tc := ⟨.hbm, 104, rfl⟩
abbrev main_cst_13 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_14 : Ref sig .tc := ⟨.hbm, 113, rfl⟩
abbrev main_call4_v0 : Ref sig .tc := ⟨.hbm, 114, rfl⟩
abbrev main_v84 : Ref sig .tc := ⟨.hbm, 115, rfl⟩
abbrev main_v85 : Ref sig .tc := ⟨.hbm, 116, rfl⟩
abbrev main_v86_0 : Ref sig .tc := ⟨.hbm, 117, rfl⟩
abbrev main_v86_1 : Ref sig .tc := ⟨.hbm, 118, rfl⟩
abbrev main_v86_2 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F] [Named F]

def κ : String → Option EReal := fun
  | "scale" => some (((Real.sqrt 192)⁻¹ : ℝ) : EReal)
  | "unprescale" => some (((Real.sqrt 192) * (Real.log 2) : ℝ) : EReal)
  | _ => none

abbrev grid0 : Pipeline.Grid := ⟨3, ![4, 4, 4], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg2 : BitVec 32 := BitVec.ofNat 32 (i 2).val
  let c3_i32_6 : BitVec 32 := 3#32
  let v15 : BitVec 1 := Scalar.cmpi .eq arg2 c3_i32_6
  let v16 : BitVec 32 := Scalar.extui v15
  let c0_i32_7 : BitVec 32 := 0#32
  let v17 : BitVec 1 := Scalar.cmpi .ne v16 c0_i32_7
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== ReferenceIdeal.lean ====
abbrev S4x2048x1536 : Shape := ⟨3, ![4, 2048, 1536]⟩
abbrev S4x2048x2048 : Shape := ⟨3, ![4, 2048, 2048]⟩
abbrev S4x2048x64 : Shape := ⟨3, ![4, 2048, 64]⟩
abbrev S4x2048x32 : Shape := ⟨3, ![4, 2048, 32]⟩
abbrev S4x2048x1024 : Shape := ⟨3, ![4, 2048, 1024]⟩
abbrev S4x1x2048x64 : Shape := ⟨4, ![4, 1, 2048, 64]⟩
abbrev S4x4x2048x64 : Shape := ⟨4, ![4, 4, 2048, 64]⟩
abbrev S4x2048x8x192 : Shape := ⟨4, ![4, 2048, 8, 192]⟩
abbrev S4x2048x8x128 : Shape := ⟨4, ![4, 2048, 8, 128]⟩
abbrev S4x2048x8x64 : Shape := ⟨4, ![4, 2048, 8, 64]⟩
abbrev S4x2048x1x32 : Shape := ⟨4, ![4, 2048, 1, 32]⟩
abbrev S4x2048x8x32 : Shape := ⟨4, ![4, 2048, 8, 32]⟩
abbrev S4x2048x8x256 : Shape := ⟨4, ![4, 2048, 8, 256]⟩
abbrev S4x4x2x2048x64 : Shape := ⟨5, ![4, 4, 2, 2048, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x8x2048x128 : Shape := ⟨4, ![4, 8, 2048, 128]⟩
abbrev S4x4x2048x128 : Shape := ⟨4, ![4, 4, 2048, 128]⟩

abbrev nBuf : Space → Nat
  | .hbm => 159
  | .vmem => 0
  | .smem => 0
  | _ => 0

abbrev hbmTy0_0 (i : Nat) : BufTy := match i % 128 with
  | 0 => ⟨S4x2048x1536, .f32⟩
  | 1 => ⟨S4x2048x2048, .f32⟩
  | 2 => ⟨S4x2048x64, .f32⟩
  | 3 => ⟨S4x2048x32, .f32⟩
  | 4 => ⟨S4x2048x32, .f32⟩
  | 5 => ⟨S4x2048x1024, .f32⟩
  | 6 => ⟨S4x1x2048x64, .f32⟩
  | 7 => ⟨S4x4x2048x64, .f32⟩
  | 8 => ⟨S4x2048x8x192, .f32⟩
  | 9 => ⟨S4x2048x8x128, .f32⟩
  | 10 => ⟨S4x2048x8x64, .f32⟩
  | 11 => ⟨S4x2048x1x32, .f32⟩
  | 12 => ⟨S4x2048x1x32, .f32⟩
  | 13 => ⟨S4x2048x8x32, .f32⟩
  | 14 => ⟨S4x2048x8x32, .f32⟩
  | 15 => ⟨S4x2048x8x32, .f32⟩
  | 16 => ⟨S4x2048x8x32, .f32⟩
  | 17 => ⟨S4x2048x8x32, .f32⟩
  | 18 => ⟨S4x2048x8x32, .f32⟩
  | 19 => ⟨S4x2048x8x32, .f32⟩
  | 20 => ⟨S4x2048x8x32, .f32⟩
  | 21 => ⟨S4x2048x8x32, .f32⟩
  | 22 => ⟨S4x2048x8x32, .f32⟩
  | 23 => ⟨S4x2048x8x32, .f32⟩
  | 24 => ⟨S4x2048x8x32, .f32⟩
  | 25 => ⟨S4x2048x8x64, .f32⟩
  | 26 => ⟨S4x2048x8x256, .f32⟩
  | 27 => ⟨S4x2048x8x128, .f32⟩
  | 28 => ⟨S4x2048x8x128, .f32⟩
  | 29 => ⟨S4x4x2x2048x64, .f32⟩
  | 30 => ⟨S4x8x2048x64, .f32⟩
  | 31 => ⟨S4x8x2048x2048, .f32⟩
  | 32 => ⟨S4x8x2048x2048, .f32⟩
  | 33 => ⟨S4x8x2048x2048, .f32⟩
  | 34 => ⟨S_, .f32⟩
  | 35 => ⟨S_, .f32⟩
  | 36 => ⟨S4x8x2048x2048, .f32⟩
  | 37 => ⟨S4x8x2048x2048, .f32⟩
  | 38 => ⟨S2048x2048, .i32⟩
  | 39 => ⟨S2048x2048, .i32⟩
  | 40 => ⟨S2048x2048, .i1⟩
  | 41 => ⟨S_, .f32⟩
  | 42 => ⟨S_, .f32⟩
  | 43 => ⟨S4x8x2048x2048, .i1⟩
  | 44 => ⟨S4x8x2048x2048, .f32⟩
  | 45 => ⟨S4x8x2048x2048, .f32⟩
  | 46 => ⟨S_, .f32⟩
  | 47 => ⟨S4x8x2048x2048, .f32⟩
  | 48 => ⟨S_, .f32⟩
  | 49 => ⟨S4x8x2048, .f32⟩
  | 50 => ⟨S4x8x2048x1, .f32⟩
  | 51 => ⟨S4x8x2048x2048, .f32⟩
  | 52 => ⟨S4x8x2048x2048, .i1⟩
  | 53 => ⟨S4x8x2048x2048, .f32⟩
  | 54 => ⟨S_, .f32⟩
  | 55 => ⟨S4x8x2048, .f32⟩
  | 56 => ⟨S_, .f32⟩
  | 57 => ⟨S4x8x2048, .f32⟩
  | 58 => ⟨S4x8x2048, .f32⟩
  | 59 => ⟨S_, .f32⟩
  | 60 => ⟨S4x8x2048, .f32⟩
  | 61 => ⟨S4x8x2048, .i1⟩
  | 62 => ⟨S_, .f32⟩
  | 63 => ⟨S4x8x2048, .f32⟩
  | 64 => ⟨S4x8x2048, .i1⟩
  | 65 => ⟨S_, .f32⟩
  | 66 => ⟨S4x8x2048, .f32⟩
  | 67 => ⟨S_, .f32⟩
  | 68 => ⟨S4x8x2048, .f32⟩
  | 69 => ⟨S_, .f32⟩
  | 70 => ⟨S4x8x2048, .f32⟩
  | 71 => ⟨S4x8x2048, .f32⟩
  | 72 => ⟨S4x8x2048, .f32⟩
  | 73 => ⟨S4x8x2048x1, .f32⟩
  | 74 => ⟨S4x8x2048x2048, .f32⟩
  | 75 => ⟨S4x8x2048x2048, .f32⟩
  | 76 => ⟨S4x8x2048x2048, .f32⟩
  | 77 => ⟨S_, .f32⟩
  | 78 => ⟨S4x8x2048, .f32⟩
  | 79 => ⟨S4x8x2048x1, .f32⟩
  | 80 => ⟨S4x8x2048x2048, .f32⟩
  | 81 => ⟨S4x8x2048x2048, .f32⟩
  | 82 => ⟨S4x8x2048x1, .f32⟩
  | 83 => ⟨S_, .f32⟩
  | 84 => ⟨S4x8x2048x1, .f32⟩
  | 85 => ⟨S4x8x2048x1, .f32⟩
  | 86 => ⟨S4x8x128x2048, .f32⟩
  | 87 => ⟨S4x2048x8x128, .f32⟩
  | 88 => ⟨S4x2048x1024, .f32⟩
  | 89 => ⟨S4x2048x8x128, .f32⟩
  | 90 => ⟨S4x8x128x2048, .f32⟩
  | 91 => ⟨S4x8x2048x2048, .f32⟩
  | 92 => ⟨S4x8x128x2048, .f32⟩
  | 93 => ⟨S4x2048x8x128, .f32⟩
  | 94 => ⟨S4x8x2048x2048, .f32⟩
  | 95 => ⟨S4x8x2048x2048, .f32⟩
  | 96 => ⟨S4x8x2048x2048, .f32⟩
  | 97 => ⟨S_, .f32⟩
  | 98 => ⟨S4x8x2048, .f32⟩
  | 99 => ⟨S4x8x2048x1, .f32⟩
  | 100 => ⟨S4x8x2048x1, .f32⟩
  | 101 => ⟨S4x8x2048x2048, .f32⟩
  | 102 => ⟨S4x8x2048x2048, .f32⟩
  | 103 => ⟨S_, .f32⟩
  | 104 => ⟨S4x8x2048, .f32⟩
  | 105 => ⟨S4x8x2048x2048, .f32⟩
  | 106 => ⟨S4x8x2048x2048, .f32⟩
  | 107 => ⟨S4x8x2048x2048, .f32⟩
  | 108 => ⟨S_, .f32⟩
  | 109 => ⟨S4x8x2048x2048, .f32⟩
  | 110 => ⟨S4x8x2048x2048, .f32⟩
  | 111 => ⟨S4x8x2048x2048, .f32⟩
  | 112 => ⟨S4x8x2048x2048, .f32⟩
  | 113 => ⟨S4x8x2048x64, .f32⟩
  | 114 => ⟨S4x8x2048x64, .f32⟩
  | 115 => ⟨S4x2048x8x64, .f32⟩
  | 116 => ⟨S4x8x2048x128, .f32⟩
  | 117 => ⟨S4x2048x8x128, .f32⟩
  | 118 => ⟨S4x8x2048x128, .f32⟩
  | 119 => ⟨S4x2048x8x128, .f32⟩
  | 120 => ⟨S4x4x2x2048x64, .f32⟩
  | 121 => ⟨S_, .f32⟩
  | 122 => ⟨S4x4x2048x64, .f32⟩
  | 123 => ⟨S_, .f32⟩
  | 124 => ⟨S4x2048x8x256, .f32⟩
  | 125 => ⟨S_, .f32⟩
  | 126 => ⟨S4x2048x8x256, .f32⟩
  | 127 => ⟨S4x2048x8x256, .f32⟩
  | _ => ⟨S4x2048x1536, .f32⟩

abbrev hbmTy0_1 (i : Nat) : BufTy := match i % 128 with
  | 0 => ⟨S4x2048x2048, .f32⟩
  | 1 => ⟨S4x2048x8x32, .f32⟩
  | 2 => ⟨S4x2048x8x32, .f32⟩
  | 3 => ⟨S4x2048x8x32, .f32⟩
  | 4 => ⟨S4x2048x8x32, .f32⟩
  | 5 => ⟨S4x2048x8x32, .f32⟩
  | 6 => ⟨S4x2048x8x32, .f32⟩
  | 7 => ⟨S4x2048x8x32, .f32⟩
  | 8 => ⟨S4x2048x8x32, .f32⟩
  | 9 => ⟨S4x2048x8x32, .f32⟩
  | 10 => ⟨S4x2048x8x32, .f32⟩
  | 11 => ⟨S4x2048x8x32, .f32⟩
  | 12 => ⟨S4x2048x8x32, .f32⟩
  | 13 => ⟨S4x2048x8x32, .f32⟩
  | 14 => ⟨S4x2048x8x64, .f32⟩
  | 15 => ⟨S_, .f32⟩
  | 16 => ⟨S4x2048x8x192, .f32⟩
  | 17 => ⟨S_, .f32⟩
  | 18 => ⟨S4x2048x8x192, .f32⟩
  | 19 => ⟨S4x2048x8x192, .f32⟩
  | 20 => ⟨S4x2048x1536, .f32⟩
  | 21 => ⟨S4x2048x8x192, .f32⟩
  | 22 => ⟨S_, .i32⟩
  | 23 => ⟨S_, .f32⟩
  | 24 => ⟨S4x2048x8x256, .f32⟩
  | 25 => ⟨S4x2048x2048, .f32⟩
  | 26 => ⟨S4x2048x2048, .bf16⟩
  | 27 => ⟨S4x2048x2048, .bf16⟩
  | 28 => ⟨S_, .i32⟩
  | 29 => ⟨S_, .f32⟩
  | 30 => ⟨S4x4x2048x128, .f32⟩
  | _ => ⟨S4x2048x1536, .f32⟩

abbrev hbmTy (i : Nat) : BufTy := match i / 128 with
  | 0 => hbmTy0_0 i
  | 1 => hbmTy0_1 i
  | _ => ⟨S4x2048x1536, .f32⟩

abbrev bufTy : (tb : Table) → Fin (tcTables nBuf tb) → BufTy
  | .hbm, ⟨i, _⟩ => hbmTy i
  | _, _ => ⟨S4x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_0 : Ref sig .tc := ⟨.hbm, 41, rfl⟩
abbrev main_call0_v0 : Ref sig .tc := ⟨.hbm, 42, rfl⟩
abbrev main_v34_1 : Ref sig .tc := ⟨.hbm, 43, rfl⟩
abbrev main_call0_v2 : Ref sig .tc := ⟨.hbm, 44, rfl⟩
abbrev main_v34_0 : Ref sig .tc := ⟨.hbm, 45, rfl⟩
abbrev main_call0_cst : Ref sig .tc := ⟨.hbm, 46, rfl⟩
abbrev main_v34_2 : Ref sig .tc := ⟨.hbm, 47, rfl⟩
abbrev main_cst_1 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_2 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_cst_7 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_11 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_12 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_call1_cst : Ref sig .tc := ⟨.hbm, 108, rfl⟩
abbrev main_call1_v0 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_13 : Ref sig .tc := ⟨.hbm, 121, rfl⟩
abbrev main_v94 : Ref sig .tc := ⟨.hbm, 122, rfl⟩
abbrev main_cst_14 : Ref sig .tc := ⟨.hbm, 123, rfl⟩
abbrev main_v95 : Ref sig .tc := ⟨.hbm, 124, rfl⟩
abbrev main_cst_15 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_16 : Ref sig .tc := ⟨.hbm, 143, rfl⟩
abbrev main_v113 : Ref sig .tc := ⟨.hbm, 144, rfl⟩
abbrev main_cst_17 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_c : Ref sig .tc := ⟨.hbm, 150, rfl⟩
abbrev main_call2_v0 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_c_18 : Ref sig .tc := ⟨.hbm, 156, rfl⟩
abbrev main_call3_v0 : Ref sig .tc := ⟨.hbm, 157, rfl⟩
abbrev main_v122 : Ref sig .tc := ⟨.hbm, 158, rfl⟩

abbrev nD : Nat := 1
abbrev τ : Topo := Topo.v7x

variable {F : FTy → Type} [FloatOps F]
-- ==== UpData.lean ====
abbrev S8192x2816 : Shape := ⟨2, ![8192, 2816]⟩
abbrev S2x1024x5632 : Shape := ⟨3, ![2, 1024, 5632]⟩
abbrev S8192x1024 : Shape := ⟨2, ![8192, 1024]⟩
abbrev S512x2816 : Shape := ⟨2, ![512, 2816]⟩
abbrev S1x1024x2816 : Shape := ⟨3, ![1, 1024, 2816]⟩
abbrev S512x1024 : Shape := ⟨2, ![512, 1024]⟩
abbrev S1024x2816 : Shape := ⟨2, ![1024, 2816]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2x1024x5632, .bf16⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S512x1024, .f32⟩
  | .local _ .vmem, ⟨7, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .sge arg2 c1_i32
  let c2_i32 : BitVec 32 := 2#32
  let v4 : BitVec 1 := Scalar.cmpi .slt arg2 c2_i32
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDataIdeal.lean ====
abbrev S8192x2816 : Shape := ⟨2, ![8192, 2816]⟩
abbrev S2x1024x5632 : Shape := ⟨3, ![2, 1024, 5632]⟩
abbrev S8192x1024 : Shape := ⟨2, ![8192, 1024]⟩
abbrev S512x2816 : Shape := ⟨2, ![512, 2816]⟩
abbrev S1x1024x2816 : Shape := ⟨3, ![1, 1024, 2816]⟩
abbrev S512x1024 : Shape := ⟨2, ![512, 1024]⟩
abbrev S1024x2816 : Shape := ⟨2, ![1024, 2816]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2x1024x5632, .bf16⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S512x1024, .f32⟩
  | .local _ .vmem, ⟨7, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .sge arg2 c1_i32
  let c2_i32 : BitVec 32 := 2#32
  let v4 : BitVec 1 := Scalar.cmpi .slt arg2 c2_i32
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDataReferenceIdeal.lean ====
abbrev S8192x2816 : Shape := ⟨2, ![8192, 2816]⟩
abbrev S2x1024x5632 : Shape := ⟨3, ![2, 1024, 5632]⟩
abbrev S8192x5632 : Shape := ⟨2, ![8192, 5632]⟩
abbrev S_ : Shape := ⟨0, ![]⟩
abbrev S8192x1024 : Shape := ⟨2, ![8192, 1024]⟩
abbrev S1x1024x5632 : Shape := ⟨3, ![1, 1024, 5632]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2x1024x5632, .bf16⟩
  | .hbm, ⟨3, _⟩ => ⟨S8192x5632, .bf16⟩
  | .hbm, ⟨4, _⟩ => ⟨S8192x5632, .f32⟩
  | .hbm, ⟨5, _⟩ => ⟨S_, .f32⟩
  | .hbm, ⟨6, _⟩ => ⟨S8192x1024, .f32⟩
  | .hbm, ⟨7, _⟩ => ⟨S1x1024x5632, .bf16⟩
  | .hbm, ⟨8, _⟩ => ⟨S1024x5632, .bf16⟩
  | .hbm, ⟨9, _⟩ => ⟨S1024x5632, .f32⟩
  | .hbm, ⟨10, _⟩ => ⟨S8192x5632, .f32⟩
  | .hbm, ⟨11, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DownData.lean ====
abbrev S8192x1024 : Shape := ⟨2, ![8192, 1024]⟩
abbrev S2x2816x1024 : Shape := ⟨3, ![2, 2816, 1024]⟩
abbrev S8192x2816 : Shape := ⟨2, ![8192, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDataIdeal.lean ====
abbrev S8192x1024 : Shape := ⟨2, ![8192, 1024]⟩
abbrev S2x2816x1024 : Shape := ⟨3, ![2, 2816, 1024]⟩
abbrev S8192x2816 : Shape := ⟨2, ![8192, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDataReferenceIdeal.lean ====
abbrev S8192x1024 : Shape := ⟨2, ![8192, 1024]⟩
abbrev S2x2816x1024 : Shape := ⟨3, ![2, 2816, 1024]⟩
abbrev S_ : Shape := ⟨0, ![]⟩
abbrev S8192x2816 : Shape := ⟨2, ![8192, 2816]⟩
abbrev S1x2816x1024 : Shape := ⟨3, ![1, 2816, 1024]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x2816x1024, .bf16⟩
  | .hbm, ⟨2, _⟩ => ⟨S_, .f32⟩
  | .hbm, ⟨3, _⟩ => ⟨S8192x2816, .f32⟩
  | .hbm, ⟨4, _⟩ => ⟨S1x2816x1024, .bf16⟩
  | .hbm, ⟨5, _⟩ => ⟨S2816x1024, .bf16⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InData.lean ====
abbrev S8192x3456 : Shape := ⟨2, ![8192, 3456]⟩
abbrev S2x1024x3456 : Shape := ⟨3, ![2, 1024, 3456]⟩
abbrev S8192x1024 : Shape := ⟨2, ![8192, 1024]⟩
abbrev S512x3456 : Shape := ⟨2, ![512, 3456]⟩
abbrev S1x1024x3456 : Shape := ⟨3, ![1, 1024, 3456]⟩
abbrev S512x1024 : Shape := ⟨2, ![512, 1024]⟩
abbrev S1024x3456 : Shape := ⟨2, ![1024, 3456]⟩

abbrev nBuf : Space → Nat
  | .hbm => 3
  | .vmem => 5
  | .smem => 0
  | _ => 0

abbrev bufTy : (tb : Table) → Fin (tcTables nBuf tb) → BufTy
  | .hbm, ⟨0, _⟩ => ⟨S8192x3456, .bf16⟩
  | .hbm, ⟨1, _⟩ => ⟨S2x1024x3456, .bf16⟩
  | .hbm, ⟨2, _⟩ => ⟨S8192x1024, .f32⟩
  | .local _ .vmem, ⟨0, _⟩ => ⟨S512x3456, .bf16⟩
  | .local _ .vmem, ⟨1, _⟩ => ⟨S512x3456, .bf16⟩
  | .local _ .vmem, ⟨2, _⟩ => ⟨S1x1024x3456, .bf16⟩
  | .local _ .vmem, ⟨3, _⟩ => ⟨S512x1024, .f32⟩
  | .local _ .vmem, ⟨4, _⟩ => ⟨S512x1024, .f32⟩
  | _, _ => ⟨S8192x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDataIdeal.lean ====
abbrev S8192x3456 : Shape := ⟨2, ![8192, 3456]⟩
abbrev S2x1024x3456 : Shape := ⟨3, ![2, 1024, 3456]⟩
abbrev S8192x1024 : Shape := ⟨2, ![8192, 1024]⟩
abbrev S512x3456 : Shape := ⟨2, ![512, 3456]⟩
abbrev S1x1024x3456 : Shape := ⟨3, ![1, 1024, 3456]⟩
abbrev S512x1024 : Shape := ⟨2, ![512, 1024]⟩
abbrev S1024x3456 : Shape := ⟨2, ![1024, 3456]⟩

abbrev nBuf : Space → Nat
  | .hbm => 3
  | .vmem => 5
  | .smem => 0
  | _ => 0

abbrev bufTy : (tb : Table) → Fin (tcTables nBuf tb) → BufTy
  | .hbm, ⟨0, _⟩ => ⟨S8192x3456, .bf16⟩
  | .hbm, ⟨1, _⟩ => ⟨S2x1024x3456, .bf16⟩
  | .hbm, ⟨2, _⟩ => ⟨S8192x1024, .f32⟩
  | .local _ .vmem, ⟨0, _⟩ => ⟨S512x3456, .bf16⟩
  | .local _ .vmem, ⟨1, _⟩ => ⟨S512x3456, .bf16⟩
  | .local _ .vmem, ⟨2, _⟩ => ⟨S1x1024x3456, .bf16⟩
  | .local _ .vmem, ⟨3, _⟩ => ⟨S512x1024, .f32⟩
  | .local _ .vmem, ⟨4, _⟩ => ⟨S512x1024, .f32⟩
  | _, _ => ⟨S8192x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDataReferenceIdeal.lean ====
abbrev S8192x3456 : Shape := ⟨2, ![8192, 3456]⟩
abbrev S2x1024x3456 : Shape := ⟨3, ![2, 1024, 3456]⟩
abbrev S_ : Shape := ⟨0, ![]⟩
abbrev S8192x1024 : Shape := ⟨2, ![8192, 1024]⟩
abbrev S1x1024x3456 : Shape := ⟨3, ![1, 1024, 3456]⟩
abbrev S1024x3456 : Shape := ⟨2, ![1024, 3456]⟩

abbrev nBuf : Space → Nat
  | .hbm => 10
  | .vmem => 0
  | .smem => 0
  | _ => 0

abbrev bufTy : (tb : Table) → Fin (tcTables nBuf tb) → BufTy
  | .hbm, ⟨0, _⟩ => ⟨S8192x3456, .bf16⟩
  | .hbm, ⟨1, _⟩ => ⟨S2x1024x3456, .bf16⟩
  | .hbm, ⟨2, _⟩ => ⟨S_, .f32⟩
  | .hbm, ⟨3, _⟩ => ⟨S8192x1024, .f32⟩
  | .hbm, ⟨4, _⟩ => ⟨S1x1024x3456, .bf16⟩
  | .hbm, ⟨5, _⟩ => ⟨S1024x3456, .bf16⟩
  | .hbm, ⟨6, _⟩ => ⟨S1024x3456, .f32⟩
  | .hbm, ⟨7, _⟩ => ⟨S8192x3456, .f32⟩
  | .hbm, ⟨8, _⟩ => ⟨S8192x3456, .f32⟩
  | .hbm, ⟨9, _⟩ => ⟨S8192x1024, .f32⟩
  | _, _ => ⟨S8192x3456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutData.lean ====
abbrev S8192x1024 : Shape := ⟨2, ![8192, 1024]⟩
abbrev S2x2048x1024 : Shape := ⟨3, ![2, 2048, 1024]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDataIdeal.lean ====
abbrev S8192x1024 : Shape := ⟨2, ![8192, 1024]⟩
abbrev S2x2048x1024 : Shape := ⟨3, ![2, 2048, 1024]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDataReferenceIdeal.lean ====
abbrev S8192x1024 : Shape := ⟨2, ![8192, 1024]⟩
abbrev S2x2048x1024 : Shape := ⟨3, ![2, 2048, 1024]⟩
abbrev S_ : Shape := ⟨0, ![]⟩
abbrev S8192x2048 : Shape := ⟨2, ![8192, 2048]⟩
abbrev S1x2048x1024 : Shape := ⟨3, ![1, 2048, 1024]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x2048x1024, .bf16⟩
  | .hbm, ⟨2, _⟩ => ⟨S_, .f32⟩
  | .hbm, ⟨3, _⟩ => ⟨S8192x2048, .f32⟩
  | .hbm, ⟨4, _⟩ => ⟨S1x2048x1024, .bf16⟩
  | .hbm, ⟨5, _⟩ => ⟨S2048x1024, .bf16⟩
  | .hbm, ⟨6, _⟩ => ⟨S2048x1024, .f32⟩
  | .hbm, ⟨7, _⟩ => ⟨S8192x1024, .f32⟩
  | .hbm, ⟨8, _⟩ => ⟨S8192x1024, .f32⟩
  | .hbm, ⟨9, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S8192x1024 : Shape := ⟨2, ![8192, 1024]⟩
abbrev S2x1024x5632 : Shape := ⟨3, ![2, 1024, 5632]⟩
abbrev S8192x5632 : Shape := ⟨2, ![8192, 5632]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x1024x5632, .bf16⟩
  | .hbm, ⟨2, _⟩ => ⟨S8192x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x512, .bf16⟩
  | .local _ .vmem, ⟨5, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpIdeal.lean ====
abbrev S8192x1024 : Shape := ⟨2, ![8192, 1024]⟩
abbrev S2x1024x5632 : Shape := ⟨3, ![2, 1024, 5632]⟩
abbrev S8192x5632 : Shape := ⟨2, ![8192, 5632]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x1024x5632, .bf16⟩
  | .hbm, ⟨2, _⟩ => ⟨S8192x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x512, .bf16⟩
  | .local _ .vmem, ⟨5, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S8192x1024 : Shape := ⟨2, ![8192, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x5632, .bf16⟩
  | .hbm, ⟨2, _⟩ => ⟨S8192x1024, .f32⟩
  | .hbm, ⟨3, _⟩ => ⟨S1x1024x5632, .bf16⟩
  | .hbm, ⟨4, _⟩ => ⟨S1024x5632, .bf16⟩
  | .hbm, ⟨5, _⟩ => ⟨S1024x5632, .f32⟩
  | .hbm, ⟨6, _⟩ => ⟨S8192x5632, .f32⟩
  | .hbm, ⟨7, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Down.lean ====
abbrev S8192x2816 : Shape := ⟨2, ![8192, 2816]⟩
abbrev S2x2816x1024 : Shape := ⟨3, ![2, 2816, 1024]⟩
abbrev S8192x1024 : Shape := ⟨2, ![8192, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .bf16⟩
  | .hbm, ⟨2, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownIdeal.lean ====
abbrev S8192x2816 : Shape := ⟨2, ![8192, 2816]⟩
abbrev S2x2816x1024 : Shape := ⟨3, ![2, 2816, 1024]⟩
abbrev S8192x1024 : Shape := ⟨2, ![8192, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .bf16⟩
  | .hbm, ⟨2, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S8192x2816 : Shape := ⟨2, ![8192, 2816]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .bf16⟩
  | .hbm, ⟨2, _⟩ => ⟨S8192x2816, .f32⟩
  | .hbm, ⟨3, _⟩ => ⟨S1x2816x1024, .bf16⟩
  | .hbm, ⟨4, _⟩ => ⟨S2816x1024, .bf16⟩
  | .hbm, ⟨5, _⟩ => ⟨S2816x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== In.lean ====
abbrev S8192x1024 : Shape := ⟨2, ![8192, 1024]⟩
abbrev S2x1024x3456 : Shape := ⟨3, ![2, 1024, 3456]⟩
abbrev S8192x3456 : Shape := ⟨2, ![8192, 3456]⟩
abbrev S1024x1024 : Shape := ⟨2, ![1024, 1024]⟩
abbrev S1x1024x1152 : Shape := ⟨3, ![1, 1024, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x1024x3456, .bf16⟩
  | .hbm, ⟨2, _⟩ => ⟨S8192x3456, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1152, .f32⟩
  | .local _ .vmem, ⟨5, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InIdeal.lean ====
abbrev S8192x1024 : Shape := ⟨2, ![8192, 1024]⟩
abbrev S2x1024x3456 : Shape := ⟨3, ![2, 1024, 3456]⟩
abbrev S8192x3456 : Shape := ⟨2, ![8192, 3456]⟩
abbrev S1024x1024 : Shape := ⟨2, ![1024, 1024]⟩
abbrev S1x1024x1152 : Shape := ⟨3, ![1, 1024, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x1024x3456, .bf16⟩
  | .hbm, ⟨2, _⟩ => ⟨S8192x3456, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1152, .f32⟩
  | .local _ .vmem, ⟨5, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S8192x1024 : Shape := ⟨2, ![8192, 1024]⟩
abbrev S2x1024x3456 : Shape := ⟨3, ![2, 1024, 3456]⟩
abbrev S1x1024x3456 : Shape := ⟨3, ![1, 1024, 3456]⟩
abbrev S1024x3456 : Shape := ⟨2, ![1024, 3456]⟩
abbrev S8192x3456 : Shape := ⟨2, ![8192, 3456]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x3456, .bf16⟩
  | .hbm, ⟨2, _⟩ => ⟨S8192x1024, .f32⟩
  | .hbm, ⟨3, _⟩ => ⟨S1x1024x3456, .bf16⟩
  | .hbm, ⟨4, _⟩ => ⟨S1024x3456, .bf16⟩
  | .hbm, ⟨5, _⟩ => ⟨S1024x3456, .f32⟩
  | .hbm, ⟨6, _⟩ => ⟨S8192x3456, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Out.lean ====
abbrev S8192x2048 : Shape := ⟨2, ![8192, 2048]⟩
abbrev S2x2048x1024 : Shape := ⟨3, ![2, 2048, 1024]⟩
abbrev S8192x1024 : Shape := ⟨2, ![8192, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2x2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutIdeal.lean ====
abbrev S8192x2048 : Shape := ⟨2, ![8192, 2048]⟩
abbrev S2x2048x1024 : Shape := ⟨3, ![2, 2048, 1024]⟩
abbrev S8192x1024 : Shape := ⟨2, ![8192, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2x2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutReferenceIdeal.lean ====
abbrev S8192x2048 : Shape := ⟨2, ![8192, 2048]⟩
abbrev S2x2048x1024 : Shape := ⟨3, ![2, 2048, 1024]⟩
abbrev S1x2048x1024 : Shape := ⟨3, ![1, 2048, 1024]⟩
abbrev S2048x1024 : Shape := ⟨2, ![2048, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x1024, .bf16⟩
  | .hbm, ⟨2, _⟩ => ⟨S8192x2048, .f32⟩
  | .hbm, ⟨3, _⟩ => ⟨S1x2048x1024, .bf16⟩
  | .hbm, ⟨4, _⟩ => ⟨S2048x1024, .bf16⟩
  | .hbm, ⟨5, _⟩ => ⟨S2048x1024, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpDataFirst.lean ====
abbrev S8192x2816 : Shape := ⟨2, ![8192, 2816]⟩
abbrev S2x1024x5632 : Shape := ⟨3, ![2, 1024, 5632]⟩
abbrev S8192x1024 : Shape := ⟨2, ![8192, 1024]⟩
abbrev S512x2816 : Shape := ⟨2, ![512, 2816]⟩
abbrev S1x1024x2816 : Shape := ⟨3, ![1, 1024, 2816]⟩
abbrev S512x1024 : Shape := ⟨2, ![512, 1024]⟩
abbrev S1024x2816 : Shape := ⟨2, ![1024, 2816]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2x1024x5632, .bf16⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S512x1024, .f32⟩
  | .local _ .vmem, ⟨7, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .sge arg2 c1_i32
  let c2_i32 : BitVec 32 := 2#32
  let v4 : BitVec 1 := Scalar.cmpi .slt arg2 c2_i32
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDataFirstIdeal.lean ====
abbrev S8192x2816 : Shape := ⟨2, ![8192, 2816]⟩
abbrev S2x1024x5632 : Shape := ⟨3, ![2, 1024, 5632]⟩
abbrev S8192x1024 : Shape := ⟨2, ![8192, 1024]⟩
abbrev S512x2816 : Shape := ⟨2, ![512, 2816]⟩
abbrev S1x1024x2816 : Shape := ⟨3, ![1, 1024, 2816]⟩
abbrev S512x1024 : Shape := ⟨2, ![512, 1024]⟩
abbrev S1024x2816 : Shape := ⟨2, ![1024, 2816]⟩

abbrev nBuf : Space → Nat
  | .hbm => 4
  | .vmem => 8
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2x1024x5632, .bf16⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S512x1024, .f32⟩
  | .local _ .vmem, ⟨7, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 1, 2], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .sge arg2 c1_i32
  let c2_i32 : BitVec 32 := 2#32
  let v4 : BitVec 1 := Scalar.cmpi .slt arg2 c2_i32
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDataFirstReferenceIdeal.lean ====
abbrev S8192x2816 : Shape := ⟨2, ![8192, 2816]⟩
abbrev S2x1024x5632 : Shape := ⟨3, ![2, 1024, 5632]⟩
abbrev S8192x5632 : Shape := ⟨2, ![8192, 5632]⟩
abbrev S_ : Shape := ⟨0, ![]⟩
abbrev S8192x1024 : Shape := ⟨2, ![8192, 1024]⟩
abbrev S1x1024x5632 : Shape := ⟨3, ![1, 1024, 5632]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2x1024x5632, .bf16⟩
  | .hbm, ⟨3, _⟩ => ⟨S8192x5632, .bf16⟩
  | .hbm, ⟨4, _⟩ => ⟨S8192x5632, .f32⟩
  | .hbm, ⟨5, _⟩ => ⟨S_, .f32⟩
  | .hbm, ⟨6, _⟩ => ⟨S8192x1024, .f32⟩
  | .hbm, ⟨7, _⟩ => ⟨S1x1024x5632, .bf16⟩
  | .hbm, ⟨8, _⟩ => ⟨S1024x5632, .bf16⟩
  | .hbm, ⟨9, _⟩ => ⟨S1024x5632, .f32⟩
  | .hbm, ⟨10, _⟩ => ⟨S8192x5632, .f32⟩
  | .hbm, ⟨11, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DownDataFirst.lean ====
abbrev S8192x1024 : Shape := ⟨2, ![8192, 1024]⟩
abbrev S2x2816x1024 : Shape := ⟨3, ![2, 2816, 1024]⟩
abbrev S8192x2816 : Shape := ⟨2, ![8192, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDataFirstIdeal.lean ====
abbrev S8192x1024 : Shape := ⟨2, ![8192, 1024]⟩
abbrev S2x2816x1024 : Shape := ⟨3, ![2, 2816, 1024]⟩
abbrev S8192x2816 : Shape := ⟨2, ![8192, 2816]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDataFirstReferenceIdeal.lean ====
abbrev S8192x1024 : Shape := ⟨2, ![8192, 1024]⟩
abbrev S2x2816x1024 : Shape := ⟨3, ![2, 2816, 1024]⟩
abbrev S_ : Shape := ⟨0, ![]⟩
abbrev S8192x2816 : Shape := ⟨2, ![8192, 2816]⟩
abbrev S1x2816x1024 : Shape := ⟨3, ![1, 2816, 1024]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x2816x1024, .bf16⟩
  | .hbm, ⟨2, _⟩ => ⟨S_, .f32⟩
  | .hbm, ⟨3, _⟩ => ⟨S8192x2816, .f32⟩
  | .hbm, ⟨4, _⟩ => ⟨S1x2816x1024, .bf16⟩
  | .hbm, ⟨5, _⟩ => ⟨S2816x1024, .bf16⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDataFirst.lean ====
abbrev S8192x3456 : Shape := ⟨2, ![8192, 3456]⟩
abbrev S2x1024x3456 : Shape := ⟨3, ![2, 1024, 3456]⟩
abbrev S8192x1024 : Shape := ⟨2, ![8192, 1024]⟩
abbrev S512x3456 : Shape := ⟨2, ![512, 3456]⟩
abbrev S1x1024x3456 : Shape := ⟨3, ![1, 1024, 3456]⟩
abbrev S512x1024 : Shape := ⟨2, ![512, 1024]⟩
abbrev S1024x3456 : Shape := ⟨2, ![1024, 3456]⟩

abbrev nBuf : Space → Nat
  | .hbm => 3
  | .vmem => 5
  | .smem => 0
  | _ => 0

abbrev bufTy : (tb : Table) → Fin (tcTables nBuf tb) → BufTy
  | .hbm, ⟨0, _⟩ => ⟨S8192x3456, .bf16⟩
  | .hbm, ⟨1, _⟩ => ⟨S2x1024x3456, .bf16⟩
  | .hbm, ⟨2, _⟩ => ⟨S8192x1024, .f32⟩
  | .local _ .vmem, ⟨0, _⟩ => ⟨S512x3456, .bf16⟩
  | .local _ .vmem, ⟨1, _⟩ => ⟨S512x3456, .bf16⟩
  | .local _ .vmem, ⟨2, _⟩ => ⟨S1x1024x3456, .bf16⟩
  | .local _ .vmem, ⟨3, _⟩ => ⟨S512x1024, .f32⟩
  | .local _ .vmem, ⟨4, _⟩ => ⟨S512x1024, .f32⟩
  | _, _ => ⟨S8192x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDataFirstIdeal.lean ====
abbrev S8192x3456 : Shape := ⟨2, ![8192, 3456]⟩
abbrev S2x1024x3456 : Shape := ⟨3, ![2, 1024, 3456]⟩
abbrev S8192x1024 : Shape := ⟨2, ![8192, 1024]⟩
abbrev S512x3456 : Shape := ⟨2, ![512, 3456]⟩
abbrev S1x1024x3456 : Shape := ⟨3, ![1, 1024, 3456]⟩
abbrev S512x1024 : Shape := ⟨2, ![512, 1024]⟩
abbrev S1024x3456 : Shape := ⟨2, ![1024, 3456]⟩

abbrev nBuf : Space → Nat
  | .hbm => 3
  | .vmem => 5
  | .smem => 0
  | _ => 0

abbrev bufTy : (tb : Table) → Fin (tcTables nBuf tb) → BufTy
  | .hbm, ⟨0, _⟩ => ⟨S8192x3456, .bf16⟩
  | .hbm, ⟨1, _⟩ => ⟨S2x1024x3456, .bf16⟩
  | .hbm, ⟨2, _⟩ => ⟨S8192x1024, .f32⟩
  | .local _ .vmem, ⟨0, _⟩ => ⟨S512x3456, .bf16⟩
  | .local _ .vmem, ⟨1, _⟩ => ⟨S512x3456, .bf16⟩
  | .local _ .vmem, ⟨2, _⟩ => ⟨S1x1024x3456, .bf16⟩
  | .local _ .vmem, ⟨3, _⟩ => ⟨S512x1024, .f32⟩
  | .local _ .vmem, ⟨4, _⟩ => ⟨S512x1024, .f32⟩
  | _, _ => ⟨S8192x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDataFirstReferenceIdeal.lean ====
abbrev S8192x3456 : Shape := ⟨2, ![8192, 3456]⟩
abbrev S2x1024x3456 : Shape := ⟨3, ![2, 1024, 3456]⟩
abbrev S_ : Shape := ⟨0, ![]⟩
abbrev S8192x1024 : Shape := ⟨2, ![8192, 1024]⟩
abbrev S1x1024x3456 : Shape := ⟨3, ![1, 1024, 3456]⟩
abbrev S1024x3456 : Shape := ⟨2, ![1024, 3456]⟩

abbrev nBuf : Space → Nat
  | .hbm => 10
  | .vmem => 0
  | .smem => 0
  | _ => 0

abbrev bufTy : (tb : Table) → Fin (tcTables nBuf tb) → BufTy
  | .hbm, ⟨0, _⟩ => ⟨S8192x3456, .bf16⟩
  | .hbm, ⟨1, _⟩ => ⟨S2x1024x3456, .bf16⟩
  | .hbm, ⟨2, _⟩ => ⟨S_, .f32⟩
  | .hbm, ⟨3, _⟩ => ⟨S8192x1024, .f32⟩
  | .hbm, ⟨4, _⟩ => ⟨S1x1024x3456, .bf16⟩
  | .hbm, ⟨5, _⟩ => ⟨S1024x3456, .bf16⟩
  | .hbm, ⟨6, _⟩ => ⟨S1024x3456, .f32⟩
  | .hbm, ⟨7, _⟩ => ⟨S8192x3456, .f32⟩
  | .hbm, ⟨8, _⟩ => ⟨S8192x3456, .f32⟩
  | .hbm, ⟨9, _⟩ => ⟨S8192x1024, .f32⟩
  | _, _ => ⟨S8192x3456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDataFirst.lean ====
abbrev S8192x1024 : Shape := ⟨2, ![8192, 1024]⟩
abbrev S2x2048x1024 : Shape := ⟨3, ![2, 2048, 1024]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDataFirstIdeal.lean ====
abbrev S8192x1024 : Shape := ⟨2, ![8192, 1024]⟩
abbrev S2x2048x1024 : Shape := ⟨3, ![2, 2048, 1024]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDataFirstReferenceIdeal.lean ====
abbrev S8192x1024 : Shape := ⟨2, ![8192, 1024]⟩
abbrev S2x2048x1024 : Shape := ⟨3, ![2, 2048, 1024]⟩
abbrev S_ : Shape := ⟨0, ![]⟩
abbrev S8192x2048 : Shape := ⟨2, ![8192, 2048]⟩
abbrev S1x2048x1024 : Shape := ⟨3, ![1, 2048, 1024]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x2048x1024, .bf16⟩
  | .hbm, ⟨2, _⟩ => ⟨S_, .f32⟩
  | .hbm, ⟨3, _⟩ => ⟨S8192x2048, .f32⟩
  | .hbm, ⟨4, _⟩ => ⟨S1x2048x1024, .bf16⟩
  | .hbm, ⟨5, _⟩ => ⟨S2048x1024, .bf16⟩
  | .hbm, ⟨6, _⟩ => ⟨S2048x1024, .f32⟩
  | .hbm, ⟨7, _⟩ => ⟨S8192x1024, .f32⟩
  | .hbm, ⟨8, _⟩ => ⟨S8192x1024, .f32⟩
  | .hbm, ⟨9, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpFirst.lean ====
abbrev S8192x1024 : Shape := ⟨2, ![8192, 1024]⟩
abbrev S2x1024x5632 : Shape := ⟨3, ![2, 1024, 5632]⟩
abbrev S8192x5632 : Shape := ⟨2, ![8192, 5632]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x1024x5632, .bf16⟩
  | .hbm, ⟨2, _⟩ => ⟨S8192x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x512, .bf16⟩
  | .local _ .vmem, ⟨5, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFirstIdeal.lean ====
abbrev S8192x1024 : Shape := ⟨2, ![8192, 1024]⟩
abbrev S2x1024x5632 : Shape := ⟨3, ![2, 1024, 5632]⟩
abbrev S8192x5632 : Shape := ⟨2, ![8192, 5632]⟩
abbrev S2048x1024 : Shape := ⟨2, ![2048, 1024]⟩
abbrev S1x1024x512 : Shape := ⟨3, ![1, 1024, 512]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x1024x5632, .bf16⟩
  | .hbm, ⟨2, _⟩ => ⟨S8192x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S2048x512, .bf16⟩
  | .local _ .vmem, ⟨5, _⟩ => ⟨S2048x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFirstReferenceIdeal.lean ====
abbrev S8192x1024 : Shape := ⟨2, ![8192, 1024]⟩
abbrev S2x1024x5632 : Shape := ⟨3, ![2, 1024, 5632]⟩
abbrev S1x1024x5632 : Shape := ⟨3, ![1, 1024, 5632]⟩
abbrev S1024x5632 : Shape := ⟨2, ![1024, 5632]⟩
abbrev S8192x5632 : Shape := ⟨2, ![8192, 5632]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x5632, .bf16⟩
  | .hbm, ⟨2, _⟩ => ⟨S8192x1024, .f32⟩
  | .hbm, ⟨3, _⟩ => ⟨S1x1024x5632, .bf16⟩
  | .hbm, ⟨4, _⟩ => ⟨S1024x5632, .bf16⟩
  | .hbm, ⟨5, _⟩ => ⟨S1024x5632, .f32⟩
  | .hbm, ⟨6, _⟩ => ⟨S8192x5632, .f32⟩
  | .hbm, ⟨7, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DownFirst.lean ====
abbrev S8192x2816 : Shape := ⟨2, ![8192, 2816]⟩
abbrev S2x2816x1024 : Shape := ⟨3, ![2, 2816, 1024]⟩
abbrev S8192x1024 : Shape := ⟨2, ![8192, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .bf16⟩
  | .hbm, ⟨2, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFirstIdeal.lean ====
abbrev S8192x2816 : Shape := ⟨2, ![8192, 2816]⟩
abbrev S2x2816x1024 : Shape := ⟨3, ![2, 2816, 1024]⟩
abbrev S8192x1024 : Shape := ⟨2, ![8192, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .bf16⟩
  | .hbm, ⟨2, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownFirstReferenceIdeal.lean ====
abbrev S8192x2816 : Shape := ⟨2, ![8192, 2816]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2x2816x1024, .bf16⟩
  | .hbm, ⟨2, _⟩ => ⟨S8192x2816, .f32⟩
  | .hbm, ⟨3, _⟩ => ⟨S1x2816x1024, .bf16⟩
  | .hbm, ⟨4, _⟩ => ⟨S2816x1024, .bf16⟩
  | .hbm, ⟨5, _⟩ => ⟨S2816x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InFirst.lean ====
abbrev S8192x1024 : Shape := ⟨2, ![8192, 1024]⟩
abbrev S2x1024x3456 : Shape := ⟨3, ![2, 1024, 3456]⟩
abbrev S8192x3456 : Shape := ⟨2, ![8192, 3456]⟩
abbrev S1024x1024 : Shape := ⟨2, ![1024, 1024]⟩
abbrev S1x1024x1152 : Shape := ⟨3, ![1, 1024, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x1024x3456, .bf16⟩
  | .hbm, ⟨2, _⟩ => ⟨S8192x3456, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1152, .f32⟩
  | .local _ .vmem, ⟨5, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFirstIdeal.lean ====
abbrev S8192x1024 : Shape := ⟨2, ![8192, 1024]⟩
abbrev S2x1024x3456 : Shape := ⟨3, ![2, 1024, 3456]⟩
abbrev S8192x3456 : Shape := ⟨2, ![8192, 3456]⟩
abbrev S1024x1024 : Shape := ⟨2, ![1024, 1024]⟩
abbrev S1x1024x1152 : Shape := ⟨3, ![1, 1024, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x1024x3456, .bf16⟩
  | .hbm, ⟨2, _⟩ => ⟨S8192x3456, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1152, .bf16⟩
  | .local _ .vmem, ⟨3, _⟩ => ⟨S1x1024x1152, .bf16⟩
  | .local _ .vmem, ⟨4, _⟩ => ⟨S1024x1152, .f32⟩
  | .local _ .vmem, ⟨5, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFirstReferenceIdeal.lean ====
abbrev S8192x1024 : Shape := ⟨2, ![8192, 1024]⟩
abbrev S2x1024x3456 : Shape := ⟨3, ![2, 1024, 3456]⟩
abbrev S1x1024x3456 : Shape := ⟨3, ![1, 1024, 3456]⟩
abbrev S1024x3456 : Shape := ⟨2, ![1024, 3456]⟩
abbrev S8192x3456 : Shape := ⟨2, ![8192, 3456]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x3456, .bf16⟩
  | .hbm, ⟨2, _⟩ => ⟨S8192x1024, .f32⟩
  | .hbm, ⟨3, _⟩ => ⟨S1x1024x3456, .bf16⟩
  | .hbm, ⟨4, _⟩ => ⟨S1024x3456, .bf16⟩
  | .hbm, ⟨5, _⟩ => ⟨S1024x3456, .f32⟩
  | .hbm, ⟨6, _⟩ => ⟨S8192x3456, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutFirst.lean ====
abbrev S8192x2048 : Shape := ⟨2, ![8192, 2048]⟩
abbrev S2x2048x1024 : Shape := ⟨3, ![2, 2048, 1024]⟩
abbrev S8192x1024 : Shape := ⟨2, ![8192, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2x2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFirstIdeal.lean ====
abbrev S8192x2048 : Shape := ⟨2, ![8192, 2048]⟩
abbrev S2x2048x1024 : Shape := ⟨3, ![2, 2048, 1024]⟩
abbrev S8192x1024 : Shape := ⟨2, ![8192, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2x2048x1024, .bf16⟩
  | .hbm, ⟨2, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1024x1024, .f32⟩
  | .local _ .vmem, ⟨4, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutFirstReferenceIdeal.lean ====
abbrev S8192x2048 : Shape := ⟨2, ![8192, 2048]⟩
abbrev S2x2048x1024 : Shape := ⟨3, ![2, 2048, 1024]⟩
abbrev S1x2048x1024 : Shape := ⟨3, ![1, 2048, 1024]⟩
abbrev S2048x1024 : Shape := ⟨2, ![2048, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x1024, .bf16⟩
  | .hbm, ⟨2, _⟩ => ⟨S8192x2048, .f32⟩
  | .hbm, ⟨3, _⟩ => ⟨S1x2048x1024, .bf16⟩
  | .hbm, ⟨4, _⟩ => ⟨S2048x1024, .bf16⟩
  | .hbm, ⟨5, _⟩ => ⟨S2048x1024, .f32⟩
  | .hbm, ⟨6, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpWeight.lean ====
abbrev S8192x1024 : Shape := ⟨2, ![8192, 1024]⟩
abbrev S8192x2816 : Shape := ⟨2, ![8192, 2816]⟩
abbrev S1024x2816 : Shape := ⟨2, ![1024, 2816]⟩
abbrev S8192x512 : Shape := ⟨2, ![8192, 512]⟩
abbrev S8192x256 : Shape := ⟨2, ![8192, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .bf16⟩
  | .local _ .vmem, ⟨0, _⟩ => ⟨S8192x512, .bf16⟩
  | .local _ .vmem, ⟨1, _⟩ => ⟨S8192x512, .bf16⟩
  | .local _ .vmem, ⟨2, _⟩ => ⟨S8192x256, .bf16⟩
  | .local _ .vmem, ⟨3, _⟩ => ⟨S8192x256, .bf16⟩
  | .local _ .vmem, ⟨4, _⟩ => ⟨S512x256, .bf16⟩
  | .local _ .vmem, ⟨5, _⟩ => ⟨S512x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWeightIdeal.lean ====
abbrev S8192x1024 : Shape := ⟨2, ![8192, 1024]⟩
abbrev S8192x2816 : Shape := ⟨2, ![8192, 2816]⟩
abbrev S1024x2816 : Shape := ⟨2, ![1024, 2816]⟩
abbrev S8192x512 : Shape := ⟨2, ![8192, 512]⟩
abbrev S8192x256 : Shape := ⟨2, ![8192, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .bf16⟩
  | .local _ .vmem, ⟨0, _⟩ => ⟨S8192x512, .bf16⟩
  | .local _ .vmem, ⟨1, _⟩ => ⟨S8192x512, .bf16⟩
  | .local _ .vmem, ⟨2, _⟩ => ⟨S8192x256, .bf16⟩
  | .local _ .vmem, ⟨3, _⟩ => ⟨S8192x256, .bf16⟩
  | .local _ .vmem, ⟨4, _⟩ => ⟨S512x256, .bf16⟩
  | .local _ .vmem, ⟨5, _⟩ => ⟨S512x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpWeightReferenceIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownWeight.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWeightIdeal.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v8 : BitVec 1 := Scalar.cmpi .eq arg2 c7_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownWeightReferenceIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InWeight.lean ====
abbrev S8192x1024 : Shape := ⟨2, ![8192, 1024]⟩
abbrev S8192x3456 : Shape := ⟨2, ![8192, 3456]⟩
abbrev S1024x3456 : Shape := ⟨2, ![1024, 3456]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3456, .bf16⟩
  | .hbm, ⟨2, _⟩ => ⟨S1024x3456, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightIdeal.lean ====
abbrev S8192x1024 : Shape := ⟨2, ![8192, 1024]⟩
abbrev S8192x3456 : Shape := ⟨2, ![8192, 3456]⟩
abbrev S1024x3456 : Shape := ⟨2, ![1024, 3456]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3456, .bf16⟩
  | .hbm, ⟨2, _⟩ => ⟨S1024x3456, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightReferenceIdeal.lean ====
abbrev S8192x1024 : Shape := ⟨2, ![8192, 1024]⟩
abbrev S8192x3456 : Shape := ⟨2, ![8192, 3456]⟩
abbrev S_ : Shape := ⟨0, ![]⟩
abbrev S1024x3456 : Shape := ⟨2, ![1024, 3456]⟩
abbrev S3456x1024 : Shape := ⟨2, ![3456, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3456, .bf16⟩
  | .hbm, ⟨2, _⟩ => ⟨S_, .f32⟩
  | .hbm, ⟨3, _⟩ => ⟨S1024x3456, .f32⟩
  | .hbm, ⟨4, _⟩ => ⟨S8192x1024, .f32⟩
  | .hbm, ⟨5, _⟩ => ⟨S8192x3456, .f32⟩
  | .hbm, ⟨6, _⟩ => ⟨S8192x3456, .f32⟩
  | .hbm, ⟨7, _⟩ => ⟨S3456x1024, .f32⟩
  | .hbm, ⟨8, _⟩ => ⟨S1024x3456, .f32⟩
  | .hbm, ⟨9, _⟩ => ⟨S1024x3456, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutWeight.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWeightIdeal.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v8 : BitVec 1 := Scalar.cmpi .eq arg2 c3_i32
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWeightReferenceIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdaStep.lean ====
abbrev S2x1024x1536 : Shape := ⟨3, ![2, 1024, 1536]⟩
abbrev S2048x1536 : Shape := ⟨2, ![2048, 1536]⟩
abbrev S256x1536 : Shape := ⟨2, ![256, 1536]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdaStepIdeal.lean ====
abbrev S2x1024x1536 : Shape := ⟨3, ![2, 1024, 1536]⟩
abbrev S2048x1536 : Shape := ⟨2, ![2048, 1536]⟩
abbrev S256x1536 : Shape := ⟨2, ![256, 1536]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .hbm, ⟨8, _⟩ => ⟨S2048x1536, .f32⟩
  | .hbm, ⟨9, _⟩ => ⟨S2048x1536, .f32⟩
  | .hbm, ⟨10, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "mean" => some (((5463681 / 8388608)⁻¹ : ℝ) : EReal)
  | "square" => some (((2672307 / 268435456)⁻¹ : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdaStepReferenceIdeal.lean ====
abbrev S2x1024x1536 : Shape := ⟨3, ![2, 1024, 1536]⟩
abbrev S_ : Shape := ⟨0, ![]⟩
abbrev S2048x1536 : Shape := ⟨2, ![2048, 1536]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1536, .f32⟩
  | .hbm, ⟨1, _⟩ => ⟨S2x1024x1536, .f32⟩
  | .hbm, ⟨2, _⟩ => ⟨S2x1024x1536, .f32⟩
  | .hbm, ⟨3, _⟩ => ⟨S2x1024x1536, .f32⟩
  | .hbm, ⟨4, _⟩ => ⟨S_, .f32⟩
  | .hbm, ⟨5, _⟩ => ⟨S2x1024x1536, .f32⟩
  | .hbm, ⟨6, _⟩ => ⟨S2x1024x1536, .f32⟩
  | .hbm, ⟨7, _⟩ => ⟨S_, .f32⟩
  | .hbm, ⟨8, _⟩ => ⟨S2x1024x1536, .f32⟩
  | .hbm, ⟨9, _⟩ => ⟨S2x1024x1536, .f32⟩
  | .hbm, ⟨10, _⟩ => ⟨S2x1024x1536, .f32⟩
  | .hbm, ⟨11, _⟩ => ⟨S_, .f32⟩
  | .hbm, ⟨12, _⟩ => ⟨S2x1024x1536, .f32⟩
  | .hbm, ⟨13, _⟩ => ⟨S2x1024x1536, .f32⟩
  | .hbm, ⟨14, _⟩ => ⟨S2x1024x1536, .f32⟩
  | .hbm, ⟨15, _⟩ => ⟨S_, .f32⟩
  | .hbm, ⟨16, _⟩ => ⟨S2x1024x1536, .f32⟩
  | .hbm, ⟨17, _⟩ => ⟨S2x1024x1536, .f32⟩
  | .hbm, ⟨18, _⟩ => ⟨S2x1024x1536, .f32⟩
  | .hbm, ⟨19, _⟩ => ⟨S_, .f32⟩
  | .hbm, ⟨20, _⟩ => ⟨S2x1024x1536, .f32⟩
  | .hbm, ⟨21, _⟩ => ⟨S2x1024x1536, .f32⟩
  | .hbm, ⟨22, _⟩ => ⟨S_, .f32⟩
  | .hbm, ⟨23, _⟩ => ⟨S2x1024x1536, .f32⟩
  | .hbm, ⟨24, _⟩ => ⟨S2x1024x1536, .f32⟩
  | .hbm, ⟨25, _⟩ => ⟨S2x1024x1536, .f32⟩
  | .hbm, ⟨26, _⟩ => ⟨S_, .f32⟩
  | .hbm, ⟨27, _⟩ => ⟨S2x1024x1536, .f32⟩
  | .hbm, ⟨28, _⟩ => ⟨S2x1024x1536, .f32⟩
  | .hbm, ⟨29, _⟩ => ⟨S2x1024x1536, .f32⟩
  | .hbm, ⟨30, _⟩ => ⟨S_, .f32⟩
  | .hbm, ⟨31, _⟩ => ⟨S2x1024x1536, .f32⟩
  | .hbm, ⟨32, _⟩ => ⟨S2x1024x1536, .f32⟩
  | .hbm, ⟨33, _⟩ => ⟨S2x1024x1536, .f32⟩
  | .hbm, ⟨34, _⟩ => ⟨S_, .f32⟩
  | .hbm, ⟨35, _⟩ => ⟨S2x1024x1536, .f32⟩
  | .hbm, ⟨36, _⟩ => ⟨S2x1024x1536, .f32⟩
  | .hbm, ⟨37, _⟩ => ⟨S2048x1536, .f32⟩
  | .hbm, ⟨38, _⟩ => ⟨S2048x1536, .f32⟩
  | .hbm, ⟨39, _⟩ => ⟨S2048x1536, .f32⟩
  | _, _ => ⟨S2x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== InStep.lean ====
abbrev S2x1024x820 : Shape := ⟨3, ![2, 1024, 820]⟩
abbrev S2048x820 : Shape := ⟨2, ![2048, 820]⟩
abbrev S256x820 : Shape := ⟨2, ![256, 820]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x820, .f32⟩
  | .hbm, ⟨1, _⟩ => ⟨S2x1024x820, .f32⟩
  | .hbm, ⟨2, _⟩ => ⟨S2x1024x820, .f32⟩
  | .hbm, ⟨3, _⟩ => ⟨S2x1024x820, .f32⟩
  | .hbm, ⟨4, _⟩ => ⟨S2048x820, .f32⟩
  | .hbm, ⟨5, _⟩ => ⟨S2048x820, .f32⟩
  | .hbm, ⟨6, _⟩ => ⟨S2048x820, .f32⟩
  | .hbm, ⟨7, _⟩ => ⟨S2048x820, .f32⟩
  | .hbm, ⟨8, _⟩ => ⟨S2048x820, .f32⟩
  | .hbm, ⟨9, _⟩ => ⟨S2048x820, .f32⟩
  | .hbm, ⟨10, _⟩ => ⟨S2048x820, .f32⟩
  | .local _ .vmem, ⟨0, _⟩ => ⟨S256x820, .f32⟩
  | .local _ .vmem, ⟨1, _⟩ => ⟨S256x820, .f32⟩
  | .local _ .vmem, ⟨2, _⟩ => ⟨S256x820, .f32⟩
  | .local _ .vmem, ⟨3, _⟩ => ⟨S256x820, .f32⟩
  | .local _ .vmem, ⟨4, _⟩ => ⟨S256x820, .f32⟩
  | .local _ .vmem, ⟨5, _⟩ => ⟨S256x820, .f32⟩
  | .local _ .vmem, ⟨6, _⟩ => ⟨S256x820, .f32⟩
  | .local _ .vmem, ⟨7, _⟩ => ⟨S256x820, .f32⟩
  | .local _ .vmem, ⟨8, _⟩ => ⟨S256x820, .f32⟩
  | .local _ .vmem, ⟨9, _⟩ => ⟨S256x820, .f32⟩
  | .local _ .vmem, ⟨10, _⟩ => ⟨S256x820, .f32⟩
  | .local _ .vmem, ⟨11, _⟩ => ⟨S256x820, .f32⟩
  | .local _ .vmem, ⟨12, _⟩ => ⟨S256x820, .f32⟩
  | .local _ .vmem, ⟨13, _⟩ => ⟨S256x820, .f32⟩
  | _, _ => ⟨S2x1024x820, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x820 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x820 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x820 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x820 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x820 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x820 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x820 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InStepIdeal.lean ====
abbrev S2x1024x820 : Shape := ⟨3, ![2, 1024, 820]⟩
abbrev S2048x820 : Shape := ⟨2, ![2048, 820]⟩
abbrev S256x820 : Shape := ⟨2, ![256, 820]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x820, .f32⟩
  | .hbm, ⟨1, _⟩ => ⟨S2x1024x820, .f32⟩
  | .hbm, ⟨2, _⟩ => ⟨S2x1024x820, .f32⟩
  | .hbm, ⟨3, _⟩ => ⟨S2x1024x820, .f32⟩
  | .hbm, ⟨4, _⟩ => ⟨S2048x820, .f32⟩
  | .hbm, ⟨5, _⟩ => ⟨S2048x820, .f32⟩
  | .hbm, ⟨6, _⟩ => ⟨S2048x820, .f32⟩
  | .hbm, ⟨7, _⟩ => ⟨S2048x820, .f32⟩
  | .hbm, ⟨8, _⟩ => ⟨S2048x820, .f32⟩
  | .hbm, ⟨9, _⟩ => ⟨S2048x820, .f32⟩
  | .hbm, ⟨10, _⟩ => ⟨S2048x820, .f32⟩
  | .local _ .vmem, ⟨0, _⟩ => ⟨S256x820, .f32⟩
  | .local _ .vmem, ⟨1, _⟩ => ⟨S256x820, .f32⟩
  | .local _ .vmem, ⟨2, _⟩ => ⟨S256x820, .f32⟩
  | .local _ .vmem, ⟨3, _⟩ => ⟨S256x820, .f32⟩
  | .local _ .vmem, ⟨4, _⟩ => ⟨S256x820, .f32⟩
  | .local _ .vmem, ⟨5, _⟩ => ⟨S256x820, .f32⟩
  | .local _ .vmem, ⟨6, _⟩ => ⟨S256x820, .f32⟩
  | .local _ .vmem, ⟨7, _⟩ => ⟨S256x820, .f32⟩
  | .local _ .vmem, ⟨8, _⟩ => ⟨S256x820, .f32⟩
  | .local _ .vmem, ⟨9, _⟩ => ⟨S256x820, .f32⟩
  | .local _ .vmem, ⟨10, _⟩ => ⟨S256x820, .f32⟩
  | .local _ .vmem, ⟨11, _⟩ => ⟨S256x820, .f32⟩
  | .local _ .vmem, ⟨12, _⟩ => ⟨S256x820, .f32⟩
  | .local _ .vmem, ⟨13, _⟩ => ⟨S256x820, .f32⟩
  | _, _ => ⟨S2x1024x820, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "mean" => some (((5463681 / 8388608)⁻¹ : ℝ) : EReal)
  | "square" => some (((2672307 / 268435456)⁻¹ : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x820 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x820 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x820 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x820 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x820 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x820 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x820 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InStepReferenceIdeal.lean ====
abbrev S2x1024x820 : Shape := ⟨3, ![2, 1024, 820]⟩
abbrev S_ : Shape := ⟨0, ![]⟩
abbrev S2048x820 : Shape := ⟨2, ![2048, 820]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x820, .f32⟩
  | .hbm, ⟨1, _⟩ => ⟨S2x1024x820, .f32⟩
  | .hbm, ⟨2, _⟩ => ⟨S2x1024x820, .f32⟩
  | .hbm, ⟨3, _⟩ => ⟨S2x1024x820, .f32⟩
  | .hbm, ⟨4, _⟩ => ⟨S_, .f32⟩
  | .hbm, ⟨5, _⟩ => ⟨S2x1024x820, .f32⟩
  | .hbm, ⟨6, _⟩ => ⟨S2x1024x820, .f32⟩
  | .hbm, ⟨7, _⟩ => ⟨S_, .f32⟩
  | .hbm, ⟨8, _⟩ => ⟨S2x1024x820, .f32⟩
  | .hbm, ⟨9, _⟩ => ⟨S2x1024x820, .f32⟩
  | .hbm, ⟨10, _⟩ => ⟨S2x1024x820, .f32⟩
  | .hbm, ⟨11, _⟩ => ⟨S_, .f32⟩
  | .hbm, ⟨12, _⟩ => ⟨S2x1024x820, .f32⟩
  | .hbm, ⟨13, _⟩ => ⟨S2x1024x820, .f32⟩
  | .hbm, ⟨14, _⟩ => ⟨S2x1024x820, .f32⟩
  | .hbm, ⟨15, _⟩ => ⟨S_, .f32⟩
  | .hbm, ⟨16, _⟩ => ⟨S2x1024x820, .f32⟩
  | .hbm, ⟨17, _⟩ => ⟨S2x1024x820, .f32⟩
  | .hbm, ⟨18, _⟩ => ⟨S2x1024x820, .f32⟩
  | .hbm, ⟨19, _⟩ => ⟨S_, .f32⟩
  | .hbm, ⟨20, _⟩ => ⟨S2x1024x820, .f32⟩
  | .hbm, ⟨21, _⟩ => ⟨S2x1024x820, .f32⟩
  | .hbm, ⟨22, _⟩ => ⟨S_, .f32⟩
  | .hbm, ⟨23, _⟩ => ⟨S2x1024x820, .f32⟩
  | .hbm, ⟨24, _⟩ => ⟨S2x1024x820, .f32⟩
  | .hbm, ⟨25, _⟩ => ⟨S2x1024x820, .f32⟩
  | .hbm, ⟨26, _⟩ => ⟨S_, .f32⟩
  | .hbm, ⟨27, _⟩ => ⟨S2x1024x820, .f32⟩
  | .hbm, ⟨28, _⟩ => ⟨S2x1024x820, .f32⟩
  | .hbm, ⟨29, _⟩ => ⟨S2x1024x820, .f32⟩
  | .hbm, ⟨30, _⟩ => ⟨S_, .f32⟩
  | .hbm, ⟨31, _⟩ => ⟨S2x1024x820, .f32⟩
  | .hbm, ⟨32, _⟩ => ⟨S2x1024x820, .f32⟩
  | .hbm, ⟨33, _⟩ => ⟨S2x1024x820, .f32⟩
  | .hbm, ⟨34, _⟩ => ⟨S_, .f32⟩
  | .hbm, ⟨35, _⟩ => ⟨S2x1024x820, .f32⟩
  | .hbm, ⟨36, _⟩ => ⟨S2x1024x820, .f32⟩
  | .hbm, ⟨37, _⟩ => ⟨S2048x820, .f32⟩
  | .hbm, ⟨38, _⟩ => ⟨S2048x820, .f32⟩
  | .hbm, ⟨39, _⟩ => ⟨S2048x820, .f32⟩
  | _, _ => ⟨S2x1024x820, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== ConvStep.lean ====
abbrev S2x4x384 : Shape := ⟨3, ![2, 4, 384]⟩
abbrev S8x384 : Shape := ⟨2, ![8, 384]⟩

abbrev nBuf : Space → Nat
  | .hbm => 11
  | .vmem => 7
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S2x4x384, .f32⟩
  | .hbm, ⟨4, _⟩ => ⟨S8x384, .f32⟩
  | .hbm, ⟨5, _⟩ => ⟨S8x384, .f32⟩
  | .hbm, ⟨6, _⟩ => ⟨S8x384, .f32⟩
  | .hbm, ⟨7, _⟩ => ⟨S8x384, .f32⟩
  | .hbm, ⟨8, _⟩ => ⟨S8x384, .f32⟩
  | .hbm, ⟨9, _⟩ => ⟨S8x384, .f32⟩
  | .hbm, ⟨10, _⟩ => ⟨S8x384, .f32⟩
  | .local _ .vmem, ⟨0, _⟩ => ⟨S8x384, .f32⟩
  | .local _ .vmem, ⟨1, _⟩ => ⟨S8x384, .f32⟩
  | .local _ .vmem, ⟨2, _⟩ => ⟨S8x384, .f32⟩
  | .local _ .vmem, ⟨3, _⟩ => ⟨S8x384, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ConvStepIdeal.lean ====
abbrev S2x4x384 : Shape := ⟨3, ![2, 4, 384]⟩
abbrev S8x384 : Shape := ⟨2, ![8, 384]⟩

abbrev nBuf : Space → Nat
  | .hbm => 11
  | .vmem => 7
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S2x4x384, .f32⟩
  | .hbm, ⟨4, _⟩ => ⟨S8x384, .f32⟩
  | .hbm, ⟨5, _⟩ => ⟨S8x384, .f32⟩
  | .hbm, ⟨6, _⟩ => ⟨S8x384, .f32⟩
  | .hbm, ⟨7, _⟩ => ⟨S8x384, .f32⟩
  | .hbm, ⟨8, _⟩ => ⟨S8x384, .f32⟩
  | .hbm, ⟨9, _⟩ => ⟨S8x384, .f32⟩
  | .hbm, ⟨10, _⟩ => ⟨S8x384, .f32⟩
  | .local _ .vmem, ⟨0, _⟩ => ⟨S8x384, .f32⟩
  | .local _ .vmem, ⟨1, _⟩ => ⟨S8x384, .f32⟩
  | .local _ .vmem, ⟨2, _⟩ => ⟨S8x384, .f32⟩
  | .local _ .vmem, ⟨3, _⟩ => ⟨S8x384, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "mean" => some (((5463681 / 8388608)⁻¹ : ℝ) : EReal)
  | "square" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ConvStepReferenceIdeal.lean ====
abbrev S2x4x384 : Shape := ⟨3, ![2, 4, 384]⟩
abbrev S_ : Shape := ⟨0, ![]⟩
abbrev S8x384 : Shape := ⟨2, ![8, 384]⟩

abbrev nBuf : Space → Nat
  | .hbm => 40
  | .vmem => 0
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S2x4x384, .f32⟩
  | .hbm, ⟨4, _⟩ => ⟨S_, .f32⟩
  | .hbm, ⟨5, _⟩ => ⟨S2x4x384, .f32⟩
  | .hbm, ⟨6, _⟩ => ⟨S2x4x384, .f32⟩
  | .hbm, ⟨7, _⟩ => ⟨S_, .f32⟩
  | .hbm, ⟨8, _⟩ => ⟨S2x4x384, .f32⟩
  | .hbm, ⟨9, _⟩ => ⟨S2x4x384, .f32⟩
  | .hbm, ⟨10, _⟩ => ⟨S2x4x384, .f32⟩
  | .hbm, ⟨11, _⟩ => ⟨S_, .f32⟩
  | .hbm, ⟨12, _⟩ => ⟨S2x4x384, .f32⟩
  | .hbm, ⟨13, _⟩ => ⟨S2x4x384, .f32⟩
  | .hbm, ⟨14, _⟩ => ⟨S2x4x384, .f32⟩
  | .hbm, ⟨15, _⟩ => ⟨S_, .f32⟩
  | .hbm, ⟨16, _⟩ => ⟨S2x4x384, .f32⟩
  | .hbm, ⟨17, _⟩ => ⟨S2x4x384, .f32⟩
  | .hbm, ⟨18, _⟩ => ⟨S2x4x384, .f32⟩
  | .hbm, ⟨19, _⟩ => ⟨S_, .f32⟩
  | .hbm, ⟨20, _⟩ => ⟨S2x4x384, .f32⟩
  | .hbm, ⟨21, _⟩ => ⟨S2x4x384, .f32⟩
  | .hbm, ⟨22, _⟩ => ⟨S_, .f32⟩
  | .hbm, ⟨23, _⟩ => ⟨S2x4x384, .f32⟩
  | .hbm, ⟨24, _⟩ => ⟨S2x4x384, .f32⟩
  | .hbm, ⟨25, _⟩ => ⟨S2x4x384, .f32⟩
  | .hbm, ⟨26, _⟩ => ⟨S_, .f32⟩
  | .hbm, ⟨27, _⟩ => ⟨S2x4x384, .f32⟩
  | .hbm, ⟨28, _⟩ => ⟨S2x4x384, .f32⟩
  | .hbm, ⟨29, _⟩ => ⟨S2x4x384, .f32⟩
  | .hbm, ⟨30, _⟩ => ⟨S_, .f32⟩
  | .hbm, ⟨31, _⟩ => ⟨S2x4x384, .f32⟩
  | .hbm, ⟨32, _⟩ => ⟨S2x4x384, .f32⟩
  | .hbm, ⟨33, _⟩ => ⟨S2x4x384, .f32⟩
  | .hbm, ⟨34, _⟩ => ⟨S_, .f32⟩
  | .hbm, ⟨35, _⟩ => ⟨S2x4x384, .f32⟩
  | .hbm, ⟨36, _⟩ => ⟨S2x4x384, .f32⟩
  | .hbm, ⟨37, _⟩ => ⟨S8x384, .f32⟩
  | .hbm, ⟨38, _⟩ => ⟨S8x384, .f32⟩
  | .hbm, ⟨39, _⟩ => ⟨S8x384, .f32⟩
  | _, _ => ⟨S2x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== QueryStep.lean ====
abbrev S2x384x384 : Shape := ⟨3, ![2, 384, 384]⟩
abbrev S768x384 : Shape := ⟨2, ![768, 384]⟩
abbrev S256x384 : Shape := ⟨2, ![256, 384]⟩

abbrev nBuf : Space → Nat
  | .hbm => 11
  | .vmem => 14
  | .smem => 0
  | _ => 0

abbrev bufTy : (tb : Table) → Fin (tcTables nBuf tb) → BufTy
  | .hbm, ⟨0, _⟩ => ⟨S2x384x384, .f32⟩
  | .hbm, ⟨1, _⟩ => ⟨S2x384x384, .f32⟩
  | .hbm, ⟨2, _⟩ => ⟨S2x384x384, .f32⟩
  | .hbm, ⟨3, _⟩ => ⟨S2x384x384, .f32⟩
  | .hbm, ⟨4, _⟩ => ⟨S768x384, .f32⟩
  | .hbm, ⟨5, _⟩ => ⟨S768x384, .f32⟩
  | .hbm, ⟨6, _⟩ => ⟨S768x384, .f32⟩
  | .hbm, ⟨7, _⟩ => ⟨S768x384, .f32⟩
  | .hbm, ⟨8, _⟩ => ⟨S768x384, .f32⟩
  | .hbm, ⟨9, _⟩ => ⟨S768x384, .f32⟩
  | .hbm, ⟨10, _⟩ => ⟨S768x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | _, _ => ⟨S2x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QueryStepIdeal.lean ====
abbrev S2x384x384 : Shape := ⟨3, ![2, 384, 384]⟩
abbrev S768x384 : Shape := ⟨2, ![768, 384]⟩
abbrev S256x384 : Shape := ⟨2, ![256, 384]⟩

abbrev nBuf : Space → Nat
  | .hbm => 11
  | .vmem => 14
  | .smem => 0
  | _ => 0

abbrev bufTy : (tb : Table) → Fin (tcTables nBuf tb) → BufTy
  | .hbm, ⟨0, _⟩ => ⟨S2x384x384, .f32⟩
  | .hbm, ⟨1, _⟩ => ⟨S2x384x384, .f32⟩
  | .hbm, ⟨2, _⟩ => ⟨S2x384x384, .f32⟩
  | .hbm, ⟨3, _⟩ => ⟨S2x384x384, .f32⟩
  | .hbm, ⟨4, _⟩ => ⟨S768x384, .f32⟩
  | .hbm, ⟨5, _⟩ => ⟨S768x384, .f32⟩
  | .hbm, ⟨6, _⟩ => ⟨S768x384, .f32⟩
  | .hbm, ⟨7, _⟩ => ⟨S768x384, .f32⟩
  | .hbm, ⟨8, _⟩ => ⟨S768x384, .f32⟩
  | .hbm, ⟨9, _⟩ => ⟨S768x384, .f32⟩
  | .hbm, ⟨10, _⟩ => ⟨S768x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | _, _ => ⟨S2x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "mean" => some (((5463681 / 8388608)⁻¹ : ℝ) : EReal)
  | "square" => some (((2672307 / 268435456)⁻¹ : ℝ) : EReal)
  | _ => none

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== QueryStepReferenceIdeal.lean ====
abbrev S2x384x384 : Shape := ⟨3, ![2, 384, 384]⟩
abbrev S_ : Shape := ⟨0, ![]⟩
abbrev S768x384 : Shape := ⟨2, ![768, 384]⟩

abbrev nBuf : Space → Nat
  | .hbm => 40
  | .vmem => 0
  | .smem => 0
  | _ => 0

abbrev bufTy : (tb : Table) → Fin (tcTables nBuf tb) → BufTy
  | .hbm, ⟨0, _⟩ => ⟨S2x384x384, .f32⟩
  | .hbm, ⟨1, _⟩ => ⟨S2x384x384, .f32⟩
  | .hbm, ⟨2, _⟩ => ⟨S2x384x384, .f32⟩
  | .hbm, ⟨3, _⟩ => ⟨S2x384x384, .f32⟩
  | .hbm, ⟨4, _⟩ => ⟨S_, .f32⟩
  | .hbm, ⟨5, _⟩ => ⟨S2x384x384, .f32⟩
  | .hbm, ⟨6, _⟩ => ⟨S2x384x384, .f32⟩
  | .hbm, ⟨7, _⟩ => ⟨S_, .f32⟩
  | .hbm, ⟨8, _⟩ => ⟨S2x384x384, .f32⟩
  | .hbm, ⟨9, _⟩ => ⟨S2x384x384, .f32⟩
  | .hbm, ⟨10, _⟩ => ⟨S2x384x384, .f32⟩
  | .hbm, ⟨11, _⟩ => ⟨S_, .f32⟩
  | .hbm, ⟨12, _⟩ => ⟨S2x384x384, .f32⟩
  | .hbm, ⟨13, _⟩ => ⟨S2x384x384, .f32⟩
  | .hbm, ⟨14, _⟩ => ⟨S2x384x384, .f32⟩
  | .hbm, ⟨15, _⟩ => ⟨S_, .f32⟩
  | .hbm, ⟨16, _⟩ => ⟨S2x384x384, .f32⟩
  | .hbm, ⟨17, _⟩ => ⟨S2x384x384, .f32⟩
  | .hbm, ⟨18, _⟩ => ⟨S2x384x384, .f32⟩
  | .hbm, ⟨19, _⟩ => ⟨S_, .f32⟩
  | .hbm, ⟨20, _⟩ => ⟨S2x384x384, .f32⟩
  | .hbm, ⟨21, _⟩ => ⟨S2x384x384, .f32⟩
  | .hbm, ⟨22, _⟩ => ⟨S_, .f32⟩
  | .hbm, ⟨23, _⟩ => ⟨S2x384x384, .f32⟩
  | .hbm, ⟨24, _⟩ => ⟨S2x384x384, .f32⟩
  | .hbm, ⟨25, _⟩ => ⟨S2x384x384, .f32⟩
  | .hbm, ⟨26, _⟩ => ⟨S_, .f32⟩
  | .hbm, ⟨27, _⟩ => ⟨S2x384x384, .f32⟩
  | .hbm, ⟨28, _⟩ => ⟨S2x384x384, .f32⟩
  | .hbm, ⟨29, _⟩ => ⟨S2x384x384, .f32⟩
  | .hbm, ⟨30, _⟩ => ⟨S_, .f32⟩
  | .hbm, ⟨31, _⟩ => ⟨S2x384x384, .f32⟩
  | .hbm, ⟨32, _⟩ => ⟨S2x384x384, .f32⟩
  | .hbm, ⟨33, _⟩ => ⟨S2x384x384, .f32⟩
  | .hbm, ⟨34, _⟩ => ⟨S_, .f32⟩
  | .hbm, ⟨35, _⟩ => ⟨S2x384x384, .f32⟩
  | .hbm, ⟨36, _⟩ => ⟨S2x384x384, .f32⟩
  | .hbm, ⟨37, _⟩ => ⟨S768x384, .f32⟩
  | .hbm, ⟨38, _⟩ => ⟨S768x384, .f32⟩
  | .hbm, ⟨39, _⟩ => ⟨S768x384, .f32⟩
  | _, _ => ⟨S2x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KeyStep.lean ====
abbrev S2x256x512 : Shape := ⟨3, ![2, 256, 512]⟩
abbrev S512x512 : Shape := ⟨2, ![512, 512]⟩
abbrev S256x512 : Shape := ⟨2, ![256, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S2x256x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KeyStepIdeal.lean ====
abbrev S2x256x512 : Shape := ⟨3, ![2, 256, 512]⟩
abbrev S512x512 : Shape := ⟨2, ![512, 512]⟩
abbrev S256x512 : Shape := ⟨2, ![256, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S2x256x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "mean" => some (((5463681 / 8388608)⁻¹ : ℝ) : EReal)
  | "square" => some (((2672307 / 268435456)⁻¹ : ℝ) : EReal)
  | _ => none

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KeyStepReferenceIdeal.lean ====
abbrev S2x256x512 : Shape := ⟨3, ![2, 256, 512]⟩
abbrev S_ : Shape := ⟨0, ![]⟩
abbrev S512x512 : Shape := ⟨2, ![512, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S2x256x512, .f32⟩
  | .hbm, ⟨4, _⟩ => ⟨S_, .f32⟩
  | .hbm, ⟨5, _⟩ => ⟨S2x256x512, .f32⟩
  | .hbm, ⟨6, _⟩ => ⟨S2x256x512, .f32⟩
  | .hbm, ⟨7, _⟩ => ⟨S_, .f32⟩
  | .hbm, ⟨8, _⟩ => ⟨S2x256x512, .f32⟩
  | .hbm, ⟨9, _⟩ => ⟨S2x256x512, .f32⟩
  | .hbm, ⟨10, _⟩ => ⟨S2x256x512, .f32⟩
  | .hbm, ⟨11, _⟩ => ⟨S_, .f32⟩
  | .hbm, ⟨12, _⟩ => ⟨S2x256x512, .f32⟩
  | .hbm, ⟨13, _⟩ => ⟨S2x256x512, .f32⟩
  | .hbm, ⟨14, _⟩ => ⟨S2x256x512, .f32⟩
  | .hbm, ⟨15, _⟩ => ⟨S_, .f32⟩
  | .hbm, ⟨16, _⟩ => ⟨S2x256x512, .f32⟩
  | .hbm, ⟨17, _⟩ => ⟨S2x256x512, .f32⟩
  | .hbm, ⟨18, _⟩ => ⟨S2x256x512, .f32⟩
  | .hbm, ⟨19, _⟩ => ⟨S_, .f32⟩
  | .hbm, ⟨20, _⟩ => ⟨S2x256x512, .f32⟩
  | .hbm, ⟨21, _⟩ => ⟨S2x256x512, .f32⟩
  | .hbm, ⟨22, _⟩ => ⟨S_, .f32⟩
  | .hbm, ⟨23, _⟩ => ⟨S2x256x512, .f32⟩
  | .hbm, ⟨24, _⟩ => ⟨S2x256x512, .f32⟩
  | .hbm, ⟨25, _⟩ => ⟨S2x256x512, .f32⟩
  | .hbm, ⟨26, _⟩ => ⟨S_, .f32⟩
  | .hbm, ⟨27, _⟩ => ⟨S2x256x512, .f32⟩
  | .hbm, ⟨28, _⟩ => ⟨S2x256x512, .f32⟩
  | .hbm, ⟨29, _⟩ => ⟨S2x256x512, .f32⟩
  | .hbm, ⟨30, _⟩ => ⟨S_, .f32⟩
  | .hbm, ⟨31, _⟩ => ⟨S2x256x512, .f32⟩
  | .hbm, ⟨32, _⟩ => ⟨S2x256x512, .f32⟩
  | .hbm, ⟨33, _⟩ => ⟨S2x256x512, .f32⟩
  | .hbm, ⟨34, _⟩ => ⟨S_, .f32⟩
  | .hbm, ⟨35, _⟩ => ⟨S2x256x512, .f32⟩
  | .hbm, ⟨36, _⟩ => ⟨S2x256x512, .f32⟩
  | .hbm, ⟨37, _⟩ => ⟨S512x512, .f32⟩
  | .hbm, ⟨38, _⟩ => ⟨S512x512, .f32⟩
  | .hbm, ⟨39, _⟩ => ⟨S512x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== OutStep.lean ====
abbrev S2x512x1024 : Shape := ⟨3, ![2, 512, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutStepIdeal.lean ====
abbrev S2x512x1024 : Shape := ⟨3, ![2, 512, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "mean" => some (((5463681 / 8388608)⁻¹ : ℝ) : EReal)
  | "square" => some (((2672307 / 268435456)⁻¹ : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutStepReferenceIdeal.lean ====
abbrev S2x512x1024 : Shape := ⟨3, ![2, 512, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S2x512x1024, .f32⟩
  | .hbm, ⟨2, _⟩ => ⟨S2x512x1024, .f32⟩
  | .hbm, ⟨3, _⟩ => ⟨S2x512x1024, .f32⟩
  | .hbm, ⟨4, _⟩ => ⟨S_, .f32⟩
  | .hbm, ⟨5, _⟩ => ⟨S2x512x1024, .f32⟩
  | .hbm, ⟨6, _⟩ => ⟨S2x512x1024, .f32⟩
  | .hbm, ⟨7, _⟩ => ⟨S_, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .hbm, ⟨11, _⟩ => ⟨S_, .f32⟩
  | .hbm, ⟨12, _⟩ => ⟨S2x512x1024, .f32⟩
  | .hbm, ⟨13, _⟩ => ⟨S2x512x1024, .f32⟩
  | .hbm, ⟨14, _⟩ => ⟨S2x512x1024, .f32⟩
  | .hbm, ⟨15, _⟩ => ⟨S_, .f32⟩
  | .hbm, ⟨16, _⟩ => ⟨S2x512x1024, .f32⟩
  | .hbm, ⟨17, _⟩ => ⟨S2x512x1024, .f32⟩
  | .hbm, ⟨18, _⟩ => ⟨S2x512x1024, .f32⟩
  | .hbm, ⟨19, _⟩ => ⟨S_, .f32⟩
  | .hbm, ⟨20, _⟩ => ⟨S2x512x1024, .f32⟩
  | .hbm, ⟨21, _⟩ => ⟨S2x512x1024, .f32⟩
  | .hbm, ⟨22, _⟩ => ⟨S_, .f32⟩
  | .hbm, ⟨23, _⟩ => ⟨S2x512x1024, .f32⟩
  | .hbm, ⟨24, _⟩ => ⟨S2x512x1024, .f32⟩
  | .hbm, ⟨25, _⟩ => ⟨S2x512x1024, .f32⟩
  | .hbm, ⟨26, _⟩ => ⟨S_, .f32⟩
  | .hbm, ⟨27, _⟩ => ⟨S2x512x1024, .f32⟩
  | .hbm, ⟨28, _⟩ => ⟨S2x512x1024, .f32⟩
  | .hbm, ⟨29, _⟩ => ⟨S2x512x1024, .f32⟩
  | .hbm, ⟨30, _⟩ => ⟨S_, .f32⟩
  | .hbm, ⟨31, _⟩ => ⟨S2x512x1024, .f32⟩
  | .hbm, ⟨32, _⟩ => ⟨S2x512x1024, .f32⟩
  | .hbm, ⟨33, _⟩ => ⟨S2x512x1024, .f32⟩
  | .hbm, ⟨34, _⟩ => ⟨S_, .f32⟩
  | .hbm, ⟨35, _⟩ => ⟨S2x512x1024, .f32⟩
  | .hbm, ⟨36, _⟩ => ⟨S2x512x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== UpStep.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpStepIdeal.lean ====
abbrev S2x1024x1408 : Shape := ⟨3, ![2, 1024, 1408]⟩
abbrev S2048x1408 : Shape := ⟨2, ![2048, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "mean" => some (((5463681 / 8388608)⁻¹ : ℝ) : EReal)
  | "square" => some (((2672307 / 268435456)⁻¹ : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpStepReferenceIdeal.lean ====
abbrev S2x1024x1408 : Shape := ⟨3, ![2, 1024, 1408]⟩
abbrev S_ : Shape := ⟨0, ![]⟩
abbrev S2048x1408 : Shape := ⟨2, ![2048, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2048x1408, .f32⟩
  | .hbm, ⟨38, _⟩ => ⟨S2048x1408, .f32⟩
  | .hbm, ⟨39, _⟩ => ⟨S2048x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== GateStep.lean ====
abbrev S2x3x1408 : Shape := ⟨3, ![2, 3, 1408]⟩
abbrev S6x1408 : Shape := ⟨2, ![6, 1408]⟩

abbrev nBuf : Space → Nat
  | .hbm => 11
  | .vmem => 7
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S6x1408, .f32⟩
  | .hbm, ⟨5, _⟩ => ⟨S6x1408, .f32⟩
  | .hbm, ⟨6, _⟩ => ⟨S6x1408, .f32⟩
  | .hbm, ⟨7, _⟩ => ⟨S6x1408, .f32⟩
  | .hbm, ⟨8, _⟩ => ⟨S6x1408, .f32⟩
  | .hbm, ⟨9, _⟩ => ⟨S6x1408, .f32⟩
  | .hbm, ⟨10, _⟩ => ⟨S6x1408, .f32⟩
  | .local _ .vmem, ⟨0, _⟩ => ⟨S6x1408, .f32⟩
  | .local _ .vmem, ⟨1, _⟩ => ⟨S6x1408, .f32⟩
  | .local _ .vmem, ⟨2, _⟩ => ⟨S6x1408, .f32⟩
  | .local _ .vmem, ⟨3, _⟩ => ⟨S6x1408, .f32⟩
  | .local _ .vmem, ⟨4, _⟩ => ⟨S6x1408, .f32⟩
  | .local _ .vmem, ⟨5, _⟩ => ⟨S6x1408, .f32⟩
  | .local _ .vmem, ⟨6, _⟩ => ⟨S6x1408, .f32⟩
  | _, _ => ⟨S2x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== GateStepIdeal.lean ====
abbrev S2x3x1408 : Shape := ⟨3, ![2, 3, 1408]⟩
abbrev S6x1408 : Shape := ⟨2, ![6, 1408]⟩

abbrev nBuf : Space → Nat
  | .hbm => 11
  | .vmem => 7
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S6x1408, .f32⟩
  | .hbm, ⟨5, _⟩ => ⟨S6x1408, .f32⟩
  | .hbm, ⟨6, _⟩ => ⟨S6x1408, .f32⟩
  | .hbm, ⟨7, _⟩ => ⟨S6x1408, .f32⟩
  | .hbm, ⟨8, _⟩ => ⟨S6x1408, .f32⟩
  | .hbm, ⟨9, _⟩ => ⟨S6x1408, .f32⟩
  | .hbm, ⟨10, _⟩ => ⟨S6x1408, .f32⟩
  | .local _ .vmem, ⟨0, _⟩ => ⟨S6x1408, .f32⟩
  | .local _ .vmem, ⟨1, _⟩ => ⟨S6x1408, .f32⟩
  | .local _ .vmem, ⟨2, _⟩ => ⟨S6x1408, .f32⟩
  | .local _ .vmem, ⟨3, _⟩ => ⟨S6x1408, .f32⟩
  | .local _ .vmem, ⟨4, _⟩ => ⟨S6x1408, .f32⟩
  | .local _ .vmem, ⟨5, _⟩ => ⟨S6x1408, .f32⟩
  | .local _ .vmem, ⟨6, _⟩ => ⟨S6x1408, .f32⟩
  | _, _ => ⟨S2x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "mean" => some (((5463681 / 8388608)⁻¹ : ℝ) : EReal)
  | "square" => some (((2672307 / 268435456)⁻¹ : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== GateStepReferenceIdeal.lean ====
abbrev S2x3x1408 : Shape := ⟨3, ![2, 3, 1408]⟩
abbrev S_ : Shape := ⟨0, ![]⟩
abbrev S6x1408 : Shape := ⟨2, ![6, 1408]⟩

abbrev nBuf : Space → Nat
  | .hbm => 40
  | .vmem => 0
  | .smem => 0
  | _ => 0

abbrev bufTy : (tb : Table) → Fin (tcTables nBuf tb) → BufTy
  | .hbm, ⟨0, _⟩ => ⟨S2x3x1408, .f32⟩
  | .hbm, ⟨1, _⟩ => ⟨S2x3x1408, .f32⟩
  | .hbm, ⟨2, _⟩ => ⟨S2x3x1408, .f32⟩
  | .hbm, ⟨3, _⟩ => ⟨S2x3x1408, .f32⟩
  | .hbm, ⟨4, _⟩ => ⟨S_, .f32⟩
  | .hbm, ⟨5, _⟩ => ⟨S2x3x1408, .f32⟩
  | .hbm, ⟨6, _⟩ => ⟨S2x3x1408, .f32⟩
  | .hbm, ⟨7, _⟩ => ⟨S_, .f32⟩
  | .hbm, ⟨8, _⟩ => ⟨S2x3x1408, .f32⟩
  | .hbm, ⟨9, _⟩ => ⟨S2x3x1408, .f32⟩
  | .hbm, ⟨10, _⟩ => ⟨S2x3x1408, .f32⟩
  | .hbm, ⟨11, _⟩ => ⟨S_, .f32⟩
  | .hbm, ⟨12, _⟩ => ⟨S2x3x1408, .f32⟩
  | .hbm, ⟨13, _⟩ => ⟨S2x3x1408, .f32⟩
  | .hbm, ⟨14, _⟩ => ⟨S2x3x1408, .f32⟩
  | .hbm, ⟨15, _⟩ => ⟨S_, .f32⟩
  | .hbm, ⟨16, _⟩ => ⟨S2x3x1408, .f32⟩
  | .hbm, ⟨17, _⟩ => ⟨S2x3x1408, .f32⟩
  | .hbm, ⟨18, _⟩ => ⟨S2x3x1408, .f32⟩
  | .hbm, ⟨19, _⟩ => ⟨S_, .f32⟩
  | .hbm, ⟨20, _⟩ => ⟨S2x3x1408, .f32⟩
  | .hbm, ⟨21, _⟩ => ⟨S2x3x1408, .f32⟩
  | .hbm, ⟨22, _⟩ => ⟨S_, .f32⟩
  | .hbm, ⟨23, _⟩ => ⟨S2x3x1408, .f32⟩
  | .hbm, ⟨24, _⟩ => ⟨S2x3x1408, .f32⟩
  | .hbm, ⟨25, _⟩ => ⟨S2x3x1408, .f32⟩
  | .hbm, ⟨26, _⟩ => ⟨S_, .f32⟩
  | .hbm, ⟨27, _⟩ => ⟨S2x3x1408, .f32⟩
  | .hbm, ⟨28, _⟩ => ⟨S2x3x1408, .f32⟩
  | .hbm, ⟨29, _⟩ => ⟨S2x3x1408, .f32⟩
  | .hbm, ⟨30, _⟩ => ⟨S_, .f32⟩
  | .hbm, ⟨31, _⟩ => ⟨S2x3x1408, .f32⟩
  | .hbm, ⟨32, _⟩ => ⟨S2x3x1408, .f32⟩
  | .hbm, ⟨33, _⟩ => ⟨S2x3x1408, .f32⟩
  | .hbm, ⟨34, _⟩ => ⟨S_, .f32⟩
  | .hbm, ⟨35, _⟩ => ⟨S2x3x1408, .f32⟩
  | .hbm, ⟨36, _⟩ => ⟨S2x3x1408, .f32⟩
  | .hbm, ⟨37, _⟩ => ⟨S6x1408, .f32⟩
  | .hbm, ⟨38, _⟩ => ⟨S6x1408, .f32⟩
  | .hbm, ⟨39, _⟩ => ⟨S6x1408, .f32⟩
  | _, _ => ⟨S2x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== DownStep.lean ====
abbrev S2x704x1024 : Shape := ⟨3, ![2, 704, 1024]⟩
abbrev S1408x1024 : Shape := ⟨2, ![1408, 1024]⟩
abbrev S128x1024 : Shape := ⟨2, ![128, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .hbm, ⟨7, _⟩ => ⟨S1408x1024, .f32⟩
  | .hbm, ⟨8, _⟩ => ⟨S1408x1024, .f32⟩
  | .hbm, ⟨9, _⟩ => ⟨S1408x1024, .f32⟩
  | .hbm, ⟨10, _⟩ => ⟨S1408x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownStepIdeal.lean ====
variable {F : FTy → Type} [FloatOps F] [Named F]
def κ : String → Option EReal := fun
  | "mean" => some (((5463681 / 8388608)⁻¹ : ℝ) : EReal)
  | "square" => some (((2672307 / 268435456)⁻¹ : ℝ) : EReal)
  | _ => none
-- ==== DownStepReferenceIdeal.lean ====
abbrev S2x704x1024 : Shape := ⟨3, ![2, 704, 1024]⟩
abbrev S_ : Shape := ⟨0, ![]⟩
abbrev S1408x1024 : Shape := ⟨2, ![1408, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S1408x1024, .f32⟩
  | .hbm, ⟨38, _⟩ => ⟨S1408x1024, .f32⟩
  | .hbm, ⟨39, _⟩ => ⟨S1408x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Attn.lean ====
/- The attention's backward pass over the real numbers: the functions both programs compute. -/
module

public import Idealize.ShloMosaic.PureOps.Ideal

@[expose] public section

noncomputable section

namespace Cert.Attn

/-- The arguments: queries before the rotation, keys and values, rope keys, cosines, sines, the output's gradient. -/
structure Args where
  q : Fin 4 → Fin 2048 → Fin 1536 → ℝ
  kv : Fin 4 → Fin 2048 → Fin 2048 → ℝ
  kr : Fin 4 → Fin 2048 → Fin 64 → ℝ
  co : Fin 4 → Fin 2048 → Fin 32 → ℝ
  si : Fin 4 → Fin 2048 → Fin 32 → ℝ
  dv : Fin 4 → Fin 2048 → Fin 1024 → ℝ

variable (a : Args) (b : Fin 4) (h : Fin 8)

/-- A head's query lanes without the rope part. -/
def qn (s : Fin 2048) (c : Fin 128) : ℝ := a.q b s ⟨h.val * 192 + c.val, by omega⟩

/-- A head's rope lanes of the query, rotated. -/
def qr (s : Fin 2048) (c : Fin 64) : ℝ :=
  if hc : c.val < 32 then
    a.q b s ⟨h.val * 192 + (128 + c.val), by omega⟩ * a.co b s ⟨c.val, hc⟩
      - a.q b s ⟨h.val * 192 + (128 + (32 + c.val)), by omega⟩ * a.si b s ⟨c.val, hc⟩
  else
    a.q b s ⟨h.val * 192 + (128 + (32 + (c.val - 32))), by omega⟩ * a.co b s ⟨c.val - 32, by omega⟩
      + a.q b s ⟨h.val * 192 + (128 + (c.val - 32)), by omega⟩ * a.si b s ⟨c.val - 32, by omega⟩

/-- A head's own key lanes. -/
def kn (s : Fin 2048) (c : Fin 128) : ℝ := a.kv b s ⟨h.val * 256 + c.val, by omega⟩

/-- A head's value lanes. -/
def vv (s : Fin 2048) (d : Fin 128) : ℝ := a.kv b s ⟨h.val * 256 + (128 + d.val), by omega⟩

/-- A head's lanes of the output's gradient. -/
def dd (s : Fin 2048) (d : Fin 128) : ℝ := a.dv b s ⟨h.val * 128 + d.val, by omega⟩

/-- The scaled scores. -/
def sc (s k : Fin 2048) : ℝ := (∑ c, qn a b h s c * kn a b h k c + ∑ c, qr a b h s c * a.kr b k c) / Real.sqrt 192

/-- The greatest score of a row, over the keys that are not after the query. -/
def top (s : Fin 2048) : ℝ := (Finset.univ.filter fun k : Fin 2048 => k ≤ s).sup' ⟨s, by simp⟩ (sc a b h s)

/-- The softmax's numerators. -/
def ex (s k : Fin 2048) : ℝ := if k ≤ s then Real.exp (sc a b h s k - top a b h s) else 0

/-- The softmax's denominators. -/
def den (s : Fin 2048) : ℝ := ∑ k, ex a b h s k

/-- The probabilities. -/
def pr (s k : Fin 2048) : ℝ := ex a b h s k / den a b h s

/-- The probabilities' gradients. -/
def dp (s k : Fin 2048) : ℝ := ∑ d, dd a b h s d * vv a b h k d

/-- The gradients of the products of queries and keys. -/
def ds (s k : Fin 2048) : ℝ :=
  pr a b h s k * (dp a b h s k - ∑ j, pr a b h s j * dp a b h s j) * (Real.sqrt 192)⁻¹

/-- The query's gradient, lanes without the rope part. -/
def dqn (s : Fin 2048) (c : Fin 128) : ℝ := ∑ k, ds a b h s k * kn a b h k c

/-- The rotated query's gradient. -/
def dqr (s : Fin 2048) (c : Fin 64) : ℝ := ∑ k, ds a b h s k * a.kr b k c

/-- The query's gradient on the rope lanes, rotated back. -/
def dqt (s : Fin 2048) (c : Fin 64) : ℝ :=
  if hc : c.val < 32 then
    dqr a b h s ⟨c.val, by omega⟩ * a.co b s ⟨c.val, hc⟩ + dqr a b h s ⟨32 + c.val, by omega⟩ * a.si b s ⟨c.val, hc⟩
  else
    dqr a b h s ⟨32 + (c.val - 32), by omega⟩ * a.co b s ⟨c.val - 32, by omega⟩
      - dqr a b h s ⟨c.val - 32, by omega⟩ * a.si b s ⟨c.val - 32, by omega⟩

/-- The key's gradient, its own lanes. -/
def dkn (k : Fin 2048) (c : Fin 128) : ℝ := ∑ s, ds a b h s k * qn a b h s c

/-- One head's part of the rope key's gradient. -/
def dkh (k : Fin 2048) (c : Fin 64) : ℝ := ∑ s, ds a b h s k * qr a b h s c

/-- The value's gradient. -/
def dvv (k : Fin 2048) (d : Fin 128) : ℝ := ∑ s, pr a b h s k * dd a b h s d

/-- The first result: the query's gradient, each head padded to 256 lanes. -/
def outQ (s : Fin 2048) (c : Fin 256) : ℝ :=
  if hc : c.val < 128 then dqn a b h s ⟨c.val, hc⟩
  else if hc' : c.val < 192 then dqt a b h s ⟨c.val - 128, by omega⟩ else 0

/-- The second result: the gradient of keys and values. -/
def outKV (k : Fin 2048) (c : Fin 256) : ℝ :=
  if hc : c.val < 128 then dkn a b h k ⟨c.val, hc⟩ else dvv a b h k ⟨c.val - 128, by omega⟩

/-- The third result: the rope key's gradient, one copy for each pair of heads, padded to 128 lanes. -/
def outR (g : Fin 4) (k : Fin 2048) (c : Fin 128) : ℝ :=
  if hc : c.val < 64 then dkh a b ⟨2 * g.val, by omega⟩ k ⟨c.val, hc⟩ + dkh a b ⟨2 * g.val + 1, by omega⟩ k ⟨c.val, hc⟩
  else 0

theorem den_pos (s : Fin 2048) : 0 < den a b h s := by
  refine Finset.sum_pos' (fun k _ => ?_) ⟨s, Finset.mem_univ _, ?_⟩
  · unfold ex; split <;> positivity
  · unfold ex; rw [if_pos (le_refl _)]; positivity

/-- The masked scores' greatest entry is the greatest score. -/
theorem fold_top (s : Fin 2048) :
    Finset.univ.fold max (⊥ : EReal) (fun k : Fin 2048 => if k ≤ s then ((sc a b h s k : ℝ) : EReal) else ⊥) = (top a b h s : ℝ) := by
  apply le_antisymm
  · rw [Finset.fold_max_le]
    refine ⟨bot_le, fun k _ => ?_⟩
    split
    · rename_i hk
      exact EReal.coe_le_coe_iff.2 (Finset.le_sup' (sc a b h s) (by simpa using hk))
    · exact bot_le
  · obtain ⟨k, hk, e⟩ := Finset.exists_mem_eq_sup' (s := Finset.univ.filter fun k : Fin 2048 => k ≤ s) ⟨s, by simp⟩ (sc a b h s)
    rw [Finset.le_fold_max]
    refine Or.inr ⟨k, Finset.mem_univ _, ?_⟩
    rw [if_pos (by simpa using hk)]
    exact EReal.coe_le_coe_iff.2 (le_of_eq e)

end Cert.Attn
-- ==== Proof.Basic.lean ====
/- Constants and masks at the extended reals. -/
module

public import Idealize.ShloMosaic.Lib.Pointwise
public import Idealize.ShloMosaic.Lib.WordCmp
public import Idealize.ShloMosaic.PureOps.Ideal

@[expose] public section

noncomputable section

namespace Cert.Attn

open Idealize.ShloMosaic
open Idealize.ShloMosaic.WordCmp

/-- The mask's filler is minus infinity. -/
theorem ofBits_bot : Ideal.ofBits .f32 4286578688#32 = ⊥ := by simp [Ideal.ofBits, Ideal.ieee]

/-- The head's width as a constant. -/
theorem ofBits_192 : Ideal.ofBits .f32 1128267776#32 = ((192 : ℝ) : EReal) := by
  simp [Ideal.ofBits, Ideal.ieee, -EReal.coe_mul]; norm_num

/-- The base of the powers as a constant. -/
theorem ofBits_two : Ideal.ofBits .f32 1073741824#32 = ((2 : ℝ) : EReal) := by
  simp [Ideal.ofBits, Ideal.ieee, -EReal.coe_mul]; norm_num

theorem sqrt_192_pos : 0 < Real.sqrt 192 := Real.sqrt_pos.2 (by norm_num)

/-- The root of the head's width. -/
theorem sqrt_192 : Ideal.sqrt ((192 : ℝ) : EReal) = ((Real.sqrt 192 : ℝ) : EReal) := by
  rw [Ideal.sqrt_coe, if_neg (by norm_num)]

/-- The causal mask's comparison of two positions. -/
theorem causal {α : Type} (m n : ℕ) (hm : m < 2048) (hn : n < 2048) (x y : α) :
    Scalar.select (IntOp.cmpi .sge (BitVec.ofNat 32 m) (BitVec.ofNat 32 n)) x y = if n ≤ m then x else y := by
  rw [cmpi_sge_of_lt (by simp; omega) (by simp; omega)]
  simp only [BitVec.toNat_ofNat]
  rw [Nat.mod_eq_of_lt (by omega), Nat.mod_eq_of_lt (by omega)]
  by_cases hle : n ≤ m <;> simp [Scalar.select, hle]

/-- A sum of real numbers, as an extended real. -/
theorem coe_sum {ι : Type} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

/-- A quotient of real numbers, as an extended real. -/
theorem div_real (x y : ℝ) (hy : y ≠ 0) : Ideal.div (x : EReal) (y : EReal) = ((x / y : ℝ) : EReal) := by
  rw [Ideal.div_coe hy, ← EReal.coe_mul]; congr 1; field_simp

end Cert.Attn
-- ==== Proof.RefScores.lean ====
/- The reference's scores, softmax and gradients read at an index, on arguments that are real numbers. -/
module

public import proofs.«01_k».proof.Proof.Gen.ReferenceIdeal.Read
public import proofs.«01_k».proof.Proof.Attn
public import proofs.«01_k».proof.Proof.Basic
public import Idealize.ShloMosaic.Lib.Pointwise
public import Idealize.ShloMosaic.PureOps.Ideal

@[expose] public section

set_option maxRecDepth 16384

noncomputable section

namespace Cert.ReferenceIdeal.Scores

open Cert.ReferenceIdeal Cert.ReferenceIdeal.Gen Idealize.ShloMosaic Idealize.ShloMosaic.TcCoe Cert.Attn

variable (a : Args)

/-- The queries as the program's argument. -/
def x0 : (⟨S4x2048x1536, .f32⟩ : BufTy).Contents (Elt Ideal) := fun i => ((a.q (i 0) (i 1) (i 2) : ℝ) : EReal)
/-- The keys and values as the program's argument. -/
def x1 : (⟨S4x2048x2048, .f32⟩ : BufTy).Contents (Elt Ideal) := fun i => ((a.kv (i 0) (i 1) (i 2) : ℝ) : EReal)
/-- The rope keys as the program's argument. -/
def x2 : (⟨S4x2048x64, .f32⟩ : BufTy).Contents (Elt Ideal) := fun i => ((a.kr (i 0) (i 1) (i 2) : ℝ) : EReal)
/-- The cosines as the program's argument. -/
def x3 : (⟨S4x2048x32, .f32⟩ : BufTy).Contents (Elt Ideal) := fun i => ((a.co (i 0) (i 1) (i 2) : ℝ) : EReal)
/-- The sines as the program's argument. -/
def x4 : (⟨S4x2048x32, .f32⟩ : BufTy).Contents (Elt Ideal) := fun i => ((a.si (i 0) (i 1) (i 2) : ℝ) : EReal)
/-- The output's gradient as the program's argument. -/
def x5 : (⟨S4x2048x1024, .f32⟩ : BufTy).Contents (Elt Ideal) := fun i => ((a.dv (i 0) (i 1) (i 2) : ℝ) : EReal)

theorem x0_apply (b : Fin 4) (s : Fin 2048) (c : Fin 1536) : x0 a (ix3 b s c) = (a.q b s c : ℝ) := rfl
theorem x1_apply (b : Fin 4) (s : Fin 2048) (c : Fin 2048) : x1 a (ix3 b s c) = (a.kv b s c : ℝ) := rfl
theorem x2_apply (b : Fin 4) (s : Fin 2048) (c : Fin 64) : x2 a (ix3 b s c) = (a.kr b s c : ℝ) := rfl
theorem x3_apply (b : Fin 4) (s : Fin 2048) (c : Fin 32) : x3 a (ix3 b s c) = (a.co b s c : ℝ) := rfl
theorem x4_apply (b : Fin 4) (s : Fin 2048) (c : Fin 32) : x4 a (ix3 b s c) = (a.si b s c : ℝ) := rfl
theorem x5_apply (b : Fin 4) (s : Fin 2048) (c : Fin 1024) : x5 a (ix3 b s c) = (a.dv b s c : ℝ) := rfl

variable (b : Fin 4) (h : Fin 8) (s k : Fin 2048)

/-- The rotated queries. -/
theorem roped (c : Fin 64) : Read.val_main_v19 (x0 a) (x3 a) (x4 a) (ix4 b s h c) = (qr a b h s c : ℝ) := by
  pointwise [Read.val_main_v19, Read.val_main_v18, Read.val_main_v13, Read.val_main_v17, Read.val_main_v16, Read.val_main_v15, Read.val_main_v14,
    Read.val_main_v12, Read.val_main_v11, Read.val_main_v10, Read.val_main_v9, Read.val_main_v8, Read.val_main_v7, Read.val_main_v6, Read.val_main_v5,
    Read.val_main_v4, Read.val_main_v3, Read.val_main_v2]
  unfold qr
  simp only [x0_apply, x3_apply, x4_apply]
  split <;> push_cast <;> rfl

/-- The unscaled scores. -/
theorem dots : Read.val_main_v27 (x0 a) (x1 a) (x2 a) (x3 a) (x4 a) (ix4 b h s k)
    = ((∑ c, qn a b h s c * kn a b h k c + ∑ c, qr a b h s c * a.kr b k c : ℝ) : EReal) := by
  pointwise [Read.val_main_v27, Read.val_main_v26, Read.val_main_v25, Read.val_main_v24, Read.val_main_v23, Read.val_main_v22, Read.val_main_v21, Read.val_main_v20, Read.val_main_v3, Read.val_main_v2, Read.val_main_v1, Read.val_main_v0, roped, x0_apply, x1_apply, x2_apply]
  push_cast
  rfl

/-- The masked scores. -/
theorem masked : Read.val_main_v34_0 (x0 a) (x1 a) (x2 a) (x3 a) (x4 a) (ix4 b h s k) = if k ≤ s then ((sc a b h s k : ℝ) : EReal) else ⊥ := by
  pointwise [Read.val_main_v34_0, Read.val_main_v34_1, Read.val_main_v33, Read.val_main_v32, Read.val_main_v31, Read.val_main_v30, Read.val_main_v29, Read.val_main_v28, Read.val_main_call0_v2, Read.val_main_call0_v0, Read.val_main_cst_0, Read.val_main_cst, dots]
  rw [causal _ _ s.isLt k.isLt, ofBits_192, sqrt_192, div_real _ _ sqrt_192_pos.ne']
  show (if k ≤ s then _ else Ideal.ofBits .f32 4286578688#32) = _
  rw [ofBits_bot]
  rfl

/-- The greatest score of a row. -/
theorem top_eq : Read.val_main_v35 (x0 a) (x1 a) (x2 a) (x3 a) (x4 a) (ix3 b h s) = ((top a b h s : ℝ) : EReal) := by
  pointwise [Read.val_main_v35, Read.val_main_cst_1, masked]
  rw [ofBits_bot]
  exact fold_top a b h s

/-- The greatest score, kept above minus infinity. -/
theorem top_max : Read.val_main_v42 (x0 a) (x1 a) (x2 a) (x3 a) (x4 a) (ix3 b h s) = ((top a b h s : ℝ) : EReal) := by
  rw [Read.val_main_v42_apply, top_eq]
  have e : Read.val_main_v41 (F := Ideal) (ix3 b h s) = ⊥ := by
    pointwise [Read.val_main_v41, Read.val_main_cst_3]
    exact ofBits_bot
  rw [e]
  exact max_eq_right bot_le

/-- The greatest score, spread over the keys. -/
theorem top_wide : Read.val_main_v53 (x0 a) (x1 a) (x2 a) (x3 a) (x4 a) (ix4 b h s k) = ((top a b h s : ℝ) : EReal) := by
  pointwise [Read.val_main_v53, Read.val_main_v52, top_max]

/-- The softmax's numerators. -/
theorem ex_eq : Read.val_main_v55 (x0 a) (x1 a) (x2 a) (x3 a) (x4 a) (ix4 b h s k) = ((ex a b h s k : ℝ) : EReal) := by
  rw [Read.val_main_v55_apply, Read.val_main_v54_apply, masked, top_wide]
  unfold ex
  split
  · simp only [Ideal.subf_def, Ideal.hostUnary_exp_def, ← EReal.coe_sub, Ideal.exp_coe]
  · simp only [Ideal.subf_def, Ideal.hostUnary_exp_def, EReal.bot_sub, Ideal.exp_bot, EReal.coe_zero]

/-- The softmax's denominators. -/
theorem den_eq : Read.val_main_v56 (x0 a) (x1 a) (x2 a) (x3 a) (x4 a) (ix3 b h s) = ((den a b h s : ℝ) : EReal) := by
  pointwise [Read.val_main_v56, Read.val_main_cst_9, ex_eq]
  rw [den, coe_sum]

/-- The denominators, spread over a lane of one. -/
theorem den_col : Read.val_main_v57 (x0 a) (x1 a) (x2 a) (x3 a) (x4 a) (ix4 b h s 0) = ((den a b h s : ℝ) : EReal) := by
  pointwise [Read.val_main_v57, den_eq]

/-- The probabilities. -/
theorem pr_eq : Read.val_main_v59 (x0 a) (x1 a) (x2 a) (x3 a) (x4 a) (ix4 b h s k) = ((pr a b h s k : ℝ) : EReal) := by
  pointwise [Read.val_main_v59, Read.val_main_v58, Read.val_main_v57, ex_eq, den_eq]
  exact div_real _ _ (den_pos a b h s).ne'

/-- The squared denominators' reciprocals. -/
theorem sq_eq : Read.val_main_v62 (x0 a) (x1 a) (x2 a) (x3 a) (x4 a) (ix4 b h s 0) = ((1 / (den a b h s * den a b h s) : ℝ) : EReal) := by
  pointwise [Read.val_main_v62, Read.val_main_v61, Read.val_main_v60, Read.val_main_v57, Read.val_main_cst_10, den_eq]
  rw [← EReal.coe_mul, ← EReal.coe_one]
  exact div_real _ _ (mul_pos (den_pos a b h s) (den_pos a b h s)).ne'

end Cert.ReferenceIdeal.Scores
-- ==== Proof.RefGrads.lean ====
/- The reference's three results read at an index, on arguments that are real numbers. -/
module

public import proofs.«01_k».proof.Proof.RefScores

@[expose] public section

set_option maxRecDepth 16384

noncomputable section

namespace Cert.ReferenceIdeal.Scores

open Cert.ReferenceIdeal Cert.ReferenceIdeal.Gen Idealize.ShloMosaic Idealize.ShloMosaic.TcCoe Cert.Attn

variable (a : Args) (b : Fin 4) (h : Fin 8) (s k : Fin 2048)

/-- The probabilities' gradients. -/
theorem dp_eq : Read.val_main_v68 (x1 a) (x5 a) (ix4 b h s k) = ((dp a b h s k : ℝ) : EReal) := by
  pointwise [Read.val_main_v68, Read.val_main_v67, Read.val_main_v66, Read.val_main_v22, Read.val_main_v20, x1_apply, x5_apply]
  unfold dp dd vv
  rw [coe_sum]
  exact Finset.sum_congr rfl fun _ _ => (EReal.coe_mul _ _).symm

/-- The value's gradients. -/
theorem dv_eq (d : Fin 128) : Read.val_main_v70 (x0 a) (x1 a) (x2 a) (x3 a) (x4 a) (x5 a) (ix4 b k h d) = ((dvv a b h k d : ℝ) : EReal) := by
  pointwise [Read.val_main_v70, Read.val_main_v69, Read.val_main_v67, Read.val_main_v66, pr_eq, x5_apply]
  unfold dvv dd
  rw [coe_sum]
  exact Finset.sum_congr rfl fun _ _ => by rw [EReal.coe_mul, mul_comm]

/-- What a row's quotient by its denominator gives back, before the sign. -/
def back : ℝ := ∑ j, dp a b h s j * (1 / (den a b h s * den a b h s)) * ex a b h s j

/-- The row's part of the numerators' gradient. -/
theorem back_eq : Read.val_main_v74 (x0 a) (x1 a) (x2 a) (x3 a) (x4 a) (x5 a) (ix3 b h s) = ((back a b h s : ℝ) : EReal) := by
  pointwise [Read.val_main_v74, Read.val_main_v73, Read.val_main_v72, Read.val_main_v71, Read.val_main_cst_11, dp_eq, sq_eq, ex_eq]
  unfold back
  rw [coe_sum]
  exact Finset.sum_congr rfl fun _ _ => by rw [EReal.coe_mul, EReal.coe_mul]

/-- The numerators' gradient times the numerators. -/
theorem num_eq : Read.val_main_v82 (x0 a) (x1 a) (x2 a) (x3 a) (x4 a) (x5 a) (ix4 b h s k) = (((dp a b h s k / den a b h s + -back a b h s) * ex a b h s k : ℝ) : EReal) := by
  pointwise [Read.val_main_v82, Read.val_main_v81, Read.val_main_v80, Read.val_main_v79, Read.val_main_v78, Read.val_main_v77, Read.val_main_v76, Read.val_main_v75, Read.val_main_v57, Read.val_main_cst_12, back_eq, dp_eq, ex_eq, den_eq]
  rw [div_real _ _ (den_pos a b h s).ne']
  rw [Fin.sum_univ_one, EReal.coe_mul, EReal.coe_add, EReal.coe_neg]

/-- The products' gradients. -/
theorem ds_eq : Read.val_main_v85 (x0 a) (x1 a) (x2 a) (x3 a) (x4 a) (x5 a) (ix4 b h s k) = ((ds a b h s k : ℝ) : EReal) := by
  pointwise [Read.val_main_v85, Read.val_main_v84, Read.val_main_v83, Read.val_main_v34_1, Read.val_main_v34_2, Read.val_main_v33, Read.val_main_v32, Read.val_main_v31, Read.val_main_v28, Read.val_main_call1_v0, Read.val_main_call1_cst, Read.val_main_cst, num_eq]
  rw [causal _ _ s.isLt k.isLt, ofBits_192, sqrt_192]
  have hd := (den_pos a b h s).ne'
  have hb : back a b h s = (∑ j, pr a b h s j * dp a b h s j) / den a b h s := by
    unfold back pr
    rw [Finset.sum_div]
    refine Finset.sum_congr rfl fun j _ => ?_
    field_simp
  split
  · rw [div_real _ _ sqrt_192_pos.ne', hb]
    congr 1
    unfold ds
    rw [div_eq_mul_inv]
    congr 1
    rw [pr]
    ring
  · rename_i hk
    have e : pr a b h s k = 0 := by rw [pr, ex, if_neg (show ¬k ≤ s from hk), zero_div]
    rw [ds, e, zero_mul, zero_mul, EReal.coe_zero, ← EReal.coe_zero, div_real _ _ sqrt_192_pos.ne', zero_div]

/-- The query's gradient, lanes without the rope part. -/
theorem dqn_eq (c : Fin 128) : Read.val_main_v92 (x0 a) (x1 a) (x2 a) (x3 a) (x4 a) (x5 a) (ix4 b s h c) = ((dqn a b h s c : ℝ) : EReal) := by
  pointwise [Read.val_main_v92, Read.val_main_v91, Read.val_main_v21, Read.val_main_v20, ds_eq, x1_apply]
  unfold dqn kn
  rw [coe_sum]
  exact Finset.sum_congr rfl fun _ _ => (EReal.coe_mul _ _).symm

/-- The rotated query's gradient. -/
theorem dqr_eq (c : Fin 64) : Read.val_main_v88 (x0 a) (x1 a) (x2 a) (x3 a) (x4 a) (x5 a) (ix4 b s h c) = ((dqr a b h s c : ℝ) : EReal) := by
  pointwise [Read.val_main_v88, Read.val_main_v87, Read.val_main_v24, Read.val_main_v23, ds_eq, x2_apply]
  unfold dqr
  rw [coe_sum]
  exact Finset.sum_congr rfl fun _ _ => (EReal.coe_mul _ _).symm

/-- The key's gradient, its own lanes. -/
theorem dkn_eq (c : Fin 128) : Read.val_main_v90 (x0 a) (x1 a) (x2 a) (x3 a) (x4 a) (x5 a) (ix4 b k h c) = ((dkn a b h k c : ℝ) : EReal) := by
  pointwise [Read.val_main_v90, Read.val_main_v89, Read.val_main_v3, Read.val_main_v2, ds_eq, x0_apply]
  unfold dkn qn
  rw [coe_sum]
  exact Finset.sum_congr rfl fun _ _ => (EReal.coe_mul _ _).symm

/-- One head's part of the rope key's gradient. -/
theorem dkh_eq (c : Fin 64) : Read.val_main_v86 (x0 a) (x1 a) (x2 a) (x3 a) (x4 a) (x5 a) (ix4 b h k c) = ((dkh a b h k c : ℝ) : EReal) := by
  pointwise [Read.val_main_v86, ds_eq, roped]
  unfold dkh
  rw [coe_sum]
  exact Finset.sum_congr rfl fun _ _ => (EReal.coe_mul _ _).symm

/-- The query's gradient on the rope lanes, rotated back. -/
theorem dqt_eq (c : Fin 64) : Read.val_main_v112 (x0 a) (x1 a) (x2 a) (x3 a) (x4 a) (x5 a) (ix4 b s h c) = ((dqt a b h s c : ℝ) : EReal) := by
  pointwise [Read.val_main_v112, Read.val_main_v111, Read.val_main_v110, Read.val_main_v109, Read.val_main_v108, Read.val_main_v107, Read.val_main_v106, Read.val_main_v105,
    Read.val_main_v104, Read.val_main_v103, Read.val_main_v102, Read.val_main_v101, Read.val_main_v100, Read.val_main_v99, Read.val_main_v6, Read.val_main_v5, dqr_eq, x3_apply, x4_apply]
  unfold dqt
  split
  · rw [EReal.coe_add, EReal.coe_mul, EReal.coe_mul, add_comm]
  · rw [EReal.coe_sub, EReal.coe_mul, EReal.coe_mul, sub_eq_add_neg, EReal.neg_mul]

/-- The padding's value. -/
theorem zero_int : FloatOps.sitofp (F := Ideal) .f32 (0#32) = ((0 : ℝ) : EReal) := by
  show (((0#32).toInt : ℝ) : EReal) = _
  simp

/-- The first result. -/
theorem outQ_eq (c : Fin 256) : Read.val_main_v118 (x0 a) (x1 a) (x2 a) (x3 a) (x4 a) (x5 a) (ix4 b s h c) = ((outQ a b h s c : ℝ) : EReal) := by
  pointwise [Read.val_main_v118, Read.val_main_v117, Read.val_main_v116, Read.val_main_v115, Read.val_main_v114, Read.val_main_v113, Read.val_main_cst_17, Read.val_main_cst_16, Read.val_main_call2_v0, Read.val_main_c, dqt_eq, dqn_eq]
  unfold outQ
  split_ifs <;> first | (exfalso; omega) | rw [add_zero] | rw [zero_add] | exact zero_int

/-- The second result. -/
theorem outKV_eq (c : Fin 256) : Read.val_main_v97 (x0 a) (x1 a) (x2 a) (x3 a) (x4 a) (x5 a) (ix4 b k h c) = ((outKV a b h k c : ℝ) : EReal) := by
  pointwise [Read.val_main_v97, Read.val_main_v96, Read.val_main_v95, Read.val_main_cst_14, Read.val_main_cst_15, dkn_eq, dv_eq]
  unfold outKV
  by_cases h1 : c.val < 128
  · rw [dif_neg (show ¬(128 ≤ c.val ∧ c.val - 128 < 128) by omega), dif_pos h1, dif_pos h1, zero_add]
  · rw [dif_pos (show 128 ≤ c.val ∧ c.val - 128 < 128 by omega), dif_neg h1, dif_neg h1, add_zero]

/-- The third result. -/
theorem outR_eq (g : Fin 4) (c : Fin 128) : Read.val_main_v122 (x0 a) (x1 a) (x2 a) (x3 a) (x4 a) (x5 a) (ix4 b g k c) = ((outR a b g k c : ℝ) : EReal) := by
  pointwise [Read.val_main_v122, Read.val_main_v94, Read.val_main_v93, Read.val_main_cst_13, Read.val_main_call3_v0, Read.val_main_c_18, dkh_eq]
  unfold outR
  split
  · rw [Fin.sum_univ_two, EReal.coe_add]
    have e0 : (⟨g.val * 2 + (0 : Fin 2).val, by omega⟩ : Fin 8) = ⟨2 * g.val, by omega⟩ := Fin.ext (by simp; omega)
    have e1 : (⟨g.val * 2 + (1 : Fin 2).val, by omega⟩ : Fin 8) = ⟨2 * g.val + 1, by omega⟩ := Fin.ext (by simp; omega)
    rw [e0, e1]
  · exact zero_int

end Cert.ReferenceIdeal.Scores
-- ==== Proof.Tile.lean ====
/- What one grid point of the attention's backward pass computes from its blocks: a tile of 512 queries of two heads against all keys. -/
module

public import proofs.«01_k».proof.Proof.Gen.KernelIdeal.Skeleton
public import proofs.«01_k».proof.Proof.Basic

@[expose] public section

set_option maxRecDepth 16384

noncomputable section

namespace Cert.KernelIdeal.Blocks

open Cert.KernelIdeal Cert.KernelIdeal.Gen Idealize.ShloMosaic Idealize.ShloMosaic.TcCoe

/-- The kernel's score scale. -/
def scale : EReal := Named.named (F := Ideal) (φ := .f32) κ "scale" 0x3D93CD3A#32

/-- The blocks a point reads: queries, cosines, sines, the rotation, keys and values, rope keys, outputs, logs of sums, the output's gradient. -/
structure Tile where
  x0 : Vec Ideal S1x512x512 .bf16
  x1 : Vec Ideal S1x512x128 .f32
  x2 : Vec Ideal S1x512x128 .f32
  x3 : Vec Ideal S128x128 .f32
  x4 : Vec Ideal S1x2048x512 .bf16
  x5 : Vec Ideal S1x2048x128 .bf16
  x6 : Vec Ideal S1x512x256 .f32
  x7 : Vec Ideal S1x2x512x1 .f32
  x8 : Vec Ideal S1x512x256 .f32

namespace Tile

variable (T : Tile) (u : ℕ) (e : Fin 2)

/-- A head's query lanes. -/
def q (i : Fin 512) (l : Fin 256) : EReal := T.x0 (ix3 0 i ⟨e.val * 256 + l.val, by omega⟩)
/-- A head's own key lanes. -/
def k (r : Fin 2048) (l : Fin 128) : EReal := T.x4 (ix3 0 r ⟨e.val * 256 + l.val, by omega⟩)
/-- The rope key's lanes. -/
def kr (r : Fin 2048) (l : Fin 128) : EReal := T.x5 (ix3 0 r l)
/-- A head's value lanes. -/
def v (r : Fin 2048) (d : Fin 128) : EReal := T.x4 (ix3 0 r ⟨e.val * 256 + 128 + d.val, by omega⟩)
/-- A head's output lanes. -/
def o (i : Fin 512) (d : Fin 128) : EReal := T.x6 (ix3 0 i ⟨e.val * 128 + d.val, by omega⟩)
/-- A head's lanes of the output's gradient. -/
def d (i : Fin 512) (l : Fin 128) : EReal := T.x8 (ix3 0 i ⟨e.val * 128 + l.val, by omega⟩)
/-- A head's logs of sums. -/
def l (i : Fin 512) : EReal := T.x7 (ix4 0 e i 0)

/-- A probability before the mask: two to the score less the row's log of sums. -/
def w (i : Fin 512) (r : Fin 2048) : EReal :=
  FloatOps.exp2 (F := Ideal) (φ := .f32) (∑ c : Fin 128, T.q e i ⟨c.val, by omega⟩ * T.k e r c + ∑ c : Fin 128, T.q e i ⟨128 + c.val, by omega⟩ * T.kr r c - T.l e i)

/-- The factor a probability is multiplied by for the score's gradient, before the scale. -/
def g (i : Fin 512) (r : Fin 2048) : EReal := ∑ c, T.d e i c * T.v e r c - ∑ c, T.o e i c * T.d e i c

/-- A probability; the tile is the `u`-th of its heads. -/
def p (i : Fin 512) (r : Fin 2048) : EReal := if r.val ≤ 512 * u + i.val then T.w e i r else 0

/-- The gradient of a product of a query and a key. -/
def s (i : Fin 512) (r : Fin 2048) : EReal := T.p u e i r * T.g e i r * scale

/-- What the tile adds to the keys' gradient. -/
def dk (r : Fin 2048) (c : Fin 256) : EReal := ∑ i, T.s u e i r * T.q e i c

/-- What the tile adds to the values' gradient. -/
def dv (r : Fin 2048) (c : Fin 128) : EReal := ∑ i, T.p u e i r * T.d e i c

/-- The gradient of a head's own query lanes. -/
def dqa (i : Fin 512) (c : Fin 128) : EReal := ∑ r, T.s u e i r * T.k e r c

/-- The gradient of a head's rope lanes, still rotated. -/
def dqb (i : Fin 512) (c : Fin 128) : EReal := ∑ r, T.s u e i r * T.kr r c

/-- The gradient of a head's rope lanes, rotated back. -/
def dqr (i : Fin 512) (c : Fin 128) : EReal :=
  T.dqb u e i c * T.x1 (ix3 0 i c) + ∑ y, T.dqb u e i y * T.x2 (ix3 0 i y) * T.x3 (ix2 y c)

theorem p_of_le {i : Fin 512} {r : Fin 2048} (h : r.val ≤ 512 * u + i.val) : T.p u e i r = T.w e i r := if_pos h
theorem p_of_lt {i : Fin 512} {r : Fin 2048} (h : 512 * u + i.val < r.val) : T.p u e i r = 0 := if_neg (by omega)
theorem s_of_lt {i : Fin 512} {r : Fin 2048} (h : 512 * u + i.val < r.val) : T.s u e i r = 0 := by
  rw [s, p_of_lt T u e h, zero_mul, zero_mul]

/-- Keys after the tile get nothing. -/
theorem dk_of_le {r : Fin 2048} (h : 512 * u + 512 ≤ r.val) (c : Fin 256) : T.dk u e r c = 0 :=
  Finset.sum_eq_zero fun i _ => by rw [s_of_lt T u e (by omega), zero_mul]

/-- Values after the tile get nothing. -/
theorem dv_of_le {r : Fin 2048} (h : 512 * u + 512 ≤ r.val) (c : Fin 128) : T.dv u e r c = 0 :=
  Finset.sum_eq_zero fun i _ => by rw [p_of_lt T u e (by omega), zero_mul]

/-- A score's gradient where the mask keeps the score. -/
theorem s_of_le {i : Fin 512} {r : Fin 2048} (h : r.val ≤ 512 * u + i.val) : T.s u e i r = T.w e i r * T.g e i r * scale := by
  rw [s, p_of_le T u e h]

/-- A sum over the keys is the sum over the tiles before this one and the sum over this one. -/
theorem sum_split (n : ℕ) (hn : n + 512 ≤ 2048) (f : Fin 2048 → EReal) (h : ∀ r : Fin 2048, n + 512 ≤ r.val → f r = 0) :
    ∑ r, f r = ∑ r : Fin n, f ⟨r.val, by omega⟩ + ∑ r : Fin 512, f ⟨n + r.val, by omega⟩ := by
  obtain ⟨k, hk⟩ : ∃ k, 2048 = n + 512 + k := ⟨2048 - (n + 512), by omega⟩
  have e : ∑ r, f r = ∑ r : Fin (n + 512 + k), f (Fin.cast hk.symm r) :=
    (Fintype.sum_equiv (finCongr hk) _ _ fun r => rfl)
  rw [e, Fin.sum_univ_add, Fin.sum_univ_add]
  have z : ∑ r : Fin k, f (Fin.cast hk.symm (Fin.natAdd (n + 512) r)) = 0 := Finset.sum_eq_zero fun r _ => h _ (by simp)
  rw [z, add_zero]
  rfl

/-- A key of a tile is a place in it. -/
theorem span (n : ℕ) (hn : n + 512 ≤ 2048) (r : Fin 2048) (h1 : n ≤ r.val) (h2 : r.val < n + 512) :
    ∃ r' : Fin 512, r = ⟨n + r'.val, Nat.lt_of_lt_of_le (Nat.add_lt_add_left r'.isLt n) hn⟩ :=
  ⟨⟨r.val - n, by omega⟩, Fin.ext (by show r.val = n + (r.val - n); omega)⟩

/-- A key of the first tile is a place in it. -/
theorem span_zero (r : Fin 2048) (h : r.val < 512) : ∃ r' : Fin 512, r = ⟨r'.val, Nat.lt_of_lt_of_le r'.isLt (by decide)⟩ :=
  ⟨⟨r.val, h⟩, rfl⟩

/-- The own lanes' gradient by parts. -/
theorem dqa_split (n : ℕ) (hn : n = 512 * u) (hu : u < 4) (i : Fin 512) (c : Fin 128) :
    T.dqa u e i c = ∑ r : Fin n, T.w e i ⟨r.val, by omega⟩ * T.g e i ⟨r.val, by omega⟩ * scale * T.k e ⟨r.val, by omega⟩ c
      + ∑ r : Fin 512, (if r.val ≤ i.val then T.w e i ⟨n + r.val, by omega⟩ else 0) * T.g e i ⟨n + r.val, by omega⟩ * scale * T.k e ⟨n + r.val, by omega⟩ c := by
  rw [dqa, sum_split n (by omega) _ fun r hr => by rw [s_of_lt T u e (by omega), zero_mul]]
  congr 1
  · exact Finset.sum_congr rfl fun r _ => by rw [s_of_le T u e (by show r.val ≤ _; omega)]
  · refine Finset.sum_congr rfl fun r _ => ?_
    simp only [s, p, hn, Nat.add_le_add_iff_left]

/-- The rope lanes' gradient by parts. -/
theorem dqb_split (n : ℕ) (hn : n = 512 * u) (hu : u < 4) (i : Fin 512) (c : Fin 128) :
    T.dqb u e i c = ∑ r : Fin n, T.w e i ⟨r.val, by omega⟩ * T.g e i ⟨r.val, by omega⟩ * scale * T.kr ⟨r.val, by omega⟩ c
      + ∑ r : Fin 512, (if r.val ≤ i.val then T.w e i ⟨n + r.val, by omega⟩ else 0) * T.g e i ⟨n + r.val, by omega⟩ * scale * T.kr ⟨n + r.val, by omega⟩ c := by
  rw [dqb, sum_split n (by omega) _ fun r hr => by rw [s_of_lt T u e (by omega), zero_mul]]
  congr 1
  · exact Finset.sum_congr rfl fun r _ => by rw [s_of_le T u e (by show r.val ≤ _; omega)]
  · refine Finset.sum_congr rfl fun r _ => ?_
    simp only [s, p, hn, Nat.add_le_add_iff_left]

end Tile

/-- The mask inside the power, as a choice of the power. -/
theorem pow_masked (i r : Fin 512) (x y : EReal) :
    FloatOps.exp2 (F := Ideal) (φ := .f32) (Scalar.select (IntOp.cmpi .sge (BitVec.ofNat 32 i.val) (BitVec.ofNat 32 r.val)) x (Ideal.ofBits .f32 4286578688#32) - y)
      = if r.val ≤ i.val then FloatOps.exp2 (F := Ideal) (φ := .f32) (x - y) else 0 := by
  rw [Attn.causal _ _ (by omega) (by omega), Attn.ofBits_bot]
  split
  · rfl
  · rw [EReal.bot_sub]; exact Ideal.exp2_bot

end Cert.KernelIdeal.Blocks
-- ==== Proof.Pieces.lean ====
/- Reading, at a place told by its coordinates, a buffer that a list of writes covers; and the blocks of a grid point. -/
module

public import proofs.«01_k».proof.Proof.Gen.KernelIdeal.Value
public import proofs.«01_k».proof.Proof.Tile
public import Idealize.ShloMosaic.Lib.Pipeline.ReadBack
public import Idealize.ShloMosaic.Lib.Pipeline.ValueKit
public import Idealize.ShloMosaic.Lib.WritesUnit

@[expose] public section

set_option maxRecDepth 16384

noncomputable section

namespace Cert.KernelIdeal.Blocks

open Cert.KernelIdeal Cert.KernelIdeal.Gen Idealize.ShloMosaic Idealize.ShloMosaic.TcCoe Idealize.SL.Sem

section

variable {s : Shape} {V : EltTy → Type} {e : EltTy} [∀ e, Nonempty (V e)]

/-- The newest write read where its rectangle lies. -/
theorem canon_hit (r : Rect s) (w : r.shape.Idx → V e) (L : List (View.Piece V s e)) (x : r.shape.Idx) (y : s.Idx)
    (h : ∀ a, (y a).val = r.off a + r.stride a * (x a).val) : View.canon (⟨r, w⟩ :: L) y = w x := by
  rw [← r.emb_eq_of_coords x y h]
  exact View.canon_cons_emb r w L x

/-- A place one axis tells apart from the newest write's rectangle reads the earlier writes. -/
theorem canon_miss (p : View.Piece V s e) (L : List (View.Piece V s e)) (y : s.Idx) (a : Fin s.rank) (o n : ℕ)
    (ho : p.1.off a = o) (hst : p.1.stride a = 1) (hn : p.1.size a = n) (h : (y a).val < o ∨ o + n ≤ (y a).val) :
    View.canon (p :: L) y = View.canon L y :=
  View.canon_cons_of_not_mem p L (p.1.not_mem_set_of_axis y a o n ho hst hn h)

end

variable (m : (ℓ : Loc nD τ sig) → Buf (Elt Ideal) ℓ)

/-- The blocks of a grid point. -/
def tile (c : Dev nD) (t : Fin cfg0.N) : Tile :=
  ⟨iblk m c 0 t, iblk m c 1 t, iblk m c 2 t, iblk m c 3 t, iblk m c 4 t, iblk m c 5 t, iblk m c 6 t, iblk m c 7 t, iblk m c 8 t⟩

end Cert.KernelIdeal.Blocks
-- ==== Proof.BlocksA.lean ====
/- What the grid points of the first query tile leave: the queries' gradient and the sums of the keys' and values' gradients. -/
module

public import proofs.«01_k».proof.Proof.Pieces

@[expose] public section

set_option maxRecDepth 16384
set_option maxHeartbeats 4000000

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ)

/-- The first tile's keys' sum of head 0. -/
theorem dk_A0 (c : Dev nD) (t : Fin cfg0.N) (h : t.val % 4 = 0) (r : Fin 2048) (l : Fin 256) :
    (outsAt0 m c t.val t.isLt).2.2.2.1 (ix3 0 r l) = (tile m c t).dk 0 0 r l := by
  rw [outsAt0_A m c t h h (by omega) (by omega) (by omega) (by omega)]
  frame_open
  simp (disch := decide) only [↓ View.readCov_skip, ↓ View.readCov_cons_toLoadRect, ↓ View.readCov_fill]
  frame_out
  by_cases h1 : r.val < 512
  · obtain ⟨r', rfl⟩ := Tile.span_zero r h1
    rw [canon_miss _ _ _ 0 1 1 rfl rfl rfl (Or.inl Nat.zero_lt_one)]
    rw [canon_hit _ _ _ (ix3 0 r' l) _ (fun a => by fin_cases a <;> simp [Rect.unit])]
    have e : ∀ i, (tile m c t).s 0 0 i ⟨r'.val, by omega⟩ = (if r'.val ≤ i.val then (tile m c t).w 0 i ⟨r'.val, by omega⟩ else 0) * (tile m c t).g 0 i ⟨r'.val, by omega⟩ * scale := fun i => by
      simp [Tile.s, Tile.p]
    simp only [Tile.dk, e]
    pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay1, k0_pay2, k0_pay3, Tile.w, Tile.g, Tile.q, Tile.k, Tile.kr, Tile.v, Tile.o, Tile.d, Tile.l, scale, tile, pow_masked]
  · rw [canon_miss _ _ _ 0 1 1 rfl rfl rfl (Or.inl Nat.zero_lt_one)]
    rw [canon_miss _ _ _ 1 0 512 rfl rfl rfl (Or.inr (by show 0 + 512 ≤ r.val; omega))]
    rw [canon_hit _ _ _ (ix3 0 r l) _ (fun a => by fin_cases a <;> simp [Rect.unit])]
    rw [Tile.dk_of_le _ _ _ (by omega)]
    pointwise [k0_pay1, k0_pay2]

/-- The first tile's values' sum of head 0. -/
theorem dv_A0 (c : Dev nD) (t : Fin cfg0.N) (h : t.val % 4 = 0) (r : Fin 2048) (l : Fin 128) :
    (outsAt0 m c t.val t.isLt).2.2.2.2 (ix3 0 r l) = (tile m c t).dv 0 0 r l := by
  rw [outsAt0_A m c t h h (by omega) (by omega) (by omega) (by omega)]
  frame_open
  simp (disch := decide) only [↓ View.readCov_skip, ↓ View.readCov_cons_toLoadRect, ↓ View.readCov_fill]
  frame_out
  by_cases h1 : r.val < 512
  · obtain ⟨r', rfl⟩ := Tile.span_zero r h1
    rw [canon_miss _ _ _ 0 1 1 rfl rfl rfl (Or.inl Nat.zero_lt_one)]
    rw [canon_hit _ _ _ (ix3 0 r' l) _ (fun a => by fin_cases a <;> simp [Rect.unit])]
    have e : ∀ i, (tile m c t).p 0 0 i ⟨r'.val, by omega⟩ = if r'.val ≤ i.val then (tile m c t).w 0 i ⟨r'.val, by omega⟩ else 0 := fun i => by
      simp [Tile.p]
    simp only [Tile.dv, e]
    pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay1, k0_pay2, k0_pay3, Tile.w, Tile.g, Tile.q, Tile.k, Tile.kr, Tile.v, Tile.o, Tile.d, Tile.l, scale, tile, pow_masked]
  · rw [canon_miss _ _ _ 0 1 1 rfl rfl rfl (Or.inl Nat.zero_lt_one)]
    rw [canon_miss _ _ _ 1 0 512 rfl rfl rfl (Or.inr (by show 0 + 512 ≤ r.val; omega))]
    rw [canon_hit _ _ _ (ix3 0 r l) _ (fun a => by fin_cases a <;> simp [Rect.unit])]
    rw [Tile.dv_of_le _ _ _ (by omega)]
    pointwise [k0_pay1, k0_pay2]

/-- The first tile's keys' sum of head 1. -/
theorem dk_A1 (c : Dev nD) (t : Fin cfg0.N) (h : t.val % 4 = 0) (r : Fin 2048) (l : Fin 256) :
    (outsAt0 m c t.val t.isLt).2.2.2.1 (ix3 1 r l) = (tile m c t).dk 0 1 r l := by
  rw [outsAt0_A m c t h h (by omega) (by omega) (by omega) (by omega)]
  frame_open
  simp (disch := decide) only [↓ View.readCov_skip, ↓ View.readCov_cons_toLoadRect, ↓ View.readCov_fill]
  frame_out
  by_cases h1 : r.val < 512
  · obtain ⟨r', rfl⟩ := Tile.span_zero r h1
    rw [canon_hit _ _ _ (ix3 0 r' l) _ (fun a => by fin_cases a <;> simp [Rect.unit])]
    have e : ∀ i, (tile m c t).s 0 1 i ⟨r'.val, by omega⟩ = (if r'.val ≤ i.val then (tile m c t).w 1 i ⟨r'.val, by omega⟩ else 0) * (tile m c t).g 1 i ⟨r'.val, by omega⟩ * scale := fun i => by
      simp [Tile.s, Tile.p]
    simp only [Tile.dk, e]
    pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay1, k0_pay2, k0_pay3, Tile.w, Tile.g, Tile.q, Tile.k, Tile.kr, Tile.v, Tile.o, Tile.d, Tile.l, scale, tile, pow_masked]
  · rw [canon_miss _ _ _ 1 0 512 rfl rfl rfl (Or.inr (by show 0 + 512 ≤ r.val; omega))]
    rw [canon_miss _ _ _ 0 0 1 rfl rfl rfl (Or.inr (le_refl 1))]
    rw [canon_hit _ _ _ (ix3 1 r l) _ (fun a => by fin_cases a <;> simp [Rect.unit])]
    rw [Tile.dk_of_le _ _ _ (by omega)]
    pointwise [k0_pay1, k0_pay2]

/-- The first tile's values' sum of head 1. -/
theorem dv_A1 (c : Dev nD) (t : Fin cfg0.N) (h : t.val % 4 = 0) (r : Fin 2048) (l : Fin 128) :
    (outsAt0 m c t.val t.isLt).2.2.2.2 (ix3 1 r l) = (tile m c t).dv 0 1 r l := by
  rw [outsAt0_A m c t h h (by omega) (by omega) (by omega) (by omega)]
  frame_open
  simp (disch := decide) only [↓ View.readCov_skip, ↓ View.readCov_cons_toLoadRect, ↓ View.readCov_fill]
  frame_out
  by_cases h1 : r.val < 512
  · obtain ⟨r', rfl⟩ := Tile.span_zero r h1
    rw [canon_hit _ _ _ (ix3 0 r' l) _ (fun a => by fin_cases a <;> simp [Rect.unit])]
    have e : ∀ i, (tile m c t).p 0 1 i ⟨r'.val, by omega⟩ = if r'.val ≤ i.val then (tile m c t).w 1 i ⟨r'.val, by omega⟩ else 0 := fun i => by
      simp [Tile.p]
    simp only [Tile.dv, e]
    pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay1, k0_pay2, k0_pay3, Tile.w, Tile.g, Tile.q, Tile.k, Tile.kr, Tile.v, Tile.o, Tile.d, Tile.l, scale, tile, pow_masked]
  · rw [canon_miss _ _ _ 1 0 512 rfl rfl rfl (Or.inr (by show 0 + 512 ≤ r.val; omega))]
    rw [canon_miss _ _ _ 0 0 1 rfl rfl rfl (Or.inr (le_refl 1))]
    rw [canon_hit _ _ _ (ix3 1 r l) _ (fun a => by fin_cases a <;> simp [Rect.unit])]
    rw [Tile.dv_of_le _ _ _ (by omega)]
    pointwise [k0_pay1, k0_pay2]

/-- The first tile's gradient of head 0's own query lanes. -/
theorem dqa_A0 (c : Dev nD) (t : Fin cfg0.N) (h : t.val % 4 = 0) (i : Fin 512) (l : Fin 128) :
    (outsAt0 m c t.val t.isLt).1 (ix3 0 i ⟨l.val, by omega⟩) = (tile m c t).dqa 0 0 i l := by
  rw [outsAt0_A m c t h h (by omega) (by omega) (by omega) (by omega)]
  frame_open
  simp (disch := decide) only [↓ View.readCov_skip, ↓ View.readCov_cons_toLoadRect, ↓ View.readCov_fill]
  frame_out
  rw [canon_miss _ _ _ 2 256 256 rfl rfl rfl (Or.inl (by show l.val < 256; omega))]
  rw [canon_hit _ _ _ (ix3 0 i ⟨l.val, by omega⟩) _ (fun a => by fin_cases a <;> simp [Rect.unit])]
  rw [Tile.dqa_split _ 0 0 0 (by omega) (by omega)]
  rw [Finset.univ_eq_empty, Finset.sum_empty, zero_add]
  pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay1, k0_pay2, k0_pay3, Tile.w, Tile.g, Tile.q, Tile.k, Tile.kr, Tile.v, Tile.o, Tile.d, Tile.l, scale, tile, pow_masked]

/-- The first tile's gradient of head 0's rope query lanes. -/
theorem dqr_A0 (c : Dev nD) (t : Fin cfg0.N) (h : t.val % 4 = 0) (i : Fin 512) (l : Fin 128) :
    (outsAt0 m c t.val t.isLt).1 (ix3 0 i ⟨128 + l.val, by omega⟩) = (tile m c t).dqr 0 0 i l := by
  rw [outsAt0_A m c t h h (by omega) (by omega) (by omega) (by omega)]
  frame_open
  simp (disch := decide) only [↓ View.readCov_skip, ↓ View.readCov_cons_toLoadRect, ↓ View.readCov_fill]
  frame_out
  rw [canon_miss _ _ _ 2 256 256 rfl rfl rfl (Or.inl (by show 128 + l.val < 256; omega))]
  rw [canon_hit _ _ _ (ix3 0 i ⟨128 + l.val, by omega⟩) _ (fun a => by fin_cases a <;> simp [Rect.unit])]
  rw [Tile.dqr]
  simp only [Tile.dqb_split _ 0 0 0 (by omega) (by omega)]
  simp only [Finset.univ_eq_empty, Finset.sum_empty, zero_add]
  pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay1, k0_pay2, k0_pay3, Tile.w, Tile.g, Tile.q, Tile.k, Tile.kr, Tile.v, Tile.o, Tile.d, Tile.l, scale, tile, pow_masked]

/-- The first tile's gradient of head 1's own query lanes. -/
theorem dqa_A1 (c : Dev nD) (t : Fin cfg0.N) (h : t.val % 4 = 0) (i : Fin 512) (l : Fin 128) :
    (outsAt0 m c t.val t.isLt).1 (ix3 0 i ⟨256 + l.val, by omega⟩) = (tile m c t).dqa 0 1 i l := by
  rw [outsAt0_A m c t h h (by omega) (by omega) (by omega) (by omega)]
  frame_open
  simp (disch := decide) only [↓ View.readCov_skip, ↓ View.readCov_cons_toLoadRect, ↓ View.readCov_fill]
  frame_out
  rw [canon_hit _ _ _ (ix3 0 i ⟨l.val, by omega⟩) _ (fun a => by fin_cases a <;> simp [Rect.unit])]
  rw [Tile.dqa_split _ 0 1 0 (by omega) (by omega)]
  rw [Finset.univ_eq_empty, Finset.sum_empty, zero_add]
  pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay1, k0_pay2, k0_pay3, Tile.w, Tile.g, Tile.q, Tile.k, Tile.kr, Tile.v, Tile.o, Tile.d, Tile.l, scale, tile, pow_masked]

/-- The first tile's gradient of head 1's rope query lanes. -/
theorem dqr_A1 (c : Dev nD) (t : Fin cfg0.N) (h : t.val % 4 = 0) (i : Fin 512) (l : Fin 128) :
    (outsAt0 m c t.val t.isLt).1 (ix3 0 i ⟨384 + l.val, by omega⟩) = (tile m c t).dqr 0 1 i l := by
  rw [outsAt0_A m c t h h (by omega) (by omega) (by omega) (by omega)]
  frame_open
  simp (disch := decide) only [↓ View.readCov_skip, ↓ View.readCov_cons_toLoadRect, ↓ View.readCov_fill]
  frame_out
  rw [canon_hit _ _ _ (ix3 0 i ⟨128 + l.val, by omega⟩) _ (fun a => by fin_cases a <;> simp [Rect.unit] <;> omega)]
  rw [Tile.dqr]
  simp only [Tile.dqb_split _ 0 1 0 (by omega) (by omega)]
  simp only [Finset.univ_eq_empty, Finset.sum_empty, zero_add]
  pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay1, k0_pay2, k0_pay3, Tile.w, Tile.g, Tile.q, Tile.k, Tile.kr, Tile.v, Tile.o, Tile.d, Tile.l, scale, tile, pow_masked]

end Cert.KernelIdeal.Blocks
-- ==== Proof.BlocksB.lean ====
/- What the grid points of the second query tile leave: the queries' gradient and the sums of the keys' and values' gradients. -/
module

public import proofs.«01_k».proof.Proof.Pieces

@[expose] public section

set_option maxRecDepth 16384
set_option maxHeartbeats 4000000

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ)

/-- The second tile's keys' sum of head 0. -/
theorem dk_B0 (c : Dev nD) (t : Fin cfg0.N) (h : t.val % 4 = 1) (r : Fin 2048) (l : Fin 256) :
    (outsAt0 m c t.val t.isLt).2.2.2.1 (ix3 0 r l) = (outsAt0 m c (t.val - 1) (by omega)).2.2.2.1 (ix3 0 r l) + (tile m c t).dk 1 0 r l := by
  rw [outsAt0_B m c t (by omega) (by omega) h (by omega) (by omega) (by omega)]
  frame_open
  simp (disch := decide) only [↓ View.readCov_skip, ↓ View.readCov_cons_toLoadRect, ↓ View.readCov_fill]
  frame_out
  by_cases h1 : r.val < 512
  · rw [View.read_writes_cons_miss_of_axis _ _ _ _ _ 0 1 1 rfl rfl rfl (Or.inl Nat.zero_lt_one)]
    rw [View.read_writes_cons_miss_of_axis _ _ _ _ _ 0 1 1 rfl rfl rfl (Or.inl Nat.zero_lt_one)]
    rw [View.read_writes_cons_miss_of_axis _ _ _ _ (ix3 0 r l) 1 512 512 rfl rfl rfl (Or.inl h1)]
    rw [View.read_writes_cons_hit_of_coords _ _ _ _ _ (ix3 0 ⟨r.val, h1⟩ l) _ (fun a => by fin_cases a <;> simp [Rect.unit])]
    have e : ∀ i, (tile m c t).s 1 0 i r = (tile m c t).w 0 i r * (tile m c t).g 0 i r * scale := fun i => Tile.s_of_le _ _ _ (by omega)
    simp only [Tile.dk, e]
    try simp only [read_unread_whole]
    pointwise [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay4, Tile.w, Tile.g, Tile.q, Tile.k, Tile.kr, Tile.v, Tile.o, Tile.d, Tile.l, scale, tile, pow_masked]
  by_cases h2 : r.val < 1024
  · obtain ⟨r', rfl⟩ := Tile.span 512 (by decide) r (Nat.le_of_not_lt h1) h2
    rw [View.read_writes_cons_miss_of_axis _ _ _ _ _ 0 1 1 rfl rfl rfl (Or.inl Nat.zero_lt_one)]
    rw [View.read_writes_cons_miss_of_axis _ _ _ _ _ 0 1 1 rfl rfl rfl (Or.inl Nat.zero_lt_one)]
    rw [View.read_writes_cons_hit_of_coords _ _ _ _ _ (ix3 0 r' l) _ (fun a => by fin_cases a <;> simp [Rect.unit])]
    have e : ∀ i, (tile m c t).s 1 0 i ⟨512 + r'.val, by omega⟩ = (if r'.val ≤ i.val then (tile m c t).w 0 i ⟨512 + r'.val, by omega⟩ else 0) * (tile m c t).g 0 i ⟨512 + r'.val, by omega⟩ * scale := fun i => by
      simp [Tile.s, Tile.p]
    simp only [Tile.dk, e]
    try simp only [read_unread_whole]
    pointwise [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay4, Tile.w, Tile.g, Tile.q, Tile.k, Tile.kr, Tile.v, Tile.o, Tile.d, Tile.l, scale, tile, pow_masked]
  · rw [View.read_writes_cons_miss_of_axis _ _ _ _ _ 0 1 1 rfl rfl rfl (Or.inl Nat.zero_lt_one)]
    rw [View.read_writes_cons_miss_of_axis _ _ _ _ _ 0 1 1 rfl rfl rfl (Or.inl Nat.zero_lt_one)]
    rw [View.read_writes_cons_miss_of_axis _ _ _ _ (ix3 0 r l) 1 512 512 rfl rfl rfl (Or.inr (by show 512 + 512 ≤ r.val; omega))]
    rw [View.read_writes_cons_miss_of_axis _ _ _ _ (ix3 0 r l) 1 0 512 rfl rfl rfl (Or.inr (by show 0 + 512 ≤ r.val; omega))]
    rw [Tile.dk_of_le _ _ _ (by omega), add_zero]
    simp only [View.writes_nil, read_unread_whole]

/-- The second tile's values' sum of head 0. -/
theorem dv_B0 (c : Dev nD) (t : Fin cfg0.N) (h : t.val % 4 = 1) (r : Fin 2048) (l : Fin 128) :
    (outsAt0 m c t.val t.isLt).2.2.2.2 (ix3 0 r l) = (outsAt0 m c (t.val - 1) (by omega)).2.2.2.2 (ix3 0 r l) + (tile m c t).dv 1 0 r l := by
  rw [outsAt0_B m c t (by omega) (by omega) h (by omega) (by omega) (by omega)]
  frame_open
  simp (disch := decide) only [↓ View.readCov_skip, ↓ View.readCov_cons_toLoadRect, ↓ View.readCov_fill]
  frame_out
  by_cases h1 : r.val < 512
  · rw [View.read_writes_cons_miss_of_axis _ _ _ _ _ 0 1 1 rfl rfl rfl (Or.inl Nat.zero_lt_one)]
    rw [View.read_writes_cons_miss_of_axis _ _ _ _ _ 0 1 1 rfl rfl rfl (Or.inl Nat.zero_lt_one)]
    rw [View.read_writes_cons_miss_of_axis _ _ _ _ (ix3 0 r l) 1 512 512 rfl rfl rfl (Or.inl h1)]
    rw [View.read_writes_cons_hit_of_coords _ _ _ _ _ (ix3 0 ⟨r.val, h1⟩ l) _ (fun a => by fin_cases a <;> simp [Rect.unit])]
    have e : ∀ i, (tile m c t).p 1 0 i r = (tile m c t).w 0 i r := fun i => Tile.p_of_le _ _ _ (by omega)
    simp only [Tile.dv, e]
    try simp only [read_unread_whole]
    pointwise [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay4, Tile.w, Tile.g, Tile.q, Tile.k, Tile.kr, Tile.v, Tile.o, Tile.d, Tile.l, scale, tile, pow_masked]
  by_cases h2 : r.val < 1024
  · obtain ⟨r', rfl⟩ := Tile.span 512 (by decide) r (Nat.le_of_not_lt h1) h2
    rw [View.read_writes_cons_miss_of_axis _ _ _ _ _ 0 1 1 rfl rfl rfl (Or.inl Nat.zero_lt_one)]
    rw [View.read_writes_cons_miss_of_axis _ _ _ _ _ 0 1 1 rfl rfl rfl (Or.inl Nat.zero_lt_one)]
    rw [View.read_writes_cons_hit_of_coords _ _ _ _ _ (ix3 0 r' l) _ (fun a => by fin_cases a <;> simp [Rect.unit])]
    have e : ∀ i, (tile m c t).p 1 0 i ⟨512 + r'.val, by omega⟩ = if r'.val ≤ i.val then (tile m c t).w 0 i ⟨512 + r'.val, by omega⟩ else 0 := fun i => by
      simp [Tile.p]
    simp only [Tile.dv, e]
    try simp only [read_unread_whole]
    pointwise [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay4, Tile.w, Tile.g, Tile.q, Tile.k, Tile.kr, Tile.v, Tile.o, Tile.d, Tile.l, scale, tile, pow_masked]
  · rw [View.read_writes_cons_miss_of_axis _ _ _ _ _ 0 1 1 rfl rfl rfl (Or.inl Nat.zero_lt_one)]
    rw [View.read_writes_cons_miss_of_axis _ _ _ _ _ 0 1 1 rfl rfl rfl (Or.inl Nat.zero_lt_one)]
    rw [View.read_writes_cons_miss_of_axis _ _ _ _ (ix3 0 r l) 1 512 512 rfl rfl rfl (Or.inr (by show 512 + 512 ≤ r.val; omega))]
    rw [View.read_writes_cons_miss_of_axis _ _ _ _ (ix3 0 r l) 1 0 512 rfl rfl rfl (Or.inr (by show 0 + 512 ≤ r.val; omega))]
    rw [Tile.dv_of_le _ _ _ (by omega), add_zero]
    simp only [View.writes_nil, read_unread_whole]

/-- The second tile's keys' sum of head 1. -/
theorem dk_B1 (c : Dev nD) (t : Fin cfg0.N) (h : t.val % 4 = 1) (r : Fin 2048) (l : Fin 256) :
    (outsAt0 m c t.val t.isLt).2.2.2.1 (ix3 1 r l) = (outsAt0 m c (t.val - 1) (by omega)).2.2.2.1 (ix3 1 r l) + (tile m c t).dk 1 1 r l := by
  rw [outsAt0_B m c t (by omega) (by omega) h (by omega) (by omega) (by omega)]
  frame_open
  simp (disch := decide) only [↓ View.readCov_skip, ↓ View.readCov_cons_toLoadRect, ↓ View.readCov_fill]
  frame_out
  by_cases h1 : r.val < 512
  · rw [View.read_writes_cons_miss_of_axis _ _ _ _ (ix3 1 r l) 1 512 512 rfl rfl rfl (Or.inl h1)]
    rw [View.read_writes_cons_hit_of_coords _ _ _ _ _ (ix3 0 ⟨r.val, h1⟩ l) _ (fun a => by fin_cases a <;> simp [Rect.unit])]
    have e : ∀ i, (tile m c t).s 1 1 i r = (tile m c t).w 1 i r * (tile m c t).g 1 i r * scale := fun i => Tile.s_of_le _ _ _ (by omega)
    simp only [Tile.dk, e]
    try simp only [read_unread_whole]
    pointwise [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay4, Tile.w, Tile.g, Tile.q, Tile.k, Tile.kr, Tile.v, Tile.o, Tile.d, Tile.l, scale, tile, pow_masked]
  by_cases h2 : r.val < 1024
  · obtain ⟨r', rfl⟩ := Tile.span 512 (by decide) r (Nat.le_of_not_lt h1) h2
    rw [View.read_writes_cons_hit_of_coords _ _ _ _ _ (ix3 0 r' l) _ (fun a => by fin_cases a <;> simp [Rect.unit])]
    have e : ∀ i, (tile m c t).s 1 1 i ⟨512 + r'.val, by omega⟩ = (if r'.val ≤ i.val then (tile m c t).w 1 i ⟨512 + r'.val, by omega⟩ else 0) * (tile m c t).g 1 i ⟨512 + r'.val, by omega⟩ * scale := fun i => by
      simp [Tile.s, Tile.p]
    simp only [Tile.dk, e]
    try simp only [read_unread_whole]
    pointwise [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay4, Tile.w, Tile.g, Tile.q, Tile.k, Tile.kr, Tile.v, Tile.o, Tile.d, Tile.l, scale, tile, pow_masked]
  · rw [View.read_writes_cons_miss_of_axis _ _ _ _ (ix3 1 r l) 1 512 512 rfl rfl rfl (Or.inr (by show 512 + 512 ≤ r.val; omega))]
    rw [View.read_writes_cons_miss_of_axis _ _ _ _ (ix3 1 r l) 1 0 512 rfl rfl rfl (Or.inr (by show 0 + 512 ≤ r.val; omega))]
    rw [View.read_writes_cons_miss_of_axis _ _ _ _ _ 0 0 1 rfl rfl rfl (Or.inr (le_refl 1))]
    rw [View.read_writes_cons_miss_of_axis _ _ _ _ _ 0 0 1 rfl rfl rfl (Or.inr (le_refl 1))]
    rw [Tile.dk_of_le _ _ _ (by omega), add_zero]
    simp only [View.writes_nil, read_unread_whole]

/-- The second tile's values' sum of head 1. -/
theorem dv_B1 (c : Dev nD) (t : Fin cfg0.N) (h : t.val % 4 = 1) (r : Fin 2048) (l : Fin 128) :
    (outsAt0 m c t.val t.isLt).2.2.2.2 (ix3 1 r l) = (outsAt0 m c (t.val - 1) (by omega)).2.2.2.2 (ix3 1 r l) + (tile m c t).dv 1 1 r l := by
  rw [outsAt0_B m c t (by omega) (by omega) h (by omega) (by omega) (by omega)]
  frame_open
  simp (disch := decide) only [↓ View.readCov_skip, ↓ View.readCov_cons_toLoadRect, ↓ View.readCov_fill]
  frame_out
  by_cases h1 : r.val < 512
  · rw [View.read_writes_cons_miss_of_axis _ _ _ _ (ix3 1 r l) 1 512 512 rfl rfl rfl (Or.inl h1)]
    rw [View.read_writes_cons_hit_of_coords _ _ _ _ _ (ix3 0 ⟨r.val, h1⟩ l) _ (fun a => by fin_cases a <;> simp [Rect.unit])]
    have e : ∀ i, (tile m c t).p 1 1 i r = (tile m c t).w 1 i r := fun i => Tile.p_of_le _ _ _ (by omega)
    simp only [Tile.dv, e]
    try simp only [read_unread_whole]
    pointwise [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay4, Tile.w, Tile.g, Tile.q, Tile.k, Tile.kr, Tile.v, Tile.o, Tile.d, Tile.l, scale, tile, pow_masked]
  by_cases h2 : r.val < 1024
  · obtain ⟨r', rfl⟩ := Tile.span 512 (by decide) r (Nat.le_of_not_lt h1) h2
    rw [View.read_writes_cons_hit_of_coords _ _ _ _ _ (ix3 0 r' l) _ (fun a => by fin_cases a <;> simp [Rect.unit])]
    have e : ∀ i, (tile m c t).p 1 1 i ⟨512 + r'.val, by omega⟩ = if r'.val ≤ i.val then (tile m c t).w 1 i ⟨512 + r'.val, by omega⟩ else 0 := fun i => by
      simp [Tile.p]
    simp only [Tile.dv, e]
    try simp only [read_unread_whole]
    pointwise [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay4, Tile.w, Tile.g, Tile.q, Tile.k, Tile.kr, Tile.v, Tile.o, Tile.d, Tile.l, scale, tile, pow_masked]
  · rw [View.read_writes_cons_miss_of_axis _ _ _ _ (ix3 1 r l) 1 512 512 rfl rfl rfl (Or.inr (by show 512 + 512 ≤ r.val; omega))]
    rw [View.read_writes_cons_miss_of_axis _ _ _ _ (ix3 1 r l) 1 0 512 rfl rfl rfl (Or.inr (by show 0 + 512 ≤ r.val; omega))]
    rw [View.read_writes_cons_miss_of_axis _ _ _ _ _ 0 0 1 rfl rfl rfl (Or.inr (le_refl 1))]
    rw [View.read_writes_cons_miss_of_axis _ _ _ _ _ 0 0 1 rfl rfl rfl (Or.inr (le_refl 1))]
    rw [Tile.dv_of_le _ _ _ (by omega), add_zero]
    simp only [View.writes_nil, read_unread_whole]

/-- The second tile's gradient of head 0's own query lanes. -/
theorem dqa_B0 (c : Dev nD) (t : Fin cfg0.N) (h : t.val % 4 = 1) (i : Fin 512) (l : Fin 128) :
    (outsAt0 m c t.val t.isLt).1 (ix3 0 i ⟨l.val, by omega⟩) = (tile m c t).dqa 1 0 i l := by
  rw [outsAt0_B m c t (by omega) (by omega) h (by omega) (by omega) (by omega)]
  frame_open
  simp (disch := decide) only [↓ View.readCov_skip, ↓ View.readCov_cons_toLoadRect, ↓ View.readCov_fill]
  frame_out
  rw [canon_miss _ _ _ 2 256 256 rfl rfl rfl (Or.inl (by show l.val < 256; omega))]
  rw [canon_hit _ _ _ (ix3 0 i ⟨l.val, by omega⟩) _ (fun a => by fin_cases a <;> simp [Rect.unit])]
  rw [Tile.dqa_split _ 1 0 512 (by omega) (by omega)]
  pointwise [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay4, Tile.w, Tile.g, Tile.q, Tile.k, Tile.kr, Tile.v, Tile.o, Tile.d, Tile.l, scale, tile, pow_masked]

/-- The second tile's gradient of head 0's rope query lanes. -/
theorem dqr_B0 (c : Dev nD) (t : Fin cfg0.N) (h : t.val % 4 = 1) (i : Fin 512) (l : Fin 128) :
    (outsAt0 m c t.val t.isLt).1 (ix3 0 i ⟨128 + l.val, by omega⟩) = (tile m c t).dqr 1 0 i l := by
  rw [outsAt0_B m c t (by omega) (by omega) h (by omega) (by omega) (by omega)]
  frame_open
  simp (disch := decide) only [↓ View.readCov_skip, ↓ View.readCov_cons_toLoadRect, ↓ View.readCov_fill]
  frame_out
  rw [canon_miss _ _ _ 2 256 256 rfl rfl rfl (Or.inl (by show 128 + l.val < 256; omega))]
  rw [canon_hit _ _ _ (ix3 0 i ⟨128 + l.val, by omega⟩) _ (fun a => by fin_cases a <;> simp [Rect.unit])]
  rw [Tile.dqr]
  simp only [Tile.dqb_split _ 1 0 512 (by omega) (by omega)]
  pointwise [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay4, Tile.w, Tile.g, Tile.q, Tile.k, Tile.kr, Tile.v, Tile.o, Tile.d, Tile.l, scale, tile, pow_masked]

/-- The second tile's gradient of head 1's own query lanes. -/
theorem dqa_B1 (c : Dev nD) (t : Fin cfg0.N) (h : t.val % 4 = 1) (i : Fin 512) (l : Fin 128) :
    (outsAt0 m c t.val t.isLt).1 (ix3 0 i ⟨256 + l.val, by omega⟩) = (tile m c t).dqa 1 1 i l := by
  rw [outsAt0_B m c t (by omega) (by omega) h (by omega) (by omega) (by omega)]
  frame_open
  simp (disch := decide) only [↓ View.readCov_skip, ↓ View.readCov_cons_toLoadRect, ↓ View.readCov_fill]
  frame_out
  rw [canon_hit _ _ _ (ix3 0 i ⟨l.val, by omega⟩) _ (fun a => by fin_cases a <;> simp [Rect.unit])]
  rw [Tile.dqa_split _ 1 1 512 (by omega) (by omega)]
  pointwise [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay4, Tile.w, Tile.g, Tile.q, Tile.k, Tile.kr, Tile.v, Tile.o, Tile.d, Tile.l, scale, tile, pow_masked]

/-- The second tile's gradient of head 1's rope query lanes. -/
theorem dqr_B1 (c : Dev nD) (t : Fin cfg0.N) (h : t.val % 4 = 1) (i : Fin 512) (l : Fin 128) :
    (outsAt0 m c t.val t.isLt).1 (ix3 0 i ⟨384 + l.val, by omega⟩) = (tile m c t).dqr 1 1 i l := by
  rw [outsAt0_B m c t (by omega) (by omega) h (by omega) (by omega) (by omega)]
  frame_open
  simp (disch := decide) only [↓ View.readCov_skip, ↓ View.readCov_cons_toLoadRect, ↓ View.readCov_fill]
  frame_out
  rw [canon_hit _ _ _ (ix3 0 i ⟨128 + l.val, by omega⟩) _ (fun a => by fin_cases a <;> simp [Rect.unit] <;> omega)]
  rw [Tile.dqr]
  simp only [Tile.dqb_split _ 1 1 512 (by omega) (by omega)]
  pointwise [k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay4, Tile.w, Tile.g, Tile.q, Tile.k, Tile.kr, Tile.v, Tile.o, Tile.d, Tile.l, scale, tile, pow_masked]

end Cert.KernelIdeal.Blocks
-- ==== Proof.BlocksC.lean ====
/- What the grid points of the third query tile leave: the queries' gradient and the sums of the keys' and values' gradients. -/
module

public import proofs.«01_k».proof.Proof.Pieces

@[expose] public section

set_option maxRecDepth 16384
set_option maxHeartbeats 4000000

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ)

/-- The third tile's keys' sum of head 0. -/
theorem dk_C0 (c : Dev nD) (t : Fin cfg0.N) (h : t.val % 4 = 2) (r : Fin 2048) (l : Fin 256) :
    (outsAt0 m c t.val t.isLt).2.2.2.1 (ix3 0 r l) = (outsAt0 m c (t.val - 1) (by omega)).2.2.2.1 (ix3 0 r l) + (tile m c t).dk 2 0 r l := by
  rw [outsAt0_C m c t (by omega) (by omega) (by omega) h (by omega) (by omega)]
  frame_open
  simp (disch := decide) only [↓ View.readCov_skip, ↓ View.readCov_cons_toLoadRect, ↓ View.readCov_fill]
  frame_out
  by_cases h1 : r.val < 1024
  · rw [View.read_writes_cons_miss_of_axis _ _ _ _ _ 0 1 1 rfl rfl rfl (Or.inl Nat.zero_lt_one)]
    rw [View.read_writes_cons_miss_of_axis _ _ _ _ _ 0 1 1 rfl rfl rfl (Or.inl Nat.zero_lt_one)]
    rw [View.read_writes_cons_miss_of_axis _ _ _ _ (ix3 0 r l) 1 1024 512 rfl rfl rfl (Or.inl h1)]
    rw [View.read_writes_cons_hit_of_coords _ _ _ _ _ (ix3 0 ⟨r.val, h1⟩ l) _ (fun a => by fin_cases a <;> simp [Rect.unit])]
    have e : ∀ i, (tile m c t).s 2 0 i r = (tile m c t).w 0 i r * (tile m c t).g 0 i r * scale := fun i => Tile.s_of_le _ _ _ (by omega)
    simp only [Tile.dk, e]
    try simp only [read_unread_whole]
    pointwise [k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay5, Tile.w, Tile.g, Tile.q, Tile.k, Tile.kr, Tile.v, Tile.o, Tile.d, Tile.l, scale, tile, pow_masked]
  by_cases h2 : r.val < 1536
  · obtain ⟨r', rfl⟩ := Tile.span 1024 (by decide) r (Nat.le_of_not_lt h1) h2
    rw [View.read_writes_cons_miss_of_axis _ _ _ _ _ 0 1 1 rfl rfl rfl (Or.inl Nat.zero_lt_one)]
    rw [View.read_writes_cons_miss_of_axis _ _ _ _ _ 0 1 1 rfl rfl rfl (Or.inl Nat.zero_lt_one)]
    rw [View.read_writes_cons_hit_of_coords _ _ _ _ _ (ix3 0 r' l) _ (fun a => by fin_cases a <;> simp [Rect.unit])]
    have e : ∀ i, (tile m c t).s 2 0 i ⟨1024 + r'.val, by omega⟩ = (if r'.val ≤ i.val then (tile m c t).w 0 i ⟨1024 + r'.val, by omega⟩ else 0) * (tile m c t).g 0 i ⟨1024 + r'.val, by omega⟩ * scale := fun i => by
      simp [Tile.s, Tile.p]
    simp only [Tile.dk, e]
    try simp only [read_unread_whole]
    pointwise [k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay5, Tile.w, Tile.g, Tile.q, Tile.k, Tile.kr, Tile.v, Tile.o, Tile.d, Tile.l, scale, tile, pow_masked]
  · rw [View.read_writes_cons_miss_of_axis _ _ _ _ _ 0 1 1 rfl rfl rfl (Or.inl Nat.zero_lt_one)]
    rw [View.read_writes_cons_miss_of_axis _ _ _ _ _ 0 1 1 rfl rfl rfl (Or.inl Nat.zero_lt_one)]
    rw [View.read_writes_cons_miss_of_axis _ _ _ _ (ix3 0 r l) 1 1024 512 rfl rfl rfl (Or.inr (by show 1024 + 512 ≤ r.val; omega))]
    rw [View.read_writes_cons_miss_of_axis _ _ _ _ (ix3 0 r l) 1 0 1024 rfl rfl rfl (Or.inr (by show 0 + 1024 ≤ r.val; omega))]
    rw [Tile.dk_of_le _ _ _ (by omega), add_zero]
    simp only [View.writes_nil, read_unread_whole]

/-- The third tile's values' sum of head 0. -/
theorem dv_C0 (c : Dev nD) (t : Fin cfg0.N) (h : t.val % 4 = 2) (r : Fin 2048) (l : Fin 128) :
    (outsAt0 m c t.val t.isLt).2.2.2.2 (ix3 0 r l) = (outsAt0 m c (t.val - 1) (by omega)).2.2.2.2 (ix3 0 r l) + (tile m c t).dv 2 0 r l := by
  rw [outsAt0_C m c t (by omega) (by omega) (by omega) h (by omega) (by omega)]
  frame_open
  simp (disch := decide) only [↓ View.readCov_skip, ↓ View.readCov_cons_toLoadRect, ↓ View.readCov_fill]
  frame_out
  by_cases h1 : r.val < 1024
  · rw [View.read_writes_cons_miss_of_axis _ _ _ _ _ 0 1 1 rfl rfl rfl (Or.inl Nat.zero_lt_one)]
    rw [View.read_writes_cons_miss_of_axis _ _ _ _ _ 0 1 1 rfl rfl rfl (Or.inl Nat.zero_lt_one)]
    rw [View.read_writes_cons_miss_of_axis _ _ _ _ (ix3 0 r l) 1 1024 512 rfl rfl rfl (Or.inl h1)]
    rw [View.read_writes_cons_hit_of_coords _ _ _ _ _ (ix3 0 ⟨r.val, h1⟩ l) _ (fun a => by fin_cases a <;> simp [Rect.unit])]
    have e : ∀ i, (tile m c t).p 2 0 i r = (tile m c t).w 0 i r := fun i => Tile.p_of_le _ _ _ (by omega)
    simp only [Tile.dv, e]
    try simp only [read_unread_whole]
    pointwise [k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay5, Tile.w, Tile.g, Tile.q, Tile.k, Tile.kr, Tile.v, Tile.o, Tile.d, Tile.l, scale, tile, pow_masked]
  by_cases h2 : r.val < 1536
  · obtain ⟨r', rfl⟩ := Tile.span 1024 (by decide) r (Nat.le_of_not_lt h1) h2
    rw [View.read_writes_cons_miss_of_axis _ _ _ _ _ 0 1 1 rfl rfl rfl (Or.inl Nat.zero_lt_one)]
    rw [View.read_writes_cons_miss_of_axis _ _ _ _ _ 0 1 1 rfl rfl rfl (Or.inl Nat.zero_lt_one)]
    rw [View.read_writes_cons_hit_of_coords _ _ _ _ _ (ix3 0 r' l) _ (fun a => by fin_cases a <;> simp [Rect.unit])]
    have e : ∀ i, (tile m c t).p 2 0 i ⟨1024 + r'.val, by omega⟩ = if r'.val ≤ i.val then (tile m c t).w 0 i ⟨1024 + r'.val, by omega⟩ else 0 := fun i => by
      simp [Tile.p]
    simp only [Tile.dv, e]
    try simp only [read_unread_whole]
    pointwise [k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay5, Tile.w, Tile.g, Tile.q, Tile.k, Tile.kr, Tile.v, Tile.o, Tile.d, Tile.l, scale, tile, pow_masked]
  · rw [View.read_writes_cons_miss_of_axis _ _ _ _ _ 0 1 1 rfl rfl rfl (Or.inl Nat.zero_lt_one)]
    rw [View.read_writes_cons_miss_of_axis _ _ _ _ _ 0 1 1 rfl rfl rfl (Or.inl Nat.zero_lt_one)]
    rw [View.read_writes_cons_miss_of_axis _ _ _ _ (ix3 0 r l) 1 1024 512 rfl rfl rfl (Or.inr (by show 1024 + 512 ≤ r.val; omega))]
    rw [View.read_writes_cons_miss_of_axis _ _ _ _ (ix3 0 r l) 1 0 1024 rfl rfl rfl (Or.inr (by show 0 + 1024 ≤ r.val; omega))]
    rw [Tile.dv_of_le _ _ _ (by omega), add_zero]
    simp only [View.writes_nil, read_unread_whole]

/-- The third tile's keys' sum of head 1. -/
theorem dk_C1 (c : Dev nD) (t : Fin cfg0.N) (h : t.val % 4 = 2) (r : Fin 2048) (l : Fin 256) :
    (outsAt0 m c t.val t.isLt).2.2.2.1 (ix3 1 r l) = (outsAt0 m c (t.val - 1) (by omega)).2.2.2.1 (ix3 1 r l) + (tile m c t).dk 2 1 r l := by
  rw [outsAt0_C m c t (by omega) (by omega) (by omega) h (by omega) (by omega)]
  frame_open
  simp (disch := decide) only [↓ View.readCov_skip, ↓ View.readCov_cons_toLoadRect, ↓ View.readCov_fill]
  frame_out
  by_cases h1 : r.val < 1024
  · rw [View.read_writes_cons_miss_of_axis _ _ _ _ (ix3 1 r l) 1 1024 512 rfl rfl rfl (Or.inl h1)]
    rw [View.read_writes_cons_hit_of_coords _ _ _ _ _ (ix3 0 ⟨r.val, h1⟩ l) _ (fun a => by fin_cases a <;> simp [Rect.unit])]
    have e : ∀ i, (tile m c t).s 2 1 i r = (tile m c t).w 1 i r * (tile m c t).g 1 i r * scale := fun i => Tile.s_of_le _ _ _ (by omega)
    simp only [Tile.dk, e]
    try simp only [read_unread_whole]
    pointwise [k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay5, Tile.w, Tile.g, Tile.q, Tile.k, Tile.kr, Tile.v, Tile.o, Tile.d, Tile.l, scale, tile, pow_masked]
  by_cases h2 : r.val < 1536
  · obtain ⟨r', rfl⟩ := Tile.span 1024 (by decide) r (Nat.le_of_not_lt h1) h2
    rw [View.read_writes_cons_hit_of_coords _ _ _ _ _ (ix3 0 r' l) _ (fun a => by fin_cases a <;> simp [Rect.unit])]
    have e : ∀ i, (tile m c t).s 2 1 i ⟨1024 + r'.val, by omega⟩ = (if r'.val ≤ i.val then (tile m c t).w 1 i ⟨1024 + r'.val, by omega⟩ else 0) * (tile m c t).g 1 i ⟨1024 + r'.val, by omega⟩ * scale := fun i => by
      simp [Tile.s, Tile.p]
    simp only [Tile.dk, e]
    try simp only [read_unread_whole]
    pointwise [k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay5, Tile.w, Tile.g, Tile.q, Tile.k, Tile.kr, Tile.v, Tile.o, Tile.d, Tile.l, scale, tile, pow_masked]
  · rw [View.read_writes_cons_miss_of_axis _ _ _ _ (ix3 1 r l) 1 1024 512 rfl rfl rfl (Or.inr (by show 1024 + 512 ≤ r.val; omega))]
    rw [View.read_writes_cons_miss_of_axis _ _ _ _ (ix3 1 r l) 1 0 1024 rfl rfl rfl (Or.inr (by show 0 + 1024 ≤ r.val; omega))]
    rw [View.read_writes_cons_miss_of_axis _ _ _ _ _ 0 0 1 rfl rfl rfl (Or.inr (le_refl 1))]
    rw [View.read_writes_cons_miss_of_axis _ _ _ _ _ 0 0 1 rfl rfl rfl (Or.inr (le_refl 1))]
    rw [Tile.dk_of_le _ _ _ (by omega), add_zero]
    simp only [View.writes_nil, read_unread_whole]

/-- The third tile's values' sum of head 1. -/
theorem dv_C1 (c : Dev nD) (t : Fin cfg0.N) (h : t.val % 4 = 2) (r : Fin 2048) (l : Fin 128) :
    (outsAt0 m c t.val t.isLt).2.2.2.2 (ix3 1 r l) = (outsAt0 m c (t.val - 1) (by omega)).2.2.2.2 (ix3 1 r l) + (tile m c t).dv 2 1 r l := by
  rw [outsAt0_C m c t (by omega) (by omega) (by omega) h (by omega) (by omega)]
  frame_open
  simp (disch := decide) only [↓ View.readCov_skip, ↓ View.readCov_cons_toLoadRect, ↓ View.readCov_fill]
  frame_out
  by_cases h1 : r.val < 1024
  · rw [View.read_writes_cons_miss_of_axis _ _ _ _ (ix3 1 r l) 1 1024 512 rfl rfl rfl (Or.inl h1)]
    rw [View.read_writes_cons_hit_of_coords _ _ _ _ _ (ix3 0 ⟨r.val, h1⟩ l) _ (fun a => by fin_cases a <;> simp [Rect.unit])]
    have e : ∀ i, (tile m c t).p 2 1 i r = (tile m c t).w 1 i r := fun i => Tile.p_of_le _ _ _ (by omega)
    simp only [Tile.dv, e]
    try simp only [read_unread_whole]
    pointwise [k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay5, Tile.w, Tile.g, Tile.q, Tile.k, Tile.kr, Tile.v, Tile.o, Tile.d, Tile.l, scale, tile, pow_masked]
  by_cases h2 : r.val < 1536
  · obtain ⟨r', rfl⟩ := Tile.span 1024 (by decide) r (Nat.le_of_not_lt h1) h2
    rw [View.read_writes_cons_hit_of_coords _ _ _ _ _ (ix3 0 r' l) _ (fun a => by fin_cases a <;> simp [Rect.unit])]
    have e : ∀ i, (tile m c t).p 2 1 i ⟨1024 + r'.val, by omega⟩ = if r'.val ≤ i.val then (tile m c t).w 1 i ⟨1024 + r'.val, by omega⟩ else 0 := fun i => by
      simp [Tile.p]
    simp only [Tile.dv, e]
    try simp only [read_unread_whole]
    pointwise [k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay5, Tile.w, Tile.g, Tile.q, Tile.k, Tile.kr, Tile.v, Tile.o, Tile.d, Tile.l, scale, tile, pow_masked]
  · rw [View.read_writes_cons_miss_of_axis _ _ _ _ (ix3 1 r l) 1 1024 512 rfl rfl rfl (Or.inr (by show 1024 + 512 ≤ r.val; omega))]
    rw [View.read_writes_cons_miss_of_axis _ _ _ _ (ix3 1 r l) 1 0 1024 rfl rfl rfl (Or.inr (by show 0 + 1024 ≤ r.val; omega))]
    rw [View.read_writes_cons_miss_of_axis _ _ _ _ _ 0 0 1 rfl rfl rfl (Or.inr (le_refl 1))]
    rw [View.read_writes_cons_miss_of_axis _ _ _ _ _ 0 0 1 rfl rfl rfl (Or.inr (le_refl 1))]
    rw [Tile.dv_of_le _ _ _ (by omega), add_zero]
    simp only [View.writes_nil, read_unread_whole]

/-- The third tile's gradient of head 0's own query lanes. -/
theorem dqa_C0 (c : Dev nD) (t : Fin cfg0.N) (h : t.val % 4 = 2) (i : Fin 512) (l : Fin 128) :
    (outsAt0 m c t.val t.isLt).1 (ix3 0 i ⟨l.val, by omega⟩) = (tile m c t).dqa 2 0 i l := by
  rw [outsAt0_C m c t (by omega) (by omega) (by omega) h (by omega) (by omega)]
  frame_open
  simp (disch := decide) only [↓ View.readCov_skip, ↓ View.readCov_cons_toLoadRect, ↓ View.readCov_fill]
  frame_out
  rw [canon_miss _ _ _ 2 256 256 rfl rfl rfl (Or.inl (by show l.val < 256; omega))]
  rw [canon_hit _ _ _ (ix3 0 i ⟨l.val, by omega⟩) _ (fun a => by fin_cases a <;> simp [Rect.unit])]
  rw [Tile.dqa_split _ 2 0 1024 (by omega) (by omega)]
  pointwise [k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay5, Tile.w, Tile.g, Tile.q, Tile.k, Tile.kr, Tile.v, Tile.o, Tile.d, Tile.l, scale, tile, pow_masked]

/-- The third tile's gradient of head 0's rope query lanes. -/
theorem dqr_C0 (c : Dev nD) (t : Fin cfg0.N) (h : t.val % 4 = 2) (i : Fin 512) (l : Fin 128) :
    (outsAt0 m c t.val t.isLt).1 (ix3 0 i ⟨128 + l.val, by omega⟩) = (tile m c t).dqr 2 0 i l := by
  rw [outsAt0_C m c t (by omega) (by omega) (by omega) h (by omega) (by omega)]
  frame_open
  simp (disch := decide) only [↓ View.readCov_skip, ↓ View.readCov_cons_toLoadRect, ↓ View.readCov_fill]
  frame_out
  rw [canon_miss _ _ _ 2 256 256 rfl rfl rfl (Or.inl (by show 128 + l.val < 256; omega))]
  rw [canon_hit _ _ _ (ix3 0 i ⟨128 + l.val, by omega⟩) _ (fun a => by fin_cases a <;> simp [Rect.unit])]
  rw [Tile.dqr]
  simp only [Tile.dqb_split _ 2 0 1024 (by omega) (by omega)]
  pointwise [k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay5, Tile.w, Tile.g, Tile.q, Tile.k, Tile.kr, Tile.v, Tile.o, Tile.d, Tile.l, scale, tile, pow_masked]

/-- The third tile's gradient of head 1's own query lanes. -/
theorem dqa_C1 (c : Dev nD) (t : Fin cfg0.N) (h : t.val % 4 = 2) (i : Fin 512) (l : Fin 128) :
    (outsAt0 m c t.val t.isLt).1 (ix3 0 i ⟨256 + l.val, by omega⟩) = (tile m c t).dqa 2 1 i l := by
  rw [outsAt0_C m c t (by omega) (by omega) (by omega) h (by omega) (by omega)]
  frame_open
  simp (disch := decide) only [↓ View.readCov_skip, ↓ View.readCov_cons_toLoadRect, ↓ View.readCov_fill]
  frame_out
  rw [canon_hit _ _ _ (ix3 0 i ⟨l.val, by omega⟩) _ (fun a => by fin_cases a <;> simp [Rect.unit])]
  rw [Tile.dqa_split _ 2 1 1024 (by omega) (by omega)]
  pointwise [k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay5, Tile.w, Tile.g, Tile.q, Tile.k, Tile.kr, Tile.v, Tile.o, Tile.d, Tile.l, scale, tile, pow_masked]

/-- The third tile's gradient of head 1's rope query lanes. -/
theorem dqr_C1 (c : Dev nD) (t : Fin cfg0.N) (h : t.val % 4 = 2) (i : Fin 512) (l : Fin 128) :
    (outsAt0 m c t.val t.isLt).1 (ix3 0 i ⟨384 + l.val, by omega⟩) = (tile m c t).dqr 2 1 i l := by
  rw [outsAt0_C m c t (by omega) (by omega) (by omega) h (by omega) (by omega)]
  frame_open
  simp (disch := decide) only [↓ View.readCov_skip, ↓ View.readCov_cons_toLoadRect, ↓ View.readCov_fill]
  frame_out
  rw [canon_hit _ _ _ (ix3 0 i ⟨128 + l.val, by omega⟩) _ (fun a => by fin_cases a <;> simp [Rect.unit] <;> omega)]
  rw [Tile.dqr]
  simp only [Tile.dqb_split _ 2 1 1024 (by omega) (by omega)]
  pointwise [k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay5, Tile.w, Tile.g, Tile.q, Tile.k, Tile.kr, Tile.v, Tile.o, Tile.d, Tile.l, scale, tile, pow_masked]

end Cert.KernelIdeal.Blocks
-- ==== Proof.BlocksD.lean ====
/- What the grid points of the last query tile leave: the queries' gradient and the sums of the keys' and values' gradients. -/
module

public import proofs.«01_k».proof.Proof.Pieces

@[expose] public section

set_option maxRecDepth 16384
set_option maxHeartbeats 4000000

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ)

/-- The last tile's keys' sum of head 0. -/
theorem dk_D0 (c : Dev nD) (t : Fin cfg0.N) (h : t.val % 4 = 3) (r : Fin 2048) (l : Fin 256) :
    (outsAt0 m c t.val t.isLt).2.2.2.1 (ix3 0 r l) = (outsAt0 m c (t.val - 1) (by omega)).2.2.2.1 (ix3 0 r l) + (tile m c t).dk 3 0 r l := by
  rw [outsAt0_D m c t (by omega) (by omega) (by omega) (by omega) h h]
  frame_open
  simp (disch := decide) only [↓ View.readCov_skip, ↓ View.readCov_cons_toLoadRect, ↓ View.readCov_fill]
  frame_out
  by_cases h1 : r.val < 1536
  · rw [canon_miss _ _ _ 0 1 1 rfl rfl rfl (Or.inl Nat.zero_lt_one)]
    rw [canon_miss _ _ _ 0 1 1 rfl rfl rfl (Or.inl Nat.zero_lt_one)]
    rw [canon_miss _ _ (ix3 0 r l) 1 1536 512 rfl rfl rfl (Or.inl h1)]
    rw [canon_hit _ _ _ (ix3 0 ⟨r.val, h1⟩ l) _ (fun a => by fin_cases a <;> simp [Rect.unit])]
    have e : ∀ i, (tile m c t).s 3 0 i r = (tile m c t).w 0 i r * (tile m c t).g 0 i r * scale := fun i => Tile.s_of_le _ _ _ (by omega)
    simp only [Tile.dk, e]
    try simp only [read_unread_whole]
    pointwise [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay6, Tile.w, Tile.g, Tile.q, Tile.k, Tile.kr, Tile.v, Tile.o, Tile.d, Tile.l, scale, tile, pow_masked]
  by_cases h2 : r.val < 2048
  · obtain ⟨r', rfl⟩ := Tile.span 1536 (by decide) r (Nat.le_of_not_lt h1) h2
    rw [canon_miss _ _ _ 0 1 1 rfl rfl rfl (Or.inl Nat.zero_lt_one)]
    rw [canon_miss _ _ _ 0 1 1 rfl rfl rfl (Or.inl Nat.zero_lt_one)]
    rw [canon_hit _ _ _ (ix3 0 r' l) _ (fun a => by fin_cases a <;> simp [Rect.unit])]
    have e : ∀ i, (tile m c t).s 3 0 i ⟨1536 + r'.val, by omega⟩ = (if r'.val ≤ i.val then (tile m c t).w 0 i ⟨1536 + r'.val, by omega⟩ else 0) * (tile m c t).g 0 i ⟨1536 + r'.val, by omega⟩ * scale := fun i => by
      simp [Tile.s, Tile.p]
    simp only [Tile.dk, e]
    try simp only [read_unread_whole]
    pointwise [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay6, Tile.w, Tile.g, Tile.q, Tile.k, Tile.kr, Tile.v, Tile.o, Tile.d, Tile.l, scale, tile, pow_masked]
  · exact absurd r.isLt h2

/-- The last tile's values' sum of head 0. -/
theorem dv_D0 (c : Dev nD) (t : Fin cfg0.N) (h : t.val % 4 = 3) (r : Fin 2048) (l : Fin 128) :
    (outsAt0 m c t.val t.isLt).2.2.2.2 (ix3 0 r l) = (outsAt0 m c (t.val - 1) (by omega)).2.2.2.2 (ix3 0 r l) + (tile m c t).dv 3 0 r l := by
  rw [outsAt0_D m c t (by omega) (by omega) (by omega) (by omega) h h]
  frame_open
  simp (disch := decide) only [↓ View.readCov_skip, ↓ View.readCov_cons_toLoadRect, ↓ View.readCov_fill]
  frame_out
  by_cases h1 : r.val < 1536
  · rw [canon_miss _ _ _ 0 1 1 rfl rfl rfl (Or.inl Nat.zero_lt_one)]
    rw [canon_miss _ _ _ 0 1 1 rfl rfl rfl (Or.inl Nat.zero_lt_one)]
    rw [canon_miss _ _ (ix3 0 r l) 1 1536 512 rfl rfl rfl (Or.inl h1)]
    rw [canon_hit _ _ _ (ix3 0 ⟨r.val, h1⟩ l) _ (fun a => by fin_cases a <;> simp [Rect.unit])]
    have e : ∀ i, (tile m c t).p 3 0 i r = (tile m c t).w 0 i r := fun i => Tile.p_of_le _ _ _ (by omega)
    simp only [Tile.dv, e]
    try simp only [read_unread_whole]
    pointwise [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay6, Tile.w, Tile.g, Tile.q, Tile.k, Tile.kr, Tile.v, Tile.o, Tile.d, Tile.l, scale, tile, pow_masked]
  by_cases h2 : r.val < 2048
  · obtain ⟨r', rfl⟩ := Tile.span 1536 (by decide) r (Nat.le_of_not_lt h1) h2
    rw [canon_miss _ _ _ 0 1 1 rfl rfl rfl (Or.inl Nat.zero_lt_one)]
    rw [canon_miss _ _ _ 0 1 1 rfl rfl rfl (Or.inl Nat.zero_lt_one)]
    rw [canon_hit _ _ _ (ix3 0 r' l) _ (fun a => by fin_cases a <;> simp [Rect.unit])]
    have e : ∀ i, (tile m c t).p 3 0 i ⟨1536 + r'.val, by omega⟩ = if r'.val ≤ i.val then (tile m c t).w 0 i ⟨1536 + r'.val, by omega⟩ else 0 := fun i => by
      simp [Tile.p]
    simp only [Tile.dv, e]
    try simp only [read_unread_whole]
    pointwise [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay6, Tile.w, Tile.g, Tile.q, Tile.k, Tile.kr, Tile.v, Tile.o, Tile.d, Tile.l, scale, tile, pow_masked]
  · exact absurd r.isLt h2

/-- The last tile's keys' sum of head 1. -/
theorem dk_D1 (c : Dev nD) (t : Fin cfg0.N) (h : t.val % 4 = 3) (r : Fin 2048) (l : Fin 256) :
    (outsAt0 m c t.val t.isLt).2.2.2.1 (ix3 1 r l) = (outsAt0 m c (t.val - 1) (by omega)).2.2.2.1 (ix3 1 r l) + (tile m c t).dk 3 1 r l := by
  rw [outsAt0_D m c t (by omega) (by omega) (by omega) (by omega) h h]
  frame_open
  simp (disch := decide) only [↓ View.readCov_skip, ↓ View.readCov_cons_toLoadRect, ↓ View.readCov_fill]
  frame_out
  by_cases h1 : r.val < 1536
  · rw [canon_miss _ _ (ix3 1 r l) 1 1536 512 rfl rfl rfl (Or.inl h1)]
    rw [canon_hit _ _ _ (ix3 0 ⟨r.val, h1⟩ l) _ (fun a => by fin_cases a <;> simp [Rect.unit])]
    have e : ∀ i, (tile m c t).s 3 1 i r = (tile m c t).w 1 i r * (tile m c t).g 1 i r * scale := fun i => Tile.s_of_le _ _ _ (by omega)
    simp only [Tile.dk, e]
    try simp only [read_unread_whole]
    pointwise [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay6, Tile.w, Tile.g, Tile.q, Tile.k, Tile.kr, Tile.v, Tile.o, Tile.d, Tile.l, scale, tile, pow_masked]
  by_cases h2 : r.val < 2048
  · obtain ⟨r', rfl⟩ := Tile.span 1536 (by decide) r (Nat.le_of_not_lt h1) h2
    rw [canon_hit _ _ _ (ix3 0 r' l) _ (fun a => by fin_cases a <;> simp [Rect.unit])]
    have e : ∀ i, (tile m c t).s 3 1 i ⟨1536 + r'.val, by omega⟩ = (if r'.val ≤ i.val then (tile m c t).w 1 i ⟨1536 + r'.val, by omega⟩ else 0) * (tile m c t).g 1 i ⟨1536 + r'.val, by omega⟩ * scale := fun i => by
      simp [Tile.s, Tile.p]
    simp only [Tile.dk, e]
    try simp only [read_unread_whole]
    pointwise [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay6, Tile.w, Tile.g, Tile.q, Tile.k, Tile.kr, Tile.v, Tile.o, Tile.d, Tile.l, scale, tile, pow_masked]
  · exact absurd r.isLt h2

/-- The last tile's values' sum of head 1. -/
theorem dv_D1 (c : Dev nD) (t : Fin cfg0.N) (h : t.val % 4 = 3) (r : Fin 2048) (l : Fin 128) :
    (outsAt0 m c t.val t.isLt).2.2.2.2 (ix3 1 r l) = (outsAt0 m c (t.val - 1) (by omega)).2.2.2.2 (ix3 1 r l) + (tile m c t).dv 3 1 r l := by
  rw [outsAt0_D m c t (by omega) (by omega) (by omega) (by omega) h h]
  frame_open
  simp (disch := decide) only [↓ View.readCov_skip, ↓ View.readCov_cons_toLoadRect, ↓ View.readCov_fill]
  frame_out
  by_cases h1 : r.val < 1536
  · rw [canon_miss _ _ (ix3 1 r l) 1 1536 512 rfl rfl rfl (Or.inl h1)]
    rw [canon_hit _ _ _ (ix3 0 ⟨r.val, h1⟩ l) _ (fun a => by fin_cases a <;> simp [Rect.unit])]
    have e : ∀ i, (tile m c t).p 3 1 i r = (tile m c t).w 1 i r := fun i => Tile.p_of_le _ _ _ (by omega)
    simp only [Tile.dv, e]
    try simp only [read_unread_whole]
    pointwise [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay6, Tile.w, Tile.g, Tile.q, Tile.k, Tile.kr, Tile.v, Tile.o, Tile.d, Tile.l, scale, tile, pow_masked]
  by_cases h2 : r.val < 2048
  · obtain ⟨r', rfl⟩ := Tile.span 1536 (by decide) r (Nat.le_of_not_lt h1) h2
    rw [canon_hit _ _ _ (ix3 0 r' l) _ (fun a => by fin_cases a <;> simp [Rect.unit])]
    have e : ∀ i, (tile m c t).p 3 1 i ⟨1536 + r'.val, by omega⟩ = if r'.val ≤ i.val then (tile m c t).w 1 i ⟨1536 + r'.val, by omega⟩ else 0 := fun i => by
      simp [Tile.p]
    simp only [Tile.dv, e]
    try simp only [read_unread_whole]
    pointwise [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay6, Tile.w, Tile.g, Tile.q, Tile.k, Tile.kr, Tile.v, Tile.o, Tile.d, Tile.l, scale, tile, pow_masked]
  · exact absurd r.isLt h2

/-- The last tile's gradient of head 0's own query lanes. -/
theorem dqa_D0 (c : Dev nD) (t : Fin cfg0.N) (h : t.val % 4 = 3) (i : Fin 512) (l : Fin 128) :
    (outsAt0 m c t.val t.isLt).1 (ix3 0 i ⟨l.val, by omega⟩) = (tile m c t).dqa 3 0 i l := by
  rw [outsAt0_D m c t (by omega) (by omega) (by omega) (by omega) h h]
  frame_open
  simp (disch := decide) only [↓ View.readCov_skip, ↓ View.readCov_cons_toLoadRect, ↓ View.readCov_fill]
  frame_out
  rw [canon_miss _ _ _ 2 256 256 rfl rfl rfl (Or.inl (by show l.val < 256; omega))]
  rw [canon_hit _ _ _ (ix3 0 i ⟨l.val, by omega⟩) _ (fun a => by fin_cases a <;> simp [Rect.unit])]
  rw [Tile.dqa_split _ 3 0 1536 (by omega) (by omega)]
  pointwise [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay6, Tile.w, Tile.g, Tile.q, Tile.k, Tile.kr, Tile.v, Tile.o, Tile.d, Tile.l, scale, tile, pow_masked]

/-- The last tile's gradient of head 0's rope query lanes. -/
theorem dqr_D0 (c : Dev nD) (t : Fin cfg0.N) (h : t.val % 4 = 3) (i : Fin 512) (l : Fin 128) :
    (outsAt0 m c t.val t.isLt).1 (ix3 0 i ⟨128 + l.val, by omega⟩) = (tile m c t).dqr 3 0 i l := by
  rw [outsAt0_D m c t (by omega) (by omega) (by omega) (by omega) h h]
  frame_open
  simp (disch := decide) only [↓ View.readCov_skip, ↓ View.readCov_cons_toLoadRect, ↓ View.readCov_fill]
  frame_out
  rw [canon_miss _ _ _ 2 256 256 rfl rfl rfl (Or.inl (by show 128 + l.val < 256; omega))]
  rw [canon_hit _ _ _ (ix3 0 i ⟨128 + l.val, by omega⟩) _ (fun a => by fin_cases a <;> simp [Rect.unit])]
  rw [Tile.dqr]
  simp only [Tile.dqb_split _ 3 0 1536 (by omega) (by omega)]
  pointwise [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay6, Tile.w, Tile.g, Tile.q, Tile.k, Tile.kr, Tile.v, Tile.o, Tile.d, Tile.l, scale, tile, pow_masked]

/-- The last tile's gradient of head 1's own query lanes. -/
theorem dqa_D1 (c : Dev nD) (t : Fin cfg0.N) (h : t.val % 4 = 3) (i : Fin 512) (l : Fin 128) :
    (outsAt0 m c t.val t.isLt).1 (ix3 0 i ⟨256 + l.val, by omega⟩) = (tile m c t).dqa 3 1 i l := by
  rw [outsAt0_D m c t (by omega) (by omega) (by omega) (by omega) h h]
  frame_open
  simp (disch := decide) only [↓ View.readCov_skip, ↓ View.readCov_cons_toLoadRect, ↓ View.readCov_fill]
  frame_out
  rw [canon_hit _ _ _ (ix3 0 i ⟨l.val, by omega⟩) _ (fun a => by fin_cases a <;> simp [Rect.unit])]
  rw [Tile.dqa_split _ 3 1 1536 (by omega) (by omega)]
  pointwise [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay6, Tile.w, Tile.g, Tile.q, Tile.k, Tile.kr, Tile.v, Tile.o, Tile.d, Tile.l, scale, tile, pow_masked]

/-- The last tile's gradient of head 1's rope query lanes. -/
theorem dqr_D1 (c : Dev nD) (t : Fin cfg0.N) (h : t.val % 4 = 3) (i : Fin 512) (l : Fin 128) :
    (outsAt0 m c t.val t.isLt).1 (ix3 0 i ⟨384 + l.val, by omega⟩) = (tile m c t).dqr 3 1 i l := by
  rw [outsAt0_D m c t (by omega) (by omega) (by omega) (by omega) h h]
  frame_open
  simp (disch := decide) only [↓ View.readCov_skip, ↓ View.readCov_cons_toLoadRect, ↓ View.readCov_fill]
  frame_out
  rw [canon_hit _ _ _ (ix3 0 i ⟨128 + l.val, by omega⟩) _ (fun a => by fin_cases a <;> simp [Rect.unit] <;> omega)]
  rw [Tile.dqr]
  simp only [Tile.dqb_split _ 3 1 1536 (by omega) (by omega)]
  pointwise [k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay6, Tile.w, Tile.g, Tile.q, Tile.k, Tile.kr, Tile.v, Tile.o, Tile.d, Tile.l, scale, tile, pow_masked]

end Cert.KernelIdeal.Blocks
-- ==== Proof.BlocksOut.lean ====
/- What the last query tile of a group leaves: the gradients of the keys, the values and the rope key, of the sums it ends with. -/
module

public import proofs.«01_k».proof.Proof.Pieces

@[expose] public section

set_option maxRecDepth 16384
set_option maxHeartbeats 4000000

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ)

/-- A load of a covered buffer at a place told by its coordinates. -/
theorem readCov_at {sig : RefSig} {k : Kind} {sp : Space} {s : Shape} {V : EltTy → Type} {e : EltTy} [∀ e, Nonempty (V e)] (v : View sig k sp s e)
    (L : List (View.Piece V s e)) (B : LoadRect s) (x : B.shape.Idx) (y : s.Idx) (h : ∀ a, (y a).val = (B.idx x a).val) :
    v.readCov L B x = View.canon L y := by
  rw [View.readCov_eq_canon']
  exact congrArg (View.canon L) (funext fun a => Fin.ext (h a).symm)

/-- The factor the keys' sums are multiplied by at the end. -/
def unprescale : EReal := Named.named (F := Ideal) (φ := .f32) κ "unprescale" 0x4119AC27#32

/-- One head's keys and values as stored, of its sums. -/
theorem pay8_key (v : Vec Ideal S1x2048x256 .f32) (w : Vec Ideal S1x2048x128 .f32) (r : Fin 2048) (l : Fin 128) :
    k0_pay8 v w (ix3 0 r ⟨l.val, by omega⟩) = v (ix3 0 r ⟨l.val, by omega⟩) * unprescale := by
  pointwise [k0_pay8, k0_pay7, unprescale]

/-- The values of the first head as stored. -/
theorem pay8_val (v : Vec Ideal S1x2048x256 .f32) (w : Vec Ideal S1x2048x128 .f32) (r : Fin 2048) (l : Fin 128) :
    k0_pay8 v w (ix3 0 r ⟨128 + l.val, by omega⟩) = w (ix3 0 r l) := by
  pointwise [k0_pay8, k0_pay7]

/-- The keys of the second head as stored. -/
theorem pay10_key (v : Vec Ideal S1x2048x256 .f32) (w : Vec Ideal S1x2048x128 .f32) (r : Fin 2048) (l : Fin 128) :
    k0_pay10 v w (ix3 0 r ⟨l.val, by omega⟩) = v (ix3 0 r ⟨l.val, by omega⟩) * unprescale := by
  pointwise [k0_pay10, k0_pay9, unprescale]

/-- The values of the second head as stored. -/
theorem pay10_val (v : Vec Ideal S1x2048x256 .f32) (w : Vec Ideal S1x2048x128 .f32) (r : Fin 2048) (l : Fin 128) :
    k0_pay10 v w (ix3 0 r ⟨128 + l.val, by omega⟩) = w (ix3 0 r l) := by
  pointwise [k0_pay10, k0_pay9]

/-- The rope key's gradient as stored, of both heads' sums. -/
theorem pay11_rope (v w : Vec Ideal S1x2048x256 .f32) (r : Fin 2048) (l : Fin 128) :
    k0_pay11 v w (ix4 0 0 r l) = v (ix3 0 r ⟨128 + l.val, by omega⟩) * unprescale + w (ix3 0 r ⟨128 + l.val, by omega⟩) * unprescale := by
  pointwise [k0_pay11, k0_pay7, k0_pay9, unprescale]

/-- The first head's keys' gradient. -/
theorem key_0 (c : Dev nD) (t : Fin cfg0.N) (h : t.val % 4 = 3) (r : Fin 2048) (l : Fin 128) :
    (outsAt0 m c t.val t.isLt).2.1 (ix3 0 r ⟨l.val, by omega⟩) = (outsAt0 m c t.val t.isLt).2.2.2.1 (ix3 0 r ⟨l.val, by omega⟩) * unprescale := by
  rw [outsAt0_D m c t (by omega) (by omega) (by omega) (by omega) h h]
  frame_open
  simp (disch := decide) only [↓ View.readCov_skip, ↓ View.readCov_cons_toLoadRect, ↓ View.readCov_fill]
  frame_out
  rw [canon_miss _ _ _ 2 256 256 rfl rfl rfl (Or.inl (by show l.val < 256; omega))]
  rw [canon_hit _ _ _ (ix3 0 r ⟨l.val, by omega⟩) _ (fun a => by fin_cases a <;> simp [Rect.unit])]
  rw [pay8_key, readCov_at _ _ _ _ (ix3 0 r ⟨l.val, by omega⟩) (fun a => by fin_cases a <;> simp [Rect.unit, LoadRect.idx, Rect.toLoadRect])]
  refine congrArg (· * unprescale) ?_
  symm
  exact (canon_miss _ _ (ix3 0 r ⟨l.val, by omega⟩) 0 1 1 rfl rfl rfl (Or.inl (by show (0 : ℕ) < 1; omega))).trans (canon_miss _ _ (ix3 0 r ⟨l.val, by omega⟩) 0 1 1 rfl rfl rfl (Or.inl (by show (0 : ℕ) < 1; omega)))

/-- The first head's values' gradient. -/
theorem val_0 (c : Dev nD) (t : Fin cfg0.N) (h : t.val % 4 = 3) (r : Fin 2048) (l : Fin 128) :
    (outsAt0 m c t.val t.isLt).2.1 (ix3 0 r ⟨128 + l.val, by omega⟩) = (outsAt0 m c t.val t.isLt).2.2.2.2 (ix3 0 r l) := by
  rw [outsAt0_D m c t (by omega) (by omega) (by omega) (by omega) h h]
  frame_open
  simp (disch := decide) only [↓ View.readCov_skip, ↓ View.readCov_cons_toLoadRect, ↓ View.readCov_fill]
  frame_out
  rw [canon_miss _ _ _ 2 256 256 rfl rfl rfl (Or.inl (by show 128 + l.val < 256; omega))]
  rw [canon_hit _ _ _ (ix3 0 r ⟨128 + l.val, by omega⟩) _ (fun a => by fin_cases a <;> simp [Rect.unit])]
  rw [pay8_val, readCov_at _ _ _ _ (ix3 0 r l) (fun a => by fin_cases a <;> simp [Rect.unit, LoadRect.idx, Rect.toLoadRect])]
  symm
  exact (canon_miss _ _ (ix3 0 r l) 0 1 1 rfl rfl rfl (Or.inl (by show (0 : ℕ) < 1; omega))).trans (canon_miss _ _ (ix3 0 r l) 0 1 1 rfl rfl rfl (Or.inl (by show (0 : ℕ) < 1; omega)))

/-- The second head's keys' gradient. -/
theorem key_1 (c : Dev nD) (t : Fin cfg0.N) (h : t.val % 4 = 3) (r : Fin 2048) (l : Fin 128) :
    (outsAt0 m c t.val t.isLt).2.1 (ix3 0 r ⟨256 + l.val, by omega⟩) = (outsAt0 m c t.val t.isLt).2.2.2.1 (ix3 1 r ⟨l.val, by omega⟩) * unprescale := by
  rw [outsAt0_D m c t (by omega) (by omega) (by omega) (by omega) h h]
  frame_open
  simp (disch := decide) only [↓ View.readCov_skip, ↓ View.readCov_cons_toLoadRect, ↓ View.readCov_fill]
  frame_out
  rw [canon_hit _ _ _ (ix3 0 r ⟨l.val, by omega⟩) _ (fun a => by fin_cases a <;> simp [Rect.unit])]
  rw [pay10_key, readCov_at _ _ _ _ (ix3 1 r ⟨l.val, by omega⟩) (fun a => by fin_cases a <;> simp [Rect.unit, LoadRect.idx, Rect.toLoadRect])]

/-- The second head's values' gradient. -/
theorem val_1 (c : Dev nD) (t : Fin cfg0.N) (h : t.val % 4 = 3) (r : Fin 2048) (l : Fin 128) :
    (outsAt0 m c t.val t.isLt).2.1 (ix3 0 r ⟨384 + l.val, by omega⟩) = (outsAt0 m c t.val t.isLt).2.2.2.2 (ix3 1 r l) := by
  rw [outsAt0_D m c t (by omega) (by omega) (by omega) (by omega) h h]
  frame_open
  simp (disch := decide) only [↓ View.readCov_skip, ↓ View.readCov_cons_toLoadRect, ↓ View.readCov_fill]
  frame_out
  rw [canon_hit _ _ _ (ix3 0 r ⟨128 + l.val, by omega⟩) _ (fun a => by fin_cases a <;> simp [Rect.unit] <;> omega)]
  rw [pay10_val, readCov_at _ _ _ _ (ix3 1 r l) (fun a => by fin_cases a <;> simp [Rect.unit, LoadRect.idx, Rect.toLoadRect])]

/-- The rope key's gradient of the group's two heads. -/
theorem rope_D (c : Dev nD) (t : Fin cfg0.N) (h : t.val % 4 = 3) (r : Fin 2048) (l : Fin 128) :
    (outsAt0 m c t.val t.isLt).2.2.1 (ix4 0 0 r l)
      = (outsAt0 m c t.val t.isLt).2.2.2.1 (ix3 0 r ⟨128 + l.val, by omega⟩) * unprescale + (outsAt0 m c t.val t.isLt).2.2.2.1 (ix3 1 r ⟨128 + l.val, by omega⟩) * unprescale := by
  rw [outsAt0_D m c t (by omega) (by omega) (by omega) (by omega) h h]
  frame_open
  simp (disch := decide) only [↓ View.readCov_skip, ↓ View.readCov_cons_toLoadRect, ↓ View.readCov_fill]
  frame_out
  rw [pay11_rope, readCov_at _ _ _ _ (ix3 0 r ⟨128 + l.val, by omega⟩) (fun a => by fin_cases a <;> simp [Rect.unit, LoadRect.idx, Rect.toLoadRect]), readCov_at _ _ _ _ (ix3 1 r ⟨128 + l.val, by omega⟩) (fun a => by fin_cases a <;> simp [Rect.unit, LoadRect.idx, Rect.toLoadRect])]
  refine congrArg₂ (fun x y => x * unprescale + y * unprescale) ?_ rfl
  symm
  exact (canon_miss _ _ (ix3 0 r ⟨128 + l.val, by omega⟩) 0 1 1 rfl rfl rfl (Or.inl (by show (0 : ℕ) < 1; omega))).trans (canon_miss _ _ (ix3 0 r ⟨128 + l.val, by omega⟩) 0 1 1 rfl rfl rfl (Or.inl (by show (0 : ℕ) < 1; omega)))

end Cert.KernelIdeal.Blocks
-- ==== Proof.TileReal.lean ====
/- What a grid point computes when its blocks hold real numbers: the parts of the gradients that its query tile gives. -/
module

public import proofs.«01_k».proof.Proof.Tile
public import proofs.«01_k».proof.Proof.BlocksOut
public import proofs.«01_k».proof.Proof.Attn

@[expose] public section

set_option maxRecDepth 16384

noncomputable section

namespace Cert.Attn

variable (a : Args) (b : Fin 4) (h : Fin 8)

/-- A head's query, rotated and padded to 256 lanes. -/
def qp (s : Fin 2048) (l : Fin 256) : ℝ :=
  if hc : l.val < 128 then qn a b h s ⟨l.val, hc⟩ else if hc' : l.val < 192 then qr a b h s ⟨l.val - 128, by omega⟩ else 0

/-- The rope key, padded to 128 lanes. -/
def krp (k : Fin 2048) (c : Fin 128) : ℝ := if hc : c.val < 64 then a.kr b k ⟨c.val, hc⟩ else 0

/-- The cosines twice, padded to 128 lanes. -/
def cop (s : Fin 2048) (c : Fin 128) : ℝ :=
  if hc : c.val < 32 then a.co b s ⟨c.val, hc⟩ else if hc' : c.val < 64 then a.co b s ⟨c.val - 32, by omega⟩ else 0

/-- The sines twice, padded to 128 lanes. -/
def sip (s : Fin 2048) (c : Fin 128) : ℝ :=
  if hc : c.val < 32 then a.si b s ⟨c.val, hc⟩ else if hc' : c.val < 64 then a.si b s ⟨c.val - 32, by omega⟩ else 0

/-- The matrix that swaps the rope's halves, one with its sign changed. -/
def swap (y x : Fin 128) : ℝ := if y.val < 32 ∧ x.val = y.val + 32 then -1 else if x.val < 32 ∧ y.val = x.val + 32 then 1 else 0

/-- The attention's output. -/
def oo (s : Fin 2048) (d : Fin 128) : ℝ := ∑ k, pr a b h s k * vv a b h k d

/-- The logarithm to the base two of a row's sum. -/
def lse (s : Fin 2048) : ℝ := (top a b h s + Real.log (den a b h s)) / Real.log 2

/-- The number the queries are divided by. -/
def unit : ℝ := Real.sqrt 192 * Real.log 2

theorem log_two_pos : 0 < Real.log 2 := Real.log_pos (by norm_num)
theorem sqrt_pos : 0 < Real.sqrt 192 := Real.sqrt_pos.2 (by norm_num)
theorem unit_ne : unit ≠ 0 := (mul_pos sqrt_pos log_two_pos).ne'

/-- A sum over 128 lanes of which the last 64 hold zero. -/
theorem sum_half (f : Fin 64 → ℝ) : ∑ c : Fin 128, (if hc : c.val < 64 then f ⟨c.val, hc⟩ else 0) = ∑ c, f c := by
  rw [show (128 : ℕ) = 64 + 64 from rfl, Fin.sum_univ_add]
  have z : ∑ c : Fin 64, (if hc : (Fin.natAdd 64 c).val < 64 then f ⟨(Fin.natAdd 64 c).val, hc⟩ else 0) = 0 :=
    Finset.sum_eq_zero fun c _ => dif_neg (by simp)
  rw [z, add_zero]
  exact Finset.sum_congr rfl fun c _ => dif_pos (by simp)

theorem qp_own (s : Fin 2048) (c : Fin 128) : qp a b h s ⟨c.val, by omega⟩ = qn a b h s c := dif_pos c.isLt

theorem qp_rope (s : Fin 2048) (c : Fin 128) :
    qp a b h s ⟨128 + c.val, by omega⟩ = if hc : c.val < 64 then qr a b h s ⟨c.val, hc⟩ else 0 := by
  unfold qp
  rw [dif_neg (show ¬(128 + c.val < 128) by omega)]
  by_cases hc : c.val < 64
  · rw [dif_pos (show 128 + c.val < 192 by omega), dif_pos hc]
    exact congrArg (qr a b h s) (Fin.ext (by show 128 + c.val - 128 = c.val; omega))
  · rw [dif_neg (show ¬(128 + c.val < 192) by omega), dif_neg hc]

/-- The kernel's scores are the scores in units of a power of two. -/
theorem score (s k : Fin 2048) :
    ∑ c : Fin 128, qp a b h s ⟨c.val, by omega⟩ / unit * kn a b h k c + ∑ c : Fin 128, qp a b h s ⟨128 + c.val, by omega⟩ / unit * krp a b k c
      = sc a b h s k / Real.log 2 := by
  have e1 : ∀ c : Fin 128, qp a b h s ⟨c.val, by omega⟩ / unit * kn a b h k c = qn a b h s c * kn a b h k c / unit := fun c => by
    rw [qp_own]; ring
  have e2 : ∀ c : Fin 128, qp a b h s ⟨128 + c.val, by omega⟩ / unit * krp a b k c
      = (if hc : c.val < 64 then qr a b h s ⟨c.val, hc⟩ * a.kr b k ⟨c.val, hc⟩ else 0) / unit := fun c => by
    rw [qp_rope, krp]
    split <;> ring
  simp only [e1, e2]
  rw [← Finset.sum_div, ← Finset.sum_div, sum_half fun c => qr a b h s c * a.kr b k c, sc, unit]
  field_simp

/-- The kernel's powers are the probabilities. -/
theorem power (s k : Fin 2048) :
    Real.rpow 2 (sc a b h s k / Real.log 2 - lse a b h s) = Real.exp (sc a b h s k - top a b h s) / den a b h s := by
  rw [Real.rpow_eq_pow, Real.rpow_def_of_pos (by norm_num), lse]
  have e : Real.log 2 * (sc a b h s k / Real.log 2 - (top a b h s + Real.log (den a b h s)) / Real.log 2)
      = sc a b h s k - top a b h s - Real.log (den a b h s) := by
    have := log_two_pos.ne'
    field_simp
    ring
  rw [e, Real.exp_sub _ (Real.log _), Real.exp_log (den_pos a b h s)]

/-- A row of the output against its gradient is the probabilities against theirs. -/
theorem row_dot (s : Fin 2048) : ∑ d, oo a b h s d * dd a b h s d = ∑ j, pr a b h s j * dp a b h s j := by
  simp only [oo, dp, Finset.sum_mul, Finset.mul_sum]
  rw [Finset.sum_comm]
  exact Finset.sum_congr rfl fun _ _ => Finset.sum_congr rfl fun _ _ => by ring

/-- The query's gradient on the rope lanes, padded to 128 lanes. -/
def dqp (s : Fin 2048) (c : Fin 128) : ℝ := if hc : c.val < 64 then dqr a b h s ⟨c.val, hc⟩ else 0

theorem dqp_eq (s : Fin 2048) (c : Fin 128) : ∑ k, ds a b h s k * krp a b k c = dqp a b h s c := by
  unfold dqp krp
  by_cases hc : c.val < 64
  · simp only [dif_pos hc]; rfl
  · simp only [dif_neg hc, mul_zero, Finset.sum_const_zero]

/-- Rotating back by the swapping matrix. -/
theorem unrope (s : Fin 2048) (x : Fin 128) :
    dqp a b h s x * cop a b s x + ∑ y, dqp a b h s y * sip a b s y * swap y x
      = if hc : x.val < 64 then dqt a b h s ⟨x.val, hc⟩ else 0 := by
  by_cases h1 : x.val < 32
  · rw [Finset.sum_eq_single (⟨x.val + 32, by omega⟩ : Fin 128)]
    · rw [dif_pos (by omega), dqt, dif_pos h1, dqp, dif_pos (by omega), cop, dif_pos h1, dqp, dif_pos (by show x.val + 32 < 64; omega), sip,
        dif_neg (by show ¬(x.val + 32 < 32); omega), dif_pos (by show x.val + 32 < 64; omega), swap, if_neg (by show ¬(x.val + 32 < 32 ∧ _); omega),
        if_pos ⟨h1, rfl⟩, mul_one]
      have e1 : (⟨x.val + 32, by omega⟩ : Fin 64) = ⟨32 + x.val, by omega⟩ := Fin.ext (Nat.add_comm _ _)
      have e2 : (⟨x.val + 32 - 32, by omega⟩ : Fin 32) = ⟨x.val, h1⟩ := Fin.ext (by show x.val + 32 - 32 = x.val; omega)
      rw [e1, e2]
    · intro y _ hy
      have : ¬(y.val < 32 ∧ x.val = y.val + 32) := by omega
      have h2 : ¬(x.val < 32 ∧ y.val = x.val + 32) := fun e => hy (Fin.ext e.2)
      rw [swap, if_neg this, if_neg h2, mul_zero]
    · exact fun h => absurd (Finset.mem_univ _) h
  · by_cases h2 : x.val < 64
    · rw [Finset.sum_eq_single (⟨x.val - 32, by omega⟩ : Fin 128)]
      · rw [dif_pos h2, dqt, dif_neg h1, dqp, dif_pos h2, cop, dif_neg h1, dif_pos h2, dqp, dif_pos (by show x.val - 32 < 64; omega), sip,
          dif_pos (by show x.val - 32 < 32; omega), swap, if_pos (by constructor <;> show _ <;> simp <;> omega)]
        have e1 : (⟨32 + (x.val - 32), by omega⟩ : Fin 64) = ⟨x.val, h2⟩ := Fin.ext (by show 32 + (x.val - 32) = x.val; omega)
        rw [e1]
        ring
      · intro y _ hy
        have h3 : ¬(y.val < 32 ∧ x.val = y.val + 32) := fun e => hy (Fin.ext (by show y.val = x.val - 32; omega))
        have h4 : ¬(x.val < 32 ∧ y.val = x.val + 32) := by omega
        rw [swap, if_neg h3, if_neg h4, mul_zero]
      · exact fun h => absurd (Finset.mem_univ _) h
    · rw [dif_neg h2, dqp, dif_neg h2, zero_mul, zero_add]
      refine Finset.sum_eq_zero fun y _ => ?_
      rw [swap, if_neg (by omega), if_neg (by omega), mul_zero]

end Cert.Attn

namespace Cert.KernelIdeal.Blocks

open Cert.KernelIdeal Cert.KernelIdeal.Gen Idealize.ShloMosaic Idealize.ShloMosaic.TcCoe Cert.Attn

/-- The scale is the root's reciprocal. -/
theorem scale_eq : scale = (((Real.sqrt 192)⁻¹ : ℝ) : EReal) := IdealRules.named_const.ideal_named_scalar _ _ _ _ rfl

/-- The factor of the keys' sums is the number the queries are divided by. -/
theorem unprescale_eq : unprescale = ((unit : ℝ) : EReal) := IdealRules.named_const.ideal_named_scalar _ _ _ _ rfl

/-- A head of a pair. -/
def hd (g : Fin 4) (e : Fin 2) : Fin 8 := ⟨2 * g.val + e.val, by omega⟩
/-- A row of a query tile. -/
def row (u : Fin 4) (i : Fin 512) : Fin 2048 := ⟨512 * u.val + i.val, by omega⟩

/-- The blocks hold the arguments' numbers, of one batch entry, one pair of heads and one query tile. -/
structure Tile.Of (T : Tile) (a : Args) (b : Fin 4) (g : Fin 4) (u : Fin 4) : Prop where
  q : ∀ e i l, T.q e i l = ((qp a b (hd g e) (row u i) l / unit : ℝ) : EReal)
  k : ∀ e r c, T.k e r c = ((kn a b (hd g e) r c : ℝ) : EReal)
  kr : ∀ r c, T.kr r c = ((krp a b r c : ℝ) : EReal)
  v : ∀ e r d, T.v e r d = ((vv a b (hd g e) r d : ℝ) : EReal)
  o : ∀ e i d, T.o e i d = ((oo a b (hd g e) (row u i) d : ℝ) : EReal)
  d : ∀ e i d, T.d e i d = ((dd a b (hd g e) (row u i) d : ℝ) : EReal)
  l : ∀ e i, T.l e i = ((lse a b (hd g e) (row u i) : ℝ) : EReal)
  co : ∀ i c, T.x1 (ix3 0 i c) = ((cop a b (row u i) c : ℝ) : EReal)
  si : ∀ i c, T.x2 (ix3 0 i c) = ((sip a b (row u i) c : ℝ) : EReal)
  sw : ∀ y x, T.x3 (ix2 y x) = ((swap y x : ℝ) : EReal)

namespace Tile.Of

variable {T : Tile} {a : Args} {b g u : Fin 4} (H : T.Of a b g u) (e : Fin 2) (i : Fin 512) (r : Fin 2048)
include H

/-- The powers. -/
theorem w : T.w e i r = ((Real.exp (sc a b (hd g e) (row u i) r - top a b (hd g e) (row u i)) / den a b (hd g e) (row u i) : ℝ) : EReal) := by
  unfold Tile.w
  simp only [H.q, H.k, H.kr, H.l, ← EReal.coe_mul, ← coe_sum, ← EReal.coe_add, ← EReal.coe_sub]
  rw [score]
  show Ideal.exp2 _ = _
  rw [Ideal.exp2_coe, power]

/-- The probabilities. -/
theorem p : T.p u.val e i r = ((pr a b (hd g e) (row u i) r : ℝ) : EReal) := by
  unfold Tile.p pr ex
  by_cases h : r.val ≤ 512 * u.val + i.val
  · rw [if_pos h, if_pos (show r ≤ row u i from h), H.w]
  · rw [if_neg h, if_neg (show ¬(r ≤ row u i) from h), zero_div]; rfl

/-- The factors of the scores' gradients. -/
theorem factor : T.g e i r = ((dp a b (hd g e) (row u i) r - ∑ j, pr a b (hd g e) (row u i) j * dp a b (hd g e) (row u i) j : ℝ) : EReal) := by
  unfold Tile.g
  simp only [H.d, H.v, H.o, ← EReal.coe_mul, ← coe_sum, ← EReal.coe_sub]
  rw [row_dot]
  rfl

/-- The gradients of the products. -/
theorem s : T.s u.val e i r = ((ds a b (hd g e) (row u i) r : ℝ) : EReal) := by
  unfold Tile.s
  rw [H.p, H.factor, scale_eq, ← EReal.coe_mul, ← EReal.coe_mul]
  rfl

/-- The own query lanes' gradient. -/
theorem dqa (c : Fin 128) : T.dqa u.val e i c = ((dqn a b (hd g e) (row u i) c : ℝ) : EReal) := by
  unfold Tile.dqa
  simp only [H.s, H.k, ← EReal.coe_mul, ← coe_sum]
  rfl

/-- The rope lanes' gradient before the rotation back. -/
theorem dqb (c : Fin 128) : T.dqb u.val e i c = ((dqp a b (hd g e) (row u i) c : ℝ) : EReal) := by
  unfold Tile.dqb
  simp only [H.s, H.kr, ← EReal.coe_mul, ← coe_sum]
  rw [dqp_eq]

/-- The rope lanes' gradient. -/
theorem dqr (c : Fin 128) : T.dqr u.val e i c = (((if hc : c.val < 64 then dqt a b (hd g e) (row u i) ⟨c.val, hc⟩ else 0) : ℝ) : EReal) := by
  unfold Tile.dqr
  simp only [H.dqb, H.co, H.si, H.sw, ← EReal.coe_mul, ← coe_sum, ← EReal.coe_add]
  rw [unrope]

/-- The tile's part of the keys' gradient. -/
theorem dk (c : Fin 256) :
    T.dk u.val e r c = ((∑ i, ds a b (hd g e) (row u i) r * (qp a b (hd g e) (row u i) c / unit) : ℝ) : EReal) := by
  unfold Tile.dk
  simp only [H.s, H.q, ← EReal.coe_mul, ← coe_sum]

/-- The tile's part of the values' gradient. -/
theorem dv (d : Fin 128) :
    T.dv u.val e r d = ((∑ i, pr a b (hd g e) (row u i) r * dd a b (hd g e) (row u i) d : ℝ) : EReal) := by
  unfold Tile.dv
  simp only [H.p, H.d, ← EReal.coe_mul, ← coe_sum]

end Tile.Of

/-- A sum over the query tiles and their rows is the sum over the rows. -/
theorem sum_rows (f : Fin 2048 → ℝ) : ∑ u : Fin 4, ∑ i : Fin 512, f (row u i) = ∑ s, f s := by
  rw [← Finset.sum_product']
  refine Fintype.sum_equiv (finProdFinEquiv (m := 4) (n := 512)) _ _ fun x => ?_
  exact congrArg f (Fin.ext (by simp [row, finProdFinEquiv]; omega))

end Cert.KernelIdeal.Blocks
-- ==== Proof.Sums.lean ====
/- What the grid points leave in the outputs' blocks, on blocks that hold the arguments' numbers. -/
module

public import proofs.«01_k».proof.Proof.BlocksA
public import proofs.«01_k».proof.Proof.BlocksB
public import proofs.«01_k».proof.Proof.BlocksC
public import proofs.«01_k».proof.Proof.BlocksD
public import proofs.«01_k».proof.Proof.BlocksOut
public import proofs.«01_k».proof.Proof.TileReal

@[expose] public section

set_option maxRecDepth 16384

noncomputable section

namespace Cert.KernelIdeal.Blocks

open Cert.KernelIdeal Cert.KernelIdeal.Gen Idealize.ShloMosaic Idealize.ShloMosaic.TcCoe Idealize.SL.Sem Cert.Attn

variable (m : (ℓ : Loc nD τ sig) → Buf (Elt Ideal) ℓ) (c : Dev nD)

/-- A grid point: a batch entry, a pair of heads, a query tile. -/
def pt (b g u : Fin 4) : Fin cfg0.N := ⟨16 * b.val + 4 * g.val + u.val, lt_of_lt_of_eq (show 16 * b.val + 4 * g.val + u.val < 64 by omega) (show cfg0.N = 64 from N_0).symm⟩

/-- A group's sums of the keys' gradient are its tiles' parts added. -/
theorem dk_sum (b g : Fin 4) (e : Fin 2) (r : Fin 2048) (l : Fin 256) :
    (outsAt0 m c (pt b g 3).val (pt b g 3).isLt).2.2.2.1 (ix3 e r l)
      = (tile m c (pt b g 0)).dk 0 e r l + (tile m c (pt b g 1)).dk 1 e r l + (tile m c (pt b g 2)).dk 2 e r l + (tile m c (pt b g 3)).dk 3 e r l := by
  have h0 : (pt b g 0).val % 4 = 0 := by show (16 * b.val + 4 * g.val + 0) % 4 = 0; omega
  have h1 : (pt b g 1).val % 4 = 1 := by show (16 * b.val + 4 * g.val + 1) % 4 = 1; omega
  have h2 : (pt b g 2).val % 4 = 2 := by show (16 * b.val + 4 * g.val + 2) % 4 = 2; omega
  have h3 : (pt b g 3).val % 4 = 3 := by show (16 * b.val + 4 * g.val + 3) % 4 = 3; omega
  match e with
  | 0 =>
    refine (dk_D0 m c _ h3 r l).trans (congrArg (· + _) ?_)
    refine (dk_C0 m c (pt b g 2) h2 r l).trans (congrArg (· + _) ?_)
    refine (dk_B0 m c (pt b g 1) h1 r l).trans (congrArg (· + _) ?_)
    exact dk_A0 m c (pt b g 0) h0 r l
  | 1 =>
    refine (dk_D1 m c _ h3 r l).trans (congrArg (· + _) ?_)
    refine (dk_C1 m c (pt b g 2) h2 r l).trans (congrArg (· + _) ?_)
    refine (dk_B1 m c (pt b g 1) h1 r l).trans (congrArg (· + _) ?_)
    exact dk_A1 m c (pt b g 0) h0 r l

/-- A group's sums of the values' gradient are its tiles' parts added. -/
theorem dv_sum (b g : Fin 4) (e : Fin 2) (r : Fin 2048) (l : Fin 128) :
    (outsAt0 m c (pt b g 3).val (pt b g 3).isLt).2.2.2.2 (ix3 e r l)
      = (tile m c (pt b g 0)).dv 0 e r l + (tile m c (pt b g 1)).dv 1 e r l + (tile m c (pt b g 2)).dv 2 e r l + (tile m c (pt b g 3)).dv 3 e r l := by
  have h0 : (pt b g 0).val % 4 = 0 := by show (16 * b.val + 4 * g.val + 0) % 4 = 0; omega
  have h1 : (pt b g 1).val % 4 = 1 := by show (16 * b.val + 4 * g.val + 1) % 4 = 1; omega
  have h2 : (pt b g 2).val % 4 = 2 := by show (16 * b.val + 4 * g.val + 2) % 4 = 2; omega
  have h3 : (pt b g 3).val % 4 = 3 := by show (16 * b.val + 4 * g.val + 3) % 4 = 3; omega
  match e with
  | 0 =>
    refine (dv_D0 m c _ h3 r l).trans (congrArg (· + _) ?_)
    refine (dv_C0 m c (pt b g 2) h2 r l).trans (congrArg (· + _) ?_)
    refine (dv_B0 m c (pt b g 1) h1 r l).trans (congrArg (· + _) ?_)
    exact dv_A0 m c (pt b g 0) h0 r l
  | 1 =>
    refine (dv_D1 m c _ h3 r l).trans (congrArg (· + _) ?_)
    refine (dv_C1 m c (pt b g 2) h2 r l).trans (congrArg (· + _) ?_)
    refine (dv_B1 m c (pt b g 1) h1 r l).trans (congrArg (· + _) ?_)
    exact dv_A1 m c (pt b g 0) h0 r l

/-- A point's gradient of a head's own query lanes, whatever its tile. -/
theorem dqa_pt (b g u : Fin 4) (e : Fin 2) (i : Fin 512) (l : Fin 128) :
    (outsAt0 m c (pt b g u).val (pt b g u).isLt).1 (ix3 0 i ⟨256 * e.val + l.val, by omega⟩) = (tile m c (pt b g u)).dqa u.val e i l := by
  have h : (pt b g u).val % 4 = u.val := by show (16 * b.val + 4 * g.val + u.val) % 4 = _; omega
  have z : (⟨256 * (0 : Fin 2).val + l.val, by omega⟩ : Fin 512) = ⟨l.val, by omega⟩ := Fin.ext (Nat.zero_add _)
  match u, e, h with
  | 0, 0, h => rw [z]; exact dqa_A0 m c _ h i l
  | 0, 1, h => exact dqa_A1 m c _ h i l
  | 1, 0, h => rw [z]; exact dqa_B0 m c _ h i l
  | 1, 1, h => exact dqa_B1 m c _ h i l
  | 2, 0, h => rw [z]; exact dqa_C0 m c _ h i l
  | 2, 1, h => exact dqa_C1 m c _ h i l
  | 3, 0, h => rw [z]; exact dqa_D0 m c _ h i l
  | 3, 1, h => exact dqa_D1 m c _ h i l

/-- A point's gradient of a head's rope query lanes, whatever its tile. -/
theorem dqr_pt (b g u : Fin 4) (e : Fin 2) (i : Fin 512) (l : Fin 128) :
    (outsAt0 m c (pt b g u).val (pt b g u).isLt).1 (ix3 0 i ⟨256 * e.val + 128 + l.val, by omega⟩) = (tile m c (pt b g u)).dqr u.val e i l := by
  have h : (pt b g u).val % 4 = u.val := by show (16 * b.val + 4 * g.val + u.val) % 4 = _; omega
  match u, e, h with
  | 0, 0, h => exact dqr_A0 m c _ h i l
  | 0, 1, h => exact dqr_A1 m c _ h i l
  | 1, 0, h => exact dqr_B0 m c _ h i l
  | 1, 1, h => exact dqr_B1 m c _ h i l
  | 2, 0, h => exact dqr_C0 m c _ h i l
  | 2, 1, h => exact dqr_C1 m c _ h i l
  | 3, 0, h => exact dqr_D0 m c _ h i l
  | 3, 1, h => exact dqr_D1 m c _ h i l

variable {m c} {a : Args} (H : ∀ b g u, (tile m c (pt b g u)).Of a b g u)
include H

/-- The query's gradient at a point. -/
theorem outQ_pt (b g u : Fin 4) (e : Fin 2) (i : Fin 512) (l : Fin 256) :
    (outsAt0 m c (pt b g u).val (pt b g u).isLt).1 (ix3 0 i ⟨256 * e.val + l.val, by omega⟩) = ((outQ a b (hd g e) (row u i) l : ℝ) : EReal) := by
  unfold outQ
  by_cases h1 : l.val < 128
  · rw [dif_pos h1]
    exact (dqa_pt m c b g u e i ⟨l.val, h1⟩).trans ((H b g u).dqa e i ⟨l.val, h1⟩)
  · have x : (⟨256 * e.val + l.val, by omega⟩ : Fin 512) = ⟨256 * e.val + 128 + (⟨l.val - 128, by omega⟩ : Fin 128).val, by show 256 * e.val + 128 + (l.val - 128) < 512; omega⟩ :=
      Fin.ext (by show 256 * e.val + l.val = 256 * e.val + 128 + (l.val - 128); omega)
    rw [dif_neg h1, x, dqr_pt m c b g u e i ⟨l.val - 128, by omega⟩, (H b g u).dqr e i ⟨l.val - 128, by omega⟩]
    refine congrArg _ ?_
    by_cases h2 : l.val < 192
    · rw [dif_pos h2, dif_pos (show l.val - 128 < 64 by omega)]
    · rw [dif_neg h2, dif_neg (show ¬(l.val - 128 < 64) by omega)]

/-- A group's sum of the keys' gradient, in the argument's units. -/
theorem dk_unit (b g : Fin 4) (e : Fin 2) (r : Fin 2048) (l : Fin 256) :
    (outsAt0 m c (pt b g 3).val (pt b g 3).isLt).2.2.2.1 (ix3 e r l) * unprescale = ((∑ s, ds a b (hd g e) s r * qp a b (hd g e) s l : ℝ) : EReal) := by
  have k0 := (H b g 0).dk e r l
  have k1 := (H b g 1).dk e r l
  have k2 := (H b g 2).dk e r l
  have k3 := (H b g 3).dk e r l
  rw [dk_sum, unprescale_eq]
  rw [show (tile m c (pt b g 0)).dk 0 e r l = _ from k0, show (tile m c (pt b g 1)).dk 1 e r l = _ from k1,
    show (tile m c (pt b g 2)).dk 2 e r l = _ from k2, show (tile m c (pt b g 3)).dk 3 e r l = _ from k3]
  rw [← EReal.coe_add, ← EReal.coe_add, ← EReal.coe_add, ← EReal.coe_mul]
  refine congrArg _ ?_
  rw [← sum_rows, Fin.sum_univ_four, add_mul, add_mul, add_mul]
  simp only [Finset.sum_mul]
  have z : ∀ x y : ℝ, x * (y / unit) * unit = x * y := fun x y => by rw [mul_assoc, div_mul_cancel₀ _ unit_ne]
  simp only [z]

/-- A group's sum of the values' gradient. -/
theorem dv_unit (b g : Fin 4) (e : Fin 2) (r : Fin 2048) (l : Fin 128) :
    (outsAt0 m c (pt b g 3).val (pt b g 3).isLt).2.2.2.2 (ix3 e r l) = ((dvv a b (hd g e) r l : ℝ) : EReal) := by
  have k0 := (H b g 0).dv e r l
  have k1 := (H b g 1).dv e r l
  have k2 := (H b g 2).dv e r l
  have k3 := (H b g 3).dv e r l
  rw [dv_sum]
  rw [show (tile m c (pt b g 0)).dv 0 e r l = _ from k0, show (tile m c (pt b g 1)).dv 1 e r l = _ from k1,
    show (tile m c (pt b g 2)).dv 2 e r l = _ from k2, show (tile m c (pt b g 3)).dv 3 e r l = _ from k3]
  rw [← EReal.coe_add, ← EReal.coe_add, ← EReal.coe_add]
  refine congrArg _ ?_
  rw [dvv, ← sum_rows, Fin.sum_univ_four]

/-- The gradient of keys and values after a group's last point. -/
theorem outKV_pt (b g : Fin 4) (e : Fin 2) (r : Fin 2048) (l : Fin 256) :
    (outsAt0 m c (pt b g 3).val (pt b g 3).isLt).2.1 (ix3 0 r ⟨256 * e.val + l.val, by omega⟩) = ((outKV a b (hd g e) r l : ℝ) : EReal) := by
  have h3 : (pt b g 3).val % 4 = 3 := by show (16 * b.val + 4 * g.val + 3) % 4 = 3; omega
  unfold outKV
  by_cases h1 : l.val < 128
  · rw [dif_pos h1]
    have k := dk_unit H b g e r l
    have q : ∑ s, ds a b (hd g e) s r * qp a b (hd g e) s l = dkn a b (hd g e) r ⟨l.val, h1⟩ :=
      Finset.sum_congr rfl fun s _ => by rw [qp, dif_pos h1]
    rw [q] at k
    refine Eq.trans ?_ k
    have z : (⟨256 * (0 : Fin 2).val + l.val, by omega⟩ : Fin 512) = ⟨l.val, by omega⟩ := Fin.ext (Nat.zero_add _)
    match e with
    | 0 => rw [z]; exact key_0 m c _ h3 r ⟨l.val, h1⟩
    | 1 => exact key_1 m c _ h3 r ⟨l.val, h1⟩
  · rw [dif_neg h1]
    refine Eq.trans ?_ (dv_unit H b g e r ⟨l.val - 128, by omega⟩)
    have x : (⟨256 * e.val + l.val, by omega⟩ : Fin 512) = ⟨256 * e.val + 128 + (⟨l.val - 128, by omega⟩ : Fin 128).val, by show 256 * e.val + 128 + (l.val - 128) < 512; omega⟩ :=
      Fin.ext (by show 256 * e.val + l.val = 256 * e.val + 128 + (l.val - 128); omega)
    rw [x]
    match e with
    | 0 => exact val_0 m c _ h3 r ⟨l.val - 128, by omega⟩
    | 1 => exact val_1 m c _ h3 r ⟨l.val - 128, by omega⟩

/-- The rope key's gradient after a group's last point. -/
theorem outR_pt (b g : Fin 4) (r : Fin 2048) (l : Fin 128) :
    (outsAt0 m c (pt b g 3).val (pt b g 3).isLt).2.2.1 (ix4 0 0 r l) = ((outR a b g r l : ℝ) : EReal) := by
  have h3 : (pt b g 3).val % 4 = 3 := by show (16 * b.val + 4 * g.val + 3) % 4 = 3; omega
  have q : ∀ e : Fin 2, ∑ s, ds a b (hd g e) s r * qp a b (hd g e) s ⟨128 + l.val, by omega⟩
      = if hc : l.val < 64 then dkh a b (hd g e) r ⟨l.val, hc⟩ else 0 := fun e => by
    simp only [qp_rope]
    by_cases hc : l.val < 64
    · simp only [dif_pos hc]; rfl
    · simp only [dif_neg hc, mul_zero, Finset.sum_const_zero]
  rw [rope_D m c _ h3 r l, dk_unit H, dk_unit H, ← EReal.coe_add, q, q]
  refine congrArg _ ?_
  unfold outR
  split
  · rfl
  · exact add_zero _

end Cert.KernelIdeal.Blocks
-- ==== Proof.Arrays.lean ====
/- The output arrays after the run, on blocks that hold the arguments' numbers. -/
module

public import proofs.«01_k».proof.Proof.Sums

@[expose] public section

set_option maxRecDepth 16384

noncomputable section

namespace Cert.KernelIdeal.Blocks

open Cert.KernelIdeal Cert.KernelIdeal.Gen Idealize.ShloMosaic Idealize.ShloMosaic.TcCoe Idealize.SL.Sem Cert.Attn

/-- The block of the first result that a point writes. -/
theorem place_9 : ∀ t : Fin cfg0.N, win0_9.index t = ![t.val / 16, t.val % 4, t.val / 4 % 4] :=
  (by decide +kernel : ∀ t : Fin grid0.N, win0_9.index t = ![t.val / 16, t.val % 4, t.val / 4 % 4])
/-- The block of the second result that a point writes. -/
theorem place_10 : ∀ t : Fin cfg0.N, win0_10.index t = ![t.val / 16, 0, t.val / 4 % 4] :=
  (by decide +kernel : ∀ t : Fin grid0.N, win0_10.index t = ![t.val / 16, 0, t.val / 4 % 4])
/-- The block of the third result that a point writes. -/
theorem place_11 : ∀ t : Fin cfg0.N, win0_11.index t = ![t.val / 16, t.val / 4 % 4, 0, 0] :=
  (by decide +kernel : ∀ t : Fin grid0.N, win0_11.index t = ![t.val / 16, t.val / 4 % 4, 0, 0])

/-- The first result: the query's gradient. -/
def arr9 (a : Args) : S4x2048x2048.Idx → EReal := fun y =>
  ((outQ a (y 0) ⟨(y 2).val / 256, by have := (y 2).isLt; show _ < 8; have h : (y 2).val < 2048 := this; omega⟩ (y 1) ⟨(y 2).val % 256, by omega⟩ : ℝ) : EReal)

/-- The second result: the gradient of keys and values. -/
def arr10 (a : Args) : S4x2048x2048.Idx → EReal := fun y =>
  ((outKV a (y 0) ⟨(y 2).val / 256, by have := (y 2).isLt; show _ < 8; have h : (y 2).val < 2048 := this; omega⟩ (y 1) ⟨(y 2).val % 256, by omega⟩ : ℝ) : EReal)

/-- The third result: the rope key's gradient. -/
def arr11 (a : Args) : S4x4x2048x128.Idx → EReal := fun y => ((outR a (y 0) (y 1) (y 2) (y 3) : ℝ) : EReal)

/-- A grid point told by its batch entry, its pair of heads and its query tile. -/
theorem exists_pt (t : Fin cfg0.N) : ∃ b g u : Fin 4, t = pt b g u := by
  have ht : t.val < 64 := lt_of_lt_of_eq t.isLt (show cfg0.N = 64 from N_0)
  exact ⟨⟨t.val / 16, by omega⟩, ⟨t.val / 4 % 4, by omega⟩, ⟨t.val % 4, by omega⟩,
    Fin.ext (by show t.val = 16 * (t.val / 16) + 4 * (t.val / 4 % 4) + t.val % 4; omega)⟩

/-- The last point of a group. -/
theorem exists_last (t : Fin cfg0.N) (h : t.val % 4 = 3) : ∃ b g : Fin 4, t = pt b g 3 := by
  obtain ⟨b, g, u, rfl⟩ := exists_pt t
  have h' : (16 * b.val + 4 * g.val + u.val) % 4 = 3 := h
  have : u = 3 := Fin.ext (by show u.val = 3; omega)
  exact ⟨b, g, by rw [this]⟩

/-- A place of a block of query rows. -/
theorem exists_rows (y : S1x512x512.Idx) : ∃ (i : Fin 512) (e : Fin 2) (l : Fin 256), y = ix3 0 i ⟨256 * e.val + l.val, by omega⟩ := by
  have h2 : (y 2).val < 512 := (y 2).isLt
  have h0 : (y 0).val < 1 := (y 0).isLt
  refine ⟨y 1, ⟨(y 2).val / 256, by omega⟩, ⟨(y 2).val % 256, by omega⟩, funext fun a => ?_⟩
  match a with
  | 0 => exact Fin.ext (by show (y 0).val = 0; omega)
  | 1 => rfl
  | 2 => exact Fin.ext (by show (y 2).val = 256 * ((y 2).val / 256) + (y 2).val % 256; omega)

/-- A place of a block of keys and values. -/
theorem exists_keys (y : S1x2048x512.Idx) : ∃ (i : Fin 2048) (e : Fin 2) (l : Fin 256), y = ix3 0 i ⟨256 * e.val + l.val, by omega⟩ := by
  have h2 : (y 2).val < 512 := (y 2).isLt
  have h0 : (y 0).val < 1 := (y 0).isLt
  refine ⟨y 1, ⟨(y 2).val / 256, by omega⟩, ⟨(y 2).val % 256, by omega⟩, funext fun a => ?_⟩
  match a with
  | 0 => exact Fin.ext (by show (y 0).val = 0; omega)
  | 1 => rfl
  | 2 => exact Fin.ext (by show (y 2).val = 256 * ((y 2).val / 256) + (y 2).val % 256; omega)

/-- A place of a block of the rope key. -/
theorem exists_rope (y : S1x1x2048x128.Idx) : ∃ (i : Fin 2048) (l : Fin 128), y = ix4 0 0 i l := by
  have h0 : (y 0).val < 1 := (y 0).isLt
  have h1 : (y 1).val < 1 := (y 1).isLt
  refine ⟨y 2, y 3, funext fun a => ?_⟩
  match a with
  | 0 => exact Fin.ext (by show (y 0).val = 0; omega)
  | 1 => exact Fin.ext (by show (y 1).val = 0; omega)
  | 2 => rfl
  | 3 => rfl

variable {m : (ℓ : Loc nD τ sig) → Buf (Elt Ideal) ℓ} {c : Dev nD} {a : Args} (H : ∀ b g u, (tile m c (pt b g u)).Of a b g u)
include H

/-- The first result after the run. -/
theorem final_9 : (dats m 0 c).arrAt 9 cfg0.N = arr9 a := by
  refine (dats m 0 c).arrAt_eq_of_covers 9 _ (by decide +kernel) fun t hf y => ?_
  blk_simp
  rw [after0_9]
  obtain ⟨b, g, u, rfl⟩ := exists_pt t
  obtain ⟨i, e, l, rfl⟩ := exists_rows y
  refine (outQ_pt H b g u e i l).trans ?_
  have q : ∀ (b' : Fin 4) (h' : Fin 8) (s' : Fin 2048) (l' : Fin 256), b.val = b'.val → (hd g e).val = h'.val → (row u i).val = s'.val → l.val = l'.val →
      ((outQ a b (hd g e) (row u i) l : ℝ) : EReal) = ((outQ a b' h' s' l' : ℝ) : EReal) := fun b' h' s' l' e1 e2 e3 e4 => by
    rw [Fin.ext e1, Fin.ext e2, Fin.ext e3, Fin.ext e4]
  unfold arr9
  apply q
  all_goals blk_simp [place_9, pt, hd, row]
  all_goals try dsimp only
  all_goals try simp only [Fin.val_zero]
  all_goals omega

/-- The second result after the run. -/
theorem final_10 : (dats m 0 c).arrAt 10 cfg0.N = arr10 a := by
  refine (dats m 0 c).arrAt_eq_of_covers 10 _ (by decide +kernel) fun t hf y => ?_
  blk_simp
  rw [after0_10]
  obtain ⟨b, g, rfl⟩ := exists_last t ((flush0_10 t).mp hf)
  obtain ⟨i, e, l, rfl⟩ := exists_keys y
  refine (outKV_pt H b g e i l).trans ?_
  have q : ∀ (b' : Fin 4) (h' : Fin 8) (s' : Fin 2048) (l' : Fin 256), b.val = b'.val → (hd g e).val = h'.val → i.val = s'.val → l.val = l'.val →
      ((outKV a b (hd g e) i l : ℝ) : EReal) = ((outKV a b' h' s' l' : ℝ) : EReal) := fun b' h' s' l' e1 e2 e3 e4 => by
    rw [Fin.ext e1, Fin.ext e2, Fin.ext e3, Fin.ext e4]
  have h3 : ((3 : Fin 4) : ℕ) = 3 := rfl
  unfold arr10
  apply q
  all_goals blk_simp [place_10, pt, hd, row]
  all_goals try dsimp only
  all_goals try simp only [Fin.val_zero, h3]
  all_goals omega

/-- The third result after the run. -/
theorem final_11 : (dats m 0 c).arrAt 11 cfg0.N = arr11 a := by
  refine (dats m 0 c).arrAt_eq_of_covers 11 _ (by decide +kernel) fun t hf y => ?_
  blk_simp
  rw [after0_11]
  obtain ⟨b, g, rfl⟩ := exists_last t ((flush0_11 t).mp hf)
  obtain ⟨i, l, rfl⟩ := exists_rope y
  refine (outR_pt H b g i l).trans ?_
  have q : ∀ (b' g' : Fin 4) (s' : Fin 2048) (l' : Fin 128), b.val = b'.val → g.val = g'.val → i.val = s'.val → l.val = l'.val →
      ((outR a b g i l : ℝ) : EReal) = ((outR a b' g' s' l' : ℝ) : EReal) := fun b' h' s' l' e1 e2 e3 e4 => by
    rw [Fin.ext e1, Fin.ext e2, Fin.ext e3, Fin.ext e4]
  have h3 : ((3 : Fin 4) : ℕ) = 3 := rfl
  unfold arr11
  apply q
  all_goals blk_simp [place_11, pt, hd, row]
  all_goals try dsimp only
  all_goals try simp only [Fin.val_zero, h3]
  all_goals omega

end Cert.KernelIdeal.Blocks
-- ==== Proof.RefOut.lean ====
/- The reference's results as the whole arrays the kernel writes. -/
module

public import proofs.«01_k».proof.Proof.RefGrads
public import proofs.«01_k».proof.Proof.Arrays

@[expose] public section

set_option maxRecDepth 16384

noncomputable section

namespace Cert.ReferenceIdeal.Scores

open Cert.ReferenceIdeal Cert.ReferenceIdeal.Gen Idealize.ShloMosaic Idealize.ShloMosaic.TcCoe Cert.Attn
open Cert.KernelIdeal.Blocks

variable (a : Args)

/-- The reference's gradient of the queries, as the kernel's first array. -/
theorem result0 : Read.val_main_v120 (F := Ideal) (x0 a) (x1 a) (x2 a) (x3 a) (x4 a) (x5 a) = arr9 a := by
  funext y
  have h0 : (y 0).val < 4 := (y 0).isLt
  have h1 : (y 1).val < 2048 := (y 1).isLt
  have h2 : (y 2).val < 2048 := (y 2).isLt
  refine (Read.val_main_v120_apply (F := Ideal) (x0 a) (x1 a) (x2 a) (x3 a) (x4 a) (x5 a) y).trans ?_
  refine (Read.val_main_v119_apply (F := Ideal) (x0 a) (x1 a) (x2 a) (x3 a) (x4 a) (x5 a) y).trans ?_
  have e : Read.idx_main_v119 y = ix4 (y 0) (y 1) ⟨(y 2).val / 256, by omega⟩ ⟨(y 2).val % 256, by omega⟩ := by
    funext d
    fin_cases d
    · exact Fin.ext (by show (((y 0).val * 2048 + (y 1).val) * 2048 + (y 2).val) / 4194304 = (y 0).val; omega)
    · exact Fin.ext (by show (((y 0).val * 2048 + (y 1).val) * 2048 + (y 2).val) / 2048 % 2048 = (y 1).val; omega)
    · exact Fin.ext (by show (((y 0).val * 2048 + (y 1).val) * 2048 + (y 2).val) / 256 % 8 = (y 2).val / 256; omega)
    · exact Fin.ext (by show (((y 0).val * 2048 + (y 1).val) * 2048 + (y 2).val) % 256 = (y 2).val % 256; omega)
  rw [e]
  exact outQ_eq a _ _ _ _

/-- The reference's gradient of keys and values, as the kernel's second array. -/
theorem result1 : Read.val_main_v121 (F := Ideal) (x0 a) (x1 a) (x2 a) (x3 a) (x4 a) (x5 a) = arr10 a := by
  funext y
  have h0 : (y 0).val < 4 := (y 0).isLt
  have h1 : (y 1).val < 2048 := (y 1).isLt
  have h2 : (y 2).val < 2048 := (y 2).isLt
  refine (Read.val_main_v121_apply (F := Ideal) (x0 a) (x1 a) (x2 a) (x3 a) (x4 a) (x5 a) y).trans ?_
  refine (Read.val_main_v98_apply (F := Ideal) (x0 a) (x1 a) (x2 a) (x3 a) (x4 a) (x5 a) y).trans ?_
  have e : Read.idx_main_v98 y = ix4 (y 0) (y 1) ⟨(y 2).val / 256, by omega⟩ ⟨(y 2).val % 256, by omega⟩ := by
    funext d
    fin_cases d
    · exact Fin.ext (by show (((y 0).val * 2048 + (y 1).val) * 2048 + (y 2).val) / 4194304 = (y 0).val; omega)
    · exact Fin.ext (by show (((y 0).val * 2048 + (y 1).val) * 2048 + (y 2).val) / 2048 % 2048 = (y 1).val; omega)
    · exact Fin.ext (by show (((y 0).val * 2048 + (y 1).val) * 2048 + (y 2).val) / 256 % 8 = (y 2).val / 256; omega)
    · exact Fin.ext (by show (((y 0).val * 2048 + (y 1).val) * 2048 + (y 2).val) % 256 = (y 2).val % 256; omega)
  rw [e]
  exact outKV_eq a _ _ _ _

/-- The reference's gradient of the rope keys, as the kernel's third array. -/
theorem result2 : Read.val_main_v122 (F := Ideal) (x0 a) (x1 a) (x2 a) (x3 a) (x4 a) (x5 a) = arr11 a := by
  funext y
  have e : y = ix4 (y 0) (y 1) (y 2) (y 3) := by
    funext d
    fin_cases d <;> rfl
  rw [e]
  exact outR_eq a _ _ _ _

variable {a}
variable {y0 : (⟨S4x2048x1536, .f32⟩ : BufTy).Contents (Elt Ideal)} (e0 : y0 = x0 a)
variable {y1 : (⟨S4x2048x2048, .f32⟩ : BufTy).Contents (Elt Ideal)} (e1 : y1 = x1 a)
variable {y2 : (⟨S4x2048x64, .f32⟩ : BufTy).Contents (Elt Ideal)} (e2 : y2 = x2 a)
variable {y3 : (⟨S4x2048x32, .f32⟩ : BufTy).Contents (Elt Ideal)} (e3 : y3 = x3 a)
variable {y4 : (⟨S4x2048x32, .f32⟩ : BufTy).Contents (Elt Ideal)} (e4 : y4 = x4 a)
variable {y5 : (⟨S4x2048x1024, .f32⟩ : BufTy).Contents (Elt Ideal)} (e5 : y5 = x5 a)
include e0 e1 e2 e3 e4 e5

/-- The reference's first result on arrays that hold the numbers. -/
theorem result0_of : Read.val_main_v120 (F := Ideal) y0 y1 y2 y3 y4 y5 = arr9 a := by
  subst e0 e1 e2 e3 e4 e5
  exact result0 a

/-- The reference's second result on arrays that hold the numbers. -/
theorem result1_of : Read.val_main_v121 (F := Ideal) y0 y1 y2 y3 y4 y5 = arr10 a := by
  subst e0 e1 e2 e3 e4 e5
  exact result1 a

/-- The reference's third result on arrays that hold the numbers. -/
theorem result2_of : Read.val_main_v122 (F := Ideal) y0 y1 y2 y3 y4 y5 = arr11 a := by
  subst e0 e1 e2 e3 e4 e5
  exact result2 a

end Cert.ReferenceIdeal.Scores
-- ==== Proof.Host.lean ====
/- What the host operations before the kernel leave: first the scores, then the row statistics, then the kernel's operands. -/
module

public import proofs.«01_k».proof.Proof.Gen.KernelIdeal.Value
public import proofs.«01_k».proof.Proof.RefScores
public import Idealize.ShloMosaic.Lib.StableHlo.ReadAt
public import Idealize.ShloMosaic.Lib.Pipeline.FrameTail

@[expose] public section

set_option maxRecDepth 16384

noncomputable section

namespace Cert.KernelIdeal.Host

open Cert.KernelIdeal Cert.KernelIdeal.Gen Idealize.ShloMosaic Idealize.ShloMosaic.TcCoe Idealize.SL.Sem Cert.Attn

variable (m : (ℓ : Loc nD τ sig) → Buf (Elt Ideal) ℓ) (c : Dev nD)

/-- The buffers once the scores are masked. -/
def W : Valuation τ sig (Elt Ideal) := StableHlo.after (hostOps0 ++ hostOps0_1) (fun b => m (c, b))

/-- The buffers when the kernel starts, after the scores' buffers. -/
theorem V_eq (b : Ref sig .tc) : V m c b = StableHlo.after (List.flatten [hostOps0_2, hostOps0_3, hostOps0_4, hostOps0_5, hostOps0_6, hostOps0_7, hostOps0_8, hostOps0_9, hostOps0_10]) (W m c) (Proc.devRef .tc b) := by
  unfold V W
  rw [List.flatten_cons, List.flatten_cons, ← List.append_assoc, StableHlo.after_append]

/-- The masked scores are the reference's. -/
theorem W_v34 : W m c (Proc.devRef .tc main_v34) = Cert.ReferenceIdeal.Read.val_main_v34_0 (m ((c : Thread nD τ).loc main_arg0)) (m ((c : Thread nD τ).loc main_arg1)) (m ((c : Thread nD τ).loc main_arg2)) (m ((c : Thread nD τ).loc main_arg3)) (m ((c : Thread nD τ).loc main_arg4)) := by
  unfold W
  after_reads_simp
  rfl

/-- The rotated queries are the reference's. -/
theorem W_v19 : W m c (Proc.devRef .tc main_v19) = Cert.ReferenceIdeal.Read.val_main_v19 (m ((c : Thread nD τ).loc main_arg0)) (m ((c : Thread nD τ).loc main_arg3)) (m ((c : Thread nD τ).loc main_arg4)) := by
  unfold W
  after_reads_simp
  rfl

/-- The queries' lanes without the rope part are the reference's. -/
theorem W_v3 : W m c (Proc.devRef .tc main_v3) = Cert.ReferenceIdeal.Read.val_main_v3 (m ((c : Thread nD τ).loc main_arg0)) := by
  unfold W
  after_reads_simp
  rfl

/-- The values are the reference's. -/
theorem W_v22 : W m c (Proc.devRef .tc main_v22) = Cert.ReferenceIdeal.Read.val_main_v22 (m ((c : Thread nD τ).loc main_arg1)) := by
  unfold W
  after_reads_simp
  rfl

/-- The keys and values as launched. -/
theorem W_arg1 : W m c (Proc.devRef .tc main_arg1) = m ((c : Thread nD τ).loc main_arg1) := by
  unfold W
  after_reads_simp
/-- The rope keys as launched. -/
theorem W_arg2 : W m c (Proc.devRef .tc main_arg2) = m ((c : Thread nD τ).loc main_arg2) := by
  unfold W
  after_reads_simp
/-- The cosines as launched. -/
theorem W_arg3 : W m c (Proc.devRef .tc main_arg3) = m ((c : Thread nD τ).loc main_arg3) := by
  unfold W
  after_reads_simp
/-- The sines as launched. -/
theorem W_arg4 : W m c (Proc.devRef .tc main_arg4) = m ((c : Thread nD τ).loc main_arg4) := by
  unfold W
  after_reads_simp

end Cert.KernelIdeal.Host
-- ==== Proof.HostTerms.lean ====
/- The kernel's operands as terms over the masked scores and the arguments. -/
module

public import proofs.«01_k».proof.Proof.Host

@[expose] public section

set_option maxRecDepth 16384

noncomputable section

namespace Cert.KernelIdeal.Host

open Cert.KernelIdeal Cert.KernelIdeal.Gen Idealize.ShloMosaic Idealize.ShloMosaic.TcCoe Idealize.SL.Sem Cert.Attn

/-- The greatest score of each row. -/
def t36 (S : FVec Ideal S4x8x2048x2048 .f32) : FVec Ideal S4x8x2048x1 .f32 :=
  broadcastInDim S4x8x2048x1 ![0, 1, 2] bcast_S4x8x2048_S4x8x2048x1_0_1_2
    (Host.reduce FloatOps.maximumf S (constant S_ .f32 0xFF800000#32) reducesTo_S4x8x2048x2048_S4x8x2048_d3 h_S_)

/-- The softmax's numerators. -/
def t39 (S : FVec Ideal S4x8x2048x2048 .f32) : FVec Ideal S4x8x2048x2048 .f32 :=
  Host.exp (subf S (broadcastInDim S4x8x2048x2048 ![0, 1, 2, 3] bcast_S4x8x2048x1_S4x8x2048x2048_0_1_2_3 (t36 S)))

/-- The softmax's denominators. -/
def t41 (S : FVec Ideal S4x8x2048x2048 .f32) : FVec Ideal S4x8x2048x1 .f32 :=
  broadcastInDim S4x8x2048x1 ![0, 1, 2] bcast_S4x8x2048_S4x8x2048x1_0_1_2
    (Host.reduceAdd (t39 S) (constant S_ .f32 0x00000000#32) reducesTo_S4x8x2048x2048_S4x8x2048_d3 h_S_)

/-- The probabilities. -/
def t46 (S : FVec Ideal S4x8x2048x2048 .f32) : FVec Ideal S4x8x2048x2048 .f32 :=
  Host.divf (t39 S) (broadcastInDim S4x8x2048x2048 ![0, 1, 2, 3] bcast_S4x8x2048x1_S4x8x2048x2048_0_1_2_3 (t41 S))

/-- The attention's output before its axes are moved. -/
def t47 (S : FVec Ideal S4x8x2048x2048 .f32) (v : FVec Ideal S4x2048x8x128 .f32) :
    FVec Ideal S4x8x128x2048 .f32 :=
  Host.dotGeneral dot_S4x2048x8x128_S4x8x2048x2048_S4x8x128x2048_1_3_3_2_02_01 none v (t46 S)

/-- The attention's output. -/
def t49 (S : FVec Ideal S4x8x2048x2048 .f32) (v : FVec Ideal S4x2048x8x128 .f32) :
    FVec Ideal S4x2048x1024 .f32 :=
  shapeCast S4x2048x1024 (transpose S4x2048x8x128 [0, 3, 1, 2] (t47 S v) transposes_S4x8x128x2048_S4x2048x8x128_0_3_1_2) shapeCasts_S4x2048x8x128_S4x2048x1024

/-- The rows' logarithms of sums. -/
def t54 (S : FVec Ideal S4x8x2048x2048 .f32) : FVec Ideal S4x8x2048x1 .f32 :=
  Host.divf (addf (t36 S) (Host.log (t41 S))) (broadcastInDim S4x8x2048x1 ![] bcast_S_S4x8x2048x1 (Host.log (constant S_ .f32 0x40000000#32)))

/-- The queries in the kernel's layout. -/
def t82 (n : FVec Ideal S4x2048x8x128 .f32) (r : FVec Ideal S4x2048x8x64 .f32) :
    FVec Ideal S4x2048x2048 .bf16 :=
  truncf .bf16 (shapeCast S4x2048x2048 (Host.divf
    (pad S4x2048x8x256 ![0, 0, 0, 0] ![0, 0, 0, 64] ![0, 0, 0, 0]
      (concatenate S4x2048x8x192 3 [⟨S4x2048x8x128, n⟩, ⟨S4x2048x8x64, r⟩] concatenates_S4x2048x8x128_S4x2048x8x64_S4x2048x8x192_d3)
      (sitofp .f32 (constantI S_ 32 0#32)) pads_S4x2048x8x192_S4x2048x8x256_000_000_000_0640 h_S_)
    (broadcastInDim S4x2048x8x256 ![] bcast_S_S4x2048x8x256
      (mulf (Host.sqrt (constant S_ .f32 0x43400000#32)) (Host.log (constant S_ .f32 0x40000000#32))))) shapeCasts_S4x2048x8x256_S4x2048x2048) bitsLt_bf16_f32

variable (m : (ℓ : Loc nD τ sig) → Buf (Elt Ideal) ℓ) (c : Dev nD)

theorem V_v49 : V m c main_v49 = t49 (W m c (Proc.devRef .tc main_v34)) (W m c (Proc.devRef .tc main_v22)) := by
  rw [V_eq]
  after_reads_simp
  unfold t49 t47 t46 t41 t39 t36
  rfl

theorem V_v54 : V m c main_v54 = t54 (W m c (Proc.devRef .tc main_v34)) := by
  rw [V_eq]
  after_reads_simp
  unfold t54 t41 t39 t36
  rfl

theorem read_v3 : StableHlo.upto (List.flatten [hostOps0_2, hostOps0_3, hostOps0_4, hostOps0_5, hostOps0_6, hostOps0_7, hostOps0_8, hostOps0_9, hostOps0_10]) (W m c) 53 (Proc.devRef .tc main_v3) = W m c (Proc.devRef .tc main_v3) := by
  after_reads_simp
theorem read_v19 : StableHlo.upto (List.flatten [hostOps0_2, hostOps0_3, hostOps0_4, hostOps0_5, hostOps0_6, hostOps0_7, hostOps0_8, hostOps0_9, hostOps0_10]) (W m c) 53 (Proc.devRef .tc main_v19) = W m c (Proc.devRef .tc main_v19) := by
  after_reads_simp

theorem V_v82 : V m c main_v82 = t82 (W m c (Proc.devRef .tc main_v3)) (W m c (Proc.devRef .tc main_v19)) := by
  rw [V_eq]
  after_reads_simp
  rw [read_v3, read_v19]
  unfold t82
  rfl

/-- The keys and values in the kernel's layout. -/
theorem V_v83 (b : Fin 4) (s : Fin 2048) (j : Fin 2048) : V m c main_v83 (ix3 b s j) = m ((c : Thread nD τ).loc main_arg1) (ix3 b s j) := by
  rw [V_eq, ← W_arg1 m c]
  after_reads_at

/-- The rope keys in the kernel's layout. -/
theorem V_v85 (b : Fin 4) (s : Fin 2048) (j : Fin 128) : V m c main_v85 (ix3 b s j)
    = if h : j.val < 64 then m ((c : Thread nD τ).loc main_arg2) (ix3 b s ⟨j.val, h⟩) else FloatOps.sitofp (F := Ideal) .f32 0#32 := by
  rw [V_eq, ← W_arg2 m c]
  after_reads_at

/-- Two halves of 32 lanes and zeros, as the kernel lays out cosines and sines. -/
def t72 (x : FVec Ideal S4x2048x32 .f32) : FVec Ideal S4x2048x128 .f32 :=
  concatenate S4x2048x128 2 [⟨S4x2048x32, x⟩, ⟨S4x2048x32, x⟩, ⟨S4x2048x64, broadcastInDim S4x2048x64 ![] bcast_S_S4x2048x64 (constant S_ .f32 0x00000000#32)⟩] concatenates_S4x2048x32_S4x2048x32_S4x2048x64_S4x2048x128_d2

theorem t72_at (x : FVec Ideal S4x2048x32 .f32) (b : Fin 4) (s : Fin 2048) (j : Fin 128) : t72 x (ix3 b s j)
    = if h : j.val < 32 then x (ix3 b s ⟨j.val, h⟩)
      else if h' : j.val < 64 then x (ix3 b s ⟨j.val - 32, by omega⟩) else (0 : EReal) := by
  pointwise [t72]
  by_cases h : j.val < 32
  · rw [dif_pos h, dif_pos h]
  · rw [dif_neg h, dif_neg h]
    by_cases h' : j.val < 64
    · rw [dif_pos (show j.val - 32 < 32 by omega), dif_pos h']
    · rw [dif_neg (show ¬(j.val - 32 < 32) by omega), dif_neg h']

theorem V_v72 : V m c main_v72 = t72 (m ((c : Thread nD τ).loc main_arg3)) := by
  rw [V_eq, ← W_arg3 m c]
  after_reads_simp
  have e0 : StableHlo.upto (List.flatten [hostOps0_2, hostOps0_3, hostOps0_4, hostOps0_5, hostOps0_6, hostOps0_7, hostOps0_8, hostOps0_9, hostOps0_10]) (W m c) 51 (Proc.devRef .tc (![main_arg3, main_arg3, main_v55] 0)) = W m c (Proc.devRef .tc main_arg3) := by
    show StableHlo.upto _ _ _ (Proc.devRef .tc main_arg3) = _
    after_reads_simp
  have e1 : StableHlo.upto (List.flatten [hostOps0_2, hostOps0_3, hostOps0_4, hostOps0_5, hostOps0_6, hostOps0_7, hostOps0_8, hostOps0_9, hostOps0_10]) (W m c) 51 (Proc.devRef .tc (![main_arg3, main_arg3, main_v55] 1)) = W m c (Proc.devRef .tc main_arg3) := by
    show StableHlo.upto _ _ _ (Proc.devRef .tc main_arg3) = _
    after_reads_simp
  have e2 : StableHlo.upto (List.flatten [hostOps0_2, hostOps0_3, hostOps0_4, hostOps0_5, hostOps0_6, hostOps0_7, hostOps0_8, hostOps0_9, hostOps0_10]) (W m c) 51 (Proc.devRef .tc (![main_arg3, main_arg3, main_v55] 2)) = (broadcastInDim S4x2048x64 ![] bcast_S_S4x2048x64 (constant S_ .f32 0x00000000#32) : FVec Ideal S4x2048x64 .f32) := by
    show StableHlo.upto _ _ _ (Proc.devRef .tc main_v55) = _
    after_reads_simp
  rw [e0, e1, e2]
  unfold t72
  rfl

theorem V_v73 : V m c main_v73 = t72 (m ((c : Thread nD τ).loc main_arg4)) := by
  rw [V_eq, ← W_arg4 m c]
  after_reads_simp
  have e0 : StableHlo.upto (List.flatten [hostOps0_2, hostOps0_3, hostOps0_4, hostOps0_5, hostOps0_6, hostOps0_7, hostOps0_8, hostOps0_9, hostOps0_10]) (W m c) 52 (Proc.devRef .tc (![main_arg4, main_arg4, main_v55] 0)) = W m c (Proc.devRef .tc main_arg4) := by
    show StableHlo.upto _ _ _ (Proc.devRef .tc main_arg4) = _
    after_reads_simp
  have e1 : StableHlo.upto (List.flatten [hostOps0_2, hostOps0_3, hostOps0_4, hostOps0_5, hostOps0_6, hostOps0_7, hostOps0_8, hostOps0_9, hostOps0_10]) (W m c) 52 (Proc.devRef .tc (![main_arg4, main_arg4, main_v55] 1)) = W m c (Proc.devRef .tc main_arg4) := by
    show StableHlo.upto _ _ _ (Proc.devRef .tc main_arg4) = _
    after_reads_simp
  have e2 : StableHlo.upto (List.flatten [hostOps0_2, hostOps0_3, hostOps0_4, hostOps0_5, hostOps0_6, hostOps0_7, hostOps0_8, hostOps0_9, hostOps0_10]) (W m c) 52 (Proc.devRef .tc (![main_arg4, main_arg4, main_v55] 2)) = (broadcastInDim S4x2048x64 ![] bcast_S_S4x2048x64 (constant S_ .f32 0x00000000#32) : FVec Ideal S4x2048x64 .f32) := by
    show StableHlo.upto _ _ _ (Proc.devRef .tc main_v55) = _
    after_reads_simp
  rw [e0, e1, e2]
  unfold t72
  rfl

/-- Where the matrix that swaps the rope's halves is not zero. -/
theorem near : ∀ y x : Fin 128, IntOp.andi (IntOp.cmpi CmpIPredicate.slt (BitVec.ofNat 32 y.val) 32#32)
    (IntOp.cmpi CmpIPredicate.eq (BitVec.ofNat 32 x.val) (IntOp.addi (BitVec.ofNat 32 y.val) 32#32))
      = if y.val < 32 ∧ x.val = y.val + 32 then 1#1 else 0#1 := by decide +kernel

/-- The matrix that swaps the rope's halves. -/
theorem V_v71 (y x : Fin 128) : V m c main_v71 (ix2 y x)
    = if y.val < 32 ∧ x.val = y.val + 32 then Ideal.ofBits .f32 3212836864#32 else if x.val < 32 ∧ y.val = x.val + 32 then (1 : EReal) else (0 : EReal) := by
  rw [V_eq]
  after_reads_at
  rw [near, near]
  split_ifs <;> rfl

end Cert.KernelIdeal.Host
-- ==== Proof.HostVals.lean ====
/- The kernel's operands at an index, on arguments that are real numbers. -/
module

public import proofs.«01_k».proof.Proof.HostTerms
public import proofs.«01_k».proof.Proof.TileReal

@[expose] public section

set_option maxRecDepth 16384

noncomputable section

namespace Cert.KernelIdeal.Host

open Cert.KernelIdeal Cert.KernelIdeal.Gen Idealize.ShloMosaic Idealize.ShloMosaic.TcCoe Idealize.SL.Sem Cert.Attn

variable (a : Args) (S : FVec Ideal S4x8x2048x2048 .f32)

/-- The logarithm of two, spread over the rows. -/
theorem wide_two (i : S4x8x2048x1.Idx) : broadcastInDim S4x8x2048x1 ![] bcast_S_S4x8x2048x1 (Host.log (constant (F := Ideal) S_ .f32 0x40000000#32)) i = ((Real.log 2 : ℝ) : EReal) := by
  pointwise
  rw [ofBits_two, Ideal.log_coe, if_neg (by norm_num)]

theorem div_apply (x y : FVec Ideal S4x8x2048x1 .f32) (i : S4x8x2048x1.Idx) : Host.divf x y i = Ideal.div (x i) (y i) := rfl
theorem add_apply (x y : FVec Ideal S4x8x2048x1 .f32) (i : S4x8x2048x1.Idx) : addf x y i = x i + y i := rfl
theorem log_apply (x : FVec Ideal S4x8x2048x1 .f32) (i : S4x8x2048x1.Idx) : Host.log x i = Ideal.log (x i) := rfl

/-- The rows' logarithms of sums, over the greatest scores and the denominators. -/
theorem t54_eq (i : S4x8x2048x1.Idx) : t54 S i = Ideal.div (t36 S i + Ideal.log (t41 S i)) ((Real.log 2 : ℝ) : EReal) := by
  unfold t54
  rw [div_apply, wide_two, add_apply, log_apply]

theorem lse_eq (b : Fin 4) (h : Fin 8) (s : Fin 2048) : Ideal.div (((top a b h s : ℝ) : EReal) + Ideal.log ((den a b h s : ℝ) : EReal)) ((Real.log 2 : ℝ) : EReal) = ((lse a b h s : ℝ) : EReal) := by
  rw [Ideal.log_coe, if_neg (not_le.2 (den_pos a b h s)), ← EReal.coe_add, div_real _ _ log_two_pos.ne']
  rfl

variable (HS : ∀ (b : Fin 4) (h : Fin 8) (s k : Fin 2048), S (ix4 b h s k) = if k ≤ s then ((sc a b h s k : ℝ) : EReal) else ⊥)
include HS

/-- The greatest score of a row. -/
theorem t36_at (b : Fin 4) (h : Fin 8) (s : Fin 2048) : t36 S (ix4 b h s 0) = ((top a b h s : ℝ) : EReal) := by
  pointwise [t36, HS]
  rw [ofBits_bot]
  exact fold_top a b h s

/-- The softmax's numerators. -/
theorem t39_at (b : Fin 4) (h : Fin 8) (s k : Fin 2048) : t39 S (ix4 b h s k) = ((ex a b h s k : ℝ) : EReal) := by
  pointwise [t39, HS, t36_at a S HS]
  unfold ex
  split
  · simp only [Ideal.subf_def, Ideal.hostUnary_exp_def, ← EReal.coe_sub, Ideal.exp_coe]
  · simp only [Ideal.subf_def, Ideal.hostUnary_exp_def, EReal.bot_sub, Ideal.exp_bot, EReal.coe_zero]

/-- The softmax's denominators. -/
theorem t41_at (b : Fin 4) (h : Fin 8) (s : Fin 2048) : t41 S (ix4 b h s 0) = ((den a b h s : ℝ) : EReal) := by
  pointwise [t41, t39_at a S HS]
  rw [den, coe_sum]

/-- The probabilities. -/
theorem t46_at (b : Fin 4) (h : Fin 8) (s k : Fin 2048) : t46 S (ix4 b h s k) = ((pr a b h s k : ℝ) : EReal) := by
  pointwise [t46, t39_at a S HS, t41_at a S HS]
  exact div_real _ _ (den_pos a b h s).ne'

/-- The rows' logarithms of sums, to the base two. -/
theorem t54_at (b : Fin 4) (h : Fin 8) (s : Fin 2048) : t54 S (ix4 b h s 0) = ((lse a b h s : ℝ) : EReal) := by
  rw [t54_eq, t36_at a S HS, t41_at a S HS]
  exact lse_eq a b h s

variable (v : FVec Ideal S4x2048x8x128 .f32) (Hv : ∀ (b : Fin 4) (s : Fin 2048) (h : Fin 8) (d : Fin 128), v (ix4 b s h d) = ((vv a b h s d : ℝ) : EReal))
include Hv

/-- The attention's output. -/
theorem t49_at (b : Fin 4) (s : Fin 2048) (h : Fin 8) (d : Fin 128) : t49 S v (ix3 b s ⟨h.val * 128 + d.val, by omega⟩) = ((oo a b h s d : ℝ) : EReal) := by
  pointwise [t49, t47, t46_at a S HS, Hv]
  rw [oo, coe_sum]
  refine Finset.sum_congr rfl fun k _ => ?_
  rw [← EReal.coe_mul, mul_comm]

omit HS Hv

variable (n : FVec Ideal S4x2048x8x128 .f32) (r : FVec Ideal S4x2048x8x64 .f32)
  (Hn : ∀ (b : Fin 4) (s : Fin 2048) (h : Fin 8) (d : Fin 128), n (ix4 b s h d) = ((qn a b h s d : ℝ) : EReal))
  (Hr : ∀ (b : Fin 4) (s : Fin 2048) (h : Fin 8) (d : Fin 64), r (ix4 b s h d) = ((qr a b h s d : ℝ) : EReal))
include Hn Hr

/-- The queries in the kernel's layout. -/
theorem t82_at (b : Fin 4) (s : Fin 2048) (h : Fin 8) (l : Fin 256) :
    t82 n r (ix3 b s ⟨h.val * 256 + l.val, by omega⟩) = ((qp a b h s l / unit : ℝ) : EReal) := by
  pointwise [t82, Hn, Hr]
  rw [ofBits_two, ofBits_192, sqrt_192, Ideal.log_coe, if_neg (by norm_num), ← EReal.coe_mul]
  have z : FloatOps.sitofp (F := Ideal) .f32 0#32 = ((0 : ℝ) : EReal) := by
    rw [show FloatOps.sitofp (F := Ideal) .f32 0#32 = (((0#32).toInt : ℝ) : EReal) from rfl]
    simp
  rw [z]
  unfold qp
  split_ifs
  all_goals first | exact div_real _ _ unit_ne | omega

end Cert.KernelIdeal.Host
-- ==== Proof.Operands.lean ====
/- A grid point's blocks hold the arguments' numbers. -/
module

public import proofs.«01_k».proof.Proof.HostVals
public import proofs.«01_k».proof.Proof.Sums

@[expose] public section

set_option maxRecDepth 16384

noncomputable section

namespace Cert.KernelIdeal.Blocks

open Cert.KernelIdeal Cert.KernelIdeal.Gen Idealize.ShloMosaic Idealize.ShloMosaic.TcCoe Idealize.SL.Sem Cert.Attn
open Cert.KernelIdeal.Host

theorem place_0 : ∀ t : Fin cfg0.N, win0_0.index t = ![t.val / 16, t.val % 4, t.val / 4 % 4] :=
  (by decide +kernel : ∀ t : Fin grid0.N, win0_0.index t = ![t.val / 16, t.val % 4, t.val / 4 % 4])
theorem place_1 : ∀ t : Fin cfg0.N, win0_1.index t = ![t.val / 16, t.val % 4, 0] :=
  (by decide +kernel : ∀ t : Fin grid0.N, win0_1.index t = ![t.val / 16, t.val % 4, 0])
theorem place_2 : ∀ t : Fin cfg0.N, win0_2.index t = ![t.val / 16, t.val % 4, 0] :=
  (by decide +kernel : ∀ t : Fin grid0.N, win0_2.index t = ![t.val / 16, t.val % 4, 0])
theorem place_3 : ∀ t : Fin cfg0.N, win0_3.index t = ![0, 0] :=
  (by decide +kernel : ∀ t : Fin grid0.N, win0_3.index t = ![0, 0])
theorem place_4 : ∀ t : Fin cfg0.N, win0_4.index t = ![t.val / 16, 0, t.val / 4 % 4] :=
  (by decide +kernel : ∀ t : Fin grid0.N, win0_4.index t = ![t.val / 16, 0, t.val / 4 % 4])
theorem place_5 : ∀ t : Fin cfg0.N, win0_5.index t = ![t.val / 16, 0, 0] :=
  (by decide +kernel : ∀ t : Fin grid0.N, win0_5.index t = ![t.val / 16, 0, 0])
theorem place_6 : ∀ t : Fin cfg0.N, win0_6.index t = ![t.val / 16, t.val % 4, t.val / 4 % 4] :=
  (by decide +kernel : ∀ t : Fin grid0.N, win0_6.index t = ![t.val / 16, t.val % 4, t.val / 4 % 4])
theorem place_7 : ∀ t : Fin cfg0.N, win0_7.index t = ![t.val / 16, t.val / 4 % 4, t.val % 4, 0] :=
  (by decide +kernel : ∀ t : Fin grid0.N, win0_7.index t = ![t.val / 16, t.val / 4 % 4, t.val % 4, 0])
theorem place_8 : ∀ t : Fin cfg0.N, win0_8.index t = ![t.val / 16, t.val % 4, t.val / 4 % 4] :=
  (by decide +kernel : ∀ t : Fin grid0.N, win0_8.index t = ![t.val / 16, t.val % 4, t.val / 4 % 4])

variable (m : (ℓ : Loc nD τ sig) → Buf (Elt Ideal) ℓ) (c : Dev nD) (b g u : Fin 4)

theorem read_0 (i : Fin 512) (j : Fin 512) : iblk m c 0 (pt b g u) (ix3 0 i j) = V m c main_v82 (ix3 b (row u i) ⟨g.val * 512 + j.val, by omega⟩) := by
  blk_ext [iblk, place_0, pt, row]
theorem read_1 (i : Fin 512) (j : Fin 128) : iblk m c 1 (pt b g u) (ix3 0 i j) = V m c main_v72 (ix3 b (row u i) j) := by
  blk_ext [iblk, place_1, pt, row]
theorem read_2 (i : Fin 512) (j : Fin 128) : iblk m c 2 (pt b g u) (ix3 0 i j) = V m c main_v73 (ix3 b (row u i) j) := by
  blk_ext [iblk, place_2, pt, row]
theorem read_3 (y x : Fin 128) : iblk m c 3 (pt b g u) (ix2 y x) = V m c main_v71 (ix2 y x) := by
  blk_ext [iblk, place_3, pt, row]
theorem read_4 (r : Fin 2048) (j : Fin 512) : iblk m c 4 (pt b g u) (ix3 0 r j) = V m c main_v83 (ix3 b r ⟨g.val * 512 + j.val, by omega⟩) := by
  blk_ext [iblk, place_4, pt, row]
theorem read_5 (r : Fin 2048) (j : Fin 128) : iblk m c 5 (pt b g u) (ix3 0 r j) = V m c main_v85 (ix3 b r j) := by
  blk_ext [iblk, place_5, pt, row]
theorem read_6 (i : Fin 512) (j : Fin 256) : iblk m c 6 (pt b g u) (ix3 0 i j) = V m c main_v49 (ix3 b (row u i) ⟨g.val * 256 + j.val, by omega⟩) := by
  blk_ext [iblk, place_6, pt, row]
theorem read_7 (e : Fin 2) (i : Fin 512) : iblk m c 7 (pt b g u) (ix4 0 e i 0) = V m c main_v54 (ix4 b (hd g e) (row u i) 0) := by
  blk_ext [iblk, place_7, pt, row, hd]
theorem read_8 (i : Fin 512) (j : Fin 256) : iblk m c 8 (pt b g u) (ix3 0 i j) = V m c main_arg5 (ix3 b (row u i) ⟨g.val * 256 + j.val, by omega⟩) := by
  blk_ext [iblk, place_8, pt, row]

end Cert.KernelIdeal.Blocks
-- ==== Proof.Instance.lean ====
/- The kernel's blocks on real arguments, and the output arrays after the run. -/
module

public import proofs.«01_k».proof.Proof.Operands
public import proofs.«01_k».proof.Proof.Arrays

@[expose] public section

set_option maxRecDepth 16384

noncomputable section

namespace Cert.KernelIdeal.Blocks

open Cert.KernelIdeal Cert.KernelIdeal.Gen Idealize.ShloMosaic Idealize.ShloMosaic.TcCoe Idealize.SL.Sem Cert.Attn
open Cert.KernelIdeal.Host Cert.ReferenceIdeal.Scores

/-- The program's arguments hold the numbers of `a`. -/
structure Holds (m : (ℓ : Loc nD τ sig) → Buf (Elt Ideal) ℓ) (c : Dev nD) (a : Args) : Prop where
  h0 : m ((c : Thread nD τ).loc main_arg0) = x0 a
  h1 : m ((c : Thread nD τ).loc main_arg1) = x1 a
  h2 : m ((c : Thread nD τ).loc main_arg2) = x2 a
  h3 : m ((c : Thread nD τ).loc main_arg3) = x3 a
  h4 : m ((c : Thread nD τ).loc main_arg4) = x4 a
  h5 : m ((c : Thread nD τ).loc main_arg5) = x5 a

variable (a : Args)

/-- The queries' lanes without the rope part. -/
theorem own_at (b : Fin 4) (s : Fin 2048) (h : Fin 8) (d : Fin 128) :
    Cert.ReferenceIdeal.Read.val_main_v3 (F := Ideal) (x0 a) (ix4 b s h d) = ((qn a b h s d : ℝ) : EReal) := by
  pointwise [Cert.ReferenceIdeal.Read.val_main_v3, Cert.ReferenceIdeal.Read.val_main_v2, x0_apply]
  rfl

/-- The values. -/
theorem values_at (b : Fin 4) (s : Fin 2048) (h : Fin 8) (d : Fin 128) :
    Cert.ReferenceIdeal.Read.val_main_v22 (F := Ideal) (x1 a) (ix4 b s h d) = ((vv a b h s d : ℝ) : EReal) := by
  pointwise [Cert.ReferenceIdeal.Read.val_main_v22, Cert.ReferenceIdeal.Read.val_main_v20, x1_apply]
  rfl

variable {m : (ℓ : Loc nD τ sig) → Buf (Elt Ideal) ℓ} {c : Dev nD} {a} (A : Holds m c a)
include A

theorem q_at (b : Fin 4) (s : Fin 2048) (h : Fin 8) (l : Fin 256) :
    V m c main_v82 (ix3 b s ⟨h.val * 256 + l.val, by omega⟩) = ((qp a b h s l / unit : ℝ) : EReal) := by
  rw [V_v82, W_v3, W_v19, A.h0, A.h3, A.h4]
  exact t82_at a _ _ (own_at a) (fun b s h d => roped a b h s d) b s h l

theorem o_at (b : Fin 4) (s : Fin 2048) (h : Fin 8) (d : Fin 128) :
    V m c main_v49 (ix3 b s ⟨h.val * 128 + d.val, by omega⟩) = ((oo a b h s d : ℝ) : EReal) := by
  rw [V_v49, W_v34, W_v22, A.h0, A.h1, A.h2, A.h3, A.h4]
  exact t49_at a _ (masked a) _ (values_at a) b s h d

theorem l_at (b : Fin 4) (h : Fin 8) (s : Fin 2048) : V m c main_v54 (ix4 b h s 0) = ((lse a b h s : ℝ) : EReal) := by
  rw [V_v54, W_v34, A.h0, A.h1, A.h2, A.h3, A.h4]
  exact t54_at a _ (masked a) b h s

theorem kv_at (b : Fin 4) (s j : Fin 2048) : V m c main_v83 (ix3 b s j) = ((a.kv b s j : ℝ) : EReal) := by
  rw [V_v83, A.h1]
  rfl

theorem kr_at (b : Fin 4) (s : Fin 2048) (j : Fin 128) : V m c main_v85 (ix3 b s j) = ((krp a b s j : ℝ) : EReal) := by
  rw [V_v85, A.h2]
  unfold krp
  split
  · rfl
  · rw [show FloatOps.sitofp (F := Ideal) .f32 0#32 = (((0#32).toInt : ℝ) : EReal) from rfl]
    simp

theorem co_at (b : Fin 4) (s : Fin 2048) (j : Fin 128) : V m c main_v72 (ix3 b s j) = ((cop a b s j : ℝ) : EReal) := by
  rw [V_v72, A.h3]
  refine (t72_at _ b s j).trans ?_
  unfold cop
  split_ifs <;> rfl

theorem si_at (b : Fin 4) (s : Fin 2048) (j : Fin 128) : V m c main_v73 (ix3 b s j) = ((sip a b s j : ℝ) : EReal) := by
  rw [V_v73, A.h4]
  refine (t72_at _ b s j).trans ?_
  unfold sip
  split_ifs <;> rfl

omit A in
theorem sw_at (y x : Fin 128) : V m c main_v71 (ix2 y x) = ((swap y x : ℝ) : EReal) := by
  rw [V_v71]
  unfold swap
  split_ifs
  · rw [EReal.coe_neg, EReal.coe_one]
    exact IdealRules.sign_bit.ideal_negOnePat .f32
  · rfl
  · rfl

set_option maxHeartbeats 4000000 in
/-- A grid point's blocks hold the arguments' numbers. -/
theorem of (b g u : Fin 4) : (tile m c (pt b g u)).Of a b g u where
  q e i l := by
    refine (read_0 m c b g u i ⟨e.val * 256 + l.val, by omega⟩).trans (Eq.trans ?_ (q_at A b (row u i) (hd g e) l))
    exact congrArg (fun z => V m c main_v82 (ix3 b (row u i) z)) (Fin.ext (by show g.val * 512 + (e.val * 256 + l.val) = (2 * g.val + e.val) * 256 + l.val; omega))
  k e r l := by
    refine (read_4 m c b g u r ⟨e.val * 256 + l.val, by omega⟩).trans ((kv_at A b r _).trans ?_)
    exact congrArg (fun z => ((a.kv b r z : ℝ) : EReal)) (Fin.ext (by show g.val * 512 + (e.val * 256 + l.val) = (2 * g.val + e.val) * 256 + l.val; omega))
  kr r l := (read_5 m c b g u r l).trans (kr_at A b r l)
  v e r d := by
    refine (read_4 m c b g u r ⟨e.val * 256 + 128 + d.val, by omega⟩).trans ((kv_at A b r _).trans ?_)
    exact congrArg (fun z => ((a.kv b r z : ℝ) : EReal)) (Fin.ext (by show g.val * 512 + (e.val * 256 + 128 + d.val) = (2 * g.val + e.val) * 256 + (128 + d.val); omega))
  o e i d := by
    refine (read_6 m c b g u i ⟨e.val * 128 + d.val, by omega⟩).trans (Eq.trans ?_ (o_at A b (row u i) (hd g e) d))
    exact congrArg (fun z => V m c main_v49 (ix3 b (row u i) z)) (Fin.ext (by show g.val * 256 + (e.val * 128 + d.val) = (2 * g.val + e.val) * 128 + d.val; omega))
  d e i d := by
    refine (read_8 m c b g u i ⟨e.val * 128 + d.val, by omega⟩).trans ?_
    rw [V_main_arg5, A.h5]
    exact congrArg (fun z => ((a.dv b (row u i) z : ℝ) : EReal)) (Fin.ext (by show g.val * 256 + (e.val * 128 + d.val) = (2 * g.val + e.val) * 128 + d.val; omega))
  l e i := (read_7 m c b g u e i).trans (l_at A b (hd g e) (row u i))
  co i x := (read_1 m c b g u i x).trans (co_at A b (row u i) x)
  si i x := (read_2 m c b g u i x).trans (si_at A b (row u i) x)
  sw y x := (read_3 m c b g u y x).trans (sw_at y x)

/-- The first result of the run. -/
theorem result_9 : (dats m 0 c).arrAt 9 cfg0.N = arr9 a := final_9 (of A)
/-- The second result of the run. -/
theorem result_10 : (dats m 0 c).arrAt 10 cfg0.N = arr10 a := final_10 (of A)
/-- The third result of the run. -/
theorem result_11 : (dats m 0 c).arrAt 11 cfg0.N = arr11 a := final_11 (of A)

end Cert.KernelIdeal.Blocks
-- ==== Proof.Finite.lean ====
/- Arguments that the precondition admits hold real numbers. -/
module

public import proofs.«01_k».proof.Defs
public import proofs.«01_k».proof.Proof.Gen.Pre_finite
public import proofs.«01_k».proof.Proof.Instance
public import Idealize.ShloMosaic.Lib.KernelVsHost

@[expose] public section

set_option maxRecDepth 16384

noncomputable section

namespace Cert.KernelIdeal.Blocks

open Cert.KernelIdeal Cert.KernelIdeal.Gen Idealize.ShloMosaic Idealize.ShloMosaic.TcCoe Idealize.SL.Sem Cert.Attn
open Cert.ReferenceIdeal.Scores

/-- A value whose size compares below infinity is a real number. -/
theorem real_of_lt (x : Ideal .f32)
    (h : FloatOps.cmpf .olt (FloatOps.hostAbsf x) (FloatOps.ofBits (F := Ideal) .f32 0x7F800000#32) = 1#1) :
    (((x : EReal).toReal : ℝ) : EReal) = x := by
  rw [← Ideal.xori_weird_eq_hostAbsf_olt_inf x] at h
  have hn : ¬((x : EReal) = ⊤ ∨ (x : EReal) = ⊥) := by
    intro hx
    have hw : FloatOps.weird x = 1#1 := by
      show BitVec.ofBool (decide ((x : EReal) = ⊤ ∨ (x : EReal) = ⊥)) = 1#1
      rw [decide_eq_true hx]
      rfl
    rw [hw] at h
    exact absurd h (by decide)
  exact EReal.coe_toReal (fun t => hn (Or.inl t)) (fun t => hn (Or.inr t))

variable (m : (ℓ : Loc nD τ sig) → Buf (Elt Ideal) ℓ) (c : Dev nD)

/-- An argument's entry, as a real number. -/
def num {s : Shape} (x : FVec Ideal s .f32) (i : s.Idx) : ℝ := (x i : EReal).toReal

/-- The real numbers that the arguments hold. -/
def args : Args where
  q i j k := num (s := S4x2048x1536) (m ((c : Thread nD τ).loc main_arg0)) (ix3 i j k)
  kv i j k := num (s := S4x2048x2048) (m ((c : Thread nD τ).loc main_arg1)) (ix3 i j k)
  kr i j k := num (s := S4x2048x64) (m ((c : Thread nD τ).loc main_arg2)) (ix3 i j k)
  co i j k := num (s := S4x2048x32) (m ((c : Thread nD τ).loc main_arg3)) (ix3 i j k)
  si i j k := num (s := S4x2048x32) (m ((c : Thread nD τ).loc main_arg4)) (ix3 i j k)
  dv i j k := num (s := S4x2048x1024) (m ((c : Thread nD τ).loc main_arg5)) (ix3 i j k)

/-- An array all of whose entries compare below infinity is made of its real numbers. -/
theorem array_real {n₀ n₁ n₂ : ℕ} (x : FVec Ideal ⟨3, ![n₀, n₁, n₂]⟩ .f32)
    (h : ∀ i, FloatOps.cmpf .olt (FloatOps.hostAbsf (x i)) (FloatOps.ofBits (F := Ideal) .f32 0x7F800000#32) = 1#1) :
    x = fun i => ((num x (ix3 (i 0) (i 1) (i 2)) : ℝ) : EReal) := by
  funext i
  have e : (ix3 (i 0) (i 1) (i 2) : Shape.Idx ⟨3, ![n₀, n₁, n₂]⟩) = i := by
    funext d
    fin_cases d <;> rfl
  exact (real_of_lt (x i) (h i)).symm.trans (congrArg (fun z => (((x z : EReal).toReal : ℝ) : EReal)) e.symm)

/-- Under the precondition the arguments hold real numbers. -/
theorem holds_args (h : Cert.Pre_KernelIdeal_finite m) : Holds m c (args m c) := by
  obtain ⟨p0, p1, p2, p3, p4, p5⟩ := h c
  exact ⟨array_real _ fun i => congrFun p0 i, array_real _ fun i => congrFun p1 i, array_real _ fun i => congrFun p2 i,
    array_real _ fun i => congrFun p3 i, array_real _ fun i => congrFun p4 i, array_real _ fun i => congrFun p5 i⟩

end Cert.KernelIdeal.Blocks
-- ==== Proof.Zeros.lean ====
/- Offsets that are zero on every axis. -/
module

public import Idealize.ShloMosaic.Lib.Pipeline.Value

@[expose] public section

namespace Cert.Products

theorem zero2 : (![0, 0] : Fin 2 → ℕ) = fun _ => 0 := funext fun a => by fin_cases a <;> rfl
theorem zero3 : (![0, 0, 0] : Fin 3 → ℕ) = fun _ => 0 := funext fun a => by fin_cases a <;> rfl

end Cert.Products
-- ==== Proof.UpDataProduct.lean ====
/- The gradient of the rows of the feed-forward part's first product, whose cotangent comes in two pieces: a point with an even number leaves
   the first piece's product, the next one adds the second piece's, and their sum is the product of both pieces side by side. -/
module

public import proofs.«01_k».proof.Defs
public import proofs.«01_k».proof.Proof.Gen.UpDataIdeal.Value
public import proofs.«01_k».proof.Proof.Gen.UpDataReferenceIdeal.Run
public import proofs.«01_k».proof.Proof.Zeros
public import Idealize.ShloMosaic.Lib.Pointwise

@[expose] public section

set_option maxRecDepth 16384

noncomputable section

namespace Cert.UpDataIdeal.Product

open Cert.UpDataIdeal Cert.UpDataIdeal.Gen Cert.Products Idealize.ShloMosaic Idealize.ShloMosaic.TcCoe Idealize.SL.Sem

variable (m : (ℓ : Loc nD τ sig) → Buf (Elt Ideal) ℓ)

/-- The products of the two pieces with the two halves of a layer's weights, transposed, added. -/
def product (l : Fin 2) (a b : S8192x2816.Idx → EReal) (w : S2x1024x5632.Idx → EReal) : S8192x1024.Idx → EReal := fun y =>
  (∑ k : Fin 2816, a (ix2 (y 0) k) * w (ix3 l (y 1) ⟨k.val, by omega⟩)) + ∑ k : Fin 2816, b (ix2 (y 0) k) * w (ix3 l (y 1) ⟨2816 + k.val, by omega⟩)

/-- Where a point's blocks lie. -/
theorem places : ∀ t : Fin cfg0.N, win0_3.index t = ![t.val / 2, 0] ∧ win0_0.index t = ![t.val / 2, 0] ∧ win0_1.index t = ![t.val / 2, 0]
    ∧ win0_2.index t = ![1, 0, t.val % 2] :=
  (by decide +kernel : ∀ t : Fin grid0.N, _)

/-- What an even point leaves in the result's block. -/
theorem first (c : Dev nD) (i : grid0.Coords) (a0 : Memref sig .tc .vmem S512x2816 .bf16) (h0 : a0.IsWhole) (a1 : Memref sig .tc .vmem S512x2816 .bf16) (h1 : a1.IsWhole)
    (a2 : Memref sig .tc .vmem S1x1024x2816 .bf16) (h2 : a2.IsWhole) (a3 : Memref sig .tc .vmem S512x1024 .f32) (h3 : a3.IsWhole) (hc0 : cond0_0 i) (hc1 : ¬cond0_1 i)
    (x0 x1 : Vec Ideal S512x2816 .bf16) (x2 : Vec Ideal S1x1024x2816 .bf16) :
    out0_A_3 c i a0 h0 a1 h1 a2 h2 a3 h3 hc0 hc1 x0 x1 x2 = k0_pay1 x0 x2 := by
  unfold out0_A_3
  rw [View.read_writes_eq_canon _ _ _ (cover0_A_3 c i a0 h0 a1 h1 a2 h2 a3 h3 hc0 hc1 x0 x1 x2)]
  unfold kernelRun0_A
  dsimp only
  rw [View.canon_unit_zero zero2]
  simp only [View.readAt_eq_ld, h0.read_unread, h2.read_unread, View.ld_unit_zero (S := S512x2816) zero2, View.ld_unit_zero (S := S1x1024x2816) zero3]

/-- What an odd point leaves there, over what the point before left. -/
theorem second (c : Dev nD) (i : grid0.Coords) (a0 : Memref sig .tc .vmem S512x2816 .bf16) (h0 : a0.IsWhole) (a1 : Memref sig .tc .vmem S512x2816 .bf16) (h1 : a1.IsWhole)
    (a2 : Memref sig .tc .vmem S1x1024x2816 .bf16) (h2 : a2.IsWhole) (a3 : Memref sig .tc .vmem S512x1024 .f32) (h3 : a3.IsWhole) (hc0 : ¬cond0_0 i) (hc1 : cond0_1 i)
    (x0 x1 : Vec Ideal S512x2816 .bf16) (x2 : Vec Ideal S1x1024x2816 .bf16) (x3 : Vec Ideal S512x1024 .f32) :
    out0_B_3 c i a0 h0 a1 h1 a2 h2 a3 h3 hc0 hc1 x0 x1 x2 x3 = k0_pay2 x3 x1 x2 := by
  unfold out0_B_3
  rw [View.read_writes_eq_canon _ _ _ (cover0_B_3 c i a0 h0 a1 h1 a2 h2 a3 h3 hc0 hc1 x0 x1 x2 x3)]
  unfold kernelRun0_B
  dsimp only
  rw [View.canon_unit_zero zero2]
  simp only [View.readAt_eq_ld, h1.read_unread, h2.read_unread, h3.read_unread, View.ld_unit_zero (S := S512x2816) zero2, View.ld_unit_zero (S := S1x1024x2816) zero3,
    View.ld_unit_zero (S := S512x1024) zero2]

/-- The block after an odd point, entry by entry: both pieces' products. -/
theorem left (x0 x1 : Vec Ideal S512x2816 .bf16) (x2 x2' : Vec Ideal S1x1024x2816 .bf16) (p : Fin 512) (q : Fin 1024) :
    k0_pay2 (k0_pay1 x0 x2) x1 x2' (ix2 p q) = (∑ k : Fin 2816, x0 (ix2 p k) * x2 (ix3 0 q k)) + ∑ k : Fin 2816, x1 (ix2 p k) * x2' (ix3 0 q k) := by
  pointwise [k0_pay1, k0_pay2]

/-- A point's block of the first piece. -/
theorem rows0 (c : Dev nD) (t : Fin cfg0.N) (y : S8192x1024.Idx) (p : Fin 512) (h : (y 0).val = t.val / 2 * 512 + p.val) (k : Fin 2816) :
    iblk m c 0 t (ix2 p k) = m ((c : Thread nD τ).loc main_arg0) (ix2 (y 0) k) := by
  show V m c main_arg0 (((cfg0.win 0).blk t).view.emb (ix2 p k)) = _
  rw [V_main_arg0]
  refine congrArg (m ((c : Thread nD τ).loc main_arg0)) (funext fun a => Fin.ext ?_)
  have e := (places t).2.1
  match a with
  | 0 => show win0_0.index t 0 * 512 + 1 * p.val = (y 0).val; rw [e, h]; simp
  | 1 => show win0_0.index t 1 * 2816 + 1 * k.val = k.val; rw [e]; simp

/-- A point's block of the second piece. -/
theorem rows1 (c : Dev nD) (t : Fin cfg0.N) (y : S8192x1024.Idx) (p : Fin 512) (h : (y 0).val = t.val / 2 * 512 + p.val) (k : Fin 2816) :
    iblk m c 1 t (ix2 p k) = m ((c : Thread nD τ).loc main_arg1) (ix2 (y 0) k) := by
  show V m c main_arg1 (((cfg0.win 1).blk t).view.emb (ix2 p k)) = _
  rw [V_main_arg1]
  refine congrArg (m ((c : Thread nD τ).loc main_arg1)) (funext fun a => Fin.ext ?_)
  have e := (places t).2.2.1
  match a with
  | 0 => show win0_1.index t 0 * 512 + 1 * p.val = (y 0).val; rw [e, h]; simp
  | 1 => show win0_1.index t 1 * 2816 + 1 * k.val = k.val; rw [e]; simp

/-- A point's block of the second layer's weights: one half of their columns. -/
theorem weights (c : Dev nD) (t : Fin cfg0.N) (q : Fin 1024) (k : Fin 2816) (k' : Fin 5632) (h : k'.val = t.val % 2 * 2816 + k.val) :
    iblk m c 2 t (ix3 0 q k) = m ((c : Thread nD τ).loc main_arg2) (ix3 1 q k') := by
  show V m c main_arg2 (((cfg0.win 2).blk t).view.emb (ix3 0 q k)) = _
  rw [V_main_arg2]
  refine congrArg (m ((c : Thread nD τ).loc main_arg2)) (funext fun a => Fin.ext ?_)
  have e := (places t).2.2.2
  match a with
  | 0 => show win0_2.index t 0 * 1 + 1 * 0 = 1; rw [e]; simp
  | 1 => show win0_2.index t 1 * 1024 + 1 * q.val = q.val; rw [e]; simp
  | 2 => show win0_2.index t 2 * 2816 + 1 * k.val = k'.val; rw [e, h]; simp

/-- What an odd point leaves in the result's block. -/
theorem leaves (c : Dev nD) (t s : Fin cfg0.N) (h : t.val % 2 = 1) (hs : s.val = t.val - 1) :
    outsAt0 m c t.val t.isLt = k0_pay2 (k0_pay1 (iblk m c 0 s) (iblk m c 2 s)) (iblk m c 1 t) (iblk m c 2 t) := by
  rw [outsAt0_B m c t (by omega) h, second]
  obtain ⟨s, hs'⟩ := s
  obtain rfl : s = t.val - 1 := hs
  exact congrArg (fun x => k0_pay2 x (iblk m c 1 t) (iblk m c 2 t)) ((outsAt0_A m c ⟨t.val - 1, hs'⟩ (by show (t.val - 1) % 2 = 0; omega) (by show ¬(t.val - 1) % 2 = 1; omega)).trans (first ..))

/-- An odd point's block of a layer's product comes of both pieces' blocks of the rows and of the halves of the layer's weights. -/
theorem block (l : Fin 2) (a b : S8192x2816.Idx → EReal) (w : S2x1024x5632.Idx → EReal) (t : Fin cfg0.N) (x0 x1 : Vec Ideal S512x2816 .bf16) (x2 x2' : Vec Ideal S1x1024x2816 .bf16)
    (ha : ∀ (y : S8192x1024.Idx) (p : Fin 512), (y 0).val = t.val / 2 * 512 + p.val → ∀ k, x0 (ix2 p k) = a (ix2 (y 0) k))
    (hb : ∀ (y : S8192x1024.Idx) (p : Fin 512), (y 0).val = t.val / 2 * 512 + p.val → ∀ k, x1 (ix2 p k) = b (ix2 (y 0) k))
    (hw : ∀ (q : Fin 1024) (k : Fin 2816) (k' : Fin 5632), k'.val = k.val → x2 (ix3 0 q k) = w (ix3 l q k'))
    (hw' : ∀ (q : Fin 1024) (k : Fin 2816) (k' : Fin 5632), k'.val = 2816 + k.val → x2' (ix3 0 q k) = w (ix3 l q k')) :
    (cfg0.win 3).cut (grid0.coords t) (k0_pay2 (k0_pay1 x0 x2) x1 x2') = ((cfg0.win 3).blk t).view.read (Elt Ideal) (product l a b w) := by
  funext (y : S512x1024.Idx)
  have e := (places t).1
  have h0 : ((((cfg0.win 3).blk t).view.emb y) 0).val = t.val / 2 * 512 + (y 0).val := by
    show win0_3.index t 0 * 512 + 1 * (y 0).val = _; rw [e]; simp
  have h1 : ((((cfg0.win 3).blk t).view.emb y) 1) = y 1 := Fin.ext (by
    show win0_3.index t 1 * 1024 + 1 * (y 1).val = _; rw [e]; simp)
  have hy : ∀ x : Vec Ideal S512x1024 .f32, (cfg0.win 3).cut (grid0.coords t) x y = x (ix2 (y 0) (y 1)) := fun x =>
    congrArg x (funext fun a => by match a with | 0 => rfl | 1 => rfl)
  refine (hy _).trans ((left _ _ _ _ _ _).trans ?_)
  show _ = product _ _ _ _ (((cfg0.win 3).blk t).view.emb y)
  unfold product
  rw [h1]
  exact congrArg₂ (fun x w : EReal => x + w)
    (Finset.sum_congr rfl fun k _ => congrArg₂ (fun x w : EReal => x * w) (ha _ (y 0) h0 k) (hw (y 1) k _ rfl))
    (Finset.sum_congr rfl fun k _ => congrArg₂ (fun x w : EReal => x * w) (hb _ (y 0) h0 k) (hw' (y 1) k _ rfl))

/-- What an odd point writes is its block of the product. -/
theorem wrote (c : Dev nD) (t : Fin cfg0.N) (ht : (cfg0.win 3).flush t = true) :
    (dats m 0 c).flushed 3 t = ((cfg0.win 3).blk t).view.read (Elt Ideal)
      (product 1 (m ((c : Thread nD τ).loc main_arg0)) (m ((c : Thread nD τ).loc main_arg1)) (m ((c : Thread nD τ).loc main_arg2))) := by
  have odd := (flush0_3 t).mp ht
  have hs : t.val - 1 < cfg0.N := lt_of_le_of_lt (Nat.sub_le _ _) t.isLt
  rw [Value.flushed3, leaves m c t ⟨_, hs⟩ odd rfl]
  exact block 1 _ _ _ t _ _ _ _ (fun y p h k => rows0 m c ⟨_, hs⟩ y p (by show _ = (t.val - 1) / 2 * 512 + p.val; rw [h]; omega) k) (rows1 m c t)
    (fun q k k' h => weights m c ⟨_, hs⟩ q k k' (by show k'.val = (t.val - 1) % 2 * 2816 + k.val; omega))
    (fun q k k' h => weights m c t q k k' (by rw [h, odd]))

/-- The odd points' blocks cover the result. -/
theorem covered (y : S8192x1024.Idx) : ∃ t : Fin cfg0.N, (cfg0.win 3).flush t = true ∧ y ∈ ((cfg0.win 3).blk t).view.set := by
  have b0 : (y 0).val < 8192 := (y 0).isLt
  have b1 : (y 1).val < 1024 := (y 1).isLt
  have ht : (y 0).val / 512 * 2 + 1 < cfg0.N := lt_of_lt_of_eq (by omega) N_0.symm
  refine ⟨⟨_, ht⟩, (flush0_3 _).mpr (by show ((y 0).val / 512 * 2 + 1) % 2 = 1; omega), ?_⟩
  show y ∈ ((View.whole main_v0).slice (win0_3.rect ⟨_, ht⟩)).set
  rw [View.set_slice_whole, Rect.mem_set_unit]
  have e := (places ⟨_, ht⟩).1
  intro a
  match a with
  | 0 =>
    show win0_3.index ⟨_, ht⟩ 0 * 512 ≤ (y 0).val ∧ (y 0).val < win0_3.index ⟨_, ht⟩ 0 * 512 + 512
    rw [e]
    show ((y 0).val / 512 * 2 + 1) / 2 * 512 ≤ (y 0).val ∧ (y 0).val < ((y 0).val / 512 * 2 + 1) / 2 * 512 + 512
    omega
  | 1 =>
    show win0_3.index ⟨_, ht⟩ 1 * 1024 ≤ (y 1).val ∧ (y 1).val < win0_3.index ⟨_, ht⟩ 1 * 1024 + 1024
    rw [e]
    show 0 * 1024 ≤ (y 1).val ∧ (y 1).val < 0 * 1024 + 1024
    omega

/-- The reference's result is the product. -/
theorem reference (a b : Vec Ideal S8192x2816 .bf16) (w : Vec Ideal S2x1024x5632 .bf16) :
    Host.dotGeneral (F := Ideal) Cert.UpDataReferenceIdeal.dot_S8192x5632_S1024x5632_S8192x1024_1_1_0_0_n_n none
      (extf .f32 (concatenate Cert.UpDataReferenceIdeal.S8192x5632 1 [⟨S8192x2816, a⟩, ⟨S8192x2816, b⟩] Cert.UpDataReferenceIdeal.Facts₀.concatenates_S8192x2816_S8192x2816_S8192x5632_d1)
        Cert.UpDataReferenceIdeal.Facts₀.bitsLt_bf16_f32)
      (extf .f32 (shapeCast _ (extractStridedSlice _ ![1, 0, 0] w Cert.UpDataReferenceIdeal.Facts₀.slices_S2x1024x5632_S1x1024x5632_1_0_0) Cert.UpDataReferenceIdeal.Facts₀.shapeCasts_S1x1024x5632_S1024x5632) Cert.UpDataReferenceIdeal.Facts₀.bitsLt_bf16_f32)
      = product 1 a b w := by
  funext y
  pointwise [product]

/-- Kernel and reference compute the same product. -/
theorem same : Cert.algebraic_UpDataIdeal_UpDataReferenceIdeal := by
  intro m g m' g' _ hm
  refine ⟨fun c => product 1 (m ((c : Thread nD τ).loc main_arg0)) (m ((c : Thread nD τ).loc main_arg1)) (m ((c : Thread nD τ).loc main_arg2)), ?_, ?_⟩
  · exact (θ_run _ _ _).mono (fun r h c => ⟨(h c).1.trans ((dats m 0 c).arrAt_eq_of_cover 3 _ (fun t ht => wrote m c t ht) covered), (h c).2⟩) (Value.run_blocks m g)
  · refine (θ_run _ _ _).mono (fun r h c => ⟨(h c).1.trans ?_, (h c).2⟩) (Cert.UpDataReferenceIdeal.Value.run m' g')
    rw [(hm c).1, (hm c).2.1, (hm c).2.2]
    exact reference _ _ _

end Cert.UpDataIdeal.Product

end
-- ==== Proof.DownDataProduct.lean ====
/- The gradient of the rows of the feed-forward part's last product: the blocks that the grid's points write are the blocks of one product. -/
module

public import proofs.«01_k».proof.Defs
public import proofs.«01_k».proof.Proof.Gen.DownDataIdeal.Value
public import proofs.«01_k».proof.Proof.Gen.DownDataReferenceIdeal.Run
public import proofs.«01_k».proof.Proof.Zeros
public import Idealize.ShloMosaic.Lib.Pointwise

@[expose] public section

set_option maxRecDepth 16384

noncomputable section

namespace Cert.DownDataIdeal.Product

open Cert.DownDataIdeal Cert.DownDataIdeal.Gen Cert.Products Idealize.ShloMosaic Idealize.ShloMosaic.TcCoe Idealize.SL.Sem

variable (m : (ℓ : Loc nD τ sig) → Buf (Elt Ideal) ℓ)

/-- The product of the rows with a layer's weights transposed. -/
def product (l : Fin 2) (a : S8192x1024.Idx → EReal) (w : S2x2816x1024.Idx → EReal) : S8192x2816.Idx → EReal := fun y =>
  ∑ k : Fin 1024, a (ix2 (y 0) k) * w (ix3 l (y 1) k)

/-- Where a point's blocks lie. -/
theorem places : ∀ t : Fin cfg0.N, win0_2.index t = ![t.val / 2, t.val % 2] ∧ win0_0.index t = ![t.val / 2, 0] ∧ win0_1.index t = ![1, t.val % 2, 0] :=
  (by decide +kernel : ∀ t : Fin grid0.N, _)

/-- What a point leaves in its block: the product of its two blocks. -/
theorem left (x0 : Vec Ideal S1024x1024 .bf16) (x1 : Vec Ideal S1x1408x1024 .bf16) (p : Fin 1024) (q : Fin 1408) :
    out0_2 x0 x1 (ix2 p q) = ∑ k : Fin 1024, x0 (ix2 p k) * x1 (ix3 0 q k) := by
  unfold out0_2
  rw [View.canon_unit_zero zero2, View.ld_unit_zero zero2, View.ld_unit_zero zero3]
  pointwise [k0_pay1]

/-- A point's block of the rows. -/
theorem rows (c : Dev nD) (t : Fin cfg0.N) (y : S8192x2816.Idx) (p : Fin 1024) (h : (y 0).val = t.val / 2 * 1024 + p.val) (k : Fin 1024) :
    iblk m c 0 t (ix2 p k) = m ((c : Thread nD τ).loc main_arg0) (ix2 (y 0) k) := by
  show V m c main_arg0 (((cfg0.win 0).blk t).view.emb (ix2 p k)) = _
  rw [V_main_arg0]
  refine congrArg (m ((c : Thread nD τ).loc main_arg0)) (funext fun a => Fin.ext ?_)
  have e := (places t).2.1
  match a with
  | 0 => show win0_0.index t 0 * 1024 + 1 * p.val = (y 0).val; rw [e, h]; simp
  | 1 => show win0_0.index t 1 * 1024 + 1 * k.val = k.val; rw [e]; simp

/-- A point's block of the second layer's weights. -/
theorem weights (c : Dev nD) (t : Fin cfg0.N) (y : S8192x2816.Idx) (q : Fin 1408) (h : (y 1).val = t.val % 2 * 1408 + q.val) (k : Fin 1024) :
    iblk m c 1 t (ix3 0 q k) = m ((c : Thread nD τ).loc main_arg1) (ix3 1 (y 1) k) := by
  show V m c main_arg1 (((cfg0.win 1).blk t).view.emb (ix3 0 q k)) = _
  rw [V_main_arg1]
  refine congrArg (m ((c : Thread nD τ).loc main_arg1)) (funext fun a => Fin.ext ?_)
  have e := (places t).2.2
  match a with
  | 0 => show win0_1.index t 0 * 1 + 1 * 0 = 1; rw [e]; simp
  | 1 => show win0_1.index t 1 * 1408 + 1 * q.val = (y 1).val; rw [e, h]; simp
  | 2 => show win0_1.index t 2 * 1024 + 1 * k.val = k.val; rw [e]; simp

/-- A point's block of a layer's product comes of its blocks of the rows and of the layer's weights. -/
theorem block (l : Fin 2) (a : S8192x1024.Idx → EReal) (w : S2x2816x1024.Idx → EReal) (t : Fin cfg0.N) (x0 : Vec Ideal S1024x1024 .bf16) (x1 : Vec Ideal S1x1408x1024 .bf16)
    (ha : ∀ (y : S8192x2816.Idx) (p : Fin 1024), (y 0).val = t.val / 2 * 1024 + p.val → ∀ k, x0 (ix2 p k) = a (ix2 (y 0) k))
    (hw : ∀ (y : S8192x2816.Idx) (q : Fin 1408), (y 1).val = t.val % 2 * 1408 + q.val → ∀ k, x1 (ix3 0 q k) = w (ix3 l (y 1) k)) :
    (cfg0.win 2).cut (grid0.coords t) (out0_2 x0 x1) = ((cfg0.win 2).blk t).view.read (Elt Ideal) (product l a w) := by
  funext (y : S1024x1408.Idx)
  have e := (places t).1
  have h0 : ((((cfg0.win 2).blk t).view.emb y) 0).val = t.val / 2 * 1024 + (y 0).val := by
    show win0_2.index t 0 * 1024 + 1 * (y 0).val = _; rw [e]; simp
  have h1 : ((((cfg0.win 2).blk t).view.emb y) 1).val = t.val % 2 * 1408 + (y 1).val := by
    show win0_2.index t 1 * 1408 + 1 * (y 1).val = _; rw [e]; simp
  have hy : (cfg0.win 2).cut (grid0.coords t) (out0_2 x0 x1) y = out0_2 x0 x1 (ix2 (y 0) (y 1)) :=
    congrArg (out0_2 x0 x1) (funext fun a => by match a with | 0 => rfl | 1 => rfl)
  exact hy.trans ((left _ _ _ _).trans (Finset.sum_congr rfl fun k _ => congrArg₂ (fun x w : EReal => x * w) (ha _ (y 0) h0 k) (hw _ (y 1) h1 k)))

/-- What a point writes is its block of the product. -/
theorem wrote (c : Dev nD) (t : Fin cfg0.N) :
    (dats m 0 c).flushed 2 t = ((cfg0.win 2).blk t).view.read (Elt Ideal) (product 1 (m ((c : Thread nD τ).loc main_arg0)) (m ((c : Thread nD τ).loc main_arg1))) :=
  (Value.flushed2 m c t).trans (block 1 _ _ t _ _ (rows m c t) (weights m c t))

/-- The blocks cover the result. -/
theorem covered (y : S8192x2816.Idx) : ∃ t : Fin cfg0.N, (cfg0.win 2).flush t = true ∧ y ∈ ((cfg0.win 2).blk t).view.set := by
  have b0 : (y 0).val < 8192 := (y 0).isLt
  have b1 : (y 1).val < 2816 := (y 1).isLt
  have ht : (y 0).val / 1024 * 2 + (y 1).val / 1408 < cfg0.N := lt_of_lt_of_eq (by omega) N_0.symm
  refine ⟨⟨_, ht⟩, flush0_2 _, ?_⟩
  show y ∈ ((View.whole main_v0).slice (win0_2.rect ⟨_, ht⟩)).set
  rw [View.set_slice_whole, Rect.mem_set_unit]
  have e := (places ⟨_, ht⟩).1
  intro a
  match a with
  | 0 =>
    show win0_2.index ⟨_, ht⟩ 0 * 1024 ≤ (y 0).val ∧ (y 0).val < win0_2.index ⟨_, ht⟩ 0 * 1024 + 1024
    rw [e]
    show ((y 0).val / 1024 * 2 + (y 1).val / 1408) / 2 * 1024 ≤ (y 0).val ∧ (y 0).val < ((y 0).val / 1024 * 2 + (y 1).val / 1408) / 2 * 1024 + 1024
    omega
  | 1 =>
    show win0_2.index ⟨_, ht⟩ 1 * 1408 ≤ (y 1).val ∧ (y 1).val < win0_2.index ⟨_, ht⟩ 1 * 1408 + 1408
    rw [e]
    show ((y 0).val / 1024 * 2 + (y 1).val / 1408) % 2 * 1408 ≤ (y 1).val ∧ (y 1).val < ((y 0).val / 1024 * 2 + (y 1).val / 1408) % 2 * 1408 + 1408
    omega

/-- The reference's result is the product. -/
theorem reference (a : Vec Ideal S8192x1024 .bf16) (w : Vec Ideal S2x2816x1024 .bf16) :
    Host.dotGeneral (F := Ideal) Cert.DownDataReferenceIdeal.dot_S8192x1024_S2816x1024_S8192x2816_1_1_0_0_n_n none (extf .f32 a Cert.DownDataReferenceIdeal.Facts₀.bitsLt_bf16_f32)
      (extf .f32 (shapeCast _ (extractStridedSlice _ ![1, 0, 0] w Cert.DownDataReferenceIdeal.Facts₀.slices_S2x2816x1024_S1x2816x1024_1_0_0) Cert.DownDataReferenceIdeal.Facts₀.shapeCasts_S1x2816x1024_S2816x1024) Cert.DownDataReferenceIdeal.Facts₀.bitsLt_bf16_f32)
      = product 1 a w := by
  funext y
  pointwise [product]

/-- Kernel and reference compute the same product. -/
theorem same : Cert.algebraic_DownDataIdeal_DownDataReferenceIdeal := by
  intro m g m' g' _ hm
  refine ⟨fun c => product 1 (m ((c : Thread nD τ).loc main_arg0)) (m ((c : Thread nD τ).loc main_arg1)), ?_, ?_⟩
  · exact (θ_run _ _ _).mono (fun r h c => ⟨(h c).1.trans ((dats m 0 c).arrAt_eq_of_cover 2 _ (fun t _ => wrote m c t) covered), (h c).2⟩) (Value.run_blocks m g)
  · refine (θ_run _ _ _).mono (fun r h c => ⟨(h c).1.trans ?_, (h c).2⟩) (Cert.DownDataReferenceIdeal.Value.run m' g')
    rw [(hm c).1, (hm c).2]
    exact reference _ _

end Cert.DownDataIdeal.Product

end
-- ==== Proof.InDataProduct.lean ====
/- The gradient of the rows of the layer's first product: the blocks that the grid's points write are the blocks of one product. -/
module

public import proofs.«01_k».proof.Defs
public import proofs.«01_k».proof.Proof.Gen.InDataIdeal.Value
public import proofs.«01_k».proof.Proof.Gen.InDataReferenceIdeal.Run
public import proofs.«01_k».proof.Proof.Zeros
public import Idealize.ShloMosaic.Lib.Pointwise

@[expose] public section

set_option maxRecDepth 16384

noncomputable section

namespace Cert.InDataIdeal.Product

open Cert.InDataIdeal Cert.InDataIdeal.Gen Cert.Products Idealize.ShloMosaic Idealize.ShloMosaic.TcCoe Idealize.SL.Sem

variable (m : (ℓ : Loc nD τ sig) → Buf (Elt Ideal) ℓ)

/-- The product of the rows with a layer's weights transposed. -/
def product (l : Fin 2) (a : S8192x3456.Idx → EReal) (w : S2x1024x3456.Idx → EReal) : S8192x1024.Idx → EReal := fun y =>
  ∑ k : Fin 3456, a (ix2 (y 0) k) * w (ix3 l (y 1) k)

/-- Where a point's blocks lie. -/
theorem places : ∀ t : Fin cfg0.N, win0_2.index t = ![t.val, 0] ∧ win0_0.index t = ![t.val, 0] ∧ win0_1.index t = ![1, 0, 0] :=
  (by decide +kernel : ∀ t : Fin grid0.N, _)

/-- What a point leaves in its block: the product of its two blocks. -/
theorem left (x0 : Vec Ideal S512x3456 .bf16) (x1 : Vec Ideal S1x1024x3456 .bf16) (p : Fin 512) (q : Fin 1024) :
    out0_2 x0 x1 (ix2 p q) = ∑ k : Fin 3456, x0 (ix2 p k) * x1 (ix3 0 q k) := by
  unfold out0_2
  rw [View.canon_unit_zero zero2, View.ld_unit_zero zero2, View.ld_unit_zero zero3]
  pointwise [k0_pay1]

/-- A point's block of the rows. -/
theorem rows (c : Dev nD) (t : Fin cfg0.N) (y : S8192x1024.Idx) (p : Fin 512) (h : (y 0).val = t.val * 512 + p.val) (k : Fin 3456) :
    iblk m c 0 t (ix2 p k) = m ((c : Thread nD τ).loc main_arg0) (ix2 (y 0) k) := by
  show V m c main_arg0 (((cfg0.win 0).blk t).view.emb (ix2 p k)) = _
  rw [V_main_arg0]
  refine congrArg (m ((c : Thread nD τ).loc main_arg0)) (funext fun a => Fin.ext ?_)
  have e := (places t).2.1
  match a with
  | 0 => show win0_0.index t 0 * 512 + 1 * p.val = (y 0).val; rw [e, h]; simp
  | 1 => show win0_0.index t 1 * 3456 + 1 * k.val = k.val; rw [e]; simp

/-- A point's block of the second layer's weights. -/
theorem weights (c : Dev nD) (t : Fin cfg0.N) (y : S8192x1024.Idx) (q : Fin 1024) (h : (y 1).val = 0 * 1024 + q.val) (k : Fin 3456) :
    iblk m c 1 t (ix3 0 q k) = m ((c : Thread nD τ).loc main_arg1) (ix3 1 (y 1) k) := by
  show V m c main_arg1 (((cfg0.win 1).blk t).view.emb (ix3 0 q k)) = _
  rw [V_main_arg1]
  refine congrArg (m ((c : Thread nD τ).loc main_arg1)) (funext fun a => Fin.ext ?_)
  have e := (places t).2.2
  match a with
  | 0 => show win0_1.index t 0 * 1 + 1 * 0 = 1; rw [e]; simp
  | 1 => show win0_1.index t 1 * 1024 + 1 * q.val = (y 1).val; rw [e, h]; simp
  | 2 => show win0_1.index t 2 * 3456 + 1 * k.val = k.val; rw [e]; simp

/-- A point's block of a layer's product comes of its blocks of the rows and of the layer's weights. -/
theorem block (l : Fin 2) (a : S8192x3456.Idx → EReal) (w : S2x1024x3456.Idx → EReal) (t : Fin cfg0.N) (x0 : Vec Ideal S512x3456 .bf16) (x1 : Vec Ideal S1x1024x3456 .bf16)
    (ha : ∀ (y : S8192x1024.Idx) (p : Fin 512), (y 0).val = t.val * 512 + p.val → ∀ k, x0 (ix2 p k) = a (ix2 (y 0) k))
    (hw : ∀ (y : S8192x1024.Idx) (q : Fin 1024), (y 1).val = 0 * 1024 + q.val → ∀ k, x1 (ix3 0 q k) = w (ix3 l (y 1) k)) :
    (cfg0.win 2).cut (grid0.coords t) (out0_2 x0 x1) = ((cfg0.win 2).blk t).view.read (Elt Ideal) (product l a w) := by
  funext (y : S512x1024.Idx)
  have e := (places t).1
  have h0 : ((((cfg0.win 2).blk t).view.emb y) 0).val = t.val * 512 + (y 0).val := by
    show win0_2.index t 0 * 512 + 1 * (y 0).val = _; rw [e]; simp
  have h1 : ((((cfg0.win 2).blk t).view.emb y) 1).val = 0 * 1024 + (y 1).val := by
    show win0_2.index t 1 * 1024 + 1 * (y 1).val = _; rw [e]; simp
  have hy : (cfg0.win 2).cut (grid0.coords t) (out0_2 x0 x1) y = out0_2 x0 x1 (ix2 (y 0) (y 1)) :=
    congrArg (out0_2 x0 x1) (funext fun a => by match a with | 0 => rfl | 1 => rfl)
  exact hy.trans ((left _ _ _ _).trans (Finset.sum_congr rfl fun k _ => congrArg₂ (fun x w : EReal => x * w) (ha _ (y 0) h0 k) (hw _ (y 1) h1 k)))

/-- What a point writes is its block of the product. -/
theorem wrote (c : Dev nD) (t : Fin cfg0.N) :
    (dats m 0 c).flushed 2 t = ((cfg0.win 2).blk t).view.read (Elt Ideal) (product 1 (m ((c : Thread nD τ).loc main_arg0)) (m ((c : Thread nD τ).loc main_arg1))) :=
  (Value.flushed2 m c t).trans (block 1 _ _ t _ _ (rows m c t) (weights m c t))

/-- The blocks cover the result. -/
theorem covered (y : S8192x1024.Idx) : ∃ t : Fin cfg0.N, (cfg0.win 2).flush t = true ∧ y ∈ ((cfg0.win 2).blk t).view.set := by
  have b0 : (y 0).val < 8192 := (y 0).isLt
  have b1 : (y 1).val < 1024 := (y 1).isLt
  have ht : (y 0).val / 512 < cfg0.N := lt_of_lt_of_eq (by omega) N_0.symm
  refine ⟨⟨_, ht⟩, flush0_2 _, ?_⟩
  show y ∈ ((View.whole main_v0).slice (win0_2.rect ⟨_, ht⟩)).set
  rw [View.set_slice_whole, Rect.mem_set_unit]
  have e := (places ⟨_, ht⟩).1
  intro a
  match a with
  | 0 =>
    show win0_2.index ⟨_, ht⟩ 0 * 512 ≤ (y 0).val ∧ (y 0).val < win0_2.index ⟨_, ht⟩ 0 * 512 + 512
    rw [e]
    show (y 0).val / 512 * 512 ≤ (y 0).val ∧ (y 0).val < (y 0).val / 512 * 512 + 512
    omega
  | 1 =>
    show win0_2.index ⟨_, ht⟩ 1 * 1024 ≤ (y 1).val ∧ (y 1).val < win0_2.index ⟨_, ht⟩ 1 * 1024 + 1024
    rw [e]
    show 0 * 1024 ≤ (y 1).val ∧ (y 1).val < 0 * 1024 + 1024
    omega

/-- The reference's result is the product. -/
theorem reference (a : Vec Ideal S8192x3456 .bf16) (w : Vec Ideal S2x1024x3456 .bf16) :
    Host.dotGeneral (F := Ideal) Cert.InDataReferenceIdeal.dot_S8192x3456_S1024x3456_S8192x1024_1_1_0_0_n_n none (extf .f32 a Cert.InDataReferenceIdeal.Facts₀.bitsLt_bf16_f32)
      (extf .f32 (shapeCast _ (extractStridedSlice _ ![1, 0, 0] w Cert.InDataReferenceIdeal.Facts₀.slices_S2x1024x3456_S1x1024x3456_1_0_0) Cert.InDataReferenceIdeal.Facts₀.shapeCasts_S1x1024x3456_S1024x3456) Cert.InDataReferenceIdeal.Facts₀.bitsLt_bf16_f32)
      = product 1 a w := by
  funext y
  pointwise [product]

/-- Kernel and reference compute the same product. -/
theorem same : Cert.algebraic_InDataIdeal_InDataReferenceIdeal := by
  intro m g m' g' _ hm
  refine ⟨fun c => product 1 (m ((c : Thread nD τ).loc main_arg0)) (m ((c : Thread nD τ).loc main_arg1)), ?_, ?_⟩
  · exact (θ_run _ _ _).mono (fun r h c => ⟨(h c).1.trans ((dats m 0 c).arrAt_eq_of_cover 2 _ (fun t _ => wrote m c t) covered), (h c).2⟩) (Value.run_blocks m g)
  · refine (θ_run _ _ _).mono (fun r h c => ⟨(h c).1.trans ?_, (h c).2⟩) (Cert.InDataReferenceIdeal.Value.run m' g')
    rw [(hm c).1, (hm c).2]
    exact reference _ _

end Cert.InDataIdeal.Product

end
-- ==== Proof.OutDataProduct.lean ====
/- The gradient of the rows of the mixers' last product: the blocks that the grid's points write are the blocks of one product. -/
module

public import proofs.«01_k».proof.Defs
public import proofs.«01_k».proof.Proof.Gen.OutDataIdeal.Value
public import proofs.«01_k».proof.Proof.Gen.OutDataReferenceIdeal.Run
public import proofs.«01_k».proof.Proof.Zeros
public import Idealize.ShloMosaic.Lib.Pointwise

@[expose] public section

set_option maxRecDepth 16384

noncomputable section

namespace Cert.OutDataIdeal.Product

open Cert.OutDataIdeal Cert.OutDataIdeal.Gen Cert.Products Idealize.ShloMosaic Idealize.ShloMosaic.TcCoe Idealize.SL.Sem

variable (m : (ℓ : Loc nD τ sig) → Buf (Elt Ideal) ℓ)

/-- The product of the rows with a layer's weights transposed. -/
def product (l : Fin 2) (a : S8192x1024.Idx → EReal) (w : S2x2048x1024.Idx → EReal) : S8192x2048.Idx → EReal := fun y =>
  ∑ k : Fin 1024, a (ix2 (y 0) k) * w (ix3 l (y 1) k)

/-- Where a point's blocks lie. -/
theorem places : ∀ t : Fin cfg0.N, win0_2.index t = ![t.val / 2, t.val % 2] ∧ win0_0.index t = ![t.val / 2, 0] ∧ win0_1.index t = ![1, t.val % 2, 0] :=
  (by decide +kernel : ∀ t : Fin grid0.N, _)

/-- What a point leaves in its block: the product of its two blocks. -/
theorem left (x0 : Vec Ideal S1024x1024 .bf16) (x1 : Vec Ideal S1x1024x1024 .bf16) (p : Fin 1024) (q : Fin 1024) :
    out0_2 x0 x1 (ix2 p q) = ∑ k : Fin 1024, x0 (ix2 p k) * x1 (ix3 0 q k) := by
  unfold out0_2
  rw [View.canon_unit_zero zero2, View.ld_unit_zero zero2, View.ld_unit_zero zero3]
  pointwise [k0_pay1]

/-- A point's block of the rows. -/
theorem rows (c : Dev nD) (t : Fin cfg0.N) (y : S8192x2048.Idx) (p : Fin 1024) (h : (y 0).val = t.val / 2 * 1024 + p.val) (k : Fin 1024) :
    iblk m c 0 t (ix2 p k) = m ((c : Thread nD τ).loc main_arg0) (ix2 (y 0) k) := by
  show V m c main_arg0 (((cfg0.win 0).blk t).view.emb (ix2 p k)) = _
  rw [V_main_arg0]
  refine congrArg (m ((c : Thread nD τ).loc main_arg0)) (funext fun a => Fin.ext ?_)
  have e := (places t).2.1
  match a with
  | 0 => show win0_0.index t 0 * 1024 + 1 * p.val = (y 0).val; rw [e, h]; simp
  | 1 => show win0_0.index t 1 * 1024 + 1 * k.val = k.val; rw [e]; simp

/-- A point's block of the second layer's weights. -/
theorem weights (c : Dev nD) (t : Fin cfg0.N) (y : S8192x2048.Idx) (q : Fin 1024) (h : (y 1).val = t.val % 2 * 1024 + q.val) (k : Fin 1024) :
    iblk m c 1 t (ix3 0 q k) = m ((c : Thread nD τ).loc main_arg1) (ix3 1 (y 1) k) := by
  show V m c main_arg1 (((cfg0.win 1).blk t).view.emb (ix3 0 q k)) = _
  rw [V_main_arg1]
  refine congrArg (m ((c : Thread nD τ).loc main_arg1)) (funext fun a => Fin.ext ?_)
  have e := (places t).2.2
  match a with
  | 0 => show win0_1.index t 0 * 1 + 1 * 0 = 1; rw [e]; simp
  | 1 => show win0_1.index t 1 * 1024 + 1 * q.val = (y 1).val; rw [e, h]; simp
  | 2 => show win0_1.index t 2 * 1024 + 1 * k.val = k.val; rw [e]; simp

/-- A point's block of a layer's product comes of its blocks of the rows and of the layer's weights. -/
theorem block (l : Fin 2) (a : S8192x1024.Idx → EReal) (w : S2x2048x1024.Idx → EReal) (t : Fin cfg0.N) (x0 : Vec Ideal S1024x1024 .bf16) (x1 : Vec Ideal S1x1024x1024 .bf16)
    (ha : ∀ (y : S8192x2048.Idx) (p : Fin 1024), (y 0).val = t.val / 2 * 1024 + p.val → ∀ k, x0 (ix2 p k) = a (ix2 (y 0) k))
    (hw : ∀ (y : S8192x2048.Idx) (q : Fin 1024), (y 1).val = t.val % 2 * 1024 + q.val → ∀ k, x1 (ix3 0 q k) = w (ix3 l (y 1) k)) :
    (cfg0.win 2).cut (grid0.coords t) (out0_2 x0 x1) = ((cfg0.win 2).blk t).view.read (Elt Ideal) (product l a w) := by
  funext (y : S1024x1024.Idx)
  have e := (places t).1
  have h0 : ((((cfg0.win 2).blk t).view.emb y) 0).val = t.val / 2 * 1024 + (y 0).val := by
    show win0_2.index t 0 * 1024 + 1 * (y 0).val = _; rw [e]; simp
  have h1 : ((((cfg0.win 2).blk t).view.emb y) 1).val = t.val % 2 * 1024 + (y 1).val := by
    show win0_2.index t 1 * 1024 + 1 * (y 1).val = _; rw [e]; simp
  have hy : (cfg0.win 2).cut (grid0.coords t) (out0_2 x0 x1) y = out0_2 x0 x1 (ix2 (y 0) (y 1)) :=
    congrArg (out0_2 x0 x1) (funext fun a => by match a with | 0 => rfl | 1 => rfl)
  exact hy.trans ((left _ _ _ _).trans (Finset.sum_congr rfl fun k _ => congrArg₂ (fun x w : EReal => x * w) (ha _ (y 0) h0 k) (hw _ (y 1) h1 k)))

/-- What a point writes is its block of the product. -/
theorem wrote (c : Dev nD) (t : Fin cfg0.N) :
    (dats m 0 c).flushed 2 t = ((cfg0.win 2).blk t).view.read (Elt Ideal) (product 1 (m ((c : Thread nD τ).loc main_arg0)) (m ((c : Thread nD τ).loc main_arg1))) :=
  (Value.flushed2 m c t).trans (block 1 _ _ t _ _ (rows m c t) (weights m c t))

/-- The blocks cover the result. -/
theorem covered (y : S8192x2048.Idx) : ∃ t : Fin cfg0.N, (cfg0.win 2).flush t = true ∧ y ∈ ((cfg0.win 2).blk t).view.set := by
  have b0 : (y 0).val < 8192 := (y 0).isLt
  have b1 : (y 1).val < 2048 := (y 1).isLt
  have ht : (y 0).val / 1024 * 2 + (y 1).val / 1024 < cfg0.N := lt_of_lt_of_eq (by omega) N_0.symm
  refine ⟨⟨_, ht⟩, flush0_2 _, ?_⟩
  show y ∈ ((View.whole main_v0).slice (win0_2.rect ⟨_, ht⟩)).set
  rw [View.set_slice_whole, Rect.mem_set_unit]
  have e := (places ⟨_, ht⟩).1
  intro a
  match a with
  | 0 =>
    show win0_2.index ⟨_, ht⟩ 0 * 1024 ≤ (y 0).val ∧ (y 0).val < win0_2.index ⟨_, ht⟩ 0 * 1024 + 1024
    rw [e]
    show ((y 0).val / 1024 * 2 + (y 1).val / 1024) / 2 * 1024 ≤ (y 0).val ∧ (y 0).val < ((y 0).val / 1024 * 2 + (y 1).val / 1024) / 2 * 1024 + 1024
    omega
  | 1 =>
    show win0_2.index ⟨_, ht⟩ 1 * 1024 ≤ (y 1).val ∧ (y 1).val < win0_2.index ⟨_, ht⟩ 1 * 1024 + 1024
    rw [e]
    show ((y 0).val / 1024 * 2 + (y 1).val / 1024) % 2 * 1024 ≤ (y 1).val ∧ (y 1).val < ((y 0).val / 1024 * 2 + (y 1).val / 1024) % 2 * 1024 + 1024
    omega

/-- The reference's result is the product. -/
theorem reference (a : Vec Ideal S8192x1024 .bf16) (w : Vec Ideal S2x2048x1024 .bf16) :
    Host.dotGeneral (F := Ideal) Cert.OutDataReferenceIdeal.dot_S8192x1024_S2048x1024_S8192x2048_1_1_0_0_n_n none (extf .f32 a Cert.OutDataReferenceIdeal.Facts₀.bitsLt_bf16_f32)
      (extf .f32 (shapeCast _ (extractStridedSlice _ ![1, 0, 0] w Cert.OutDataReferenceIdeal.Facts₀.slices_S2x2048x1024_S1x2048x1024_1_0_0) Cert.OutDataReferenceIdeal.Facts₀.shapeCasts_S1x2048x1024_S2048x1024) Cert.OutDataReferenceIdeal.Facts₀.bitsLt_bf16_f32)
      = product 1 a w := by
  funext y
  pointwise [product]

/-- Kernel and reference compute the same product. -/
theorem same : Cert.algebraic_OutDataIdeal_OutDataReferenceIdeal := by
  intro m g m' g' _ hm
  refine ⟨fun c => product 1 (m ((c : Thread nD τ).loc main_arg0)) (m ((c : Thread nD τ).loc main_arg1)), ?_, ?_⟩
  · exact (θ_run _ _ _).mono (fun r h c => ⟨(h c).1.trans ((dats m 0 c).arrAt_eq_of_cover 2 _ (fun t _ => wrote m c t) covered), (h c).2⟩) (Value.run_blocks m g)
  · refine (θ_run _ _ _).mono (fun r h c => ⟨(h c).1.trans ?_, (h c).2⟩) (Cert.OutDataReferenceIdeal.Value.run m' g')
    rw [(hm c).1, (hm c).2]
    exact reference _ _

end Cert.OutDataIdeal.Product

end
-- ==== Proof.UpProduct.lean ====
/- The feed-forward part's first product: the blocks that the grid's points write are the blocks of one product. -/
module

public import proofs.«01_k».proof.Defs
public import proofs.«01_k».proof.Proof.Gen.UpIdeal.Value
public import proofs.«01_k».proof.Proof.Gen.UpReferenceIdeal.Run
public import proofs.«01_k».proof.Proof.Zeros
public import Idealize.ShloMosaic.Lib.Pointwise

@[expose] public section

set_option maxRecDepth 16384

noncomputable section

namespace Cert.UpIdeal.Product

open Cert.UpIdeal Cert.UpIdeal.Gen Cert.Products Idealize.ShloMosaic Idealize.ShloMosaic.TcCoe Idealize.SL.Sem

variable (m : (ℓ : Loc nD τ sig) → Buf (Elt Ideal) ℓ)

/-- The product of the rows with a layer's weights. -/
def product (l : Fin 2) (a : S8192x1024.Idx → EReal) (w : S2x1024x5632.Idx → EReal) : S8192x5632.Idx → EReal := fun y =>
  ∑ k : Fin 1024, a (ix2 (y 0) k) * w (ix3 l k (y 1))

/-- Where a point's blocks lie. -/
theorem places : ∀ t : Fin cfg0.N, win0_2.index t = ![t.val / 11, t.val % 11] ∧ win0_0.index t = ![t.val / 11, 0] ∧ win0_1.index t = ![1, 0, t.val % 11] :=
  (by decide +kernel : ∀ t : Fin grid0.N, _)

/-- What a point leaves in its block: the product of its two blocks. -/
theorem left (x0 : Vec Ideal S2048x1024 .bf16) (x1 : Vec Ideal S1x1024x512 .bf16) (p : Fin 2048) (q : Fin 512) :
    out0_2 x0 x1 (ix2 p q) = ∑ k : Fin 1024, x0 (ix2 p k) * x1 (ix3 0 k q) := by
  unfold out0_2
  rw [View.canon_unit_zero zero2, View.ld_unit_zero zero2, View.ld_unit_zero zero3]
  pointwise [k0_pay1]

/-- A point's block of the rows. -/
theorem rows (c : Dev nD) (t : Fin cfg0.N) (y : S8192x5632.Idx) (p : Fin 2048) (h : (y 0).val = t.val / 11 * 2048 + p.val) (k : Fin 1024) :
    iblk m c 0 t (ix2 p k) = m ((c : Thread nD τ).loc main_arg0) (ix2 (y 0) k) := by
  show V m c main_arg0 (((cfg0.win 0).blk t).view.emb (ix2 p k)) = _
  rw [V_main_arg0]
  refine congrArg (m ((c : Thread nD τ).loc main_arg0)) (funext fun a => Fin.ext ?_)
  have e := (places t).2.1
  match a with
  | 0 => show win0_0.index t 0 * 2048 + 1 * p.val = (y 0).val; rw [e, h]; simp
  | 1 => show win0_0.index t 1 * 1024 + 1 * k.val = k.val; rw [e]; simp

/-- A point's block of the second layer's weights. -/
theorem weights (c : Dev nD) (t : Fin cfg0.N) (y : S8192x5632.Idx) (q : Fin 512) (h : (y 1).val = t.val % 11 * 512 + q.val) (k : Fin 1024) :
    iblk m c 1 t (ix3 0 k q) = m ((c : Thread nD τ).loc main_arg1) (ix3 1 k (y 1)) := by
  show V m c main_arg1 (((cfg0.win 1).blk t).view.emb (ix3 0 k q)) = _
  rw [V_main_arg1]
  refine congrArg (m ((c : Thread nD τ).loc main_arg1)) (funext fun a => Fin.ext ?_)
  have e := (places t).2.2
  match a with
  | 0 => show win0_1.index t 0 * 1 + 1 * 0 = 1; rw [e]; simp
  | 1 => show win0_1.index t 1 * 1024 + 1 * k.val = k.val; rw [e]; simp
  | 2 => show win0_1.index t 2 * 512 + 1 * q.val = (y 1).val; rw [e, h]; simp

/-- A point's block of a layer's product comes of its blocks of the rows and of the layer's weights. -/
theorem block (l : Fin 2) (a : S8192x1024.Idx → EReal) (w : S2x1024x5632.Idx → EReal) (t : Fin cfg0.N) (x0 : Vec Ideal S2048x1024 .bf16) (x1 : Vec Ideal S1x1024x512 .bf16)
    (ha : ∀ (y : S8192x5632.Idx) (p : Fin 2048), (y 0).val = t.val / 11 * 2048 + p.val → ∀ k, x0 (ix2 p k) = a (ix2 (y 0) k))
    (hw : ∀ (y : S8192x5632.Idx) (q : Fin 512), (y 1).val = t.val % 11 * 512 + q.val → ∀ k, x1 (ix3 0 k q) = w (ix3 l k (y 1))) :
    (cfg0.win 2).cut (grid0.coords t) (out0_2 x0 x1) = ((cfg0.win 2).blk t).view.read (Elt Ideal) (product l a w) := by
  funext (y : S2048x512.Idx)
  have e := (places t).1
  have h0 : ((((cfg0.win 2).blk t).view.emb y) 0).val = t.val / 11 * 2048 + (y 0).val := by
    show win0_2.index t 0 * 2048 + 1 * (y 0).val = _; rw [e]; simp
  have h1 : ((((cfg0.win 2).blk t).view.emb y) 1).val = t.val % 11 * 512 + (y 1).val := by
    show win0_2.index t 1 * 512 + 1 * (y 1).val = _; rw [e]; simp
  have hy : (cfg0.win 2).cut (grid0.coords t) (out0_2 x0 x1) y = out0_2 x0 x1 (ix2 (y 0) (y 1)) :=
    congrArg (out0_2 x0 x1) (funext fun a => by match a with | 0 => rfl | 1 => rfl)
  exact hy.trans ((left _ _ _ _).trans (Finset.sum_congr rfl fun k _ => congrArg₂ (fun x w : EReal => x * w) (ha _ (y 0) h0 k) (hw _ (y 1) h1 k)))

/-- What a point writes is its block of the product. -/
theorem wrote (c : Dev nD) (t : Fin cfg0.N) :
    (dats m 0 c).flushed 2 t = ((cfg0.win 2).blk t).view.read (Elt Ideal) (product 1 (m ((c : Thread nD τ).loc main_arg0)) (m ((c : Thread nD τ).loc main_arg1))) :=
  (Value.flushed2 m c t).trans (block 1 _ _ t _ _ (rows m c t) (weights m c t))

/-- The blocks cover the result. -/
theorem covered (y : S8192x5632.Idx) : ∃ t : Fin cfg0.N, (cfg0.win 2).flush t = true ∧ y ∈ ((cfg0.win 2).blk t).view.set := by
  have b0 : (y 0).val < 8192 := (y 0).isLt
  have b1 : (y 1).val < 5632 := (y 1).isLt
  have ht : (y 0).val / 2048 * 11 + (y 1).val / 512 < cfg0.N := lt_of_lt_of_eq (by omega) N_0.symm
  refine ⟨⟨_, ht⟩, flush0_2 _, ?_⟩
  show y ∈ ((View.whole main_v0).slice (win0_2.rect ⟨_, ht⟩)).set
  rw [View.set_slice_whole, Rect.mem_set_unit]
  have e := (places ⟨_, ht⟩).1
  intro a
  match a with
  | 0 =>
    show win0_2.index ⟨_, ht⟩ 0 * 2048 ≤ (y 0).val ∧ (y 0).val < win0_2.index ⟨_, ht⟩ 0 * 2048 + 2048
    rw [e]
    show ((y 0).val / 2048 * 11 + (y 1).val / 512) / 11 * 2048 ≤ (y 0).val ∧ (y 0).val < ((y 0).val / 2048 * 11 + (y 1).val / 512) / 11 * 2048 + 2048
    omega
  | 1 =>
    show win0_2.index ⟨_, ht⟩ 1 * 512 ≤ (y 1).val ∧ (y 1).val < win0_2.index ⟨_, ht⟩ 1 * 512 + 512
    rw [e]
    show ((y 0).val / 2048 * 11 + (y 1).val / 512) % 11 * 512 ≤ (y 1).val ∧ (y 1).val < ((y 0).val / 2048 * 11 + (y 1).val / 512) % 11 * 512 + 512
    omega

/-- The reference's result is the product. -/
theorem reference (a : Vec Ideal S8192x1024 .bf16) (w : Vec Ideal S2x1024x5632 .bf16) :
    truncf .bf16 (Host.dotGeneral (F := Ideal) Cert.UpReferenceIdeal.dot_S8192x1024_S1024x5632_S8192x5632_1_0_0_1_n_n none (extf .f32 a Cert.UpReferenceIdeal.Facts₀.bitsLt_bf16_f32)
      (extf .f32 (shapeCast _ (extractStridedSlice _ ![1, 0, 0] w Cert.UpReferenceIdeal.Facts₀.slices_S2x1024x5632_S1x1024x5632_1_0_0) Cert.UpReferenceIdeal.Facts₀.shapeCasts_S1x1024x5632_S1024x5632) Cert.UpReferenceIdeal.Facts₀.bitsLt_bf16_f32)) Cert.UpReferenceIdeal.Facts₀.bitsLt_bf16_f32
      = product 1 a w := by
  funext y
  pointwise [product]

/-- Kernel and reference compute the same product. -/
theorem same : Cert.algebraic_UpIdeal_UpReferenceIdeal := by
  intro m g m' g' _ hm
  refine ⟨fun c => product 1 (m ((c : Thread nD τ).loc main_arg0)) (m ((c : Thread nD τ).loc main_arg1)), ?_, ?_⟩
  · exact (θ_run _ _ _).mono (fun r h c => ⟨(h c).1.trans ((dats m 0 c).arrAt_eq_of_cover 2 _ (fun t _ => wrote m c t) covered), (h c).2⟩) (Value.run_blocks m g)
  · refine (θ_run _ _ _).mono (fun r h c => ⟨(h c).1.trans ?_, (h c).2⟩) (Cert.UpReferenceIdeal.Value.run m' g')
    rw [(hm c).1, (hm c).2]
    exact reference _ _

end Cert.UpIdeal.Product

end
-- ==== Proof.DownProduct.lean ====
/- The feed-forward part's last product: the blocks that the grid's points write are the blocks of one product. -/
module

public import proofs.«01_k».proof.Defs
public import proofs.«01_k».proof.Proof.Gen.DownIdeal.Value
public import proofs.«01_k».proof.Proof.Gen.DownReferenceIdeal.Run
public import proofs.«01_k».proof.Proof.Zeros
public import Idealize.ShloMosaic.Lib.Pointwise

@[expose] public section

set_option maxRecDepth 16384

noncomputable section

namespace Cert.DownIdeal.Product

open Cert.DownIdeal Cert.DownIdeal.Gen Cert.Products Idealize.ShloMosaic Idealize.ShloMosaic.TcCoe Idealize.SL.Sem

variable (m : (ℓ : Loc nD τ sig) → Buf (Elt Ideal) ℓ)

/-- The product of the rows with a layer's weights. -/
def product (l : Fin 2) (a : S8192x2816.Idx → EReal) (w : S2x2816x1024.Idx → EReal) : S8192x1024.Idx → EReal := fun y =>
  ∑ k : Fin 2816, a (ix2 (y 0) k) * w (ix3 l k (y 1))

/-- Where a point's blocks lie. -/
theorem places : ∀ t : Fin cfg0.N, win0_2.index t = ![t.val, 0] ∧ win0_0.index t = ![t.val, 0] ∧ win0_1.index t = ![1, 0, 0] :=
  (by decide +kernel : ∀ t : Fin grid0.N, _)

/-- What a point leaves in its block: the product of its two blocks. -/
theorem left (x0 : Vec Ideal S512x2816 .bf16) (x1 : Vec Ideal S1x2816x1024 .bf16) (p : Fin 512) (q : Fin 1024) :
    out0_2 x0 x1 (ix2 p q) = ∑ k : Fin 2816, x0 (ix2 p k) * x1 (ix3 0 k q) := by
  unfold out0_2
  rw [View.canon_unit_zero zero2, View.ld_unit_zero zero2, View.ld_unit_zero zero3]
  pointwise [k0_pay1]

/-- A point's block of the rows. -/
theorem rows (c : Dev nD) (t : Fin cfg0.N) (y : S8192x1024.Idx) (p : Fin 512) (h : (y 0).val = t.val * 512 + p.val) (k : Fin 2816) :
    iblk m c 0 t (ix2 p k) = m ((c : Thread nD τ).loc main_arg0) (ix2 (y 0) k) := by
  show V m c main_arg0 (((cfg0.win 0).blk t).view.emb (ix2 p k)) = _
  rw [V_main_arg0]
  refine congrArg (m ((c : Thread nD τ).loc main_arg0)) (funext fun a => Fin.ext ?_)
  have e := (places t).2.1
  match a with
  | 0 => show win0_0.index t 0 * 512 + 1 * p.val = (y 0).val; rw [e, h]; simp
  | 1 => show win0_0.index t 1 * 2816 + 1 * k.val = k.val; rw [e]; simp

/-- A point's block of the second layer's weights. -/
theorem weights (c : Dev nD) (t : Fin cfg0.N) (y : S8192x1024.Idx) (q : Fin 1024) (h : (y 1).val = 0 * 1024 + q.val) (k : Fin 2816) :
    iblk m c 1 t (ix3 0 k q) = m ((c : Thread nD τ).loc main_arg1) (ix3 1 k (y 1)) := by
  show V m c main_arg1 (((cfg0.win 1).blk t).view.emb (ix3 0 k q)) = _
  rw [V_main_arg1]
  refine congrArg (m ((c : Thread nD τ).loc main_arg1)) (funext fun a => Fin.ext ?_)
  have e := (places t).2.2
  match a with
  | 0 => show win0_1.index t 0 * 1 + 1 * 0 = 1; rw [e]; simp
  | 1 => show win0_1.index t 1 * 2816 + 1 * k.val = k.val; rw [e]; simp
  | 2 => show win0_1.index t 2 * 1024 + 1 * q.val = (y 1).val; rw [e, h]; simp

/-- A point's block of a layer's product comes of its blocks of the rows and of the layer's weights. -/
theorem block (l : Fin 2) (a : S8192x2816.Idx → EReal) (w : S2x2816x1024.Idx → EReal) (t : Fin cfg0.N) (x0 : Vec Ideal S512x2816 .bf16) (x1 : Vec Ideal S1x2816x1024 .bf16)
    (ha : ∀ (y : S8192x1024.Idx) (p : Fin 512), (y 0).val = t.val * 512 + p.val → ∀ k, x0 (ix2 p k) = a (ix2 (y 0) k))
    (hw : ∀ (y : S8192x1024.Idx) (q : Fin 1024), (y 1).val = 0 * 1024 + q.val → ∀ k, x1 (ix3 0 k q) = w (ix3 l k (y 1))) :
    (cfg0.win 2).cut (grid0.coords t) (out0_2 x0 x1) = ((cfg0.win 2).blk t).view.read (Elt Ideal) (product l a w) := by
  funext (y : S512x1024.Idx)
  have e := (places t).1
  have h0 : ((((cfg0.win 2).blk t).view.emb y) 0).val = t.val * 512 + (y 0).val := by
    show win0_2.index t 0 * 512 + 1 * (y 0).val = _; rw [e]; simp
  have h1 : ((((cfg0.win 2).blk t).view.emb y) 1).val = 0 * 1024 + (y 1).val := by
    show win0_2.index t 1 * 1024 + 1 * (y 1).val = _; rw [e]; simp
  have hy : (cfg0.win 2).cut (grid0.coords t) (out0_2 x0 x1) y = out0_2 x0 x1 (ix2 (y 0) (y 1)) :=
    congrArg (out0_2 x0 x1) (funext fun a => by match a with | 0 => rfl | 1 => rfl)
  exact hy.trans ((left _ _ _ _).trans (Finset.sum_congr rfl fun k _ => congrArg₂ (fun x w : EReal => x * w) (ha _ (y 0) h0 k) (hw _ (y 1) h1 k)))

/-- What a point writes is its block of the product. -/
theorem wrote (c : Dev nD) (t : Fin cfg0.N) :
    (dats m 0 c).flushed 2 t = ((cfg0.win 2).blk t).view.read (Elt Ideal) (product 1 (m ((c : Thread nD τ).loc main_arg0)) (m ((c : Thread nD τ).loc main_arg1))) :=
  (Value.flushed2 m c t).trans (block 1 _ _ t _ _ (rows m c t) (weights m c t))

/-- The blocks cover the result. -/
theorem covered (y : S8192x1024.Idx) : ∃ t : Fin cfg0.N, (cfg0.win 2).flush t = true ∧ y ∈ ((cfg0.win 2).blk t).view.set := by
  have b0 : (y 0).val < 8192 := (y 0).isLt
  have b1 : (y 1).val < 1024 := (y 1).isLt
  have ht : (y 0).val / 512 < cfg0.N := lt_of_lt_of_eq (by omega) N_0.symm
  refine ⟨⟨_, ht⟩, flush0_2 _, ?_⟩
  show y ∈ ((View.whole main_v0).slice (win0_2.rect ⟨_, ht⟩)).set
  rw [View.set_slice_whole, Rect.mem_set_unit]
  have e := (places ⟨_, ht⟩).1
  intro a
  match a with
  | 0 =>
    show win0_2.index ⟨_, ht⟩ 0 * 512 ≤ (y 0).val ∧ (y 0).val < win0_2.index ⟨_, ht⟩ 0 * 512 + 512
    rw [e]
    show (y 0).val / 512 * 512 ≤ (y 0).val ∧ (y 0).val < (y 0).val / 512 * 512 + 512
    omega
  | 1 =>
    show win0_2.index ⟨_, ht⟩ 1 * 1024 ≤ (y 1).val ∧ (y 1).val < win0_2.index ⟨_, ht⟩ 1 * 1024 + 1024
    rw [e]
    show 0 * 1024 ≤ (y 1).val ∧ (y 1).val < 0 * 1024 + 1024
    omega

/-- The reference's result is the product. -/
theorem reference (a : Vec Ideal S8192x2816 .bf16) (w : Vec Ideal S2x2816x1024 .bf16) :
    Host.dotGeneral (F := Ideal) Cert.DownReferenceIdeal.dot_S8192x2816_S2816x1024_S8192x1024_1_0_0_1_n_n none (extf .f32 a Cert.DownReferenceIdeal.Facts₀.bitsLt_bf16_f32)
      (extf .f32 (shapeCast _ (extractStridedSlice _ ![1, 0, 0] w Cert.DownReferenceIdeal.Facts₀.slices_S2x2816x1024_S1x2816x1024_1_0_0) Cert.DownReferenceIdeal.Facts₀.shapeCasts_S1x2816x1024_S2816x1024) Cert.DownReferenceIdeal.Facts₀.bitsLt_bf16_f32)
      = product 1 a w := by
  funext y
  pointwise [product]

/-- Kernel and reference compute the same product. -/
theorem same : Cert.algebraic_DownIdeal_DownReferenceIdeal := by
  intro m g m' g' _ hm
  refine ⟨fun c => product 1 (m ((c : Thread nD τ).loc main_arg0)) (m ((c : Thread nD τ).loc main_arg1)), ?_, ?_⟩
  · exact (θ_run _ _ _).mono (fun r h c => ⟨(h c).1.trans ((dats m 0 c).arrAt_eq_of_cover 2 _ (fun t _ => wrote m c t) covered), (h c).2⟩) (Value.run_blocks m g)
  · refine (θ_run _ _ _).mono (fun r h c => ⟨(h c).1.trans ?_, (h c).2⟩) (Cert.DownReferenceIdeal.Value.run m' g')
    rw [(hm c).1, (hm c).2]
    exact reference _ _

end Cert.DownIdeal.Product

end
-- ==== Proof.InProduct.lean ====
/- The layer's first product: the blocks that the grid's points write are the blocks of one product. -/
module

public import proofs.«01_k».proof.Defs
public import proofs.«01_k».proof.Proof.Gen.InIdeal.Value
public import proofs.«01_k».proof.Proof.Gen.InReferenceIdeal.Run
public import proofs.«01_k».proof.Proof.Zeros
public import Idealize.ShloMosaic.Lib.Pointwise

@[expose] public section

set_option maxRecDepth 16384

noncomputable section

namespace Cert.InIdeal.Product

open Cert.InIdeal Cert.InIdeal.Gen Cert.Products Idealize.ShloMosaic Idealize.ShloMosaic.TcCoe Idealize.SL.Sem

variable (m : (ℓ : Loc nD τ sig) → Buf (Elt Ideal) ℓ)

/-- The product of the rows with a layer's weights. -/
def product (l : Fin 2) (a : S8192x1024.Idx → EReal) (w : S2x1024x3456.Idx → EReal) : S8192x3456.Idx → EReal := fun y =>
  ∑ k : Fin 1024, a (ix2 (y 0) k) * w (ix3 l k (y 1))

/-- Where a point's blocks lie. -/
theorem places : ∀ t : Fin cfg0.N, win0_2.index t = ![t.val / 3, t.val % 3] ∧ win0_0.index t = ![t.val / 3, 0] ∧ win0_1.index t = ![1, 0, t.val % 3] :=
  (by decide +kernel : ∀ t : Fin grid0.N, _)

/-- What a point leaves in its block: the product of its two blocks. -/
theorem left (x0 : Vec Ideal S1024x1024 .bf16) (x1 : Vec Ideal S1x1024x1152 .bf16) (p : Fin 1024) (q : Fin 1152) :
    out0_2 x0 x1 (ix2 p q) = ∑ k : Fin 1024, x0 (ix2 p k) * x1 (ix3 0 k q) := by
  unfold out0_2
  rw [View.canon_unit_zero zero2, View.ld_unit_zero zero2, View.ld_unit_zero zero3]
  pointwise [k0_pay1]

/-- A point's block of the rows. -/
theorem rows (c : Dev nD) (t : Fin cfg0.N) (y : S8192x3456.Idx) (p : Fin 1024) (h : (y 0).val = t.val / 3 * 1024 + p.val) (k : Fin 1024) :
    iblk m c 0 t (ix2 p k) = m ((c : Thread nD τ).loc main_arg0) (ix2 (y 0) k) := by
  show V m c main_arg0 (((cfg0.win 0).blk t).view.emb (ix2 p k)) = _
  rw [V_main_arg0]
  refine congrArg (m ((c : Thread nD τ).loc main_arg0)) (funext fun a => Fin.ext ?_)
  have e := (places t).2.1
  match a with
  | 0 => show win0_0.index t 0 * 1024 + 1 * p.val = (y 0).val; rw [e, h]; simp
  | 1 => show win0_0.index t 1 * 1024 + 1 * k.val = k.val; rw [e]; simp

/-- A point's block of the second layer's weights. -/
theorem weights (c : Dev nD) (t : Fin cfg0.N) (y : S8192x3456.Idx) (q : Fin 1152) (h : (y 1).val = t.val % 3 * 1152 + q.val) (k : Fin 1024) :
    iblk m c 1 t (ix3 0 k q) = m ((c : Thread nD τ).loc main_arg1) (ix3 1 k (y 1)) := by
  show V m c main_arg1 (((cfg0.win 1).blk t).view.emb (ix3 0 k q)) = _
  rw [V_main_arg1]
  refine congrArg (m ((c : Thread nD τ).loc main_arg1)) (funext fun a => Fin.ext ?_)
  have e := (places t).2.2
  match a with
  | 0 => show win0_1.index t 0 * 1 + 1 * 0 = 1; rw [e]; simp
  | 1 => show win0_1.index t 1 * 1024 + 1 * k.val = k.val; rw [e]; simp
  | 2 => show win0_1.index t 2 * 1152 + 1 * q.val = (y 1).val; rw [e, h]; simp

/-- A point's block of a layer's product comes of its blocks of the rows and of the layer's weights. -/
theorem block (l : Fin 2) (a : S8192x1024.Idx → EReal) (w : S2x1024x3456.Idx → EReal) (t : Fin cfg0.N) (x0 : Vec Ideal S1024x1024 .bf16) (x1 : Vec Ideal S1x1024x1152 .bf16)
    (ha : ∀ (y : S8192x3456.Idx) (p : Fin 1024), (y 0).val = t.val / 3 * 1024 + p.val → ∀ k, x0 (ix2 p k) = a (ix2 (y 0) k))
    (hw : ∀ (y : S8192x3456.Idx) (q : Fin 1152), (y 1).val = t.val % 3 * 1152 + q.val → ∀ k, x1 (ix3 0 k q) = w (ix3 l k (y 1))) :
    (cfg0.win 2).cut (grid0.coords t) (out0_2 x0 x1) = ((cfg0.win 2).blk t).view.read (Elt Ideal) (product l a w) := by
  funext (y : S1024x1152.Idx)
  have e := (places t).1
  have h0 : ((((cfg0.win 2).blk t).view.emb y) 0).val = t.val / 3 * 1024 + (y 0).val := by
    show win0_2.index t 0 * 1024 + 1 * (y 0).val = _; rw [e]; simp
  have h1 : ((((cfg0.win 2).blk t).view.emb y) 1).val = t.val % 3 * 1152 + (y 1).val := by
    show win0_2.index t 1 * 1152 + 1 * (y 1).val = _; rw [e]; simp
  have hy : (cfg0.win 2).cut (grid0.coords t) (out0_2 x0 x1) y = out0_2 x0 x1 (ix2 (y 0) (y 1)) :=
    congrArg (out0_2 x0 x1) (funext fun a => by match a with | 0 => rfl | 1 => rfl)
  exact hy.trans ((left _ _ _ _).trans (Finset.sum_congr rfl fun k _ => congrArg₂ (fun x w : EReal => x * w) (ha _ (y 0) h0 k) (hw _ (y 1) h1 k)))

/-- What a point writes is its block of the product. -/
theorem wrote (c : Dev nD) (t : Fin cfg0.N) :
    (dats m 0 c).flushed 2 t = ((cfg0.win 2).blk t).view.read (Elt Ideal) (product 1 (m ((c : Thread nD τ).loc main_arg0)) (m ((c : Thread nD τ).loc main_arg1))) :=
  (Value.flushed2 m c t).trans (block 1 _ _ t _ _ (rows m c t) (weights m c t))

/-- The blocks cover the result. -/
theorem covered (y : S8192x3456.Idx) : ∃ t : Fin cfg0.N, (cfg0.win 2).flush t = true ∧ y ∈ ((cfg0.win 2).blk t).view.set := by
  have b0 : (y 0).val < 8192 := (y 0).isLt
  have b1 : (y 1).val < 3456 := (y 1).isLt
  have ht : (y 0).val / 1024 * 3 + (y 1).val / 1152 < cfg0.N := lt_of_lt_of_eq (by omega) N_0.symm
  refine ⟨⟨_, ht⟩, flush0_2 _, ?_⟩
  show y ∈ ((View.whole main_v0).slice (win0_2.rect ⟨_, ht⟩)).set
  rw [View.set_slice_whole, Rect.mem_set_unit]
  have e := (places ⟨_, ht⟩).1
  intro a
  match a with
  | 0 =>
    show win0_2.index ⟨_, ht⟩ 0 * 1024 ≤ (y 0).val ∧ (y 0).val < win0_2.index ⟨_, ht⟩ 0 * 1024 + 1024
    rw [e]
    show ((y 0).val / 1024 * 3 + (y 1).val / 1152) / 3 * 1024 ≤ (y 0).val ∧ (y 0).val < ((y 0).val / 1024 * 3 + (y 1).val / 1152) / 3 * 1024 + 1024
    omega
  | 1 =>
    show win0_2.index ⟨_, ht⟩ 1 * 1152 ≤ (y 1).val ∧ (y 1).val < win0_2.index ⟨_, ht⟩ 1 * 1152 + 1152
    rw [e]
    show ((y 0).val / 1024 * 3 + (y 1).val / 1152) % 3 * 1152 ≤ (y 1).val ∧ (y 1).val < ((y 0).val / 1024 * 3 + (y 1).val / 1152) % 3 * 1152 + 1152
    omega

/-- The reference's result is the product. -/
theorem reference (a : Vec Ideal S8192x1024 .bf16) (w : Vec Ideal S2x1024x3456 .bf16) :
    Host.dotGeneral (F := Ideal) Cert.InReferenceIdeal.dot_S8192x1024_S1024x3456_S8192x3456_1_0_0_1_n_n none (extf .f32 a Cert.InReferenceIdeal.Facts₀.bitsLt_bf16_f32)
      (extf .f32 (shapeCast _ (extractStridedSlice _ ![1, 0, 0] w Cert.InReferenceIdeal.Facts₀.slices_S2x1024x3456_S1x1024x3456_1_0_0) Cert.InReferenceIdeal.Facts₀.shapeCasts_S1x1024x3456_S1024x3456) Cert.InReferenceIdeal.Facts₀.bitsLt_bf16_f32)
      = product 1 a w := by
  funext y
  pointwise [product]

/-- Kernel and reference compute the same product. -/
theorem same : Cert.algebraic_InIdeal_InReferenceIdeal := by
  intro m g m' g' _ hm
  refine ⟨fun c => product 1 (m ((c : Thread nD τ).loc main_arg0)) (m ((c : Thread nD τ).loc main_arg1)), ?_, ?_⟩
  · exact (θ_run _ _ _).mono (fun r h c => ⟨(h c).1.trans ((dats m 0 c).arrAt_eq_of_cover 2 _ (fun t _ => wrote m c t) covered), (h c).2⟩) (Value.run_blocks m g)
  · refine (θ_run _ _ _).mono (fun r h c => ⟨(h c).1.trans ?_, (h c).2⟩) (Cert.InReferenceIdeal.Value.run m' g')
    rw [(hm c).1, (hm c).2]
    exact reference _ _

end Cert.InIdeal.Product

end
-- ==== Proof.OutProduct.lean ====
/- The mixers' last product: the blocks that the grid's points write are the blocks of one product. -/
module

public import proofs.«01_k».proof.Defs
public import proofs.«01_k».proof.Proof.Gen.OutIdeal.Value
public import proofs.«01_k».proof.Proof.Gen.OutReferenceIdeal.Run
public import proofs.«01_k».proof.Proof.Zeros
public import Idealize.ShloMosaic.Lib.Pointwise

@[expose] public section

set_option maxRecDepth 16384

noncomputable section

namespace Cert.OutIdeal.Product

open Cert.OutIdeal Cert.OutIdeal.Gen Cert.Products Idealize.ShloMosaic Idealize.ShloMosaic.TcCoe Idealize.SL.Sem

variable (m : (ℓ : Loc nD τ sig) → Buf (Elt Ideal) ℓ)

/-- The product of the rows with a layer's weights. -/
def product (l : Fin 2) (a : S8192x2048.Idx → EReal) (w : S2x2048x1024.Idx → EReal) : S8192x1024.Idx → EReal := fun y =>
  ∑ k : Fin 2048, a (ix2 (y 0) k) * w (ix3 l k (y 1))

/-- Where a point's blocks lie. -/
theorem places : ∀ t : Fin cfg0.N, win0_2.index t = ![t.val, 0] ∧ win0_0.index t = ![t.val, 0] ∧ win0_1.index t = ![1, 0, 0] :=
  (by decide +kernel : ∀ t : Fin grid0.N, _)

/-- What a point leaves in its block: the product of its two blocks. -/
theorem left (x0 : Vec Ideal S1024x2048 .bf16) (x1 : Vec Ideal S1x2048x1024 .bf16) (p : Fin 1024) (q : Fin 1024) :
    out0_2 x0 x1 (ix2 p q) = ∑ k : Fin 2048, x0 (ix2 p k) * x1 (ix3 0 k q) := by
  unfold out0_2
  rw [View.canon_unit_zero zero2, View.ld_unit_zero zero2, View.ld_unit_zero zero3]
  pointwise [k0_pay1]

/-- A point's block of the rows. -/
theorem rows (c : Dev nD) (t : Fin cfg0.N) (y : S8192x1024.Idx) (p : Fin 1024) (h : (y 0).val = t.val * 1024 + p.val) (k : Fin 2048) :
    iblk m c 0 t (ix2 p k) = m ((c : Thread nD τ).loc main_arg0) (ix2 (y 0) k) := by
  show V m c main_arg0 (((cfg0.win 0).blk t).view.emb (ix2 p k)) = _
  rw [V_main_arg0]
  refine congrArg (m ((c : Thread nD τ).loc main_arg0)) (funext fun a => Fin.ext ?_)
  have e := (places t).2.1
  match a with
  | 0 => show win0_0.index t 0 * 1024 + 1 * p.val = (y 0).val; rw [e, h]; simp
  | 1 => show win0_0.index t 1 * 2048 + 1 * k.val = k.val; rw [e]; simp

/-- A point's block of the second layer's weights. -/
theorem weights (c : Dev nD) (t : Fin cfg0.N) (y : S8192x1024.Idx) (q : Fin 1024) (h : (y 1).val = 0 * 1024 + q.val) (k : Fin 2048) :
    iblk m c 1 t (ix3 0 k q) = m ((c : Thread nD τ).loc main_arg1) (ix3 1 k (y 1)) := by
  show V m c main_arg1 (((cfg0.win 1).blk t).view.emb (ix3 0 k q)) = _
  rw [V_main_arg1]
  refine congrArg (m ((c : Thread nD τ).loc main_arg1)) (funext fun a => Fin.ext ?_)
  have e := (places t).2.2
  match a with
  | 0 => show win0_1.index t 0 * 1 + 1 * 0 = 1; rw [e]; simp
  | 1 => show win0_1.index t 1 * 2048 + 1 * k.val = k.val; rw [e]; simp
  | 2 => show win0_1.index t 2 * 1024 + 1 * q.val = (y 1).val; rw [e, h]; simp

/-- A point's block of a layer's product comes of its blocks of the rows and of the layer's weights. -/
theorem block (l : Fin 2) (a : S8192x2048.Idx → EReal) (w : S2x2048x1024.Idx → EReal) (t : Fin cfg0.N) (x0 : Vec Ideal S1024x2048 .bf16) (x1 : Vec Ideal S1x2048x1024 .bf16)
    (ha : ∀ (y : S8192x1024.Idx) (p : Fin 1024), (y 0).val = t.val * 1024 + p.val → ∀ k, x0 (ix2 p k) = a (ix2 (y 0) k))
    (hw : ∀ (y : S8192x1024.Idx) (q : Fin 1024), (y 1).val = 0 * 1024 + q.val → ∀ k, x1 (ix3 0 k q) = w (ix3 l k (y 1))) :
    (cfg0.win 2).cut (grid0.coords t) (out0_2 x0 x1) = ((cfg0.win 2).blk t).view.read (Elt Ideal) (product l a w) := by
  funext (y : S1024x1024.Idx)
  have e := (places t).1
  have h0 : ((((cfg0.win 2).blk t).view.emb y) 0).val = t.val * 1024 + (y 0).val := by
    show win0_2.index t 0 * 1024 + 1 * (y 0).val = _; rw [e]; simp
  have h1 : ((((cfg0.win 2).blk t).view.emb y) 1).val = 0 * 1024 + (y 1).val := by
    show win0_2.index t 1 * 1024 + 1 * (y 1).val = _; rw [e]; simp
  have hy : (cfg0.win 2).cut (grid0.coords t) (out0_2 x0 x1) y = out0_2 x0 x1 (ix2 (y 0) (y 1)) :=
    congrArg (out0_2 x0 x1) (funext fun a => by match a with | 0 => rfl | 1 => rfl)
  exact hy.trans ((left _ _ _ _).trans (Finset.sum_congr rfl fun k _ => congrArg₂ (fun x w : EReal => x * w) (ha _ (y 0) h0 k) (hw _ (y 1) h1 k)))

/-- What a point writes is its block of the product. -/
theorem wrote (c : Dev nD) (t : Fin cfg0.N) :
    (dats m 0 c).flushed 2 t = ((cfg0.win 2).blk t).view.read (Elt Ideal) (product 1 (m ((c : Thread nD τ).loc main_arg0)) (m ((c : Thread nD τ).loc main_arg1))) :=
  (Value.flushed2 m c t).trans (block 1 _ _ t _ _ (rows m c t) (weights m c t))

/-- The blocks cover the result. -/
theorem covered (y : S8192x1024.Idx) : ∃ t : Fin cfg0.N, (cfg0.win 2).flush t = true ∧ y ∈ ((cfg0.win 2).blk t).view.set := by
  have b0 : (y 0).val < 8192 := (y 0).isLt
  have b1 : (y 1).val < 1024 := (y 1).isLt
  have ht : (y 0).val / 1024 < cfg0.N := lt_of_lt_of_eq (by omega) N_0.symm
  refine ⟨⟨_, ht⟩, flush0_2 _, ?_⟩
  show y ∈ ((View.whole main_v0).slice (win0_2.rect ⟨_, ht⟩)).set
  rw [View.set_slice_whole, Rect.mem_set_unit]
  have e := (places ⟨_, ht⟩).1
  intro a
  match a with
  | 0 =>
    show win0_2.index ⟨_, ht⟩ 0 * 1024 ≤ (y 0).val ∧ (y 0).val < win0_2.index ⟨_, ht⟩ 0 * 1024 + 1024
    rw [e]
    show (y 0).val / 1024 * 1024 ≤ (y 0).val ∧ (y 0).val < (y 0).val / 1024 * 1024 + 1024
    omega
  | 1 =>
    show win0_2.index ⟨_, ht⟩ 1 * 1024 ≤ (y 1).val ∧ (y 1).val < win0_2.index ⟨_, ht⟩ 1 * 1024 + 1024
    rw [e]
    show 0 * 1024 ≤ (y 1).val ∧ (y 1).val < 0 * 1024 + 1024
    omega

/-- The reference's result is the product. -/
theorem reference (a : Vec Ideal S8192x2048 .bf16) (w : Vec Ideal S2x2048x1024 .bf16) :
    Host.dotGeneral (F := Ideal) Cert.OutReferenceIdeal.dot_S8192x2048_S2048x1024_S8192x1024_1_0_0_1_n_n none (extf .f32 a Cert.OutReferenceIdeal.Facts₀.bitsLt_bf16_f32)
      (extf .f32 (shapeCast _ (extractStridedSlice _ ![1, 0, 0] w Cert.OutReferenceIdeal.Facts₀.slices_S2x2048x1024_S1x2048x1024_1_0_0) Cert.OutReferenceIdeal.Facts₀.shapeCasts_S1x2048x1024_S2048x1024) Cert.OutReferenceIdeal.Facts₀.bitsLt_bf16_f32)
      = product 1 a w := by
  funext y
  pointwise [product]

/-- Kernel and reference compute the same product. -/
theorem same : Cert.algebraic_OutIdeal_OutReferenceIdeal := by
  intro m g m' g' _ hm
  refine ⟨fun c => product 1 (m ((c : Thread nD τ).loc main_arg0)) (m ((c : Thread nD τ).loc main_arg1)), ?_, ?_⟩
  · exact (θ_run _ _ _).mono (fun r h c => ⟨(h c).1.trans ((dats m 0 c).arrAt_eq_of_cover 2 _ (fun t _ => wrote m c t) covered), (h c).2⟩) (Value.run_blocks m g)
  · refine (θ_run _ _ _).mono (fun r h c => ⟨(h c).1.trans ?_, (h c).2⟩) (Cert.OutReferenceIdeal.Value.run m' g')
    rw [(hm c).1, (hm c).2]
    exact reference _ _

end Cert.OutIdeal.Product

end
-- ==== Proof.UpDataFirstProduct.lean ====
/- The first layer's call of what `UpDataProduct` has of the second layer: the blocks of the weights lie elsewhere, the rest is as there. -/
module

public import proofs.«01_k».proof.Defs
public import proofs.«01_k».proof.Proof.Gen.UpDataFirstIdeal.Value
public import proofs.«01_k».proof.Proof.Gen.UpDataFirstReferenceIdeal.Run
public import proofs.«01_k».proof.Proof.UpDataProduct
public import Idealize.ShloMosaic.Lib.Pointwise

@[expose] public section

set_option maxRecDepth 16384

noncomputable section

namespace Cert.UpDataFirstIdeal.Product

open Cert.UpDataFirstIdeal Cert.UpDataFirstIdeal.Gen Cert.Products Idealize.ShloMosaic Idealize.ShloMosaic.TcCoe Idealize.SL.Sem

variable (m : (ℓ : Loc nD τ sig) → Buf (Elt Ideal) ℓ)

/-- Where a point's block of the weights lies. -/
theorem place : ∀ t : Fin cfg0.N, win0_2.index t = ![0, 0, t.val % 2] :=
  (by decide +kernel : ∀ t : Fin grid0.N, _)

/-- What an even point leaves in the result's block. -/
theorem first (c : Dev nD) (i : grid0.Coords) (a0 : Memref sig .tc .vmem S512x2816 .bf16) (h0 : a0.IsWhole) (a1 : Memref sig .tc .vmem S512x2816 .bf16) (h1 : a1.IsWhole)
    (a2 : Memref sig .tc .vmem S1x1024x2816 .bf16) (h2 : a2.IsWhole) (a3 : Memref sig .tc .vmem S512x1024 .f32) (h3 : a3.IsWhole) (hc0 : cond0_0 i) (hc1 : ¬cond0_1 i)
    (x0 x1 : Vec Ideal S512x2816 .bf16) (x2 : Vec Ideal S1x1024x2816 .bf16) :
    out0_A_3 c i a0 h0 a1 h1 a2 h2 a3 h3 hc0 hc1 x0 x1 x2 = k0_pay1 x0 x2 := by
  unfold out0_A_3
  rw [View.read_writes_eq_canon _ _ _ (cover0_A_3 c i a0 h0 a1 h1 a2 h2 a3 h3 hc0 hc1 x0 x1 x2)]
  unfold kernelRun0_A
  dsimp only
  rw [View.canon_unit_zero zero2]
  simp only [View.readAt_eq_ld, h0.read_unread, h2.read_unread, View.ld_unit_zero (S := S512x2816) zero2, View.ld_unit_zero (S := S1x1024x2816) zero3]

/-- What an odd point leaves there, over what the point before left. -/
theorem second (c : Dev nD) (i : grid0.Coords) (a0 : Memref sig .tc .vmem S512x2816 .bf16) (h0 : a0.IsWhole) (a1 : Memref sig .tc .vmem S512x2816 .bf16) (h1 : a1.IsWhole)
    (a2 : Memref sig .tc .vmem S1x1024x2816 .bf16) (h2 : a2.IsWhole) (a3 : Memref sig .tc .vmem S512x1024 .f32) (h3 : a3.IsWhole) (hc0 : ¬cond0_0 i) (hc1 : cond0_1 i)
    (x0 x1 : Vec Ideal S512x2816 .bf16) (x2 : Vec Ideal S1x1024x2816 .bf16) (x3 : Vec Ideal S512x1024 .f32) :
    out0_B_3 c i a0 h0 a1 h1 a2 h2 a3 h3 hc0 hc1 x0 x1 x2 x3 = k0_pay2 x3 x1 x2 := by
  unfold out0_B_3
  rw [View.read_writes_eq_canon _ _ _ (cover0_B_3 c i a0 h0 a1 h1 a2 h2 a3 h3 hc0 hc1 x0 x1 x2 x3)]
  unfold kernelRun0_B
  dsimp only
  rw [View.canon_unit_zero zero2]
  simp only [View.readAt_eq_ld, h1.read_unread, h2.read_unread, h3.read_unread, View.ld_unit_zero (S := S512x2816) zero2, View.ld_unit_zero (S := S1x1024x2816) zero3,
    View.ld_unit_zero (S := S512x1024) zero2]

/-- A point's block of the first layer's weights: one half of their columns. -/
theorem weights (c : Dev nD) (t : Fin cfg0.N) (q : Fin 1024) (k : Fin 2816) (k' : Fin 5632) (h : k'.val = t.val % 2 * 2816 + k.val) :
    iblk m c 2 t (ix3 0 q k) = m ((c : Thread nD τ).loc main_arg2) (ix3 0 q k') := by
  show V m c main_arg2 (((cfg0.win 2).blk t).view.emb (ix3 0 q k)) = _
  rw [V_main_arg2]
  refine congrArg (m ((c : Thread nD τ).loc main_arg2)) (funext fun a => Fin.ext ?_)
  have e := place t
  match a with
  | 0 => show win0_2.index t 0 * 1 + 1 * 0 = 0; rw [e]; simp
  | 1 => show win0_2.index t 1 * 1024 + 1 * q.val = q.val; rw [e]; simp
  | 2 => show win0_2.index t 2 * 2816 + 1 * k.val = k'.val; rw [e, h]; simp

/-- What an odd point leaves in the result's block. -/
theorem leaves (c : Dev nD) (t s : Fin cfg0.N) (h : t.val % 2 = 1) (hs : s.val = t.val - 1) :
    outsAt0 m c t.val t.isLt = k0_pay2 (k0_pay1 (iblk m c 0 s) (iblk m c 2 s)) (iblk m c 1 t) (iblk m c 2 t) := by
  rw [outsAt0_B m c t (by omega) h, second]
  obtain ⟨s, hs'⟩ := s
  obtain rfl : s = t.val - 1 := hs
  exact congrArg (fun x => k0_pay2 x (iblk m c 1 t) (iblk m c 2 t)) ((outsAt0_A m c ⟨t.val - 1, hs'⟩ (by show (t.val - 1) % 2 = 0; omega) (by show ¬(t.val - 1) % 2 = 1; omega)).trans (first ..))

/-- What an odd point writes is its block of the product. -/
theorem wrote (c : Dev nD) (t : Fin cfg0.N) (ht : (cfg0.win 3).flush t = true) :
    (dats m 0 c).flushed 3 t = ((cfg0.win 3).blk t).view.read (Elt Ideal)
      (Cert.UpDataIdeal.Product.product 0 (m ((c : Thread nD τ).loc main_arg0)) (m ((c : Thread nD τ).loc main_arg1)) (m ((c : Thread nD τ).loc main_arg2))) := by
  have odd := (flush0_3 t).mp ht
  have hs : t.val - 1 < cfg0.N := lt_of_le_of_lt (Nat.sub_le _ _) t.isLt
  rw [Value.flushed3, leaves m c t ⟨_, hs⟩ odd rfl]
  exact Cert.UpDataIdeal.Product.block 0 _ _ _ t _ _ _ _ (fun y p h k => Cert.UpDataIdeal.Product.rows0 m c ⟨_, hs⟩ y p (by show _ = (t.val - 1) / 2 * 512 + p.val; rw [h]; omega) k) (Cert.UpDataIdeal.Product.rows1 m c t)
    (fun q k k' h => weights m c ⟨_, hs⟩ q k k' (by show k'.val = (t.val - 1) % 2 * 2816 + k.val; omega))
    (fun q k k' h => weights m c t q k k' (by rw [h, odd]))

/-- The reference's result is the product. -/
theorem reference (a b : Vec Ideal S8192x2816 .bf16) (w : Vec Ideal S2x1024x5632 .bf16) :
    Host.dotGeneral (F := Ideal) Cert.UpDataFirstReferenceIdeal.dot_S8192x5632_S1024x5632_S8192x1024_1_1_0_0_n_n none
      (extf .f32 (concatenate Cert.UpDataFirstReferenceIdeal.S8192x5632 1 [⟨S8192x2816, a⟩, ⟨S8192x2816, b⟩] Cert.UpDataFirstReferenceIdeal.Facts₀.concatenates_S8192x2816_S8192x2816_S8192x5632_d1)
        Cert.UpDataFirstReferenceIdeal.Facts₀.bitsLt_bf16_f32)
      (extf .f32 (shapeCast _ (extractStridedSlice _ ![0, 0, 0] w Cert.UpDataFirstReferenceIdeal.Facts₀.slices_S2x1024x5632_S1x1024x5632_0_0_0) Cert.UpDataFirstReferenceIdeal.Facts₀.shapeCasts_S1x1024x5632_S1024x5632) Cert.UpDataFirstReferenceIdeal.Facts₀.bitsLt_bf16_f32)
      = Cert.UpDataIdeal.Product.product 0 a b w := by
  funext y
  pointwise [Cert.UpDataIdeal.Product.product]

/-- Kernel and reference compute the same product. -/
theorem same : Cert.algebraic_UpDataFirstIdeal_UpDataFirstReferenceIdeal := by
  intro m g m' g' _ hm
  refine ⟨fun c => Cert.UpDataIdeal.Product.product 0 (m ((c : Thread nD τ).loc main_arg0)) (m ((c : Thread nD τ).loc main_arg1)) (m ((c : Thread nD τ).loc main_arg2)), ?_, ?_⟩
  · exact (θ_run _ _ _).mono (fun r h c => ⟨(h c).1.trans ((dats m 0 c).arrAt_eq_of_cover 3 _ (fun t ht => wrote m c t ht) Cert.UpDataIdeal.Product.covered), (h c).2⟩) (Value.run_blocks m g)
  · refine (θ_run _ _ _).mono (fun r h c => ⟨(h c).1.trans ?_, (h c).2⟩) (Cert.UpDataFirstReferenceIdeal.Value.run m' g')
    rw [(hm c).1, (hm c).2.1, (hm c).2.2]
    exact reference _ _ _

end Cert.UpDataFirstIdeal.Product

end
-- ==== Proof.DownDataFirstProduct.lean ====
/- The first layer's call of what `DownDataProduct` has of the second layer: the blocks of the weights lie elsewhere, the rest is as there. -/
module

public import proofs.«01_k».proof.Defs
public import proofs.«01_k».proof.Proof.Gen.DownDataFirstIdeal.Value
public import proofs.«01_k».proof.Proof.Gen.DownDataFirstReferenceIdeal.Run
public import proofs.«01_k».proof.Proof.DownDataProduct
public import Idealize.ShloMosaic.Lib.Pointwise

@[expose] public section

set_option maxRecDepth 16384

noncomputable section

namespace Cert.DownDataFirstIdeal.Product

open Cert.DownDataFirstIdeal Cert.DownDataFirstIdeal.Gen Cert.Products Idealize.ShloMosaic Idealize.ShloMosaic.TcCoe Idealize.SL.Sem

variable (m : (ℓ : Loc nD τ sig) → Buf (Elt Ideal) ℓ)

/-- Where a point's block of the weights lies. -/
theorem place : ∀ t : Fin cfg0.N, win0_1.index t = ![0, t.val % 2, 0] :=
  (by decide +kernel : ∀ t : Fin grid0.N, _)

/-- A point's block of the first layer's weights. -/
theorem weights (c : Dev nD) (t : Fin cfg0.N) (y : S8192x2816.Idx) (q : Fin 1408) (h : (y 1).val = t.val % 2 * 1408 + q.val) (k : Fin 1024) :
    iblk m c 1 t (ix3 0 q k) = m ((c : Thread nD τ).loc main_arg1) (ix3 0 (y 1) k) := by
  show V m c main_arg1 (((cfg0.win 1).blk t).view.emb (ix3 0 q k)) = _
  rw [V_main_arg1]
  refine congrArg (m ((c : Thread nD τ).loc main_arg1)) (funext fun a => Fin.ext ?_)
  have e := place t
  match a with
  | 0 => show win0_1.index t 0 * 1 + 1 * 0 = 0; rw [e]; simp
  | 1 => show win0_1.index t 1 * 1408 + 1 * q.val = (y 1).val; rw [e, h]; simp
  | 2 => show win0_1.index t 2 * 1024 + 1 * k.val = k.val; rw [e]; simp

/-- What a point writes is its block of the product. -/
theorem wrote (c : Dev nD) (t : Fin cfg0.N) :
    (dats m 0 c).flushed 2 t = ((cfg0.win 2).blk t).view.read (Elt Ideal) (Cert.DownDataIdeal.Product.product 0 (m ((c : Thread nD τ).loc main_arg0)) (m ((c : Thread nD τ).loc main_arg1))) :=
  (Value.flushed2 m c t).trans (Cert.DownDataIdeal.Product.block 0 _ _ t _ _ (Cert.DownDataIdeal.Product.rows m c t) (weights m c t))

/-- The reference's result is the product. -/
theorem reference (a : Vec Ideal S8192x1024 .bf16) (w : Vec Ideal S2x2816x1024 .bf16) :
    Host.dotGeneral (F := Ideal) Cert.DownDataFirstReferenceIdeal.dot_S8192x1024_S2816x1024_S8192x2816_1_1_0_0_n_n none (extf .f32 a Cert.DownDataFirstReferenceIdeal.Facts₀.bitsLt_bf16_f32)
      (extf .f32 (shapeCast _ (extractStridedSlice _ ![0, 0, 0] w Cert.DownDataFirstReferenceIdeal.Facts₀.slices_S2x2816x1024_S1x2816x1024_0_0_0) Cert.DownDataFirstReferenceIdeal.Facts₀.shapeCasts_S1x2816x1024_S2816x1024) Cert.DownDataFirstReferenceIdeal.Facts₀.bitsLt_bf16_f32)
      = Cert.DownDataIdeal.Product.product 0 a w := by
  funext y
  pointwise [Cert.DownDataIdeal.Product.product]

/-- Kernel and reference compute the same product. -/
theorem same : Cert.algebraic_DownDataFirstIdeal_DownDataFirstReferenceIdeal := by
  intro m g m' g' _ hm
  refine ⟨fun c => Cert.DownDataIdeal.Product.product 0 (m ((c : Thread nD τ).loc main_arg0)) (m ((c : Thread nD τ).loc main_arg1)), ?_, ?_⟩
  · exact (θ_run _ _ _).mono (fun r h c => ⟨(h c).1.trans ((dats m 0 c).arrAt_eq_of_cover 2 _ (fun t _ => wrote m c t) Cert.DownDataIdeal.Product.covered), (h c).2⟩) (Value.run_blocks m g)
  · refine (θ_run _ _ _).mono (fun r h c => ⟨(h c).1.trans ?_, (h c).2⟩) (Cert.DownDataFirstReferenceIdeal.Value.run m' g')
    rw [(hm c).1, (hm c).2]
    exact reference _ _

end Cert.DownDataFirstIdeal.Product

end
-- ==== Proof.InDataFirstProduct.lean ====
/- The first layer's call of what `InDataProduct` has of the second layer: the blocks of the weights lie elsewhere, the rest is as there. -/
module

public import proofs.«01_k».proof.Defs
public import proofs.«01_k».proof.Proof.Gen.InDataFirstIdeal.Value
public import proofs.«01_k».proof.Proof.Gen.InDataFirstReferenceIdeal.Run
public import proofs.«01_k».proof.Proof.InDataProduct
public import Idealize.ShloMosaic.Lib.Pointwise

@[expose] public section

set_option maxRecDepth 16384

noncomputable section

namespace Cert.InDataFirstIdeal.Product

open Cert.InDataFirstIdeal Cert.InDataFirstIdeal.Gen Cert.Products Idealize.ShloMosaic Idealize.ShloMosaic.TcCoe Idealize.SL.Sem

variable (m : (ℓ : Loc nD τ sig) → Buf (Elt Ideal) ℓ)

/-- Where a point's block of the weights lies. -/
theorem place : ∀ t : Fin cfg0.N, win0_1.index t = ![0, 0, 0] :=
  (by decide +kernel : ∀ t : Fin grid0.N, _)

/-- A point's block of the first layer's weights. -/
theorem weights (c : Dev nD) (t : Fin cfg0.N) (y : S8192x1024.Idx) (q : Fin 1024) (h : (y 1).val = 0 * 1024 + q.val) (k : Fin 3456) :
    iblk m c 1 t (ix3 0 q k) = m ((c : Thread nD τ).loc main_arg1) (ix3 0 (y 1) k) := by
  show V m c main_arg1 (((cfg0.win 1).blk t).view.emb (ix3 0 q k)) = _
  rw [V_main_arg1]
  refine congrArg (m ((c : Thread nD τ).loc main_arg1)) (funext fun a => Fin.ext ?_)
  have e := place t
  match a with
  | 0 => show win0_1.index t 0 * 1 + 1 * 0 = 0; rw [e]; simp
  | 1 => show win0_1.index t 1 * 1024 + 1 * q.val = (y 1).val; rw [e, h]; simp
  | 2 => show win0_1.index t 2 * 3456 + 1 * k.val = k.val; rw [e]; simp

/-- What a point writes is its block of the product. -/
theorem wrote (c : Dev nD) (t : Fin cfg0.N) :
    (dats m 0 c).flushed 2 t = ((cfg0.win 2).blk t).view.read (Elt Ideal) (Cert.InDataIdeal.Product.product 0 (m ((c : Thread nD τ).loc main_arg0)) (m ((c : Thread nD τ).loc main_arg1))) :=
  (Value.flushed2 m c t).trans (Cert.InDataIdeal.Product.block 0 _ _ t _ _ (Cert.InDataIdeal.Product.rows m c t) (weights m c t))

/-- The reference's result is the product. -/
theorem reference (a : Vec Ideal S8192x3456 .bf16) (w : Vec Ideal S2x1024x3456 .bf16) :
    Host.dotGeneral (F := Ideal) Cert.InDataFirstReferenceIdeal.dot_S8192x3456_S1024x3456_S8192x1024_1_1_0_0_n_n none (extf .f32 a Cert.InDataFirstReferenceIdeal.Facts₀.bitsLt_bf16_f32)
      (extf .f32 (shapeCast _ (extractStridedSlice _ ![0, 0, 0] w Cert.InDataFirstReferenceIdeal.Facts₀.slices_S2x1024x3456_S1x1024x3456_0_0_0) Cert.InDataFirstReferenceIdeal.Facts₀.shapeCasts_S1x1024x3456_S1024x3456) Cert.InDataFirstReferenceIdeal.Facts₀.bitsLt_bf16_f32)
      = Cert.InDataIdeal.Product.product 0 a w := by
  funext y
  pointwise [Cert.InDataIdeal.Product.product]

/-- Kernel and reference compute the same product. -/
theorem same : Cert.algebraic_InDataFirstIdeal_InDataFirstReferenceIdeal := by
  intro m g m' g' _ hm
  refine ⟨fun c => Cert.InDataIdeal.Product.product 0 (m ((c : Thread nD τ).loc main_arg0)) (m ((c : Thread nD τ).loc main_arg1)), ?_, ?_⟩
  · exact (θ_run _ _ _).mono (fun r h c => ⟨(h c).1.trans ((dats m 0 c).arrAt_eq_of_cover 2 _ (fun t _ => wrote m c t) Cert.InDataIdeal.Product.covered), (h c).2⟩) (Value.run_blocks m g)
  · refine (θ_run _ _ _).mono (fun r h c => ⟨(h c).1.trans ?_, (h c).2⟩) (Cert.InDataFirstReferenceIdeal.Value.run m' g')
    rw [(hm c).1, (hm c).2]
    exact reference _ _

end Cert.InDataFirstIdeal.Product

end
-- ==== Proof.OutDataFirstProduct.lean ====
/- The first layer's call of what `OutDataProduct` has of the second layer: the blocks of the weights lie elsewhere, the rest is as there. -/
module

public import proofs.«01_k».proof.Defs
public import proofs.«01_k».proof.Proof.Gen.OutDataFirstIdeal.Value
public import proofs.«01_k».proof.Proof.Gen.OutDataFirstReferenceIdeal.Run
public import proofs.«01_k».proof.Proof.OutDataProduct
public import Idealize.ShloMosaic.Lib.Pointwise

@[expose] public section

set_option maxRecDepth 16384

noncomputable section

namespace Cert.OutDataFirstIdeal.Product

open Cert.OutDataFirstIdeal Cert.OutDataFirstIdeal.Gen Cert.Products Idealize.ShloMosaic Idealize.ShloMosaic.TcCoe Idealize.SL.Sem

variable (m : (ℓ : Loc nD τ sig) → Buf (Elt Ideal) ℓ)

/-- Where a point's block of the weights lies. -/
theorem place : ∀ t : Fin cfg0.N, win0_1.index t = ![0, t.val % 2, 0] :=
  (by decide +kernel : ∀ t : Fin grid0.N, _)

/-- A point's block of the first layer's weights. -/
theorem weights (c : Dev nD) (t : Fin cfg0.N) (y : S8192x2048.Idx) (q : Fin 1024) (h : (y 1).val = t.val % 2 * 1024 + q.val) (k : Fin 1024) :
    iblk m c 1 t (ix3 0 q k) = m ((c : Thread nD τ).loc main_arg1) (ix3 0 (y 1) k) := by
  show V m c main_arg1 (((cfg0.win 1).blk t).view.emb (ix3 0 q k)) = _
  rw [V_main_arg1]
  refine congrArg (m ((c : Thread nD τ).loc main_arg1)) (funext fun a => Fin.ext ?_)
  have e := place t
  match a with
  | 0 => show win0_1.index t 0 * 1 + 1 * 0 = 0; rw [e]; simp
  | 1 => show win0_1.index t 1 * 1024 + 1 * q.val = (y 1).val; rw [e, h]; simp
  | 2 => show win0_1.index t 2 * 1024 + 1 * k.val = k.val; rw [e]; simp

/-- What a point writes is its block of the product. -/
theorem wrote (c : Dev nD) (t : Fin cfg0.N) :
    (dats m 0 c).flushed 2 t = ((cfg0.win 2).blk t).view.read (Elt Ideal) (Cert.OutDataIdeal.Product.product 0 (m ((c : Thread nD τ).loc main_arg0)) (m ((c : Thread nD τ).loc main_arg1))) :=
  (Value.flushed2 m c t).trans (Cert.OutDataIdeal.Product.block 0 _ _ t _ _ (Cert.OutDataIdeal.Product.rows m c t) (weights m c t))

/-- The reference's result is the product. -/
theorem reference (a : Vec Ideal S8192x1024 .bf16) (w : Vec Ideal S2x2048x1024 .bf16) :
    Host.dotGeneral (F := Ideal) Cert.OutDataFirstReferenceIdeal.dot_S8192x1024_S2048x1024_S8192x2048_1_1_0_0_n_n none (extf .f32 a Cert.OutDataFirstReferenceIdeal.Facts₀.bitsLt_bf16_f32)
      (extf .f32 (shapeCast _ (extractStridedSlice _ ![0, 0, 0] w Cert.OutDataFirstReferenceIdeal.Facts₀.slices_S2x2048x1024_S1x2048x1024_0_0_0) Cert.OutDataFirstReferenceIdeal.Facts₀.shapeCasts_S1x2048x1024_S2048x1024) Cert.OutDataFirstReferenceIdeal.Facts₀.bitsLt_bf16_f32)
      = Cert.OutDataIdeal.Product.product 0 a w := by
  funext y
  pointwise [Cert.OutDataIdeal.Product.product]

/-- Kernel and reference compute the same product. -/
theorem same : Cert.algebraic_OutDataFirstIdeal_OutDataFirstReferenceIdeal := by
  intro m g m' g' _ hm
  refine ⟨fun c => Cert.OutDataIdeal.Product.product 0 (m ((c : Thread nD τ).loc main_arg0)) (m ((c : Thread nD τ).loc main_arg1)), ?_, ?_⟩
  · exact (θ_run _ _ _).mono (fun r h c => ⟨(h c).1.trans ((dats m 0 c).arrAt_eq_of_cover 2 _ (fun t _ => wrote m c t) Cert.OutDataIdeal.Product.covered), (h c).2⟩) (Value.run_blocks m g)
  · refine (θ_run _ _ _).mono (fun r h c => ⟨(h c).1.trans ?_, (h c).2⟩) (Cert.OutDataFirstReferenceIdeal.Value.run m' g')
    rw [(hm c).1, (hm c).2]
    exact reference _ _

end Cert.OutDataFirstIdeal.Product

end
-- ==== Proof.UpFirstProduct.lean ====
/- The first layer's call of what `UpProduct` has of the second layer: the blocks of the weights lie elsewhere, the rest is as there. -/
module

public import proofs.«01_k».proof.Defs
public import proofs.«01_k».proof.Proof.Gen.UpFirstIdeal.Value
public import proofs.«01_k».proof.Proof.Gen.UpFirstReferenceIdeal.Run
public import proofs.«01_k».proof.Proof.UpProduct
public import Idealize.ShloMosaic.Lib.Pointwise

@[expose] public section

set_option maxRecDepth 16384

noncomputable section

namespace Cert.UpFirstIdeal.Product

open Cert.UpFirstIdeal Cert.UpFirstIdeal.Gen Cert.Products Idealize.ShloMosaic Idealize.ShloMosaic.TcCoe Idealize.SL.Sem

variable (m : (ℓ : Loc nD τ sig) → Buf (Elt Ideal) ℓ)

/-- Where a point's block of the weights lies. -/
theorem place : ∀ t : Fin cfg0.N, win0_1.index t = ![0, 0, t.val % 11] :=
  (by decide +kernel : ∀ t : Fin grid0.N, _)

/-- A point's block of the first layer's weights. -/
theorem weights (c : Dev nD) (t : Fin cfg0.N) (y : S8192x5632.Idx) (q : Fin 512) (h : (y 1).val = t.val % 11 * 512 + q.val) (k : Fin 1024) :
    iblk m c 1 t (ix3 0 k q) = m ((c : Thread nD τ).loc main_arg1) (ix3 0 k (y 1)) := by
  show V m c main_arg1 (((cfg0.win 1).blk t).view.emb (ix3 0 k q)) = _
  rw [V_main_arg1]
  refine congrArg (m ((c : Thread nD τ).loc main_arg1)) (funext fun a => Fin.ext ?_)
  have e := place t
  match a with
  | 0 => show win0_1.index t 0 * 1 + 1 * 0 = 0; rw [e]; simp
  | 1 => show win0_1.index t 1 * 1024 + 1 * k.val = k.val; rw [e]; simp
  | 2 => show win0_1.index t 2 * 512 + 1 * q.val = (y 1).val; rw [e, h]; simp

/-- What a point writes is its block of the product. -/
theorem wrote (c : Dev nD) (t : Fin cfg0.N) :
    (dats m 0 c).flushed 2 t = ((cfg0.win 2).blk t).view.read (Elt Ideal) (Cert.UpIdeal.Product.product 0 (m ((c : Thread nD τ).loc main_arg0)) (m ((c : Thread nD τ).loc main_arg1))) :=
  (Value.flushed2 m c t).trans (Cert.UpIdeal.Product.block 0 _ _ t _ _ (Cert.UpIdeal.Product.rows m c t) (weights m c t))

/-- The reference's result is the product. -/
theorem reference (a : Vec Ideal S8192x1024 .bf16) (w : Vec Ideal S2x1024x5632 .bf16) :
    truncf .bf16 (Host.dotGeneral (F := Ideal) Cert.UpFirstReferenceIdeal.dot_S8192x1024_S1024x5632_S8192x5632_1_0_0_1_n_n none (extf .f32 a Cert.UpFirstReferenceIdeal.Facts₀.bitsLt_bf16_f32)
      (extf .f32 (shapeCast _ (extractStridedSlice _ ![0, 0, 0] w Cert.UpFirstReferenceIdeal.Facts₀.slices_S2x1024x5632_S1x1024x5632_0_0_0) Cert.UpFirstReferenceIdeal.Facts₀.shapeCasts_S1x1024x5632_S1024x5632) Cert.UpFirstReferenceIdeal.Facts₀.bitsLt_bf16_f32)) Cert.UpFirstReferenceIdeal.Facts₀.bitsLt_bf16_f32
      = Cert.UpIdeal.Product.product 0 a w := by
  funext y
  pointwise [Cert.UpIdeal.Product.product]

/-- Kernel and reference compute the same product. -/
theorem same : Cert.algebraic_UpFirstIdeal_UpFirstReferenceIdeal := by
  intro m g m' g' _ hm
  refine ⟨fun c => Cert.UpIdeal.Product.product 0 (m ((c : Thread nD τ).loc main_arg0)) (m ((c : Thread nD τ).loc main_arg1)), ?_, ?_⟩
  · exact (θ_run _ _ _).mono (fun r h c => ⟨(h c).1.trans ((dats m 0 c).arrAt_eq_of_cover 2 _ (fun t _ => wrote m c t) Cert.UpIdeal.Product.covered), (h c).2⟩) (Value.run_blocks m g)
  · refine (θ_run _ _ _).mono (fun r h c => ⟨(h c).1.trans ?_, (h c).2⟩) (Cert.UpFirstReferenceIdeal.Value.run m' g')
    rw [(hm c).1, (hm c).2]
    exact reference _ _

end Cert.UpFirstIdeal.Product

end
-- ==== Proof.DownFirstProduct.lean ====
/- The first layer's call of what `DownProduct` has of the second layer: the blocks of the weights lie elsewhere, the rest is as there. -/
module

public import proofs.«01_k».proof.Defs
public import proofs.«01_k».proof.Proof.Gen.DownFirstIdeal.Value
public import proofs.«01_k».proof.Proof.Gen.DownFirstReferenceIdeal.Run
public import proofs.«01_k».proof.Proof.DownProduct
public import Idealize.ShloMosaic.Lib.Pointwise

@[expose] public section

set_option maxRecDepth 16384

noncomputable section

namespace Cert.DownFirstIdeal.Product

open Cert.DownFirstIdeal Cert.DownFirstIdeal.Gen Cert.Products Idealize.ShloMosaic Idealize.ShloMosaic.TcCoe Idealize.SL.Sem

variable (m : (ℓ : Loc nD τ sig) → Buf (Elt Ideal) ℓ)

/-- Where a point's block of the weights lies. -/
theorem place : ∀ t : Fin cfg0.N, win0_1.index t = ![0, 0, 0] :=
  (by decide +kernel : ∀ t : Fin grid0.N, _)

/-- A point's block of the first layer's weights. -/
theorem weights (c : Dev nD) (t : Fin cfg0.N) (y : S8192x1024.Idx) (q : Fin 1024) (h : (y 1).val = 0 * 1024 + q.val) (k : Fin 2816) :
    iblk m c 1 t (ix3 0 k q) = m ((c : Thread nD τ).loc main_arg1) (ix3 0 k (y 1)) := by
  show V m c main_arg1 (((cfg0.win 1).blk t).view.emb (ix3 0 k q)) = _
  rw [V_main_arg1]
  refine congrArg (m ((c : Thread nD τ).loc main_arg1)) (funext fun a => Fin.ext ?_)
  have e := place t
  match a with
  | 0 => show win0_1.index t 0 * 1 + 1 * 0 = 0; rw [e]; simp
  | 1 => show win0_1.index t 1 * 2816 + 1 * k.val = k.val; rw [e]; simp
  | 2 => show win0_1.index t 2 * 1024 + 1 * q.val = (y 1).val; rw [e, h]; simp

/-- What a point writes is its block of the product. -/
theorem wrote (c : Dev nD) (t : Fin cfg0.N) :
    (dats m 0 c).flushed 2 t = ((cfg0.win 2).blk t).view.read (Elt Ideal) (Cert.DownIdeal.Product.product 0 (m ((c : Thread nD τ).loc main_arg0)) (m ((c : Thread nD τ).loc main_arg1))) :=
  (Value.flushed2 m c t).trans (Cert.DownIdeal.Product.block 0 _ _ t _ _ (Cert.DownIdeal.Product.rows m c t) (weights m c t))

/-- The reference's result is the product. -/
theorem reference (a : Vec Ideal S8192x2816 .bf16) (w : Vec Ideal S2x2816x1024 .bf16) :
    Host.dotGeneral (F := Ideal) Cert.DownFirstReferenceIdeal.dot_S8192x2816_S2816x1024_S8192x1024_1_0_0_1_n_n none (extf .f32 a Cert.DownFirstReferenceIdeal.Facts₀.bitsLt_bf16_f32)
      (extf .f32 (shapeCast _ (extractStridedSlice _ ![0, 0, 0] w Cert.DownFirstReferenceIdeal.Facts₀.slices_S2x2816x1024_S1x2816x1024_0_0_0) Cert.DownFirstReferenceIdeal.Facts₀.shapeCasts_S1x2816x1024_S2816x1024) Cert.DownFirstReferenceIdeal.Facts₀.bitsLt_bf16_f32)
      = Cert.DownIdeal.Product.product 0 a w := by
  funext y
  pointwise [Cert.DownIdeal.Product.product]

/-- Kernel and reference compute the same product. -/
theorem same : Cert.algebraic_DownFirstIdeal_DownFirstReferenceIdeal := by
  intro m g m' g' _ hm
  refine ⟨fun c => Cert.DownIdeal.Product.product 0 (m ((c : Thread nD τ).loc main_arg0)) (m ((c : Thread nD τ).loc main_arg1)), ?_, ?_⟩
  · exact (θ_run _ _ _).mono (fun r h c => ⟨(h c).1.trans ((dats m 0 c).arrAt_eq_of_cover 2 _ (fun t _ => wrote m c t) Cert.DownIdeal.Product.covered), (h c).2⟩) (Value.run_blocks m g)
  · refine (θ_run _ _ _).mono (fun r h c => ⟨(h c).1.trans ?_, (h c).2⟩) (Cert.DownFirstReferenceIdeal.Value.run m' g')
    rw [(hm c).1, (hm c).2]
    exact reference _ _

end Cert.DownFirstIdeal.Product

end
-- ==== Proof.InFirstProduct.lean ====
/- The first layer's call of what `InProduct` has of the second layer: the blocks of the weights lie elsewhere, the rest is as there. -/
module

public import proofs.«01_k».proof.Defs
public import proofs.«01_k».proof.Proof.Gen.InFirstIdeal.Value
public import proofs.«01_k».proof.Proof.Gen.InFirstReferenceIdeal.Run
public import proofs.«01_k».proof.Proof.InProduct
public import Idealize.ShloMosaic.Lib.Pointwise

@[expose] public section

set_option maxRecDepth 16384

noncomputable section

namespace Cert.InFirstIdeal.Product

open Cert.InFirstIdeal Cert.InFirstIdeal.Gen Cert.Products Idealize.ShloMosaic Idealize.ShloMosaic.TcCoe Idealize.SL.Sem

variable (m : (ℓ : Loc nD τ sig) → Buf (Elt Ideal) ℓ)

/-- Where a point's block of the weights lies. -/
theorem place : ∀ t : Fin cfg0.N, win0_1.index t = ![0, 0, t.val % 3] :=
  (by decide +kernel : ∀ t : Fin grid0.N, _)

/-- A point's block of the first layer's weights. -/
theorem weights (c : Dev nD) (t : Fin cfg0.N) (y : S8192x3456.Idx) (q : Fin 1152) (h : (y 1).val = t.val % 3 * 1152 + q.val) (k : Fin 1024) :
    iblk m c 1 t (ix3 0 k q) = m ((c : Thread nD τ).loc main_arg1) (ix3 0 k (y 1)) := by
  show V m c main_arg1 (((cfg0.win 1).blk t).view.emb (ix3 0 k q)) = _
  rw [V_main_arg1]
  refine congrArg (m ((c : Thread nD τ).loc main_arg1)) (funext fun a => Fin.ext ?_)
  have e := place t
  match a with
  | 0 => show win0_1.index t 0 * 1 + 1 * 0 = 0; rw [e]; simp
  | 1 => show win0_1.index t 1 * 1024 + 1 * k.val = k.val; rw [e]; simp
  | 2 => show win0_1.index t 2 * 1152 + 1 * q.val = (y 1).val; rw [e, h]; simp

/-- What a point writes is its block of the product. -/
theorem wrote (c : Dev nD) (t : Fin cfg0.N) :
    (dats m 0 c).flushed 2 t = ((cfg0.win 2).blk t).view.read (Elt Ideal) (Cert.InIdeal.Product.product 0 (m ((c : Thread nD τ).loc main_arg0)) (m ((c : Thread nD τ).loc main_arg1))) :=
  (Value.flushed2 m c t).trans (Cert.InIdeal.Product.block 0 _ _ t _ _ (Cert.InIdeal.Product.rows m c t) (weights m c t))

/-- The reference's result is the product. -/
theorem reference (a : Vec Ideal S8192x1024 .bf16) (w : Vec Ideal S2x1024x3456 .bf16) :
    Host.dotGeneral (F := Ideal) Cert.InFirstReferenceIdeal.dot_S8192x1024_S1024x3456_S8192x3456_1_0_0_1_n_n none (extf .f32 a Cert.InFirstReferenceIdeal.Facts₀.bitsLt_bf16_f32)
      (extf .f32 (shapeCast _ (extractStridedSlice _ ![0, 0, 0] w Cert.InFirstReferenceIdeal.Facts₀.slices_S2x1024x3456_S1x1024x3456_0_0_0) Cert.InFirstReferenceIdeal.Facts₀.shapeCasts_S1x1024x3456_S1024x3456) Cert.InFirstReferenceIdeal.Facts₀.bitsLt_bf16_f32)
      = Cert.InIdeal.Product.product 0 a w := by
  funext y
  pointwise [Cert.InIdeal.Product.product]

/-- Kernel and reference compute the same product. -/
theorem same : Cert.algebraic_InFirstIdeal_InFirstReferenceIdeal := by
  intro m g m' g' _ hm
  refine ⟨fun c => Cert.InIdeal.Product.product 0 (m ((c : Thread nD τ).loc main_arg0)) (m ((c : Thread nD τ).loc main_arg1)), ?_, ?_⟩
  · exact (θ_run _ _ _).mono (fun r h c => ⟨(h c).1.trans ((dats m 0 c).arrAt_eq_of_cover 2 _ (fun t _ => wrote m c t) Cert.InIdeal.Product.covered), (h c).2⟩) (Value.run_blocks m g)
  · refine (θ_run _ _ _).mono (fun r h c => ⟨(h c).1.trans ?_, (h c).2⟩) (Cert.InFirstReferenceIdeal.Value.run m' g')
    rw [(hm c).1, (hm c).2]
    exact reference _ _

end Cert.InFirstIdeal.Product

end
-- ==== Proof.OutFirstProduct.lean ====
/- The first layer's call of what `OutProduct` has of the second layer: the blocks of the weights lie elsewhere, the rest is as there. -/
module

public import proofs.«01_k».proof.Defs
public import proofs.«01_k».proof.Proof.Gen.OutFirstIdeal.Value
public import proofs.«01_k».proof.Proof.Gen.OutFirstReferenceIdeal.Run
public import proofs.«01_k».proof.Proof.OutProduct
public import Idealize.ShloMosaic.Lib.Pointwise

@[expose] public section

set_option maxRecDepth 16384

noncomputable section

namespace Cert.OutFirstIdeal.Product

open Cert.OutFirstIdeal Cert.OutFirstIdeal.Gen Cert.Products Idealize.ShloMosaic Idealize.ShloMosaic.TcCoe Idealize.SL.Sem

variable (m : (ℓ : Loc nD τ sig) → Buf (Elt Ideal) ℓ)

/-- Where a point's block of the weights lies. -/
theorem place : ∀ t : Fin cfg0.N, win0_1.index t = ![0, 0, 0] :=
  (by decide +kernel : ∀ t : Fin grid0.N, _)

/-- A point's block of the first layer's weights. -/
theorem weights (c : Dev nD) (t : Fin cfg0.N) (y : S8192x1024.Idx) (q : Fin 1024) (h : (y 1).val = 0 * 1024 + q.val) (k : Fin 2048) :
    iblk m c 1 t (ix3 0 k q) = m ((c : Thread nD τ).loc main_arg1) (ix3 0 k (y 1)) := by
  show V m c main_arg1 (((cfg0.win 1).blk t).view.emb (ix3 0 k q)) = _
  rw [V_main_arg1]
  refine congrArg (m ((c : Thread nD τ).loc main_arg1)) (funext fun a => Fin.ext ?_)
  have e := place t
  match a with
  | 0 => show win0_1.index t 0 * 1 + 1 * 0 = 0; rw [e]; simp
  | 1 => show win0_1.index t 1 * 2048 + 1 * k.val = k.val; rw [e]; simp
  | 2 => show win0_1.index t 2 * 1024 + 1 * q.val = (y 1).val; rw [e, h]; simp

/-- What a point writes is its block of the product. -/
theorem wrote (c : Dev nD) (t : Fin cfg0.N) :
    (dats m 0 c).flushed 2 t = ((cfg0.win 2).blk t).view.read (Elt Ideal) (Cert.OutIdeal.Product.product 0 (m ((c : Thread nD τ).loc main_arg0)) (m ((c : Thread nD τ).loc main_arg1))) :=
  (Value.flushed2 m c t).trans (Cert.OutIdeal.Product.block 0 _ _ t _ _ (Cert.OutIdeal.Product.rows m c t) (weights m c t))

/-- The reference's result is the product. -/
theorem reference (a : Vec Ideal S8192x2048 .bf16) (w : Vec Ideal S2x2048x1024 .bf16) :
    Host.dotGeneral (F := Ideal) Cert.OutFirstReferenceIdeal.dot_S8192x2048_S2048x1024_S8192x1024_1_0_0_1_n_n none (extf .f32 a Cert.OutFirstReferenceIdeal.Facts₀.bitsLt_bf16_f32)
      (extf .f32 (shapeCast _ (extractStridedSlice _ ![0, 0, 0] w Cert.OutFirstReferenceIdeal.Facts₀.slices_S2x2048x1024_S1x2048x1024_0_0_0) Cert.OutFirstReferenceIdeal.Facts₀.shapeCasts_S1x2048x1024_S2048x1024) Cert.OutFirstReferenceIdeal.Facts₀.bitsLt_bf16_f32)
      = Cert.OutIdeal.Product.product 0 a w := by
  funext y
  pointwise [Cert.OutIdeal.Product.product]

/-- Kernel and reference compute the same product. -/
theorem same : Cert.algebraic_OutFirstIdeal_OutFirstReferenceIdeal := by
  intro m g m' g' _ hm
  refine ⟨fun c => Cert.OutIdeal.Product.product 0 (m ((c : Thread nD τ).loc main_arg0)) (m ((c : Thread nD τ).loc main_arg1)), ?_, ?_⟩
  · exact (θ_run _ _ _).mono (fun r h c => ⟨(h c).1.trans ((dats m 0 c).arrAt_eq_of_cover 2 _ (fun t _ => wrote m c t) Cert.OutIdeal.Product.covered), (h c).2⟩) (Value.run_blocks m g)
  · refine (θ_run _ _ _).mono (fun r h c => ⟨(h c).1.trans ?_, (h c).2⟩) (Cert.OutFirstReferenceIdeal.Value.run m' g')
    rw [(hm c).1, (hm c).2]
    exact reference _ _

end Cert.OutFirstIdeal.Product

end
-- ==== Proof.UpWeightProduct.lean ====
/- The gradient of half of the weights of the feed-forward part's first product: the blocks that the grid's points write are the blocks of one product. -/
module

public import proofs.«01_k».proof.Defs
public import proofs.«01_k».proof.Proof.Gen.UpWeightIdeal.Value
public import proofs.«01_k».proof.Proof.Gen.UpWeightReferenceIdeal.Run
public import proofs.«01_k».proof.Proof.Zeros
public import Idealize.ShloMosaic.Lib.Pointwise

@[expose] public section

set_option maxRecDepth 16384

noncomputable section

namespace Cert.UpWeightIdeal.Product

open Cert.UpWeightIdeal Cert.UpWeightIdeal.Gen Cert.Products Idealize.ShloMosaic Idealize.ShloMosaic.TcCoe Idealize.SL.Sem

variable (m : (ℓ : Loc nD τ sig) → Buf (Elt Ideal) ℓ)

/-- The products of the rows' columns with the gradient's columns. -/
def product (a : S8192x1024.Idx → EReal) (w : S8192x2816.Idx → EReal) : S1024x2816.Idx → EReal := fun y =>
  ∑ k : Fin 8192, a (ix2 k (y 0)) * w (ix2 k (y 1))

/-- Where a point's blocks lie. -/
theorem places : ∀ t : Fin cfg0.N, win0_2.index t = ![t.val / 11, t.val % 11] ∧ win0_0.index t = ![0, t.val / 11] ∧ win0_1.index t = ![0, t.val % 11] :=
  (by decide +kernel : ∀ t : Fin grid0.N, _)

/-- What a point leaves in its block: the product of its two blocks. -/
theorem left (x0 : Vec Ideal S8192x512 .bf16) (x1 : Vec Ideal S8192x256 .bf16) (p : Fin 512) (q : Fin 256) :
    out0_2 x0 x1 (ix2 p q) = ∑ k : Fin 8192, x0 (ix2 k p) * x1 (ix2 k q) := by
  unfold out0_2
  rw [View.canon_unit_zero zero2, View.ld_unit_zero zero2, View.ld_unit_zero zero2]
  pointwise [k0_pay1]

/-- A point's block of the rows' columns. -/
theorem rows (c : Dev nD) (t : Fin cfg0.N) (y : S1024x2816.Idx) (p : Fin 512) (h : (y 0).val = t.val / 11 * 512 + p.val) (k : Fin 8192) :
    iblk m c 0 t (ix2 k p) = m ((c : Thread nD τ).loc main_arg0) (ix2 k (y 0)) := by
  show V m c main_arg0 (((cfg0.win 0).blk t).view.emb (ix2 k p)) = _
  rw [V_main_arg0]
  refine congrArg (m ((c : Thread nD τ).loc main_arg0)) (funext fun a => Fin.ext ?_)
  have e := (places t).2.1
  match a with
  | 0 => show win0_0.index t 0 * 8192 + 1 * k.val = k.val; rw [e]; simp
  | 1 => show win0_0.index t 1 * 512 + 1 * p.val = (y 0).val; rw [e, h]; simp

/-- A point's block of the gradient's columns. -/
theorem weights (c : Dev nD) (t : Fin cfg0.N) (y : S1024x2816.Idx) (q : Fin 256) (h : (y 1).val = t.val % 11 * 256 + q.val) (k : Fin 8192) :
    iblk m c 1 t (ix2 k q) = m ((c : Thread nD τ).loc main_arg1) (ix2 k (y 1)) := by
  show V m c main_arg1 (((cfg0.win 1).blk t).view.emb (ix2 k q)) = _
  rw [V_main_arg1]
  refine congrArg (m ((c : Thread nD τ).loc main_arg1)) (funext fun a => Fin.ext ?_)
  have e := (places t).2.2
  match a with
  | 0 => show win0_1.index t 0 * 8192 + 1 * k.val = k.val; rw [e]; simp
  | 1 => show win0_1.index t 1 * 256 + 1 * q.val = (y 1).val; rw [e, h]; simp

/-- What a point writes is its block of the product. -/
theorem wrote (c : Dev nD) (t : Fin cfg0.N) :
    (dats m 0 c).flushed 2 t = ((cfg0.win 2).blk t).view.read (Elt Ideal) (product (m ((c : Thread nD τ).loc main_arg0)) (m ((c : Thread nD τ).loc main_arg1))) := by
  rw [Value.flushed2]
  funext (y : S512x256.Idx)
  have e := (places t).1
  have h0 : ((((cfg0.win 2).blk t).view.emb y) 0).val = t.val / 11 * 512 + (y 0).val := by
    show win0_2.index t 0 * 512 + 1 * (y 0).val = _; rw [e]; simp
  have h1 : ((((cfg0.win 2).blk t).view.emb y) 1).val = t.val % 11 * 256 + (y 1).val := by
    show win0_2.index t 1 * 256 + 1 * (y 1).val = _; rw [e]; simp
  have hy : (cfg0.win 2).cut (grid0.coords t) (out0_2 (iblk m c 0 t) (iblk m c 1 t)) y = out0_2 (iblk m c 0 t) (iblk m c 1 t) (ix2 (y 0) (y 1)) :=
    congrArg (out0_2 (iblk m c 0 t) (iblk m c 1 t)) (funext fun a => by match a with | 0 => rfl | 1 => rfl)
  exact hy.trans ((left _ _ _ _).trans (Finset.sum_congr rfl fun k _ => congrArg₂ (fun x w : EReal => x * w) (rows m c t _ (y 0) h0 k) (weights m c t _ (y 1) h1 k)))

/-- The blocks cover the result. -/
theorem covered (y : S1024x2816.Idx) : ∃ t : Fin cfg0.N, (cfg0.win 2).flush t = true ∧ y ∈ ((cfg0.win 2).blk t).view.set := by
  have b0 : (y 0).val < 1024 := (y 0).isLt
  have b1 : (y 1).val < 2816 := (y 1).isLt
  have ht : (y 0).val / 512 * 11 + (y 1).val / 256 < cfg0.N := lt_of_lt_of_eq (by omega) N_0.symm
  refine ⟨⟨_, ht⟩, flush0_2 _, ?_⟩
  show y ∈ ((View.whole main_v0).slice (win0_2.rect ⟨_, ht⟩)).set
  rw [View.set_slice_whole, Rect.mem_set_unit]
  have e := (places ⟨_, ht⟩).1
  intro a
  match a with
  | 0 =>
    show win0_2.index ⟨_, ht⟩ 0 * 512 ≤ (y 0).val ∧ (y 0).val < win0_2.index ⟨_, ht⟩ 0 * 512 + 512
    rw [e]
    show ((y 0).val / 512 * 11 + (y 1).val / 256) / 11 * 512 ≤ (y 0).val ∧ (y 0).val < ((y 0).val / 512 * 11 + (y 1).val / 256) / 11 * 512 + 512
    omega
  | 1 =>
    show win0_2.index ⟨_, ht⟩ 1 * 256 ≤ (y 1).val ∧ (y 1).val < win0_2.index ⟨_, ht⟩ 1 * 256 + 256
    rw [e]
    show ((y 0).val / 512 * 11 + (y 1).val / 256) % 11 * 256 ≤ (y 1).val ∧ (y 1).val < ((y 0).val / 512 * 11 + (y 1).val / 256) % 11 * 256 + 256
    omega

/-- The reference's result is the product. -/
theorem reference (a : Vec Ideal S8192x1024 .bf16) (w : Vec Ideal S8192x2816 .bf16) :
    truncf .bf16 (transpose S1024x2816 [1, 0] (Host.dotGeneral (F := Ideal) Cert.UpWeightReferenceIdeal.dot_S8192x2816_S8192x1024_S2816x1024_0_0_1_1_n_n none (extf .f32 w Cert.UpWeightReferenceIdeal.Facts₀.bitsLt_bf16_f32) (extf .f32 a Cert.UpWeightReferenceIdeal.Facts₀.bitsLt_bf16_f32)) Cert.UpWeightReferenceIdeal.Facts₀.transposes_S2816x1024_S1024x2816_1_0) Cert.UpWeightReferenceIdeal.Facts₀.bitsLt_bf16_f32
      = product a w := by
  funext y
  pointwise [product]
  exact Finset.sum_congr rfl fun _ _ => mul_comm _ _

/-- Kernel and reference compute the same product. -/
theorem same : Cert.algebraic_UpWeightIdeal_UpWeightReferenceIdeal := by
  intro m g m' g' _ hm
  refine ⟨fun c => product (m ((c : Thread nD τ).loc main_arg0)) (m ((c : Thread nD τ).loc main_arg1)), ?_, ?_⟩
  · exact (θ_run _ _ _).mono (fun r h c => ⟨(h c).1.trans ((dats m 0 c).arrAt_eq_of_cover 2 _ (fun t _ => wrote m c t) covered), (h c).2⟩) (Value.run_blocks m g)
  · refine (θ_run _ _ _).mono (fun r h c => ⟨(h c).1.trans ?_, (h c).2⟩) (Cert.UpWeightReferenceIdeal.Value.run m' g')
    rw [(hm c).1, (hm c).2]
    exact reference _ _

end Cert.UpWeightIdeal.Product

end
-- ==== Proof.DownWeightProduct.lean ====
/- The gradient of the weights of the feed-forward part's last product: eight points add the products of their eight blocks of rows in a
   scratch, the last of them writes the sum, and the sums of the eight blocks are the sum over all the rows. -/
module

public import proofs.«01_k».proof.Defs
public import proofs.«01_k».proof.Proof.Gen.DownWeightIdeal.Frame
public import proofs.«01_k».proof.Proof.Gen.DownWeightReferenceIdeal.Run
public import proofs.«01_k».proof.Proof.Zeros
public import Idealize.ShloMosaic.Lib.Pointwise
public import Idealize.ShloMosaic.Lib.Pipeline.Value
public import Idealize.ShloMosaic.Lib.Pipeline.ValueKit.Acc
public import Idealize.ShloMosaic.Lib.Tactic

@[expose] public section

set_option maxRecDepth 16384

noncomputable section

namespace Cert.DownWeightIdeal.Product

open Cert.DownWeightIdeal Cert.DownWeightIdeal.Gen Cert.Products Idealize.ShloMosaic Idealize.ShloMosaic.TcCoe Idealize.SL.Sem

variable (m : (ℓ : Loc nD τ sig) → Buf (Elt Ideal) ℓ)

/-- The products of the rows' columns with the gradient's columns. -/
def product (a : S8192x2816.Idx → EReal) (w : S8192x1024.Idx → EReal) : S2816x1024.Idx → EReal := fun y =>
  ∑ k : Fin 8192, a (ix2 k (y 0)) * w (ix2 k (y 1))

/-- Where a point's blocks lie. -/
theorem places : ∀ t : Fin cfg0.N, win0_2.index t = ![t.val / 8, 0] ∧ win0_0.index t = ![t.val % 8, t.val / 8] ∧ win0_1.index t = ![t.val % 8, 0] :=
  (by decide +kernel : ∀ t : Fin grid0.N, _)

/-- What a point writes back is what it left in the result's block. -/
theorem flushed (c : Dev nD) (t : Fin cfg0.N) :
    (dats m 0 c).flushed 2 t = (cfg0.win 2).cut (grid0.coords t) ((outsAt0 m c t.val t.isLt).1) := by
  show (cfg0.win 2).cut (grid0.coords t) ((dats m 0 c).after 2 t) = _
  rw [after0_2]

/-- After the run the result is what the points wrote, and the arguments are as they were. -/
theorem ran (g : Dev nD → PrngReg) : θ_run defs (onTc (τ := τ) (main (F := Ideal))) ⟨m, fun _ => 0, g⟩ fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m g)

section Cases

variable (c : Dev nD) (i : grid0.Coords) (a0 : Memref sig .tc .vmem S1024x1408 .bf16) (h0 : a0.IsWhole) (a1 : Memref sig .tc .vmem S1024x1024 .bf16) (h1 : a1.IsWhole)
  (a2 : Memref sig .tc .vmem S1408x1024 .bf16) (h2 : a2.IsWhole) (a3 : Memref sig .tc .vmem S1408x1024 .f32) (h3 : a3.IsWhole)
  (x0 : Vec Ideal S1024x1408 .bf16) (x1 : Vec Ideal S1024x1024 .bf16) (xs : Vec Ideal S1408x1024 .f32)

/-- What the first of eight points leaves in the scratch. -/
theorem first (hc0 : cond0_0 i) (hc1 : ¬cond0_1 i) (hc2 : ¬cond0_2 i) :
    sout0_A_0 c i a0 h0 a1 h1 a2 h2 a3 h3 hc0 hc1 hc2 x0 x1 = k0_pay1 x0 x1 := by
  unfold sout0_A_0
  rw [View.read_writes_eq_canon _ _ _ (scover0_A_0 c i a0 h0 a1 h1 a2 h2 a3 h3 hc0 hc1 hc2 x0 x1)]
  unfold kernelRun0_A
  dsimp only
  rw [View.canon_unit_zero zero2]
  simp only [View.readAt_eq_ld, h0.read_unread, h1.read_unread, View.ld_unit_zero (S := S1024x1408) zero2, View.ld_unit_zero (S := S1024x1024) zero2]

/-- What the next ones leave there. -/
theorem next (hc0 : ¬cond0_0 i) (hc1 : cond0_1 i) (hc2 : ¬cond0_2 i) :
    sout0_B_0 c i a0 h0 a1 h1 a2 h2 a3 h3 hc0 hc1 hc2 x0 x1 xs = k0_pay2 xs x0 x1 := by
  unfold sout0_B_0
  rw [View.read_writes_eq_canon _ _ _ (scover0_B_0 c i a0 h0 a1 h1 a2 h2 a3 h3 hc0 hc1 hc2 x0 x1 xs)]
  unfold kernelRun0_B
  dsimp only
  rw [View.canon_unit_zero zero2]
  simp only [View.readAt_eq_ld, h0.read_unread, h1.read_unread, h3.read_unread, View.ld_unit_zero (S := S1024x1408) zero2, View.ld_unit_zero (S := S1024x1024) zero2,
    View.ld_unit_zero (S := S1408x1024) zero2]

/-- What the last one leaves there. -/
theorem last (hc0 : ¬cond0_0 i) (hc1 : cond0_1 i) (hc2 : cond0_2 i) :
    sout0_C_0 c i a0 h0 a1 h1 a2 h2 a3 h3 hc0 hc1 hc2 x0 x1 xs = k0_pay2 xs x0 x1 := by
  unfold sout0_C_0
  rw [View.read_writes_eq_canon _ _ _ (scover0_C_0 c i a0 h0 a1 h1 a2 h2 a3 h3 hc0 hc1 hc2 x0 x1 xs)]
  unfold kernelRun0_C
  dsimp only
  sl_unfold_words
  rw [View.canon_unit_zero zero2]
  simp only [View.readAt_eq_ld, h0.read_unread, h1.read_unread, h3.read_unread, View.ld_unit_zero (S := S1024x1408) zero2, View.ld_unit_zero (S := S1024x1024) zero2,
    View.ld_unit_zero (S := S1408x1024) zero2]

/-- What the last one leaves in the result's block: what is then in the scratch. -/
theorem written (hc0 : ¬cond0_0 i) (hc1 : cond0_1 i) (hc2 : cond0_2 i) :
    out0_C_2 c i a0 h0 a1 h1 a2 h2 a3 h3 hc0 hc1 hc2 x0 x1 xs = k0_pay3 (k0_pay2 xs x0 x1) := by
  unfold out0_C_2
  rw [View.read_writes_eq_canon _ _ _ (cover0_C_2 c i a0 h0 a1 h1 a2 h2 a3 h3 hc0 hc1 hc2 x0 x1 xs)]
  unfold kernelRun0_C
  dsimp only
  sl_unfold_words
  rw [View.canon_unit_zero zero2, View.readCov_unit_zero (S := S1408x1024) _ zero2]
  simp only [View.readAt_eq_ld, h0.read_unread, h1.read_unread, h3.read_unread, View.ld_unit_zero (S := S1024x1408) zero2, View.ld_unit_zero (S := S1024x1024) zero2,
    View.ld_unit_zero (S := S1408x1024) zero2]

end Cases

/-- The product of a point's blocks. -/
def term (c : Dev nD) (t : Fin cfg0.N) (i : S1408x1024.Idx) : EReal := ∑ k : Fin 1024, HMul.hMul (α := EReal) (β := EReal) (iblk m c 0 t (ix2 k (i 0))) (iblk m c 1 t (ix2 k (i 1)))

theorem pay1 (x0 : Vec Ideal S1024x1408 .bf16) (x1 : Vec Ideal S1024x1024 .bf16) (i : S1408x1024.Idx) :
    k0_pay1 x0 x1 i = 0 + ∑ k : Fin 1024, x0 (ix2 k (i 0)) * x1 (ix2 k (i 1)) := by
  pointwise [k0_pay1]

theorem pay2 (xs : Vec Ideal S1408x1024 .f32) (x0 : Vec Ideal S1024x1408 .bf16) (x1 : Vec Ideal S1024x1024 .bf16) (i : S1408x1024.Idx) :
    k0_pay2 xs x0 x1 i = xs i + ∑ k : Fin 1024, x0 (ix2 k (i 0)) * x1 (ix2 k (i 1)) := by
  pointwise [k0_pay2]

/-- What the first of eight points leaves in the scratch, -/
theorem scratch0 (c : Dev nD) (t : Fin cfg0.N) (h : t.val % 8 = 0) : (outsAt0 m c t.val t.isLt).2 = k0_pay1 (iblk m c 0 t) (iblk m c 1 t) := by
  rw [outsAt0_A m c t h (by omega) (by omega), first]

/-- and the other ones. -/
theorem scratch1 (c : Dev nD) (t : Fin cfg0.N) (h : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h2 : t.val % 8 = 7
  · rw [outsAt0_C m c t h (by omega) h2, last]
  · rw [outsAt0_B m c t h (by omega) h2, next]

/-- What the last one leaves in the result's block. -/
theorem result (c : Dev nD) (t : Fin cfg0.N) (h : t.val % 8 = 7) : (outsAt0 m c t.val t.isLt).1 = k0_pay3 (outsAt0 m c t.val t.isLt).2 := by
  rw [scratch1 m c t (by omega), outsAt0_C m c t (by omega) (by omega) h, written]

theorem pay3 (xs : Vec Ideal S1408x1024 .f32) (i : S1408x1024.Idx) : k0_pay3 xs i = xs i := by
  pointwise [k0_pay3]

/-- What is in the scratch after the last of eight points: the sum of their products. -/
theorem scratch (c : Dev nD) (t : Fin cfg0.N) (h : t.val % 8 = 8 - 1) (i : S1408x1024.Idx) :
    (outsAt0 m c t.val t.isLt).2 i = 0 + ∑ s : Fin 8, term m c ⟨8 * (t.val / 8) + s.val, Pipeline.run_point_lt_of_flush t h s⟩ i :=
  Pipeline.eq_sum_fin_of_reset_step_apply_of_flush (fun n hn => (outsAt0 m c n hn).2) 8 (fun _ => (0 : EReal)) (term m c)
    (fun t h0 i => (congrFun (scratch0 m c t h0) i).trans (pay1 _ _ i)) (fun t h0 i => (congrFun (scratch1 m c t h0) i).trans (pay2 _ _ _ i)) t h i

/-- A point's block of the rows. -/
theorem rows (c : Dev nD) (t : Fin cfg0.N) (y : S2816x1024.Idx) (p : Fin 1408) (h : (y 0).val = t.val / 8 * 1408 + p.val) (k : Fin 1024)
    (k' : Fin 8192) (hk : k'.val = t.val % 8 * 1024 + k.val) : iblk m c 0 t (ix2 k p) = m ((c : Thread nD τ).loc main_arg0) (ix2 k' (y 0)) := by
  show V m c main_arg0 (((cfg0.win 0).blk t).view.emb (ix2 k p)) = _
  rw [V_main_arg0]
  refine congrArg (m ((c : Thread nD τ).loc main_arg0)) (funext fun a => Fin.ext ?_)
  have e := (places t).2.1
  match a with
  | 0 => show win0_0.index t 0 * 1024 + 1 * k.val = k'.val; rw [e, hk]; simp
  | 1 => show win0_0.index t 1 * 1408 + 1 * p.val = (y 0).val; rw [e, h]; simp

/-- A point's block of the gradient's rows. -/
theorem weights (c : Dev nD) (t : Fin cfg0.N) (q : Fin 1024) (k : Fin 1024) (k' : Fin 8192) (hk : k'.val = t.val % 8 * 1024 + k.val) :
    iblk m c 1 t (ix2 k q) = m ((c : Thread nD τ).loc main_arg1) (ix2 k' q) := by
  show V m c main_arg1 (((cfg0.win 1).blk t).view.emb (ix2 k q)) = _
  rw [V_main_arg1]
  refine congrArg (m ((c : Thread nD τ).loc main_arg1)) (funext fun a => Fin.ext ?_)
  have e := (places t).2.2
  match a with
  | 0 => show win0_1.index t 0 * 1024 + 1 * k.val = k'.val; rw [e, hk]; simp
  | 1 => show win0_1.index t 1 * 1024 + 1 * q.val = q.val; rw [e]; simp

/-- What the last of eight points writes is its block of the product. -/
theorem wrote (c : Dev nD) (t : Fin cfg0.N) (ht : (cfg0.win 2).flush t = true) :
    (dats m 0 c).flushed 2 t = ((cfg0.win 2).blk t).view.read (Elt Ideal) (product (m ((c : Thread nD τ).loc main_arg0)) (m ((c : Thread nD τ).loc main_arg1))) := by
  have h := (flush0_2 t).mp ht
  rw [flushed]
  funext (y : S1408x1024.Idx)
  have e := (places t).1
  have h0 : ((((cfg0.win 2).blk t).view.emb y) 0).val = t.val / 8 * 1408 + (y 0).val := by
    show win0_2.index t 0 * 1408 + 1 * (y 0).val = _; rw [e]; simp
  have h1 : ((((cfg0.win 2).blk t).view.emb y) 1) = y 1 := Fin.ext (by
    show win0_2.index t 1 * 1024 + 1 * (y 1).val = _; rw [e]; simp)
  have hy : ∀ x : Vec Ideal S1408x1024 .bf16, (cfg0.win 2).cut (grid0.coords t) x y = x y := fun x => rfl
  refine (hy _).trans ((congrFun (result m c t h) y).trans ((pay3 _ y).trans ((scratch m c t h y).trans ((zero_add _).trans ?_))))
  show _ = product _ _ (((cfg0.win 2).blk t).view.emb y)
  unfold product
  rw [h1, Fin.sum_univ_tiles 8 1024 rfl]
  refine Finset.sum_congr rfl fun s _ => Finset.sum_congr rfl fun k _ => ?_
  have d : (8 * (t.val / 8) + s.val) / 8 = t.val / 8 := by omega
  have r : (8 * (t.val / 8) + s.val) % 8 = s.val := by omega
  exact congrArg₂ (fun x w : EReal => x * w) (rows m c ⟨_, Pipeline.run_point_lt_of_flush t h s⟩ _ (y 0) (by show _ = (8 * (t.val / 8) + s.val) / 8 * 1408 + _; rw [d]; exact h0) k _ (by show _ = (8 * (t.val / 8) + s.val) % 8 * 1024 + _; rw [r]))
    (weights m c ⟨_, Pipeline.run_point_lt_of_flush t h s⟩ (y 1) k _ (by show _ = (8 * (t.val / 8) + s.val) % 8 * 1024 + _; rw [r]))

/-- The blocks cover the result. -/
theorem covered (y : S2816x1024.Idx) : ∃ t : Fin cfg0.N, (cfg0.win 2).flush t = true ∧ y ∈ ((cfg0.win 2).blk t).view.set := by
  have b0 : (y 0).val < 2816 := (y 0).isLt
  have b1 : (y 1).val < 1024 := (y 1).isLt
  have ht : (y 0).val / 1408 * 8 + 7 < cfg0.N := lt_of_lt_of_eq (by omega) N_0.symm
  refine ⟨⟨_, ht⟩, (flush0_2 _).mpr (by show ((y 0).val / 1408 * 8 + 7) % 8 = 7; omega), ?_⟩
  show y ∈ ((View.whole main_v0).slice (win0_2.rect ⟨_, ht⟩)).set
  rw [View.set_slice_whole, Rect.mem_set_unit]
  have e := (places ⟨_, ht⟩).1
  intro a
  match a with
  | 0 =>
    show win0_2.index ⟨_, ht⟩ 0 * 1408 ≤ (y 0).val ∧ (y 0).val < win0_2.index ⟨_, ht⟩ 0 * 1408 + 1408
    rw [e]
    show ((y 0).val / 1408 * 8 + 7) / 8 * 1408 ≤ (y 0).val ∧ (y 0).val < ((y 0).val / 1408 * 8 + 7) / 8 * 1408 + 1408
    omega
  | 1 =>
    show win0_2.index ⟨_, ht⟩ 1 * 1024 ≤ (y 1).val ∧ (y 1).val < win0_2.index ⟨_, ht⟩ 1 * 1024 + 1024
    rw [e]
    show 0 * 1024 ≤ (y 1).val ∧ (y 1).val < 0 * 1024 + 1024
    omega

/-- The reference's result is the product. -/
theorem reference (a : Vec Ideal S8192x2816 .bf16) (w : Vec Ideal S8192x1024 .bf16) :
    truncf .bf16 (transpose S2816x1024 [1, 0] (Host.dotGeneral (F := Ideal) Cert.DownWeightReferenceIdeal.dot_S8192x1024_S8192x2816_S1024x2816_0_0_1_1_n_n none (extf .f32 w Cert.DownWeightReferenceIdeal.Facts₀.bitsLt_bf16_f32) (extf .f32 a Cert.DownWeightReferenceIdeal.Facts₀.bitsLt_bf16_f32)) Cert.DownWeightReferenceIdeal.Facts₀.transposes_S1024x2816_S2816x1024_1_0) Cert.DownWeightReferenceIdeal.Facts₀.bitsLt_bf16_f32
      = product a w := by
  funext y
  pointwise [product]
  exact Finset.sum_congr rfl fun _ _ => mul_comm _ _

/-- Kernel and reference compute the same product. -/
theorem same : Cert.algebraic_DownWeightIdeal_DownWeightReferenceIdeal := by
  intro m g m' g' _ hm
  refine ⟨fun c => product (m ((c : Thread nD τ).loc main_arg0)) (m ((c : Thread nD τ).loc main_arg1)), ?_, ?_⟩
  · exact (θ_run _ _ _).mono (fun r h c => ⟨(h c).1.trans ((dats m 0 c).arrAt_eq_of_cover 2 _ (fun t ht => wrote m c t ht) covered), (h c).2⟩) (ran m g)
  · refine (θ_run _ _ _).mono (fun r h c => ⟨(h c).1.trans ?_, (h c).2⟩) (Cert.DownWeightReferenceIdeal.Value.run m' g')
    rw [(hm c).1, (hm c).2]
    exact reference _ _

end Cert.DownWeightIdeal.Product

end
-- ==== Proof.InWeightProduct.lean ====
/- The gradient of the weights of the layer's first product: four points add the products of their four blocks of rows in a
   scratch, the last of them writes the sum, and the sums of the four blocks are the sum over all the rows. -/
module

public import proofs.«01_k».proof.Defs
public import proofs.«01_k».proof.Proof.Gen.InWeightIdeal.Frame
public import proofs.«01_k».proof.Proof.Gen.InWeightReferenceIdeal.Run
public import proofs.«01_k».proof.Proof.Zeros
public import Idealize.ShloMosaic.Lib.Pointwise
public import Idealize.ShloMosaic.Lib.Pipeline.Value
public import Idealize.ShloMosaic.Lib.Pipeline.ValueKit.Acc
public import Idealize.ShloMosaic.Lib.Tactic

@[expose] public section

set_option maxRecDepth 16384

noncomputable section

namespace Cert.InWeightIdeal.Product

open Cert.InWeightIdeal Cert.InWeightIdeal.Gen Cert.Products Idealize.ShloMosaic Idealize.ShloMosaic.TcCoe Idealize.SL.Sem

variable (m : (ℓ : Loc nD τ sig) → Buf (Elt Ideal) ℓ)

/-- The products of the rows' columns with the gradient's columns. -/
def product (a : S8192x1024.Idx → EReal) (w : S8192x3456.Idx → EReal) : S1024x3456.Idx → EReal := fun y =>
  ∑ k : Fin 8192, a (ix2 k (y 0)) * w (ix2 k (y 1))

/-- Where a point's blocks lie. -/
theorem places : ∀ t : Fin cfg0.N, win0_2.index t = ![0, t.val / 4] ∧ win0_0.index t = ![t.val % 4, 0] ∧ win0_1.index t = ![t.val % 4, t.val / 4] :=
  (by decide +kernel : ∀ t : Fin grid0.N, _)

/-- What a point writes back is what it left in the result's block. -/
theorem flushed (c : Dev nD) (t : Fin cfg0.N) :
    (dats m 0 c).flushed 2 t = (cfg0.win 2).cut (grid0.coords t) ((outsAt0 m c t.val t.isLt).1) := by
  show (cfg0.win 2).cut (grid0.coords t) ((dats m 0 c).after 2 t) = _
  rw [after0_2]

/-- After the run the result is what the points wrote, and the arguments are as they were. -/
theorem ran (g : Dev nD → PrngReg) : θ_run defs (onTc (τ := τ) (main (F := Ideal))) ⟨m, fun _ => 0, g⟩ fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m g)

section Cases

variable (c : Dev nD) (i : grid0.Coords) (a0 : Memref sig .tc .vmem S2048x1024 .bf16) (h0 : a0.IsWhole) (a1 : Memref sig .tc .vmem S2048x1152 .bf16) (h1 : a1.IsWhole)
  (a2 : Memref sig .tc .vmem S1024x1152 .bf16) (h2 : a2.IsWhole) (a3 : Memref sig .tc .vmem S1024x1152 .f32) (h3 : a3.IsWhole)
  (x0 : Vec Ideal S2048x1024 .bf16) (x1 : Vec Ideal S2048x1152 .bf16) (xs : Vec Ideal S1024x1152 .f32)

/-- What the first of four points leaves in the scratch. -/
theorem first (hc0 : cond0_0 i) (hc1 : ¬cond0_1 i) (hc2 : ¬cond0_2 i) :
    sout0_A_0 c i a0 h0 a1 h1 a2 h2 a3 h3 hc0 hc1 hc2 x0 x1 = k0_pay1 x0 x1 := by
  unfold sout0_A_0
  rw [View.read_writes_eq_canon _ _ _ (scover0_A_0 c i a0 h0 a1 h1 a2 h2 a3 h3 hc0 hc1 hc2 x0 x1)]
  unfold kernelRun0_A
  dsimp only
  rw [View.canon_unit_zero zero2]
  simp only [View.readAt_eq_ld, h0.read_unread, h1.read_unread, View.ld_unit_zero (S := S2048x1024) zero2, View.ld_unit_zero (S := S2048x1152) zero2]

/-- What the next ones leave there. -/
theorem next (hc0 : ¬cond0_0 i) (hc1 : cond0_1 i) (hc2 : ¬cond0_2 i) :
    sout0_B_0 c i a0 h0 a1 h1 a2 h2 a3 h3 hc0 hc1 hc2 x0 x1 xs = k0_pay2 xs x0 x1 := by
  unfold sout0_B_0
  rw [View.read_writes_eq_canon _ _ _ (scover0_B_0 c i a0 h0 a1 h1 a2 h2 a3 h3 hc0 hc1 hc2 x0 x1 xs)]
  unfold kernelRun0_B
  dsimp only
  rw [View.canon_unit_zero zero2]
  simp only [View.readAt_eq_ld, h0.read_unread, h1.read_unread, h3.read_unread, View.ld_unit_zero (S := S2048x1024) zero2, View.ld_unit_zero (S := S2048x1152) zero2,
    View.ld_unit_zero (S := S1024x1152) zero2]

/-- What the last one leaves there. -/
theorem last (hc0 : ¬cond0_0 i) (hc1 : cond0_1 i) (hc2 : cond0_2 i) :
    sout0_C_0 c i a0 h0 a1 h1 a2 h2 a3 h3 hc0 hc1 hc2 x0 x1 xs = k0_pay2 xs x0 x1 := by
  unfold sout0_C_0
  rw [View.read_writes_eq_canon _ _ _ (scover0_C_0 c i a0 h0 a1 h1 a2 h2 a3 h3 hc0 hc1 hc2 x0 x1 xs)]
  unfold kernelRun0_C
  dsimp only
  sl_unfold_words
  rw [View.canon_unit_zero zero2]
  simp only [View.readAt_eq_ld, h0.read_unread, h1.read_unread, h3.read_unread, View.ld_unit_zero (S := S2048x1024) zero2, View.ld_unit_zero (S := S2048x1152) zero2,
    View.ld_unit_zero (S := S1024x1152) zero2]

/-- What the last one leaves in the result's block: what is then in the scratch. -/
theorem written (hc0 : ¬cond0_0 i) (hc1 : cond0_1 i) (hc2 : cond0_2 i) :
    out0_C_2 c i a0 h0 a1 h1 a2 h2 a3 h3 hc0 hc1 hc2 x0 x1 xs = k0_pay3 (k0_pay2 xs x0 x1) := by
  unfold out0_C_2
  rw [View.read_writes_eq_canon _ _ _ (cover0_C_2 c i a0 h0 a1 h1 a2 h2 a3 h3 hc0 hc1 hc2 x0 x1 xs)]
  unfold kernelRun0_C
  dsimp only
  sl_unfold_words
  rw [View.canon_unit_zero zero2, View.readCov_unit_zero (S := S1024x1152) _ zero2]
  simp only [View.readAt_eq_ld, h0.read_unread, h1.read_unread, h3.read_unread, View.ld_unit_zero (S := S2048x1024) zero2, View.ld_unit_zero (S := S2048x1152) zero2,
    View.ld_unit_zero (S := S1024x1152) zero2]

end Cases

/-- The product of a point's blocks. -/
def term (c : Dev nD) (t : Fin cfg0.N) (i : S1024x1152.Idx) : EReal := ∑ k : Fin 2048, HMul.hMul (α := EReal) (β := EReal) (iblk m c 0 t (ix2 k (i 0))) (iblk m c 1 t (ix2 k (i 1)))

theorem pay1 (x0 : Vec Ideal S2048x1024 .bf16) (x1 : Vec Ideal S2048x1152 .bf16) (i : S1024x1152.Idx) :
    k0_pay1 x0 x1 i = 0 + ∑ k : Fin 2048, x0 (ix2 k (i 0)) * x1 (ix2 k (i 1)) := by
  pointwise [k0_pay1]

theorem pay2 (xs : Vec Ideal S1024x1152 .f32) (x0 : Vec Ideal S2048x1024 .bf16) (x1 : Vec Ideal S2048x1152 .bf16) (i : S1024x1152.Idx) :
    k0_pay2 xs x0 x1 i = xs i + ∑ k : Fin 2048, x0 (ix2 k (i 0)) * x1 (ix2 k (i 1)) := by
  pointwise [k0_pay2]

/-- What the first of four points leaves in the scratch, -/
theorem scratch0 (c : Dev nD) (t : Fin cfg0.N) (h : t.val % 4 = 0) : (outsAt0 m c t.val t.isLt).2 = k0_pay1 (iblk m c 0 t) (iblk m c 1 t) := by
  rw [outsAt0_A m c t h (by omega) (by omega), first]

/-- and the other ones. -/
theorem scratch1 (c : Dev nD) (t : Fin cfg0.N) (h : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h2 : t.val % 4 = 3
  · rw [outsAt0_C m c t h (by omega) h2, last]
  · rw [outsAt0_B m c t h (by omega) h2, next]

/-- What the last one leaves in the result's block. -/
theorem result (c : Dev nD) (t : Fin cfg0.N) (h : t.val % 4 = 3) : (outsAt0 m c t.val t.isLt).1 = k0_pay3 (outsAt0 m c t.val t.isLt).2 := by
  rw [scratch1 m c t (by omega), outsAt0_C m c t (by omega) (by omega) h, written]

theorem pay3 (xs : Vec Ideal S1024x1152 .f32) (i : S1024x1152.Idx) : k0_pay3 xs i = xs i := by
  pointwise [k0_pay3]

/-- What is in the scratch after the last of four points: the sum of their products. -/
theorem scratch (c : Dev nD) (t : Fin cfg0.N) (h : t.val % 4 = 4 - 1) (i : S1024x1152.Idx) :
    (outsAt0 m c t.val t.isLt).2 i = 0 + ∑ s : Fin 4, term m c ⟨4 * (t.val / 4) + s.val, Pipeline.run_point_lt_of_flush t h s⟩ i :=
  Pipeline.eq_sum_fin_of_reset_step_apply_of_flush (fun n hn => (outsAt0 m c n hn).2) 4 (fun _ => (0 : EReal)) (term m c)
    (fun t h0 i => (congrFun (scratch0 m c t h0) i).trans (pay1 _ _ i)) (fun t h0 i => (congrFun (scratch1 m c t h0) i).trans (pay2 _ _ _ i)) t h i

/-- A point's block of the rows. -/
theorem rows (c : Dev nD) (t : Fin cfg0.N) (p : Fin 1024) (k : Fin 2048) (k' : Fin 8192) (hk : k'.val = t.val % 4 * 2048 + k.val) :
    iblk m c 0 t (ix2 k p) = m ((c : Thread nD τ).loc main_arg0) (ix2 k' p) := by
  show V m c main_arg0 (((cfg0.win 0).blk t).view.emb (ix2 k p)) = _
  rw [V_main_arg0]
  refine congrArg (m ((c : Thread nD τ).loc main_arg0)) (funext fun a => Fin.ext ?_)
  have e := (places t).2.1
  match a with
  | 0 => show win0_0.index t 0 * 2048 + 1 * k.val = k'.val; rw [e, hk]; simp
  | 1 => show win0_0.index t 1 * 1024 + 1 * p.val = p.val; rw [e]; simp

/-- A point's block of the gradient's rows. -/
theorem weights (c : Dev nD) (t : Fin cfg0.N) (y : S1024x3456.Idx) (q : Fin 1152) (h : (y 1).val = t.val / 4 * 1152 + q.val) (k : Fin 2048)
    (k' : Fin 8192) (hk : k'.val = t.val % 4 * 2048 + k.val) : iblk m c 1 t (ix2 k q) = m ((c : Thread nD τ).loc main_arg1) (ix2 k' (y 1)) := by
  show V m c main_arg1 (((cfg0.win 1).blk t).view.emb (ix2 k q)) = _
  rw [V_main_arg1]
  refine congrArg (m ((c : Thread nD τ).loc main_arg1)) (funext fun a => Fin.ext ?_)
  have e := (places t).2.2
  match a with
  | 0 => show win0_1.index t 0 * 2048 + 1 * k.val = k'.val; rw [e, hk]; simp
  | 1 => show win0_1.index t 1 * 1152 + 1 * q.val = (y 1).val; rw [e, h]; simp

/-- What the last of four points writes is its block of the product. -/
theorem wrote (c : Dev nD) (t : Fin cfg0.N) (ht : (cfg0.win 2).flush t = true) :
    (dats m 0 c).flushed 2 t = ((cfg0.win 2).blk t).view.read (Elt Ideal) (product (m ((c : Thread nD τ).loc main_arg0)) (m ((c : Thread nD τ).loc main_arg1))) := by
  have h := (flush0_2 t).mp ht
  rw [flushed]
  funext (y : S1024x1152.Idx)
  have e := (places t).1
  have h0 : ((((cfg0.win 2).blk t).view.emb y) 0) = y 0 := Fin.ext (by
    show win0_2.index t 0 * 1024 + 1 * (y 0).val = _; rw [e]; simp)
  have h1 : ((((cfg0.win 2).blk t).view.emb y) 1).val = t.val / 4 * 1152 + (y 1).val := by
    show win0_2.index t 1 * 1152 + 1 * (y 1).val = _; rw [e]; simp
  have hy : ∀ x : Vec Ideal S1024x1152 .bf16, (cfg0.win 2).cut (grid0.coords t) x y = x y := fun x => rfl
  refine (hy _).trans ((congrFun (result m c t h) y).trans ((pay3 _ y).trans ((scratch m c t h y).trans ((zero_add _).trans ?_))))
  show _ = product _ _ (((cfg0.win 2).blk t).view.emb y)
  unfold product
  rw [h0, Fin.sum_univ_tiles 4 2048 rfl]
  refine Finset.sum_congr rfl fun s _ => Finset.sum_congr rfl fun k _ => ?_
  have d : (4 * (t.val / 4) + s.val) / 4 = t.val / 4 := by omega
  have r : (4 * (t.val / 4) + s.val) % 4 = s.val := by omega
  exact congrArg₂ (fun x w : EReal => x * w) (rows m c ⟨_, Pipeline.run_point_lt_of_flush t h s⟩ (y 0) k _ (by show _ = (4 * (t.val / 4) + s.val) % 4 * 2048 + _; rw [r]))
    (weights m c ⟨_, Pipeline.run_point_lt_of_flush t h s⟩ _ (y 1) (by show _ = (4 * (t.val / 4) + s.val) / 4 * 1152 + _; rw [d]; exact h1) k _ (by show _ = (4 * (t.val / 4) + s.val) % 4 * 2048 + _; rw [r]))

/-- The blocks cover the result. -/
theorem covered (y : S1024x3456.Idx) : ∃ t : Fin cfg0.N, (cfg0.win 2).flush t = true ∧ y ∈ ((cfg0.win 2).blk t).view.set := by
  have b0 : (y 0).val < 1024 := (y 0).isLt
  have b1 : (y 1).val < 3456 := (y 1).isLt
  have ht : (y 1).val / 1152 * 4 + 3 < cfg0.N := lt_of_lt_of_eq (by omega) N_0.symm
  refine ⟨⟨_, ht⟩, (flush0_2 _).mpr (by show ((y 1).val / 1152 * 4 + 3) % 4 = 3; omega), ?_⟩
  show y ∈ ((View.whole main_v0).slice (win0_2.rect ⟨_, ht⟩)).set
  rw [View.set_slice_whole, Rect.mem_set_unit]
  have e := (places ⟨_, ht⟩).1
  intro a
  match a with
  | 0 =>
    show win0_2.index ⟨_, ht⟩ 0 * 1024 ≤ (y 0).val ∧ (y 0).val < win0_2.index ⟨_, ht⟩ 0 * 1024 + 1024
    rw [e]
    show 0 * 1024 ≤ (y 0).val ∧ (y 0).val < 0 * 1024 + 1024
    omega
  | 1 =>
    show win0_2.index ⟨_, ht⟩ 1 * 1152 ≤ (y 1).val ∧ (y 1).val < win0_2.index ⟨_, ht⟩ 1 * 1152 + 1152
    rw [e]
    show ((y 1).val / 1152 * 4 + 3) / 4 * 1152 ≤ (y 1).val ∧ (y 1).val < ((y 1).val / 1152 * 4 + 3) / 4 * 1152 + 1152
    omega

/-- The reference's result is the product. -/
theorem reference (a : Vec Ideal S8192x1024 .bf16) (w : Vec Ideal S8192x3456 .bf16) :
    truncf .bf16 (transpose S1024x3456 [1, 0] (Host.dotGeneral (F := Ideal) Cert.InWeightReferenceIdeal.dot_S8192x3456_S8192x1024_S3456x1024_0_0_1_1_n_n none (extf .f32 w Cert.InWeightReferenceIdeal.Facts₀.bitsLt_bf16_f32) (extf .f32 a Cert.InWeightReferenceIdeal.Facts₀.bitsLt_bf16_f32)) Cert.InWeightReferenceIdeal.Facts₀.transposes_S3456x1024_S1024x3456_1_0) Cert.InWeightReferenceIdeal.Facts₀.bitsLt_bf16_f32
      = product a w := by
  funext y
  pointwise [product]
  exact Finset.sum_congr rfl fun _ _ => mul_comm _ _

/-- Kernel and reference compute the same product. -/
theorem same : Cert.algebraic_InWeightIdeal_InWeightReferenceIdeal := by
  intro m g m' g' _ hm
  refine ⟨fun c => product (m ((c : Thread nD τ).loc main_arg0)) (m ((c : Thread nD τ).loc main_arg1)), ?_, ?_⟩
  · exact (θ_run _ _ _).mono (fun r h c => ⟨(h c).1.trans ((dats m 0 c).arrAt_eq_of_cover 2 _ (fun t ht => wrote m c t ht) covered), (h c).2⟩) (ran m g)
  · refine (θ_run _ _ _).mono (fun r h c => ⟨(h c).1.trans ?_, (h c).2⟩) (Cert.InWeightReferenceIdeal.Value.run m' g')
    rw [(hm c).1, (hm c).2]
    exact reference _ _

end Cert.InWeightIdeal.Product

end
-- ==== Proof.OutWeightProduct.lean ====
/- The gradient of the weights of the mixers' last product: four points add the products of their four blocks of rows in a
   scratch, the last of them writes the sum, and the sums of the four blocks are the sum over all the rows. -/
module

public import proofs.«01_k».proof.Defs
public import proofs.«01_k».proof.Proof.Gen.OutWeightIdeal.Frame
public import proofs.«01_k».proof.Proof.Gen.OutWeightReferenceIdeal.Run
public import proofs.«01_k».proof.Proof.Zeros
public import Idealize.ShloMosaic.Lib.Pointwise
public import Idealize.ShloMosaic.Lib.Pipeline.Value
public import Idealize.ShloMosaic.Lib.Pipeline.ValueKit.Acc
public import Idealize.ShloMosaic.Lib.Tactic

@[expose] public section

set_option maxRecDepth 16384

noncomputable section

namespace Cert.OutWeightIdeal.Product

open Cert.OutWeightIdeal Cert.OutWeightIdeal.Gen Cert.Products Idealize.ShloMosaic Idealize.ShloMosaic.TcCoe Idealize.SL.Sem

variable (m : (ℓ : Loc nD τ sig) → Buf (Elt Ideal) ℓ)

/-- The products of the rows' columns with the gradient's columns. -/
def product (a : S8192x2048.Idx → EReal) (w : S8192x1024.Idx → EReal) : S2048x1024.Idx → EReal := fun y =>
  ∑ k : Fin 8192, a (ix2 k (y 0)) * w (ix2 k (y 1))

/-- Where a point's blocks lie. -/
theorem places : ∀ t : Fin cfg0.N, win0_2.index t = ![t.val / 4, 0] ∧ win0_0.index t = ![t.val % 4, t.val / 4] ∧ win0_1.index t = ![t.val % 4, 0] :=
  (by decide +kernel : ∀ t : Fin grid0.N, _)

/-- What a point writes back is what it left in the result's block. -/
theorem flushed (c : Dev nD) (t : Fin cfg0.N) :
    (dats m 0 c).flushed 2 t = (cfg0.win 2).cut (grid0.coords t) ((outsAt0 m c t.val t.isLt).1) := by
  show (cfg0.win 2).cut (grid0.coords t) ((dats m 0 c).after 2 t) = _
  rw [after0_2]

/-- After the run the result is what the points wrote, and the arguments are as they were. -/
theorem ran (g : Dev nD → PrngReg) : θ_run defs (onTc (τ := τ) (main (F := Ideal))) ⟨m, fun _ => 0, g⟩ fun r => ∀ c : Dev nD,
      r.2.mem ((c : Thread nD τ).loc main_v0) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m g)

section Cases

variable (c : Dev nD) (i : grid0.Coords) (a0 : Memref sig .tc .vmem S2048x1024 .bf16) (h0 : a0.IsWhole) (a1 : Memref sig .tc .vmem S2048x1024 .bf16) (h1 : a1.IsWhole)
  (a2 : Memref sig .tc .vmem S1024x1024 .bf16) (h2 : a2.IsWhole) (a3 : Memref sig .tc .vmem S1024x1024 .f32) (h3 : a3.IsWhole)
  (x0 : Vec Ideal S2048x1024 .bf16) (x1 : Vec Ideal S2048x1024 .bf16) (xs : Vec Ideal S1024x1024 .f32)

/-- What the first of four points leaves in the scratch. -/
theorem first (hc0 : cond0_0 i) (hc1 : ¬cond0_1 i) (hc2 : ¬cond0_2 i) :
    sout0_A_0 c i a0 h0 a1 h1 a2 h2 a3 h3 hc0 hc1 hc2 x0 x1 = k0_pay1 x0 x1 := by
  unfold sout0_A_0
  rw [View.read_writes_eq_canon _ _ _ (scover0_A_0 c i a0 h0 a1 h1 a2 h2 a3 h3 hc0 hc1 hc2 x0 x1)]
  unfold kernelRun0_A
  dsimp only
  rw [View.canon_unit_zero zero2]
  simp only [View.readAt_eq_ld, h0.read_unread, h1.read_unread, View.ld_unit_zero (S := S2048x1024) zero2, View.ld_unit_zero (S := S2048x1024) zero2]

/-- What the next ones leave there. -/
theorem next (hc0 : ¬cond0_0 i) (hc1 : cond0_1 i) (hc2 : ¬cond0_2 i) :
    sout0_B_0 c i a0 h0 a1 h1 a2 h2 a3 h3 hc0 hc1 hc2 x0 x1 xs = k0_pay2 xs x0 x1 := by
  unfold sout0_B_0
  rw [View.read_writes_eq_canon _ _ _ (scover0_B_0 c i a0 h0 a1 h1 a2 h2 a3 h3 hc0 hc1 hc2 x0 x1 xs)]
  unfold kernelRun0_B
  dsimp only
  rw [View.canon_unit_zero zero2]
  simp only [View.readAt_eq_ld, h0.read_unread, h1.read_unread, h3.read_unread, View.ld_unit_zero (S := S2048x1024) zero2, View.ld_unit_zero (S := S2048x1024) zero2,
    View.ld_unit_zero (S := S1024x1024) zero2]

/-- What the last one leaves there. -/
theorem last (hc0 : ¬cond0_0 i) (hc1 : cond0_1 i) (hc2 : cond0_2 i) :
    sout0_C_0 c i a0 h0 a1 h1 a2 h2 a3 h3 hc0 hc1 hc2 x0 x1 xs = k0_pay2 xs x0 x1 := by
  unfold sout0_C_0
  rw [View.read_writes_eq_canon _ _ _ (scover0_C_0 c i a0 h0 a1 h1 a2 h2 a3 h3 hc0 hc1 hc2 x0 x1 xs)]
  unfold kernelRun0_C
  dsimp only
  sl_unfold_words
  rw [View.canon_unit_zero zero2]
  simp only [View.readAt_eq_ld, h0.read_unread, h1.read_unread, h3.read_unread, View.ld_unit_zero (S := S2048x1024) zero2, View.ld_unit_zero (S := S2048x1024) zero2,
    View.ld_unit_zero (S := S1024x1024) zero2]

/-- What the last one leaves in the result's block: what is then in the scratch. -/
theorem written (hc0 : ¬cond0_0 i) (hc1 : cond0_1 i) (hc2 : cond0_2 i) :
    out0_C_2 c i a0 h0 a1 h1 a2 h2 a3 h3 hc0 hc1 hc2 x0 x1 xs = k0_pay3 (k0_pay2 xs x0 x1) := by
  unfold out0_C_2
  rw [View.read_writes_eq_canon _ _ _ (cover0_C_2 c i a0 h0 a1 h1 a2 h2 a3 h3 hc0 hc1 hc2 x0 x1 xs)]
  unfold kernelRun0_C
  dsimp only
  sl_unfold_words
  rw [View.canon_unit_zero zero2, View.readCov_unit_zero (S := S1024x1024) _ zero2]
  simp only [View.readAt_eq_ld, h0.read_unread, h1.read_unread, h3.read_unread, View.ld_unit_zero (S := S2048x1024) zero2, View.ld_unit_zero (S := S2048x1024) zero2,
    View.ld_unit_zero (S := S1024x1024) zero2]

end Cases

/-- The product of a point's blocks. -/
def term (c : Dev nD) (t : Fin cfg0.N) (i : S1024x1024.Idx) : EReal := ∑ k : Fin 2048, HMul.hMul (α := EReal) (β := EReal) (iblk m c 0 t (ix2 k (i 0))) (iblk m c 1 t (ix2 k (i 1)))

theorem pay1 (x0 : Vec Ideal S2048x1024 .bf16) (x1 : Vec Ideal S2048x1024 .bf16) (i : S1024x1024.Idx) :
    k0_pay1 x0 x1 i = 0 + ∑ k : Fin 2048, x0 (ix2 k (i 0)) * x1 (ix2 k (i 1)) := by
  pointwise [k0_pay1]

theorem pay2 (xs : Vec Ideal S1024x1024 .f32) (x0 : Vec Ideal S2048x1024 .bf16) (x1 : Vec Ideal S2048x1024 .bf16) (i : S1024x1024.Idx) :
    k0_pay2 xs x0 x1 i = xs i + ∑ k : Fin 2048, x0 (ix2 k (i 0)) * x1 (ix2 k (i 1)) := by
  pointwise [k0_pay2]

/-- What the first of four points leaves in the scratch, -/
theorem scratch0 (c : Dev nD) (t : Fin cfg0.N) (h : t.val % 4 = 0) : (outsAt0 m c t.val t.isLt).2 = k0_pay1 (iblk m c 0 t) (iblk m c 1 t) := by
  rw [outsAt0_A m c t h (by omega) (by omega), first]

/-- and the other ones. -/
theorem scratch1 (c : Dev nD) (t : Fin cfg0.N) (h : ¬t.val % 4 = 0) :
    (outsAt0 m c t.val t.isLt).2 = k0_pay2 (outsAt0 m c (t.val - 1) (Nat.lt_of_le_of_lt (Nat.sub_le _ _) t.isLt)).2 (iblk m c 0 t) (iblk m c 1 t) := by
  by_cases h2 : t.val % 4 = 3
  · rw [outsAt0_C m c t h (by omega) h2, last]
  · rw [outsAt0_B m c t h (by omega) h2, next]

/-- What the last one leaves in the result's block. -/
theorem result (c : Dev nD) (t : Fin cfg0.N) (h : t.val % 4 = 3) : (outsAt0 m c t.val t.isLt).1 = k0_pay3 (outsAt0 m c t.val t.isLt).2 := by
  rw [scratch1 m c t (by omega), outsAt0_C m c t (by omega) (by omega) h, written]

theorem pay3 (xs : Vec Ideal S1024x1024 .f32) (i : S1024x1024.Idx) : k0_pay3 xs i = xs i := by
  pointwise [k0_pay3]

/-- What is in the scratch after the last of four points: the sum of their products. -/
theorem scratch (c : Dev nD) (t : Fin cfg0.N) (h : t.val % 4 = 4 - 1) (i : S1024x1024.Idx) :
    (outsAt0 m c t.val t.isLt).2 i = 0 + ∑ s : Fin 4, term m c ⟨4 * (t.val / 4) + s.val, Pipeline.run_point_lt_of_flush t h s⟩ i :=
  Pipeline.eq_sum_fin_of_reset_step_apply_of_flush (fun n hn => (outsAt0 m c n hn).2) 4 (fun _ => (0 : EReal)) (term m c)
    (fun t h0 i => (congrFun (scratch0 m c t h0) i).trans (pay1 _ _ i)) (fun t h0 i => (congrFun (scratch1 m c t h0) i).trans (pay2 _ _ _ i)) t h i

/-- A point's block of the rows. -/
theorem rows (c : Dev nD) (t : Fin cfg0.N) (y : S2048x1024.Idx) (p : Fin 1024) (h : (y 0).val = t.val / 4 * 1024 + p.val) (k : Fin 2048)
    (k' : Fin 8192) (hk : k'.val = t.val % 4 * 2048 + k.val) : iblk m c 0 t (ix2 k p) = m ((c : Thread nD τ).loc main_arg0) (ix2 k' (y 0)) := by
  show V m c main_arg0 (((cfg0.win 0).blk t).view.emb (ix2 k p)) = _
  rw [V_main_arg0]
  refine congrArg (m ((c : Thread nD τ).loc main_arg0)) (funext fun a => Fin.ext ?_)
  have e := (places t).2.1
  match a with
  | 0 => show win0_0.index t 0 * 2048 + 1 * k.val = k'.val; rw [e, hk]; simp
  | 1 => show win0_0.index t 1 * 1024 + 1 * p.val = (y 0).val; rw [e, h]; simp

/-- A point's block of the gradient's rows. -/
theorem weights (c : Dev nD) (t : Fin cfg0.N) (q : Fin 1024) (k : Fin 2048) (k' : Fin 8192) (hk : k'.val = t.val % 4 * 2048 + k.val) :
    iblk m c 1 t (ix2 k q) = m ((c : Thread nD τ).loc main_arg1) (ix2 k' q) := by
  show V m c main_arg1 (((cfg0.win 1).blk t).view.emb (ix2 k q)) = _
  rw [V_main_arg1]
  refine congrArg (m ((c : Thread nD τ).loc main_arg1)) (funext fun a => Fin.ext ?_)
  have e := (places t).2.2
  match a with
  | 0 => show win0_1.index t 0 * 2048 + 1 * k.val = k'.val; rw [e, hk]; simp
  | 1 => show win0_1.index t 1 * 1024 + 1 * q.val = q.val; rw [e]; simp

/-- What the last of four points writes is its block of the product. -/
theorem wrote (c : Dev nD) (t : Fin cfg0.N) (ht : (cfg0.win 2).flush t = true) :
    (dats m 0 c).flushed 2 t = ((cfg0.win 2).blk t).view.read (Elt Ideal) (product (m ((c : Thread nD τ).loc main_arg0)) (m ((c : Thread nD τ).loc main_arg1))) := by
  have h := (flush0_2 t).mp ht
  rw [flushed]
  funext (y : S1024x1024.Idx)
  have e := (places t).1
  have h0 : ((((cfg0.win 2).blk t).view.emb y) 0).val = t.val / 4 * 1024 + (y 0).val := by
    show win0_2.index t 0 * 1024 + 1 * (y 0).val = _; rw [e]; simp
  have h1 : ((((cfg0.win 2).blk t).view.emb y) 1) = y 1 := Fin.ext (by
    show win0_2.index t 1 * 1024 + 1 * (y 1).val = _; rw [e]; simp)
  have hy : ∀ x : Vec Ideal S1024x1024 .bf16, (cfg0.win 2).cut (grid0.coords t) x y = x y := fun x => rfl
  refine (hy _).trans ((congrFun (result m c t h) y).trans ((pay3 _ y).trans ((scratch m c t h y).trans ((zero_add _).trans ?_))))
  show _ = product _ _ (((cfg0.win 2).blk t).view.emb y)
  unfold product
  rw [h1, Fin.sum_univ_tiles 4 2048 rfl]
  refine Finset.sum_congr rfl fun s _ => Finset.sum_congr rfl fun k _ => ?_
  have d : (4 * (t.val / 4) + s.val) / 4 = t.val / 4 := by omega
  have r : (4 * (t.val / 4) + s.val) % 4 = s.val := by omega
  exact congrArg₂ (fun x w : EReal => x * w) (rows m c ⟨_, Pipeline.run_point_lt_of_flush t h s⟩ _ (y 0) (by show _ = (4 * (t.val / 4) + s.val) / 4 * 1024 + _; rw [d]; exact h0) k _ (by show _ = (4 * (t.val / 4) + s.val) % 4 * 2048 + _; rw [r]))
    (weights m c ⟨_, Pipeline.run_point_lt_of_flush t h s⟩ (y 1) k _ (by show _ = (4 * (t.val / 4) + s.val) % 4 * 2048 + _; rw [r]))

/-- The blocks cover the result. -/
theorem covered (y : S2048x1024.Idx) : ∃ t : Fin cfg0.N, (cfg0.win 2).flush t = true ∧ y ∈ ((cfg0.win 2).blk t).view.set := by
  have b0 : (y 0).val < 2048 := (y 0).isLt
  have b1 : (y 1).val < 1024 := (y 1).isLt
  have ht : (y 0).val / 1024 * 4 + 3 < cfg0.N := lt_of_lt_of_eq (by omega) N_0.symm
  refine ⟨⟨_, ht⟩, (flush0_2 _).mpr (by show ((y 0).val / 1024 * 4 + 3) % 4 = 3; omega), ?_⟩
  show y ∈ ((View.whole main_v0).slice (win0_2.rect ⟨_, ht⟩)).set
  rw [View.set_slice_whole, Rect.mem_set_unit]
  have e := (places ⟨_, ht⟩).1
  intro a
  match a with
  | 0 =>
    show win0_2.index ⟨_, ht⟩ 0 * 1024 ≤ (y 0).val ∧ (y 0).val < win0_2.index ⟨_, ht⟩ 0 * 1024 + 1024
    rw [e]
    show ((y 0).val / 1024 * 4 + 3) / 4 * 1024 ≤ (y 0).val ∧ (y 0).val < ((y 0).val / 1024 * 4 + 3) / 4 * 1024 + 1024
    omega
  | 1 =>
    show win0_2.index ⟨_, ht⟩ 1 * 1024 ≤ (y 1).val ∧ (y 1).val < win0_2.index ⟨_, ht⟩ 1 * 1024 + 1024
    rw [e]
    show 0 * 1024 ≤ (y 1).val ∧ (y 1).val < 0 * 1024 + 1024
    omega

/-- The reference's result is the product. -/
theorem reference (a : Vec Ideal S8192x2048 .bf16) (w : Vec Ideal S8192x1024 .bf16) :
    truncf .bf16 (transpose S2048x1024 [1, 0] (Host.dotGeneral (F := Ideal) Cert.OutWeightReferenceIdeal.dot_S8192x1024_S8192x2048_S1024x2048_0_0_1_1_n_n none (extf .f32 w Cert.OutWeightReferenceIdeal.Facts₀.bitsLt_bf16_f32) (extf .f32 a Cert.OutWeightReferenceIdeal.Facts₀.bitsLt_bf16_f32)) Cert.OutWeightReferenceIdeal.Facts₀.transposes_S1024x2048_S2048x1024_1_0) Cert.OutWeightReferenceIdeal.Facts₀.bitsLt_bf16_f32
      = product a w := by
  funext y
  pointwise [product]
  exact Finset.sum_congr rfl fun _ _ => mul_comm _ _

/-- Kernel and reference compute the same product. -/
theorem same : Cert.algebraic_OutWeightIdeal_OutWeightReferenceIdeal := by
  intro m g m' g' _ hm
  refine ⟨fun c => product (m ((c : Thread nD τ).loc main_arg0)) (m ((c : Thread nD τ).loc main_arg1)), ?_, ?_⟩
  · exact (θ_run _ _ _).mono (fun r h c => ⟨(h c).1.trans ((dats m 0 c).arrAt_eq_of_cover 2 _ (fun t ht => wrote m c t ht) covered), (h c).2⟩) (ran m g)
  · refine (θ_run _ _ _).mono (fun r h c => ⟨(h c).1.trans ?_, (h c).2⟩) (Cert.OutWeightReferenceIdeal.Value.run m' g')
    rw [(hm c).1, (hm c).2]
    exact reference _ _

end Cert.OutWeightIdeal.Product

end
-- ==== Proof.Steps.lean ====
/- One step of the optimiser: the new mean, the new mean square and the change of a weight, entry by entry, and what is said of every call alike: the
   kernel's body on a block, and which rows a point's block has. -/
module

public import proofs.«01_k».proof.Proof.Zeros
public import Idealize.ShloMosaic.Lib.Pointwise
public import Idealize.ShloMosaic.Lib.Pipeline.Value

@[expose] public section

noncomputable section

namespace Cert.Steps

open Idealize.ShloMosaic Cert.Products

/-- The new mean of the gradients, from the gradient and the mean before. -/
def mean (g m : EReal) : EReal := Ideal.ofBits .f32 0x3F666666#32 * m + Ideal.ofBits .f32 0x3DCCCCCD#32 * g

/-- The new mean of their squares. -/
def square (g v : EReal) : EReal := Ideal.ofBits .f32 0x3F7FBE77#32 * v + Ideal.ofBits .f32 0x3A83126F#32 * (g * g)

/-- The weight's change, from the weight and both means. -/
def delta (w a b : EReal) : EReal :=
  Ideal.ofBits .f32 0xBA83126F#32 *
    (Ideal.div (Ideal.div a (Ideal.ofBits .f32 0x3F26BD02#32)) (Ideal.sqrt (Ideal.div b (Ideal.ofBits .f32 0x3C231ACC#32)) + Ideal.ofBits .f32 0x322BCC77#32)
      + Ideal.ofBits .f32 0x3C23D70A#32 * w)

variable {s : Shape}

/-- The new means of an array. -/
def means (g a : s.Idx → EReal) : s.Idx → EReal := fun y => mean (g y) (a y)
/-- Its new mean squares. -/
def squares (g v : s.Idx → EReal) : s.Idx → EReal := fun y => square (g y) (v y)
/-- Its changes. -/
def deltas (w g a v : s.Idx → EReal) : s.Idx → EReal := fun y => delta (w y) (mean (g y) (a y)) (square (g y) (v y))

/-- The divisor of the mean. -/
theorem divisor_mean : Ideal.ofBits .f32 0x3F26BD02#32 = ((5463681 / 8388608 : ℝ) : EReal) := by
  simp [Ideal.ofBits, Ideal.ieee, -EReal.coe_mul]
  norm_num

/-- The divisor of the mean square. -/
theorem divisor_square : Ideal.ofBits .f32 0x3C231ACC#32 = ((2672307 / 268435456 : ℝ) : EReal) := by
  simp [Ideal.ofBits, Ideal.ieee, -EReal.coe_mul]
  norm_num

/-- The kernel's factors undo the same bias as the reference's quotients. -/
theorem unbiased (c d : EReal) (hc : c = (((5463681 / 8388608)⁻¹ : ℝ) : EReal)) (hd : d = (((2672307 / 268435456)⁻¹ : ℝ) : EReal)) (w a b : EReal) :
    Ideal.ofBits .f32 0xBA83126F#32 *
      (Ideal.div (a * c) (Ideal.sqrt (b * d) + Ideal.ofBits .f32 0x322BCC77#32) + Ideal.ofBits .f32 0x3C23D70A#32 * w) = delta w a b := by
  unfold delta
  rw [divisor_mean, divisor_square, Ideal.div_coe (by norm_num), Ideal.div_coe (by norm_num), hc, hd, one_div, one_div]

/-- The body's mean. -/
theorem mean_tile (hs : s.ShapeCasts s) (g a : Vec Ideal s .f32) :
    addf (F := Ideal) (mulf (broadcast s (Scalar.ofBits .f32 0x3F666666#32)) (shapeCast s a hs)) (mulf (broadcast s (Scalar.ofBits .f32 0x3DCCCCCD#32)) (shapeCast s g hs)) = means g a := by
  rw [shapeCast_self, shapeCast_self]
  rfl

/-- The body's mean square. -/
theorem square_tile (hs : s.ShapeCasts s) (g v : Vec Ideal s .f32) :
    addf (F := Ideal) (mulf (broadcast s (Scalar.ofBits .f32 0x3F7FBE77#32)) (shapeCast s v hs))
      (mulf (broadcast s (Scalar.ofBits .f32 0x3A83126F#32)) (mulf (shapeCast s g hs) (shapeCast s g hs))) = squares g v := by
  rw [shapeCast_self, shapeCast_self]
  rfl

/-- The body's change, where its two factors are named. -/
theorem delta_tile (κ : String → Option EReal) (hc : κ "mean" = some (((5463681 / 8388608)⁻¹ : ℝ) : EReal)) (hd : κ "square" = some (((2672307 / 268435456)⁻¹ : ℝ) : EReal))
    (hs : s.ShapeCasts s) (w g a v : Vec Ideal s .f32) :
    mulf (F := Ideal) (broadcast s (Scalar.ofBits .f32 0xBA83126F#32)) (addf (divf (mulf
      (addf (mulf (broadcast s (Scalar.ofBits .f32 0x3F666666#32)) (shapeCast s a hs)) (mulf (broadcast s (Scalar.ofBits .f32 0x3DCCCCCD#32)) (shapeCast s g hs)))
      (broadcast s (Named.named κ "mean" 0x3FC48605#32))) (addf (sqrt (mulf
        (addf (mulf (broadcast s (Scalar.ofBits .f32 0x3F7FBE77#32)) (shapeCast s v hs))
          (mulf (broadcast s (Scalar.ofBits .f32 0x3A83126F#32)) (mulf (shapeCast s g hs) (shapeCast s g hs))))
        (broadcast s (Named.named κ "square" 0x42C8E6D3#32)))) (broadcast s (Scalar.ofBits .f32 0x322BCC77#32))))
      (mulf (broadcast s (Scalar.ofBits .f32 0x3C23D70A#32)) (shapeCast s w hs))) = deltas w g a v := by
  rw [mean_tile, square_tile, shapeCast_self]
  exact funext fun y => unbiased _ _ (IdealRules.named_const.ideal_named_scalar _ _ _ _ hc) (IdealRules.named_const.ideal_named_scalar _ _ _ _ hd) _ _ _

/-- What a call's two named constants are. -/
theorem named (κ : String → Option EReal) (hc : κ "mean" = some (((5463681 / 8388608)⁻¹ : ℝ) : EReal)) (hd : κ "square" = some (((2672307 / 268435456)⁻¹ : ℝ) : EReal)) :
    IdealRules.named_const.Statement κ "mean" .f32 0x3FC48605#32 (((5463681 / 8388608)⁻¹ : ℝ) : EReal)
      ∧ IdealRules.named_const.Statement κ "square" .f32 0x42C8E6D3#32 (((2672307 / 268435456)⁻¹ : ℝ) : EReal) :=
  ⟨IdealRules.named_const.statement _ _ _ _ _ hc, IdealRules.named_const.statement _ _ _ _ _ hd⟩

/-- A block of whole rows has the entries of its rows. -/
theorem inside {q y e : Fin 2 → ℕ} {r n : ℕ} (he : e = ![r, n]) (hq : q = ![y 0 / r, 0]) (hr : 0 < r) (hy : y 1 < n) (a : Fin 2) : q a * e a ≤ y a ∧ y a < q a * e a + e a := by
  subst he hq
  match a with
  | 0 => exact ⟨Nat.div_mul_le_self _ _, Nat.lt_div_mul_add hr⟩
  | 1 => exact ⟨by simp, by simpa using hy⟩

end Cert.Steps

end
-- ==== Proof.AdaStep.lean ====
/- The optimiser's step of the weight `w_ada`, on a chip's part of it. -/
module

public import proofs.«01_k».proof.Defs
public import proofs.«01_k».proof.Proof.Gen.AdaStepIdeal.Value
public import proofs.«01_k».proof.Proof.Gen.AdaStepReferenceIdeal.Run
public import proofs.«01_k».proof.Proof.Steps
public import Idealize.ShloMosaic.Lib.StableHlo.ReadAt

@[expose] public section

set_option maxRecDepth 16384

noncomputable section

namespace Cert.AdaStepIdeal.Step

open Cert.AdaStepIdeal Cert.AdaStepIdeal.Gen Cert.Steps Cert.Products Idealize.ShloMosaic Idealize.ShloMosaic.TcCoe Idealize.SL.Sem

variable (m : (ℓ : Loc nD τ sig) → Buf (Elt Ideal) ℓ) (c : Dev nD)

/-- An argument, its layers' rows on one axis. -/
abbrev flat (a : Vec Ideal S2x1024x1536 .f32) : Vec Ideal S2048x1536 .f32 := shapeCast S2048x1536 a Facts₀.shapeCasts_S2x1024x1536_S2048x1536

/-- The call gets the arguments so. -/
theorem given : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  refine ⟨?_, ?_, ?_, ?_⟩ <;> (unfold V; after_reads_simp; rfl)

/-- What a point leaves in its three blocks. -/
theorem left (x0 x1 x2 x3 : Vec Ideal S256x1536 .f32) :
    out0_4 x0 x1 x2 x3 = deltas x0 x1 x2 x3 ∧ out0_5 x0 x1 x2 x3 = means x1 x2 ∧ out0_6 x0 x1 x2 x3 = squares x1 x3 := by
  unfold out0_4 out0_5 out0_6
  simp only [View.canon_unit_zero (S := S256x1536) zero2, View.ld_unit_zero (S := S256x1536) zero2]
  exact ⟨delta_tile κ rfl rfl _ _ _ _ _, mean_tile _ _ _, square_tile _ _ _⟩

/-- The points write the rows in turn. -/
theorem covered (y : S2048x1536.Idx) : ∃ t : Fin cfg0.N, (cfg0.win 4).flush t = true ∧ y ∈ ((cfg0.win 4).blk t).view.set := by
  have b0 : (y 0).val < 2048 := (y 0).isLt
  have ht : (y 0).val / 256 < cfg0.N := lt_of_lt_of_eq (by omega) N_0.symm
  refine ⟨⟨_, ht⟩, flush0_4 _, ?_⟩
  show y ∈ ((View.whole main_v4_0).slice (win0_4.rect ⟨_, ht⟩)).set
  rw [View.set_slice_whole, Rect.mem_set_unit]
  exact inside (y := fun a => (y a).val) (n := 1536) rfl ((by decide +kernel : ∀ t : Fin grid0.N, win0_4.index t = ![t.val, 0]) ⟨_, ht⟩) (by norm_num) (y 1).isLt

/-- Kernel and reference take the same step. -/
theorem same : Cert.algebraic_AdaStepIdeal_AdaStepReferenceIdeal := by
  intro m g m' g' _ hm
  refine ⟨fun c => deltas (V m c main_v0) (V m c main_v1) (V m c main_v2) (V m c main_v3),
    fun c => means (V m c main_v1) (V m c main_v2), fun c => squares (V m c main_v1) (V m c main_v3), ?_, ?_⟩
  · exact (θ_run _ _ _).mono (fun r h c =>
      ⟨(h c).1.trans ((dats m 0 c).arrAt_eq_of_cover 4 _ (fun t _ => (Value.flushed4 m c t).trans (funext fun y => congrFun (left _ _ _ _).1 y)) covered),
      (h c).2.1.trans ((dats m 0 c).arrAt_eq_of_cover 5 _ (fun t _ => (Value.flushed5 m c t).trans (funext fun y => congrFun (left (iblk m c 0 t) _ _ (iblk m c 3 t)).2.1 y)) covered),
      (h c).2.2.1.trans ((dats m 0 c).arrAt_eq_of_cover 6 _ (fun t _ => (Value.flushed6 m c t).trans (funext fun y => congrFun (left (iblk m c 0 t) _ (iblk m c 2 t) _).2.2 y)) covered),
      (h c).2.2.2⟩) (Value.run_blocks m g)
  · refine (θ_run _ _ _).mono (fun r h c => ?_) (Cert.AdaStepReferenceIdeal.Value.run m' g')
    obtain ⟨a0, a1, a2, a3⟩ := hm c
    obtain ⟨b0, b1, b2, b3⟩ := given m c
    refine ⟨(h c).1.trans ?_, (h c).2.1.trans ?_, (h c).2.2.1.trans ?_, (h c).2.2.2⟩ <;> simp only [a0, a1, a2, a3, b0, b1, b2, b3] <;> rfl

end Cert.AdaStepIdeal.Step

end
-- ==== Proof.InStep.lean ====
/- The optimiser's step of the weight `w_in`, on a chip's part of it. -/
module

public import proofs.«01_k».proof.Defs
public import proofs.«01_k».proof.Proof.Gen.InStepIdeal.Value
public import proofs.«01_k».proof.Proof.Gen.InStepReferenceIdeal.Run
public import proofs.«01_k».proof.Proof.Steps
public import Idealize.ShloMosaic.Lib.StableHlo.ReadAt

@[expose] public section

set_option maxRecDepth 16384

noncomputable section

namespace Cert.InStepIdeal.Step

open Cert.InStepIdeal Cert.InStepIdeal.Gen Cert.Steps Cert.Products Idealize.ShloMosaic Idealize.ShloMosaic.TcCoe Idealize.SL.Sem

variable (m : (ℓ : Loc nD τ sig) → Buf (Elt Ideal) ℓ) (c : Dev nD)

/-- An argument, its layers' rows on one axis. -/
abbrev flat (a : Vec Ideal S2x1024x820 .f32) : Vec Ideal S2048x820 .f32 := shapeCast S2048x820 a Facts₀.shapeCasts_S2x1024x820_S2048x820

/-- The call gets the arguments so. -/
theorem given : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  refine ⟨?_, ?_, ?_, ?_⟩ <;> (unfold V; after_reads_simp; rfl)

/-- What a point leaves in its three blocks. -/
theorem left (x0 x1 x2 x3 : Vec Ideal S256x820 .f32) :
    out0_4 x0 x1 x2 x3 = deltas x0 x1 x2 x3 ∧ out0_5 x0 x1 x2 x3 = means x1 x2 ∧ out0_6 x0 x1 x2 x3 = squares x1 x3 := by
  unfold out0_4 out0_5 out0_6
  simp only [View.canon_unit_zero (S := S256x820) zero2, View.ld_unit_zero (S := S256x820) zero2]
  exact ⟨delta_tile κ rfl rfl _ _ _ _ _, mean_tile _ _ _, square_tile _ _ _⟩

/-- The points write the rows in turn. -/
theorem covered (y : S2048x820.Idx) : ∃ t : Fin cfg0.N, (cfg0.win 4).flush t = true ∧ y ∈ ((cfg0.win 4).blk t).view.set := by
  have b0 : (y 0).val < 2048 := (y 0).isLt
  have ht : (y 0).val / 256 < cfg0.N := lt_of_lt_of_eq (by omega) N_0.symm
  refine ⟨⟨_, ht⟩, flush0_4 _, ?_⟩
  show y ∈ ((View.whole main_v4_0).slice (win0_4.rect ⟨_, ht⟩)).set
  rw [View.set_slice_whole, Rect.mem_set_unit]
  exact inside (y := fun a => (y a).val) (n := 820) rfl ((by decide +kernel : ∀ t : Fin grid0.N, win0_4.index t = ![t.val, 0]) ⟨_, ht⟩) (by norm_num) (y 1).isLt

/-- Kernel and reference take the same step. -/
theorem same : Cert.algebraic_InStepIdeal_InStepReferenceIdeal := by
  intro m g m' g' _ hm
  refine ⟨fun c => deltas (V m c main_v0) (V m c main_v1) (V m c main_v2) (V m c main_v3),
    fun c => means (V m c main_v1) (V m c main_v2), fun c => squares (V m c main_v1) (V m c main_v3), ?_, ?_⟩
  · exact (θ_run _ _ _).mono (fun r h c =>
      ⟨(h c).1.trans ((dats m 0 c).arrAt_eq_of_cover 4 _ (fun t _ => (Value.flushed4 m c t).trans (funext fun y => congrFun (left _ _ _ _).1 y)) covered),
      (h c).2.1.trans ((dats m 0 c).arrAt_eq_of_cover 5 _ (fun t _ => (Value.flushed5 m c t).trans (funext fun y => congrFun (left (iblk m c 0 t) _ _ (iblk m c 3 t)).2.1 y)) covered),
      (h c).2.2.1.trans ((dats m 0 c).arrAt_eq_of_cover 6 _ (fun t _ => (Value.flushed6 m c t).trans (funext fun y => congrFun (left (iblk m c 0 t) _ (iblk m c 2 t) _).2.2 y)) covered),
      (h c).2.2.2⟩) (Value.run_blocks m g)
  · refine (θ_run _ _ _).mono (fun r h c => ?_) (Cert.InStepReferenceIdeal.Value.run m' g')
    obtain ⟨a0, a1, a2, a3⟩ := hm c
    obtain ⟨b0, b1, b2, b3⟩ := given m c
    refine ⟨(h c).1.trans ?_, (h c).2.1.trans ?_, (h c).2.2.1.trans ?_, (h c).2.2.2⟩ <;> simp only [a0, a1, a2, a3, b0, b1, b2, b3] <;> rfl

end Cert.InStepIdeal.Step

end
-- ==== Proof.ConvStep.lean ====
/- The optimiser's step of the weight `conv_w`, on a chip's part of it. -/
module

public import proofs.«01_k».proof.Defs
public import proofs.«01_k».proof.Proof.Gen.ConvStepIdeal.Value
public import proofs.«01_k».proof.Proof.Gen.ConvStepReferenceIdeal.Run
public import proofs.«01_k».proof.Proof.Steps
public import Idealize.ShloMosaic.Lib.StableHlo.ReadAt

@[expose] public section

set_option maxRecDepth 16384

noncomputable section

namespace Cert.ConvStepIdeal.Step

open Cert.ConvStepIdeal Cert.ConvStepIdeal.Gen Cert.Steps Cert.Products Idealize.ShloMosaic Idealize.ShloMosaic.TcCoe Idealize.SL.Sem

variable (m : (ℓ : Loc nD τ sig) → Buf (Elt Ideal) ℓ) (c : Dev nD)

/-- An argument, its layers' rows on one axis. -/
abbrev flat (a : Vec Ideal S2x4x384 .f32) : Vec Ideal S8x384 .f32 := shapeCast S8x384 a Facts₀.shapeCasts_S2x4x384_S8x384

/-- The call gets the arguments so. -/
theorem given : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  refine ⟨?_, ?_, ?_, ?_⟩ <;> (unfold V; after_reads_simp; rfl)

/-- What a point leaves in its three blocks. -/
theorem left (x0 x1 x2 x3 : Vec Ideal S8x384 .f32) :
    out0_4 x0 x1 x2 x3 = deltas x0 x1 x2 x3 ∧ out0_5 x0 x1 x2 x3 = means x1 x2 ∧ out0_6 x0 x1 x2 x3 = squares x1 x3 := by
  unfold out0_4 out0_5 out0_6
  simp only [View.canon_unit_zero (S := S8x384) zero2, View.ld_unit_zero (S := S8x384) zero2]
  exact ⟨delta_tile κ rfl rfl _ _ _ _ _, mean_tile _ _ _, square_tile _ _ _⟩

/-- The points write the rows in turn. -/
theorem covered (y : S8x384.Idx) : ∃ t : Fin cfg0.N, (cfg0.win 4).flush t = true ∧ y ∈ ((cfg0.win 4).blk t).view.set := by
  have b0 : (y 0).val < 8 := (y 0).isLt
  have ht : (y 0).val / 8 < cfg0.N := lt_of_lt_of_eq (by omega) N_0.symm
  refine ⟨⟨_, ht⟩, flush0_4 _, ?_⟩
  show y ∈ ((View.whole main_v4_0).slice (win0_4.rect ⟨_, ht⟩)).set
  rw [View.set_slice_whole, Rect.mem_set_unit]
  exact inside (y := fun a => (y a).val) (n := 384) rfl ((by decide +kernel : ∀ t : Fin grid0.N, win0_4.index t = ![t.val, 0]) ⟨_, ht⟩) (by norm_num) (y 1).isLt

/-- Kernel and reference take the same step. -/
theorem same : Cert.algebraic_ConvStepIdeal_ConvStepReferenceIdeal := by
  intro m g m' g' _ hm
  refine ⟨fun c => deltas (V m c main_v0) (V m c main_v1) (V m c main_v2) (V m c main_v3),
    fun c => means (V m c main_v1) (V m c main_v2), fun c => squares (V m c main_v1) (V m c main_v3), ?_, ?_⟩
  · exact (θ_run _ _ _).mono (fun r h c =>
      ⟨(h c).1.trans ((dats m 0 c).arrAt_eq_of_cover 4 _ (fun t _ => (Value.flushed4 m c t).trans (funext fun y => congrFun (left _ _ _ _).1 y)) covered),
      (h c).2.1.trans ((dats m 0 c).arrAt_eq_of_cover 5 _ (fun t _ => (Value.flushed5 m c t).trans (funext fun y => congrFun (left (iblk m c 0 t) _ _ (iblk m c 3 t)).2.1 y)) covered),
      (h c).2.2.1.trans ((dats m 0 c).arrAt_eq_of_cover 6 _ (fun t _ => (Value.flushed6 m c t).trans (funext fun y => congrFun (left (iblk m c 0 t) _ (iblk m c 2 t) _).2.2 y)) covered),
      (h c).2.2.2⟩) (Value.run_blocks m g)
  · refine (θ_run _ _ _).mono (fun r h c => ?_) (Cert.ConvStepReferenceIdeal.Value.run m' g')
    obtain ⟨a0, a1, a2, a3⟩ := hm c
    obtain ⟨b0, b1, b2, b3⟩ := given m c
    refine ⟨(h c).1.trans ?_, (h c).2.1.trans ?_, (h c).2.2.1.trans ?_, (h c).2.2.2⟩ <;> simp only [a0, a1, a2, a3, b0, b1, b2, b3] <;> rfl

end Cert.ConvStepIdeal.Step

end
-- ==== Proof.QueryStep.lean ====
/- The optimiser's step of the weight `w_uq`, on a chip's part of it. -/
module

public import proofs.«01_k».proof.Defs
public import proofs.«01_k».proof.Proof.Gen.QueryStepIdeal.Value
public import proofs.«01_k».proof.Proof.Gen.QueryStepReferenceIdeal.Run
public import proofs.«01_k».proof.Proof.Steps
public import Idealize.ShloMosaic.Lib.StableHlo.ReadAt

@[expose] public section

set_option maxRecDepth 16384

noncomputable section

namespace Cert.QueryStepIdeal.Step

open Cert.QueryStepIdeal Cert.QueryStepIdeal.Gen Cert.Steps Cert.Products Idealize.ShloMosaic Idealize.ShloMosaic.TcCoe Idealize.SL.Sem

variable (m : (ℓ : Loc nD τ sig) → Buf (Elt Ideal) ℓ) (c : Dev nD)

/-- An argument, its layers' rows on one axis. -/
abbrev flat (a : Vec Ideal S2x384x384 .f32) : Vec Ideal S768x384 .f32 := shapeCast S768x384 a Facts₀.shapeCasts_S2x384x384_S768x384

/-- The call gets the arguments so. -/
theorem given : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  refine ⟨?_, ?_, ?_, ?_⟩ <;> (unfold V; after_reads_simp; rfl)

/-- What a point leaves in its three blocks. -/
theorem left (x0 x1 x2 x3 : Vec Ideal S256x384 .f32) :
    out0_4 x0 x1 x2 x3 = deltas x0 x1 x2 x3 ∧ out0_5 x0 x1 x2 x3 = means x1 x2 ∧ out0_6 x0 x1 x2 x3 = squares x1 x3 := by
  unfold out0_4 out0_5 out0_6
  simp only [View.canon_unit_zero (S := S256x384) zero2, View.ld_unit_zero (S := S256x384) zero2]
  exact ⟨delta_tile κ rfl rfl _ _ _ _ _, mean_tile _ _ _, square_tile _ _ _⟩

/-- The points write the rows in turn. -/
theorem covered (y : S768x384.Idx) : ∃ t : Fin cfg0.N, (cfg0.win 4).flush t = true ∧ y ∈ ((cfg0.win 4).blk t).view.set := by
  have b0 : (y 0).val < 768 := (y 0).isLt
  have ht : (y 0).val / 256 < cfg0.N := lt_of_lt_of_eq (by omega) N_0.symm
  refine ⟨⟨_, ht⟩, flush0_4 _, ?_⟩
  show y ∈ ((View.whole main_v4_0).slice (win0_4.rect ⟨_, ht⟩)).set
  rw [View.set_slice_whole, Rect.mem_set_unit]
  exact inside (y := fun a => (y a).val) (n := 384) rfl ((by decide +kernel : ∀ t : Fin grid0.N, win0_4.index t = ![t.val, 0]) ⟨_, ht⟩) (by norm_num) (y 1).isLt

/-- Kernel and reference take the same step. -/
theorem same : Cert.algebraic_QueryStepIdeal_QueryStepReferenceIdeal := by
  intro m g m' g' _ hm
  refine ⟨fun c => deltas (V m c main_v0) (V m c main_v1) (V m c main_v2) (V m c main_v3),
    fun c => means (V m c main_v1) (V m c main_v2), fun c => squares (V m c main_v1) (V m c main_v3), ?_, ?_⟩
  · exact (θ_run _ _ _).mono (fun r h c =>
      ⟨(h c).1.trans ((dats m 0 c).arrAt_eq_of_cover 4 _ (fun t _ => (Value.flushed4 m c t).trans (funext fun y => congrFun (left _ _ _ _).1 y)) covered),
      (h c).2.1.trans ((dats m 0 c).arrAt_eq_of_cover 5 _ (fun t _ => (Value.flushed5 m c t).trans (funext fun y => congrFun (left (iblk m c 0 t) _ _ (iblk m c 3 t)).2.1 y)) covered),
      (h c).2.2.1.trans ((dats m 0 c).arrAt_eq_of_cover 6 _ (fun t _ => (Value.flushed6 m c t).trans (funext fun y => congrFun (left (iblk m c 0 t) _ (iblk m c 2 t) _).2.2 y)) covered),
      (h c).2.2.2⟩) (Value.run_blocks m g)
  · refine (θ_run _ _ _).mono (fun r h c => ?_) (Cert.QueryStepReferenceIdeal.Value.run m' g')
    obtain ⟨a0, a1, a2, a3⟩ := hm c
    obtain ⟨b0, b1, b2, b3⟩ := given m c
    refine ⟨(h c).1.trans ?_, (h c).2.1.trans ?_, (h c).2.2.1.trans ?_, (h c).2.2.2⟩ <;> simp only [a0, a1, a2, a3, b0, b1, b2, b3] <;> rfl

end Cert.QueryStepIdeal.Step

end
-- ==== Proof.KeyStep.lean ====
/- The optimiser's step of the weight `w_ukv`, on a chip's part of it. -/
module

public import proofs.«01_k».proof.Defs
public import proofs.«01_k».proof.Proof.Gen.KeyStepIdeal.Value
public import proofs.«01_k».proof.Proof.Gen.KeyStepReferenceIdeal.Run
public import proofs.«01_k».proof.Proof.Steps
public import Idealize.ShloMosaic.Lib.StableHlo.ReadAt

@[expose] public section

set_option maxRecDepth 16384

noncomputable section

namespace Cert.KeyStepIdeal.Step

open Cert.KeyStepIdeal Cert.KeyStepIdeal.Gen Cert.Steps Cert.Products Idealize.ShloMosaic Idealize.ShloMosaic.TcCoe Idealize.SL.Sem

variable (m : (ℓ : Loc nD τ sig) → Buf (Elt Ideal) ℓ) (c : Dev nD)

/-- An argument, its layers' rows on one axis. -/
abbrev flat (a : Vec Ideal S2x256x512 .f32) : Vec Ideal S512x512 .f32 := shapeCast S512x512 a Facts₀.shapeCasts_S2x256x512_S512x512

/-- The call gets the arguments so. -/
theorem given : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  refine ⟨?_, ?_, ?_, ?_⟩ <;> (unfold V; after_reads_simp; rfl)

/-- What a point leaves in its three blocks. -/
theorem left (x0 x1 x2 x3 : Vec Ideal S256x512 .f32) :
    out0_4 x0 x1 x2 x3 = deltas x0 x1 x2 x3 ∧ out0_5 x0 x1 x2 x3 = means x1 x2 ∧ out0_6 x0 x1 x2 x3 = squares x1 x3 := by
  unfold out0_4 out0_5 out0_6
  simp only [View.canon_unit_zero (S := S256x512) zero2, View.ld_unit_zero (S := S256x512) zero2]
  exact ⟨delta_tile κ rfl rfl _ _ _ _ _, mean_tile _ _ _, square_tile _ _ _⟩

/-- The points write the rows in turn. -/
theorem covered (y : S512x512.Idx) : ∃ t : Fin cfg0.N, (cfg0.win 4).flush t = true ∧ y ∈ ((cfg0.win 4).blk t).view.set := by
  have b0 : (y 0).val < 512 := (y 0).isLt
  have ht : (y 0).val / 256 < cfg0.N := lt_of_lt_of_eq (by omega) N_0.symm
  refine ⟨⟨_, ht⟩, flush0_4 _, ?_⟩
  show y ∈ ((View.whole main_v4_0).slice (win0_4.rect ⟨_, ht⟩)).set
  rw [View.set_slice_whole, Rect.mem_set_unit]
  exact inside (y := fun a => (y a).val) (n := 512) rfl ((by decide +kernel : ∀ t : Fin grid0.N, win0_4.index t = ![t.val, 0]) ⟨_, ht⟩) (by norm_num) (y 1).isLt

/-- Kernel and reference take the same step. -/
theorem same : Cert.algebraic_KeyStepIdeal_KeyStepReferenceIdeal := by
  intro m g m' g' _ hm
  refine ⟨fun c => deltas (V m c main_v0) (V m c main_v1) (V m c main_v2) (V m c main_v3),
    fun c => means (V m c main_v1) (V m c main_v2), fun c => squares (V m c main_v1) (V m c main_v3), ?_, ?_⟩
  · exact (θ_run _ _ _).mono (fun r h c =>
      ⟨(h c).1.trans ((dats m 0 c).arrAt_eq_of_cover 4 _ (fun t _ => (Value.flushed4 m c t).trans (funext fun y => congrFun (left _ _ _ _).1 y)) covered),
      (h c).2.1.trans ((dats m 0 c).arrAt_eq_of_cover 5 _ (fun t _ => (Value.flushed5 m c t).trans (funext fun y => congrFun (left (iblk m c 0 t) _ _ (iblk m c 3 t)).2.1 y)) covered),
      (h c).2.2.1.trans ((dats m 0 c).arrAt_eq_of_cover 6 _ (fun t _ => (Value.flushed6 m c t).trans (funext fun y => congrFun (left (iblk m c 0 t) _ (iblk m c 2 t) _).2.2 y)) covered),
      (h c).2.2.2⟩) (Value.run_blocks m g)
  · refine (θ_run _ _ _).mono (fun r h c => ?_) (Cert.KeyStepReferenceIdeal.Value.run m' g')
    obtain ⟨a0, a1, a2, a3⟩ := hm c
    obtain ⟨b0, b1, b2, b3⟩ := given m c
    refine ⟨(h c).1.trans ?_, (h c).2.1.trans ?_, (h c).2.2.1.trans ?_, (h c).2.2.2⟩ <;> simp only [a0, a1, a2, a3, b0, b1, b2, b3] <;> rfl

end Cert.KeyStepIdeal.Step

end
-- ==== Proof.OutStep.lean ====
/- The optimiser's step of the weight `w_out`, on a chip's part of it. -/
module

public import proofs.«01_k».proof.Defs
public import proofs.«01_k».proof.Proof.Gen.OutStepIdeal.Value
public import proofs.«01_k».proof.Proof.Gen.OutStepReferenceIdeal.Run
public import proofs.«01_k».proof.Proof.Steps
public import Idealize.ShloMosaic.Lib.StableHlo.ReadAt

@[expose] public section

set_option maxRecDepth 16384

noncomputable section

namespace Cert.OutStepIdeal.Step

open Cert.OutStepIdeal Cert.OutStepIdeal.Gen Cert.Steps Cert.Products Idealize.ShloMosaic Idealize.ShloMosaic.TcCoe Idealize.SL.Sem

variable (m : (ℓ : Loc nD τ sig) → Buf (Elt Ideal) ℓ) (c : Dev nD)

/-- An argument, its layers' rows on one axis. -/
abbrev flat (a : Vec Ideal S2x512x1024 .f32) : Vec Ideal S1024x1024 .f32 := shapeCast S1024x1024 a Facts₀.shapeCasts_S2x512x1024_S1024x1024

/-- The call gets the arguments so. -/
theorem given : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  refine ⟨?_, ?_, ?_, ?_⟩ <;> (unfold V; after_reads_simp; rfl)

/-- What a point leaves in its three blocks. -/
theorem left (x0 x1 x2 x3 : Vec Ideal S256x1024 .f32) :
    out0_4 x0 x1 x2 x3 = deltas x0 x1 x2 x3 ∧ out0_5 x0 x1 x2 x3 = means x1 x2 ∧ out0_6 x0 x1 x2 x3 = squares x1 x3 := by
  unfold out0_4 out0_5 out0_6
  simp only [View.canon_unit_zero (S := S256x1024) zero2, View.ld_unit_zero (S := S256x1024) zero2]
  exact ⟨delta_tile κ rfl rfl _ _ _ _ _, mean_tile _ _ _, square_tile _ _ _⟩

/-- The points write the rows in turn. -/
theorem covered (y : S1024x1024.Idx) : ∃ t : Fin cfg0.N, (cfg0.win 4).flush t = true ∧ y ∈ ((cfg0.win 4).blk t).view.set := by
  have b0 : (y 0).val < 1024 := (y 0).isLt
  have ht : (y 0).val / 256 < cfg0.N := lt_of_lt_of_eq (by omega) N_0.symm
  refine ⟨⟨_, ht⟩, flush0_4 _, ?_⟩
  show y ∈ ((View.whole main_v4_0).slice (win0_4.rect ⟨_, ht⟩)).set
  rw [View.set_slice_whole, Rect.mem_set_unit]
  exact inside (y := fun a => (y a).val) (n := 1024) rfl ((by decide +kernel : ∀ t : Fin grid0.N, win0_4.index t = ![t.val, 0]) ⟨_, ht⟩) (by norm_num) (y 1).isLt

/-- Kernel and reference take the same step. -/
theorem same : Cert.algebraic_OutStepIdeal_OutStepReferenceIdeal := by
  intro m g m' g' _ hm
  refine ⟨fun c => deltas (V m c main_v0) (V m c main_v1) (V m c main_v2) (V m c main_v3),
    fun c => means (V m c main_v1) (V m c main_v2), fun c => squares (V m c main_v1) (V m c main_v3), ?_, ?_⟩
  · exact (θ_run _ _ _).mono (fun r h c =>
      ⟨(h c).1.trans ((dats m 0 c).arrAt_eq_of_cover 4 _ (fun t _ => (Value.flushed4 m c t).trans (funext fun y => congrFun (left _ _ _ _).1 y)) covered),
      (h c).2.1.trans ((dats m 0 c).arrAt_eq_of_cover 5 _ (fun t _ => (Value.flushed5 m c t).trans (funext fun y => congrFun (left (iblk m c 0 t) _ _ (iblk m c 3 t)).2.1 y)) covered),
      (h c).2.2.1.trans ((dats m 0 c).arrAt_eq_of_cover 6 _ (fun t _ => (Value.flushed6 m c t).trans (funext fun y => congrFun (left (iblk m c 0 t) _ (iblk m c 2 t) _).2.2 y)) covered),
      (h c).2.2.2⟩) (Value.run_blocks m g)
  · refine (θ_run _ _ _).mono (fun r h c => ?_) (Cert.OutStepReferenceIdeal.Value.run m' g')
    obtain ⟨a0, a1, a2, a3⟩ := hm c
    obtain ⟨b0, b1, b2, b3⟩ := given m c
    refine ⟨(h c).1.trans ?_, (h c).2.1.trans ?_, (h c).2.2.1.trans ?_, (h c).2.2.2⟩ <;> simp only [a0, a1, a2, a3, b0, b1, b2, b3] <;> rfl

end Cert.OutStepIdeal.Step

end
-- ==== Proof.UpStep.lean ====
/- The optimiser's step of the weight `w_up`, on a chip's part of it. -/
module

public import proofs.«01_k».proof.Defs
public import proofs.«01_k».proof.Proof.Gen.UpStepIdeal.Value
public import proofs.«01_k».proof.Proof.Gen.UpStepReferenceIdeal.Run
public import proofs.«01_k».proof.Proof.Steps
public import Idealize.ShloMosaic.Lib.StableHlo.ReadAt

@[expose] public section

set_option maxRecDepth 16384

noncomputable section

namespace Cert.UpStepIdeal.Step

open Cert.UpStepIdeal Cert.UpStepIdeal.Gen Cert.Steps Cert.Products Idealize.ShloMosaic Idealize.ShloMosaic.TcCoe Idealize.SL.Sem

variable (m : (ℓ : Loc nD τ sig) → Buf (Elt Ideal) ℓ) (c : Dev nD)

/-- An argument, its layers' rows on one axis. -/
abbrev flat (a : Vec Ideal S2x1024x1408 .f32) : Vec Ideal S2048x1408 .f32 := shapeCast S2048x1408 a Facts₀.shapeCasts_S2x1024x1408_S2048x1408

/-- The call gets the arguments so. -/
theorem given : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  refine ⟨?_, ?_, ?_, ?_⟩ <;> (unfold V; after_reads_simp; rfl)

/-- What a point leaves in its three blocks. -/
theorem left (x0 x1 x2 x3 : Vec Ideal S256x1408 .f32) :
    out0_4 x0 x1 x2 x3 = deltas x0 x1 x2 x3 ∧ out0_5 x0 x1 x2 x3 = means x1 x2 ∧ out0_6 x0 x1 x2 x3 = squares x1 x3 := by
  unfold out0_4 out0_5 out0_6
  simp only [View.canon_unit_zero (S := S256x1408) zero2, View.ld_unit_zero (S := S256x1408) zero2]
  exact ⟨delta_tile κ rfl rfl _ _ _ _ _, mean_tile _ _ _, square_tile _ _ _⟩

/-- The points write the rows in turn. -/
theorem covered (y : S2048x1408.Idx) : ∃ t : Fin cfg0.N, (cfg0.win 4).flush t = true ∧ y ∈ ((cfg0.win 4).blk t).view.set := by
  have b0 : (y 0).val < 2048 := (y 0).isLt
  have ht : (y 0).val / 256 < cfg0.N := lt_of_lt_of_eq (by omega) N_0.symm
  refine ⟨⟨_, ht⟩, flush0_4 _, ?_⟩
  show y ∈ ((View.whole main_v4_0).slice (win0_4.rect ⟨_, ht⟩)).set
  rw [View.set_slice_whole, Rect.mem_set_unit]
  exact inside (y := fun a => (y a).val) (n := 1408) rfl ((by decide +kernel : ∀ t : Fin grid0.N, win0_4.index t = ![t.val, 0]) ⟨_, ht⟩) (by norm_num) (y 1).isLt

/-- Kernel and reference take the same step. -/
theorem same : Cert.algebraic_UpStepIdeal_UpStepReferenceIdeal := by
  intro m g m' g' _ hm
  refine ⟨fun c => deltas (V m c main_v0) (V m c main_v1) (V m c main_v2) (V m c main_v3),
    fun c => means (V m c main_v1) (V m c main_v2), fun c => squares (V m c main_v1) (V m c main_v3), ?_, ?_⟩
  · exact (θ_run _ _ _).mono (fun r h c =>
      ⟨(h c).1.trans ((dats m 0 c).arrAt_eq_of_cover 4 _ (fun t _ => (Value.flushed4 m c t).trans (funext fun y => congrFun (left _ _ _ _).1 y)) covered),
      (h c).2.1.trans ((dats m 0 c).arrAt_eq_of_cover 5 _ (fun t _ => (Value.flushed5 m c t).trans (funext fun y => congrFun (left (iblk m c 0 t) _ _ (iblk m c 3 t)).2.1 y)) covered),
      (h c).2.2.1.trans ((dats m 0 c).arrAt_eq_of_cover 6 _ (fun t _ => (Value.flushed6 m c t).trans (funext fun y => congrFun (left (iblk m c 0 t) _ (iblk m c 2 t) _).2.2 y)) covered),
      (h c).2.2.2⟩) (Value.run_blocks m g)
  · refine (θ_run _ _ _).mono (fun r h c => ?_) (Cert.UpStepReferenceIdeal.Value.run m' g')
    obtain ⟨a0, a1, a2, a3⟩ := hm c
    obtain ⟨b0, b1, b2, b3⟩ := given m c
    refine ⟨(h c).1.trans ?_, (h c).2.1.trans ?_, (h c).2.2.1.trans ?_, (h c).2.2.2⟩ <;> simp only [a0, a1, a2, a3, b0, b1, b2, b3] <;> rfl

end Cert.UpStepIdeal.Step

end
-- ==== Proof.GateStep.lean ====
/- The optimiser's step of the weight `conv_ff_w`, on a chip's part of it. -/
module

public import proofs.«01_k».proof.Defs
public import proofs.«01_k».proof.Proof.Gen.GateStepIdeal.Value
public import proofs.«01_k».proof.Proof.Gen.GateStepReferenceIdeal.Run
public import proofs.«01_k».proof.Proof.Steps
public import Idealize.ShloMosaic.Lib.StableHlo.ReadAt

@[expose] public section

set_option maxRecDepth 16384

noncomputable section

namespace Cert.GateStepIdeal.Step

open Cert.GateStepIdeal Cert.GateStepIdeal.Gen Cert.Steps Cert.Products Idealize.ShloMosaic Idealize.ShloMosaic.TcCoe Idealize.SL.Sem

variable (m : (ℓ : Loc nD τ sig) → Buf (Elt Ideal) ℓ) (c : Dev nD)

/-- An argument, its layers' rows on one axis. -/
abbrev flat (a : Vec Ideal S2x3x1408 .f32) : Vec Ideal S6x1408 .f32 := shapeCast S6x1408 a Facts₀.shapeCasts_S2x3x1408_S6x1408

/-- The call gets the arguments so. -/
theorem given : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  refine ⟨?_, ?_, ?_, ?_⟩ <;> (unfold V; after_reads_simp; rfl)

/-- What a point leaves in its three blocks. -/
theorem left (x0 x1 x2 x3 : Vec Ideal S6x1408 .f32) :
    out0_4 x0 x1 x2 x3 = deltas x0 x1 x2 x3 ∧ out0_5 x0 x1 x2 x3 = means x1 x2 ∧ out0_6 x0 x1 x2 x3 = squares x1 x3 := by
  unfold out0_4 out0_5 out0_6
  simp only [View.canon_unit_zero (S := S6x1408) zero2, View.ld_unit_zero (S := S6x1408) zero2]
  exact ⟨delta_tile κ rfl rfl _ _ _ _ _, mean_tile _ _ _, square_tile _ _ _⟩

/-- The points write the rows in turn. -/
theorem covered (y : S6x1408.Idx) : ∃ t : Fin cfg0.N, (cfg0.win 4).flush t = true ∧ y ∈ ((cfg0.win 4).blk t).view.set := by
  have b0 : (y 0).val < 6 := (y 0).isLt
  have ht : (y 0).val / 6 < cfg0.N := lt_of_lt_of_eq (by omega) N_0.symm
  refine ⟨⟨_, ht⟩, flush0_4 _, ?_⟩
  show y ∈ ((View.whole main_v4_0).slice (win0_4.rect ⟨_, ht⟩)).set
  rw [View.set_slice_whole, Rect.mem_set_unit]
  exact inside (y := fun a => (y a).val) (n := 1408) rfl ((by decide +kernel : ∀ t : Fin grid0.N, win0_4.index t = ![t.val, 0]) ⟨_, ht⟩) (by norm_num) (y 1).isLt

/-- Kernel and reference take the same step. -/
theorem same : Cert.algebraic_GateStepIdeal_GateStepReferenceIdeal := by
  intro m g m' g' _ hm
  refine ⟨fun c => deltas (V m c main_v0) (V m c main_v1) (V m c main_v2) (V m c main_v3),
    fun c => means (V m c main_v1) (V m c main_v2), fun c => squares (V m c main_v1) (V m c main_v3), ?_, ?_⟩
  · exact (θ_run _ _ _).mono (fun r h c =>
      ⟨(h c).1.trans ((dats m 0 c).arrAt_eq_of_cover 4 _ (fun t _ => (Value.flushed4 m c t).trans (funext fun y => congrFun (left _ _ _ _).1 y)) covered),
      (h c).2.1.trans ((dats m 0 c).arrAt_eq_of_cover 5 _ (fun t _ => (Value.flushed5 m c t).trans (funext fun y => congrFun (left (iblk m c 0 t) _ _ (iblk m c 3 t)).2.1 y)) covered),
      (h c).2.2.1.trans ((dats m 0 c).arrAt_eq_of_cover 6 _ (fun t _ => (Value.flushed6 m c t).trans (funext fun y => congrFun (left (iblk m c 0 t) _ (iblk m c 2 t) _).2.2 y)) covered),
      (h c).2.2.2⟩) (Value.run_blocks m g)
  · refine (θ_run _ _ _).mono (fun r h c => ?_) (Cert.GateStepReferenceIdeal.Value.run m' g')
    obtain ⟨a0, a1, a2, a3⟩ := hm c
    obtain ⟨b0, b1, b2, b3⟩ := given m c
    refine ⟨(h c).1.trans ?_, (h c).2.1.trans ?_, (h c).2.2.1.trans ?_, (h c).2.2.2⟩ <;> simp only [a0, a1, a2, a3, b0, b1, b2, b3] <;> rfl

end Cert.GateStepIdeal.Step

end
-- ==== Proof.DownStep.lean ====
/- The optimiser's step of the weight `w_down`, on a chip's part of it. -/
module

public import proofs.«01_k».proof.Defs
public import proofs.«01_k».proof.Proof.Gen.DownStepIdeal.Value
public import proofs.«01_k».proof.Proof.Gen.DownStepReferenceIdeal.Run
public import proofs.«01_k».proof.Proof.Steps
public import Idealize.ShloMosaic.Lib.StableHlo.ReadAt

@[expose] public section

set_option maxRecDepth 16384

noncomputable section

namespace Cert.DownStepIdeal.Step

open Cert.DownStepIdeal Cert.DownStepIdeal.Gen Cert.Steps Cert.Products Idealize.ShloMosaic Idealize.ShloMosaic.TcCoe Idealize.SL.Sem

variable (m : (ℓ : Loc nD τ sig) → Buf (Elt Ideal) ℓ) (c : Dev nD)

/-- An argument, its layers' rows on one axis. -/
abbrev flat (a : Vec Ideal S2x704x1024 .f32) : Vec Ideal S1408x1024 .f32 := shapeCast S1408x1024 a Facts₀.shapeCasts_S2x704x1024_S1408x1024

/-- The call gets the arguments so. -/
theorem given : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3)) := by
  refine ⟨?_, ?_, ?_, ?_⟩ <;> (unfold V; after_reads_simp; rfl)

/-- What a point leaves in its three blocks. -/
theorem left (x0 x1 x2 x3 : Vec Ideal S128x1024 .f32) :
    out0_4 x0 x1 x2 x3 = deltas x0 x1 x2 x3 ∧ out0_5 x0 x1 x2 x3 = means x1 x2 ∧ out0_6 x0 x1 x2 x3 = squares x1 x3 := by
  unfold out0_4 out0_5 out0_6
  simp only [View.canon_unit_zero (S := S128x1024) zero2, View.ld_unit_zero (S := S128x1024) zero2]
  exact ⟨delta_tile κ rfl rfl _ _ _ _ _, mean_tile _ _ _, square_tile _ _ _⟩

/-- The points write the rows in turn. -/
theorem covered (y : S1408x1024.Idx) : ∃ t : Fin cfg0.N, (cfg0.win 4).flush t = true ∧ y ∈ ((cfg0.win 4).blk t).view.set := by
  have b0 : (y 0).val < 1408 := (y 0).isLt
  have ht : (y 0).val / 128 < cfg0.N := lt_of_lt_of_eq (by omega) N_0.symm
  refine ⟨⟨_, ht⟩, flush0_4 _, ?_⟩
  show y ∈ ((View.whole main_v4_0).slice (win0_4.rect ⟨_, ht⟩)).set
  rw [View.set_slice_whole, Rect.mem_set_unit]
  exact inside (y := fun a => (y a).val) (n := 1024) rfl ((by decide +kernel : ∀ t : Fin grid0.N, win0_4.index t = ![t.val, 0]) ⟨_, ht⟩) (by norm_num) (y 1).isLt

/-- Kernel and reference take the same step. -/
theorem same : Cert.algebraic_DownStepIdeal_DownStepReferenceIdeal := by
  intro m g m' g' _ hm
  refine ⟨fun c => deltas (V m c main_v0) (V m c main_v1) (V m c main_v2) (V m c main_v3),
    fun c => means (V m c main_v1) (V m c main_v2), fun c => squares (V m c main_v1) (V m c main_v3), ?_, ?_⟩
  · exact (θ_run _ _ _).mono (fun r h c =>
      ⟨(h c).1.trans ((dats m 0 c).arrAt_eq_of_cover 4 _ (fun t _ => (Value.flushed4 m c t).trans (funext fun y => congrFun (left _ _ _ _).1 y)) covered),
      (h c).2.1.trans ((dats m 0 c).arrAt_eq_of_cover 5 _ (fun t _ => (Value.flushed5 m c t).trans (funext fun y => congrFun (left (iblk m c 0 t) _ _ (iblk m c 3 t)).2.1 y)) covered),
      (h c).2.2.1.trans ((dats m 0 c).arrAt_eq_of_cover 6 _ (fun t _ => (Value.flushed6 m c t).trans (funext fun y => congrFun (left (iblk m c 0 t) _ (iblk m c 2 t) _).2.2 y)) covered),
      (h c).2.2.2⟩) (Value.run_blocks m g)
  · refine (θ_run _ _ _).mono (fun r h c => ?_) (Cert.DownStepReferenceIdeal.Value.run m' g')
    obtain ⟨a0, a1, a2, a3⟩ := hm c
    obtain ⟨b0, b1, b2, b3⟩ := given m c
    refine ⟨(h c).1.trans ?_, (h c).2.1.trans ?_, (h c).2.2.1.trans ?_, (h c).2.2.2⟩ <;> simp only [a0, a1, a2, a3, b0, b1, b2, b3] <;> rfl

end Cert.DownStepIdeal.Step

end
-- ==== Proof.lean ====
/- The proof of the certificate's claims: the programs' frames, that the named constants are the numbers
   their names say, that the attention's kernel and reference end with the same three arrays, that each
   product's kernel and reference end with the same array, and each optimiser step's with the same three. -/
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.RefOut
public import proofs.«01_k».proof.Proof.Finite
public import proofs.«01_k».proof.Proof.Gen.UpData.Frame
public import proofs.«01_k».proof.Proof.Gen.UpDataIdeal.Value
public import proofs.«01_k».proof.Proof.Gen.UpDataReferenceIdeal.Run
public import proofs.«01_k».proof.Proof.UpDataProduct
public import proofs.«01_k».proof.Proof.Gen.DownData.Frame
public import proofs.«01_k».proof.Proof.Gen.DownDataIdeal.Value
public import proofs.«01_k».proof.Proof.Gen.DownDataReferenceIdeal.Run
public import proofs.«01_k».proof.Proof.DownDataProduct
public import proofs.«01_k».proof.Proof.Gen.InData.Frame
public import proofs.«01_k».proof.Proof.Gen.InDataIdeal.Value
public import proofs.«01_k».proof.Proof.Gen.InDataReferenceIdeal.Run
public import proofs.«01_k».proof.Proof.InDataProduct
public import proofs.«01_k».proof.Proof.Gen.OutData.Frame
public import proofs.«01_k».proof.Proof.Gen.OutDataIdeal.Value
public import proofs.«01_k».proof.Proof.Gen.OutDataReferenceIdeal.Run
public import proofs.«01_k».proof.Proof.OutDataProduct
public import proofs.«01_k».proof.Proof.Gen.Up.Frame
public import proofs.«01_k».proof.Proof.Gen.UpIdeal.Value
public import proofs.«01_k».proof.Proof.Gen.UpReferenceIdeal.Run
public import proofs.«01_k».proof.Proof.UpProduct
public import proofs.«01_k».proof.Proof.Gen.Down.Frame
public import proofs.«01_k».proof.Proof.Gen.DownIdeal.Value
public import proofs.«01_k».proof.Proof.Gen.DownReferenceIdeal.Run
public import proofs.«01_k».proof.Proof.DownProduct
public import proofs.«01_k».proof.Proof.Gen.In.Frame
public import proofs.«01_k».proof.Proof.Gen.InIdeal.Value
public import proofs.«01_k».proof.Proof.Gen.InReferenceIdeal.Run
public import proofs.«01_k».proof.Proof.InProduct
public import proofs.«01_k».proof.Proof.Gen.Out.Frame
public import proofs.«01_k».proof.Proof.Gen.OutIdeal.Value
public import proofs.«01_k».proof.Proof.Gen.OutReferenceIdeal.Run
public import proofs.«01_k».proof.Proof.OutProduct
public import proofs.«01_k».proof.Proof.Gen.UpDataFirst.Frame
public import proofs.«01_k».proof.Proof.Gen.UpDataFirstIdeal.Value
public import proofs.«01_k».proof.Proof.Gen.UpDataFirstReferenceIdeal.Run
public import proofs.«01_k».proof.Proof.UpDataFirstProduct
public import proofs.«01_k».proof.Proof.Gen.DownDataFirst.Frame
public import proofs.«01_k».proof.Proof.Gen.DownDataFirstIdeal.Value
public import proofs.«01_k».proof.Proof.Gen.DownDataFirstReferenceIdeal.Run
public import proofs.«01_k».proof.Proof.DownDataFirstProduct
public import proofs.«01_k».proof.Proof.Gen.InDataFirst.Frame
public import proofs.«01_k».proof.Proof.Gen.InDataFirstIdeal.Value
public import proofs.«01_k».proof.Proof.Gen.InDataFirstReferenceIdeal.Run
public import proofs.«01_k».proof.Proof.InDataFirstProduct
public import proofs.«01_k».proof.Proof.Gen.OutDataFirst.Frame
public import proofs.«01_k».proof.Proof.Gen.OutDataFirstIdeal.Value
public import proofs.«01_k».proof.Proof.Gen.OutDataFirstReferenceIdeal.Run
public import proofs.«01_k».proof.Proof.OutDataFirstProduct
public import proofs.«01_k».proof.Proof.Gen.UpFirst.Frame
public import proofs.«01_k».proof.Proof.Gen.UpFirstIdeal.Value
public import proofs.«01_k».proof.Proof.Gen.UpFirstReferenceIdeal.Run
public import proofs.«01_k».proof.Proof.UpFirstProduct
public import proofs.«01_k».proof.Proof.Gen.DownFirst.Frame
public import proofs.«01_k».proof.Proof.Gen.DownFirstIdeal.Value
public import proofs.«01_k».proof.Proof.Gen.DownFirstReferenceIdeal.Run
public import proofs.«01_k».proof.Proof.DownFirstProduct
public import proofs.«01_k».proof.Proof.Gen.InFirst.Frame
public import proofs.«01_k».proof.Proof.Gen.InFirstIdeal.Value
public import proofs.«01_k».proof.Proof.Gen.InFirstReferenceIdeal.Run
public import proofs.«01_k».proof.Proof.InFirstProduct
public import proofs.«01_k».proof.Proof.Gen.OutFirst.Frame
public import proofs.«01_k».proof.Proof.Gen.OutFirstIdeal.Value
public import proofs.«01_k».proof.Proof.Gen.OutFirstReferenceIdeal.Run
public import proofs.«01_k».proof.Proof.OutFirstProduct
public import proofs.«01_k».proof.Proof.Gen.UpWeight.Frame
public import proofs.«01_k».proof.Proof.Gen.UpWeightIdeal.Value
public import proofs.«01_k».proof.Proof.Gen.UpWeightReferenceIdeal.Run
public import proofs.«01_k».proof.Proof.UpWeightProduct
public import proofs.«01_k».proof.Proof.Gen.DownWeight.Frame
public import proofs.«01_k».proof.Proof.Gen.DownWeightIdeal.Frame
public import proofs.«01_k».proof.Proof.Gen.DownWeightReferenceIdeal.Run
public import proofs.«01_k».proof.Proof.DownWeightProduct
public import proofs.«01_k».proof.Proof.Gen.InWeight.Frame
public import proofs.«01_k».proof.Proof.Gen.InWeightIdeal.Frame
public import proofs.«01_k».proof.Proof.Gen.InWeightReferenceIdeal.Run
public import proofs.«01_k».proof.Proof.InWeightProduct
public import proofs.«01_k».proof.Proof.Gen.OutWeight.Frame
public import proofs.«01_k».proof.Proof.Gen.OutWeightIdeal.Frame
public import proofs.«01_k».proof.Proof.Gen.OutWeightReferenceIdeal.Run
public import proofs.«01_k».proof.Proof.OutWeightProduct
public import proofs.«01_k».proof.Proof.Gen.AdaStep.Frame
public import proofs.«01_k».proof.Proof.Gen.AdaStepIdeal.Value
public import proofs.«01_k».proof.Proof.Gen.AdaStepReferenceIdeal.Run
public import proofs.«01_k».proof.Proof.AdaStep
public import proofs.«01_k».proof.Proof.Gen.InStep.Frame
public import proofs.«01_k».proof.Proof.Gen.InStepIdeal.Value
public import proofs.«01_k».proof.Proof.Gen.InStepReferenceIdeal.Run
public import proofs.«01_k».proof.Proof.InStep
public import proofs.«01_k».proof.Proof.Gen.ConvStep.Frame
public import proofs.«01_k».proof.Proof.Gen.ConvStepIdeal.Value
public import proofs.«01_k».proof.Proof.Gen.ConvStepReferenceIdeal.Run
public import proofs.«01_k».proof.Proof.ConvStep
public import proofs.«01_k».proof.Proof.Gen.QueryStep.Frame
public import proofs.«01_k».proof.Proof.Gen.QueryStepIdeal.Value
public import proofs.«01_k».proof.Proof.Gen.QueryStepReferenceIdeal.Run
public import proofs.«01_k».proof.Proof.QueryStep
public import proofs.«01_k».proof.Proof.Gen.KeyStep.Frame
public import proofs.«01_k».proof.Proof.Gen.KeyStepIdeal.Value
public import proofs.«01_k».proof.Proof.Gen.KeyStepReferenceIdeal.Run
public import proofs.«01_k».proof.Proof.KeyStep
public import proofs.«01_k».proof.Proof.Gen.OutStep.Frame
public import proofs.«01_k».proof.Proof.Gen.OutStepIdeal.Value
public import proofs.«01_k».proof.Proof.Gen.OutStepReferenceIdeal.Run
public import proofs.«01_k».proof.Proof.OutStep
public import proofs.«01_k».proof.Proof.Gen.UpStep.Frame
public import proofs.«01_k».proof.Proof.Gen.UpStepIdeal.Value
public import proofs.«01_k».proof.Proof.Gen.UpStepReferenceIdeal.Run
public import proofs.«01_k».proof.Proof.UpStep
public import proofs.«01_k».proof.Proof.Gen.GateStep.Frame
public import proofs.«01_k».proof.Proof.Gen.GateStepIdeal.Value
public import proofs.«01_k».proof.Proof.Gen.GateStepReferenceIdeal.Run
public import proofs.«01_k».proof.Proof.GateStep
public import proofs.«01_k».proof.Proof.Gen.DownStep.Frame
public import proofs.«01_k».proof.Proof.Gen.DownStepIdeal.Value
public import proofs.«01_k».proof.Proof.Gen.DownStepReferenceIdeal.Run
public import proofs.«01_k».proof.Proof.DownStep
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- A run whose results and arguments are known, of a program without counters, is a frame. -/
theorem kept {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val} {R K : PUnit × MemSt nD τ sig Val → Dev nD → Prop}
    (hs : sig.nSem + sig.nDmaSem = 0) (h : θ_run defs p s fun r => ∀ c, R r c ∧ K r c) :
    θ_run defs p s fun r => (∀ c, K r c) ∧ r.2.sem = fun _ => 0 :=
  (θ_run defs p s).mono (fun r h => ⟨fun c => (h c).2, sem_eq_zero_of_no_sems hs r.2⟩) h

/-- The same of a program with three results. -/
theorem kept_three {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val} {R R' R'' K : PUnit × MemSt nD τ sig Val → Dev nD → Prop}
    (hs : sig.nSem + sig.nDmaSem = 0) (h : θ_run defs p s fun r => ∀ c, R r c ∧ R' r c ∧ R'' r c ∧ K r c) :
    θ_run defs p s fun r => (∀ c, K r c) ∧ r.2.sem = fun _ => 0 :=
  (θ_run defs p s).mono (fun r h => ⟨fun c => (h c).2.2.2, sem_eq_zero_of_no_sems hs r.2⟩) h

/-- The reference runs, keeps its arguments and leaves every counter at zero. -/
theorem reference_frame : Cert.quiescent_ReferenceIdeal := fun m g _ =>
  (θ_run Cert.ReferenceIdeal.defs _ _).mono
    (fun r h => ⟨fun c => (h c).2.2.2, sem_eq_zero_of_no_sems (by decide) r.2⟩)
    (Cert.ReferenceIdeal.Value.run (F := Ideal) m g)

/-- From finite arguments the kernel and the reference end with the same three arrays. -/
theorem same_results : Cert.algebraic_KernelIdeal_ReferenceIdeal_pre_finite := by
  intro m g m' g' hpre hagree
  have A : ∀ c, Cert.KernelIdeal.Blocks.Holds m c (Cert.KernelIdeal.Blocks.args m c) :=
    fun c => Cert.KernelIdeal.Blocks.holds_args m c hpre
  refine ⟨fun c => Cert.KernelIdeal.Blocks.arr9 (Cert.KernelIdeal.Blocks.args m c), fun c => Cert.KernelIdeal.Blocks.arr10 (Cert.KernelIdeal.Blocks.args m c),
    fun c => Cert.KernelIdeal.Blocks.arr11 (Cert.KernelIdeal.Blocks.args m c), ?_, ?_⟩
  · refine (θ_run Cert.KernelIdeal.defs _ _).mono (fun r h c => ?_) (Cert.KernelIdeal.Value.run_blocks (F := Ideal) m g)
    obtain ⟨r0, r1, r2, k⟩ := h c
    exact ⟨r0.trans (Cert.KernelIdeal.Blocks.result_9 (A c)), r1.trans (Cert.KernelIdeal.Blocks.result_10 (A c)),
      r2.trans (Cert.KernelIdeal.Blocks.result_11 (A c)), k⟩
  · refine (θ_run Cert.ReferenceIdeal.defs _ _).mono (fun r h c => ?_) (Cert.ReferenceIdeal.Value.run (F := Ideal) m' g')
    obtain ⟨r0, r1, r2, k⟩ := h c
    obtain ⟨e0, e1, e2, e3, e4, e5⟩ := hagree c
    have f0 := e0.trans (A c).h0
    have f1 := e1.trans (A c).h1
    have f2 := e2.trans (A c).h2
    have f3 := e3.trans (A c).h3
    have f4 := e4.trans (A c).h4
    have f5 := e5.trans (A c).h5
    refine ⟨(r0.trans (Cert.ReferenceIdeal.Read.val_main_v120_eq (F := Ideal) (StableHlo.launchContents m' c))).trans ?_,
      (r1.trans (Cert.ReferenceIdeal.Read.val_main_v121_eq (F := Ideal) (StableHlo.launchContents m' c))).trans ?_,
      (r2.trans (Cert.ReferenceIdeal.Read.val_main_v122_eq (F := Ideal) (StableHlo.launchContents m' c))).trans ?_, k⟩
    · exact Cert.ReferenceIdeal.Scores.result0_of f0 f1 f2 f3 f4 f5
    · exact Cert.ReferenceIdeal.Scores.result1_of f0 f1 f2 f3 f4 f5
    · exact Cert.ReferenceIdeal.Scores.result2_of f0 f1 f2 f3 f4 f5

/-- The two named constants are the numbers that their names say. -/
theorem named : Cert.preserves_Kernel_KernelIdeal :=
  ⟨IdealRules.named_const.statement Cert.KernelIdeal.κ "scale" .f32 0x3D93CD3A#32 (((Real.sqrt 192)⁻¹ : ℝ) : EReal) rfl,
    IdealRules.named_const.statement Cert.KernelIdeal.κ "unprescale" .f32 0x4119AC27#32 (((Real.sqrt 192) * (Real.log 2) : ℝ) : EReal) rfl⟩

/-- Every claim of the certificate. -/
theorem claim : Cert.Claim := ⟨Cert.Kernel.Gen.facts, Cert.KernelIdeal.Gen.facts, Cert.ReferenceIdeal.Gen.facts,
  Cert.UpData.Gen.facts, Cert.UpDataIdeal.Gen.facts, Cert.UpDataReferenceIdeal.Gen.facts,
  Cert.DownData.Gen.facts, Cert.DownDataIdeal.Gen.facts, Cert.DownDataReferenceIdeal.Gen.facts,
  Cert.InData.Gen.facts, Cert.InDataIdeal.Gen.facts, Cert.InDataReferenceIdeal.Gen.facts,
  Cert.OutData.Gen.facts, Cert.OutDataIdeal.Gen.facts, Cert.OutDataReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.In.Gen.facts, Cert.InIdeal.Gen.facts, Cert.InReferenceIdeal.Gen.facts,
  Cert.Out.Gen.facts, Cert.OutIdeal.Gen.facts, Cert.OutReferenceIdeal.Gen.facts,
  Cert.UpDataFirst.Gen.facts, Cert.UpDataFirstIdeal.Gen.facts, Cert.UpDataFirstReferenceIdeal.Gen.facts,
  Cert.DownDataFirst.Gen.facts, Cert.DownDataFirstIdeal.Gen.facts, Cert.DownDataFirstReferenceIdeal.Gen.facts,
  Cert.InDataFirst.Gen.facts, Cert.InDataFirstIdeal.Gen.facts, Cert.InDataFirstReferenceIdeal.Gen.facts,
  Cert.OutDataFirst.Gen.facts, Cert.OutDataFirstIdeal.Gen.facts, Cert.OutDataFirstReferenceIdeal.Gen.facts,
  Cert.UpFirst.Gen.facts, Cert.UpFirstIdeal.Gen.facts, Cert.UpFirstReferenceIdeal.Gen.facts,
  Cert.DownFirst.Gen.facts, Cert.DownFirstIdeal.Gen.facts, Cert.DownFirstReferenceIdeal.Gen.facts,
  Cert.InFirst.Gen.facts, Cert.InFirstIdeal.Gen.facts, Cert.InFirstReferenceIdeal.Gen.facts,
  Cert.OutFirst.Gen.facts, Cert.OutFirstIdeal.Gen.facts, Cert.OutFirstReferenceIdeal.Gen.facts,
  Cert.UpWeight.Gen.facts, Cert.UpWeightIdeal.Gen.facts, Cert.UpWeightReferenceIdeal.Gen.facts,
  Cert.DownWeight.Gen.facts, Cert.DownWeightIdeal.Gen.facts, Cert.DownWeightReferenceIdeal.Gen.facts,
  Cert.InWeight.Gen.facts, Cert.InWeightIdeal.Gen.facts, Cert.InWeightReferenceIdeal.Gen.facts,
  Cert.OutWeight.Gen.facts, Cert.OutWeightIdeal.Gen.facts, Cert.OutWeightReferenceIdeal.Gen.facts,
  Cert.AdaStep.Gen.facts, Cert.AdaStepIdeal.Gen.facts, Cert.AdaStepReferenceIdeal.Gen.facts,
  Cert.InStep.Gen.facts, Cert.InStepIdeal.Gen.facts, Cert.InStepReferenceIdeal.Gen.facts,
  Cert.ConvStep.Gen.facts, Cert.ConvStepIdeal.Gen.facts, Cert.ConvStepReferenceIdeal.Gen.facts,
  Cert.QueryStep.Gen.facts, Cert.QueryStepIdeal.Gen.facts, Cert.QueryStepReferenceIdeal.Gen.facts,
  Cert.KeyStep.Gen.facts, Cert.KeyStepIdeal.Gen.facts, Cert.KeyStepReferenceIdeal.Gen.facts,
  Cert.OutStep.Gen.facts, Cert.OutStepIdeal.Gen.facts, Cert.OutStepReferenceIdeal.Gen.facts,
  Cert.UpStep.Gen.facts, Cert.UpStepIdeal.Gen.facts, Cert.UpStepReferenceIdeal.Gen.facts,
  Cert.GateStep.Gen.facts, Cert.GateStepIdeal.Gen.facts, Cert.GateStepReferenceIdeal.Gen.facts,
  Cert.DownStep.Gen.facts, Cert.DownStepIdeal.Gen.facts, Cert.DownStepReferenceIdeal.Gen.facts, Cert.Pre_finite.Gen.facts,
  fun m g _ => Cert.Kernel.Gen.frame m g, fun m g _ => Cert.KernelIdeal.Gen.frame m g, fun m g _ => Cert.KernelIdeal.Gen.frame m g,
  reference_frame, fun m g _ => reference_frame m g trivial,
  fun m g _ => Cert.UpData.Gen.frame m g, fun m g _ => Cert.UpDataIdeal.Gen.frame m g, fun m g _ => kept rfl (Cert.UpDataReferenceIdeal.Value.run m g),
  fun m g _ => Cert.DownData.Gen.frame m g, fun m g _ => Cert.DownDataIdeal.Gen.frame m g, fun m g _ => kept rfl (Cert.DownDataReferenceIdeal.Value.run m g),
  fun m g _ => Cert.InData.Gen.frame m g, fun m g _ => Cert.InDataIdeal.Gen.frame m g, fun m g _ => kept rfl (Cert.InDataReferenceIdeal.Value.run m g),
  fun m g _ => Cert.OutData.Gen.frame m g, fun m g _ => Cert.OutDataIdeal.Gen.frame m g, fun m g _ => kept rfl (Cert.OutDataReferenceIdeal.Value.run m g),
  fun m g _ => Cert.Up.Gen.frame m g, fun m g _ => Cert.UpIdeal.Gen.frame m g, fun m g _ => kept rfl (Cert.UpReferenceIdeal.Value.run m g),
  fun m g _ => Cert.Down.Gen.frame m g, fun m g _ => Cert.DownIdeal.Gen.frame m g, fun m g _ => kept rfl (Cert.DownReferenceIdeal.Value.run m g),
  fun m g _ => Cert.In.Gen.frame m g, fun m g _ => Cert.InIdeal.Gen.frame m g, fun m g _ => kept rfl (Cert.InReferenceIdeal.Value.run m g),
  fun m g _ => Cert.Out.Gen.frame m g, fun m g _ => Cert.OutIdeal.Gen.frame m g, fun m g _ => kept rfl (Cert.OutReferenceIdeal.Value.run m g),
  fun m g _ => Cert.UpDataFirst.Gen.frame m g, fun m g _ => Cert.UpDataFirstIdeal.Gen.frame m g, fun m g _ => kept rfl (Cert.UpDataFirstReferenceIdeal.Value.run m g),
  fun m g _ => Cert.DownDataFirst.Gen.frame m g, fun m g _ => Cert.DownDataFirstIdeal.Gen.frame m g, fun m g _ => kept rfl (Cert.DownDataFirstReferenceIdeal.Value.run m g),
  fun m g _ => Cert.InDataFirst.Gen.frame m g, fun m g _ => Cert.InDataFirstIdeal.Gen.frame m g, fun m g _ => kept rfl (Cert.InDataFirstReferenceIdeal.Value.run m g),
  fun m g _ => Cert.OutDataFirst.Gen.frame m g, fun m g _ => Cert.OutDataFirstIdeal.Gen.frame m g, fun m g _ => kept rfl (Cert.OutDataFirstReferenceIdeal.Value.run m g),
  fun m g _ => Cert.UpFirst.Gen.frame m g, fun m g _ => Cert.UpFirstIdeal.Gen.frame m g, fun m g _ => kept rfl (Cert.UpFirstReferenceIdeal.Value.run m g),
  fun m g _ => Cert.DownFirst.Gen.frame m g, fun m g _ => Cert.DownFirstIdeal.Gen.frame m g, fun m g _ => kept rfl (Cert.DownFirstReferenceIdeal.Value.run m g),
  fun m g _ => Cert.InFirst.Gen.frame m g, fun m g _ => Cert.InFirstIdeal.Gen.frame m g, fun m g _ => kept rfl (Cert.InFirstReferenceIdeal.Value.run m g),
  fun m g _ => Cert.OutFirst.Gen.frame m g, fun m g _ => Cert.OutFirstIdeal.Gen.frame m g, fun m g _ => kept rfl (Cert.OutFirstReferenceIdeal.Value.run m g),
  fun m g _ => Cert.UpWeight.Gen.frame m g, fun m g _ => Cert.UpWeightIdeal.Gen.frame m g, fun m g _ => kept rfl (Cert.UpWeightReferenceIdeal.Value.run m g),
  fun m g _ => Cert.DownWeight.Gen.frame m g, fun m g _ => Cert.DownWeightIdeal.Gen.frame m g, fun m g _ => kept rfl (Cert.DownWeightReferenceIdeal.Value.run m g),
  fun m g _ => Cert.InWeight.Gen.frame m g, fun m g _ => Cert.InWeightIdeal.Gen.frame m g, fun m g _ => kept rfl (Cert.InWeightReferenceIdeal.Value.run m g),
  fun m g _ => Cert.OutWeight.Gen.frame m g, fun m g _ => Cert.OutWeightIdeal.Gen.frame m g, fun m g _ => kept rfl (Cert.OutWeightReferenceIdeal.Value.run m g),
  fun m g _ => Cert.AdaStep.Gen.frame m g, fun m g _ => Cert.AdaStepIdeal.Gen.frame m g, fun m g _ => kept_three rfl (Cert.AdaStepReferenceIdeal.Value.run m g),
  fun m g _ => Cert.InStep.Gen.frame m g, fun m g _ => Cert.InStepIdeal.Gen.frame m g, fun m g _ => kept_three rfl (Cert.InStepReferenceIdeal.Value.run m g),
  fun m g _ => Cert.ConvStep.Gen.frame m g, fun m g _ => Cert.ConvStepIdeal.Gen.frame m g, fun m g _ => kept_three rfl (Cert.ConvStepReferenceIdeal.Value.run m g),
  fun m g _ => Cert.QueryStep.Gen.frame m g, fun m g _ => Cert.QueryStepIdeal.Gen.frame m g, fun m g _ => kept_three rfl (Cert.QueryStepReferenceIdeal.Value.run m g),
  fun m g _ => Cert.KeyStep.Gen.frame m g, fun m g _ => Cert.KeyStepIdeal.Gen.frame m g, fun m g _ => kept_three rfl (Cert.KeyStepReferenceIdeal.Value.run m g),
  fun m g _ => Cert.OutStep.Gen.frame m g, fun m g _ => Cert.OutStepIdeal.Gen.frame m g, fun m g _ => kept_three rfl (Cert.OutStepReferenceIdeal.Value.run m g),
  fun m g _ => Cert.UpStep.Gen.frame m g, fun m g _ => Cert.UpStepIdeal.Gen.frame m g, fun m g _ => kept_three rfl (Cert.UpStepReferenceIdeal.Value.run m g),
  fun m g _ => Cert.GateStep.Gen.frame m g, fun m g _ => Cert.GateStepIdeal.Gen.frame m g, fun m g _ => kept_three rfl (Cert.GateStepReferenceIdeal.Value.run m g),
  fun m g _ => Cert.DownStep.Gen.frame m g, fun m g _ => Cert.DownStepIdeal.Gen.frame m g, fun m g _ => kept_three rfl (Cert.DownStepReferenceIdeal.Value.run m g),
  named, same_results,
  trivial, Cert.UpDataIdeal.Product.same, trivial, Cert.DownDataIdeal.Product.same,
  trivial, Cert.InDataIdeal.Product.same, trivial, Cert.OutDataIdeal.Product.same,
  trivial, Cert.UpIdeal.Product.same, trivial, Cert.DownIdeal.Product.same,
  trivial, Cert.InIdeal.Product.same, trivial, Cert.OutIdeal.Product.same,
  trivial, Cert.UpDataFirstIdeal.Product.same, trivial, Cert.DownDataFirstIdeal.Product.same,
  trivial, Cert.InDataFirstIdeal.Product.same, trivial, Cert.OutDataFirstIdeal.Product.same,
  trivial, Cert.UpFirstIdeal.Product.same, trivial, Cert.DownFirstIdeal.Product.same,
  trivial, Cert.InFirstIdeal.Product.same, trivial, Cert.OutFirstIdeal.Product.same,
  trivial, Cert.UpWeightIdeal.Product.same, trivial, Cert.DownWeightIdeal.Product.same,
  trivial, Cert.InWeightIdeal.Product.same, trivial, Cert.OutWeightIdeal.Product.same,
  Cert.Steps.named Cert.AdaStepIdeal.κ rfl rfl, Cert.AdaStepIdeal.Step.same, Cert.Steps.named Cert.InStepIdeal.κ rfl rfl, Cert.InStepIdeal.Step.same,
  Cert.Steps.named Cert.ConvStepIdeal.κ rfl rfl, Cert.ConvStepIdeal.Step.same, Cert.Steps.named Cert.QueryStepIdeal.κ rfl rfl, Cert.QueryStepIdeal.Step.same,
  Cert.Steps.named Cert.KeyStepIdeal.κ rfl rfl, Cert.KeyStepIdeal.Step.same, Cert.Steps.named Cert.OutStepIdeal.κ rfl rfl, Cert.OutStepIdeal.Step.same,
  Cert.Steps.named Cert.UpStepIdeal.κ rfl rfl, Cert.UpStepIdeal.Step.same, Cert.Steps.named Cert.GateStepIdeal.κ rfl rfl, Cert.GateStepIdeal.Step.same,
  Cert.Steps.named Cert.DownStepIdeal.κ rfl rfl, Cert.DownStepIdeal.Step.same⟩

end Cert.Proof

end
